-- ==== Defs.lean ====
def Pre_Dsa (m : (ℓ : Loc Cert.Dsa.nD Cert.Dsa.τ Cert.Dsa.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Later (m : (ℓ : Loc Cert.Later.nD Cert.Later.τ Cert.Later.sig) → Buf (Elt Bits) ℓ) : Prop :=
  True

def Pre_LaterIdeal (m : (ℓ : Loc Cert.LaterIdeal.nD Cert.LaterIdeal.τ Cert.LaterIdeal.sig) → Buf (Elt Ideal) ℓ) : Prop :=
  True

def Pre_LaterReferenceIdeal (m : (ℓ : Loc Cert.LaterReferenceIdeal.nD Cert.LaterReferenceIdeal.τ Cert.LaterReferenceIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleReferenceIdeal (m : (ℓ : Loc Cert.MergeSampleReferenceIdeal.nD Cert.MergeSampleReferenceIdeal.τ Cert.MergeSampleReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_LaterSample (m : (ℓ : Loc Cert.LaterSample.nD Cert.LaterSample.τ Cert.LaterSample.sig) → Buf (Elt Bits) ℓ) : Prop :=
  True

def Pre_LaterSampleIdeal (m : (ℓ : Loc Cert.LaterSampleIdeal.nD Cert.LaterSampleIdeal.τ Cert.LaterSampleIdeal.sig) → Buf (Elt Ideal) ℓ) : Prop :=
  True

def Pre_LaterSampleReferenceIdeal (m : (ℓ : Loc Cert.LaterSampleReferenceIdeal.nD Cert.LaterSampleReferenceIdeal.τ Cert.LaterSampleReferenceIdeal.sig) → Buf (Elt Ideal) ℓ) : Prop :=
  True

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6)
      ∧ r.2.mem ((c.tc : Thread Cert.Dsa.nD Cert.Dsa.τ).loc Cert.Dsa.main_arg7) = m ((c.tc : Thread Cert.Dsa.nD Cert.Dsa.τ).loc Cert.Dsa.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Later [hLater : Cert.Later.Facts] : Prop :=
  ∀ (m : (ℓ : Loc Cert.Later.nD Cert.Later.τ Cert.Later.sig) → Buf (Elt Bits) ℓ) (g : Dev Cert.Later.nD → PrngReg), Pre_Later m →
    θ_run (Cert.Later.defs (F := Bits)) (onTc (τ := Cert.Later.τ) (Cert.Later.main (F := Bits))) ⟨m, fun _ => 0, g⟩ (fun r => (∀ c : Dev Cert.Later.nD,
      r.2.mem ((c.tc : Thread Cert.Later.nD Cert.Later.τ).loc Cert.Later.main_arg0) = m ((c.tc : Thread Cert.Later.nD Cert.Later.τ).loc Cert.Later.main_arg0)
      ∧ r.2.mem ((c.tc : Thread Cert.Later.nD Cert.Later.τ).loc Cert.Later.main_arg1) = m ((c.tc : Thread Cert.Later.nD Cert.Later.τ).loc Cert.Later.main_arg1)
      ∧ r.2.mem ((c.tc : Thread Cert.Later.nD Cert.Later.τ).loc Cert.Later.main_arg2) = m ((c.tc : Thread Cert.Later.nD Cert.Later.τ).loc Cert.Later.main_arg2))
      ∧ r.2.sem = fun _ => 0)

def quiescent_LaterIdeal [hLaterIdeal : Cert.LaterIdeal.Facts] : Prop :=
  ∀ (m : (ℓ : Loc Cert.LaterIdeal.nD Cert.LaterIdeal.τ Cert.LaterIdeal.sig) → Buf (Elt Ideal) ℓ) (g : Dev Cert.LaterIdeal.nD → PrngReg), Pre_LaterIdeal m →
    θ_run (Cert.LaterIdeal.defs (F := Ideal)) (onTc (τ := Cert.LaterIdeal.τ) (Cert.LaterIdeal.main (F := Ideal))) ⟨m, fun _ => 0, g⟩ (fun r => (∀ c : Dev Cert.LaterIdeal.nD,
      r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
      ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
      ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2))
      ∧ r.2.sem = fun _ => 0)

def quiescent_LaterReferenceIdeal [hLaterReferenceIdeal : Cert.LaterReferenceIdeal.Facts] : Prop :=
  ∀ (m : (ℓ : Loc Cert.LaterReferenceIdeal.nD Cert.LaterReferenceIdeal.τ Cert.LaterReferenceIdeal.sig) → Buf (Elt Ideal) ℓ) (g : Dev Cert.LaterReferenceIdeal.nD → PrngReg), Pre_LaterReferenceIdeal m →
    θ_run (Cert.LaterReferenceIdeal.defs (F := Ideal)) (onTc (τ := Cert.LaterReferenceIdeal.τ) (Cert.LaterReferenceIdeal.main (F := Ideal))) ⟨m, fun _ => 0, g⟩ (fun r => (∀ c : Dev Cert.LaterReferenceIdeal.nD,
      r.2.mem ((c.tc : Thread Cert.LaterReferenceIdeal.nD Cert.LaterReferenceIdeal.τ).loc Cert.LaterReferenceIdeal.main_arg0) = m ((c.tc : Thread Cert.LaterReferenceIdeal.nD Cert.LaterReferenceIdeal.τ).loc Cert.LaterReferenceIdeal.main_arg0)
      ∧ r.2.mem ((c.tc : Thread Cert.LaterReferenceIdeal.nD Cert.LaterReferenceIdeal.τ).loc Cert.LaterReferenceIdeal.main_arg1) = m ((c.tc : Thread Cert.LaterReferenceIdeal.nD Cert.LaterReferenceIdeal.τ).loc Cert.LaterReferenceIdeal.main_arg1)
      ∧ r.2.mem ((c.tc : Thread Cert.LaterReferenceIdeal.nD Cert.LaterReferenceIdeal.τ).loc Cert.LaterReferenceIdeal.main_arg2) = m ((c.tc : Thread Cert.LaterReferenceIdeal.nD Cert.LaterReferenceIdeal.τ).loc Cert.LaterReferenceIdeal.main_arg2))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ r.2.sem = fun _ => 0)

def quiescent_MergeSampleReferenceIdeal [hMergeSampleReferenceIdeal : Cert.MergeSampleReferenceIdeal.Facts] : Prop :=
  ∀ (m : (ℓ : Loc Cert.MergeSampleReferenceIdeal.nD Cert.MergeSampleReferenceIdeal.τ Cert.MergeSampleReferenceIdeal.sig) → Buf (Elt Ideal) ℓ) (g : Dev Cert.MergeSampleReferenceIdeal.nD → PrngReg), Pre_MergeSampleReferenceIdeal m →
    θ_run (Cert.MergeSampleReferenceIdeal.defs (F := Ideal)) (onTc (τ := Cert.MergeSampleReferenceIdeal.τ) (Cert.MergeSampleReferenceIdeal.main (F := Ideal))) ⟨m, fun _ => 0, g⟩ (fun r => (∀ c : Dev Cert.MergeSampleReferenceIdeal.nD,
      r.2.mem ((c.tc : Thread Cert.MergeSampleReferenceIdeal.nD Cert.MergeSampleReferenceIdeal.τ).loc Cert.MergeSampleReferenceIdeal.main_arg0) = m ((c.tc : Thread Cert.MergeSampleReferenceIdeal.nD Cert.MergeSampleReferenceIdeal.τ).loc Cert.MergeSampleReferenceIdeal.main_arg0)
      ∧ r.2.mem ((c.tc : Thread Cert.MergeSampleReferenceIdeal.nD Cert.MergeSampleReferenceIdeal.τ).loc Cert.MergeSampleReferenceIdeal.main_arg1) = m ((c.tc : Thread Cert.MergeSampleReferenceIdeal.nD Cert.MergeSampleReferenceIdeal.τ).loc Cert.MergeSampleReferenceIdeal.main_arg1)
      ∧ r.2.mem ((c.tc : Thread Cert.MergeSampleReferenceIdeal.nD Cert.MergeSampleReferenceIdeal.τ).loc Cert.MergeSampleReferenceIdeal.main_arg2) = m ((c.tc : Thread Cert.MergeSampleReferenceIdeal.nD Cert.MergeSampleReferenceIdeal.τ).loc Cert.MergeSampleReferenceIdeal.main_arg2)
      ∧ r.2.mem ((c.tc : Thread Cert.MergeSampleReferenceIdeal.nD Cert.MergeSampleReferenceIdeal.τ).loc Cert.MergeSampleReferenceIdeal.main_arg3) = m ((c.tc : Thread Cert.MergeSampleReferenceIdeal.nD Cert.MergeSampleReferenceIdeal.τ).loc Cert.MergeSampleReferenceIdeal.main_arg3)
      ∧ r.2.mem ((c.tc : Thread Cert.MergeSampleReferenceIdeal.nD Cert.MergeSampleReferenceIdeal.τ).loc Cert.MergeSampleReferenceIdeal.main_arg4) = m ((c.tc : Thread Cert.MergeSampleReferenceIdeal.nD Cert.MergeSampleReferenceIdeal.τ).loc Cert.MergeSampleReferenceIdeal.main_arg4)
      ∧ r.2.mem ((c.tc : Thread Cert.MergeSampleReferenceIdeal.nD Cert.MergeSampleReferenceIdeal.τ).loc Cert.MergeSampleReferenceIdeal.main_arg5) = m ((c.tc : Thread Cert.MergeSampleReferenceIdeal.nD Cert.MergeSampleReferenceIdeal.τ).loc Cert.MergeSampleReferenceIdeal.main_arg5)
      ∧ r.2.mem ((c.tc : Thread Cert.MergeSampleReferenceIdeal.nD Cert.MergeSampleReferenceIdeal.τ).loc Cert.MergeSampleReferenceIdeal.main_arg6) = m ((c.tc : Thread Cert.MergeSampleReferenceIdeal.nD Cert.MergeSampleReferenceIdeal.τ).loc Cert.MergeSampleReferenceIdeal.main_arg6)
      ∧ r.2.mem ((c.tc : Thread Cert.MergeSampleReferenceIdeal.nD Cert.MergeSampleReferenceIdeal.τ).loc Cert.MergeSampleReferenceIdeal.main_arg7) = m ((c.tc : Thread Cert.MergeSampleReferenceIdeal.nD Cert.MergeSampleReferenceIdeal.τ).loc Cert.MergeSampleReferenceIdeal.main_arg7)
      ∧ r.2.mem ((c.tc : Thread Cert.MergeSampleReferenceIdeal.nD Cert.MergeSampleReferenceIdeal.τ).loc Cert.MergeSampleReferenceIdeal.main_arg8) = m ((c.tc : Thread Cert.MergeSampleReferenceIdeal.nD Cert.MergeSampleReferenceIdeal.τ).loc Cert.MergeSampleReferenceIdeal.main_arg8)
      ∧ r.2.mem ((c.tc : Thread Cert.MergeSampleReferenceIdeal.nD Cert.MergeSampleReferenceIdeal.τ).loc Cert.MergeSampleReferenceIdeal.main_arg9) = m ((c.tc : Thread Cert.MergeSampleReferenceIdeal.nD Cert.MergeSampleReferenceIdeal.τ).loc Cert.MergeSampleReferenceIdeal.main_arg9))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2)
      ∧ r.2.mem ((c.tc : Thread Cert.ProjSampleReferenceIdeal.nD Cert.ProjSampleReferenceIdeal.τ).loc Cert.ProjSampleReferenceIdeal.main_arg3) = m ((c.tc : Thread Cert.ProjSampleReferenceIdeal.nD Cert.ProjSampleReferenceIdeal.τ).loc Cert.ProjSampleReferenceIdeal.main_arg3)
      ∧ r.2.mem ((c.tc : Thread Cert.ProjSampleReferenceIdeal.nD Cert.ProjSampleReferenceIdeal.τ).loc Cert.ProjSampleReferenceIdeal.main_arg4) = m ((c.tc : Thread Cert.ProjSampleReferenceIdeal.nD Cert.ProjSampleReferenceIdeal.τ).loc Cert.ProjSampleReferenceIdeal.main_arg4))
      ∧ r.2.sem = fun _ => 0)

def quiescent_LaterSample [hLaterSample : Cert.LaterSample.Facts] : Prop :=
  ∀ (m : (ℓ : Loc Cert.LaterSample.nD Cert.LaterSample.τ Cert.LaterSample.sig) → Buf (Elt Bits) ℓ) (g : Dev Cert.LaterSample.nD → PrngReg), Pre_LaterSample m →
    θ_run (Cert.LaterSample.defs (F := Bits)) (onTc (τ := Cert.LaterSample.τ) (Cert.LaterSample.main (F := Bits))) ⟨m, fun _ => 0, g⟩ (fun r => (∀ c : Dev Cert.LaterSample.nD,
      r.2.mem ((c.tc : Thread Cert.LaterSample.nD Cert.LaterSample.τ).loc Cert.LaterSample.main_arg0) = m ((c.tc : Thread Cert.LaterSample.nD Cert.LaterSample.τ).loc Cert.LaterSample.main_arg0)
      ∧ r.2.mem ((c.tc : Thread Cert.LaterSample.nD Cert.LaterSample.τ).loc Cert.LaterSample.main_arg1) = m ((c.tc : Thread Cert.LaterSample.nD Cert.LaterSample.τ).loc Cert.LaterSample.main_arg1)
      ∧ r.2.mem ((c.tc : Thread Cert.LaterSample.nD Cert.LaterSample.τ).loc Cert.LaterSample.main_arg2) = m ((c.tc : Thread Cert.LaterSample.nD Cert.LaterSample.τ).loc Cert.LaterSample.main_arg2))
      ∧ r.2.sem = fun _ => 0)

def quiescent_LaterSampleIdeal [hLaterSampleIdeal : Cert.LaterSampleIdeal.Facts] : Prop :=
  ∀ (m : (ℓ : Loc Cert.LaterSampleIdeal.nD Cert.LaterSampleIdeal.τ Cert.LaterSampleIdeal.sig) → Buf (Elt Ideal) ℓ) (g : Dev Cert.LaterSampleIdeal.nD → PrngReg), Pre_LaterSampleIdeal m →
    θ_run (Cert.LaterSampleIdeal.defs (F := Ideal)) (onTc (τ := Cert.LaterSampleIdeal.τ) (Cert.LaterSampleIdeal.main (F := Ideal))) ⟨m, fun _ => 0, g⟩ (fun r => (∀ c : Dev Cert.LaterSampleIdeal.nD,
      r.2.mem ((c.tc : Thread Cert.LaterSampleIdeal.nD Cert.LaterSampleIdeal.τ).loc Cert.LaterSampleIdeal.main_arg0) = m ((c.tc : Thread Cert.LaterSampleIdeal.nD Cert.LaterSampleIdeal.τ).loc Cert.LaterSampleIdeal.main_arg0)
      ∧ r.2.mem ((c.tc : Thread Cert.LaterSampleIdeal.nD Cert.LaterSampleIdeal.τ).loc Cert.LaterSampleIdeal.main_arg1) = m ((c.tc : Thread Cert.LaterSampleIdeal.nD Cert.LaterSampleIdeal.τ).loc Cert.LaterSampleIdeal.main_arg1)
      ∧ r.2.mem ((c.tc : Thread Cert.LaterSampleIdeal.nD Cert.LaterSampleIdeal.τ).loc Cert.LaterSampleIdeal.main_arg2) = m ((c.tc : Thread Cert.LaterSampleIdeal.nD Cert.LaterSampleIdeal.τ).loc Cert.LaterSampleIdeal.main_arg2))
      ∧ r.2.sem = fun _ => 0)

def quiescent_LaterSampleReferenceIdeal [hLaterSampleReferenceIdeal : Cert.LaterSampleReferenceIdeal.Facts] : Prop :=
  ∀ (m : (ℓ : Loc Cert.LaterSampleReferenceIdeal.nD Cert.LaterSampleReferenceIdeal.τ Cert.LaterSampleReferenceIdeal.sig) → Buf (Elt Ideal) ℓ) (g : Dev Cert.LaterSampleReferenceIdeal.nD → PrngReg), Pre_LaterSampleReferenceIdeal m →
    θ_run (Cert.LaterSampleReferenceIdeal.defs (F := Ideal)) (onTc (τ := Cert.LaterSampleReferenceIdeal.τ) (Cert.LaterSampleReferenceIdeal.main (F := Ideal))) ⟨m, fun _ => 0, g⟩ (fun r => (∀ c : Dev Cert.LaterSampleReferenceIdeal.nD,
      r.2.mem ((c.tc : Thread Cert.LaterSampleReferenceIdeal.nD Cert.LaterSampleReferenceIdeal.τ).loc Cert.LaterSampleReferenceIdeal.main_arg0) = m ((c.tc : Thread Cert.LaterSampleReferenceIdeal.nD Cert.LaterSampleReferenceIdeal.τ).loc Cert.LaterSampleReferenceIdeal.main_arg0)
      ∧ r.2.mem ((c.tc : Thread Cert.LaterSampleReferenceIdeal.nD Cert.LaterSampleReferenceIdeal.τ).loc Cert.LaterSampleReferenceIdeal.main_arg1) = m ((c.tc : Thread Cert.LaterSampleReferenceIdeal.nD Cert.LaterSampleReferenceIdeal.τ).loc Cert.LaterSampleReferenceIdeal.main_arg1)
      ∧ r.2.mem ((c.tc : Thread Cert.LaterSampleReferenceIdeal.nD Cert.LaterSampleReferenceIdeal.τ).loc Cert.LaterSampleReferenceIdeal.main_arg2) = m ((c.tc : Thread Cert.LaterSampleReferenceIdeal.nD Cert.LaterSampleReferenceIdeal.τ).loc Cert.LaterSampleReferenceIdeal.main_arg2))
      ∧ r.2.sem = fun _ => 0)

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v53)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v53) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v65) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v51_0)) (v1 : (c : Dev Cert.ProjIdeal.nD) → Buf (Elt Ideal) ((c.tc : Thread Cert.ProjIdeal.nD Cert.ProjIdeal.τ).loc Cert.ProjIdeal.main_v51_1)) (v2 : (c : Dev Cert.ProjIdeal.nD) → Buf (Elt Ideal) ((c.tc : Thread Cert.ProjIdeal.nD Cert.ProjIdeal.τ).loc Cert.ProjIdeal.main_v51_2)) (v3 : (c : Dev Cert.ProjIdeal.nD) → Buf (Elt Ideal) ((c.tc : Thread Cert.ProjIdeal.nD Cert.ProjIdeal.τ).loc Cert.ProjIdeal.main_v51_3)) (v4 : (c : Dev Cert.ProjIdeal.nD) → Buf (Elt Ideal) ((c.tc : Thread Cert.ProjIdeal.nD Cert.ProjIdeal.τ).loc Cert.ProjIdeal.main_v51_4)) (v5 : (c : Dev Cert.ProjIdeal.nD) → Buf (Elt Ideal) ((c.tc : Thread Cert.ProjIdeal.nD Cert.ProjIdeal.τ).loc Cert.ProjIdeal.main_v51_5)) (v6 : (c : Dev Cert.ProjIdeal.nD) → Buf (Elt Ideal) ((c.tc : Thread Cert.ProjIdeal.nD Cert.ProjIdeal.τ).loc Cert.ProjIdeal.main_v51_6)) (v7 : (c : Dev Cert.ProjIdeal.nD) → Buf (Elt Ideal) ((c.tc : Thread Cert.ProjIdeal.nD Cert.ProjIdeal.τ).loc Cert.ProjIdeal.main_v51_7)) (v8 : (c : Dev Cert.ProjIdeal.nD) → Buf (Elt Ideal) ((c.tc : Thread Cert.ProjIdeal.nD Cert.ProjIdeal.τ).loc Cert.ProjIdeal.main_v51_8)) (v9 : (c : Dev Cert.ProjIdeal.nD) → Buf (Elt Ideal) ((c.tc : Thread Cert.ProjIdeal.nD Cert.ProjIdeal.τ).loc Cert.ProjIdeal.main_v51_9)) (v10 : (c : Dev Cert.ProjIdeal.nD) → Buf (Elt Ideal) ((c.tc : Thread Cert.ProjIdeal.nD Cert.ProjIdeal.τ).loc Cert.ProjIdeal.main_v51_10)) (v11 : (c : Dev Cert.ProjIdeal.nD) → Buf (Elt Ideal) ((c.tc : Thread Cert.ProjIdeal.nD Cert.ProjIdeal.τ).loc Cert.ProjIdeal.main_v51_11)) (v12 : (c : Dev Cert.ProjIdeal.nD) → Buf (Elt Ideal) ((c.tc : Thread Cert.ProjIdeal.nD Cert.ProjIdeal.τ).loc Cert.ProjIdeal.main_v51_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v51_0) = v0 c
          ∧ r.2.mem ((c.tc : Thread Cert.ProjIdeal.nD Cert.ProjIdeal.τ).loc Cert.ProjIdeal.main_v51_1) = v1 c
          ∧ r.2.mem ((c.tc : Thread Cert.ProjIdeal.nD Cert.ProjIdeal.τ).loc Cert.ProjIdeal.main_v51_2) = v2 c
          ∧ r.2.mem ((c.tc : Thread Cert.ProjIdeal.nD Cert.ProjIdeal.τ).loc Cert.ProjIdeal.main_v51_3) = v3 c
          ∧ r.2.mem ((c.tc : Thread Cert.ProjIdeal.nD Cert.ProjIdeal.τ).loc Cert.ProjIdeal.main_v51_4) = v4 c
          ∧ r.2.mem ((c.tc : Thread Cert.ProjIdeal.nD Cert.ProjIdeal.τ).loc Cert.ProjIdeal.main_v51_5) = v5 c
          ∧ r.2.mem ((c.tc : Thread Cert.ProjIdeal.nD Cert.ProjIdeal.τ).loc Cert.ProjIdeal.main_v51_6) = v6 c
          ∧ r.2.mem ((c.tc : Thread Cert.ProjIdeal.nD Cert.ProjIdeal.τ).loc Cert.ProjIdeal.main_v51_7) = v7 c
          ∧ r.2.mem ((c.tc : Thread Cert.ProjIdeal.nD Cert.ProjIdeal.τ).loc Cert.ProjIdeal.main_v51_8) = v8 c
          ∧ r.2.mem ((c.tc : Thread Cert.ProjIdeal.nD Cert.ProjIdeal.τ).loc Cert.ProjIdeal.main_v51_9) = v9 c
          ∧ r.2.mem ((c.tc : Thread Cert.ProjIdeal.nD Cert.ProjIdeal.τ).loc Cert.ProjIdeal.main_v51_10) = v10 c
          ∧ r.2.mem ((c.tc : Thread Cert.ProjIdeal.nD Cert.ProjIdeal.τ).loc Cert.ProjIdeal.main_v51_11) = v11 c
          ∧ r.2.mem ((c.tc : Thread Cert.ProjIdeal.nD Cert.ProjIdeal.τ).loc Cert.ProjIdeal.main_v51_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v44) = v0 c
          ∧ r.2.mem ((c.tc : Thread Cert.ProjReferenceIdeal.nD Cert.ProjReferenceIdeal.τ).loc Cert.ProjReferenceIdeal.main_v47) = v1 c
          ∧ r.2.mem ((c.tc : Thread Cert.ProjReferenceIdeal.nD Cert.ProjReferenceIdeal.τ).loc Cert.ProjReferenceIdeal.main_v48) = v2 c
          ∧ r.2.mem ((c.tc : Thread Cert.ProjReferenceIdeal.nD Cert.ProjReferenceIdeal.τ).loc Cert.ProjReferenceIdeal.main_v50) = v3 c
          ∧ r.2.mem ((c.tc : Thread Cert.ProjReferenceIdeal.nD Cert.ProjReferenceIdeal.τ).loc Cert.ProjReferenceIdeal.main_v52) = v4 c
          ∧ r.2.mem ((c.tc : Thread Cert.ProjReferenceIdeal.nD Cert.ProjReferenceIdeal.τ).loc Cert.ProjReferenceIdeal.main_v54) = v5 c
          ∧ r.2.mem ((c.tc : Thread Cert.ProjReferenceIdeal.nD Cert.ProjReferenceIdeal.τ).loc Cert.ProjReferenceIdeal.main_v55) = v6 c
          ∧ r.2.mem ((c.tc : Thread Cert.ProjReferenceIdeal.nD Cert.ProjReferenceIdeal.τ).loc Cert.ProjReferenceIdeal.main_v30) = v7 c
          ∧ r.2.mem ((c.tc : Thread Cert.ProjReferenceIdeal.nD Cert.ProjReferenceIdeal.τ).loc Cert.ProjReferenceIdeal.main_v31) = v8 c
          ∧ r.2.mem ((c.tc : Thread Cert.ProjReferenceIdeal.nD Cert.ProjReferenceIdeal.τ).loc Cert.ProjReferenceIdeal.main_v34) = v9 c
          ∧ r.2.mem ((c.tc : Thread Cert.ProjReferenceIdeal.nD Cert.ProjReferenceIdeal.τ).loc Cert.ProjReferenceIdeal.main_v35) = v10 c
          ∧ r.2.mem ((c.tc : Thread Cert.ProjReferenceIdeal.nD Cert.ProjReferenceIdeal.τ).loc Cert.ProjReferenceIdeal.main_v38) = v11 c
          ∧ r.2.mem ((c.tc : Thread Cert.ProjReferenceIdeal.nD Cert.ProjReferenceIdeal.τ).loc Cert.ProjReferenceIdeal.main_v24) = v12 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Later_LaterIdeal : Prop :=
  True

def algebraic_LaterIdeal_LaterReferenceIdeal [hLaterIdeal : Cert.LaterIdeal.Facts] [hLaterReferenceIdeal : Cert.LaterReferenceIdeal.Facts] : Prop :=
  ∀ (m : (ℓ : Loc Cert.LaterIdeal.nD Cert.LaterIdeal.τ Cert.LaterIdeal.sig) → Buf (Elt Ideal) ℓ) (g : Dev Cert.LaterIdeal.nD → PrngReg)
    (m' : (ℓ : Loc Cert.LaterReferenceIdeal.nD Cert.LaterReferenceIdeal.τ Cert.LaterReferenceIdeal.sig) → Buf (Elt Ideal) ℓ) (g' : Dev Cert.LaterReferenceIdeal.nD → PrngReg), Pre_LaterIdeal m →
    (∀ c : Dev Cert.LaterIdeal.nD,
      m' ((c.tc : Thread Cert.LaterReferenceIdeal.nD Cert.LaterReferenceIdeal.τ).loc Cert.LaterReferenceIdeal.main_arg0) = m ((c.tc : Thread Cert.LaterIdeal.nD Cert.LaterIdeal.τ).loc Cert.LaterIdeal.main_arg0)
      ∧ m' ((c.tc : Thread Cert.LaterReferenceIdeal.nD Cert.LaterReferenceIdeal.τ).loc Cert.LaterReferenceIdeal.main_arg1) = m ((c.tc : Thread Cert.LaterIdeal.nD Cert.LaterIdeal.τ).loc Cert.LaterIdeal.main_arg1)
      ∧ m' ((c.tc : Thread Cert.LaterReferenceIdeal.nD Cert.LaterReferenceIdeal.τ).loc Cert.LaterReferenceIdeal.main_arg2) = m ((c.tc : Thread Cert.LaterIdeal.nD Cert.LaterIdeal.τ).loc Cert.LaterIdeal.main_arg2)) →
    ∃ (v0 : (c : Dev Cert.LaterIdeal.nD) → Buf (Elt Ideal) ((c.tc : Thread Cert.LaterIdeal.nD Cert.LaterIdeal.τ).loc Cert.LaterIdeal.main_v48_0)) (v1 : (c : Dev Cert.LaterIdeal.nD) → Buf (Elt Ideal) ((c.tc : Thread Cert.LaterIdeal.nD Cert.LaterIdeal.τ).loc Cert.LaterIdeal.main_v48_1)) (v2 : (c : Dev Cert.LaterIdeal.nD) → Buf (Elt Ideal) ((c.tc : Thread Cert.LaterIdeal.nD Cert.LaterIdeal.τ).loc Cert.LaterIdeal.main_v48_2)) (v3 : (c : Dev Cert.LaterIdeal.nD) → Buf (Elt Ideal) ((c.tc : Thread Cert.LaterIdeal.nD Cert.LaterIdeal.τ).loc Cert.LaterIdeal.main_v48_3)) (v4 : (c : Dev Cert.LaterIdeal.nD) → Buf (Elt Ideal) ((c.tc : Thread Cert.LaterIdeal.nD Cert.LaterIdeal.τ).loc Cert.LaterIdeal.main_v48_4)) (v5 : (c : Dev Cert.LaterIdeal.nD) → Buf (Elt Ideal) ((c.tc : Thread Cert.LaterIdeal.nD Cert.LaterIdeal.τ).loc Cert.LaterIdeal.main_v48_5)) (v6 : (c : Dev Cert.LaterIdeal.nD) → Buf (Elt Ideal) ((c.tc : Thread Cert.LaterIdeal.nD Cert.LaterIdeal.τ).loc Cert.LaterIdeal.main_v48_6)) (v7 : (c : Dev Cert.LaterIdeal.nD) → Buf (Elt Ideal) ((c.tc : Thread Cert.LaterIdeal.nD Cert.LaterIdeal.τ).loc Cert.LaterIdeal.main_v48_7)) (v8 : (c : Dev Cert.LaterIdeal.nD) → Buf (Elt Ideal) ((c.tc : Thread Cert.LaterIdeal.nD Cert.LaterIdeal.τ).loc Cert.LaterIdeal.main_v48_8)) (v9 : (c : Dev Cert.LaterIdeal.nD) → Buf (Elt Ideal) ((c.tc : Thread Cert.LaterIdeal.nD Cert.LaterIdeal.τ).loc Cert.LaterIdeal.main_v48_9)) (v10 : (c : Dev Cert.LaterIdeal.nD) → Buf (Elt Ideal) ((c.tc : Thread Cert.LaterIdeal.nD Cert.LaterIdeal.τ).loc Cert.LaterIdeal.main_v48_10)) (v11 : (c : Dev Cert.LaterIdeal.nD) → Buf (Elt Ideal) ((c.tc : Thread Cert.LaterIdeal.nD Cert.LaterIdeal.τ).loc Cert.LaterIdeal.main_v48_11)),
      θ_run (Cert.LaterIdeal.defs (F := Ideal)) (onTc (τ := Cert.LaterIdeal.τ) (Cert.LaterIdeal.main (F := Ideal))) ⟨m, fun _ => 0, g⟩ (fun r => ∀ c : Dev Cert.LaterIdeal.nD,
          r.2.mem ((c.tc : Thread Cert.LaterIdeal.nD Cert.LaterIdeal.τ).loc Cert.LaterIdeal.main_v48_0) = v0 c
          ∧ r.2.mem ((c.tc : Thread Cert.LaterIdeal.nD Cert.LaterIdeal.τ).loc Cert.LaterIdeal.main_v48_1) = v1 c
          ∧ r.2.mem ((c.tc : Thread Cert.LaterIdeal.nD Cert.LaterIdeal.τ).loc Cert.LaterIdeal.main_v48_2) = v2 c
          ∧ r.2.mem ((c.tc : Thread Cert.LaterIdeal.nD Cert.LaterIdeal.τ).loc Cert.LaterIdeal.main_v48_3) = v3 c
          ∧ r.2.mem ((c.tc : Thread Cert.LaterIdeal.nD Cert.LaterIdeal.τ).loc Cert.LaterIdeal.main_v48_4) = v4 c
          ∧ r.2.mem ((c.tc : Thread Cert.LaterIdeal.nD Cert.LaterIdeal.τ).loc Cert.LaterIdeal.main_v48_5) = v5 c
          ∧ r.2.mem ((c.tc : Thread Cert.LaterIdeal.nD Cert.LaterIdeal.τ).loc Cert.LaterIdeal.main_v48_6) = v6 c
          ∧ r.2.mem ((c.tc : Thread Cert.LaterIdeal.nD Cert.LaterIdeal.τ).loc Cert.LaterIdeal.main_v48_7) = v7 c
          ∧ r.2.mem ((c.tc : Thread Cert.LaterIdeal.nD Cert.LaterIdeal.τ).loc Cert.LaterIdeal.main_v48_8) = v8 c
          ∧ r.2.mem ((c.tc : Thread Cert.LaterIdeal.nD Cert.LaterIdeal.τ).loc Cert.LaterIdeal.main_v48_9) = v9 c
          ∧ r.2.mem ((c.tc : Thread Cert.LaterIdeal.nD Cert.LaterIdeal.τ).loc Cert.LaterIdeal.main_v48_10) = v10 c
          ∧ r.2.mem ((c.tc : Thread Cert.LaterIdeal.nD Cert.LaterIdeal.τ).loc Cert.LaterIdeal.main_v48_11) = v11 c
          ∧ r.2.mem ((c.tc : Thread Cert.LaterIdeal.nD Cert.LaterIdeal.τ).loc Cert.LaterIdeal.main_arg0) = m ((c.tc : Thread Cert.LaterIdeal.nD Cert.LaterIdeal.τ).loc Cert.LaterIdeal.main_arg0)
          ∧ r.2.mem ((c.tc : Thread Cert.LaterIdeal.nD Cert.LaterIdeal.τ).loc Cert.LaterIdeal.main_arg1) = m ((c.tc : Thread Cert.LaterIdeal.nD Cert.LaterIdeal.τ).loc Cert.LaterIdeal.main_arg1)
          ∧ r.2.mem ((c.tc : Thread Cert.LaterIdeal.nD Cert.LaterIdeal.τ).loc Cert.LaterIdeal.main_arg2) = m ((c.tc : Thread Cert.LaterIdeal.nD Cert.LaterIdeal.τ).loc Cert.LaterIdeal.main_arg2))
      ∧ θ_run (Cert.LaterReferenceIdeal.defs (F := Ideal)) (onTc (τ := Cert.LaterReferenceIdeal.τ) (Cert.LaterReferenceIdeal.main (F := Ideal))) ⟨m', fun _ => 0, g'⟩ (fun r => ∀ c : Dev Cert.LaterReferenceIdeal.nD,
          r.2.mem ((c.tc : Thread Cert.LaterReferenceIdeal.nD Cert.LaterReferenceIdeal.τ).loc Cert.LaterReferenceIdeal.main_v19) = v0 c
          ∧ r.2.mem ((c.tc : Thread Cert.LaterReferenceIdeal.nD Cert.LaterReferenceIdeal.τ).loc Cert.LaterReferenceIdeal.main_v22) = v1 c
          ∧ r.2.mem ((c.tc : Thread Cert.LaterReferenceIdeal.nD Cert.LaterReferenceIdeal.τ).loc Cert.LaterReferenceIdeal.main_v23) = v2 c
          ∧ r.2.mem ((c.tc : Thread Cert.LaterReferenceIdeal.nD Cert.LaterReferenceIdeal.τ).loc Cert.LaterReferenceIdeal.main_v25) = v3 c
          ∧ r.2.mem ((c.tc : Thread Cert.LaterReferenceIdeal.nD Cert.LaterReferenceIdeal.τ).loc Cert.LaterReferenceIdeal.main_v27) = v4 c
          ∧ r.2.mem ((c.tc : Thread Cert.LaterReferenceIdeal.nD Cert.LaterReferenceIdeal.τ).loc Cert.LaterReferenceIdeal.main_v29) = v5 c
          ∧ r.2.mem ((c.tc : Thread Cert.LaterReferenceIdeal.nD Cert.LaterReferenceIdeal.τ).loc Cert.LaterReferenceIdeal.main_v30) = v6 c
          ∧ r.2.mem ((c.tc : Thread Cert.LaterReferenceIdeal.nD Cert.LaterReferenceIdeal.τ).loc Cert.LaterReferenceIdeal.main_v5) = v7 c
          ∧ r.2.mem ((c.tc : Thread Cert.LaterReferenceIdeal.nD Cert.LaterReferenceIdeal.τ).loc Cert.LaterReferenceIdeal.main_v6) = v8 c
          ∧ r.2.mem ((c.tc : Thread Cert.LaterReferenceIdeal.nD Cert.LaterReferenceIdeal.τ).loc Cert.LaterReferenceIdeal.main_v9) = v9 c
          ∧ r.2.mem ((c.tc : Thread Cert.LaterReferenceIdeal.nD Cert.LaterReferenceIdeal.τ).loc Cert.LaterReferenceIdeal.main_v10) = v10 c
          ∧ r.2.mem ((c.tc : Thread Cert.LaterReferenceIdeal.nD Cert.LaterReferenceIdeal.τ).loc Cert.LaterReferenceIdeal.main_v13) = v11 c
          ∧ r.2.mem ((c.tc : Thread Cert.LaterReferenceIdeal.nD Cert.LaterReferenceIdeal.τ).loc Cert.LaterReferenceIdeal.main_arg0) = m' ((c.tc : Thread Cert.LaterReferenceIdeal.nD Cert.LaterReferenceIdeal.τ).loc Cert.LaterReferenceIdeal.main_arg0)
          ∧ r.2.mem ((c.tc : Thread Cert.LaterReferenceIdeal.nD Cert.LaterReferenceIdeal.τ).loc Cert.LaterReferenceIdeal.main_arg1) = m' ((c.tc : Thread Cert.LaterReferenceIdeal.nD Cert.LaterReferenceIdeal.τ).loc Cert.LaterReferenceIdeal.main_arg1)
          ∧ r.2.mem ((c.tc : Thread Cert.LaterReferenceIdeal.nD Cert.LaterReferenceIdeal.τ).loc Cert.LaterReferenceIdeal.main_arg2) = m' ((c.tc : Thread Cert.LaterReferenceIdeal.nD Cert.LaterReferenceIdeal.τ).loc Cert.LaterReferenceIdeal.main_arg2))

def preserves_MergeSample_MergeSampleIdeal : Prop :=
  True

def algebraic_MergeSampleIdeal_MergeSampleReferenceIdeal [hMergeSampleIdeal : Cert.MergeSampleIdeal.Facts] [hMergeSampleReferenceIdeal : Cert.MergeSampleReferenceIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleReferenceIdeal.nD Cert.MergeSampleReferenceIdeal.τ Cert.MergeSampleReferenceIdeal.sig) → Buf (Elt Ideal) ℓ) (g' : Dev Cert.MergeSampleReferenceIdeal.nD → PrngReg), Pre_MergeSampleIdeal m →
    (∀ c : Dev Cert.MergeSampleIdeal.nD,
      m' ((c.tc : Thread Cert.MergeSampleReferenceIdeal.nD Cert.MergeSampleReferenceIdeal.τ).loc Cert.MergeSampleReferenceIdeal.main_arg0) = m ((c.tc : Thread Cert.MergeSampleIdeal.nD Cert.MergeSampleIdeal.τ).loc Cert.MergeSampleIdeal.main_arg0)
      ∧ m' ((c.tc : Thread Cert.MergeSampleReferenceIdeal.nD Cert.MergeSampleReferenceIdeal.τ).loc Cert.MergeSampleReferenceIdeal.main_arg1) = m ((c.tc : Thread Cert.MergeSampleIdeal.nD Cert.MergeSampleIdeal.τ).loc Cert.MergeSampleIdeal.main_arg1)
      ∧ m' ((c.tc : Thread Cert.MergeSampleReferenceIdeal.nD Cert.MergeSampleReferenceIdeal.τ).loc Cert.MergeSampleReferenceIdeal.main_arg2) = m ((c.tc : Thread Cert.MergeSampleIdeal.nD Cert.MergeSampleIdeal.τ).loc Cert.MergeSampleIdeal.main_arg2)
      ∧ m' ((c.tc : Thread Cert.MergeSampleReferenceIdeal.nD Cert.MergeSampleReferenceIdeal.τ).loc Cert.MergeSampleReferenceIdeal.main_arg3) = m ((c.tc : Thread Cert.MergeSampleIdeal.nD Cert.MergeSampleIdeal.τ).loc Cert.MergeSampleIdeal.main_arg3)
      ∧ m' ((c.tc : Thread Cert.MergeSampleReferenceIdeal.nD Cert.MergeSampleReferenceIdeal.τ).loc Cert.MergeSampleReferenceIdeal.main_arg4) = m ((c.tc : Thread Cert.MergeSampleIdeal.nD Cert.MergeSampleIdeal.τ).loc Cert.MergeSampleIdeal.main_arg4)
      ∧ m' ((c.tc : Thread Cert.MergeSampleReferenceIdeal.nD Cert.MergeSampleReferenceIdeal.τ).loc Cert.MergeSampleReferenceIdeal.main_arg5) = m ((c.tc : Thread Cert.MergeSampleIdeal.nD Cert.MergeSampleIdeal.τ).loc Cert.MergeSampleIdeal.main_arg5)
      ∧ m' ((c.tc : Thread Cert.MergeSampleReferenceIdeal.nD Cert.MergeSampleReferenceIdeal.τ).loc Cert.MergeSampleReferenceIdeal.main_arg6) = m ((c.tc : Thread Cert.MergeSampleIdeal.nD Cert.MergeSampleIdeal.τ).loc Cert.MergeSampleIdeal.main_arg6)
      ∧ m' ((c.tc : Thread Cert.MergeSampleReferenceIdeal.nD Cert.MergeSampleReferenceIdeal.τ).loc Cert.MergeSampleReferenceIdeal.main_arg7) = m ((c.tc : Thread Cert.MergeSampleIdeal.nD Cert.MergeSampleIdeal.τ).loc Cert.MergeSampleIdeal.main_arg7)
      ∧ m' ((c.tc : Thread Cert.MergeSampleReferenceIdeal.nD Cert.MergeSampleReferenceIdeal.τ).loc Cert.MergeSampleReferenceIdeal.main_arg8) = m ((c.tc : Thread Cert.MergeSampleIdeal.nD Cert.MergeSampleIdeal.τ).loc Cert.MergeSampleIdeal.main_arg8)
      ∧ m' ((c.tc : Thread Cert.MergeSampleReferenceIdeal.nD Cert.MergeSampleReferenceIdeal.τ).loc Cert.MergeSampleReferenceIdeal.main_arg9) = m ((c.tc : Thread Cert.MergeSampleIdeal.nD Cert.MergeSampleIdeal.τ).loc Cert.MergeSampleIdeal.main_arg9)) →
    ∃ (v0 : (c : Dev Cert.MergeSampleIdeal.nD) → Buf (Elt Ideal) ((c.tc : Thread Cert.MergeSampleIdeal.nD Cert.MergeSampleIdeal.τ).loc Cert.MergeSampleIdeal.main_v53)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v53) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ θ_run (Cert.MergeSampleReferenceIdeal.defs (F := Ideal)) (onTc (τ := Cert.MergeSampleReferenceIdeal.τ) (Cert.MergeSampleReferenceIdeal.main (F := Ideal))) ⟨m', fun _ => 0, g'⟩ (fun r => ∀ c : Dev Cert.MergeSampleReferenceIdeal.nD,
          r.2.mem ((c.tc : Thread Cert.MergeSampleReferenceIdeal.nD Cert.MergeSampleReferenceIdeal.τ).loc Cert.MergeSampleReferenceIdeal.main_v65) = v0 c
          ∧ r.2.mem ((c.tc : Thread Cert.MergeSampleReferenceIdeal.nD Cert.MergeSampleReferenceIdeal.τ).loc Cert.MergeSampleReferenceIdeal.main_arg0) = m' ((c.tc : Thread Cert.MergeSampleReferenceIdeal.nD Cert.MergeSampleReferenceIdeal.τ).loc Cert.MergeSampleReferenceIdeal.main_arg0)
          ∧ r.2.mem ((c.tc : Thread Cert.MergeSampleReferenceIdeal.nD Cert.MergeSampleReferenceIdeal.τ).loc Cert.MergeSampleReferenceIdeal.main_arg1) = m' ((c.tc : Thread Cert.MergeSampleReferenceIdeal.nD Cert.MergeSampleReferenceIdeal.τ).loc Cert.MergeSampleReferenceIdeal.main_arg1)
          ∧ r.2.mem ((c.tc : Thread Cert.MergeSampleReferenceIdeal.nD Cert.MergeSampleReferenceIdeal.τ).loc Cert.MergeSampleReferenceIdeal.main_arg2) = m' ((c.tc : Thread Cert.MergeSampleReferenceIdeal.nD Cert.MergeSampleReferenceIdeal.τ).loc Cert.MergeSampleReferenceIdeal.main_arg2)
          ∧ r.2.mem ((c.tc : Thread Cert.MergeSampleReferenceIdeal.nD Cert.MergeSampleReferenceIdeal.τ).loc Cert.MergeSampleReferenceIdeal.main_arg3) = m' ((c.tc : Thread Cert.MergeSampleReferenceIdeal.nD Cert.MergeSampleReferenceIdeal.τ).loc Cert.MergeSampleReferenceIdeal.main_arg3)
          ∧ r.2.mem ((c.tc : Thread Cert.MergeSampleReferenceIdeal.nD Cert.MergeSampleReferenceIdeal.τ).loc Cert.MergeSampleReferenceIdeal.main_arg4) = m' ((c.tc : Thread Cert.MergeSampleReferenceIdeal.nD Cert.MergeSampleReferenceIdeal.τ).loc Cert.MergeSampleReferenceIdeal.main_arg4)
          ∧ r.2.mem ((c.tc : Thread Cert.MergeSampleReferenceIdeal.nD Cert.MergeSampleReferenceIdeal.τ).loc Cert.MergeSampleReferenceIdeal.main_arg5) = m' ((c.tc : Thread Cert.MergeSampleReferenceIdeal.nD Cert.MergeSampleReferenceIdeal.τ).loc Cert.MergeSampleReferenceIdeal.main_arg5)
          ∧ r.2.mem ((c.tc : Thread Cert.MergeSampleReferenceIdeal.nD Cert.MergeSampleReferenceIdeal.τ).loc Cert.MergeSampleReferenceIdeal.main_arg6) = m' ((c.tc : Thread Cert.MergeSampleReferenceIdeal.nD Cert.MergeSampleReferenceIdeal.τ).loc Cert.MergeSampleReferenceIdeal.main_arg6)
          ∧ r.2.mem ((c.tc : Thread Cert.MergeSampleReferenceIdeal.nD Cert.MergeSampleReferenceIdeal.τ).loc Cert.MergeSampleReferenceIdeal.main_arg7) = m' ((c.tc : Thread Cert.MergeSampleReferenceIdeal.nD Cert.MergeSampleReferenceIdeal.τ).loc Cert.MergeSampleReferenceIdeal.main_arg7)
          ∧ r.2.mem ((c.tc : Thread Cert.MergeSampleReferenceIdeal.nD Cert.MergeSampleReferenceIdeal.τ).loc Cert.MergeSampleReferenceIdeal.main_arg8) = m' ((c.tc : Thread Cert.MergeSampleReferenceIdeal.nD Cert.MergeSampleReferenceIdeal.τ).loc Cert.MergeSampleReferenceIdeal.main_arg8)
          ∧ r.2.mem ((c.tc : Thread Cert.MergeSampleReferenceIdeal.nD Cert.MergeSampleReferenceIdeal.τ).loc Cert.MergeSampleReferenceIdeal.main_arg9) = m' ((c.tc : Thread Cert.MergeSampleReferenceIdeal.nD Cert.MergeSampleReferenceIdeal.τ).loc Cert.MergeSampleReferenceIdeal.main_arg9))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)
      ∧ m' ((c.tc : Thread Cert.ProjSampleReferenceIdeal.nD Cert.ProjSampleReferenceIdeal.τ).loc Cert.ProjSampleReferenceIdeal.main_arg3) = m ((c.tc : Thread Cert.ProjSampleIdeal.nD Cert.ProjSampleIdeal.τ).loc Cert.ProjSampleIdeal.main_arg3)
      ∧ m' ((c.tc : Thread Cert.ProjSampleReferenceIdeal.nD Cert.ProjSampleReferenceIdeal.τ).loc Cert.ProjSampleReferenceIdeal.main_arg4) = m ((c.tc : Thread Cert.ProjSampleIdeal.nD Cert.ProjSampleIdeal.τ).loc Cert.ProjSampleIdeal.main_arg4)) →
    ∃ (v0 : (c : Dev Cert.ProjSampleIdeal.nD) → Buf (Elt Ideal) ((c.tc : Thread Cert.ProjSampleIdeal.nD Cert.ProjSampleIdeal.τ).loc Cert.ProjSampleIdeal.main_v51_0)) (v1 : (c : Dev Cert.ProjSampleIdeal.nD) → Buf (Elt Ideal) ((c.tc : Thread Cert.ProjSampleIdeal.nD Cert.ProjSampleIdeal.τ).loc Cert.ProjSampleIdeal.main_v51_1)) (v2 : (c : Dev Cert.ProjSampleIdeal.nD) → Buf (Elt Ideal) ((c.tc : Thread Cert.ProjSampleIdeal.nD Cert.ProjSampleIdeal.τ).loc Cert.ProjSampleIdeal.main_v51_2)) (v3 : (c : Dev Cert.ProjSampleIdeal.nD) → Buf (Elt Ideal) ((c.tc : Thread Cert.ProjSampleIdeal.nD Cert.ProjSampleIdeal.τ).loc Cert.ProjSampleIdeal.main_v51_3)) (v4 : (c : Dev Cert.ProjSampleIdeal.nD) → Buf (Elt Ideal) ((c.tc : Thread Cert.ProjSampleIdeal.nD Cert.ProjSampleIdeal.τ).loc Cert.ProjSampleIdeal.main_v51_4)) (v5 : (c : Dev Cert.ProjSampleIdeal.nD) → Buf (Elt Ideal) ((c.tc : Thread Cert.ProjSampleIdeal.nD Cert.ProjSampleIdeal.τ).loc Cert.ProjSampleIdeal.main_v51_5)) (v6 : (c : Dev Cert.ProjSampleIdeal.nD) → Buf (Elt Ideal) ((c.tc : Thread Cert.ProjSampleIdeal.nD Cert.ProjSampleIdeal.τ).loc Cert.ProjSampleIdeal.main_v51_6)) (v7 : (c : Dev Cert.ProjSampleIdeal.nD) → Buf (Elt Ideal) ((c.tc : Thread Cert.ProjSampleIdeal.nD Cert.ProjSampleIdeal.τ).loc Cert.ProjSampleIdeal.main_v51_7)) (v8 : (c : Dev Cert.ProjSampleIdeal.nD) → Buf (Elt Ideal) ((c.tc : Thread Cert.ProjSampleIdeal.nD Cert.ProjSampleIdeal.τ).loc Cert.ProjSampleIdeal.main_v51_8)) (v9 : (c : Dev Cert.ProjSampleIdeal.nD) → Buf (Elt Ideal) ((c.tc : Thread Cert.ProjSampleIdeal.nD Cert.ProjSampleIdeal.τ).loc Cert.ProjSampleIdeal.main_v51_9)) (v10 : (c : Dev Cert.ProjSampleIdeal.nD) → Buf (Elt Ideal) ((c.tc : Thread Cert.ProjSampleIdeal.nD Cert.ProjSampleIdeal.τ).loc Cert.ProjSampleIdeal.main_v51_10)) (v11 : (c : Dev Cert.ProjSampleIdeal.nD) → Buf (Elt Ideal) ((c.tc : Thread Cert.ProjSampleIdeal.nD Cert.ProjSampleIdeal.τ).loc Cert.ProjSampleIdeal.main_v51_11)) (v12 : (c : Dev Cert.ProjSampleIdeal.nD) → Buf (Elt Ideal) ((c.tc : Thread Cert.ProjSampleIdeal.nD Cert.ProjSampleIdeal.τ).loc Cert.ProjSampleIdeal.main_v51_12)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v51_0) = v0 c
          ∧ r.2.mem ((c.tc : Thread Cert.ProjSampleIdeal.nD Cert.ProjSampleIdeal.τ).loc Cert.ProjSampleIdeal.main_v51_1) = v1 c
          ∧ r.2.mem ((c.tc : Thread Cert.ProjSampleIdeal.nD Cert.ProjSampleIdeal.τ).loc Cert.ProjSampleIdeal.main_v51_2) = v2 c
          ∧ r.2.mem ((c.tc : Thread Cert.ProjSampleIdeal.nD Cert.ProjSampleIdeal.τ).loc Cert.ProjSampleIdeal.main_v51_3) = v3 c
          ∧ r.2.mem ((c.tc : Thread Cert.ProjSampleIdeal.nD Cert.ProjSampleIdeal.τ).loc Cert.ProjSampleIdeal.main_v51_4) = v4 c
          ∧ r.2.mem ((c.tc : Thread Cert.ProjSampleIdeal.nD Cert.ProjSampleIdeal.τ).loc Cert.ProjSampleIdeal.main_v51_5) = v5 c
          ∧ r.2.mem ((c.tc : Thread Cert.ProjSampleIdeal.nD Cert.ProjSampleIdeal.τ).loc Cert.ProjSampleIdeal.main_v51_6) = v6 c
          ∧ r.2.mem ((c.tc : Thread Cert.ProjSampleIdeal.nD Cert.ProjSampleIdeal.τ).loc Cert.ProjSampleIdeal.main_v51_7) = v7 c
          ∧ r.2.mem ((c.tc : Thread Cert.ProjSampleIdeal.nD Cert.ProjSampleIdeal.τ).loc Cert.ProjSampleIdeal.main_v51_8) = v8 c
          ∧ r.2.mem ((c.tc : Thread Cert.ProjSampleIdeal.nD Cert.ProjSampleIdeal.τ).loc Cert.ProjSampleIdeal.main_v51_9) = v9 c
          ∧ r.2.mem ((c.tc : Thread Cert.ProjSampleIdeal.nD Cert.ProjSampleIdeal.τ).loc Cert.ProjSampleIdeal.main_v51_10) = v10 c
          ∧ r.2.mem ((c.tc : Thread Cert.ProjSampleIdeal.nD Cert.ProjSampleIdeal.τ).loc Cert.ProjSampleIdeal.main_v51_11) = v11 c
          ∧ r.2.mem ((c.tc : Thread Cert.ProjSampleIdeal.nD Cert.ProjSampleIdeal.τ).loc Cert.ProjSampleIdeal.main_v51_12) = v12 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v44) = v0 c
          ∧ r.2.mem ((c.tc : Thread Cert.ProjSampleReferenceIdeal.nD Cert.ProjSampleReferenceIdeal.τ).loc Cert.ProjSampleReferenceIdeal.main_v47) = v1 c
          ∧ r.2.mem ((c.tc : Thread Cert.ProjSampleReferenceIdeal.nD Cert.ProjSampleReferenceIdeal.τ).loc Cert.ProjSampleReferenceIdeal.main_v48) = v2 c
          ∧ r.2.mem ((c.tc : Thread Cert.ProjSampleReferenceIdeal.nD Cert.ProjSampleReferenceIdeal.τ).loc Cert.ProjSampleReferenceIdeal.main_v50) = v3 c
          ∧ r.2.mem ((c.tc : Thread Cert.ProjSampleReferenceIdeal.nD Cert.ProjSampleReferenceIdeal.τ).loc Cert.ProjSampleReferenceIdeal.main_v52) = v4 c
          ∧ r.2.mem ((c.tc : Thread Cert.ProjSampleReferenceIdeal.nD Cert.ProjSampleReferenceIdeal.τ).loc Cert.ProjSampleReferenceIdeal.main_v54) = v5 c
          ∧ r.2.mem ((c.tc : Thread Cert.ProjSampleReferenceIdeal.nD Cert.ProjSampleReferenceIdeal.τ).loc Cert.ProjSampleReferenceIdeal.main_v55) = v6 c
          ∧ r.2.mem ((c.tc : Thread Cert.ProjSampleReferenceIdeal.nD Cert.ProjSampleReferenceIdeal.τ).loc Cert.ProjSampleReferenceIdeal.main_v30) = v7 c
          ∧ r.2.mem ((c.tc : Thread Cert.ProjSampleReferenceIdeal.nD Cert.ProjSampleReferenceIdeal.τ).loc Cert.ProjSampleReferenceIdeal.main_v31) = v8 c
          ∧ r.2.mem ((c.tc : Thread Cert.ProjSampleReferenceIdeal.nD Cert.ProjSampleReferenceIdeal.τ).loc Cert.ProjSampleReferenceIdeal.main_v34) = v9 c
          ∧ r.2.mem ((c.tc : Thread Cert.ProjSampleReferenceIdeal.nD Cert.ProjSampleReferenceIdeal.τ).loc Cert.ProjSampleReferenceIdeal.main_v35) = v10 c
          ∧ r.2.mem ((c.tc : Thread Cert.ProjSampleReferenceIdeal.nD Cert.ProjSampleReferenceIdeal.τ).loc Cert.ProjSampleReferenceIdeal.main_v38) = v11 c
          ∧ r.2.mem ((c.tc : Thread Cert.ProjSampleReferenceIdeal.nD Cert.ProjSampleReferenceIdeal.τ).loc Cert.ProjSampleReferenceIdeal.main_v24) = v12 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2)
          ∧ r.2.mem ((c.tc : Thread Cert.ProjSampleReferenceIdeal.nD Cert.ProjSampleReferenceIdeal.τ).loc Cert.ProjSampleReferenceIdeal.main_arg3) = m' ((c.tc : Thread Cert.ProjSampleReferenceIdeal.nD Cert.ProjSampleReferenceIdeal.τ).loc Cert.ProjSampleReferenceIdeal.main_arg3)
          ∧ r.2.mem ((c.tc : Thread Cert.ProjSampleReferenceIdeal.nD Cert.ProjSampleReferenceIdeal.τ).loc Cert.ProjSampleReferenceIdeal.main_arg4) = m' ((c.tc : Thread Cert.ProjSampleReferenceIdeal.nD Cert.ProjSampleReferenceIdeal.τ).loc Cert.ProjSampleReferenceIdeal.main_arg4))

def preserves_LaterSample_LaterSampleIdeal : Prop :=
  True

def algebraic_LaterSampleIdeal_LaterSampleReferenceIdeal [hLaterSampleIdeal : Cert.LaterSampleIdeal.Facts] [hLaterSampleReferenceIdeal : Cert.LaterSampleReferenceIdeal.Facts] : Prop :=
  ∀ (m : (ℓ : Loc Cert.LaterSampleIdeal.nD Cert.LaterSampleIdeal.τ Cert.LaterSampleIdeal.sig) → Buf (Elt Ideal) ℓ) (g : Dev Cert.LaterSampleIdeal.nD → PrngReg)
    (m' : (ℓ : Loc Cert.LaterSampleReferenceIdeal.nD Cert.LaterSampleReferenceIdeal.τ Cert.LaterSampleReferenceIdeal.sig) → Buf (Elt Ideal) ℓ) (g' : Dev Cert.LaterSampleReferenceIdeal.nD → PrngReg), Pre_LaterSampleIdeal m →
    (∀ c : Dev Cert.LaterSampleIdeal.nD,
      m' ((c.tc : Thread Cert.LaterSampleReferenceIdeal.nD Cert.LaterSampleReferenceIdeal.τ).loc Cert.LaterSampleReferenceIdeal.main_arg0) = m ((c.tc : Thread Cert.LaterSampleIdeal.nD Cert.LaterSampleIdeal.τ).loc Cert.LaterSampleIdeal.main_arg0)
      ∧ m' ((c.tc : Thread Cert.LaterSampleReferenceIdeal.nD Cert.LaterSampleReferenceIdeal.τ).loc Cert.LaterSampleReferenceIdeal.main_arg1) = m ((c.tc : Thread Cert.LaterSampleIdeal.nD Cert.LaterSampleIdeal.τ).loc Cert.LaterSampleIdeal.main_arg1)
      ∧ m' ((c.tc : Thread Cert.LaterSampleReferenceIdeal.nD Cert.LaterSampleReferenceIdeal.τ).loc Cert.LaterSampleReferenceIdeal.main_arg2) = m ((c.tc : Thread Cert.LaterSampleIdeal.nD Cert.LaterSampleIdeal.τ).loc Cert.LaterSampleIdeal.main_arg2)) →
    ∃ (v0 : (c : Dev Cert.LaterSampleIdeal.nD) → Buf (Elt Ideal) ((c.tc : Thread Cert.LaterSampleIdeal.nD Cert.LaterSampleIdeal.τ).loc Cert.LaterSampleIdeal.main_v48_0)) (v1 : (c : Dev Cert.LaterSampleIdeal.nD) → Buf (Elt Ideal) ((c.tc : Thread Cert.LaterSampleIdeal.nD Cert.LaterSampleIdeal.τ).loc Cert.LaterSampleIdeal.main_v48_1)) (v2 : (c : Dev Cert.LaterSampleIdeal.nD) → Buf (Elt Ideal) ((c.tc : Thread Cert.LaterSampleIdeal.nD Cert.LaterSampleIdeal.τ).loc Cert.LaterSampleIdeal.main_v48_2)) (v3 : (c : Dev Cert.LaterSampleIdeal.nD) → Buf (Elt Ideal) ((c.tc : Thread Cert.LaterSampleIdeal.nD Cert.LaterSampleIdeal.τ).loc Cert.LaterSampleIdeal.main_v48_3)) (v4 : (c : Dev Cert.LaterSampleIdeal.nD) → Buf (Elt Ideal) ((c.tc : Thread Cert.LaterSampleIdeal.nD Cert.LaterSampleIdeal.τ).loc Cert.LaterSampleIdeal.main_v48_4)) (v5 : (c : Dev Cert.LaterSampleIdeal.nD) → Buf (Elt Ideal) ((c.tc : Thread Cert.LaterSampleIdeal.nD Cert.LaterSampleIdeal.τ).loc Cert.LaterSampleIdeal.main_v48_5)) (v6 : (c : Dev Cert.LaterSampleIdeal.nD) → Buf (Elt Ideal) ((c.tc : Thread Cert.LaterSampleIdeal.nD Cert.LaterSampleIdeal.τ).loc Cert.LaterSampleIdeal.main_v48_6)) (v7 : (c : Dev Cert.LaterSampleIdeal.nD) → Buf (Elt Ideal) ((c.tc : Thread Cert.LaterSampleIdeal.nD Cert.LaterSampleIdeal.τ).loc Cert.LaterSampleIdeal.main_v48_7)) (v8 : (c : Dev Cert.LaterSampleIdeal.nD) → Buf (Elt Ideal) ((c.tc : Thread Cert.LaterSampleIdeal.nD Cert.LaterSampleIdeal.τ).loc Cert.LaterSampleIdeal.main_v48_8)) (v9 : (c : Dev Cert.LaterSampleIdeal.nD) → Buf (Elt Ideal) ((c.tc : Thread Cert.LaterSampleIdeal.nD Cert.LaterSampleIdeal.τ).loc Cert.LaterSampleIdeal.main_v48_9)) (v10 : (c : Dev Cert.LaterSampleIdeal.nD) → Buf (Elt Ideal) ((c.tc : Thread Cert.LaterSampleIdeal.nD Cert.LaterSampleIdeal.τ).loc Cert.LaterSampleIdeal.main_v48_10)) (v11 : (c : Dev Cert.LaterSampleIdeal.nD) → Buf (Elt Ideal) ((c.tc : Thread Cert.LaterSampleIdeal.nD Cert.LaterSampleIdeal.τ).loc Cert.LaterSampleIdeal.main_v48_11)),
      θ_run (Cert.LaterSampleIdeal.defs (F := Ideal)) (onTc (τ := Cert.LaterSampleIdeal.τ) (Cert.LaterSampleIdeal.main (F := Ideal))) ⟨m, fun _ => 0, g⟩ (fun r => ∀ c : Dev Cert.LaterSampleIdeal.nD,
          r.2.mem ((c.tc : Thread Cert.LaterSampleIdeal.nD Cert.LaterSampleIdeal.τ).loc Cert.LaterSampleIdeal.main_v48_0) = v0 c
          ∧ r.2.mem ((c.tc : Thread Cert.LaterSampleIdeal.nD Cert.LaterSampleIdeal.τ).loc Cert.LaterSampleIdeal.main_v48_1) = v1 c
          ∧ r.2.mem ((c.tc : Thread Cert.LaterSampleIdeal.nD Cert.LaterSampleIdeal.τ).loc Cert.LaterSampleIdeal.main_v48_2) = v2 c
          ∧ r.2.mem ((c.tc : Thread Cert.LaterSampleIdeal.nD Cert.LaterSampleIdeal.τ).loc Cert.LaterSampleIdeal.main_v48_3) = v3 c
          ∧ r.2.mem ((c.tc : Thread Cert.LaterSampleIdeal.nD Cert.LaterSampleIdeal.τ).loc Cert.LaterSampleIdeal.main_v48_4) = v4 c
          ∧ r.2.mem ((c.tc : Thread Cert.LaterSampleIdeal.nD Cert.LaterSampleIdeal.τ).loc Cert.LaterSampleIdeal.main_v48_5) = v5 c
          ∧ r.2.mem ((c.tc : Thread Cert.LaterSampleIdeal.nD Cert.LaterSampleIdeal.τ).loc Cert.LaterSampleIdeal.main_v48_6) = v6 c
          ∧ r.2.mem ((c.tc : Thread Cert.LaterSampleIdeal.nD Cert.LaterSampleIdeal.τ).loc Cert.LaterSampleIdeal.main_v48_7) = v7 c
          ∧ r.2.mem ((c.tc : Thread Cert.LaterSampleIdeal.nD Cert.LaterSampleIdeal.τ).loc Cert.LaterSampleIdeal.main_v48_8) = v8 c
          ∧ r.2.mem ((c.tc : Thread Cert.LaterSampleIdeal.nD Cert.LaterSampleIdeal.τ).loc Cert.LaterSampleIdeal.main_v48_9) = v9 c
          ∧ r.2.mem ((c.tc : Thread Cert.LaterSampleIdeal.nD Cert.LaterSampleIdeal.τ).loc Cert.LaterSampleIdeal.main_v48_10) = v10 c
          ∧ r.2.mem ((c.tc : Thread Cert.LaterSampleIdeal.nD Cert.LaterSampleIdeal.τ).loc Cert.LaterSampleIdeal.main_v48_11) = v11 c
          ∧ r.2.mem ((c.tc : Thread Cert.LaterSampleIdeal.nD Cert.LaterSampleIdeal.τ).loc Cert.LaterSampleIdeal.main_arg0) = m ((c.tc : Thread Cert.LaterSampleIdeal.nD Cert.LaterSampleIdeal.τ).loc Cert.LaterSampleIdeal.main_arg0)
          ∧ r.2.mem ((c.tc : Thread Cert.LaterSampleIdeal.nD Cert.LaterSampleIdeal.τ).loc Cert.LaterSampleIdeal.main_arg1) = m ((c.tc : Thread Cert.LaterSampleIdeal.nD Cert.LaterSampleIdeal.τ).loc Cert.LaterSampleIdeal.main_arg1)
          ∧ r.2.mem ((c.tc : Thread Cert.LaterSampleIdeal.nD Cert.LaterSampleIdeal.τ).loc Cert.LaterSampleIdeal.main_arg2) = m ((c.tc : Thread Cert.LaterSampleIdeal.nD Cert.LaterSampleIdeal.τ).loc Cert.LaterSampleIdeal.main_arg2))
      ∧ θ_run (Cert.LaterSampleReferenceIdeal.defs (F := Ideal)) (onTc (τ := Cert.LaterSampleReferenceIdeal.τ) (Cert.LaterSampleReferenceIdeal.main (F := Ideal))) ⟨m', fun _ => 0, g'⟩ (fun r => ∀ c : Dev Cert.LaterSampleReferenceIdeal.nD,
          r.2.mem ((c.tc : Thread Cert.LaterSampleReferenceIdeal.nD Cert.LaterSampleReferenceIdeal.τ).loc Cert.LaterSampleReferenceIdeal.main_v19) = v0 c
          ∧ r.2.mem ((c.tc : Thread Cert.LaterSampleReferenceIdeal.nD Cert.LaterSampleReferenceIdeal.τ).loc Cert.LaterSampleReferenceIdeal.main_v22) = v1 c
          ∧ r.2.mem ((c.tc : Thread Cert.LaterSampleReferenceIdeal.nD Cert.LaterSampleReferenceIdeal.τ).loc Cert.LaterSampleReferenceIdeal.main_v23) = v2 c
          ∧ r.2.mem ((c.tc : Thread Cert.LaterSampleReferenceIdeal.nD Cert.LaterSampleReferenceIdeal.τ).loc Cert.LaterSampleReferenceIdeal.main_v25) = v3 c
          ∧ r.2.mem ((c.tc : Thread Cert.LaterSampleReferenceIdeal.nD Cert.LaterSampleReferenceIdeal.τ).loc Cert.LaterSampleReferenceIdeal.main_v27) = v4 c
          ∧ r.2.mem ((c.tc : Thread Cert.LaterSampleReferenceIdeal.nD Cert.LaterSampleReferenceIdeal.τ).loc Cert.LaterSampleReferenceIdeal.main_v29) = v5 c
          ∧ r.2.mem ((c.tc : Thread Cert.LaterSampleReferenceIdeal.nD Cert.LaterSampleReferenceIdeal.τ).loc Cert.LaterSampleReferenceIdeal.main_v30) = v6 c
          ∧ r.2.mem ((c.tc : Thread Cert.LaterSampleReferenceIdeal.nD Cert.LaterSampleReferenceIdeal.τ).loc Cert.LaterSampleReferenceIdeal.main_v5) = v7 c
          ∧ r.2.mem ((c.tc : Thread Cert.LaterSampleReferenceIdeal.nD Cert.LaterSampleReferenceIdeal.τ).loc Cert.LaterSampleReferenceIdeal.main_v6) = v8 c
          ∧ r.2.mem ((c.tc : Thread Cert.LaterSampleReferenceIdeal.nD Cert.LaterSampleReferenceIdeal.τ).loc Cert.LaterSampleReferenceIdeal.main_v9) = v9 c
          ∧ r.2.mem ((c.tc : Thread Cert.LaterSampleReferenceIdeal.nD Cert.LaterSampleReferenceIdeal.τ).loc Cert.LaterSampleReferenceIdeal.main_v10) = v10 c
          ∧ r.2.mem ((c.tc : Thread Cert.LaterSampleReferenceIdeal.nD Cert.LaterSampleReferenceIdeal.τ).loc Cert.LaterSampleReferenceIdeal.main_v13) = v11 c
          ∧ r.2.mem ((c.tc : Thread Cert.LaterSampleReferenceIdeal.nD Cert.LaterSampleReferenceIdeal.τ).loc Cert.LaterSampleReferenceIdeal.main_arg0) = m' ((c.tc : Thread Cert.LaterSampleReferenceIdeal.nD Cert.LaterSampleReferenceIdeal.τ).loc Cert.LaterSampleReferenceIdeal.main_arg0)
          ∧ r.2.mem ((c.tc : Thread Cert.LaterSampleReferenceIdeal.nD Cert.LaterSampleReferenceIdeal.τ).loc Cert.LaterSampleReferenceIdeal.main_arg1) = m' ((c.tc : Thread Cert.LaterSampleReferenceIdeal.nD Cert.LaterSampleReferenceIdeal.τ).loc Cert.LaterSampleReferenceIdeal.main_arg1)
          ∧ r.2.mem ((c.tc : Thread Cert.LaterSampleReferenceIdeal.nD Cert.LaterSampleReferenceIdeal.τ).loc Cert.LaterSampleReferenceIdeal.main_arg2) = m' ((c.tc : Thread Cert.LaterSampleReferenceIdeal.nD Cert.LaterSampleReferenceIdeal.τ).loc Cert.LaterSampleReferenceIdeal.main_arg2))

def Claim : Prop :=
  ∃ (hDsa : Cert.Dsa.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hLater : Cert.Later.Facts) (hLaterIdeal : Cert.LaterIdeal.Facts) (hLaterReferenceIdeal : Cert.LaterReferenceIdeal.Facts) (hMergeSample : Cert.MergeSample.Facts) (hMergeSampleIdeal : Cert.MergeSampleIdeal.Facts) (hMergeSampleReferenceIdeal : Cert.MergeSampleReferenceIdeal.Facts) (hProjSample : Cert.ProjSample.Facts) (hProjSampleIdeal : Cert.ProjSampleIdeal.Facts) (hProjSampleReferenceIdeal : Cert.ProjSampleReferenceIdeal.Facts) (hLaterSample : Cert.LaterSample.Facts) (hLaterSampleIdeal : Cert.LaterSampleIdeal.Facts) (hLaterSampleReferenceIdeal : Cert.LaterSampleReferenceIdeal.Facts),
    quiescent_Dsa (hDsa := hDsa)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Later (hLater := hLater)
    ∧ quiescent_LaterIdeal (hLaterIdeal := hLaterIdeal)
    ∧ quiescent_LaterReferenceIdeal (hLaterReferenceIdeal := hLaterReferenceIdeal)
    ∧ quiescent_MergeSample (hMergeSample := hMergeSample)
    ∧ quiescent_MergeSampleIdeal (hMergeSampleIdeal := hMergeSampleIdeal)
    ∧ quiescent_MergeSampleReferenceIdeal (hMergeSampleReferenceIdeal := hMergeSampleReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ quiescent_LaterSample (hLaterSample := hLaterSample)
    ∧ quiescent_LaterSampleIdeal (hLaterSampleIdeal := hLaterSampleIdeal)
    ∧ quiescent_LaterSampleReferenceIdeal (hLaterSampleReferenceIdeal := hLaterSampleReferenceIdeal)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Later_LaterIdeal
    ∧ algebraic_LaterIdeal_LaterReferenceIdeal (hLaterIdeal := hLaterIdeal) (hLaterReferenceIdeal := hLaterReferenceIdeal)
    ∧ preserves_MergeSample_MergeSampleIdeal
    ∧ algebraic_MergeSampleIdeal_MergeSampleReferenceIdeal (hMergeSampleIdeal := hMergeSampleIdeal) (hMergeSampleReferenceIdeal := hMergeSampleReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
    ∧ preserves_LaterSample_LaterSampleIdeal
    ∧ algebraic_LaterSampleIdeal_LaterSampleReferenceIdeal (hLaterSampleIdeal := hLaterSampleIdeal) (hLaterSampleReferenceIdeal := hLaterSampleReferenceIdeal)
-- ==== Dsa.lean ====
abbrev S32x2048x512 : Shape := ⟨3, ![32, 2048, 512]⟩
abbrev S32x2048x128 : Shape := ⟨3, ![32, 2048, 128]⟩
abbrev S8x2x256x256 : Shape := ⟨4, ![8, 2, 256, 256]⟩
abbrev S8 : Shape := ⟨1, ![8]⟩
abbrev S1x256x512 : Shape := ⟨3, ![1, 256, 512]⟩
abbrev S1x256x128 : Shape := ⟨3, ![1, 256, 128]⟩
abbrev S1x2048x128 : Shape := ⟨3, ![1, 2048, 128]⟩
abbrev S2048x128 : Shape := ⟨2, ![2048, 128]⟩
abbrev S8x128x256 : Shape := ⟨3, ![8, 128, 256]⟩
abbrev S8x256x256 : Shape := ⟨3, ![8, 256, 256]⟩
abbrev S8x8x256x256 : Shape := ⟨4, ![8, 8, 256, 256]⟩
abbrev S8x1x256 : Shape := ⟨3, ![8, 1, 256]⟩
abbrev S4x128x256 : Shape := ⟨3, ![4, 128, 256]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S1024x128 : Shape := ⟨2, ![1024, 128]⟩
abbrev S1024x256 : Shape := ⟨2, ![1024, 256]⟩
abbrev S1x256 : Shape := ⟨2, ![1, 256]⟩
abbrev S1x256x256 : Shape := ⟨3, ![1, 256, 256]⟩
abbrev S512x128 : Shape := ⟨2, ![512, 128]⟩
abbrev S512x256 : Shape := ⟨2, ![512, 256]⟩
abbrev S768x128 : Shape := ⟨2, ![768, 128]⟩
abbrev S768x256 : Shape := ⟨2, ![768, 256]⟩
abbrev S16x256 : Shape := ⟨2, ![16, 256]⟩
abbrev S256 : Shape := ⟨1, ![256]⟩
abbrev S8x256 : Shape := ⟨2, ![8, 256]⟩
abbrev S32x8x256 : Shape := ⟨3, ![32, 8, 256]⟩
abbrev S1x1x256 : Shape := ⟨3, ![1, 1, 256]⟩
abbrev S1 : Shape := ⟨1, ![1]⟩
abbrev S1x1x1 : Shape := ⟨3, ![1, 1, 1]⟩
abbrev S128x1 : Shape := ⟨2, ![128, 1]⟩
abbrev S1x1x256x256 : Shape := ⟨4, ![1, 1, 256, 256]⟩

abbrev nBuf : Space → Nat
  | .hbm => 9
  | .vmem => 27
  | .smem => 1
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x128, .f32⟩
  | .hbm, ⟨3, _⟩ => ⟨S32x2048x128, .bf16⟩
  | .hbm, ⟨4, _⟩ => ⟨S32x2048x128, .bf16⟩
  | .hbm, ⟨5, _⟩ => ⟨S32x2048x128, .bf16⟩
  | .hbm, ⟨6, _⟩ => ⟨S8x2x256x256, .f32⟩
  | .hbm, ⟨7, _⟩ => ⟨S8, .f32⟩
  | .hbm, ⟨8, _⟩ => ⟨S32x2048x512, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x128, .f32⟩
  | .local _ .vmem, ⟨5, _⟩ => ⟨S1x256x128, .f32⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S8x2x256x256, .f32⟩
  | .local _ .vmem, ⟨13, _⟩ => ⟨S1x256x512, .f32⟩
  | .local _ .vmem, ⟨14, _⟩ => ⟨S1x256x512, .f32⟩
  | .local _ .vmem, ⟨15, _⟩ => ⟨S2048x128, .bf16⟩
  | .local _ .vmem, ⟨16, _⟩ => ⟨S8x128x256, .bf16⟩
  | .local _ .vmem, ⟨17, _⟩ => ⟨S8x128x256, .bf16⟩
  | .local _ .vmem, ⟨18, _⟩ => ⟨S2048x128, .bf16⟩
  | .local _ .vmem, ⟨19, _⟩ => ⟨S8x256x256, .i32⟩
  | .local _ .vmem, ⟨20, _⟩ => ⟨S8x256x256, .i16⟩
  | .local _ .vmem, ⟨21, _⟩ => ⟨S8x256x256, .i16⟩
  | .local _ .vmem, ⟨22, _⟩ => ⟨S8x256x256, .f32⟩
  | .local _ .vmem, ⟨23, _⟩ => ⟨S8x8x256x256, .f32⟩
  | .local _ .vmem, ⟨24, _⟩ => ⟨S8x1x256, .f32⟩
  | .local _ .vmem, ⟨25, _⟩ => ⟨S8x1x256, .f32⟩
  | .local _ .vmem, ⟨26, _⟩ => ⟨S4x128x256, .f32⟩
  | .local _ .smem, ⟨0, _⟩ => ⟨S8, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![32, 8], ![false, false]⟩

@[reducible] def k0_t1_loop (i : grid0.Coords) : Scf.Loop 32 :=
  let c0_i32_24 : BitVec 32 := 0#32
  let arg1 : BitVec 32 := BitVec.ofNat 32 (i 1).val
  let c0_i32 : BitVec 32 := 0#32
  let v3 : BitVec 32 := Scalar.addi arg1 c0_i32
  let c0_i32_18 : BitVec 32 := 0#32
  let v63 : BitVec 1 := Scalar.cmpi .sgt v3 c0_i32_18
  let v64 : BitVec 32 := Scalar.extui v63
  let c0_i32_19 : BitVec 32 := 0#32
  let v65 : BitVec 1 := Scalar.cmpi .slt v3 c0_i32_19
  let v66 : BitVec 32 := Scalar.extui v65
  let v67 : BitVec 32 := Scalar.subi v64 v66
  let c4_i32 : BitVec 32 := 4#32
  let c0_i32_20 : BitVec 32 := 0#32
  let v68 : BitVec 1 := Scalar.cmpi .sgt c4_i32 c0_i32_20
  let v69 : BitVec 32 := Scalar.extui v68
  let c0_i32_21 : BitVec 32 := 0#32
  let v70 : BitVec 1 := Scalar.cmpi .slt c4_i32 c0_i32_21
  let v71 : BitVec 32 := Scalar.extui v70
  let v72 : BitVec 32 := Scalar.subi v69 v71
  let v73 : BitVec 1 := Scalar.cmpi .ne v67 v72
  let v74 : BitVec 32 := Scalar.remsi v3 c4_i32
  let c0_i32_22 : BitVec 32 := 0#32
  let v75 : BitVec 1 := Scalar.cmpi .ne v74 c0_i32_22
  let v76 : BitVec 1 := Scalar.andi v73 v75
  let v62 : BitVec 32 := Scalar.divsi v3 c4_i32
  let c1_i32_23 : BitVec 32 := 1#32
  let v77 : BitVec 32 := Scalar.subi v62 c1_i32_23
  let v78 : BitVec 32 := Scalar.select v76 v77 v62
  let v79 : BitVec 32 := Scalar.subi v78 c0_i32_24
  let c1_i32_26 : BitVec 32 := 1#32
  let v81 : BitVec 32 := Scalar.divsi v79 c1_i32_26
  let v82 : BitVec 32 := Scalar.muli v81 c1_i32_26
  let v83 : BitVec 32 := Scalar.addi c0_i32_24 v82
  let c1_i32_27 : BitVec 32 := 1#32
  ⟨c0_i32_24, v83, c1_i32_27⟩
def k0_mult1 (i : grid0.Coords) (k0_t1 : Fin (k0_t1_loop i).trips) : BitVec 32 :=
  let c4_i32_191 : BitVec 32 := 4#32
  let c0_i32_24 : BitVec 32 := 0#32
  let c1_i32_27 : BitVec 32 := 1#32
  let arg23 : BitVec 32 := Scf.iv c0_i32_24 c1_i32_27 k0_t1
  let v372 : BitVec 32 := Scalar.muli c4_i32_191 arg23
  let c256_i32 : BitVec 32 := 256#32
  let v373 : BitVec 32 := Scalar.muli v372 c256_i32
  v373
def k0_off1 (i : grid0.Coords) (k0_t1 : Fin (k0_t1_loop i).trips) : Fin 2 → Nat :=
  let c4_i32_191 : BitVec 32 := 4#32
  let c0_i32_24 : BitVec 32 := 0#32
  let c1_i32_27 : BitVec 32 := 1#32
  let arg23 : BitVec 32 := Scf.iv c0_i32_24 c1_i32_27 k0_t1
  let v372 : BitVec 32 := Scalar.muli c4_i32_191 arg23
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off2 (i : grid0.Coords) (k0_t1 : Fin (k0_t1_loop i).trips) (c0_i32_226 : BitVec 32) : Fin 3 → Nat :=
  let c4_i32_191 : BitVec 32 := 4#32
  let c0_i32_24 : BitVec 32 := 0#32
  let c1_i32_27 : BitVec 32 := 1#32
  let arg23 : BitVec 32 := Scf.iv c0_i32_24 c1_i32_27 k0_t1
  let v372 : BitVec 32 := Scalar.muli c4_i32_191 arg23
  let v477 : BitVec 32 := Scalar.addi v372 c0_i32_226
  let v478 : Index := Scalar.indexCast v477
  let c0_227 : Index := 0#32
  let c0_228 : Index := 0#32
  ![v478.toNat, 0, 0]
@[reducible] def k0_t2_loop (i : grid0.Coords) : Scf.Loop 32 :=
  let c0_i32_24 : BitVec 32 := 0#32
  let arg1 : BitVec 32 := BitVec.ofNat 32 (i 1).val
  let c0_i32 : BitVec 32 := 0#32
  let v3 : BitVec 32 := Scalar.addi arg1 c0_i32
  let c0_i32_18 : BitVec 32 := 0#32
  let v63 : BitVec 1 := Scalar.cmpi .sgt v3 c0_i32_18
  let v64 : BitVec 32 := Scalar.extui v63
  let c0_i32_19 : BitVec 32 := 0#32
  let v65 : BitVec 1 := Scalar.cmpi .slt v3 c0_i32_19
  let v66 : BitVec 32 := Scalar.extui v65
  let v67 : BitVec 32 := Scalar.subi v64 v66
  let c4_i32 : BitVec 32 := 4#32
  let c0_i32_20 : BitVec 32 := 0#32
  let v68 : BitVec 1 := Scalar.cmpi .sgt c4_i32 c0_i32_20
  let v69 : BitVec 32 := Scalar.extui v68
  let c0_i32_21 : BitVec 32 := 0#32
  let v70 : BitVec 1 := Scalar.cmpi .slt c4_i32 c0_i32_21
  let v71 : BitVec 32 := Scalar.extui v70
  let v72 : BitVec 32 := Scalar.subi v69 v71
  let v73 : BitVec 1 := Scalar.cmpi .ne v67 v72
  let v74 : BitVec 32 := Scalar.remsi v3 c4_i32
  let c0_i32_22 : BitVec 32 := 0#32
  let v75 : BitVec 1 := Scalar.cmpi .ne v74 c0_i32_22
  let v76 : BitVec 1 := Scalar.andi v73 v75
  let v62 : BitVec 32 := Scalar.divsi v3 c4_i32
  let c1_i32_23 : BitVec 32 := 1#32
  let v77 : BitVec 32 := Scalar.subi v62 c1_i32_23
  let v78 : BitVec 32 := Scalar.select v76 v77 v62
  let v79 : BitVec 32 := Scalar.subi v78 c0_i32_24
  let c1_i32_26 : BitVec 32 := 1#32
  let v81 : BitVec 32 := Scalar.divsi v79 c1_i32_26
  let v82 : BitVec 32 := Scalar.muli v81 c1_i32_26
  let v83 : BitVec 32 := Scalar.addi c0_i32_24 v82
  let v80 : BitVec 32 := Scalar.addi c0_i32_24 v79
  let c1_i32_28 : BitVec 32 := 1#32
  ⟨v83, v80, c1_i32_28⟩
def k0_mult2 (i : grid0.Coords) (k0_t2 : Fin (k0_t2_loop i).trips) : BitVec 32 :=
  let c4_i32_191 : BitVec 32 := 4#32
  let c0_i32_24 : BitVec 32 := 0#32
  let arg1 : BitVec 32 := BitVec.ofNat 32 (i 1).val
  let c0_i32 : BitVec 32 := 0#32
  let v3 : BitVec 32 := Scalar.addi arg1 c0_i32
  let c0_i32_18 : BitVec 32 := 0#32
  let v63 : BitVec 1 := Scalar.cmpi .sgt v3 c0_i32_18
  let v64 : BitVec 32 := Scalar.extui v63
  let c0_i32_19 : BitVec 32 := 0#32
  let v65 : BitVec 1 := Scalar.cmpi .slt v3 c0_i32_19
  let v66 : BitVec 32 := Scalar.extui v65
  let v67 : BitVec 32 := Scalar.subi v64 v66
  let c4_i32 : BitVec 32 := 4#32
  let c0_i32_20 : BitVec 32 := 0#32
  let v68 : BitVec 1 := Scalar.cmpi .sgt c4_i32 c0_i32_20
  let v69 : BitVec 32 := Scalar.extui v68
  let c0_i32_21 : BitVec 32 := 0#32
  let v70 : BitVec 1 := Scalar.cmpi .slt c4_i32 c0_i32_21
  let v71 : BitVec 32 := Scalar.extui v70
  let v72 : BitVec 32 := Scalar.subi v69 v71
  let v73 : BitVec 1 := Scalar.cmpi .ne v67 v72
  let v74 : BitVec 32 := Scalar.remsi v3 c4_i32
  let c0_i32_22 : BitVec 32 := 0#32
  let v75 : BitVec 1 := Scalar.cmpi .ne v74 c0_i32_22
  let v76 : BitVec 1 := Scalar.andi v73 v75
  let v62 : BitVec 32 := Scalar.divsi v3 c4_i32
  let c1_i32_23 : BitVec 32 := 1#32
  let v77 : BitVec 32 := Scalar.subi v62 c1_i32_23
  let v78 : BitVec 32 := Scalar.select v76 v77 v62
  let v79 : BitVec 32 := Scalar.subi v78 c0_i32_24
  let c1_i32_26 : BitVec 32 := 1#32
  let v81 : BitVec 32 := Scalar.divsi v79 c1_i32_26
  let v82 : BitVec 32 := Scalar.muli v81 c1_i32_26
  let v83 : BitVec 32 := Scalar.addi c0_i32_24 v82
  let c1_i32_28 : BitVec 32 := 1#32
  let arg23 : BitVec 32 := Scf.iv v83 c1_i32_28 k0_t2
  let v372 : BitVec 32 := Scalar.muli c4_i32_191 arg23
  let c256_i32 : BitVec 32 := 256#32
  let v373 : BitVec 32 := Scalar.muli v372 c256_i32
  v373
def k0_off3 (i : grid0.Coords) (k0_t2 : Fin (k0_t2_loop i).trips) : Fin 2 → Nat :=
  let c4_i32_191 : BitVec 32 := 4#32
  let c0_i32_24 : BitVec 32 := 0#32
  let arg1 : BitVec 32 := BitVec.ofNat 32 (i 1).val
  let c0_i32 : BitVec 32 := 0#32
  let v3 : BitVec 32 := Scalar.addi arg1 c0_i32
  let c0_i32_18 : BitVec 32 := 0#32
  let v63 : BitVec 1 := Scalar.cmpi .sgt v3 c0_i32_18
  let v64 : BitVec 32 := Scalar.extui v63
  let c0_i32_19 : BitVec 32 := 0#32
  let v65 : BitVec 1 := Scalar.cmpi .slt v3 c0_i32_19
  let v66 : BitVec 32 := Scalar.extui v65
  let v67 : BitVec 32 := Scalar.subi v64 v66
  let c4_i32 : BitVec 32 := 4#32
  let c0_i32_20 : BitVec 32 := 0#32
  let v68 : BitVec 1 := Scalar.cmpi .sgt c4_i32 c0_i32_20
  let v69 : BitVec 32 := Scalar.extui v68
  let c0_i32_21 : BitVec 32 := 0#32
  let v70 : BitVec 1 := Scalar.cmpi .slt c4_i32 c0_i32_21
  let v71 : BitVec 32 := Scalar.extui v70
  let v72 : BitVec 32 := Scalar.subi v69 v71
  let v73 : BitVec 1 := Scalar.cmpi .ne v67 v72
  let v74 : BitVec 32 := Scalar.remsi v3 c4_i32
  let c0_i32_22 : BitVec 32 := 0#32
  let v75 : BitVec 1 := Scalar.cmpi .ne v74 c0_i32_22
  let v76 : BitVec 1 := Scalar.andi v73 v75
  let v62 : BitVec 32 := Scalar.divsi v3 c4_i32
  let c1_i32_23 : BitVec 32 := 1#32
  let v77 : BitVec 32 := Scalar.subi v62 c1_i32_23
  let v78 : BitVec 32 := Scalar.select v76 v77 v62
  let v79 : BitVec 32 := Scalar.subi v78 c0_i32_24
  let c1_i32_26 : BitVec 32 := 1#32
  let v81 : BitVec 32 := Scalar.divsi v79 c1_i32_26
  let v82 : BitVec 32 := Scalar.muli v81 c1_i32_26
  let v83 : BitVec 32 := Scalar.addi c0_i32_24 v82
  let c1_i32_28 : BitVec 32 := 1#32
  let arg23 : BitVec 32 := Scf.iv v83 c1_i32_28 k0_t2
  let v372 : BitVec 32 := Scalar.muli c4_i32_191 arg23
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off4 (i : grid0.Coords) (k0_t2 : Fin (k0_t2_loop i).trips) (c0_i32_226 : BitVec 32) : Fin 3 → Nat :=
  let c4_i32_191 : BitVec 32 := 4#32
  let c0_i32_24 : BitVec 32 := 0#32
  let arg1 : BitVec 32 := BitVec.ofNat 32 (i 1).val
  let c0_i32 : BitVec 32 := 0#32
  let v3 : BitVec 32 := Scalar.addi arg1 c0_i32
  let c0_i32_18 : BitVec 32 := 0#32
  let v63 : BitVec 1 := Scalar.cmpi .sgt v3 c0_i32_18
  let v64 : BitVec 32 := Scalar.extui v63
  let c0_i32_19 : BitVec 32 := 0#32
  let v65 : BitVec 1 := Scalar.cmpi .slt v3 c0_i32_19
  let v66 : BitVec 32 := Scalar.extui v65
  let v67 : BitVec 32 := Scalar.subi v64 v66
  let c4_i32 : BitVec 32 := 4#32
  let c0_i32_20 : BitVec 32 := 0#32
  let v68 : BitVec 1 := Scalar.cmpi .sgt c4_i32 c0_i32_20
  let v69 : BitVec 32 := Scalar.extui v68
  let c0_i32_21 : BitVec 32 := 0#32
  let v70 : BitVec 1 := Scalar.cmpi .slt c4_i32 c0_i32_21
  let v71 : BitVec 32 := Scalar.extui v70
  let v72 : BitVec 32 := Scalar.subi v69 v71
  let v73 : BitVec 1 := Scalar.cmpi .ne v67 v72
  let v74 : BitVec 32 := Scalar.remsi v3 c4_i32
  let c0_i32_22 : BitVec 32 := 0#32
  let v75 : BitVec 1 := Scalar.cmpi .ne v74 c0_i32_22
  let v76 : BitVec 1 := Scalar.andi v73 v75
  let v62 : BitVec 32 := Scalar.divsi v3 c4_i32
  let c1_i32_23 : BitVec 32 := 1#32
  let v77 : BitVec 32 := Scalar.subi v62 c1_i32_23
  let v78 : BitVec 32 := Scalar.select v76 v77 v62
  let v79 : BitVec 32 := Scalar.subi v78 c0_i32_24
  let c1_i32_26 : BitVec 32 := 1#32
  let v81 : BitVec 32 := Scalar.divsi v79 c1_i32_26
  let v82 : BitVec 32 := Scalar.muli v81 c1_i32_26
  let v83 : BitVec 32 := Scalar.addi c0_i32_24 v82
  let c1_i32_28 : BitVec 32 := 1#32
  let arg23 : BitVec 32 := Scf.iv v83 c1_i32_28 k0_t2
  let v372 : BitVec 32 := Scalar.muli c4_i32_191 arg23
  let v477 : BitVec 32 := Scalar.addi v372 c0_i32_226
  let v478 : Index := Scalar.indexCast v477
  let c0_227 : Index := 0#32
  let c0_228 : Index := 0#32
  ![v478.toNat, 0, 0]
def k0_cond2 (i : grid0.Coords) : BitVec 1 :=
  let arg1 : BitVec 32 := BitVec.ofNat 32 (i 1).val
  let c0_i32 : BitVec 32 := 0#32
  let v3 : BitVec 32 := Scalar.addi arg1 c0_i32
  let c4_i32_29 : BitVec 32 := 4#32
  let c0_i32_30 : BitVec 32 := 0#32
  let v86 : BitVec 1 := Scalar.cmpi .eq c4_i32_29 c0_i32_30
  let c1_i32_31 : BitVec 32 := 1#32
  let v87 : BitVec 32 := Scalar.select v86 c1_i32_31 c4_i32_29
  let v88 : BitVec 32 := Scalar.remsi v3 v87
  let c0_i32_33 : BitVec 32 := 0#32
  let v90 : BitVec 1 := Scalar.cmpi .slt v88 c0_i32_33
  let c0_i32_34 : BitVec 32 := 0#32
  let v91 : BitVec 1 := Scalar.cmpi .slt v87 c0_i32_34
  let v92 : BitVec 1 := Scalar.xori v90 v91
  let c0_i32_32 : BitVec 32 := 0#32
  let v89 : BitVec 1 := Scalar.cmpi .ne v88 c0_i32_32
  let v93 : BitVec 1 := Scalar.andi v92 v89
  let v94 : BitVec 32 := Scalar.addi v88 v87
  let v95 : BitVec 32 := Scalar.select v93 v94 v88
  let c0_i32_35 : BitVec 32 := 0#32
  let v96 : BitVec 1 := Scalar.cmpi .eq v95 c0_i32_35
  let v97 : BitVec 32 := Scalar.extui v96
  let c0_i32_36 : BitVec 32 := 0#32
  let v98 : BitVec 1 := Scalar.cmpi .ne v97 c0_i32_36
  v98

def k0_mult3 (i : grid0.Coords) : BitVec 32 :=
  let arg1 : BitVec 32 := BitVec.ofNat 32 (i 1).val
  let c0_i32 : BitVec 32 := 0#32
  let v3 : BitVec 32 := Scalar.addi arg1 c0_i32
  let c0_i32_191 : BitVec 32 := 0#32
  let v372 : BitVec 32 := Scalar.subi v3 c0_i32_191
  let c256_i32 : BitVec 32 := 256#32
  let v373 : BitVec 32 := Scalar.muli v372 c256_i32
  v373
def k0_off5 (i : grid0.Coords) : Fin 2 → Nat :=
  let arg1 : BitVec 32 := BitVec.ofNat 32 (i 1).val
  let c0_i32 : BitVec 32 := 0#32
  let v3 : BitVec 32 := Scalar.addi arg1 c0_i32
  let c0_i32_191 : BitVec 32 := 0#32
  let v372 : BitVec 32 := Scalar.subi v3 c0_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off6 (i : grid0.Coords) : Fin 3 → Nat :=
  let arg1 : BitVec 32 := BitVec.ofNat 32 (i 1).val
  let c0_i32 : BitVec 32 := 0#32
  let v3 : BitVec 32 := Scalar.addi arg1 c0_i32
  let c0_i32_191 : BitVec 32 := 0#32
  let v372 : BitVec 32 := Scalar.subi v3 c0_i32_191
  let c0_i32_227 : BitVec 32 := 0#32
  let v478 : BitVec 32 := Scalar.addi v372 c0_i32_227
  let v479 : Index := Scalar.indexCast v478
  let c0_228 : Index := 0#32
  let c0_229 : Index := 0#32
  ![v479.toNat, 0, 0]
def k0_cond3 (i : grid0.Coords) : BitVec 1 :=
  let arg1 : BitVec 32 := BitVec.ofNat 32 (i 1).val
  let c0_i32 : BitVec 32 := 0#32
  let v3 : BitVec 32 := Scalar.addi arg1 c0_i32
  let c4_i32_37 : BitVec 32 := 4#32
  let c0_i32_38 : BitVec 32 := 0#32
  let v99 : BitVec 1 := Scalar.cmpi .eq c4_i32_37 c0_i32_38
  let c1_i32_39 : BitVec 32 := 1#32
  let v100 : BitVec 32 := Scalar.select v99 c1_i32_39 c4_i32_37
  let v101 : BitVec 32 := Scalar.remsi v3 v100
  let c0_i32_41 : BitVec 32 := 0#32
  let v103 : BitVec 1 := Scalar.cmpi .slt v101 c0_i32_41
  let c0_i32_42 : BitVec 32 := 0#32
  let v104 : BitVec 1 := Scalar.cmpi .slt v100 c0_i32_42
  let v105 : BitVec 1 := Scalar.xori v103 v104
  let c0_i32_40 : BitVec 32 := 0#32
  let v102 : BitVec 1 := Scalar.cmpi .ne v101 c0_i32_40
  let v106 : BitVec 1 := Scalar.andi v105 v102
  let v107 : BitVec 32 := Scalar.addi v101 v100
  let v108 : BitVec 32 := Scalar.select v106 v107 v101
  let c1_i32_43 : BitVec 32 := 1#32
  let v109 : BitVec 1 := Scalar.cmpi .eq v108 c1_i32_43
  let v110 : BitVec 32 := Scalar.extui v109
  let c0_i32_44 : BitVec 32 := 0#32
  let v111 : BitVec 1 := Scalar.cmpi .ne v110 c0_i32_44
  v111

def k0_mult4 (i : grid0.Coords) : BitVec 32 :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let c256_i32 : BitVec 32 := 256#32
  let v373 : BitVec 32 := Scalar.muli v372 c256_i32
  v373
def k0_off7 (i : grid0.Coords) : Fin 2 → Nat :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off8 (i : grid0.Coords) (c0_i32_226 : BitVec 32) : Fin 3 → Nat :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v477 : BitVec 32 := Scalar.addi v372 c0_i32_226
  let v478 : Index := Scalar.indexCast v477
  let c0_227 : Index := 0#32
  let c0_228 : Index := 0#32
  ![v478.toNat, 0, 0]
def k0_cond4 (i : grid0.Coords) : BitVec 1 :=
  let arg1 : BitVec 32 := BitVec.ofNat 32 (i 1).val
  let c0_i32 : BitVec 32 := 0#32
  let v3 : BitVec 32 := Scalar.addi arg1 c0_i32
  let c4_i32_45 : BitVec 32 := 4#32
  let c0_i32_46 : BitVec 32 := 0#32
  let v112 : BitVec 1 := Scalar.cmpi .eq c4_i32_45 c0_i32_46
  let c1_i32_47 : BitVec 32 := 1#32
  let v113 : BitVec 32 := Scalar.select v112 c1_i32_47 c4_i32_45
  let v114 : BitVec 32 := Scalar.remsi v3 v113
  let c0_i32_49 : BitVec 32 := 0#32
  let v116 : BitVec 1 := Scalar.cmpi .slt v114 c0_i32_49
  let c0_i32_50 : BitVec 32 := 0#32
  let v117 : BitVec 1 := Scalar.cmpi .slt v113 c0_i32_50
  let v118 : BitVec 1 := Scalar.xori v116 v117
  let c0_i32_48 : BitVec 32 := 0#32
  let v115 : BitVec 1 := Scalar.cmpi .ne v114 c0_i32_48
  let v119 : BitVec 1 := Scalar.andi v118 v115
  let v120 : BitVec 32 := Scalar.addi v114 v113
  let v121 : BitVec 32 := Scalar.select v119 v120 v114
  let c2_i32 : BitVec 32 := 2#32
  let v122 : BitVec 1 := Scalar.cmpi .eq v121 c2_i32
  let v123 : BitVec 32 := Scalar.extui v122
  let c0_i32_51 : BitVec 32 := 0#32
  let v124 : BitVec 1 := Scalar.cmpi .ne v123 c0_i32_51
  v124

def k0_mult5 (i : grid0.Coords) : BitVec 32 :=
  let arg1 : BitVec 32 := BitVec.ofNat 32 (i 1).val
  let c0_i32 : BitVec 32 := 0#32
  let v3 : BitVec 32 := Scalar.addi arg1 c0_i32
  let c2_i32_191 : BitVec 32 := 2#32
  let v372 : BitVec 32 := Scalar.subi v3 c2_i32_191
  let c256_i32 : BitVec 32 := 256#32
  let v373 : BitVec 32 := Scalar.muli v372 c256_i32
  v373
def k0_off9 (i : grid0.Coords) : Fin 2 → Nat :=
  let arg1 : BitVec 32 := BitVec.ofNat 32 (i 1).val
  let c0_i32 : BitVec 32 := 0#32
  let v3 : BitVec 32 := Scalar.addi arg1 c0_i32
  let c2_i32_191 : BitVec 32 := 2#32
  let v372 : BitVec 32 := Scalar.subi v3 c2_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off10 (i : grid0.Coords) (c0_i32_226 : BitVec 32) : Fin 3 → Nat :=
  let arg1 : BitVec 32 := BitVec.ofNat 32 (i 1).val
  let c0_i32 : BitVec 32 := 0#32
  let v3 : BitVec 32 := Scalar.addi arg1 c0_i32
  let c2_i32_191 : BitVec 32 := 2#32
  let v372 : BitVec 32 := Scalar.subi v3 c2_i32_191
  let v477 : BitVec 32 := Scalar.addi v372 c0_i32_226
  let v478 : Index := Scalar.indexCast v477
  let c0_227 : Index := 0#32
  let c0_228 : Index := 0#32
  ![v478.toNat, 0, 0]
def k0_cond5 (i : grid0.Coords) : BitVec 1 :=
  let arg1 : BitVec 32 := BitVec.ofNat 32 (i 1).val
  let c0_i32 : BitVec 32 := 0#32
  let v3 : BitVec 32 := Scalar.addi arg1 c0_i32
  let c4_i32_52 : BitVec 32 := 4#32
  let c0_i32_53 : BitVec 32 := 0#32
  let v125 : BitVec 1 := Scalar.cmpi .eq c4_i32_52 c0_i32_53
  let c1_i32_54 : BitVec 32 := 1#32
  let v126 : BitVec 32 := Scalar.select v125 c1_i32_54 c4_i32_52
  let v127 : BitVec 32 := Scalar.remsi v3 v126
  let c0_i32_56 : BitVec 32 := 0#32
  let v129 : BitVec 1 := Scalar.cmpi .slt v127 c0_i32_56
  let c0_i32_57 : BitVec 32 := 0#32
  let v130 : BitVec 1 := Scalar.cmpi .slt v126 c0_i32_57
  let v131 : BitVec 1 := Scalar.xori v129 v130
  let c0_i32_55 : BitVec 32 := 0#32
  let v128 : BitVec 1 := Scalar.cmpi .ne v127 c0_i32_55
  let v132 : BitVec 1 := Scalar.andi v131 v128
  let v133 : BitVec 32 := Scalar.addi v127 v126
  let v134 : BitVec 32 := Scalar.select v132 v133 v127
  let c3_i32 : BitVec 32 := 3#32
  let v135 : BitVec 1 := Scalar.cmpi .eq v134 c3_i32
  let v136 : BitVec 32 := Scalar.extui v135
  let c0_i32_58 : BitVec 32 := 0#32
  let v137 : BitVec 1 := Scalar.cmpi .ne v136 c0_i32_58
  v137

def k0_mult6 (i : grid0.Coords) : BitVec 32 :=
  let arg1 : BitVec 32 := BitVec.ofNat 32 (i 1).val
  let c0_i32 : BitVec 32 := 0#32
  let v3 : BitVec 32 := Scalar.addi arg1 c0_i32
  let c3_i32_191 : BitVec 32 := 3#32
  let v372 : BitVec 32 := Scalar.subi v3 c3_i32_191
  let c256_i32 : BitVec 32 := 256#32
  let v373 : BitVec 32 := Scalar.muli v372 c256_i32
  v373
def k0_off11 (i : grid0.Coords) : Fin 2 → Nat :=
  let arg1 : BitVec 32 := BitVec.ofNat 32 (i 1).val
  let c0_i32 : BitVec 32 := 0#32
  let v3 : BitVec 32 := Scalar.addi arg1 c0_i32
  let c3_i32_191 : BitVec 32 := 3#32
  let v372 : BitVec 32 := Scalar.subi v3 c3_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off12 (i : grid0.Coords) (c0_i32_226 : BitVec 32) : Fin 3 → Nat :=
  let arg1 : BitVec 32 := BitVec.ofNat 32 (i 1).val
  let c0_i32 : BitVec 32 := 0#32
  let v3 : BitVec 32 := Scalar.addi arg1 c0_i32
  let c3_i32_191 : BitVec 32 := 3#32
  let v372 : BitVec 32 := Scalar.subi v3 c3_i32_191
  let v477 : BitVec 32 := Scalar.addi v372 c0_i32_226
  let v478 : Index := Scalar.indexCast v477
  let c0_227 : Index := 0#32
  let c0_228 : Index := 0#32
  ![v478.toNat, 0, 0]
def k0_cond6 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c0_i32_60 : BitVec 32 := 0#32
  let v140 : BitVec 1 := Scalar.cmpi .ne v139 c0_i32_60
  v140

def k0_cond7 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c0_i32_192 : BitVec 32 := 0#32
  let v373 : BitVec 1 := Scalar.cmpi .ne v372 c0_i32_192
  v373

def k0_cond8 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c1_i32_193 : BitVec 32 := 1#32
  let v375 : BitVec 32 := Scalar.subi v372 c1_i32_193
  let c0_i32_194 : BitVec 32 := 0#32
  let v376 : BitVec 1 := Scalar.cmpi .ne v375 c0_i32_194
  v376

def k0_cond9 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c1_i32_193 : BitVec 32 := 1#32
  let v375 : BitVec 32 := Scalar.subi v372 c1_i32_193
  let c1_i32_195 : BitVec 32 := 1#32
  let v378 : BitVec 32 := Scalar.subi v375 c1_i32_195
  let c0_i32_196 : BitVec 32 := 0#32
  let v379 : BitVec 1 := Scalar.cmpi .ne v378 c0_i32_196
  v379

def k0_cond10 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c1_i32_193 : BitVec 32 := 1#32
  let v375 : BitVec 32 := Scalar.subi v372 c1_i32_193
  let c1_i32_195 : BitVec 32 := 1#32
  let v378 : BitVec 32 := Scalar.subi v375 c1_i32_195
  let c1_i32_197 : BitVec 32 := 1#32
  let v381 : BitVec 32 := Scalar.subi v378 c1_i32_197
  let c0_i32_198 : BitVec 32 := 0#32
  let v382 : BitVec 1 := Scalar.cmpi .ne v381 c0_i32_198
  v382

def k0_cond11 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c1_i32_193 : BitVec 32 := 1#32
  let v375 : BitVec 32 := Scalar.subi v372 c1_i32_193
  let c1_i32_195 : BitVec 32 := 1#32
  let v378 : BitVec 32 := Scalar.subi v375 c1_i32_195
  let c1_i32_197 : BitVec 32 := 1#32
  let v381 : BitVec 32 := Scalar.subi v378 c1_i32_197
  let c1_i32_199 : BitVec 32 := 1#32
  let v384 : BitVec 32 := Scalar.subi v381 c1_i32_199
  let c0_i32_200 : BitVec 32 := 0#32
  let v385 : BitVec 1 := Scalar.cmpi .ne v384 c0_i32_200
  v385

def k0_cond12 (i : grid0.Coords) : BitVec 1 :=
  let arg1 : BitVec 32 := BitVec.ofNat 32 (i 1).val
  let c0_i32_59 : BitVec 32 := 0#32
  let v138 : BitVec 32 := Scalar.maxsi arg1 c0_i32_59
  let c7_i32 : BitVec 32 := 7#32
  let v139 : BitVec 32 := Scalar.minsi v138 c7_i32
  let c1_i32_191 : BitVec 32 := 1#32
  let v372 : BitVec 32 := Scalar.subi v139 c1_i32_191
  let c1_i32_193 : BitVec 32 := 1#32
  let v375 : BitVec 32 := Scalar.subi v372 c1_i32_193
  let c1_i32_195 : BitVec 32 := 1#32
  let v378 : BitVec 32 := Scalar.subi v375 c1_i32_195
  let c1_i32_197 : BitVec 32 := 1#32
  let v381 : BitVec 32 := Scalar.subi v378 c1_i32_197
  let c1_i32_199 : BitVec 32 := 1#32
  let v384 : BitVec 32 := Scalar.subi v381 c1_i32_199
  let c1_i32_201 : BitVec 32 := 1#32
  let v387 : BitVec 32 := Scalar.subi v384 c1_i32_201
  let c0_i32_202 : BitVec 32 := 0#32
  let v388 : BitVec 1 := Scalar.cmpi .ne v387 c0_i32_202
  v388

@[reducible] def k0_t3_loop : Scf.Loop 32 :=
  let c0_i32_203 : BitVec 32 := 0#32
  let c16_i32 : BitVec 32 := 16#32
  let v391 : BitVec 32 := Scalar.addi c0_i32_203 c16_i32
  let c1_i32_204 : BitVec 32 := 1#32
  ⟨c0_i32_203, v391, c1_i32_204⟩
@[reducible] def k0_t4_loop : Scf.Loop 32 :=
  let c0_i32_325 : BitVec 32 := 0#32
  let c16_i32_326 : BitVec 32 := 16#32
  let v797 : BitVec 32 := Scalar.addi c0_i32_325 c16_i32_326
  let c1_i32_327 : BitVec 32 := 1#32
  ⟨c0_i32_325, v797, c1_i32_327⟩
@[reducible] def k0_t5_loop : Scf.Loop 32 :=
  let c0_i32_203 : BitVec 32 := 0#32
  let c16_i32 : BitVec 32 := 16#32
  let v391 : BitVec 32 := Scalar.addi c0_i32_203 c16_i32
  let c1_i32_204 : BitVec 32 := 1#32
  ⟨c0_i32_203, v391, c1_i32_204⟩
@[reducible] def k0_t6_loop : Scf.Loop 32 :=
  let c0_i32_310 : BitVec 32 := 0#32
  let c16_i32_311 : BitVec 32 := 16#32
  let v747 : BitVec 32 := Scalar.addi c0_i32_310 c16_i32_311
  let c1_i32_312 : BitVec 32 := 1#32
  ⟨c0_i32_310, v747, c1_i32_312⟩
@[reducible] def k0_t7_loop : Scf.Loop 32 :=
  let c0_i32_201 : BitVec 32 := 0#32
  let c16_i32 : BitVec 32 := 16#32
  let v388 : BitVec 32 := Scalar.addi c0_i32_201 c16_i32
  let c1_i32_202 : BitVec 32 := 1#32
  ⟨c0_i32_201, v388, c1_i32_202⟩
@[reducible] def k0_t8_loop : Scf.Loop 32 :=
  let c0_i32_293 : BitVec 32 := 0#32
  let c16_i32_294 : BitVec 32 := 16#32
  let v694 : BitVec 32 := Scalar.addi c0_i32_293 c16_i32_294
  let c1_i32_295 : BitVec 32 := 1#32
  ⟨c0_i32_293, v694, c1_i32_295⟩
@[reducible] def k0_t9_loop : Scf.Loop 32 :=
  let c0_i32_199 : BitVec 32 := 0#32
  let c16_i32 : BitVec 32 := 16#32
  let v385 : BitVec 32 := Scalar.addi c0_i32_199 c16_i32
  let c1_i32_200 : BitVec 32 := 1#32
  ⟨c0_i32_199, v385, c1_i32_200⟩
@[reducible] def k0_t10_loop : Scf.Loop 32 :=
  let c0_i32_276 : BitVec 32 := 0#32
  let c16_i32_277 : BitVec 32 := 16#32
  let v641 : BitVec 32 := Scalar.addi c0_i32_276 c16_i32_277
  let c1_i32_278 : BitVec 32 := 1#32
  ⟨c0_i32_276, v641, c1_i32_278⟩
@[reducible] def k0_t11_loop : Scf.Loop 32 :=
  let c0_i32_197 : BitVec 32 := 0#32
  let c16_i32 : BitVec 32 := 16#32
  let v382 : BitVec 32 := Scalar.addi c0_i32_197 c16_i32
  let c1_i32_198 : BitVec 32 := 1#32
  ⟨c0_i32_197, v382, c1_i32_198⟩
@[reducible] def k0_t12_loop : Scf.Loop 32 :=
  let c0_i32_259 : BitVec 32 := 0#32
  let c16_i32_260 : BitVec 32 := 16#32
  let v588 : BitVec 32 := Scalar.addi c0_i32_259 c16_i32_260
  let c1_i32_261 : BitVec 32 := 1#32
  ⟨c0_i32_259, v588, c1_i32_261⟩
@[reducible] def k0_t13_loop : Scf.Loop 32 :=
  let c0_i32_195 : BitVec 32 := 0#32
  let c16_i32 : BitVec 32 := 16#32
  let v379 : BitVec 32 := Scalar.addi c0_i32_195 c16_i32
  let c1_i32_196 : BitVec 32 := 1#32
  ⟨c0_i32_195, v379, c1_i32_196⟩
@[reducible] def k0_t14_loop : Scf.Loop 32 :=
  let c0_i32_242 : BitVec 32 := 0#32
  let c16_i32_243 : BitVec 32 := 16#32
  let v535 : BitVec 32 := Scalar.addi c0_i32_242 c16_i32_243
  let c1_i32_244 : BitVec 32 := 1#32
  ⟨c0_i32_242, v535, c1_i32_244⟩
@[reducible] def k0_t15_loop : Scf.Loop 32 :=
  let c0_i32_193 : BitVec 32 := 0#32
  let c16_i32 : BitVec 32 := 16#32
  let v376 : BitVec 32 := Scalar.addi c0_i32_193 c16_i32
  let c1_i32_194 : BitVec 32 := 1#32
  ⟨c0_i32_193, v376, c1_i32_194⟩
@[reducible] def k0_t16_loop : Scf.Loop 32 :=
  let c0_i32_225 : BitVec 32 := 0#32
  let c16_i32_226 : BitVec 32 := 16#32
  let v482 : BitVec 32 := Scalar.addi c0_i32_225 c16_i32_226
  let c1_i32_227 : BitVec 32 := 1#32
  ⟨c0_i32_225, v482, c1_i32_227⟩
@[reducible] def k0_t17_loop : Scf.Loop 32 :=
  let c0_i32_191 : BitVec 32 := 0#32
  let c16_i32 : BitVec 32 := 16#32
  let v373 : BitVec 32 := Scalar.addi c0_i32_191 c16_i32
  let c1_i32_192 : BitVec 32 := 1#32
  ⟨c0_i32_191, v373, c1_i32_192⟩
@[reducible] def k0_t18_loop : Scf.Loop 32 :=
  let c0_i32_208 : BitVec 32 := 0#32
  let c16_i32_209 : BitVec 32 := 16#32
  let v429 : BitVec 32 := Scalar.addi c0_i32_208 c16_i32_209
  let c1_i32_210 : BitVec 32 := 1#32
  ⟨c0_i32_208, v429, c1_i32_210⟩
@[reducible] def k0_t19_loop (i : grid0.Coords) : Scf.Loop 32 :=
  let c0_i32_61 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v143 : BitVec 32 := Scalar.subi v4 c0_i32_61
  let c1_i32_62 : BitVec 32 := 1#32
  let v145 : BitVec 32 := Scalar.divsi v143 c1_i32_62
  let v146 : BitVec 32 := Scalar.muli v145 c1_i32_62
  let v147 : BitVec 32 := Scalar.addi c0_i32_61 v146
  let c1_i32_63 : BitVec 32 := 1#32
  ⟨c0_i32_61, v147, c1_i32_63⟩
def k0_off13 (i : grid0.Coords) (k0_t19 : Fin (k0_t19_loop i).trips) : Fin 3 → Nat :=
  let c0_i32_61 : BitVec 32 := 0#32
  let c1_i32_63 : BitVec 32 := 1#32
  let arg23 : BitVec 32 := Scf.iv c0_i32_61 c1_i32_63 k0_t19
  let v372 : Index := Scalar.indexCast arg23
  let c0_191 : Index := 0#32
  let c0_192 : Index := 0#32
  ![v372.toNat, 0, 0]
@[reducible] def k0_t20_loop (i : grid0.Coords) : Scf.Loop 32 :=
  let c0_i32_61 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v143 : BitVec 32 := Scalar.subi v4 c0_i32_61
  let c1_i32_62 : BitVec 32 := 1#32
  let v145 : BitVec 32 := Scalar.divsi v143 c1_i32_62
  let v146 : BitVec 32 := Scalar.muli v145 c1_i32_62
  let v147 : BitVec 32 := Scalar.addi c0_i32_61 v146
  let v144 : BitVec 32 := Scalar.addi c0_i32_61 v143
  let c1_i32_64 : BitVec 32 := 1#32
  ⟨v147, v144, c1_i32_64⟩
def k0_off14 (i : grid0.Coords) (k0_t20 : Fin (k0_t20_loop i).trips) : Fin 3 → Nat :=
  let c0_i32_61 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v143 : BitVec 32 := Scalar.subi v4 c0_i32_61
  let c1_i32_62 : BitVec 32 := 1#32
  let v145 : BitVec 32 := Scalar.divsi v143 c1_i32_62
  let v146 : BitVec 32 := Scalar.muli v145 c1_i32_62
  let v147 : BitVec 32 := Scalar.addi c0_i32_61 v146
  let c1_i32_64 : BitVec 32 := 1#32
  let arg23 : BitVec 32 := Scf.iv v147 c1_i32_64 k0_t20
  let v372 : Index := Scalar.indexCast arg23
  let c0_191 : Index := 0#32
  let c0_192 : Index := 0#32
  ![v372.toNat, 0, 0]
@[reducible] def k0_t21_loop (i : grid0.Coords) : Scf.Loop 32 :=
  let c0_i32_191 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v374 : BitVec 32 := Scalar.subi v4 c0_i32_191
  let c1_i32_193 : BitVec 32 := 1#32
  let v376 : BitVec 32 := Scalar.divsi v374 c1_i32_193
  let v377 : BitVec 32 := Scalar.muli v376 c1_i32_193
  let v378 : BitVec 32 := Scalar.addi c0_i32_191 v377
  let c1_i32_194 : BitVec 32 := 1#32
  ⟨c0_i32_191, v378, c1_i32_194⟩
def k0_off15 (i : grid0.Coords) (k0_t21 : Fin (k0_t21_loop i).trips) : Fin 3 → Nat :=
  let c0_i32_191 : BitVec 32 := 0#32
  let c1_i32_194 : BitVec 32 := 1#32
  let arg23 : BitVec 32 := Scf.iv c0_i32_191 c1_i32_194 k0_t21
  let v381 : Index := Scalar.indexCast arg23
  let c0_196 : Index := 0#32
  let c0_197 : Index := 0#32
  ![v381.toNat, 0, 0]
@[reducible] def k0_t22_loop (i : grid0.Coords) : Scf.Loop 32 :=
  let c0_i32_191 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v374 : BitVec 32 := Scalar.subi v4 c0_i32_191
  let c1_i32_193 : BitVec 32 := 1#32
  let v376 : BitVec 32 := Scalar.divsi v374 c1_i32_193
  let v377 : BitVec 32 := Scalar.muli v376 c1_i32_193
  let v378 : BitVec 32 := Scalar.addi c0_i32_191 v377
  let v375 : BitVec 32 := Scalar.addi c0_i32_191 v374
  let c1_i32_195 : BitVec 32 := 1#32
  ⟨v378, v375, c1_i32_195⟩
def k0_off16 (i : grid0.Coords) (k0_t22 : Fin (k0_t22_loop i).trips) : Fin 3 → Nat :=
  let c0_i32_191 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v374 : BitVec 32 := Scalar.subi v4 c0_i32_191
  let c1_i32_193 : BitVec 32 := 1#32
  let v376 : BitVec 32 := Scalar.divsi v374 c1_i32_193
  let v377 : BitVec 32 := Scalar.muli v376 c1_i32_193
  let v378 : BitVec 32 := Scalar.addi c0_i32_191 v377
  let c1_i32_195 : BitVec 32 := 1#32
  let arg23 : BitVec 32 := Scf.iv v378 c1_i32_195 k0_t22
  let v381 : Index := Scalar.indexCast arg23
  let c0_196 : Index := 0#32
  let c0_197 : Index := 0#32
  ![v381.toNat, 0, 0]
@[reducible] def k0_t23_loop (i : grid0.Coords) : Scf.Loop 32 :=
  let c0_i32_192 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v373 : BitVec 32 := Scalar.subi v4 c0_i32_192
  let c1_i32_193 : BitVec 32 := 1#32
  let v375 : BitVec 32 := Scalar.divsi v373 c1_i32_193
  let v376 : BitVec 32 := Scalar.muli v375 c1_i32_193
  let v377 : BitVec 32 := Scalar.addi c0_i32_192 v376
  let c1_i32_194 : BitVec 32 := 1#32
  ⟨c0_i32_192, v377, c1_i32_194⟩
def k0_off17 (i : grid0.Coords) (k0_t23 : Fin (k0_t23_loop i).trips) : Fin 3 → Nat :=
  let c0_i32_192 : BitVec 32 := 0#32
  let c1_i32_194 : BitVec 32 := 1#32
  let arg23 : BitVec 32 := Scf.iv c0_i32_192 c1_i32_194 k0_t23
  let v550 : Index := Scalar.indexCast arg23
  let c0_274 : Index := 0#32
  let c0_275 : Index := 0#32
  ![v550.toNat, 0, 0]
@[reducible] def k0_t24_loop (i : grid0.Coords) : Scf.Loop 32 :=
  let c0_i32_192 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v373 : BitVec 32 := Scalar.subi v4 c0_i32_192
  let c1_i32_193 : BitVec 32 := 1#32
  let v375 : BitVec 32 := Scalar.divsi v373 c1_i32_193
  let v376 : BitVec 32 := Scalar.muli v375 c1_i32_193
  let v377 : BitVec 32 := Scalar.addi c0_i32_192 v376
  let v374 : BitVec 32 := Scalar.addi c0_i32_192 v373
  let c1_i32_195 : BitVec 32 := 1#32
  ⟨v377, v374, c1_i32_195⟩
def k0_off18 (i : grid0.Coords) (k0_t24 : Fin (k0_t24_loop i).trips) : Fin 3 → Nat :=
  let c0_i32_192 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v373 : BitVec 32 := Scalar.subi v4 c0_i32_192
  let c1_i32_193 : BitVec 32 := 1#32
  let v375 : BitVec 32 := Scalar.divsi v373 c1_i32_193
  let v376 : BitVec 32 := Scalar.muli v375 c1_i32_193
  let v377 : BitVec 32 := Scalar.addi c0_i32_192 v376
  let c1_i32_195 : BitVec 32 := 1#32
  let arg23 : BitVec 32 := Scf.iv v377 c1_i32_195 k0_t24
  let v550 : Index := Scalar.indexCast arg23
  let c0_274 : Index := 0#32
  let c0_275 : Index := 0#32
  ![v550.toNat, 0, 0]
@[reducible] def k0_t25_loop (i : grid0.Coords) : Scf.Loop 32 :=
  let c0_i32_200 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v388 : BitVec 32 := Scalar.subi v4 c0_i32_200
  let c1_i32_201 : BitVec 32 := 1#32
  let v390 : BitVec 32 := Scalar.divsi v388 c1_i32_201
  let v391 : BitVec 32 := Scalar.muli v390 c1_i32_201
  let v392 : BitVec 32 := Scalar.addi c0_i32_200 v391
  let c1_i32_202 : BitVec 32 := 1#32
  ⟨c0_i32_200, v392, c1_i32_202⟩
def k0_off19 (i : grid0.Coords) (k0_t25 : Fin (k0_t25_loop i).trips) : Fin 3 → Nat :=
  let c0_i32_200 : BitVec 32 := 0#32
  let c1_i32_202 : BitVec 32 := 1#32
  let arg23 : BitVec 32 := Scf.iv c0_i32_200 c1_i32_202 k0_t25
  let v550 : Index := Scalar.indexCast arg23
  let c0_274 : Index := 0#32
  let c0_275 : Index := 0#32
  ![v550.toNat, 0, 0]
@[reducible] def k0_t26_loop (i : grid0.Coords) : Scf.Loop 32 :=
  let c0_i32_200 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v388 : BitVec 32 := Scalar.subi v4 c0_i32_200
  let c1_i32_201 : BitVec 32 := 1#32
  let v390 : BitVec 32 := Scalar.divsi v388 c1_i32_201
  let v391 : BitVec 32 := Scalar.muli v390 c1_i32_201
  let v392 : BitVec 32 := Scalar.addi c0_i32_200 v391
  let v389 : BitVec 32 := Scalar.addi c0_i32_200 v388
  let c1_i32_203 : BitVec 32 := 1#32
  ⟨v392, v389, c1_i32_203⟩
def k0_off20 (i : grid0.Coords) (k0_t26 : Fin (k0_t26_loop i).trips) : Fin 3 → Nat :=
  let c0_i32_200 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v388 : BitVec 32 := Scalar.subi v4 c0_i32_200
  let c1_i32_201 : BitVec 32 := 1#32
  let v390 : BitVec 32 := Scalar.divsi v388 c1_i32_201
  let v391 : BitVec 32 := Scalar.muli v390 c1_i32_201
  let v392 : BitVec 32 := Scalar.addi c0_i32_200 v391
  let c1_i32_203 : BitVec 32 := 1#32
  let arg23 : BitVec 32 := Scf.iv v392 c1_i32_203 k0_t26
  let v550 : Index := Scalar.indexCast arg23
  let c0_274 : Index := 0#32
  let c0_275 : Index := 0#32
  ![v550.toNat, 0, 0]
@[reducible] def k0_t27_loop (i : grid0.Coords) : Scf.Loop 32 :=
  let c0_i32_206 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v402 : BitVec 32 := Scalar.subi v4 c0_i32_206
  let c1_i32_207 : BitVec 32 := 1#32
  let v404 : BitVec 32 := Scalar.divsi v402 c1_i32_207
  let v405 : BitVec 32 := Scalar.muli v404 c1_i32_207
  let v406 : BitVec 32 := Scalar.addi c0_i32_206 v405
  let c1_i32_208 : BitVec 32 := 1#32
  ⟨c0_i32_206, v406, c1_i32_208⟩
def k0_off21 (i : grid0.Coords) (k0_t27 : Fin (k0_t27_loop i).trips) : Fin 3 → Nat :=
  let c0_i32_206 : BitVec 32 := 0#32
  let c1_i32_208 : BitVec 32 := 1#32
  let arg23 : BitVec 32 := Scf.iv c0_i32_206 c1_i32_208 k0_t27
  let v550 : Index := Scalar.indexCast arg23
  let c0_274 : Index := 0#32
  let c0_275 : Index := 0#32
  ![v550.toNat, 0, 0]
@[reducible] def k0_t28_loop (i : grid0.Coords) : Scf.Loop 32 :=
  let c0_i32_206 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v402 : BitVec 32 := Scalar.subi v4 c0_i32_206
  let c1_i32_207 : BitVec 32 := 1#32
  let v404 : BitVec 32 := Scalar.divsi v402 c1_i32_207
  let v405 : BitVec 32 := Scalar.muli v404 c1_i32_207
  let v406 : BitVec 32 := Scalar.addi c0_i32_206 v405
  let v403 : BitVec 32 := Scalar.addi c0_i32_206 v402
  let c1_i32_209 : BitVec 32 := 1#32
  ⟨v406, v403, c1_i32_209⟩
def k0_off22 (i : grid0.Coords) (k0_t28 : Fin (k0_t28_loop i).trips) : Fin 3 → Nat :=
  let c0_i32_206 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v402 : BitVec 32 := Scalar.subi v4 c0_i32_206
  let c1_i32_207 : BitVec 32 := 1#32
  let v404 : BitVec 32 := Scalar.divsi v402 c1_i32_207
  let v405 : BitVec 32 := Scalar.muli v404 c1_i32_207
  let v406 : BitVec 32 := Scalar.addi c0_i32_206 v405
  let c1_i32_209 : BitVec 32 := 1#32
  let arg23 : BitVec 32 := Scf.iv v406 c1_i32_209 k0_t28
  let v550 : Index := Scalar.indexCast arg23
  let c0_274 : Index := 0#32
  let c0_275 : Index := 0#32
  ![v550.toNat, 0, 0]
@[reducible] def k0_t29_loop (i : grid0.Coords) : Scf.Loop 32 :=
  let c0_i32_212 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v416 : BitVec 32 := Scalar.subi v4 c0_i32_212
  let c1_i32_213 : BitVec 32 := 1#32
  let v418 : BitVec 32 := Scalar.divsi v416 c1_i32_213
  let v419 : BitVec 32 := Scalar.muli v418 c1_i32_213
  let v420 : BitVec 32 := Scalar.addi c0_i32_212 v419
  let c1_i32_214 : BitVec 32 := 1#32
  ⟨c0_i32_212, v420, c1_i32_214⟩
def k0_off23 (i : grid0.Coords) (k0_t29 : Fin (k0_t29_loop i).trips) : Fin 3 → Nat :=
  let c0_i32_212 : BitVec 32 := 0#32
  let c1_i32_214 : BitVec 32 := 1#32
  let arg23 : BitVec 32 := Scf.iv c0_i32_212 c1_i32_214 k0_t29
  let v550 : Index := Scalar.indexCast arg23
  let c0_274 : Index := 0#32
  let c0_275 : Index := 0#32
  ![v550.toNat, 0, 0]
@[reducible] def k0_t30_loop (i : grid0.Coords) : Scf.Loop 32 :=
  let c0_i32_212 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v416 : BitVec 32 := Scalar.subi v4 c0_i32_212
  let c1_i32_213 : BitVec 32 := 1#32
  let v418 : BitVec 32 := Scalar.divsi v416 c1_i32_213
  let v419 : BitVec 32 := Scalar.muli v418 c1_i32_213
  let v420 : BitVec 32 := Scalar.addi c0_i32_212 v419
  let v417 : BitVec 32 := Scalar.addi c0_i32_212 v416
  let c1_i32_215 : BitVec 32 := 1#32
  ⟨v420, v417, c1_i32_215⟩
def k0_off24 (i : grid0.Coords) (k0_t30 : Fin (k0_t30_loop i).trips) : Fin 3 → Nat :=
  let c0_i32_212 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v416 : BitVec 32 := Scalar.subi v4 c0_i32_212
  let c1_i32_213 : BitVec 32 := 1#32
  let v418 : BitVec 32 := Scalar.divsi v416 c1_i32_213
  let v419 : BitVec 32 := Scalar.muli v418 c1_i32_213
  let v420 : BitVec 32 := Scalar.addi c0_i32_212 v419
  let c1_i32_215 : BitVec 32 := 1#32
  let arg23 : BitVec 32 := Scf.iv v420 c1_i32_215 k0_t30
  let v550 : Index := Scalar.indexCast arg23
  let c0_274 : Index := 0#32
  let c0_275 : Index := 0#32
  ![v550.toNat, 0, 0]
@[reducible] def k0_t31_loop (i : grid0.Coords) : Scf.Loop 32 :=
  let c0_i32_218 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v430 : BitVec 32 := Scalar.subi v4 c0_i32_218
  let c1_i32_219 : BitVec 32 := 1#32
  let v432 : BitVec 32 := Scalar.divsi v430 c1_i32_219
  let v433 : BitVec 32 := Scalar.muli v432 c1_i32_219
  let v434 : BitVec 32 := Scalar.addi c0_i32_218 v433
  let c1_i32_220 : BitVec 32 := 1#32
  ⟨c0_i32_218, v434, c1_i32_220⟩
def k0_off25 (i : grid0.Coords) (k0_t31 : Fin (k0_t31_loop i).trips) : Fin 3 → Nat :=
  let c0_i32_218 : BitVec 32 := 0#32
  let c1_i32_220 : BitVec 32 := 1#32
  let arg23 : BitVec 32 := Scf.iv c0_i32_218 c1_i32_220 k0_t31
  let v550 : Index := Scalar.indexCast arg23
  let c0_274 : Index := 0#32
  let c0_275 : Index := 0#32
  ![v550.toNat, 0, 0]
@[reducible] def k0_t32_loop (i : grid0.Coords) : Scf.Loop 32 :=
  let c0_i32_218 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v430 : BitVec 32 := Scalar.subi v4 c0_i32_218
  let c1_i32_219 : BitVec 32 := 1#32
  let v432 : BitVec 32 := Scalar.divsi v430 c1_i32_219
  let v433 : BitVec 32 := Scalar.muli v432 c1_i32_219
  let v434 : BitVec 32 := Scalar.addi c0_i32_218 v433
  let v431 : BitVec 32 := Scalar.addi c0_i32_218 v430
  let c1_i32_221 : BitVec 32 := 1#32
  ⟨v434, v431, c1_i32_221⟩
def k0_off26 (i : grid0.Coords) (k0_t32 : Fin (k0_t32_loop i).trips) : Fin 3 → Nat :=
  let c0_i32_218 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v430 : BitVec 32 := Scalar.subi v4 c0_i32_218
  let c1_i32_219 : BitVec 32 := 1#32
  let v432 : BitVec 32 := Scalar.divsi v430 c1_i32_219
  let v433 : BitVec 32 := Scalar.muli v432 c1_i32_219
  let v434 : BitVec 32 := Scalar.addi c0_i32_218 v433
  let c1_i32_221 : BitVec 32 := 1#32
  let arg23 : BitVec 32 := Scf.iv v434 c1_i32_221 k0_t32
  let v550 : Index := Scalar.indexCast arg23
  let c0_274 : Index := 0#32
  let c0_275 : Index := 0#32
  ![v550.toNat, 0, 0]
@[reducible] def k0_t33_loop (i : grid0.Coords) : Scf.Loop 32 :=
  let c0_i32_225 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v444 : BitVec 32 := Scalar.subi v4 c0_i32_225
  let c1_i32_226 : BitVec 32 := 1#32
  let v446 : BitVec 32 := Scalar.divsi v444 c1_i32_226
  let v447 : BitVec 32 := Scalar.muli v446 c1_i32_226
  let v448 : BitVec 32 := Scalar.addi c0_i32_225 v447
  let c1_i32_227 : BitVec 32 := 1#32
  ⟨c0_i32_225, v448, c1_i32_227⟩
def k0_off27 (i : grid0.Coords) (k0_t33 : Fin (k0_t33_loop i).trips) : Fin 3 → Nat :=
  let c0_i32_225 : BitVec 32 := 0#32
  let c1_i32_227 : BitVec 32 := 1#32
  let arg23 : BitVec 32 := Scf.iv c0_i32_225 c1_i32_227 k0_t33
  let v550 : Index := Scalar.indexCast arg23
  let c0_274 : Index := 0#32
  let c0_275 : Index := 0#32
  ![v550.toNat, 0, 0]
@[reducible] def k0_t34_loop (i : grid0.Coords) : Scf.Loop 32 :=
  let c0_i32_225 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v444 : BitVec 32 := Scalar.subi v4 c0_i32_225
  let c1_i32_226 : BitVec 32 := 1#32
  let v446 : BitVec 32 := Scalar.divsi v444 c1_i32_226
  let v447 : BitVec 32 := Scalar.muli v446 c1_i32_226
  let v448 : BitVec 32 := Scalar.addi c0_i32_225 v447
  let v445 : BitVec 32 := Scalar.addi c0_i32_225 v444
  let c1_i32_228 : BitVec 32 := 1#32
  ⟨v448, v445, c1_i32_228⟩
def k0_off28 (i : grid0.Coords) (k0_t34 : Fin (k0_t34_loop i).trips) : Fin 3 → Nat :=
  let c0_i32_225 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v444 : BitVec 32 := Scalar.subi v4 c0_i32_225
  let c1_i32_226 : BitVec 32 := 1#32
  let v446 : BitVec 32 := Scalar.divsi v444 c1_i32_226
  let v447 : BitVec 32 := Scalar.muli v446 c1_i32_226
  let v448 : BitVec 32 := Scalar.addi c0_i32_225 v447
  let c1_i32_228 : BitVec 32 := 1#32
  let arg23 : BitVec 32 := Scf.iv v448 c1_i32_228 k0_t34
  let v550 : Index := Scalar.indexCast arg23
  let c0_274 : Index := 0#32
  let c0_275 : Index := 0#32
  ![v550.toNat, 0, 0]
@[reducible] def k0_t35_loop (i : grid0.Coords) : Scf.Loop 32 :=
  let c0_i32_231 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v458 : BitVec 32 := Scalar.subi v4 c0_i32_231
  let c1_i32_232 : BitVec 32 := 1#32
  let v460 : BitVec 32 := Scalar.divsi v458 c1_i32_232
  let v461 : BitVec 32 := Scalar.muli v460 c1_i32_232
  let v462 : BitVec 32 := Scalar.addi c0_i32_231 v461
  let c1_i32_233 : BitVec 32 := 1#32
  ⟨c0_i32_231, v462, c1_i32_233⟩
def k0_off29 (i : grid0.Coords) (k0_t35 : Fin (k0_t35_loop i).trips) : Fin 3 → Nat :=
  let c0_i32_231 : BitVec 32 := 0#32
  let c1_i32_233 : BitVec 32 := 1#32
  let arg23 : BitVec 32 := Scf.iv c0_i32_231 c1_i32_233 k0_t35
  let v550 : Index := Scalar.indexCast arg23
  let c0_274 : Index := 0#32
  let c0_275 : Index := 0#32
  ![v550.toNat, 0, 0]
@[reducible] def k0_t36_loop (i : grid0.Coords) : Scf.Loop 32 :=
  let c0_i32_231 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v458 : BitVec 32 := Scalar.subi v4 c0_i32_231
  let c1_i32_232 : BitVec 32 := 1#32
  let v460 : BitVec 32 := Scalar.divsi v458 c1_i32_232
  let v461 : BitVec 32 := Scalar.muli v460 c1_i32_232
  let v462 : BitVec 32 := Scalar.addi c0_i32_231 v461
  let v459 : BitVec 32 := Scalar.addi c0_i32_231 v458
  let c1_i32_234 : BitVec 32 := 1#32
  ⟨v462, v459, c1_i32_234⟩
def k0_off30 (i : grid0.Coords) (k0_t36 : Fin (k0_t36_loop i).trips) : Fin 3 → Nat :=
  let c0_i32_231 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v458 : BitVec 32 := Scalar.subi v4 c0_i32_231
  let c1_i32_232 : BitVec 32 := 1#32
  let v460 : BitVec 32 := Scalar.divsi v458 c1_i32_232
  let v461 : BitVec 32 := Scalar.muli v460 c1_i32_232
  let v462 : BitVec 32 := Scalar.addi c0_i32_231 v461
  let c1_i32_234 : BitVec 32 := 1#32
  let arg23 : BitVec 32 := Scf.iv v462 c1_i32_234 k0_t36
  let v550 : Index := Scalar.indexCast arg23
  let c0_274 : Index := 0#32
  let c0_275 : Index := 0#32
  ![v550.toNat, 0, 0]
@[reducible] def k0_t37_loop (i : grid0.Coords) : Scf.Loop 32 :=
  let c0_i32_237 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v472 : BitVec 32 := Scalar.subi v4 c0_i32_237
  let c1_i32_238 : BitVec 32 := 1#32
  let v474 : BitVec 32 := Scalar.divsi v472 c1_i32_238
  let v475 : BitVec 32 := Scalar.muli v474 c1_i32_238
  let v476 : BitVec 32 := Scalar.addi c0_i32_237 v475
  let c1_i32_239 : BitVec 32 := 1#32
  ⟨c0_i32_237, v476, c1_i32_239⟩
def k0_off31 (i : grid0.Coords) (k0_t37 : Fin (k0_t37_loop i).trips) : Fin 3 → Nat :=
  let c0_i32_237 : BitVec 32 := 0#32
  let c1_i32_239 : BitVec 32 := 1#32
  let arg23 : BitVec 32 := Scf.iv c0_i32_237 c1_i32_239 k0_t37
  let v550 : Index := Scalar.indexCast arg23
  let c0_274 : Index := 0#32
  let c0_275 : Index := 0#32
  ![v550.toNat, 0, 0]
@[reducible] def k0_t38_loop (i : grid0.Coords) : Scf.Loop 32 :=
  let c0_i32_237 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v472 : BitVec 32 := Scalar.subi v4 c0_i32_237
  let c1_i32_238 : BitVec 32 := 1#32
  let v474 : BitVec 32 := Scalar.divsi v472 c1_i32_238
  let v475 : BitVec 32 := Scalar.muli v474 c1_i32_238
  let v476 : BitVec 32 := Scalar.addi c0_i32_237 v475
  let v473 : BitVec 32 := Scalar.addi c0_i32_237 v472
  let c1_i32_240 : BitVec 32 := 1#32
  ⟨v476, v473, c1_i32_240⟩
def k0_off32 (i : grid0.Coords) (k0_t38 : Fin (k0_t38_loop i).trips) : Fin 3 → Nat :=
  let c0_i32_237 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v472 : BitVec 32 := Scalar.subi v4 c0_i32_237
  let c1_i32_238 : BitVec 32 := 1#32
  let v474 : BitVec 32 := Scalar.divsi v472 c1_i32_238
  let v475 : BitVec 32 := Scalar.muli v474 c1_i32_238
  let v476 : BitVec 32 := Scalar.addi c0_i32_237 v475
  let c1_i32_240 : BitVec 32 := 1#32
  let arg23 : BitVec 32 := Scf.iv v476 c1_i32_240 k0_t38
  let v550 : Index := Scalar.indexCast arg23
  let c0_274 : Index := 0#32
  let c0_275 : Index := 0#32
  ![v550.toNat, 0, 0]
@[reducible] def k0_t39_loop (i : grid0.Coords) : Scf.Loop 32 :=
  let c0_i32_243 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v486 : BitVec 32 := Scalar.subi v4 c0_i32_243
  let c1_i32_244 : BitVec 32 := 1#32
  let v488 : BitVec 32 := Scalar.divsi v486 c1_i32_244
  let v489 : BitVec 32 := Scalar.muli v488 c1_i32_244
  let v490 : BitVec 32 := Scalar.addi c0_i32_243 v489
  let c1_i32_245 : BitVec 32 := 1#32
  ⟨c0_i32_243, v490, c1_i32_245⟩
def k0_off33 (i : grid0.Coords) (k0_t39 : Fin (k0_t39_loop i).trips) : Fin 3 → Nat :=
  let c0_i32_243 : BitVec 32 := 0#32
  let c1_i32_245 : BitVec 32 := 1#32
  let arg23 : BitVec 32 := Scf.iv c0_i32_243 c1_i32_245 k0_t39
  let v550 : Index := Scalar.indexCast arg23
  let c0_274 : Index := 0#32
  let c0_275 : Index := 0#32
  ![v550.toNat, 0, 0]
@[reducible] def k0_t40_loop (i : grid0.Coords) : Scf.Loop 32 :=
  let c0_i32_243 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v486 : BitVec 32 := Scalar.subi v4 c0_i32_243
  let c1_i32_244 : BitVec 32 := 1#32
  let v488 : BitVec 32 := Scalar.divsi v486 c1_i32_244
  let v489 : BitVec 32 := Scalar.muli v488 c1_i32_244
  let v490 : BitVec 32 := Scalar.addi c0_i32_243 v489
  let v487 : BitVec 32 := Scalar.addi c0_i32_243 v486
  let c1_i32_246 : BitVec 32 := 1#32
  ⟨v490, v487, c1_i32_246⟩
def k0_off34 (i : grid0.Coords) (k0_t40 : Fin (k0_t40_loop i).trips) : Fin 3 → Nat :=
  let c0_i32_243 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v486 : BitVec 32 := Scalar.subi v4 c0_i32_243
  let c1_i32_244 : BitVec 32 := 1#32
  let v488 : BitVec 32 := Scalar.divsi v486 c1_i32_244
  let v489 : BitVec 32 := Scalar.muli v488 c1_i32_244
  let v490 : BitVec 32 := Scalar.addi c0_i32_243 v489
  let c1_i32_246 : BitVec 32 := 1#32
  let arg23 : BitVec 32 := Scf.iv v490 c1_i32_246 k0_t40
  let v550 : Index := Scalar.indexCast arg23
  let c0_274 : Index := 0#32
  let c0_275 : Index := 0#32
  ![v550.toNat, 0, 0]
@[reducible] def k0_t41_loop (i : grid0.Coords) : Scf.Loop 32 :=
  let c0_i32_250 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v500 : BitVec 32 := Scalar.subi v4 c0_i32_250
  let c1_i32_251 : BitVec 32 := 1#32
  let v502 : BitVec 32 := Scalar.divsi v500 c1_i32_251
  let v503 : BitVec 32 := Scalar.muli v502 c1_i32_251
  let v504 : BitVec 32 := Scalar.addi c0_i32_250 v503
  let c1_i32_252 : BitVec 32 := 1#32
  ⟨c0_i32_250, v504, c1_i32_252⟩
def k0_off35 (i : grid0.Coords) (k0_t41 : Fin (k0_t41_loop i).trips) : Fin 3 → Nat :=
  let c0_i32_250 : BitVec 32 := 0#32
  let c1_i32_252 : BitVec 32 := 1#32
  let arg23 : BitVec 32 := Scf.iv c0_i32_250 c1_i32_252 k0_t41
  let v550 : Index := Scalar.indexCast arg23
  let c0_274 : Index := 0#32
  let c0_275 : Index := 0#32
  ![v550.toNat, 0, 0]
@[reducible] def k0_t42_loop (i : grid0.Coords) : Scf.Loop 32 :=
  let c0_i32_250 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v500 : BitVec 32 := Scalar.subi v4 c0_i32_250
  let c1_i32_251 : BitVec 32 := 1#32
  let v502 : BitVec 32 := Scalar.divsi v500 c1_i32_251
  let v503 : BitVec 32 := Scalar.muli v502 c1_i32_251
  let v504 : BitVec 32 := Scalar.addi c0_i32_250 v503
  let v501 : BitVec 32 := Scalar.addi c0_i32_250 v500
  let c1_i32_253 : BitVec 32 := 1#32
  ⟨v504, v501, c1_i32_253⟩
def k0_off36 (i : grid0.Coords) (k0_t42 : Fin (k0_t42_loop i).trips) : Fin 3 → Nat :=
  let c0_i32_250 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v500 : BitVec 32 := Scalar.subi v4 c0_i32_250
  let c1_i32_251 : BitVec 32 := 1#32
  let v502 : BitVec 32 := Scalar.divsi v500 c1_i32_251
  let v503 : BitVec 32 := Scalar.muli v502 c1_i32_251
  let v504 : BitVec 32 := Scalar.addi c0_i32_250 v503
  let c1_i32_253 : BitVec 32 := 1#32
  let arg23 : BitVec 32 := Scf.iv v504 c1_i32_253 k0_t42
  let v550 : Index := Scalar.indexCast arg23
  let c0_274 : Index := 0#32
  let c0_275 : Index := 0#32
  ![v550.toNat, 0, 0]
@[reducible] def k0_t43_loop (i : grid0.Coords) : Scf.Loop 32 :=
  let c0_i32_257 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v514 : BitVec 32 := Scalar.subi v4 c0_i32_257
  let c1_i32_258 : BitVec 32 := 1#32
  let v516 : BitVec 32 := Scalar.divsi v514 c1_i32_258
  let v517 : BitVec 32 := Scalar.muli v516 c1_i32_258
  let v518 : BitVec 32 := Scalar.addi c0_i32_257 v517
  let c1_i32_259 : BitVec 32 := 1#32
  ⟨c0_i32_257, v518, c1_i32_259⟩
def k0_off37 (i : grid0.Coords) (k0_t43 : Fin (k0_t43_loop i).trips) : Fin 3 → Nat :=
  let c0_i32_257 : BitVec 32 := 0#32
  let c1_i32_259 : BitVec 32 := 1#32
  let arg23 : BitVec 32 := Scf.iv c0_i32_257 c1_i32_259 k0_t43
  let v550 : Index := Scalar.indexCast arg23
  let c0_274 : Index := 0#32
  let c0_275 : Index := 0#32
  ![v550.toNat, 0, 0]
@[reducible] def k0_t44_loop (i : grid0.Coords) : Scf.Loop 32 :=
  let c0_i32_257 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v514 : BitVec 32 := Scalar.subi v4 c0_i32_257
  let c1_i32_258 : BitVec 32 := 1#32
  let v516 : BitVec 32 := Scalar.divsi v514 c1_i32_258
  let v517 : BitVec 32 := Scalar.muli v516 c1_i32_258
  let v518 : BitVec 32 := Scalar.addi c0_i32_257 v517
  let v515 : BitVec 32 := Scalar.addi c0_i32_257 v514
  let c1_i32_260 : BitVec 32 := 1#32
  ⟨v518, v515, c1_i32_260⟩
def k0_off38 (i : grid0.Coords) (k0_t44 : Fin (k0_t44_loop i).trips) : Fin 3 → Nat :=
  let c0_i32_257 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v514 : BitVec 32 := Scalar.subi v4 c0_i32_257
  let c1_i32_258 : BitVec 32 := 1#32
  let v516 : BitVec 32 := Scalar.divsi v514 c1_i32_258
  let v517 : BitVec 32 := Scalar.muli v516 c1_i32_258
  let v518 : BitVec 32 := Scalar.addi c0_i32_257 v517
  let c1_i32_260 : BitVec 32 := 1#32
  let arg23 : BitVec 32 := Scf.iv v518 c1_i32_260 k0_t44
  let v550 : Index := Scalar.indexCast arg23
  let c0_274 : Index := 0#32
  let c0_275 : Index := 0#32
  ![v550.toNat, 0, 0]
@[reducible] def k0_t45_loop (i : grid0.Coords) : Scf.Loop 32 :=
  let c0_i32_264 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v528 : BitVec 32 := Scalar.subi v4 c0_i32_264
  let c1_i32_265 : BitVec 32 := 1#32
  let v530 : BitVec 32 := Scalar.divsi v528 c1_i32_265
  let v531 : BitVec 32 := Scalar.muli v530 c1_i32_265
  let v532 : BitVec 32 := Scalar.addi c0_i32_264 v531
  let c1_i32_266 : BitVec 32 := 1#32
  ⟨c0_i32_264, v532, c1_i32_266⟩
def k0_off39 (i : grid0.Coords) (k0_t45 : Fin (k0_t45_loop i).trips) : Fin 3 → Nat :=
  let c0_i32_264 : BitVec 32 := 0#32
  let c1_i32_266 : BitVec 32 := 1#32
  let arg23 : BitVec 32 := Scf.iv c0_i32_264 c1_i32_266 k0_t45
  let v550 : Index := Scalar.indexCast arg23
  let c0_274 : Index := 0#32
  let c0_275 : Index := 0#32
  ![v550.toNat, 0, 0]
@[reducible] def k0_t46_loop (i : grid0.Coords) : Scf.Loop 32 :=
  let c0_i32_264 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v528 : BitVec 32 := Scalar.subi v4 c0_i32_264
  let c1_i32_265 : BitVec 32 := 1#32
  let v530 : BitVec 32 := Scalar.divsi v528 c1_i32_265
  let v531 : BitVec 32 := Scalar.muli v530 c1_i32_265
  let v532 : BitVec 32 := Scalar.addi c0_i32_264 v531
  let v529 : BitVec 32 := Scalar.addi c0_i32_264 v528
  let c1_i32_267 : BitVec 32 := 1#32
  ⟨v532, v529, c1_i32_267⟩
def k0_off40 (i : grid0.Coords) (k0_t46 : Fin (k0_t46_loop i).trips) : Fin 3 → Nat :=
  let c0_i32_264 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v528 : BitVec 32 := Scalar.subi v4 c0_i32_264
  let c1_i32_265 : BitVec 32 := 1#32
  let v530 : BitVec 32 := Scalar.divsi v528 c1_i32_265
  let v531 : BitVec 32 := Scalar.muli v530 c1_i32_265
  let v532 : BitVec 32 := Scalar.addi c0_i32_264 v531
  let c1_i32_267 : BitVec 32 := 1#32
  let arg23 : BitVec 32 := Scf.iv v532 c1_i32_267 k0_t46
  let v550 : Index := Scalar.indexCast arg23
  let c0_274 : Index := 0#32
  let c0_275 : Index := 0#32
  ![v550.toNat, 0, 0]
@[reducible] def k0_t47_loop (i : grid0.Coords) : Scf.Loop 32 :=
  let c0_i32_269 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v543 : BitVec 32 := Scalar.subi v4 c0_i32_269
  let c1_i32_271 : BitVec 32 := 1#32
  let v545 : BitVec 32 := Scalar.divsi v543 c1_i32_271
  let v546 : BitVec 32 := Scalar.muli v545 c1_i32_271
  let v547 : BitVec 32 := Scalar.addi c0_i32_269 v546
  let c1_i32_272 : BitVec 32 := 1#32
  ⟨c0_i32_269, v547, c1_i32_272⟩
def k0_off41 (i : grid0.Coords) (k0_t47 : Fin (k0_t47_loop i).trips) : Fin 3 → Nat :=
  let c0_i32_269 : BitVec 32 := 0#32
  let c1_i32_272 : BitVec 32 := 1#32
  let arg23 : BitVec 32 := Scf.iv c0_i32_269 c1_i32_272 k0_t47
  let v550 : Index := Scalar.indexCast arg23
  let c0_274 : Index := 0#32
  let c0_275 : Index := 0#32
  ![v550.toNat, 0, 0]
@[reducible] def k0_t48_loop (i : grid0.Coords) : Scf.Loop 32 :=
  let c0_i32_269 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v543 : BitVec 32 := Scalar.subi v4 c0_i32_269
  let c1_i32_271 : BitVec 32 := 1#32
  let v545 : BitVec 32 := Scalar.divsi v543 c1_i32_271
  let v546 : BitVec 32 := Scalar.muli v545 c1_i32_271
  let v547 : BitVec 32 := Scalar.addi c0_i32_269 v546
  let v544 : BitVec 32 := Scalar.addi c0_i32_269 v543
  let c1_i32_273 : BitVec 32 := 1#32
  ⟨v547, v544, c1_i32_273⟩
def k0_off42 (i : grid0.Coords) (k0_t48 : Fin (k0_t48_loop i).trips) : Fin 3 → Nat :=
  let c0_i32_269 : BitVec 32 := 0#32
  let arg1 : BitVec 32 := BitVec.ofNat 32 (i 1).val
  let c0_i32 : BitVec 32 := 0#32
  let v3 : BitVec 32 := Scalar.addi arg1 c0_i32
  let c1_i32 : BitVec 32 := 1#32
  let v4 : BitVec 32 := Scalar.addi v3 c1_i32
  let v543 : BitVec 32 := Scalar.subi v4 c0_i32_269
  let c1_i32_271 : BitVec 32 := 1#32
  let v545 : BitVec 32 := Scalar.divsi v543 c1_i32_271
  let v546 : BitVec 32 := Scalar.muli v545 c1_i32_271
  let v547 : BitVec 32 := Scalar.addi c0_i32_269 v546
  let c1_i32_273 : BitVec 32 := 1#32
  let arg23 : BitVec 32 := Scf.iv v547 c1_i32_273 k0_t48
  let v550 : Index := Scalar.indexCast arg23
  let c0_274 : Index := 0#32
  let c0_275 : Index := 0#32
  ![v550.toNat, 0, 0]
@[reducible] def k0_t49_loop (i : grid0.Coords) : Scf.Loop 32 :=
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_99 : BitVec 32 := 1#32
  ⟨c0_i32_96, v209, c1_i32_99⟩
def k0_mult7 (i : grid0.Coords) (k0_t49 : Fin (k0_t49_loop i).trips) : BitVec 32 :=
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let c256_i32 : BitVec 32 := 256#32
  let v373 : BitVec 32 := Scalar.muli v372 c256_i32
  v373
def k0_off43 (i : grid0.Coords) (k0_t49 : Fin (k0_t49_loop i).trips) : Fin 2 → Nat :=
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off44 (i : grid0.Coords) (k0_t49 : Fin (k0_t49_loop i).trips) (c0_i32_198 : BitVec 32) : Fin 3 → Nat :=
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v388 : BitVec 32 := Scalar.addi v372 c0_i32_198
  let v389 : Index := Scalar.indexCast v388
  let c0_199 : Index := 0#32
  let c0_200 : Index := 0#32
  ![v389.toNat, 0, 0]
def k0_off45 (i : grid0.Coords) (k0_t49 : Fin (k0_t49_loop i).trips) (c0_i32_201 : BitVec 32) : Fin 4 → Nat :=
  let c0_202 : Index := 0#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v393 : BitVec 32 := Scalar.addi v372 c0_i32_201
  let v394 : Index := Scalar.indexCast v393
  let c0_203 : Index := 0#32
  let c0_204 : Index := 0#32
  ![0, v394.toNat, 0, 0]
def k0_off46 (i : grid0.Coords) (k0_t49 : Fin (k0_t49_loop i).trips) (c0_i32_262 : BitVec 32) : Fin 4 → Nat :=
  let c1_263 : Index := 1#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v482 : BitVec 32 := Scalar.addi v372 c0_i32_262
  let v483 : Index := Scalar.indexCast v482
  let c0_264 : Index := 0#32
  let c0_265 : Index := 0#32
  ![1, v483.toNat, 0, 0]
def k0_off47 (i : grid0.Coords) (k0_t49 : Fin (k0_t49_loop i).trips) (c0_i32_327 : BitVec 32) : Fin 4 → Nat :=
  let c2_328 : Index := 2#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v580 : BitVec 32 := Scalar.addi v372 c0_i32_327
  let v581 : Index := Scalar.indexCast v580
  let c0_329 : Index := 0#32
  let c0_330 : Index := 0#32
  ![2, v581.toNat, 0, 0]
def k0_off48 (i : grid0.Coords) (k0_t49 : Fin (k0_t49_loop i).trips) (c0_i32_388 : BitVec 32) : Fin 4 → Nat :=
  let c3_389 : Index := 3#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v669 : BitVec 32 := Scalar.addi v372 c0_i32_388
  let v670 : Index := Scalar.indexCast v669
  let c0_390 : Index := 0#32
  let c0_391 : Index := 0#32
  ![3, v670.toNat, 0, 0]
def k0_off49 (i : grid0.Coords) (k0_t49 : Fin (k0_t49_loop i).trips) (c0_i32_453 : BitVec 32) : Fin 4 → Nat :=
  let c4_454 : Index := 4#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v767 : BitVec 32 := Scalar.addi v372 c0_i32_453
  let v768 : Index := Scalar.indexCast v767
  let c0_455 : Index := 0#32
  let c0_456 : Index := 0#32
  ![4, v768.toNat, 0, 0]
def k0_off50 (i : grid0.Coords) (k0_t49 : Fin (k0_t49_loop i).trips) (c0_i32_514 : BitVec 32) : Fin 4 → Nat :=
  let c5_515 : Index := 5#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v856 : BitVec 32 := Scalar.addi v372 c0_i32_514
  let v857 : Index := Scalar.indexCast v856
  let c0_516 : Index := 0#32
  let c0_517 : Index := 0#32
  ![5, v857.toNat, 0, 0]
def k0_off51 (i : grid0.Coords) (k0_t49 : Fin (k0_t49_loop i).trips) (c0_i32_579 : BitVec 32) : Fin 4 → Nat :=
  let c6_580 : Index := 6#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v954 : BitVec 32 := Scalar.addi v372 c0_i32_579
  let v955 : Index := Scalar.indexCast v954
  let c0_581 : Index := 0#32
  let c0_582 : Index := 0#32
  ![6, v955.toNat, 0, 0]
def k0_off52 (i : grid0.Coords) (k0_t49 : Fin (k0_t49_loop i).trips) (c0_i32_640 : BitVec 32) : Fin 4 → Nat :=
  let c7_641 : Index := 7#32
  let c4_i32_191 : BitVec 32 := 4#32
  let c0_i32_96 : BitVec 32 := 0#32
  let c1_i32_99 : BitVec 32 := 1#32
  let arg23 : BitVec 32 := Scf.iv c0_i32_96 c1_i32_99 k0_t49
  let v372 : BitVec 32 := Scalar.muli c4_i32_191 arg23
  let v1043 : BitVec 32 := Scalar.addi v372 c0_i32_640
  let v1044 : Index := Scalar.indexCast v1043
  let c0_642 : Index := 0#32
  let c0_643 : Index := 0#32
  ![7, v1044.toNat, 0, 0]
@[reducible] def k0_t50_loop (i : grid0.Coords) : Scf.Loop 32 :=
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let v206 : BitVec 32 := Scalar.addi c0_i32_96 v205
  let c1_i32_100 : BitVec 32 := 1#32
  ⟨v209, v206, c1_i32_100⟩
def k0_mult8 (i : grid0.Coords) (k0_t50 : Fin (k0_t50_loop i).trips) : BitVec 32 :=
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let c256_i32 : BitVec 32 := 256#32
  let v373 : BitVec 32 := Scalar.muli v372 c256_i32
  v373
def k0_off53 (i : grid0.Coords) (k0_t50 : Fin (k0_t50_loop i).trips) : Fin 2 → Nat :=
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off54 (i : grid0.Coords) (k0_t50 : Fin (k0_t50_loop i).trips) (c0_i32_198 : BitVec 32) : Fin 3 → Nat :=
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v388 : BitVec 32 := Scalar.addi v372 c0_i32_198
  let v389 : Index := Scalar.indexCast v388
  let c0_199 : Index := 0#32
  let c0_200 : Index := 0#32
  ![v389.toNat, 0, 0]
def k0_off55 (i : grid0.Coords) (k0_t50 : Fin (k0_t50_loop i).trips) (c0_i32_201 : BitVec 32) : Fin 4 → Nat :=
  let c0_202 : Index := 0#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v393 : BitVec 32 := Scalar.addi v372 c0_i32_201
  let v394 : Index := Scalar.indexCast v393
  let c0_203 : Index := 0#32
  let c0_204 : Index := 0#32
  ![0, v394.toNat, 0, 0]
def k0_off56 (i : grid0.Coords) (k0_t50 : Fin (k0_t50_loop i).trips) (c0_i32_262 : BitVec 32) : Fin 4 → Nat :=
  let c1_263 : Index := 1#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v482 : BitVec 32 := Scalar.addi v372 c0_i32_262
  let v483 : Index := Scalar.indexCast v482
  let c0_264 : Index := 0#32
  let c0_265 : Index := 0#32
  ![1, v483.toNat, 0, 0]
def k0_off57 (i : grid0.Coords) (k0_t50 : Fin (k0_t50_loop i).trips) (c0_i32_327 : BitVec 32) : Fin 4 → Nat :=
  let c2_328 : Index := 2#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v580 : BitVec 32 := Scalar.addi v372 c0_i32_327
  let v581 : Index := Scalar.indexCast v580
  let c0_329 : Index := 0#32
  let c0_330 : Index := 0#32
  ![2, v581.toNat, 0, 0]
def k0_off58 (i : grid0.Coords) (k0_t50 : Fin (k0_t50_loop i).trips) (c0_i32_388 : BitVec 32) : Fin 4 → Nat :=
  let c3_389 : Index := 3#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v669 : BitVec 32 := Scalar.addi v372 c0_i32_388
  let v670 : Index := Scalar.indexCast v669
  let c0_390 : Index := 0#32
  let c0_391 : Index := 0#32
  ![3, v670.toNat, 0, 0]
def k0_off59 (i : grid0.Coords) (k0_t50 : Fin (k0_t50_loop i).trips) (c0_i32_453 : BitVec 32) : Fin 4 → Nat :=
  let c4_454 : Index := 4#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v767 : BitVec 32 := Scalar.addi v372 c0_i32_453
  let v768 : Index := Scalar.indexCast v767
  let c0_455 : Index := 0#32
  let c0_456 : Index := 0#32
  ![4, v768.toNat, 0, 0]
def k0_off60 (i : grid0.Coords) (k0_t50 : Fin (k0_t50_loop i).trips) (c0_i32_514 : BitVec 32) : Fin 4 → Nat :=
  let c5_515 : Index := 5#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v856 : BitVec 32 := Scalar.addi v372 c0_i32_514
  let v857 : Index := Scalar.indexCast v856
  let c0_516 : Index := 0#32
  let c0_517 : Index := 0#32
  ![5, v857.toNat, 0, 0]
def k0_off61 (i : grid0.Coords) (k0_t50 : Fin (k0_t50_loop i).trips) (c0_i32_579 : BitVec 32) : Fin 4 → Nat :=
  let c6_580 : Index := 6#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v954 : BitVec 32 := Scalar.addi v372 c0_i32_579
  let v955 : Index := Scalar.indexCast v954
  let c0_581 : Index := 0#32
  let c0_582 : Index := 0#32
  ![6, v955.toNat, 0, 0]
def k0_off62 (i : grid0.Coords) (k0_t50 : Fin (k0_t50_loop i).trips) (c0_i32_640 : BitVec 32) : Fin 4 → Nat :=
  let c7_641 : Index := 7#32
  let c4_i32_191 : BitVec 32 := 4#32
  let c0_i32_96 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_90 : BitVec 32 := 0#32
  let v189 : BitVec 1 := Scalar.cmpi .sgt v187 c0_i32_90
  let v190 : BitVec 32 := Scalar.extui v189
  let c0_i32_91 : BitVec 32 := 0#32
  let v191 : BitVec 1 := Scalar.cmpi .slt v187 c0_i32_91
  let v192 : BitVec 32 := Scalar.extui v191
  let v193 : BitVec 32 := Scalar.subi v190 v192
  let c4_i32_89 : BitVec 32 := 4#32
  let c0_i32_92 : BitVec 32 := 0#32
  let v194 : BitVec 1 := Scalar.cmpi .sgt c4_i32_89 c0_i32_92
  let v195 : BitVec 32 := Scalar.extui v194
  let c0_i32_93 : BitVec 32 := 0#32
  let v196 : BitVec 1 := Scalar.cmpi .slt c4_i32_89 c0_i32_93
  let v197 : BitVec 32 := Scalar.extui v196
  let v198 : BitVec 32 := Scalar.subi v195 v197
  let v199 : BitVec 1 := Scalar.cmpi .ne v193 v198
  let v200 : BitVec 32 := Scalar.remsi v187 c4_i32_89
  let c0_i32_94 : BitVec 32 := 0#32
  let v201 : BitVec 1 := Scalar.cmpi .ne v200 c0_i32_94
  let v202 : BitVec 1 := Scalar.andi v199 v201
  let v188 : BitVec 32 := Scalar.divsi v187 c4_i32_89
  let c1_i32_95 : BitVec 32 := 1#32
  let v203 : BitVec 32 := Scalar.subi v188 c1_i32_95
  let v204 : BitVec 32 := Scalar.select v202 v203 v188
  let v205 : BitVec 32 := Scalar.subi v204 c0_i32_96
  let c1_i32_98 : BitVec 32 := 1#32
  let v207 : BitVec 32 := Scalar.divsi v205 c1_i32_98
  let v208 : BitVec 32 := Scalar.muli v207 c1_i32_98
  let v209 : BitVec 32 := Scalar.addi c0_i32_96 v208
  let c1_i32_100 : BitVec 32 := 1#32
  let arg23 : BitVec 32 := Scf.iv v209 c1_i32_100 k0_t50
  let v372 : BitVec 32 := Scalar.muli c4_i32_191 arg23
  let v1043 : BitVec 32 := Scalar.addi v372 c0_i32_640
  let v1044 : Index := Scalar.indexCast v1043
  let c0_642 : Index := 0#32
  let c0_643 : Index := 0#32
  ![7, v1044.toNat, 0, 0]
def k0_cond15 (i : grid0.Coords) : BitVec 1 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c4_i32_101 : BitVec 32 := 4#32
  let c0_i32_102 : BitVec 32 := 0#32
  let v212 : BitVec 1 := Scalar.cmpi .eq c4_i32_101 c0_i32_102
  let c1_i32_103 : BitVec 32 := 1#32
  let v213 : BitVec 32 := Scalar.select v212 c1_i32_103 c4_i32_101
  let v214 : BitVec 32 := Scalar.remsi v187 v213
  let c0_i32_105 : BitVec 32 := 0#32
  let v216 : BitVec 1 := Scalar.cmpi .slt v214 c0_i32_105
  let c0_i32_106 : BitVec 32 := 0#32
  let v217 : BitVec 1 := Scalar.cmpi .slt v213 c0_i32_106
  let v218 : BitVec 1 := Scalar.xori v216 v217
  let c0_i32_104 : BitVec 32 := 0#32
  let v215 : BitVec 1 := Scalar.cmpi .ne v214 c0_i32_104
  let v219 : BitVec 1 := Scalar.andi v218 v215
  let v220 : BitVec 32 := Scalar.addi v214 v213
  let v221 : BitVec 32 := Scalar.select v219 v220 v214
  let c1_i32_107 : BitVec 32 := 1#32
  let v222 : BitVec 1 := Scalar.cmpi .eq v221 c1_i32_107
  let v223 : BitVec 32 := Scalar.extui v222
  let c0_i32_108 : BitVec 32 := 0#32
  let v224 : BitVec 1 := Scalar.cmpi .ne v223 c0_i32_108
  v224

def k0_mult9 (i : grid0.Coords) : BitVec 32 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c256_i32 : BitVec 32 := 256#32
  let v373 : BitVec 32 := Scalar.muli v372 c256_i32
  v373
def k0_off63 (i : grid0.Coords) : Fin 2 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off64 (i : grid0.Coords) : Fin 3 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_198 : BitVec 32 := 0#32
  let v387 : BitVec 32 := Scalar.addi v372 c0_i32_198
  let v388 : Index := Scalar.indexCast v387
  let c0_199 : Index := 0#32
  let c0_200 : Index := 0#32
  ![v388.toNat, 0, 0]
def k0_off65 (i : grid0.Coords) : Fin 4 → Nat :=
  let c0_202 : Index := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_201 : BitVec 32 := 0#32
  let v392 : BitVec 32 := Scalar.addi v372 c0_i32_201
  let v393 : Index := Scalar.indexCast v392
  let c0_203 : Index := 0#32
  let c0_204 : Index := 0#32
  ![0, v393.toNat, 0, 0]
def k0_off66 (i : grid0.Coords) : Fin 4 → Nat :=
  let c1_218 : Index := 1#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_217 : BitVec 32 := 0#32
  let v414 : BitVec 32 := Scalar.addi v372 c0_i32_217
  let v415 : Index := Scalar.indexCast v414
  let c0_219 : Index := 0#32
  let c0_220 : Index := 0#32
  ![1, v415.toNat, 0, 0]
def k0_off67 (i : grid0.Coords) : Fin 4 → Nat :=
  let c2_238 : Index := 2#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_237 : BitVec 32 := 0#32
  let v445 : BitVec 32 := Scalar.addi v372 c0_i32_237
  let v446 : Index := Scalar.indexCast v445
  let c0_239 : Index := 0#32
  let c0_240 : Index := 0#32
  ![2, v446.toNat, 0, 0]
def k0_off68 (i : grid0.Coords) : Fin 4 → Nat :=
  let c3_254 : Index := 3#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_253 : BitVec 32 := 0#32
  let v467 : BitVec 32 := Scalar.addi v372 c0_i32_253
  let v468 : Index := Scalar.indexCast v467
  let c0_255 : Index := 0#32
  let c0_256 : Index := 0#32
  ![3, v468.toNat, 0, 0]
def k0_off69 (i : grid0.Coords) : Fin 4 → Nat :=
  let c4_274 : Index := 4#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_273 : BitVec 32 := 0#32
  let v498 : BitVec 32 := Scalar.addi v372 c0_i32_273
  let v499 : Index := Scalar.indexCast v498
  let c0_275 : Index := 0#32
  let c0_276 : Index := 0#32
  ![4, v499.toNat, 0, 0]
def k0_off70 (i : grid0.Coords) : Fin 4 → Nat :=
  let c5_290 : Index := 5#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_289 : BitVec 32 := 0#32
  let v520 : BitVec 32 := Scalar.addi v372 c0_i32_289
  let v521 : Index := Scalar.indexCast v520
  let c0_291 : Index := 0#32
  let c0_292 : Index := 0#32
  ![5, v521.toNat, 0, 0]
def k0_off71 (i : grid0.Coords) : Fin 4 → Nat :=
  let c6_310 : Index := 6#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_309 : BitVec 32 := 0#32
  let v551 : BitVec 32 := Scalar.addi v372 c0_i32_309
  let v552 : Index := Scalar.indexCast v551
  let c0_311 : Index := 0#32
  let c0_312 : Index := 0#32
  ![6, v552.toNat, 0, 0]
def k0_off72 (i : grid0.Coords) : Fin 4 → Nat :=
  let c7_326 : Index := 7#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_325 : BitVec 32 := 0#32
  let v573 : BitVec 32 := Scalar.addi v372 c0_i32_325
  let v574 : Index := Scalar.indexCast v573
  let c0_327 : Index := 0#32
  let c0_328 : Index := 0#32
  ![7, v574.toNat, 0, 0]
def k0_cond16 (i : grid0.Coords) : BitVec 1 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c4_i32_109 : BitVec 32 := 4#32
  let c0_i32_110 : BitVec 32 := 0#32
  let v225 : BitVec 1 := Scalar.cmpi .eq c4_i32_109 c0_i32_110
  let c1_i32_111 : BitVec 32 := 1#32
  let v226 : BitVec 32 := Scalar.select v225 c1_i32_111 c4_i32_109
  let v227 : BitVec 32 := Scalar.remsi v187 v226
  let c0_i32_113 : BitVec 32 := 0#32
  let v229 : BitVec 1 := Scalar.cmpi .slt v227 c0_i32_113
  let c0_i32_114 : BitVec 32 := 0#32
  let v230 : BitVec 1 := Scalar.cmpi .slt v226 c0_i32_114
  let v231 : BitVec 1 := Scalar.xori v229 v230
  let c0_i32_112 : BitVec 32 := 0#32
  let v228 : BitVec 1 := Scalar.cmpi .ne v227 c0_i32_112
  let v232 : BitVec 1 := Scalar.andi v231 v228
  let v233 : BitVec 32 := Scalar.addi v227 v226
  let v234 : BitVec 32 := Scalar.select v232 v233 v227
  let c2_i32_115 : BitVec 32 := 2#32
  let v235 : BitVec 1 := Scalar.cmpi .eq v234 c2_i32_115
  let v236 : BitVec 32 := Scalar.extui v235
  let c0_i32_116 : BitVec 32 := 0#32
  let v237 : BitVec 1 := Scalar.cmpi .ne v236 c0_i32_116
  v237

def k0_mult10 (i : grid0.Coords) : BitVec 32 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let c256_i32 : BitVec 32 := 256#32
  let v373 : BitVec 32 := Scalar.muli v372 c256_i32
  v373
def k0_off73 (i : grid0.Coords) : Fin 2 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off74 (i : grid0.Coords) (c0_i32_198 : BitVec 32) : Fin 3 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v388 : BitVec 32 := Scalar.addi v372 c0_i32_198
  let v389 : Index := Scalar.indexCast v388
  let c0_199 : Index := 0#32
  let c0_200 : Index := 0#32
  ![v389.toNat, 0, 0]
def k0_off75 (i : grid0.Coords) (c0_i32_201 : BitVec 32) : Fin 4 → Nat :=
  let c0_202 : Index := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v393 : BitVec 32 := Scalar.addi v372 c0_i32_201
  let v394 : Index := Scalar.indexCast v393
  let c0_203 : Index := 0#32
  let c0_204 : Index := 0#32
  ![0, v394.toNat, 0, 0]
def k0_off76 (i : grid0.Coords) (c0_i32_232 : BitVec 32) : Fin 4 → Nat :=
  let c1_233 : Index := 1#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v438 : BitVec 32 := Scalar.addi v372 c0_i32_232
  let v439 : Index := Scalar.indexCast v438
  let c0_234 : Index := 0#32
  let c0_235 : Index := 0#32
  ![1, v439.toNat, 0, 0]
def k0_off77 (i : grid0.Coords) (c0_i32_267 : BitVec 32) : Fin 4 → Nat :=
  let c2_268 : Index := 2#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v492 : BitVec 32 := Scalar.addi v372 c0_i32_267
  let v493 : Index := Scalar.indexCast v492
  let c0_269 : Index := 0#32
  let c0_270 : Index := 0#32
  ![2, v493.toNat, 0, 0]
def k0_off78 (i : grid0.Coords) (c0_i32_298 : BitVec 32) : Fin 4 → Nat :=
  let c3_299 : Index := 3#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v537 : BitVec 32 := Scalar.addi v372 c0_i32_298
  let v538 : Index := Scalar.indexCast v537
  let c0_300 : Index := 0#32
  let c0_301 : Index := 0#32
  ![3, v538.toNat, 0, 0]
def k0_off79 (i : grid0.Coords) (c0_i32_333 : BitVec 32) : Fin 4 → Nat :=
  let c4_334 : Index := 4#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v591 : BitVec 32 := Scalar.addi v372 c0_i32_333
  let v592 : Index := Scalar.indexCast v591
  let c0_335 : Index := 0#32
  let c0_336 : Index := 0#32
  ![4, v592.toNat, 0, 0]
def k0_off80 (i : grid0.Coords) (c0_i32_364 : BitVec 32) : Fin 4 → Nat :=
  let c5_365 : Index := 5#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v636 : BitVec 32 := Scalar.addi v372 c0_i32_364
  let v637 : Index := Scalar.indexCast v636
  let c0_366 : Index := 0#32
  let c0_367 : Index := 0#32
  ![5, v637.toNat, 0, 0]
def k0_off81 (i : grid0.Coords) (c0_i32_399 : BitVec 32) : Fin 4 → Nat :=
  let c6_400 : Index := 6#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v690 : BitVec 32 := Scalar.addi v372 c0_i32_399
  let v691 : Index := Scalar.indexCast v690
  let c0_401 : Index := 0#32
  let c0_402 : Index := 0#32
  ![6, v691.toNat, 0, 0]
def k0_off82 (i : grid0.Coords) (c0_i32_430 : BitVec 32) : Fin 4 → Nat :=
  let c7_431 : Index := 7#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_191 : BitVec 32 := 2#32
  let v372 : BitVec 32 := Scalar.subi v187 c2_i32_191
  let v735 : BitVec 32 := Scalar.addi v372 c0_i32_430
  let v736 : Index := Scalar.indexCast v735
  let c0_432 : Index := 0#32
  let c0_433 : Index := 0#32
  ![7, v736.toNat, 0, 0]
def k0_cond17 (i : grid0.Coords) : BitVec 1 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c4_i32_117 : BitVec 32 := 4#32
  let c0_i32_118 : BitVec 32 := 0#32
  let v238 : BitVec 1 := Scalar.cmpi .eq c4_i32_117 c0_i32_118
  let c1_i32_119 : BitVec 32 := 1#32
  let v239 : BitVec 32 := Scalar.select v238 c1_i32_119 c4_i32_117
  let v240 : BitVec 32 := Scalar.remsi v187 v239
  let c0_i32_121 : BitVec 32 := 0#32
  let v242 : BitVec 1 := Scalar.cmpi .slt v240 c0_i32_121
  let c0_i32_122 : BitVec 32 := 0#32
  let v243 : BitVec 1 := Scalar.cmpi .slt v239 c0_i32_122
  let v244 : BitVec 1 := Scalar.xori v242 v243
  let c0_i32_120 : BitVec 32 := 0#32
  let v241 : BitVec 1 := Scalar.cmpi .ne v240 c0_i32_120
  let v245 : BitVec 1 := Scalar.andi v244 v241
  let v246 : BitVec 32 := Scalar.addi v240 v239
  let v247 : BitVec 32 := Scalar.select v245 v246 v240
  let c3_i32_123 : BitVec 32 := 3#32
  let v248 : BitVec 1 := Scalar.cmpi .eq v247 c3_i32_123
  let v249 : BitVec 32 := Scalar.extui v248
  let c0_i32_124 : BitVec 32 := 0#32
  let v250 : BitVec 1 := Scalar.cmpi .ne v249 c0_i32_124
  v250

def k0_mult11 (i : grid0.Coords) : BitVec 32 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let c256_i32 : BitVec 32 := 256#32
  let v373 : BitVec 32 := Scalar.muli v372 c256_i32
  v373
def k0_off83 (i : grid0.Coords) : Fin 2 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off84 (i : grid0.Coords) (c0_i32_198 : BitVec 32) : Fin 3 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v388 : BitVec 32 := Scalar.addi v372 c0_i32_198
  let v389 : Index := Scalar.indexCast v388
  let c0_199 : Index := 0#32
  let c0_200 : Index := 0#32
  ![v389.toNat, 0, 0]
def k0_off85 (i : grid0.Coords) (c0_i32_201 : BitVec 32) : Fin 4 → Nat :=
  let c0_202 : Index := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v393 : BitVec 32 := Scalar.addi v372 c0_i32_201
  let v394 : Index := Scalar.indexCast v393
  let c0_203 : Index := 0#32
  let c0_204 : Index := 0#32
  ![0, v394.toNat, 0, 0]
def k0_off86 (i : grid0.Coords) (c0_i32_247 : BitVec 32) : Fin 4 → Nat :=
  let c1_248 : Index := 1#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v460 : BitVec 32 := Scalar.addi v372 c0_i32_247
  let v461 : Index := Scalar.indexCast v460
  let c0_249 : Index := 0#32
  let c0_250 : Index := 0#32
  ![1, v461.toNat, 0, 0]
def k0_off87 (i : grid0.Coords) (c0_i32_297 : BitVec 32) : Fin 4 → Nat :=
  let c2_298 : Index := 2#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v536 : BitVec 32 := Scalar.addi v372 c0_i32_297
  let v537 : Index := Scalar.indexCast v536
  let c0_299 : Index := 0#32
  let c0_300 : Index := 0#32
  ![2, v537.toNat, 0, 0]
def k0_off88 (i : grid0.Coords) (c0_i32_343 : BitVec 32) : Fin 4 → Nat :=
  let c3_344 : Index := 3#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v603 : BitVec 32 := Scalar.addi v372 c0_i32_343
  let v604 : Index := Scalar.indexCast v603
  let c0_345 : Index := 0#32
  let c0_346 : Index := 0#32
  ![3, v604.toNat, 0, 0]
def k0_off89 (i : grid0.Coords) (c0_i32_393 : BitVec 32) : Fin 4 → Nat :=
  let c4_394 : Index := 4#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v679 : BitVec 32 := Scalar.addi v372 c0_i32_393
  let v680 : Index := Scalar.indexCast v679
  let c0_395 : Index := 0#32
  let c0_396 : Index := 0#32
  ![4, v680.toNat, 0, 0]
def k0_off90 (i : grid0.Coords) (c0_i32_439 : BitVec 32) : Fin 4 → Nat :=
  let c5_440 : Index := 5#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v746 : BitVec 32 := Scalar.addi v372 c0_i32_439
  let v747 : Index := Scalar.indexCast v746
  let c0_441 : Index := 0#32
  let c0_442 : Index := 0#32
  ![5, v747.toNat, 0, 0]
def k0_off91 (i : grid0.Coords) (c0_i32_489 : BitVec 32) : Fin 4 → Nat :=
  let c6_490 : Index := 6#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v822 : BitVec 32 := Scalar.addi v372 c0_i32_489
  let v823 : Index := Scalar.indexCast v822
  let c0_491 : Index := 0#32
  let c0_492 : Index := 0#32
  ![6, v823.toNat, 0, 0]
def k0_off92 (i : grid0.Coords) (c0_i32_535 : BitVec 32) : Fin 4 → Nat :=
  let c7_536 : Index := 7#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c3_i32_191 : BitVec 32 := 3#32
  let v372 : BitVec 32 := Scalar.subi v187 c3_i32_191
  let v889 : BitVec 32 := Scalar.addi v372 c0_i32_535
  let v890 : Index := Scalar.indexCast v889
  let c0_537 : Index := 0#32
  let c0_538 : Index := 0#32
  ![7, v890.toNat, 0, 0]
def k0_cond18 (i : grid0.Coords) : BitVec 1 :=
  let arg1 : BitVec 32 := BitVec.ofNat 32 (i 1).val
  let c0_i32 : BitVec 32 := 0#32
  let v3 : BitVec 32 := Scalar.addi arg1 c0_i32
  let c1_i32_125 : BitVec 32 := 1#32
  let v251 : BitVec 1 := Scalar.cmpi .sge v3 c1_i32_125
  let v252 : BitVec 32 := Scalar.extui v251
  let c0_i32_126 : BitVec 32 := 0#32
  let v253 : BitVec 1 := Scalar.cmpi .ne v252 c0_i32_126
  v253

def k0_mult12 (i : grid0.Coords) : BitVec 32 :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let c256_i32 : BitVec 32 := 256#32
  let v373 : BitVec 32 := Scalar.muli v372 c256_i32
  v373
def k0_off93 (i : grid0.Coords) : Fin 2 → Nat :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let c256_i32 : BitVec 32 := 256#32
  let v373 : BitVec 32 := Scalar.muli v372 c256_i32
  let v374 : BitVec 32 := v373
  let v375 : Index := Scalar.indexCast v374
  let c0_192 : Index := 0#32
  ![v375.toNat, 0]
def k0_off94 (i : grid0.Coords) (c0_i32_198 : BitVec 32) : Fin 3 → Nat :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v388 : BitVec 32 := Scalar.addi v372 c0_i32_198
  let v389 : Index := Scalar.indexCast v388
  let c0_199 : Index := 0#32
  let c0_200 : Index := 0#32
  ![v389.toNat, 0, 0]
def k0_off95 (i : grid0.Coords) (c0_i32_205 : BitVec 32) : Fin 4 → Nat :=
  let c0_206 : Index := 0#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v396 : BitVec 32 := Scalar.addi v372 c0_i32_205
  let v397 : Index := Scalar.indexCast v396
  let c0_207 : Index := 0#32
  let c0_208 : Index := 0#32
  ![0, v397.toNat, 0, 0]
def k0_off96 (i : grid0.Coords) (c0_i32_242 : BitVec 32) : Fin 4 → Nat :=
  let c1_243 : Index := 1#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v441 : BitVec 32 := Scalar.addi v372 c0_i32_242
  let v442 : Index := Scalar.indexCast v441
  let c0_244 : Index := 0#32
  let c0_245 : Index := 0#32
  ![1, v442.toNat, 0, 0]
def k0_off97 (i : grid0.Coords) (c0_i32_283 : BitVec 32) : Fin 4 → Nat :=
  let c2_284 : Index := 2#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v495 : BitVec 32 := Scalar.addi v372 c0_i32_283
  let v496 : Index := Scalar.indexCast v495
  let c0_285 : Index := 0#32
  let c0_286 : Index := 0#32
  ![2, v496.toNat, 0, 0]
def k0_off98 (i : grid0.Coords) (c0_i32_320 : BitVec 32) : Fin 4 → Nat :=
  let c3_321 : Index := 3#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v540 : BitVec 32 := Scalar.addi v372 c0_i32_320
  let v541 : Index := Scalar.indexCast v540
  let c0_322 : Index := 0#32
  let c0_323 : Index := 0#32
  ![3, v541.toNat, 0, 0]
def k0_off99 (i : grid0.Coords) (c0_i32_361 : BitVec 32) : Fin 4 → Nat :=
  let c4_362 : Index := 4#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v594 : BitVec 32 := Scalar.addi v372 c0_i32_361
  let v595 : Index := Scalar.indexCast v594
  let c0_363 : Index := 0#32
  let c0_364 : Index := 0#32
  ![4, v595.toNat, 0, 0]
def k0_off100 (i : grid0.Coords) (c0_i32_398 : BitVec 32) : Fin 4 → Nat :=
  let c5_399 : Index := 5#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v639 : BitVec 32 := Scalar.addi v372 c0_i32_398
  let v640 : Index := Scalar.indexCast v639
  let c0_400 : Index := 0#32
  let c0_401 : Index := 0#32
  ![5, v640.toNat, 0, 0]
def k0_off101 (i : grid0.Coords) (c0_i32_439 : BitVec 32) : Fin 4 → Nat :=
  let c6_440 : Index := 6#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v693 : BitVec 32 := Scalar.addi v372 c0_i32_439
  let v694 : Index := Scalar.indexCast v693
  let c0_441 : Index := 0#32
  let c0_442 : Index := 0#32
  ![6, v694.toNat, 0, 0]
def k0_off102 (i : grid0.Coords) (c0_i32_476 : BitVec 32) : Fin 4 → Nat :=
  let c7_477 : Index := 7#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v738 : BitVec 32 := Scalar.addi v372 c0_i32_476
  let v739 : Index := Scalar.indexCast v738
  let c0_478 : Index := 0#32
  let c0_479 : Index := 0#32
  ![7, v739.toNat, 0, 0]
def k0_cond19 (i : grid0.Coords) : BitVec 1 :=
  let arg1 : BitVec 32 := BitVec.ofNat 32 (i 1).val
  let c0_i32 : BitVec 32 := 0#32
  let v3 : BitVec 32 := Scalar.addi arg1 c0_i32
  let c0_i32_127 : BitVec 32 := 0#32
  let v254 : BitVec 1 := Scalar.cmpi .eq v3 c0_i32_127
  let v255 : BitVec 32 := Scalar.extui v254
  let c0_i32_128 : BitVec 32 := 0#32
  let v256 : BitVec 1 := Scalar.cmpi .ne v255 c0_i32_128
  v256

def k0_mult13 (i : grid0.Coords) : BitVec 32 :=
  let arg1 : BitVec 32 := BitVec.ofNat 32 (i 1).val
  let c0_i32 : BitVec 32 := 0#32
  let v3 : BitVec 32 := Scalar.addi arg1 c0_i32
  let c256_i32 : BitVec 32 := 256#32
  let v372 : BitVec 32 := Scalar.muli v3 c256_i32
  v372
def k0_off103 (i : grid0.Coords) : Fin 2 → Nat :=
  let arg1 : BitVec 32 := BitVec.ofNat 32 (i 1).val
  let c0_i32 : BitVec 32 := 0#32
  let v3 : BitVec 32 := Scalar.addi arg1 c0_i32
  let c256_i32 : BitVec 32 := 256#32
  let v372 : BitVec 32 := Scalar.muli v3 c256_i32
  let v373 : BitVec 32 := v372
  let v374 : Index := Scalar.indexCast v373
  let c0_191 : Index := 0#32
  ![v374.toNat, 0]
def k0_off104 (i : grid0.Coords) : Fin 3 → Nat :=
  let arg1 : BitVec 32 := BitVec.ofNat 32 (i 1).val
  let c0_i32 : BitVec 32 := 0#32
  let v3 : BitVec 32 := Scalar.addi arg1 c0_i32
  let c0_i32_197 : BitVec 32 := 0#32
  let v386 : BitVec 32 := Scalar.addi v3 c0_i32_197
  let v387 : Index := Scalar.indexCast v386
  let c0_198 : Index := 0#32
  let c0_199 : Index := 0#32
  ![v387.toNat, 0, 0]
def k0_off105 (i : grid0.Coords) : Fin 4 → Nat :=
  let c0_205 : Index := 0#32
  let arg1 : BitVec 32 := BitVec.ofNat 32 (i 1).val
  let c0_i32 : BitVec 32 := 0#32
  let v3 : BitVec 32 := Scalar.addi arg1 c0_i32
  let c0_i32_204 : BitVec 32 := 0#32
  let v394 : BitVec 32 := Scalar.addi v3 c0_i32_204
  let v395 : Index := Scalar.indexCast v394
  let c0_206 : Index := 0#32
  let c0_207 : Index := 0#32
  ![0, v395.toNat, 0, 0]
def k0_off106 (i : grid0.Coords) : Fin 4 → Nat :=
  let c1_224 : Index := 1#32
  let arg1 : BitVec 32 := BitVec.ofNat 32 (i 1).val
  let c0_i32 : BitVec 32 := 0#32
  let v3 : BitVec 32 := Scalar.addi arg1 c0_i32
  let c0_i32_223 : BitVec 32 := 0#32
  let v416 : BitVec 32 := Scalar.addi v3 c0_i32_223
  let v417 : Index := Scalar.indexCast v416
  let c0_225 : Index := 0#32
  let c0_226 : Index := 0#32
  ![1, v417.toNat, 0, 0]
def k0_off107 (i : grid0.Coords) : Fin 4 → Nat :=
  let c2_247 : Index := 2#32
  let arg1 : BitVec 32 := BitVec.ofNat 32 (i 1).val
  let c0_i32 : BitVec 32 := 0#32
  let v3 : BitVec 32 := Scalar.addi arg1 c0_i32
  let c0_i32_246 : BitVec 32 := 0#32
  let v447 : BitVec 32 := Scalar.addi v3 c0_i32_246
  let v448 : Index := Scalar.indexCast v447
  let c0_248 : Index := 0#32
  let c0_249 : Index := 0#32
  ![2, v448.toNat, 0, 0]
def k0_off108 (i : grid0.Coords) : Fin 4 → Nat :=
  let c3_266 : Index := 3#32
  let arg1 : BitVec 32 := BitVec.ofNat 32 (i 1).val
  let c0_i32 : BitVec 32 := 0#32
  let v3 : BitVec 32 := Scalar.addi arg1 c0_i32
  let c0_i32_265 : BitVec 32 := 0#32
  let v469 : BitVec 32 := Scalar.addi v3 c0_i32_265
  let v470 : Index := Scalar.indexCast v469
  let c0_267 : Index := 0#32
  let c0_268 : Index := 0#32
  ![3, v470.toNat, 0, 0]
def k0_off109 (i : grid0.Coords) : Fin 4 → Nat :=
  let c4_289 : Index := 4#32
  let arg1 : BitVec 32 := BitVec.ofNat 32 (i 1).val
  let c0_i32 : BitVec 32 := 0#32
  let v3 : BitVec 32 := Scalar.addi arg1 c0_i32
  let c0_i32_288 : BitVec 32 := 0#32
  let v500 : BitVec 32 := Scalar.addi v3 c0_i32_288
  let v501 : Index := Scalar.indexCast v500
  let c0_290 : Index := 0#32
  let c0_291 : Index := 0#32
  ![4, v501.toNat, 0, 0]
def k0_off110 (i : grid0.Coords) : Fin 4 → Nat :=
  let c5_308 : Index := 5#32
  let arg1 : BitVec 32 := BitVec.ofNat 32 (i 1).val
  let c0_i32 : BitVec 32 := 0#32
  let v3 : BitVec 32 := Scalar.addi arg1 c0_i32
  let c0_i32_307 : BitVec 32 := 0#32
  let v522 : BitVec 32 := Scalar.addi v3 c0_i32_307
  let v523 : Index := Scalar.indexCast v522
  let c0_309 : Index := 0#32
  let c0_310 : Index := 0#32
  ![5, v523.toNat, 0, 0]
def k0_off111 (i : grid0.Coords) : Fin 4 → Nat :=
  let c6_331 : Index := 6#32
  let arg1 : BitVec 32 := BitVec.ofNat 32 (i 1).val
  let c0_i32 : BitVec 32 := 0#32
  let v3 : BitVec 32 := Scalar.addi arg1 c0_i32
  let c0_i32_330 : BitVec 32 := 0#32
  let v553 : BitVec 32 := Scalar.addi v3 c0_i32_330
  let v554 : Index := Scalar.indexCast v553
  let c0_332 : Index := 0#32
  let c0_333 : Index := 0#32
  ![6, v554.toNat, 0, 0]
def k0_off112 (i : grid0.Coords) : Fin 4 → Nat :=
  let c7_350 : Index := 7#32
  let arg1 : BitVec 32 := BitVec.ofNat 32 (i 1).val
  let c0_i32 : BitVec 32 := 0#32
  let v3 : BitVec 32 := Scalar.addi arg1 c0_i32
  let c0_i32_349 : BitVec 32 := 0#32
  let v575 : BitVec 32 := Scalar.addi v3 c0_i32_349
  let v576 : Index := Scalar.indexCast v575
  let c0_351 : Index := 0#32
  let c0_352 : Index := 0#32
  ![7, v576.toNat, 0, 0]
@[reducible] def k0_t51_loop (i : grid0.Coords) : Scf.Loop 32 :=
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_139 : BitVec 32 := 1#32
  ⟨c0_i32_136, v278, c1_i32_139⟩
def k0_off113 (i : grid0.Coords) (k0_t51 : Fin (k0_t51_loop i).trips) (c0_i32_196 : BitVec 32) : Fin 4 → Nat :=
  let c0_197 : Index := 0#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v378 : BitVec 32 := Scalar.addi v372 c0_i32_196
  let v379 : Index := Scalar.indexCast v378
  let c0_198 : Index := 0#32
  let c0_199 : Index := 0#32
  ![0, v379.toNat, 0, 0]
def k0_off114 (i : grid0.Coords) (k0_t51 : Fin (k0_t51_loop i).trips) (c0_i32_226 : BitVec 32) : Fin 4 → Nat :=
  let c1_227 : Index := 1#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v420 : BitVec 32 := Scalar.addi v372 c0_i32_226
  let v421 : Index := Scalar.indexCast v420
  let c0_228 : Index := 0#32
  let c0_229 : Index := 0#32
  ![1, v421.toNat, 0, 0]
def k0_off115 (i : grid0.Coords) (k0_t51 : Fin (k0_t51_loop i).trips) (c0_i32_256 : BitVec 32) : Fin 4 → Nat :=
  let c2_257 : Index := 2#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v462 : BitVec 32 := Scalar.addi v372 c0_i32_256
  let v463 : Index := Scalar.indexCast v462
  let c0_258 : Index := 0#32
  let c0_259 : Index := 0#32
  ![2, v463.toNat, 0, 0]
def k0_off116 (i : grid0.Coords) (k0_t51 : Fin (k0_t51_loop i).trips) (c0_i32_286 : BitVec 32) : Fin 4 → Nat :=
  let c3_287 : Index := 3#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v504 : BitVec 32 := Scalar.addi v372 c0_i32_286
  let v505 : Index := Scalar.indexCast v504
  let c0_288 : Index := 0#32
  let c0_289 : Index := 0#32
  ![3, v505.toNat, 0, 0]
def k0_off117 (i : grid0.Coords) (k0_t51 : Fin (k0_t51_loop i).trips) (c0_i32_316 : BitVec 32) : Fin 4 → Nat :=
  let c4_317 : Index := 4#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v546 : BitVec 32 := Scalar.addi v372 c0_i32_316
  let v547 : Index := Scalar.indexCast v546
  let c0_318 : Index := 0#32
  let c0_319 : Index := 0#32
  ![4, v547.toNat, 0, 0]
def k0_off118 (i : grid0.Coords) (k0_t51 : Fin (k0_t51_loop i).trips) (c0_i32_346 : BitVec 32) : Fin 4 → Nat :=
  let c5_347 : Index := 5#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v588 : BitVec 32 := Scalar.addi v372 c0_i32_346
  let v589 : Index := Scalar.indexCast v588
  let c0_348 : Index := 0#32
  let c0_349 : Index := 0#32
  ![5, v589.toNat, 0, 0]
def k0_off119 (i : grid0.Coords) (k0_t51 : Fin (k0_t51_loop i).trips) (c0_i32_376 : BitVec 32) : Fin 4 → Nat :=
  let c6_377 : Index := 6#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v630 : BitVec 32 := Scalar.addi v372 c0_i32_376
  let v631 : Index := Scalar.indexCast v630
  let c0_378 : Index := 0#32
  let c0_379 : Index := 0#32
  ![6, v631.toNat, 0, 0]
def k0_off120 (i : grid0.Coords) (k0_t51 : Fin (k0_t51_loop i).trips) (c0_i32_406 : BitVec 32) : Fin 4 → Nat :=
  let c7_407 : Index := 7#32
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v672 : BitVec 32 := Scalar.addi v372 c0_i32_406
  let v673 : Index := Scalar.indexCast v672
  let c0_408 : Index := 0#32
  let c0_409 : Index := 0#32
  ![7, v673.toNat, 0, 0]
def k0_off121 (i : grid0.Coords) (k0_t51 : Fin (k0_t51_loop i).trips) (c0_i32_432 : BitVec 32) : Fin 3 → Nat :=
  let c2_i32_191 : BitVec 32 := 2#32
  let c0_i32_136 : BitVec 32 := 0#32
  let c1_i32_139 : BitVec 32 := 1#32
  let arg23 : BitVec 32 := Scf.iv c0_i32_136 c1_i32_139 k0_t51
  let v372 : BitVec 32 := Scalar.muli c2_i32_191 arg23
  let v709 : BitVec 32 := Scalar.addi v372 c0_i32_432
  let v710 : Index := Scalar.indexCast v709
  let c0_433 : Index := 0#32
  let c0_434 : Index := 0#32
  ![v710.toNat, 0, 0]
@[reducible] def k0_t52_loop (i : grid0.Coords) : Scf.Loop 32 :=
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let v275 : BitVec 32 := Scalar.addi c0_i32_136 v274
  let c1_i32_140 : BitVec 32 := 1#32
  ⟨v278, v275, c1_i32_140⟩
def k0_off122 (i : grid0.Coords) (k0_t52 : Fin (k0_t52_loop i).trips) (c0_i32_196 : BitVec 32) : Fin 4 → Nat :=
  let c0_197 : Index := 0#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v378 : BitVec 32 := Scalar.addi v372 c0_i32_196
  let v379 : Index := Scalar.indexCast v378
  let c0_198 : Index := 0#32
  let c0_199 : Index := 0#32
  ![0, v379.toNat, 0, 0]
def k0_off123 (i : grid0.Coords) (k0_t52 : Fin (k0_t52_loop i).trips) (c0_i32_226 : BitVec 32) : Fin 4 → Nat :=
  let c1_227 : Index := 1#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v420 : BitVec 32 := Scalar.addi v372 c0_i32_226
  let v421 : Index := Scalar.indexCast v420
  let c0_228 : Index := 0#32
  let c0_229 : Index := 0#32
  ![1, v421.toNat, 0, 0]
def k0_off124 (i : grid0.Coords) (k0_t52 : Fin (k0_t52_loop i).trips) (c0_i32_256 : BitVec 32) : Fin 4 → Nat :=
  let c2_257 : Index := 2#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v462 : BitVec 32 := Scalar.addi v372 c0_i32_256
  let v463 : Index := Scalar.indexCast v462
  let c0_258 : Index := 0#32
  let c0_259 : Index := 0#32
  ![2, v463.toNat, 0, 0]
def k0_off125 (i : grid0.Coords) (k0_t52 : Fin (k0_t52_loop i).trips) (c0_i32_286 : BitVec 32) : Fin 4 → Nat :=
  let c3_287 : Index := 3#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v504 : BitVec 32 := Scalar.addi v372 c0_i32_286
  let v505 : Index := Scalar.indexCast v504
  let c0_288 : Index := 0#32
  let c0_289 : Index := 0#32
  ![3, v505.toNat, 0, 0]
def k0_off126 (i : grid0.Coords) (k0_t52 : Fin (k0_t52_loop i).trips) (c0_i32_316 : BitVec 32) : Fin 4 → Nat :=
  let c4_317 : Index := 4#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v546 : BitVec 32 := Scalar.addi v372 c0_i32_316
  let v547 : Index := Scalar.indexCast v546
  let c0_318 : Index := 0#32
  let c0_319 : Index := 0#32
  ![4, v547.toNat, 0, 0]
def k0_off127 (i : grid0.Coords) (k0_t52 : Fin (k0_t52_loop i).trips) (c0_i32_346 : BitVec 32) : Fin 4 → Nat :=
  let c5_347 : Index := 5#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v588 : BitVec 32 := Scalar.addi v372 c0_i32_346
  let v589 : Index := Scalar.indexCast v588
  let c0_348 : Index := 0#32
  let c0_349 : Index := 0#32
  ![5, v589.toNat, 0, 0]
def k0_off128 (i : grid0.Coords) (k0_t52 : Fin (k0_t52_loop i).trips) (c0_i32_376 : BitVec 32) : Fin 4 → Nat :=
  let c6_377 : Index := 6#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v630 : BitVec 32 := Scalar.addi v372 c0_i32_376
  let v631 : Index := Scalar.indexCast v630
  let c0_378 : Index := 0#32
  let c0_379 : Index := 0#32
  ![6, v631.toNat, 0, 0]
def k0_off129 (i : grid0.Coords) (k0_t52 : Fin (k0_t52_loop i).trips) (c0_i32_406 : BitVec 32) : Fin 4 → Nat :=
  let c7_407 : Index := 7#32
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v672 : BitVec 32 := Scalar.addi v372 c0_i32_406
  let v673 : Index := Scalar.indexCast v672
  let c0_408 : Index := 0#32
  let c0_409 : Index := 0#32
  ![7, v673.toNat, 0, 0]
def k0_off130 (i : grid0.Coords) (k0_t52 : Fin (k0_t52_loop i).trips) (c0_i32_432 : BitVec 32) : Fin 3 → Nat :=
  let c2_i32_191 : BitVec 32 := 2#32
  let c0_i32_136 : BitVec 32 := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c0_i32_130 : BitVec 32 := 0#32
  let v258 : BitVec 1 := Scalar.cmpi .sgt v187 c0_i32_130
  let v259 : BitVec 32 := Scalar.extui v258
  let c0_i32_131 : BitVec 32 := 0#32
  let v260 : BitVec 1 := Scalar.cmpi .slt v187 c0_i32_131
  let v261 : BitVec 32 := Scalar.extui v260
  let v262 : BitVec 32 := Scalar.subi v259 v261
  let c2_i32_129 : BitVec 32 := 2#32
  let c0_i32_132 : BitVec 32 := 0#32
  let v263 : BitVec 1 := Scalar.cmpi .sgt c2_i32_129 c0_i32_132
  let v264 : BitVec 32 := Scalar.extui v263
  let c0_i32_133 : BitVec 32 := 0#32
  let v265 : BitVec 1 := Scalar.cmpi .slt c2_i32_129 c0_i32_133
  let v266 : BitVec 32 := Scalar.extui v265
  let v267 : BitVec 32 := Scalar.subi v264 v266
  let v268 : BitVec 1 := Scalar.cmpi .ne v262 v267
  let v269 : BitVec 32 := Scalar.remsi v187 c2_i32_129
  let c0_i32_134 : BitVec 32 := 0#32
  let v270 : BitVec 1 := Scalar.cmpi .ne v269 c0_i32_134
  let v271 : BitVec 1 := Scalar.andi v268 v270
  let v257 : BitVec 32 := Scalar.divsi v187 c2_i32_129
  let c1_i32_135 : BitVec 32 := 1#32
  let v272 : BitVec 32 := Scalar.subi v257 c1_i32_135
  let v273 : BitVec 32 := Scalar.select v271 v272 v257
  let v274 : BitVec 32 := Scalar.subi v273 c0_i32_136
  let c1_i32_138 : BitVec 32 := 1#32
  let v276 : BitVec 32 := Scalar.divsi v274 c1_i32_138
  let v277 : BitVec 32 := Scalar.muli v276 c1_i32_138
  let v278 : BitVec 32 := Scalar.addi c0_i32_136 v277
  let c1_i32_140 : BitVec 32 := 1#32
  let arg23 : BitVec 32 := Scf.iv v278 c1_i32_140 k0_t52
  let v372 : BitVec 32 := Scalar.muli c2_i32_191 arg23
  let v709 : BitVec 32 := Scalar.addi v372 c0_i32_432
  let v710 : Index := Scalar.indexCast v709
  let c0_433 : Index := 0#32
  let c0_434 : Index := 0#32
  ![v710.toNat, 0, 0]
def k0_cond20 (i : grid0.Coords) : BitVec 1 :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c2_i32_141 : BitVec 32 := 2#32
  let c0_i32_142 : BitVec 32 := 0#32
  let v281 : BitVec 1 := Scalar.cmpi .eq c2_i32_141 c0_i32_142
  let c1_i32_143 : BitVec 32 := 1#32
  let v282 : BitVec 32 := Scalar.select v281 c1_i32_143 c2_i32_141
  let v283 : BitVec 32 := Scalar.remsi v187 v282
  let c0_i32_145 : BitVec 32 := 0#32
  let v285 : BitVec 1 := Scalar.cmpi .slt v283 c0_i32_145
  let c0_i32_146 : BitVec 32 := 0#32
  let v286 : BitVec 1 := Scalar.cmpi .slt v282 c0_i32_146
  let v287 : BitVec 1 := Scalar.xori v285 v286
  let c0_i32_144 : BitVec 32 := 0#32
  let v284 : BitVec 1 := Scalar.cmpi .ne v283 c0_i32_144
  let v288 : BitVec 1 := Scalar.andi v287 v284
  let v289 : BitVec 32 := Scalar.addi v283 v282
  let v290 : BitVec 32 := Scalar.select v288 v289 v283
  let c1_i32_147 : BitVec 32 := 1#32
  let v291 : BitVec 1 := Scalar.cmpi .eq v290 c1_i32_147
  let v292 : BitVec 32 := Scalar.extui v291
  let c0_i32_148 : BitVec 32 := 0#32
  let v293 : BitVec 1 := Scalar.cmpi .ne v292 c0_i32_148
  v293

def k0_off131 (i : grid0.Coords) : Fin 4 → Nat :=
  let c0_197 : Index := 0#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_196 : BitVec 32 := 0#32
  let v378 : BitVec 32 := Scalar.addi v372 c0_i32_196
  let v379 : Index := Scalar.indexCast v378
  let c0_198 : Index := 0#32
  let c0_199 : Index := 0#32
  ![0, v379.toNat, 0, 0]
def k0_off132 (i : grid0.Coords) : Fin 4 → Nat :=
  let c1_212 : Index := 1#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_211 : BitVec 32 := 0#32
  let v399 : BitVec 32 := Scalar.addi v372 c0_i32_211
  let v400 : Index := Scalar.indexCast v399
  let c0_213 : Index := 0#32
  let c0_214 : Index := 0#32
  ![1, v400.toNat, 0, 0]
def k0_off133 (i : grid0.Coords) : Fin 4 → Nat :=
  let c2_227 : Index := 2#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_226 : BitVec 32 := 0#32
  let v420 : BitVec 32 := Scalar.addi v372 c0_i32_226
  let v421 : Index := Scalar.indexCast v420
  let c0_228 : Index := 0#32
  let c0_229 : Index := 0#32
  ![2, v421.toNat, 0, 0]
def k0_off134 (i : grid0.Coords) : Fin 4 → Nat :=
  let c3_242 : Index := 3#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_241 : BitVec 32 := 0#32
  let v441 : BitVec 32 := Scalar.addi v372 c0_i32_241
  let v442 : Index := Scalar.indexCast v441
  let c0_243 : Index := 0#32
  let c0_244 : Index := 0#32
  ![3, v442.toNat, 0, 0]
def k0_off135 (i : grid0.Coords) : Fin 4 → Nat :=
  let c4_257 : Index := 4#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_256 : BitVec 32 := 0#32
  let v462 : BitVec 32 := Scalar.addi v372 c0_i32_256
  let v463 : Index := Scalar.indexCast v462
  let c0_258 : Index := 0#32
  let c0_259 : Index := 0#32
  ![4, v463.toNat, 0, 0]
def k0_off136 (i : grid0.Coords) : Fin 4 → Nat :=
  let c5_272 : Index := 5#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_271 : BitVec 32 := 0#32
  let v483 : BitVec 32 := Scalar.addi v372 c0_i32_271
  let v484 : Index := Scalar.indexCast v483
  let c0_273 : Index := 0#32
  let c0_274 : Index := 0#32
  ![5, v484.toNat, 0, 0]
def k0_off137 (i : grid0.Coords) : Fin 4 → Nat :=
  let c6_287 : Index := 6#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_286 : BitVec 32 := 0#32
  let v504 : BitVec 32 := Scalar.addi v372 c0_i32_286
  let v505 : Index := Scalar.indexCast v504
  let c0_288 : Index := 0#32
  let c0_289 : Index := 0#32
  ![6, v505.toNat, 0, 0]
def k0_off138 (i : grid0.Coords) : Fin 4 → Nat :=
  let c7_302 : Index := 7#32
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_301 : BitVec 32 := 0#32
  let v525 : BitVec 32 := Scalar.addi v372 c0_i32_301
  let v526 : Index := Scalar.indexCast v525
  let c0_303 : Index := 0#32
  let c0_304 : Index := 0#32
  ![7, v526.toNat, 0, 0]
def k0_off139 (i : grid0.Coords) : Fin 3 → Nat :=
  let arg1 : BitVec 32 := BitVec.ofNat 32 (i 1).val
  let c0_i32 : BitVec 32 := 0#32
  let v3 : BitVec 32 := Scalar.addi arg1 c0_i32
  let c2_i32_86 : BitVec 32 := 2#32
  let v185 : BitVec 32 := Scalar.subi v3 c2_i32_86
  let c1_i32_87 : BitVec 32 := 1#32
  let v186 : BitVec 32 := Scalar.addi v185 c1_i32_87
  let c0_i32_88 : BitVec 32 := 0#32
  let v187 : BitVec 32 := Scalar.maxsi v186 c0_i32_88
  let c1_i32_191 : BitVec 32 := 1#32
  let v372 : BitVec 32 := Scalar.subi v187 c1_i32_191
  let c0_i32_312 : BitVec 32 := 0#32
  let v541 : BitVec 32 := Scalar.addi v372 c0_i32_312
  let v542 : Index := Scalar.indexCast v541
  let c0_313 : Index := 0#32
  let c0_314 : Index := 0#32
  ![v542.toNat, 0, 0]
def k0_cond21 (i : grid0.Coords) : BitVec 1 :=
  let arg1 : BitVec 32 := BitVec.ofNat 32 (i 1).val
  let c0_i32 : BitVec 32 := 0#32
  let v3 : BitVec 32 := Scalar.addi arg1 c0_i32
  let c1_i32_149 : BitVec 32 := 1#32
  let v294 : BitVec 1 := Scalar.cmpi .sge v3 c1_i32_149
  let v295 : BitVec 32 := Scalar.extui v294
  let c0_i32_150 : BitVec 32 := 0#32
  let v296 : BitVec 1 := Scalar.cmpi .ne v295 c0_i32_150
  v296

def k0_off140 (i : grid0.Coords) (c0_i32_195 : BitVec 32) : Fin 4 → Nat :=
  let c0_196 : Index := 0#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v375 : BitVec 32 := Scalar.addi v372 c0_i32_195
  let v376 : Index := Scalar.indexCast v375
  let c0_197 : Index := 0#32
  let c0_198 : Index := 0#32
  ![0, v376.toNat, 0, 0]
def k0_off141 (i : grid0.Coords) (c0_i32_223 : BitVec 32) : Fin 4 → Nat :=
  let c1_224 : Index := 1#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v411 : BitVec 32 := Scalar.addi v372 c0_i32_223
  let v412 : Index := Scalar.indexCast v411
  let c0_225 : Index := 0#32
  let c0_226 : Index := 0#32
  ![1, v412.toNat, 0, 0]
def k0_off142 (i : grid0.Coords) (c0_i32_251 : BitVec 32) : Fin 4 → Nat :=
  let c2_252 : Index := 2#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v447 : BitVec 32 := Scalar.addi v372 c0_i32_251
  let v448 : Index := Scalar.indexCast v447
  let c0_253 : Index := 0#32
  let c0_254 : Index := 0#32
  ![2, v448.toNat, 0, 0]
def k0_off143 (i : grid0.Coords) (c0_i32_279 : BitVec 32) : Fin 4 → Nat :=
  let c3_280 : Index := 3#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v483 : BitVec 32 := Scalar.addi v372 c0_i32_279
  let v484 : Index := Scalar.indexCast v483
  let c0_281 : Index := 0#32
  let c0_282 : Index := 0#32
  ![3, v484.toNat, 0, 0]
def k0_off144 (i : grid0.Coords) (c0_i32_307 : BitVec 32) : Fin 4 → Nat :=
  let c4_308 : Index := 4#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v519 : BitVec 32 := Scalar.addi v372 c0_i32_307
  let v520 : Index := Scalar.indexCast v519
  let c0_309 : Index := 0#32
  let c0_310 : Index := 0#32
  ![4, v520.toNat, 0, 0]
def k0_off145 (i : grid0.Coords) (c0_i32_335 : BitVec 32) : Fin 4 → Nat :=
  let c5_336 : Index := 5#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v555 : BitVec 32 := Scalar.addi v372 c0_i32_335
  let v556 : Index := Scalar.indexCast v555
  let c0_337 : Index := 0#32
  let c0_338 : Index := 0#32
  ![5, v556.toNat, 0, 0]
def k0_off146 (i : grid0.Coords) (c0_i32_363 : BitVec 32) : Fin 4 → Nat :=
  let c6_364 : Index := 6#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v591 : BitVec 32 := Scalar.addi v372 c0_i32_363
  let v592 : Index := Scalar.indexCast v591
  let c0_365 : Index := 0#32
  let c0_366 : Index := 0#32
  ![6, v592.toNat, 0, 0]
def k0_off147 (i : grid0.Coords) (c0_i32_391 : BitVec 32) : Fin 4 → Nat :=
  let c7_392 : Index := 7#32
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v627 : BitVec 32 := Scalar.addi v372 c0_i32_391
  let v628 : Index := Scalar.indexCast v627
  let c0_393 : Index := 0#32
  let c0_394 : Index := 0#32
  ![7, v628.toNat, 0, 0]
def k0_off148 (i : grid0.Coords) (c0_i32_416 : BitVec 32) : Fin 3 → Nat :=
  let arg1 : BitVec 32 := BitVec.ofNat 32 (i 1).val
  let c0_i32 : BitVec 32 := 0#32
  let v3 : BitVec 32 := Scalar.addi arg1 c0_i32
  let c1_i32_191 : BitVec 32 := 1#32
  let v372 : BitVec 32 := Scalar.subi v3 c1_i32_191
  let v661 : BitVec 32 := Scalar.addi v372 c0_i32_416
  let v662 : Index := Scalar.indexCast v661
  let c0_417 : Index := 0#32
  let c0_418 : Index := 0#32
  ![v662.toNat, 0, 0]
def k0_cond22 (i : grid0.Coords) : BitVec 1 :=
  let arg1 : BitVec 32 := BitVec.ofNat 32 (i 1).val
  let c0_i32 : BitVec 32 := 0#32
  let v3 : BitVec 32 := Scalar.addi arg1 c0_i32
  let c0_i32_151 : BitVec 32 := 0#32
  let v297 : BitVec 1 := Scalar.cmpi .eq v3 c0_i32_151
  let v298 : BitVec 32 := Scalar.extui v297
  let c0_i32_152 : BitVec 32 := 0#32
  let v299 : BitVec 1 := Scalar.cmpi .ne v298 c0_i32_152
  v299

def k0_off149 (i : grid0.Coords) : Fin 4 → Nat :=
  let c0_195 : Index := 0#32
  let arg1 : BitVec 32 := BitVec.ofNat 32 (i 1).val
  let c0_i32 : BitVec 32 := 0#32
  let v3 : BitVec 32 := Scalar.addi arg1 c0_i32
  let c0_i32_194 : BitVec 32 := 0#32
  let v374 : BitVec 32 := Scalar.addi v3 c0_i32_194
  let v375 : Index := Scalar.indexCast v374
  let c0_196 : Index := 0#32
  let c0_197 : Index := 0#32
  ![0, v375.toNat, 0, 0]
def k0_off150 (i : grid0.Coords) : Fin 4 → Nat :=
  let c1_209 : Index := 1#32
  let arg1 : BitVec 32 := BitVec.ofNat 32 (i 1).val
  let c0_i32 : BitVec 32 := 0#32
  let v3 : BitVec 32 := Scalar.addi arg1 c0_i32
  let c0_i32_208 : BitVec 32 := 0#32
  let v392 : BitVec 32 := Scalar.addi v3 c0_i32_208
  let v393 : Index := Scalar.indexCast v392
  let c0_210 : Index := 0#32
  let c0_211 : Index := 0#32
  ![1, v393.toNat, 0, 0]
def k0_off151 (i : grid0.Coords) : Fin 4 → Nat :=
  let c2_223 : Index := 2#32
  let arg1 : BitVec 32 := BitVec.ofNat 32 (i 1).val
  let c0_i32 : BitVec 32 := 0#32
  let v3 : BitVec 32 := Scalar.addi arg1 c0_i32
  let c0_i32_222 : BitVec 32 := 0#32
  let v410 : BitVec 32 := Scalar.addi v3 c0_i32_222
  let v411 : Index := Scalar.indexCast v410
  let c0_224 : Index := 0#32
  let c0_225 : Index := 0#32
  ![2, v411.toNat, 0, 0]
def k0_off152 (i : grid0.Coords) : Fin 4 → Nat :=
  let c3_237 : Index := 3#32
  let arg1 : BitVec 32 := BitVec.ofNat 32 (i 1).val
  let c0_i32 : BitVec 32 := 0#32
  let v3 : BitVec 32 := Scalar.addi arg1 c0_i32
  let c0_i32_236 : BitVec 32 := 0#32
  let v428 : BitVec 32 := Scalar.addi v3 c0_i32_236
  let v429 : Index := Scalar.indexCast v428
  let c0_238 : Index := 0#32
  let c0_239 : Index := 0#32
  ![3, v429.toNat, 0, 0]
def k0_off153 (i : grid0.Coords) : Fin 4 → Nat :=
  let c4_251 : Index := 4#32
  let arg1 : BitVec 32 := BitVec.ofNat 32 (i 1).val
  let c0_i32 : BitVec 32 := 0#32
  let v3 : BitVec 32 := Scalar.addi arg1 c0_i32
  let c0_i32_250 : BitVec 32 := 0#32
  let v446 : BitVec 32 := Scalar.addi v3 c0_i32_250
  let v447 : Index := Scalar.indexCast v446
  let c0_252 : Index := 0#32
  let c0_253 : Index := 0#32
  ![4, v447.toNat, 0, 0]
def k0_off154 (i : grid0.Coords) : Fin 4 → Nat :=
  let c5_265 : Index := 5#32
  let arg1 : BitVec 32 := BitVec.ofNat 32 (i 1).val
  let c0_i32 : BitVec 32 := 0#32
  let v3 : BitVec 32 := Scalar.addi arg1 c0_i32
  let c0_i32_264 : BitVec 32 := 0#32
  let v464 : BitVec 32 := Scalar.addi v3 c0_i32_264
  let v465 : Index := Scalar.indexCast v464
  let c0_266 : Index := 0#32
  let c0_267 : Index := 0#32
  ![5, v465.toNat, 0, 0]
def k0_off155 (i : grid0.Coords) : Fin 4 → Nat :=
  let c6_279 : Index := 6#32
  let arg1 : BitVec 32 := BitVec.ofNat 32 (i 1).val
  let c0_i32 : BitVec 32 := 0#32
  let v3 : BitVec 32 := Scalar.addi arg1 c0_i32
  let c0_i32_278 : BitVec 32 := 0#32
  let v482 : BitVec 32 := Scalar.addi v3 c0_i32_278
  let v483 : Index := Scalar.indexCast v482
  let c0_280 : Index := 0#32
  let c0_281 : Index := 0#32
  ![6, v483.toNat, 0, 0]
def k0_off156 (i : grid0.Coords) : Fin 4 → Nat :=
  let c7_293 : Index := 7#32
  let arg1 : BitVec 32 := BitVec.ofNat 32 (i 1).val
  let c0_i32 : BitVec 32 := 0#32
  let v3 : BitVec 32 := Scalar.addi arg1 c0_i32
  let c0_i32_292 : BitVec 32 := 0#32
  let v500 : BitVec 32 := Scalar.addi v3 c0_i32_292
  let v501 : Index := Scalar.indexCast v500
  let c0_294 : Index := 0#32
  let c0_295 : Index := 0#32
  ![7, v501.toNat, 0, 0]
def k0_off157 (i : grid0.Coords) : Fin 3 → Nat :=
  let arg1 : BitVec 32 := BitVec.ofNat 32 (i 1).val
  let c0_i32 : BitVec 32 := 0#32
  let v3 : BitVec 32 := Scalar.addi arg1 c0_i32
  let c0_i32_303 : BitVec 32 := 0#32
  let v516 : BitVec 32 := Scalar.addi v3 c0_i32_303
  let v517 : Index := Scalar.indexCast v516
  let c0_304 : Index := 0#32
  let c0_305 : Index := 0#32
  ![v517.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x2x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Merge.lean ====
abbrev S65536x1024 : Shape := ⟨2, ![65536, 1024]⟩
abbrev S65536x512 : Shape := ⟨2, ![65536, 512]⟩
abbrev S1024x5832 : Shape := ⟨2, ![1024, 5832]⟩
abbrev S5832 : Shape := ⟨1, ![5832]⟩
abbrev S512x1024 : Shape := ⟨2, ![512, 1024]⟩
abbrev S1024x1024 : Shape := ⟨2, ![1024, 1024]⟩
abbrev S1024 : Shape := ⟨1, ![1024]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S1024x512 : Shape := ⟨2, ![1024, 512]⟩
abbrev S1024x1 : Shape := ⟨2, ![1024, 1]⟩

abbrev nBuf : Space → Nat
  | .hbm => 72
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x5832, .f32⟩
  | .hbm, ⟨4, _⟩ => ⟨S5832, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1x1024x5832, .f32⟩
  | .hbm, ⟨11, _⟩ => ⟨S1x5832, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S1x1024x64, .f32⟩
  | .hbm, ⟨18, _⟩ => ⟨S1x1024x64, .f32⟩
  | .hbm, ⟨19, _⟩ => ⟨S1x1024x512, .f32⟩
  | .hbm, ⟨20, _⟩ => ⟨S1x1024x512, .f32⟩
  | .hbm, ⟨21, _⟩ => ⟨S1x1024x64, .f32⟩
  | .hbm, ⟨22, _⟩ => ⟨S1x1024x8, .f32⟩
  | .hbm, ⟨23, _⟩ => ⟨S1x1024x1024, .f32⟩
  | .hbm, ⟨24, _⟩ => ⟨S1x1024x1024, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x64, .f32⟩
  | .hbm, ⟨31, _⟩ => ⟨S1x64, .f32⟩
  | .hbm, ⟨32, _⟩ => ⟨S1x512, .f32⟩
  | .hbm, ⟨33, _⟩ => ⟨S1x512, .f32⟩
  | .hbm, ⟨34, _⟩ => ⟨S1x64, .f32⟩
  | .hbm, ⟨35, _⟩ => ⟨S1x8, .f32⟩
  | .hbm, ⟨36, _⟩ => ⟨S1x1024, .f32⟩
  | .hbm, ⟨37, _⟩ => ⟨S1x1024, .f32⟩
  | .hbm, ⟨38, _⟩ => ⟨S_, .i32⟩
  | .hbm, ⟨39, _⟩ => ⟨S_, .f32⟩
  | .hbm, ⟨40, _⟩ => ⟨S1x1024x128, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S_, .f32⟩
  | .hbm, ⟨45, _⟩ => ⟨S1x1024x512, .f32⟩
  | .hbm, ⟨46, _⟩ => ⟨S1x1024x512, .f32⟩
  | .hbm, ⟨47, _⟩ => ⟨S1x1024x3072, .f32⟩
  | .hbm, ⟨48, _⟩ => ⟨S1x1024x3072, .bf16⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x3072, .f32⟩
  | .hbm, ⟨59, _⟩ => ⟨S1x1x3072, .f32⟩
  | .hbm, ⟨60, _⟩ => ⟨S1x1024x3072, .f32⟩
  | .hbm, ⟨61, _⟩ => ⟨S1x1024x3072, .bf16⟩
  | .hbm, ⟨62, _⟩ => ⟨S1x3072, .f32⟩
  | .hbm, ⟨63, _⟩ => ⟨S1x1x3072, .f32⟩
  | .hbm, ⟨64, _⟩ => ⟨S1024x3072, .bf16⟩
  | .hbm, ⟨65, _⟩ => ⟨S1x3072, .f32⟩
  | .hbm, ⟨66, _⟩ => ⟨S512x1024, .bf16⟩
  | .hbm, ⟨67, _⟩ => ⟨S512x1024, .bf16⟩
  | .hbm, ⟨68, _⟩ => ⟨S1024x1024, .bf16⟩
  | .hbm, ⟨69, _⟩ => ⟨S1x1024, .f32⟩
  | .hbm, ⟨70, _⟩ => ⟨S1x1024, .f32⟩
  | .hbm, ⟨71, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x3072, .bf16⟩
  | .local _ .vmem, ⟨7, _⟩ => ⟨S1x3072, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_call1_v0 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeIdeal.lean ====
abbrev S65536x1024 : Shape := ⟨2, ![65536, 1024]⟩
abbrev S65536x512 : Shape := ⟨2, ![65536, 512]⟩
abbrev S1024x5832 : Shape := ⟨2, ![1024, 5832]⟩
abbrev S5832 : Shape := ⟨1, ![5832]⟩
abbrev S512x1024 : Shape := ⟨2, ![512, 1024]⟩
abbrev S1024x1024 : Shape := ⟨2, ![1024, 1024]⟩
abbrev S1024 : Shape := ⟨1, ![1024]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S1024x512 : Shape := ⟨2, ![1024, 512]⟩
abbrev S1024x1 : Shape := ⟨2, ![1024, 1]⟩

abbrev nBuf : Space → Nat
  | .hbm => 72
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x5832, .f32⟩
  | .hbm, ⟨4, _⟩ => ⟨S5832, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1x1024x5832, .f32⟩
  | .hbm, ⟨11, _⟩ => ⟨S1x5832, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S1x1024x64, .f32⟩
  | .hbm, ⟨18, _⟩ => ⟨S1x1024x64, .f32⟩
  | .hbm, ⟨19, _⟩ => ⟨S1x1024x512, .f32⟩
  | .hbm, ⟨20, _⟩ => ⟨S1x1024x512, .f32⟩
  | .hbm, ⟨21, _⟩ => ⟨S1x1024x64, .f32⟩
  | .hbm, ⟨22, _⟩ => ⟨S1x1024x8, .f32⟩
  | .hbm, ⟨23, _⟩ => ⟨S1x1024x1024, .f32⟩
  | .hbm, ⟨24, _⟩ => ⟨S1x1024x1024, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x64, .f32⟩
  | .hbm, ⟨31, _⟩ => ⟨S1x64, .f32⟩
  | .hbm, ⟨32, _⟩ => ⟨S1x512, .f32⟩
  | .hbm, ⟨33, _⟩ => ⟨S1x512, .f32⟩
  | .hbm, ⟨34, _⟩ => ⟨S1x64, .f32⟩
  | .hbm, ⟨35, _⟩ => ⟨S1x8, .f32⟩
  | .hbm, ⟨36, _⟩ => ⟨S1x1024, .f32⟩
  | .hbm, ⟨37, _⟩ => ⟨S1x1024, .f32⟩
  | .hbm, ⟨38, _⟩ => ⟨S_, .i32⟩
  | .hbm, ⟨39, _⟩ => ⟨S_, .f32⟩
  | .hbm, ⟨40, _⟩ => ⟨S1x1024x128, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S_, .f32⟩
  | .hbm, ⟨45, _⟩ => ⟨S1x1024x512, .f32⟩
  | .hbm, ⟨46, _⟩ => ⟨S1x1024x512, .f32⟩
  | .hbm, ⟨47, _⟩ => ⟨S1x1024x3072, .f32⟩
  | .hbm, ⟨48, _⟩ => ⟨S1x1024x3072, .bf16⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x3072, .f32⟩
  | .hbm, ⟨59, _⟩ => ⟨S1x1x3072, .f32⟩
  | .hbm, ⟨60, _⟩ => ⟨S1x1024x3072, .f32⟩
  | .hbm, ⟨61, _⟩ => ⟨S1x1024x3072, .bf16⟩
  | .hbm, ⟨62, _⟩ => ⟨S1x3072, .f32⟩
  | .hbm, ⟨63, _⟩ => ⟨S1x1x3072, .f32⟩
  | .hbm, ⟨64, _⟩ => ⟨S1024x3072, .bf16⟩
  | .hbm, ⟨65, _⟩ => ⟨S1x3072, .f32⟩
  | .hbm, ⟨66, _⟩ => ⟨S512x1024, .bf16⟩
  | .hbm, ⟨67, _⟩ => ⟨S512x1024, .bf16⟩
  | .hbm, ⟨68, _⟩ => ⟨S1024x1024, .bf16⟩
  | .hbm, ⟨69, _⟩ => ⟨S1x1024, .f32⟩
  | .hbm, ⟨70, _⟩ => ⟨S1x1024, .f32⟩
  | .hbm, ⟨71, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x3072, .bf16⟩
  | .local _ .vmem, ⟨7, _⟩ => ⟨S1x3072, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_call1_v0 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S65536x1024 : Shape := ⟨2, ![65536, 1024]⟩
abbrev S65536x512 : Shape := ⟨2, ![65536, 512]⟩
abbrev S1024x5832 : Shape := ⟨2, ![1024, 5832]⟩
abbrev S5832 : Shape := ⟨1, ![5832]⟩
abbrev S512x1024 : Shape := ⟨2, ![512, 1024]⟩
abbrev S1024x1024 : Shape := ⟨2, ![1024, 1024]⟩
abbrev S1024 : Shape := ⟨1, ![1024]⟩
abbrev S65536x5832 : Shape := ⟨2, ![65536, 5832]⟩
abbrev S1x5832 : Shape := ⟨2, ![1, 5832]⟩
abbrev S65536x64 : Shape := ⟨2, ![65536, 64]⟩
abbrev S65536x8 : Shape := ⟨2, ![65536, 8]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x5832, .f32⟩
  | .hbm, ⟨4, _⟩ => ⟨S5832, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S65536x5832, .f32⟩
  | .hbm, ⟨11, _⟩ => ⟨S1x5832, .f32⟩
  | .hbm, ⟨12, _⟩ => ⟨S65536x5832, .f32⟩
  | .hbm, ⟨13, _⟩ => ⟨S65536x5832, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x64, .f32⟩
  | .hbm, ⟨20, _⟩ => ⟨S65536x64, .f32⟩
  | .hbm, ⟨21, _⟩ => ⟨S65536x512, .f32⟩
  | .hbm, ⟨22, _⟩ => ⟨S65536x512, .f32⟩
  | .hbm, ⟨23, _⟩ => ⟨S65536x64, .f32⟩
  | .hbm, ⟨24, _⟩ => ⟨S65536x8, .f32⟩
  | .hbm, ⟨25, _⟩ => ⟨S65536x1024, .f32⟩
  | .hbm, ⟨26, _⟩ => ⟨S65536x1024, .f32⟩
  | .hbm, ⟨27, _⟩ => ⟨S65536x512, .f32⟩
  | .hbm, ⟨28, _⟩ => ⟨S65536x512, .f32⟩
  | .hbm, ⟨29, _⟩ => ⟨S_, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1024, .f32⟩
  | .hbm, ⟨61, _⟩ => ⟨S65536x1024, .f32⟩
  | .hbm, ⟨62, _⟩ => ⟨S_, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S_, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S65536x1024, .f32⟩
  | .hbm, ⟨73, _⟩ => ⟨S_, .f32⟩
  | .hbm, ⟨74, _⟩ => ⟨S65536, .f32⟩
  | .hbm, ⟨75, _⟩ => ⟨S65536x1, .f32⟩
  | .hbm, ⟨76, _⟩ => ⟨S_, .f32⟩
  | .hbm, ⟨77, _⟩ => ⟨S65536x1, .f32⟩
  | .hbm, ⟨78, _⟩ => ⟨S65536x1, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S65536, .f32⟩
  | .hbm, ⟨84, _⟩ => ⟨S65536x1, .f32⟩
  | .hbm, ⟨85, _⟩ => ⟨S_, .f32⟩
  | .hbm, ⟨86, _⟩ => ⟨S65536x1, .f32⟩
  | .hbm, ⟨87, _⟩ => ⟨S65536x1, .f32⟩
  | .hbm, ⟨88, _⟩ => ⟨S65536x1024, .f32⟩
  | .hbm, ⟨89, _⟩ => ⟨S65536x1024, .f32⟩
  | .hbm, ⟨90, _⟩ => ⟨S_, .f32⟩
  | .hbm, ⟨91, _⟩ => ⟨S65536x1, .f32⟩
  | .hbm, ⟨92, _⟩ => ⟨S65536x1, .f32⟩
  | .hbm, ⟨93, _⟩ => ⟨S65536x1, .f32⟩
  | .hbm, ⟨94, _⟩ => ⟨S65536x1024, .f32⟩
  | .hbm, ⟨95, _⟩ => ⟨S65536x1024, .f32⟩
  | .hbm, ⟨96, _⟩ => ⟨S1x1024, .f32⟩
  | .hbm, ⟨97, _⟩ => ⟨S65536x1024, .f32⟩
  | .hbm, ⟨98, _⟩ => ⟨S65536x1024, .f32⟩
  | .hbm, ⟨99, _⟩ => ⟨S1x1024, .f32⟩
  | .hbm, ⟨100, _⟩ => ⟨S65536x1024, .f32⟩
  | .hbm, ⟨101, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_cst_0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== Proj.lean ====
abbrev S32x2048x1024 : Shape := ⟨3, ![32, 2048, 1024]⟩
abbrev S1024 : Shape := ⟨1, ![1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S65536x1024 : Shape := ⟨2, ![65536, 1024]⟩
abbrev S1024x3072 : Shape := ⟨2, ![1024, 3072]⟩
abbrev S65536x512 : Shape := ⟨2, ![65536, 512]⟩
abbrev S65536x128 : Shape := ⟨2, ![65536, 128]⟩
abbrev S65536x64 : Shape := ⟨2, ![65536, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1024x1 : Shape := ⟨2, ![1024, 1]⟩

abbrev nBuf : Space → Nat
  | .hbm => 77
  | .vmem => 32
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x5832, .f32⟩
  | .hbm, ⟨4, _⟩ => ⟨S5832, .f32⟩
  | .hbm, ⟨5, _⟩ => ⟨S1x1024x5832, .f32⟩
  | .hbm, ⟨6, _⟩ => ⟨S1x5832, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S1x1024x64, .f32⟩
  | .hbm, ⟨13, _⟩ => ⟨S1x1024x64, .f32⟩
  | .hbm, ⟨14, _⟩ => ⟨S1x1024x512, .f32⟩
  | .hbm, ⟨15, _⟩ => ⟨S1x1024x512, .f32⟩
  | .hbm, ⟨16, _⟩ => ⟨S1x1024x64, .f32⟩
  | .hbm, ⟨17, _⟩ => ⟨S1x1024x8, .f32⟩
  | .hbm, ⟨18, _⟩ => ⟨S1x1024x1024, .f32⟩
  | .hbm, ⟨19, _⟩ => ⟨S1x1024x1024, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x64, .f32⟩
  | .hbm, ⟨26, _⟩ => ⟨S1x64, .f32⟩
  | .hbm, ⟨27, _⟩ => ⟨S1x512, .f32⟩
  | .hbm, ⟨28, _⟩ => ⟨S1x512, .f32⟩
  | .hbm, ⟨29, _⟩ => ⟨S1x64, .f32⟩
  | .hbm, ⟨30, _⟩ => ⟨S1x8, .f32⟩
  | .hbm, ⟨31, _⟩ => ⟨S1x1024, .f32⟩
  | .hbm, ⟨32, _⟩ => ⟨S1x1024, .f32⟩
  | .hbm, ⟨33, _⟩ => ⟨S_, .i32⟩
  | .hbm, ⟨34, _⟩ => ⟨S_, .f32⟩
  | .hbm, ⟨35, _⟩ => ⟨S1x1024x128, .f32⟩
  | .hbm, ⟨36, _⟩ => ⟨S_, .f32⟩
  | .hbm, ⟨37, _⟩ => ⟨S1x1024x512, .f32⟩
  | .hbm, ⟨38, _⟩ => ⟨S1x1024x512, .f32⟩
  | .hbm, ⟨39, _⟩ => ⟨S_, .f32⟩
  | .hbm, ⟨40, _⟩ => ⟨S1x1024x512, .f32⟩
  | .hbm, ⟨41, _⟩ => ⟨S1x1024x512, .f32⟩
  | .hbm, ⟨42, _⟩ => ⟨S1x1024x3072, .f32⟩
  | .hbm, ⟨43, _⟩ => ⟨S1x1024x3072, .bf16⟩
  | .hbm, ⟨44, _⟩ => ⟨S_, .i32⟩
  | .hbm, ⟨45, _⟩ => ⟨S_, .f32⟩
  | .hbm, ⟨46, _⟩ => ⟨S1x128, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S1x3072, .f32⟩
  | .hbm, ⟨54, _⟩ => ⟨S1x1x3072, .f32⟩
  | .hbm, ⟨55, _⟩ => ⟨S1x1024x3072, .f32⟩
  | .hbm, ⟨56, _⟩ => ⟨S1x1024x3072, .bf16⟩
  | .hbm, ⟨57, _⟩ => ⟨S1x3072, .f32⟩
  | .hbm, ⟨58, _⟩ => ⟨S1x1x3072, .f32⟩
  | .hbm, ⟨59, _⟩ => ⟨S65536x1024, .f32⟩
  | .hbm, ⟨60, _⟩ => ⟨S1024x3072, .bf16⟩
  | .hbm, ⟨61, _⟩ => ⟨S1x3072, .f32⟩
  | .hbm, ⟨62, _⟩ => ⟨S1x1024, .f32⟩
  | .hbm, ⟨63, _⟩ => ⟨S1x1024, .f32⟩
  | .hbm, ⟨64, _⟩ => ⟨S65536x512, .bf16⟩
  | .hbm, ⟨65, _⟩ => ⟨S65536x512, .bf16⟩
  | .hbm, ⟨66, _⟩ => ⟨S65536x512, .bf16⟩
  | .hbm, ⟨67, _⟩ => ⟨S65536x128, .bf16⟩
  | .hbm, ⟨68, _⟩ => ⟨S65536x128, .bf16⟩
  | .hbm, ⟨69, _⟩ => ⟨S65536x128, .bf16⟩
  | .hbm, ⟨70, _⟩ => ⟨S65536x128, .f32⟩
  | .hbm, ⟨71, _⟩ => ⟨S65536x512, .f32⟩
  | .hbm, ⟨72, _⟩ => ⟨S65536x512, .f32⟩
  | .hbm, ⟨73, _⟩ => ⟨S65536x64, .f32⟩
  | .hbm, ⟨74, _⟩ => ⟨S65536x64, .f32⟩
  | .hbm, ⟨75, _⟩ => ⟨S65536x64, .f32⟩
  | .hbm, ⟨76, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x1024, .f32⟩
  | .local _ .vmem, ⟨31, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_call0_v0 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_call1_v0 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev main_v51_6 : Ref sig .tc := ⟨.hbm, 70, rfl⟩
abbrev main_v51_7 : Ref sig .tc := ⟨.hbm, 71, rfl⟩
abbrev main_v51_8 : Ref sig .tc := ⟨.hbm, 72, rfl⟩
abbrev main_v51_9 : Ref sig .tc := ⟨.hbm, 73, rfl⟩
abbrev main_v51_10 : Ref sig .tc := ⟨.hbm, 74, rfl⟩
abbrev main_v51_11 : Ref sig .tc := ⟨.hbm, 75, rfl⟩
abbrev main_v51_12 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjIdeal.lean ====
abbrev S32x2048x1024 : Shape := ⟨3, ![32, 2048, 1024]⟩
abbrev S1024 : Shape := ⟨1, ![1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S65536x1024 : Shape := ⟨2, ![65536, 1024]⟩
abbrev S1024x3072 : Shape := ⟨2, ![1024, 3072]⟩
abbrev S65536x512 : Shape := ⟨2, ![65536, 512]⟩
abbrev S65536x128 : Shape := ⟨2, ![65536, 128]⟩
abbrev S65536x64 : Shape := ⟨2, ![65536, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1024x1 : Shape := ⟨2, ![1024, 1]⟩

abbrev nBuf : Space → Nat
  | .hbm => 77
  | .vmem => 32
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x5832, .f32⟩
  | .hbm, ⟨4, _⟩ => ⟨S5832, .f32⟩
  | .hbm, ⟨5, _⟩ => ⟨S1x1024x5832, .f32⟩
  | .hbm, ⟨6, _⟩ => ⟨S1x5832, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S1x1024x64, .f32⟩
  | .hbm, ⟨13, _⟩ => ⟨S1x1024x64, .f32⟩
  | .hbm, ⟨14, _⟩ => ⟨S1x1024x512, .f32⟩
  | .hbm, ⟨15, _⟩ => ⟨S1x1024x512, .f32⟩
  | .hbm, ⟨16, _⟩ => ⟨S1x1024x64, .f32⟩
  | .hbm, ⟨17, _⟩ => ⟨S1x1024x8, .f32⟩
  | .hbm, ⟨18, _⟩ => ⟨S1x1024x1024, .f32⟩
  | .hbm, ⟨19, _⟩ => ⟨S1x1024x1024, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x64, .f32⟩
  | .hbm, ⟨26, _⟩ => ⟨S1x64, .f32⟩
  | .hbm, ⟨27, _⟩ => ⟨S1x512, .f32⟩
  | .hbm, ⟨28, _⟩ => ⟨S1x512, .f32⟩
  | .hbm, ⟨29, _⟩ => ⟨S1x64, .f32⟩
  | .hbm, ⟨30, _⟩ => ⟨S1x8, .f32⟩
  | .hbm, ⟨31, _⟩ => ⟨S1x1024, .f32⟩
  | .hbm, ⟨32, _⟩ => ⟨S1x1024, .f32⟩
  | .hbm, ⟨33, _⟩ => ⟨S_, .i32⟩
  | .hbm, ⟨34, _⟩ => ⟨S_, .f32⟩
  | .hbm, ⟨35, _⟩ => ⟨S1x1024x128, .f32⟩
  | .hbm, ⟨36, _⟩ => ⟨S_, .f32⟩
  | .hbm, ⟨37, _⟩ => ⟨S1x1024x512, .f32⟩
  | .hbm, ⟨38, _⟩ => ⟨S1x1024x512, .f32⟩
  | .hbm, ⟨39, _⟩ => ⟨S_, .f32⟩
  | .hbm, ⟨40, _⟩ => ⟨S1x1024x512, .f32⟩
  | .hbm, ⟨41, _⟩ => ⟨S1x1024x512, .f32⟩
  | .hbm, ⟨42, _⟩ => ⟨S1x1024x3072, .f32⟩
  | .hbm, ⟨43, _⟩ => ⟨S1x1024x3072, .bf16⟩
  | .hbm, ⟨44, _⟩ => ⟨S_, .i32⟩
  | .hbm, ⟨45, _⟩ => ⟨S_, .f32⟩
  | .hbm, ⟨46, _⟩ => ⟨S1x128, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S1x3072, .f32⟩
  | .hbm, ⟨54, _⟩ => ⟨S1x1x3072, .f32⟩
  | .hbm, ⟨55, _⟩ => ⟨S1x1024x3072, .f32⟩
  | .hbm, ⟨56, _⟩ => ⟨S1x1024x3072, .bf16⟩
  | .hbm, ⟨57, _⟩ => ⟨S1x3072, .f32⟩
  | .hbm, ⟨58, _⟩ => ⟨S1x1x3072, .f32⟩
  | .hbm, ⟨59, _⟩ => ⟨S65536x1024, .f32⟩
  | .hbm, ⟨60, _⟩ => ⟨S1024x3072, .bf16⟩
  | .hbm, ⟨61, _⟩ => ⟨S1x3072, .f32⟩
  | .hbm, ⟨62, _⟩ => ⟨S1x1024, .f32⟩
  | .hbm, ⟨63, _⟩ => ⟨S1x1024, .f32⟩
  | .hbm, ⟨64, _⟩ => ⟨S65536x512, .bf16⟩
  | .hbm, ⟨65, _⟩ => ⟨S65536x512, .bf16⟩
  | .hbm, ⟨66, _⟩ => ⟨S65536x512, .bf16⟩
  | .hbm, ⟨67, _⟩ => ⟨S65536x128, .bf16⟩
  | .hbm, ⟨68, _⟩ => ⟨S65536x128, .bf16⟩
  | .hbm, ⟨69, _⟩ => ⟨S65536x128, .bf16⟩
  | .hbm, ⟨70, _⟩ => ⟨S65536x128, .f32⟩
  | .hbm, ⟨71, _⟩ => ⟨S65536x512, .f32⟩
  | .hbm, ⟨72, _⟩ => ⟨S65536x512, .f32⟩
  | .hbm, ⟨73, _⟩ => ⟨S65536x64, .f32⟩
  | .hbm, ⟨74, _⟩ => ⟨S65536x64, .f32⟩
  | .hbm, ⟨75, _⟩ => ⟨S65536x64, .f32⟩
  | .hbm, ⟨76, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x1024, .f32⟩
  | .local _ .vmem, ⟨31, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_call0_v0 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_call1_v0 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev main_v51_6 : Ref sig .tc := ⟨.hbm, 70, rfl⟩
abbrev main_v51_7 : Ref sig .tc := ⟨.hbm, 71, rfl⟩
abbrev main_v51_8 : Ref sig .tc := ⟨.hbm, 72, rfl⟩
abbrev main_v51_9 : Ref sig .tc := ⟨.hbm, 73, rfl⟩
abbrev main_v51_10 : Ref sig .tc := ⟨.hbm, 74, rfl⟩
abbrev main_v51_11 : Ref sig .tc := ⟨.hbm, 75, rfl⟩
abbrev main_v51_12 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjReferenceIdeal.lean ====
abbrev S32x2048x1024 : Shape := ⟨3, ![32, 2048, 1024]⟩
abbrev S1024 : Shape := ⟨1, ![1024]⟩
abbrev S1024x5832 : Shape := ⟨2, ![1024, 5832]⟩
abbrev S5832 : Shape := ⟨1, ![5832]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5832 : Shape := ⟨2, ![65536, 5832]⟩
abbrev S1x5832 : Shape := ⟨2, ![1, 5832]⟩
abbrev S65536x512 : Shape := ⟨2, ![65536, 512]⟩
abbrev S65536x64 : Shape := ⟨2, ![65536, 64]⟩
abbrev S65536x8 : Shape := ⟨2, ![65536, 8]⟩
abbrev S65536x128 : Shape := ⟨2, ![65536, 128]⟩

abbrev nBuf : Space → Nat
  | .hbm => 70
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x5832, .f32⟩
  | .hbm, ⟨4, _⟩ => ⟨S5832, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S65536x1024, .f32⟩
  | .hbm, ⟨28, _⟩ => ⟨S65536x1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S65536x5832, .f32⟩
  | .hbm, ⟨36, _⟩ => ⟨S1x5832, .f32⟩
  | .hbm, ⟨37, _⟩ => ⟨S65536x5832, .f32⟩
  | .hbm, ⟨38, _⟩ => ⟨S65536x5832, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x64, .f32⟩
  | .hbm, ⟨45, _⟩ => ⟨S65536x64, .f32⟩
  | .hbm, ⟨46, _⟩ => ⟨S65536x512, .f32⟩
  | .hbm, ⟨47, _⟩ => ⟨S65536x512, .f32⟩
  | .hbm, ⟨48, _⟩ => ⟨S65536x64, .f32⟩
  | .hbm, ⟨49, _⟩ => ⟨S65536x8, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S65536x512, .bf16⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .bf16⟩
  | .hbm, ⟨60, _⟩ => ⟨S65536x512, .bf16⟩
  | .hbm, ⟨61, _⟩ => ⟨S65536x128, .f32⟩
  | .hbm, ⟨62, _⟩ => ⟨S65536x128, .bf16⟩
  | .hbm, ⟨63, _⟩ => ⟨S65536x128, .f32⟩
  | .hbm, ⟨64, _⟩ => ⟨S65536x128, .bf16⟩
  | .hbm, ⟨65, _⟩ => ⟨S65536x128, .f32⟩
  | .hbm, ⟨66, _⟩ => ⟨S65536x128, .bf16⟩
  | .hbm, ⟨67, _⟩ => ⟨S_, .i32⟩
  | .hbm, ⟨68, _⟩ => ⟨S_, .f32⟩
  | .hbm, ⟨69, _⟩ => ⟨S65536x128, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c : Ref sig .tc := ⟨.hbm, 67, rfl⟩
abbrev main_call0_v0 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Later.lean ====
abbrev S65536x1024 : Shape := ⟨2, ![65536, 1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S65536x512 : Shape := ⟨2, ![65536, 512]⟩
abbrev S65536x128 : Shape := ⟨2, ![65536, 128]⟩
abbrev S65536x64 : Shape := ⟨2, ![65536, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩

abbrev nBuf : Space → Nat
  | .hbm => 71
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S1024x5832, .f32⟩
  | .hbm, ⟨2, _⟩ => ⟨S5832, .f32⟩
  | .hbm, ⟨3, _⟩ => ⟨S1x1024x5832, .f32⟩
  | .hbm, ⟨4, _⟩ => ⟨S1x5832, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x64, .f32⟩
  | .hbm, ⟨11, _⟩ => ⟨S1x1024x64, .f32⟩
  | .hbm, ⟨12, _⟩ => ⟨S1x1024x512, .f32⟩
  | .hbm, ⟨13, _⟩ => ⟨S1x1024x512, .f32⟩
  | .hbm, ⟨14, _⟩ => ⟨S1x1024x64, .f32⟩
  | .hbm, ⟨15, _⟩ => ⟨S1x1024x8, .f32⟩
  | .hbm, ⟨16, _⟩ => ⟨S1x1024x1024, .f32⟩
  | .hbm, ⟨17, _⟩ => ⟨S1x1024x1024, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x64, .f32⟩
  | .hbm, ⟨24, _⟩ => ⟨S1x64, .f32⟩
  | .hbm, ⟨25, _⟩ => ⟨S1x512, .f32⟩
  | .hbm, ⟨26, _⟩ => ⟨S1x512, .f32⟩
  | .hbm, ⟨27, _⟩ => ⟨S1x64, .f32⟩
  | .hbm, ⟨28, _⟩ => ⟨S1x8, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S1x1024x128, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x3072, .f32⟩
  | .hbm, ⟨41, _⟩ => ⟨S1x1024x3072, .bf16⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x3072, .f32⟩
  | .hbm, ⟨52, _⟩ => ⟨S1x1x3072, .f32⟩
  | .hbm, ⟨53, _⟩ => ⟨S1x1024x3072, .f32⟩
  | .hbm, ⟨54, _⟩ => ⟨S1x1024x3072, .bf16⟩
  | .hbm, ⟨55, _⟩ => ⟨S1x3072, .f32⟩
  | .hbm, ⟨56, _⟩ => ⟨S1x1x3072, .f32⟩
  | .hbm, ⟨57, _⟩ => ⟨S1024x3072, .bf16⟩
  | .hbm, ⟨58, _⟩ => ⟨S1x3072, .f32⟩
  | .hbm, ⟨59, _⟩ => ⟨S65536x512, .bf16⟩
  | .hbm, ⟨60, _⟩ => ⟨S65536x512, .bf16⟩
  | .hbm, ⟨61, _⟩ => ⟨S65536x512, .bf16⟩
  | .hbm, ⟨62, _⟩ => ⟨S65536x128, .bf16⟩
  | .hbm, ⟨63, _⟩ => ⟨S65536x128, .bf16⟩
  | .hbm, ⟨64, _⟩ => ⟨S65536x128, .bf16⟩
  | .hbm, ⟨65, _⟩ => ⟨S65536x128, .f32⟩
  | .hbm, ⟨66, _⟩ => ⟨S65536x512, .f32⟩
  | .hbm, ⟨67, _⟩ => ⟨S65536x512, .f32⟩
  | .hbm, ⟨68, _⟩ => ⟨S65536x64, .f32⟩
  | .hbm, ⟨69, _⟩ => ⟨S65536x64, .f32⟩
  | .hbm, ⟨70, _⟩ => ⟨S65536x64, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_c : Ref sig .tc := ⟨.hbm, 31, rfl⟩
abbrev main_call0_v0 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_call1_v0 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev main_v48_3 : Ref sig .tc := ⟨.hbm, 62, rfl⟩
abbrev main_v48_4 : Ref sig .tc := ⟨.hbm, 63, rfl⟩
abbrev main_v48_5 : Ref sig .tc := ⟨.hbm, 64, rfl⟩
abbrev main_v48_6 : Ref sig .tc := ⟨.hbm, 65, rfl⟩
abbrev main_v48_7 : Ref sig .tc := ⟨.hbm, 66, rfl⟩
abbrev main_v48_8 : Ref sig .tc := ⟨.hbm, 67, rfl⟩
abbrev main_v48_9 : Ref sig .tc := ⟨.hbm, 68, rfl⟩
abbrev main_v48_10 : Ref sig .tc := ⟨.hbm, 69, rfl⟩
abbrev main_v48_11 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LaterIdeal.lean ====
abbrev S65536x1024 : Shape := ⟨2, ![65536, 1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S65536x512 : Shape := ⟨2, ![65536, 512]⟩
abbrev S65536x128 : Shape := ⟨2, ![65536, 128]⟩
abbrev S65536x64 : Shape := ⟨2, ![65536, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩

abbrev nBuf : Space → Nat
  | .hbm => 71
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S1024x5832, .f32⟩
  | .hbm, ⟨2, _⟩ => ⟨S5832, .f32⟩
  | .hbm, ⟨3, _⟩ => ⟨S1x1024x5832, .f32⟩
  | .hbm, ⟨4, _⟩ => ⟨S1x5832, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x64, .f32⟩
  | .hbm, ⟨11, _⟩ => ⟨S1x1024x64, .f32⟩
  | .hbm, ⟨12, _⟩ => ⟨S1x1024x512, .f32⟩
  | .hbm, ⟨13, _⟩ => ⟨S1x1024x512, .f32⟩
  | .hbm, ⟨14, _⟩ => ⟨S1x1024x64, .f32⟩
  | .hbm, ⟨15, _⟩ => ⟨S1x1024x8, .f32⟩
  | .hbm, ⟨16, _⟩ => ⟨S1x1024x1024, .f32⟩
  | .hbm, ⟨17, _⟩ => ⟨S1x1024x1024, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x64, .f32⟩
  | .hbm, ⟨24, _⟩ => ⟨S1x64, .f32⟩
  | .hbm, ⟨25, _⟩ => ⟨S1x512, .f32⟩
  | .hbm, ⟨26, _⟩ => ⟨S1x512, .f32⟩
  | .hbm, ⟨27, _⟩ => ⟨S1x64, .f32⟩
  | .hbm, ⟨28, _⟩ => ⟨S1x8, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S1x1024x128, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x3072, .f32⟩
  | .hbm, ⟨41, _⟩ => ⟨S1x1024x3072, .bf16⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x3072, .f32⟩
  | .hbm, ⟨52, _⟩ => ⟨S1x1x3072, .f32⟩
  | .hbm, ⟨53, _⟩ => ⟨S1x1024x3072, .f32⟩
  | .hbm, ⟨54, _⟩ => ⟨S1x1024x3072, .bf16⟩
  | .hbm, ⟨55, _⟩ => ⟨S1x3072, .f32⟩
  | .hbm, ⟨56, _⟩ => ⟨S1x1x3072, .f32⟩
  | .hbm, ⟨57, _⟩ => ⟨S1024x3072, .bf16⟩
  | .hbm, ⟨58, _⟩ => ⟨S1x3072, .f32⟩
  | .hbm, ⟨59, _⟩ => ⟨S65536x512, .bf16⟩
  | .hbm, ⟨60, _⟩ => ⟨S65536x512, .bf16⟩
  | .hbm, ⟨61, _⟩ => ⟨S65536x512, .bf16⟩
  | .hbm, ⟨62, _⟩ => ⟨S65536x128, .bf16⟩
  | .hbm, ⟨63, _⟩ => ⟨S65536x128, .bf16⟩
  | .hbm, ⟨64, _⟩ => ⟨S65536x128, .bf16⟩
  | .hbm, ⟨65, _⟩ => ⟨S65536x128, .f32⟩
  | .hbm, ⟨66, _⟩ => ⟨S65536x512, .f32⟩
  | .hbm, ⟨67, _⟩ => ⟨S65536x512, .f32⟩
  | .hbm, ⟨68, _⟩ => ⟨S65536x64, .f32⟩
  | .hbm, ⟨69, _⟩ => ⟨S65536x64, .f32⟩
  | .hbm, ⟨70, _⟩ => ⟨S65536x64, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_c : Ref sig .tc := ⟨.hbm, 31, rfl⟩
abbrev main_call0_v0 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_call1_v0 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev main_v48_3 : Ref sig .tc := ⟨.hbm, 62, rfl⟩
abbrev main_v48_4 : Ref sig .tc := ⟨.hbm, 63, rfl⟩
abbrev main_v48_5 : Ref sig .tc := ⟨.hbm, 64, rfl⟩
abbrev main_v48_6 : Ref sig .tc := ⟨.hbm, 65, rfl⟩
abbrev main_v48_7 : Ref sig .tc := ⟨.hbm, 66, rfl⟩
abbrev main_v48_8 : Ref sig .tc := ⟨.hbm, 67, rfl⟩
abbrev main_v48_9 : Ref sig .tc := ⟨.hbm, 68, rfl⟩
abbrev main_v48_10 : Ref sig .tc := ⟨.hbm, 69, rfl⟩
abbrev main_v48_11 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LaterReferenceIdeal.lean ====
abbrev S65536x1024 : Shape := ⟨2, ![65536, 1024]⟩
abbrev S1024x5832 : Shape := ⟨2, ![1024, 5832]⟩
abbrev S5832 : Shape := ⟨1, ![5832]⟩
abbrev S65536x5832 : Shape := ⟨2, ![65536, 5832]⟩
abbrev S1x5832 : Shape := ⟨2, ![1, 5832]⟩
abbrev S65536x512 : Shape := ⟨2, ![65536, 512]⟩
abbrev S65536x64 : Shape := ⟨2, ![65536, 64]⟩
abbrev S65536x8 : Shape := ⟨2, ![65536, 8]⟩
abbrev S_ : Shape := ⟨0, ![]⟩
abbrev S65536x128 : Shape := ⟨2, ![65536, 128]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5832, .f32⟩
  | .hbm, ⟨2, _⟩ => ⟨S5832, .f32⟩
  | .hbm, ⟨3, _⟩ => ⟨S65536x5832, .f32⟩
  | .hbm, ⟨4, _⟩ => ⟨S1x5832, .f32⟩
  | .hbm, ⟨5, _⟩ => ⟨S65536x5832, .f32⟩
  | .hbm, ⟨6, _⟩ => ⟨S65536x5832, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x64, .f32⟩
  | .hbm, ⟨13, _⟩ => ⟨S65536x64, .f32⟩
  | .hbm, ⟨14, _⟩ => ⟨S65536x512, .f32⟩
  | .hbm, ⟨15, _⟩ => ⟨S65536x512, .f32⟩
  | .hbm, ⟨16, _⟩ => ⟨S65536x64, .f32⟩
  | .hbm, ⟨17, _⟩ => ⟨S65536x8, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S65536x512, .bf16⟩
  | .hbm, ⟨24, _⟩ => ⟨S_, .f32⟩
  | .hbm, ⟨25, _⟩ => ⟨S65536x512, .f32⟩
  | .hbm, ⟨26, _⟩ => ⟨S65536x512, .f32⟩
  | .hbm, ⟨27, _⟩ => ⟨S65536x512, .bf16⟩
  | .hbm, ⟨28, _⟩ => ⟨S65536x512, .bf16⟩
  | .hbm, ⟨29, _⟩ => ⟨S65536x128, .f32⟩
  | .hbm, ⟨30, _⟩ => ⟨S65536x128, .bf16⟩
  | .hbm, ⟨31, _⟩ => ⟨S65536x128, .f32⟩
  | .hbm, ⟨32, _⟩ => ⟨S65536x128, .bf16⟩
  | .hbm, ⟨33, _⟩ => ⟨S65536x128, .f32⟩
  | .hbm, ⟨34, _⟩ => ⟨S65536x128, .bf16⟩
  | .hbm, ⟨35, _⟩ => ⟨S_, .i32⟩
  | .hbm, ⟨36, _⟩ => ⟨S_, .f32⟩
  | .hbm, ⟨37, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== MergeSample.lean ====
abbrev S2048x1024 : Shape := ⟨2, ![2048, 1024]⟩
abbrev S2048x512 : Shape := ⟨2, ![2048, 512]⟩
abbrev S1024x5832 : Shape := ⟨2, ![1024, 5832]⟩
abbrev S5832 : Shape := ⟨1, ![5832]⟩
abbrev S512x1024 : Shape := ⟨2, ![512, 1024]⟩
abbrev S1024x1024 : Shape := ⟨2, ![1024, 1024]⟩
abbrev S1024 : Shape := ⟨1, ![1024]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S1024x512 : Shape := ⟨2, ![1024, 512]⟩
abbrev S1024x1 : Shape := ⟨2, ![1024, 1]⟩

abbrev nBuf : Space → Nat
  | .hbm => 72
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x5832, .f32⟩
  | .hbm, ⟨4, _⟩ => ⟨S5832, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1x1024x5832, .f32⟩
  | .hbm, ⟨11, _⟩ => ⟨S1x5832, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S1x1024x64, .f32⟩
  | .hbm, ⟨18, _⟩ => ⟨S1x1024x64, .f32⟩
  | .hbm, ⟨19, _⟩ => ⟨S1x1024x512, .f32⟩
  | .hbm, ⟨20, _⟩ => ⟨S1x1024x512, .f32⟩
  | .hbm, ⟨21, _⟩ => ⟨S1x1024x64, .f32⟩
  | .hbm, ⟨22, _⟩ => ⟨S1x1024x8, .f32⟩
  | .hbm, ⟨23, _⟩ => ⟨S1x1024x1024, .f32⟩
  | .hbm, ⟨24, _⟩ => ⟨S1x1024x1024, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x64, .f32⟩
  | .hbm, ⟨31, _⟩ => ⟨S1x64, .f32⟩
  | .hbm, ⟨32, _⟩ => ⟨S1x512, .f32⟩
  | .hbm, ⟨33, _⟩ => ⟨S1x512, .f32⟩
  | .hbm, ⟨34, _⟩ => ⟨S1x64, .f32⟩
  | .hbm, ⟨35, _⟩ => ⟨S1x8, .f32⟩
  | .hbm, ⟨36, _⟩ => ⟨S1x1024, .f32⟩
  | .hbm, ⟨37, _⟩ => ⟨S1x1024, .f32⟩
  | .hbm, ⟨38, _⟩ => ⟨S_, .i32⟩
  | .hbm, ⟨39, _⟩ => ⟨S_, .f32⟩
  | .hbm, ⟨40, _⟩ => ⟨S1x1024x128, .f32⟩
  | .hbm, ⟨41, _⟩ => ⟨S_, .f32⟩
  | .hbm, ⟨42, _⟩ => ⟨S1x1024x512, .f32⟩
  | .hbm, ⟨43, _⟩ => ⟨S1x1024x512, .f32⟩
  | .hbm, ⟨44, _⟩ => ⟨S_, .f32⟩
  | .hbm, ⟨45, _⟩ => ⟨S1x1024x512, .f32⟩
  | .hbm, ⟨46, _⟩ => ⟨S1x1024x512, .f32⟩
  | .hbm, ⟨47, _⟩ => ⟨S1x1024x3072, .f32⟩
  | .hbm, ⟨48, _⟩ => ⟨S1x1024x3072, .bf16⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S_, .f32⟩
  | .hbm, ⟨56, _⟩ => ⟨S1x512, .f32⟩
  | .hbm, ⟨57, _⟩ => ⟨S1x512, .f32⟩
  | .hbm, ⟨58, _⟩ => ⟨S1x3072, .f32⟩
  | .hbm, ⟨59, _⟩ => ⟨S1x1x3072, .f32⟩
  | .hbm, ⟨60, _⟩ => ⟨S1x1024x3072, .f32⟩
  | .hbm, ⟨61, _⟩ => ⟨S1x1024x3072, .bf16⟩
  | .hbm, ⟨62, _⟩ => ⟨S1x3072, .f32⟩
  | .hbm, ⟨63, _⟩ => ⟨S1x1x3072, .f32⟩
  | .hbm, ⟨64, _⟩ => ⟨S1024x3072, .bf16⟩
  | .hbm, ⟨65, _⟩ => ⟨S1x3072, .f32⟩
  | .hbm, ⟨66, _⟩ => ⟨S512x1024, .bf16⟩
  | .hbm, ⟨67, _⟩ => ⟨S512x1024, .bf16⟩
  | .hbm, ⟨68, _⟩ => ⟨S1024x1024, .bf16⟩
  | .hbm, ⟨69, _⟩ => ⟨S1x1024, .f32⟩
  | .hbm, ⟨70, _⟩ => ⟨S1x1024, .f32⟩
  | .hbm, ⟨71, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x3072, .bf16⟩
  | .local _ .vmem, ⟨7, _⟩ => ⟨S1x3072, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_call1_v0 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeSampleReferenceIdeal.lean ====
abbrev S2048x1024 : Shape := ⟨2, ![2048, 1024]⟩
abbrev S2048x512 : Shape := ⟨2, ![2048, 512]⟩
abbrev S1024x5832 : Shape := ⟨2, ![1024, 5832]⟩
abbrev S5832 : Shape := ⟨1, ![5832]⟩
abbrev S512x1024 : Shape := ⟨2, ![512, 1024]⟩
abbrev S1024x1024 : Shape := ⟨2, ![1024, 1024]⟩
abbrev S1024 : Shape := ⟨1, ![1024]⟩
abbrev S2048x5832 : Shape := ⟨2, ![2048, 5832]⟩
abbrev S1x5832 : Shape := ⟨2, ![1, 5832]⟩
abbrev S2048x64 : Shape := ⟨2, ![2048, 64]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S1024x5832, .f32⟩
  | .hbm, ⟨4, _⟩ => ⟨S5832, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S2048x5832, .f32⟩
  | .hbm, ⟨11, _⟩ => ⟨S1x5832, .f32⟩
  | .hbm, ⟨12, _⟩ => ⟨S2048x5832, .f32⟩
  | .hbm, ⟨13, _⟩ => ⟨S2048x5832, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x64, .f32⟩
  | .hbm, ⟨20, _⟩ => ⟨S2048x64, .f32⟩
  | .hbm, ⟨21, _⟩ => ⟨S2048x512, .f32⟩
  | .hbm, ⟨22, _⟩ => ⟨S2048x512, .f32⟩
  | .hbm, ⟨23, _⟩ => ⟨S2048x64, .f32⟩
  | .hbm, ⟨24, _⟩ => ⟨S2048x8, .f32⟩
  | .hbm, ⟨25, _⟩ => ⟨S2048x1024, .f32⟩
  | .hbm, ⟨26, _⟩ => ⟨S2048x1024, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S2048x1, .f32⟩
  | .hbm, ⟨94, _⟩ => ⟨S2048x1024, .f32⟩
  | .hbm, ⟨95, _⟩ => ⟨S2048x1024, .f32⟩
  | .hbm, ⟨96, _⟩ => ⟨S1x1024, .f32⟩
  | .hbm, ⟨97, _⟩ => ⟨S2048x1024, .f32⟩
  | .hbm, ⟨98, _⟩ => ⟨S2048x1024, .f32⟩
  | .hbm, ⟨99, _⟩ => ⟨S1x1024, .f32⟩
  | .hbm, ⟨100, _⟩ => ⟨S2048x1024, .f32⟩
  | .hbm, ⟨101, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_cst_0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_3 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_v49 : Ref sig .tc := ⟨.hbm, 83, rfl⟩
abbrev main_v50 : Ref sig .tc := ⟨.hbm, 84, rfl⟩
abbrev main_cst_7 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_8 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]
-- ==== ProjSample.lean ====
abbrev S8x256x1024 : Shape := ⟨3, ![8, 256, 1024]⟩
abbrev S1024 : Shape := ⟨1, ![1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S2048x1024 : Shape := ⟨2, ![2048, 1024]⟩
abbrev S1024x3072 : Shape := ⟨2, ![1024, 3072]⟩
abbrev S2048x512 : Shape := ⟨2, ![2048, 512]⟩
abbrev S2048x128 : Shape := ⟨2, ![2048, 128]⟩
abbrev S2048x64 : Shape := ⟨2, ![2048, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩
abbrev S1024x1 : Shape := ⟨2, ![1024, 1]⟩

abbrev nBuf : Space → Nat
  | .hbm => 77
  | .vmem => 32
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024, .f32⟩
  | .hbm, ⟨3, _⟩ => ⟨S1024x5832, .f32⟩
  | .hbm, ⟨4, _⟩ => ⟨S5832, .f32⟩
  | .hbm, ⟨5, _⟩ => ⟨S1x1024x5832, .f32⟩
  | .hbm, ⟨6, _⟩ => ⟨S1x5832, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S1x1024x512, .f32⟩
  | .hbm, ⟨12, _⟩ => ⟨S1x1024x64, .f32⟩
  | .hbm, ⟨13, _⟩ => ⟨S1x1024x64, .f32⟩
  | .hbm, ⟨14, _⟩ => ⟨S1x1024x512, .f32⟩
  | .hbm, ⟨15, _⟩ => ⟨S1x1024x512, .f32⟩
  | .hbm, ⟨16, _⟩ => ⟨S1x1024x64, .f32⟩
  | .hbm, ⟨17, _⟩ => ⟨S1x1024x8, .f32⟩
  | .hbm, ⟨18, _⟩ => ⟨S1x1024x1024, .f32⟩
  | .hbm, ⟨19, _⟩ => ⟨S1x1024x1024, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x64, .f32⟩
  | .hbm, ⟨26, _⟩ => ⟨S1x64, .f32⟩
  | .hbm, ⟨27, _⟩ => ⟨S1x512, .f32⟩
  | .hbm, ⟨28, _⟩ => ⟨S1x512, .f32⟩
  | .hbm, ⟨29, _⟩ => ⟨S1x64, .f32⟩
  | .hbm, ⟨30, _⟩ => ⟨S1x8, .f32⟩
  | .hbm, ⟨31, _⟩ => ⟨S1x1024, .f32⟩
  | .hbm, ⟨32, _⟩ => ⟨S1x1024, .f32⟩
  | .hbm, ⟨33, _⟩ => ⟨S_, .i32⟩
  | .hbm, ⟨34, _⟩ => ⟨S_, .f32⟩
  | .hbm, ⟨35, _⟩ => ⟨S1x1024x128, .f32⟩
  | .hbm, ⟨36, _⟩ => ⟨S_, .f32⟩
  | .hbm, ⟨37, _⟩ => ⟨S1x1024x512, .f32⟩
  | .hbm, ⟨38, _⟩ => ⟨S1x1024x512, .f32⟩
  | .hbm, ⟨39, _⟩ => ⟨S_, .f32⟩
  | .hbm, ⟨40, _⟩ => ⟨S1x1024x512, .f32⟩
  | .hbm, ⟨41, _⟩ => ⟨S1x1024x512, .f32⟩
  | .hbm, ⟨42, _⟩ => ⟨S1x1024x3072, .f32⟩
  | .hbm, ⟨43, _⟩ => ⟨S1x1024x3072, .bf16⟩
  | .hbm, ⟨44, _⟩ => ⟨S_, .i32⟩
  | .hbm, ⟨45, _⟩ => ⟨S_, .f32⟩
  | .hbm, ⟨46, _⟩ => ⟨S1x128, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S1x3072, .f32⟩
  | .hbm, ⟨54, _⟩ => ⟨S1x1x3072, .f32⟩
  | .hbm, ⟨55, _⟩ => ⟨S1x1024x3072, .f32⟩
  | .hbm, ⟨56, _⟩ => ⟨S1x1024x3072, .bf16⟩
  | .hbm, ⟨57, _⟩ => ⟨S1x3072, .f32⟩
  | .hbm, ⟨58, _⟩ => ⟨S1x1x3072, .f32⟩
  | .hbm, ⟨59, _⟩ => ⟨S2048x1024, .f32⟩
  | .hbm, ⟨60, _⟩ => ⟨S1024x3072, .bf16⟩
  | .hbm, ⟨61, _⟩ => ⟨S1x3072, .f32⟩
  | .hbm, ⟨62, _⟩ => ⟨S1x1024, .f32⟩
  | .hbm, ⟨63, _⟩ => ⟨S1x1024, .f32⟩
  | .hbm, ⟨64, _⟩ => ⟨S2048x512, .bf16⟩
  | .hbm, ⟨65, _⟩ => ⟨S2048x512, .bf16⟩
  | .hbm, ⟨66, _⟩ => ⟨S2048x512, .bf16⟩
  | .hbm, ⟨67, _⟩ => ⟨S2048x128, .bf16⟩
  | .hbm, ⟨68, _⟩ => ⟨S2048x128, .bf16⟩
  | .hbm, ⟨69, _⟩ => ⟨S2048x128, .bf16⟩
  | .hbm, ⟨70, _⟩ => ⟨S2048x128, .f32⟩
  | .hbm, ⟨71, _⟩ => ⟨S2048x512, .f32⟩
  | .hbm, ⟨72, _⟩ => ⟨S2048x512, .f32⟩
  | .hbm, ⟨73, _⟩ => ⟨S2048x64, .f32⟩
  | .hbm, ⟨74, _⟩ => ⟨S2048x64, .f32⟩
  | .hbm, ⟨75, _⟩ => ⟨S2048x64, .f32⟩
  | .hbm, ⟨76, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x64, .f32⟩
  | .local _ .vmem, ⟨29, _⟩ => ⟨S1024x64, .f32⟩
  | .local _ .vmem, ⟨30, _⟩ => ⟨S1024x1024, .f32⟩
  | .local _ .vmem, ⟨31, _⟩ => ⟨S1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_call0_v0 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_call1_v0 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51_0 : Ref sig .tc := ⟨.hbm, 64, rfl⟩
abbrev main_v51_1 : Ref sig .tc := ⟨.hbm, 65, rfl⟩
abbrev main_v51_2 : Ref sig .tc := ⟨.hbm, 66, rfl⟩
abbrev main_v51_3 : Ref sig .tc := ⟨.hbm, 67, rfl⟩
abbrev main_v51_4 : Ref sig .tc := ⟨.hbm, 68, rfl⟩
abbrev main_v51_5 : Ref sig .tc := ⟨.hbm, 69, rfl⟩
abbrev main_v51_6 : Ref sig .tc := ⟨.hbm, 70, rfl⟩
abbrev main_v51_7 : Ref sig .tc := ⟨.hbm, 71, rfl⟩
abbrev main_v51_8 : Ref sig .tc := ⟨.hbm, 72, rfl⟩
abbrev main_v51_9 : Ref sig .tc := ⟨.hbm, 73, rfl⟩
abbrev main_v51_10 : Ref sig .tc := ⟨.hbm, 74, rfl⟩
abbrev main_v51_11 : Ref sig .tc := ⟨.hbm, 75, rfl⟩
abbrev main_v51_12 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ProjSampleReferenceIdeal.lean ====
abbrev S8x256x1024 : Shape := ⟨3, ![8, 256, 1024]⟩
abbrev S1024 : Shape := ⟨1, ![1024]⟩
abbrev S1024x5832 : Shape := ⟨2, ![1024, 5832]⟩
abbrev S5832 : Shape := ⟨1, ![5832]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5832 : Shape := ⟨2, ![2048, 5832]⟩
abbrev S1x5832 : Shape := ⟨2, ![1, 5832]⟩
abbrev S2048x512 : Shape := ⟨2, ![2048, 512]⟩
abbrev S2048x64 : Shape := ⟨2, ![2048, 64]⟩
abbrev S2048x8 : Shape := ⟨2, ![2048, 8]⟩
abbrev S2048x128 : Shape := ⟨2, ![2048, 128]⟩

abbrev nBuf : Space → Nat
  | .hbm => 70
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024, .f32⟩
  | .hbm, ⟨3, _⟩ => ⟨S1024x5832, .f32⟩
  | .hbm, ⟨4, _⟩ => ⟨S5832, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x5832, .f32⟩
  | .hbm, ⟨36, _⟩ => ⟨S1x5832, .f32⟩
  | .hbm, ⟨37, _⟩ => ⟨S2048x5832, .f32⟩
  | .hbm, ⟨38, _⟩ => ⟨S2048x5832, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x64, .f32⟩
  | .hbm, ⟨45, _⟩ => ⟨S2048x64, .f32⟩
  | .hbm, ⟨46, _⟩ => ⟨S2048x512, .f32⟩
  | .hbm, ⟨47, _⟩ => ⟨S2048x512, .f32⟩
  | .hbm, ⟨48, _⟩ => ⟨S2048x64, .f32⟩
  | .hbm, ⟨49, _⟩ => ⟨S2048x8, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S2048x512, .bf16⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S2048x512, .bf16⟩
  | .hbm, ⟨60, _⟩ => ⟨S2048x512, .bf16⟩
  | .hbm, ⟨61, _⟩ => ⟨S2048x128, .f32⟩
  | .hbm, ⟨62, _⟩ => ⟨S2048x128, .bf16⟩
  | .hbm, ⟨63, _⟩ => ⟨S2048x128, .f32⟩
  | .hbm, ⟨64, _⟩ => ⟨S2048x128, .bf16⟩
  | .hbm, ⟨65, _⟩ => ⟨S2048x128, .f32⟩
  | .hbm, ⟨66, _⟩ => ⟨S2048x128, .bf16⟩
  | .hbm, ⟨67, _⟩ => ⟨S_, .i32⟩
  | .hbm, ⟨68, _⟩ => ⟨S_, .f32⟩
  | .hbm, ⟨69, _⟩ => ⟨S2048x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c : Ref sig .tc := ⟨.hbm, 67, rfl⟩
abbrev main_call0_v0 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== LaterSample.lean ====
abbrev S2048x1024 : Shape := ⟨2, ![2048, 1024]⟩
abbrev S1024x5832 : Shape := ⟨2, ![1024, 5832]⟩
abbrev S5832 : Shape := ⟨1, ![5832]⟩
abbrev S1x1024x5832 : Shape := ⟨3, ![1, 1024, 5832]⟩
abbrev S1x5832 : Shape := ⟨2, ![1, 5832]⟩
abbrev S1x1024x512 : Shape := ⟨3, ![1, 1024, 512]⟩
abbrev S1x1024x64 : Shape := ⟨3, ![1, 1024, 64]⟩
abbrev S1x1024x8 : Shape := ⟨3, ![1, 1024, 8]⟩
abbrev S1x1024x1024 : Shape := ⟨3, ![1, 1024, 1024]⟩
abbrev S1x512 : Shape := ⟨2, ![1, 512]⟩
abbrev S1x64 : Shape := ⟨2, ![1, 64]⟩
abbrev S1x8 : Shape := ⟨2, ![1, 8]⟩
abbrev S1x1024 : Shape := ⟨2, ![1, 1024]⟩
abbrev S_ : Shape := ⟨0, ![]⟩
abbrev S1x1024x128 : Shape := ⟨3, ![1, 1024, 128]⟩
abbrev S1x1024x3072 : Shape := ⟨3, ![1, 1024, 3072]⟩
abbrev S1x128 : Shape := ⟨2, ![1, 128]⟩
abbrev S1x3072 : Shape := ⟨2, ![1, 3072]⟩
abbrev S1x1x3072 : Shape := ⟨3, ![1, 1, 3072]⟩
abbrev S1024x3072 : Shape := ⟨2, ![1024, 3072]⟩
abbrev S2048x512 : Shape := ⟨2, ![2048, 512]⟩
abbrev S2048x128 : Shape := ⟨2, ![2048, 128]⟩
abbrev S2048x64 : Shape := ⟨2, ![2048, 64]⟩
abbrev S1024x1024 : Shape := ⟨2, ![1024, 1024]⟩
abbrev S1024x512 : Shape := ⟨2, ![1024, 512]⟩
abbrev S1024x128 : Shape := ⟨2, ![1024, 128]⟩
abbrev S1024x64 : Shape := ⟨2, ![1024, 64]⟩

abbrev nBuf : Space → Nat
  | .hbm => 71
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S1024x5832, .f32⟩
  | .hbm, ⟨2, _⟩ => ⟨S5832, .f32⟩
  | .hbm, ⟨3, _⟩ => ⟨S1x1024x5832, .f32⟩
  | .hbm, ⟨4, _⟩ => ⟨S1x5832, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x64, .f32⟩
  | .hbm, ⟨11, _⟩ => ⟨S1x1024x64, .f32⟩
  | .hbm, ⟨12, _⟩ => ⟨S1x1024x512, .f32⟩
  | .hbm, ⟨13, _⟩ => ⟨S1x1024x512, .f32⟩
  | .hbm, ⟨14, _⟩ => ⟨S1x1024x64, .f32⟩
  | .hbm, ⟨15, _⟩ => ⟨S1x1024x8, .f32⟩
  | .hbm, ⟨16, _⟩ => ⟨S1x1024x1024, .f32⟩
  | .hbm, ⟨17, _⟩ => ⟨S1x1024x1024, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x64, .f32⟩
  | .hbm, ⟨24, _⟩ => ⟨S1x64, .f32⟩
  | .hbm, ⟨25, _⟩ => ⟨S1x512, .f32⟩
  | .hbm, ⟨26, _⟩ => ⟨S1x512, .f32⟩
  | .hbm, ⟨27, _⟩ => ⟨S1x64, .f32⟩
  | .hbm, ⟨28, _⟩ => ⟨S1x8, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S1x1024x128, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S_, .f32⟩
  | .hbm, ⟨38, _⟩ => ⟨S1x1024x512, .f32⟩
  | .hbm, ⟨39, _⟩ => ⟨S1x1024x512, .f32⟩
  | .hbm, ⟨40, _⟩ => ⟨S1x1024x3072, .f32⟩
  | .hbm, ⟨41, _⟩ => ⟨S1x1024x3072, .bf16⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x3072, .f32⟩
  | .hbm, ⟨52, _⟩ => ⟨S1x1x3072, .f32⟩
  | .hbm, ⟨53, _⟩ => ⟨S1x1024x3072, .f32⟩
  | .hbm, ⟨54, _⟩ => ⟨S1x1024x3072, .bf16⟩
  | .hbm, ⟨55, _⟩ => ⟨S1x3072, .f32⟩
  | .hbm, ⟨56, _⟩ => ⟨S1x1x3072, .f32⟩
  | .hbm, ⟨57, _⟩ => ⟨S1024x3072, .bf16⟩
  | .hbm, ⟨58, _⟩ => ⟨S1x3072, .f32⟩
  | .hbm, ⟨59, _⟩ => ⟨S2048x512, .bf16⟩
  | .hbm, ⟨60, _⟩ => ⟨S2048x512, .bf16⟩
  | .hbm, ⟨61, _⟩ => ⟨S2048x512, .bf16⟩
  | .hbm, ⟨62, _⟩ => ⟨S2048x128, .bf16⟩
  | .hbm, ⟨63, _⟩ => ⟨S2048x128, .bf16⟩
  | .hbm, ⟨64, _⟩ => ⟨S2048x128, .bf16⟩
  | .hbm, ⟨65, _⟩ => ⟨S2048x128, .f32⟩
  | .hbm, ⟨66, _⟩ => ⟨S2048x512, .f32⟩
  | .hbm, ⟨67, _⟩ => ⟨S2048x512, .f32⟩
  | .hbm, ⟨68, _⟩ => ⟨S2048x64, .f32⟩
  | .hbm, ⟨69, _⟩ => ⟨S2048x64, .f32⟩
  | .hbm, ⟨70, _⟩ => ⟨S2048x64, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_c : Ref sig .tc := ⟨.hbm, 31, rfl⟩
abbrev main_call0_v0 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_call1_v0 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev main_v48_3 : Ref sig .tc := ⟨.hbm, 62, rfl⟩
abbrev main_v48_4 : Ref sig .tc := ⟨.hbm, 63, rfl⟩
abbrev main_v48_5 : Ref sig .tc := ⟨.hbm, 64, rfl⟩
abbrev main_v48_6 : Ref sig .tc := ⟨.hbm, 65, rfl⟩
abbrev main_v48_7 : Ref sig .tc := ⟨.hbm, 66, rfl⟩
abbrev main_v48_8 : Ref sig .tc := ⟨.hbm, 67, rfl⟩
abbrev main_v48_9 : Ref sig .tc := ⟨.hbm, 68, rfl⟩
abbrev main_v48_10 : Ref sig .tc := ⟨.hbm, 69, rfl⟩
abbrev main_v48_11 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LaterSampleReferenceIdeal.lean ====
abbrev S2048x1024 : Shape := ⟨2, ![2048, 1024]⟩
abbrev S1024x5832 : Shape := ⟨2, ![1024, 5832]⟩
abbrev S5832 : Shape := ⟨1, ![5832]⟩
abbrev S2048x5832 : Shape := ⟨2, ![2048, 5832]⟩
abbrev S1x5832 : Shape := ⟨2, ![1, 5832]⟩
abbrev S2048x512 : Shape := ⟨2, ![2048, 512]⟩
abbrev S2048x64 : Shape := ⟨2, ![2048, 64]⟩
abbrev S2048x8 : Shape := ⟨2, ![2048, 8]⟩
abbrev S_ : Shape := ⟨0, ![]⟩
abbrev S2048x128 : Shape := ⟨2, ![2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5832, .f32⟩
  | .hbm, ⟨2, _⟩ => ⟨S5832, .f32⟩
  | .hbm, ⟨3, _⟩ => ⟨S2048x5832, .f32⟩
  | .hbm, ⟨4, _⟩ => ⟨S1x5832, .f32⟩
  | .hbm, ⟨5, _⟩ => ⟨S2048x5832, .f32⟩
  | .hbm, ⟨6, _⟩ => ⟨S2048x5832, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x64, .f32⟩
  | .hbm, ⟨13, _⟩ => ⟨S2048x64, .f32⟩
  | .hbm, ⟨14, _⟩ => ⟨S2048x512, .f32⟩
  | .hbm, ⟨15, _⟩ => ⟨S2048x512, .f32⟩
  | .hbm, ⟨16, _⟩ => ⟨S2048x64, .f32⟩
  | .hbm, ⟨17, _⟩ => ⟨S2048x8, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .bf16⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .bf16⟩
  | .hbm, ⟨28, _⟩ => ⟨S2048x512, .bf16⟩
  | .hbm, ⟨29, _⟩ => ⟨S2048x128, .f32⟩
  | .hbm, ⟨30, _⟩ => ⟨S2048x128, .bf16⟩
  | .hbm, ⟨31, _⟩ => ⟨S2048x128, .f32⟩
  | .hbm, ⟨32, _⟩ => ⟨S2048x128, .bf16⟩
  | .hbm, ⟨33, _⟩ => ⟨S2048x128, .f32⟩
  | .hbm, ⟨34, _⟩ => ⟨S2048x128, .bf16⟩
  | .hbm, ⟨35, _⟩ => ⟨S_, .i32⟩
  | .hbm, ⟨36, _⟩ => ⟨S_, .f32⟩
  | .hbm, ⟨37, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_call0_v0 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Proof.Keeps.lean ====
/- Programs that keep an assertion: from it they run to their end and leave it as it was. The assertions meant
   here own every buffer a kernel reads or writes at SOME contents, so that a load, a store, a loop and a branch
   each keep it whatever the values are. -/
module

public import Idealize.ShloMosaic.Lib.Pipeline.Frame
public import Idealize.ShloMosaic.Lib.Scf
public import Idealize.ShloMosaic.Lib.Tactic

@[expose] public section

noncomputable section

namespace Cert.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

/-- The memref's elements, owned whole at some contents. -/
def some_owned (c : Thread nD τ) {sp : Space} {s : Shape} {e : EltTy} (m : Memref sig c.2.kind sp s e) : sProp 𝕄 :=
  iprop(∃ f : Buf Val (m.view.loc c), m.view.loc c ↦[m.view.set]{fullShare} f)

/-- The assertion lends the memref for reading: it comes back at the contents it had. -/
def Lends (c : Thread nD τ) (I : sProp 𝕄) {sp : Space} {s : Shape} {e : EltTy} (m : Memref sig c.2.kind sp s e) : Prop :=
  I ⊢ iprop(∃ f : Buf Val (m.view.loc c), (m.view.loc c ↦[m.view.set]{fullShare} f) ∗ ((m.view.loc c ↦[m.view.set]{fullShare} f) -∗ I))

/-- The assertion gives the memref away for writing: it may come back at any contents. -/
def Gives (c : Thread nD τ) (I : sProp 𝕄) {sp : Space} {s : Shape} {e : EltTy} (m : Memref sig c.2.kind sp s e) : Prop :=
  I ⊢ iprop(some_owned c m ∗ (some_owned c m -∗ I))

theorem Gives.lends {c : Thread nD τ} {I : sProp 𝕄} {sp : Space} {s : Shape} {e : EltTy} {m : Memref sig c.2.kind sp s e}
    (h : Gives c I m) : Lends c I m := by
  refine h.trans ?_
  unfold some_owned
  iintro ⟨⟨%f, H⟩, HK⟩
  iexists f
  isplitl [H]
  · iexact H
  · iintro H
    iapply HK
    iexists f
    iexact H

variable (defs : Defs nD τ sig Val Λ) (𝒱 : Variants) (c : Thread nD τ) (I : sProp (MT nD τ sig Ix Val Name U Lvl))

/-- The program runs from the assertion to its end, and the assertion holds there. -/
def Keeps (defs : Defs nD τ sig Val Λ) (𝒱 : Variants) (c : Thread nD τ) (I : sProp 𝕄) {α : Type} (p : Prog (TpuEff nD τ sig Val Λ c.2) α) : Prop :=
  I ⊢ wp frame (wpE defs 𝒱 c none) Set.univ p fun _ => I

variable {defs 𝒱 c I}

theorem keeps_pure {α : Type} (a : α) : Keeps defs 𝒱 c I (pure a) := by
  unfold Keeps; rw [wp_pure]; iintro H; imodintro; iexact H

theorem keeps_ret {α : Type} (a : α) : Keeps defs 𝒱 c I (.ret a) := keeps_pure a

theorem keeps_bind {α β : Type} {p : Prog (TpuEff nD τ sig Val Λ c.2) α} {k : α → Prog (TpuEff nD τ sig Val Λ c.2) β}
    (hp : Keeps defs 𝒱 c I p) (hk : ∀ a, Keeps defs 𝒱 c I (k a)) : Keeps defs 𝒱 c I (p >>= k) := by
  unfold Keeps at hp hk ⊢
  rw [wp_bind]
  exact hp.trans (wp_mono _ _ _ hk)

theorem keeps_op_load {α : Type} {cs : CoreSpace} {s : Shape} {e : EltTy} {m : Memref sig c.2.kind cs s e} {r : LoadRect s} {hl : m.view.LoadsAt r}
    {k : (r.shape.Idx → Val e) → Prog (TpuEff nD τ sig Val Λ c.2) α} (h : Lends c I m) (hk : ∀ x, Keeps defs 𝒱 c I (k x)) :
    Keeps defs 𝒱 c I (.op (.load m r hl) k) := by
  unfold Keeps at hk ⊢
  unfold Lends at h
  iintro HI
  ihave H := h $$ HI
  icases H with ⟨%f, H, HK⟩
  iapply (wp_load 𝒱 c none Set.univ (hl := hl) (S := m.view.set) (View.setOn_subset_set m.view _)) $$ H
  iintro H
  iapply (hk _)
  iapply HK
  iexact H

theorem keeps_load {cs : CoreSpace} {s : Shape} {e : EltTy} {m : Memref sig c.2.kind cs s e} {r : LoadRect s} {hl : m.view.LoadsAt r}
    (h : Lends c I m) : Keeps defs 𝒱 c I (Prog.lift (.load m r hl)) :=
  keeps_op_load h fun _ => keeps_ret _

theorem keeps_word {s : Shape} {e : EltTy} {m : Memref sig c.2.kind .smem s e} {r : Rect s} {h1 : r.shape.numel = 1} {hp : e.packing = 1}
    (h : Lends c I m) : Keeps defs 𝒱 c I (smemLoad m r h1 hp) :=
  keeps_op_load h fun _ => keeps_ret _

theorem keeps_store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Gives c I m) : Keeps defs 𝒱 c I (Prog.lift (.store m r w Mk hx hm)) := by
  unfold Keeps
  unfold Gives at h
  iintro HI
  ihave H := h $$ HI
  unfold some_owned
  icases H with ⟨⟨%f, H⟩, HK⟩
  iapply (wp_store 𝒱 c none Set.univ (hx := hx) (hm := hm) (S := m.view.set)
    (((m.access r).setOn_subset_set Mk).trans (by rw [View.set_slice]; exact View.setOn_subset_set m.view _))) $$ H
  iintro H
  rw [wp_ret]
  imodintro
  iapply HK
  iexists _
  iexact H

theorem keeps_for {w : Nat} {σ : Type} (l : Scf.Loop w) (hok : l.OK) (init : σ)
    {body : Fin l.trips → σ → Prog (TpuEff nD τ sig Val Λ c.2) σ} (h : ∀ k a, Keeps defs 𝒱 c I (body k a)) :
    Keeps defs 𝒱 c I (Scf.Loop.for l hok init body) := by
  refine BIBase.Entails.trans ?_ (Scf.wp_for frame (wpE defs 𝒱 c none) Set.univ l.lb l.ub l.st hok init body (fun _ _ => I) h)
  iintro H
  isplitl [H]
  · iexact H
  · iintro %_ H
    iexact H

theorem keeps_dite {α : Type} {P : Prop} [Decidable P] {p : P → Prog (TpuEff nD τ sig Val Λ c.2) α} {q : ¬ P → Prog (TpuEff nD τ sig Val Λ c.2) α}
    (hp : ∀ h, Keeps defs 𝒱 c I (p h)) (hq : ∀ h, Keeps defs 𝒱 c I (q h)) : Keeps defs 𝒱 c I (dite P p q) := by
  by_cases h : P
  · rw [dif_pos h]; exact hp h
  · rw [dif_neg h]; exact hq h

theorem keeps_ite {α : Type} {P : Prop} [Decidable P] {p q : Prog (TpuEff nD τ sig Val Λ c.2) α}
    (hp : Keeps defs 𝒱 c I p) (hq : Keeps defs 𝒱 c I q) : Keeps defs 𝒱 c I (ite P p q) := by
  split <;> assumption

/-- A statement about every pair is one about every pair of components. -/
theorem keeps_each {α : Sort*} {β : α → Sort*} {p : (Σ' a, β a) → Prop} (h : ∀ a b, p ⟨a, b⟩) : ∀ x, p x := fun x => h x.1 x.2

attribute [irreducible] Keeps Lends Gives

end Cert.Keep

end
-- ==== Proof.Body.lean ====
/- The attention kernel of the sparse layer: what its body asks of the assertion it runs under. -/
module

public import proofs.«01_k».proof.Proof.Keeps
public import proofs.«01_k».proof.Dsa

@[expose] public section

set_option maxRecDepth 16384
set_option maxHeartbeats 4000000

noncomputable section

namespace Cert.Dsa.Keep

open Idealize.ShloMosaic Idealize.ShloMosaic.TcCoe Idealize.SL Idealize.SL.RA Idealize.SL.BI Idealize.SL.Sem
open Cert.Keep Cert.Dsa.Facts₀ Cert.Dsa.Facts

variable {F : FTy → Type} [BitOps F] [Facts]
/-- What the assertion has to offer: the windows the body reads, lent, and the output's buffer and the scratches, given away. -/
structure Held (𝒱 : Variants) (c : Dev nD) (I : sProp (MT nD τ sig Unit (Elt F) ℕ (UR sig nD τ) ℕ)) (arg2 : Memref sig .tc .vmem S1x256x512 .bf16) (arg3 : Memref sig .tc .vmem S1x256x512 .bf16) (arg4 : Memref sig .tc .vmem S1x256x128 .f32) (arg5 : Memref sig .tc .vmem S1x2048x128 .bf16) (arg6 : Memref sig .tc .vmem S1x2048x128 .bf16) (arg7 : Memref sig .tc .vmem S1x2048x128 .bf16) (arg8 : Memref sig .tc .vmem S8x2x256x256 .f32) (arg9 : Memref sig .tc .smem S8 .f32) (arg10 : Memref sig .tc .vmem S1x256x512 .f32) (arg11 : Memref sig .tc .vmem S2048x128 .bf16) (arg12 : Memref sig .tc .vmem S8x128x256 .bf16) (arg13 : Memref sig .tc .vmem S8x128x256 .bf16) (arg14 : Memref sig .tc .vmem S2048x128 .bf16) (arg15 : Memref sig .tc .vmem S8x256x256 .i32) (arg16 : Memref sig .tc .vmem S8x256x256 .i16) (arg17 : Memref sig .tc .vmem S8x256x256 .i16) (arg18 : Memref sig .tc .vmem S8x256x256 .f32) (arg19 : Memref sig .tc .vmem S8x8x256x256 .f32) (arg20 : Memref sig .tc .vmem S8x1x256 .f32) (arg21 : Memref sig .tc .vmem S8x1x256 .f32) (arg22 : Memref sig .tc .vmem S4x128x256 .f32) : Prop where
  l2 : Lends (c : Thread nD τ) I arg2
  l3 : Lends (c : Thread nD τ) I arg3
  l4 : Lends (c : Thread nD τ) I arg4
  l5 : Lends (c : Thread nD τ) I arg5
  l6 : Lends (c : Thread nD τ) I arg6
  l7 : Lends (c : Thread nD τ) I arg7
  l8 : Lends (c : Thread nD τ) I arg8
  l9 : Lends (c : Thread nD τ) I arg9
  g10 : Gives (c : Thread nD τ) I arg10
  g11 : Gives (c : Thread nD τ) I arg11
  g12 : Gives (c : Thread nD τ) I arg12
  g13 : Gives (c : Thread nD τ) I arg13
  g14 : Gives (c : Thread nD τ) I arg14
  g15 : Gives (c : Thread nD τ) I arg15
  g16 : Gives (c : Thread nD τ) I arg16
  g17 : Gives (c : Thread nD τ) I arg17
  g18 : Gives (c : Thread nD τ) I arg18
  g19 : Gives (c : Thread nD τ) I arg19
  g20 : Gives (c : Thread nD τ) I arg20
  g21 : Gives (c : Thread nD τ) I arg21
  g22 : Gives (c : Thread nD τ) I arg22

variable {𝒱 : Variants} {c : Dev nD} {I : sProp (MT nD τ sig Unit (Elt F) ℕ (UR sig nD τ) ℕ)}
variable {i : grid0.Coords}
variable {arg2 : Memref sig .tc .vmem S1x256x512 .bf16}
variable {harg2 : arg2.IsWhole}
variable {arg3 : Memref sig .tc .vmem S1x256x512 .bf16}
variable {harg3 : arg3.IsWhole}
variable {arg4 : Memref sig .tc .vmem S1x256x128 .f32}
variable {harg4 : arg4.IsWhole}
variable {arg5 : Memref sig .tc .vmem S1x2048x128 .bf16}
variable {harg5 : arg5.IsWhole}
variable {arg6 : Memref sig .tc .vmem S1x2048x128 .bf16}
variable {harg6 : arg6.IsWhole}
variable {arg7 : Memref sig .tc .vmem S1x2048x128 .bf16}
variable {harg7 : arg7.IsWhole}
variable {arg8 : Memref sig .tc .vmem S8x2x256x256 .f32}
variable {harg8 : arg8.IsWhole}
variable {arg9 : Memref sig .tc .smem S8 .f32}
variable {harg9 : arg9.IsWhole}
variable {arg10 : Memref sig .tc .vmem S1x256x512 .f32}
variable {harg10 : arg10.IsWhole}
variable {arg11 : Memref sig .tc .vmem S2048x128 .bf16}
variable {harg11 : arg11.IsWhole}
variable {arg12 : Memref sig .tc .vmem S8x128x256 .bf16}
variable {harg12 : arg12.IsWhole}
variable {arg13 : Memref sig .tc .vmem S8x128x256 .bf16}
variable {harg13 : arg13.IsWhole}
variable {arg14 : Memref sig .tc .vmem S2048x128 .bf16}
variable {harg14 : arg14.IsWhole}
variable {arg15 : Memref sig .tc .vmem S8x256x256 .i32}
variable {harg15 : arg15.IsWhole}
variable {arg16 : Memref sig .tc .vmem S8x256x256 .i16}
variable {harg16 : arg16.IsWhole}
variable {arg17 : Memref sig .tc .vmem S8x256x256 .i16}
variable {harg17 : arg17.IsWhole}
variable {arg18 : Memref sig .tc .vmem S8x256x256 .f32}
variable {harg18 : arg18.IsWhole}
variable {arg19 : Memref sig .tc .vmem S8x8x256x256 .f32}
variable {harg19 : arg19.IsWhole}
variable {arg20 : Memref sig .tc .vmem S8x1x256 .f32}
variable {harg20 : arg20.IsWhole}
variable {arg21 : Memref sig .tc .vmem S8x1x256 .f32}
variable {harg21 : arg21.IsWhole}
variable {arg22 : Memref sig .tc .vmem S4x128x256 .f32}
variable {harg22 : arg22.IsWhole}
theorem Held.l10 (H : Held 𝒱 c I arg2 arg3 arg4 arg5 arg6 arg7 arg8 arg9 arg10 arg11 arg12 arg13 arg14 arg15 arg16 arg17 arg18 arg19 arg20 arg21 arg22) : Lends (c : Thread nD τ) I arg10 := H.g10.lends
theorem Held.l11 (H : Held 𝒱 c I arg2 arg3 arg4 arg5 arg6 arg7 arg8 arg9 arg10 arg11 arg12 arg13 arg14 arg15 arg16 arg17 arg18 arg19 arg20 arg21 arg22) : Lends (c : Thread nD τ) I arg11 := H.g11.lends
theorem Held.l12 (H : Held 𝒱 c I arg2 arg3 arg4 arg5 arg6 arg7 arg8 arg9 arg10 arg11 arg12 arg13 arg14 arg15 arg16 arg17 arg18 arg19 arg20 arg21 arg22) : Lends (c : Thread nD τ) I arg12 := H.g12.lends
theorem Held.l13 (H : Held 𝒱 c I arg2 arg3 arg4 arg5 arg6 arg7 arg8 arg9 arg10 arg11 arg12 arg13 arg14 arg15 arg16 arg17 arg18 arg19 arg20 arg21 arg22) : Lends (c : Thread nD τ) I arg13 := H.g13.lends
theorem Held.l14 (H : Held 𝒱 c I arg2 arg3 arg4 arg5 arg6 arg7 arg8 arg9 arg10 arg11 arg12 arg13 arg14 arg15 arg16 arg17 arg18 arg19 arg20 arg21 arg22) : Lends (c : Thread nD τ) I arg14 := H.g14.lends
theorem Held.l15 (H : Held 𝒱 c I arg2 arg3 arg4 arg5 arg6 arg7 arg8 arg9 arg10 arg11 arg12 arg13 arg14 arg15 arg16 arg17 arg18 arg19 arg20 arg21 arg22) : Lends (c : Thread nD τ) I arg15 := H.g15.lends
theorem Held.l16 (H : Held 𝒱 c I arg2 arg3 arg4 arg5 arg6 arg7 arg8 arg9 arg10 arg11 arg12 arg13 arg14 arg15 arg16 arg17 arg18 arg19 arg20 arg21 arg22) : Lends (c : Thread nD τ) I arg16 := H.g16.lends
theorem Held.l17 (H : Held 𝒱 c I arg2 arg3 arg4 arg5 arg6 arg7 arg8 arg9 arg10 arg11 arg12 arg13 arg14 arg15 arg16 arg17 arg18 arg19 arg20 arg21 arg22) : Lends (c : Thread nD τ) I arg17 := H.g17.lends
theorem Held.l18 (H : Held 𝒱 c I arg2 arg3 arg4 arg5 arg6 arg7 arg8 arg9 arg10 arg11 arg12 arg13 arg14 arg15 arg16 arg17 arg18 arg19 arg20 arg21 arg22) : Lends (c : Thread nD τ) I arg18 := H.g18.lends
theorem Held.l19 (H : Held 𝒱 c I arg2 arg3 arg4 arg5 arg6 arg7 arg8 arg9 arg10 arg11 arg12 arg13 arg14 arg15 arg16 arg17 arg18 arg19 arg20 arg21 arg22) : Lends (c : Thread nD τ) I arg19 := H.g19.lends
theorem Held.l20 (H : Held 𝒱 c I arg2 arg3 arg4 arg5 arg6 arg7 arg8 arg9 arg10 arg11 arg12 arg13 arg14 arg15 arg16 arg17 arg18 arg19 arg20 arg21 arg22) : Lends (c : Thread nD τ) I arg20 := H.g20.lends
theorem Held.l21 (H : Held 𝒱 c I arg2 arg3 arg4 arg5 arg6 arg7 arg8 arg9 arg10 arg11 arg12 arg13 arg14 arg15 arg16 arg17 arg18 arg19 arg20 arg21 arg22) : Lends (c : Thread nD τ) I arg21 := H.g21.lends
theorem Held.l22 (H : Held 𝒱 c I arg2 arg3 arg4 arg5 arg6 arg7 arg8 arg9 arg10 arg11 arg12 arg13 arg14 arg15 arg16 arg17 arg18 arg19 arg20 arg21 arg22) : Lends (c : Thread nD τ) I arg22 := H.g22.lends

end Cert.Dsa.Keep

end
-- ==== Proof.Body1.lean ====
/- Every part of the body keeps the assertion: its loads and stores go to the buffers held, whatever the values are. -/
module

public import proofs.«01_k».proof.Proof.Body

@[expose] public section

set_option maxRecDepth 16384
set_option maxHeartbeats 4000000

noncomputable section

namespace Cert.Dsa.Keep

open Idealize.ShloMosaic Idealize.ShloMosaic.TcCoe Idealize.SL Idealize.SL.RA Idealize.SL.BI Idealize.SL.Sem
open Cert.Keep Cert.Dsa.Facts₀ Cert.Dsa.Facts

variable {F : FTy → Type} [BitOps F] [Facts]
variable {𝒱 : Variants} {c : Dev nD} {I : sProp (MT nD τ sig Unit (Elt F) ℕ (UR sig nD τ) ℕ)}
variable {i : grid0.Coords}
variable {arg2 : Memref sig .tc .vmem S1x256x512 .bf16}
variable {harg2 : arg2.IsWhole}
variable {arg3 : Memref sig .tc .vmem S1x256x512 .bf16}
variable {harg3 : arg3.IsWhole}
variable {arg4 : Memref sig .tc .vmem S1x256x128 .f32}
variable {harg4 : arg4.IsWhole}
variable {arg5 : Memref sig .tc .vmem S1x2048x128 .bf16}
variable {harg5 : arg5.IsWhole}
variable {arg6 : Memref sig .tc .vmem S1x2048x128 .bf16}
variable {harg6 : arg6.IsWhole}
variable {arg7 : Memref sig .tc .vmem S1x2048x128 .bf16}
variable {harg7 : arg7.IsWhole}
variable {arg8 : Memref sig .tc .vmem S8x2x256x256 .f32}
variable {harg8 : arg8.IsWhole}
variable {arg9 : Memref sig .tc .smem S8 .f32}
variable {harg9 : arg9.IsWhole}
variable {arg10 : Memref sig .tc .vmem S1x256x512 .f32}
variable {harg10 : arg10.IsWhole}
variable {arg11 : Memref sig .tc .vmem S2048x128 .bf16}
variable {harg11 : arg11.IsWhole}
variable {arg12 : Memref sig .tc .vmem S8x128x256 .bf16}
variable {harg12 : arg12.IsWhole}
variable {arg13 : Memref sig .tc .vmem S8x128x256 .bf16}
variable {harg13 : arg13.IsWhole}
variable {arg14 : Memref sig .tc .vmem S2048x128 .bf16}
variable {harg14 : arg14.IsWhole}
variable {arg15 : Memref sig .tc .vmem S8x256x256 .i32}
variable {harg15 : arg15.IsWhole}
variable {arg16 : Memref sig .tc .vmem S8x256x256 .i16}
variable {harg16 : arg16.IsWhole}
variable {arg17 : Memref sig .tc .vmem S8x256x256 .i16}
variable {harg17 : arg17.IsWhole}
variable {arg18 : Memref sig .tc .vmem S8x256x256 .f32}
variable {harg18 : arg18.IsWhole}
variable {arg19 : Memref sig .tc .vmem S8x8x256x256 .f32}
variable {harg19 : arg19.IsWhole}
variable {arg20 : Memref sig .tc .vmem S8x1x256 .f32}
variable {harg20 : arg20.IsWhole}
variable {arg21 : Memref sig .tc .vmem S8x1x256 .f32}
variable {harg21 : arg21.IsWhole}
variable {arg22 : Memref sig .tc .vmem S4x128x256 .f32}
variable {harg22 : arg22.IsWhole}

theorem keeps_k0_part1 (H : Held 𝒱 c I arg2 arg3 arg4 arg5 arg6 arg7 arg8 arg9 arg10 arg11 arg12 arg13 arg14 arg15 arg16 arg17 arg18 arg19 arg20 arg21 arg22) :
    Keeps defs₀ 𝒱 c I (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  delta k0_part1
  repeat' first | extract_lets | with_reducible refine keeps_bind ?_ ?_ | with_reducible exact keeps_load H.l5 | with_reducible exact keeps_load H.l6 | with_reducible exact keeps_load H.l7 | with_reducible exact keeps_load H.l11 | with_reducible exact keeps_load H.l12 | with_reducible exact keeps_load H.l14 | with_reducible exact keeps_store H.g11 | with_reducible exact keeps_store H.g14 | intro _ | exact keeps_pure _

theorem keeps_k0_part2 (H : Held 𝒱 c I arg2 arg3 arg4 arg5 arg6 arg7 arg8 arg9 arg10 arg11 arg12 arg13 arg14 arg15 arg16 arg17 arg18 arg19 arg20 arg21 arg22) (v381 : FVec F S128x128 .bf16) (v389 : FVec F S128x128 .bf16) (v393 : FVec F S2048x128 .bf16) (v402 : FVec F S256x128 .bf16) (v404 : FVec F S128x256 .bf16) :
    Keeps defs₀ 𝒱 c I (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v381 v389 v393 v402 v404) := by
  delta k0_part2
  repeat' first | extract_lets | with_reducible refine keeps_bind ?_ ?_ | with_reducible exact keeps_load H.l12 | with_reducible exact keeps_load H.l13 | with_reducible exact keeps_store H.g12 | with_reducible exact keeps_store H.g13 | intro _ | exact keeps_pure _

theorem keeps_k0_part3 (H : Held 𝒱 c I arg2 arg3 arg4 arg5 arg6 arg7 arg8 arg9 arg10 arg11 arg12 arg13 arg14 arg15 arg16 arg17 arg18 arg19 arg20 arg21 arg22) (v381 : FVec F S128x128 .bf16) (v389 : FVec F S128x128 .bf16) (v393 : FVec F S2048x128 .bf16) (v435 : FVec F S256x128 .bf16) (v437 : FVec F S128x256 .bf16) :
    Keeps defs₀ 𝒱 c I (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v381 v389 v393 v435 v437) := by
  delta k0_part3
  repeat' first | extract_lets | with_reducible refine keeps_bind ?_ ?_ | with_reducible exact keeps_load H.l12 | with_reducible exact keeps_load H.l13 | with_reducible exact keeps_store H.g12 | with_reducible exact keeps_store H.g13 | intro _ | exact keeps_pure _

theorem keeps_k0_part4 (H : Held 𝒱 c I arg2 arg3 arg4 arg5 arg6 arg7 arg8 arg9 arg10 arg11 arg12 arg13 arg14 arg15 arg16 arg17 arg18 arg19 arg20 arg21 arg22) (v2 : IVec S1x128 1) (c0_i32_24 : BitVec 32) (c1_i32_27 : BitVec 32) (k0_t1 : Fin (k0_t1_loop i).trips) :
    Keeps defs₀ 𝒱 c I (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 c0_i32_24 c1_i32_27 k0_t1) := by
  delta k0_part4
  repeat' first | extract_lets | with_reducible refine keeps_bind ?_ ?_ | with_reducible exact keeps_load H.l3 | with_reducible exact keeps_load H.l14 | intro _ | exact keeps_pure _

theorem keeps_k0_part5 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S1024x128 .bf16) (v386 : FVec F S1024x256 .f32) (v387 : FVec F S1024x256 .f32) (v397 : FVec F S1024x256 .f32) (v398 : FVec F S1024x256 .f32) (v408 : FVec F S1024x256 .f32) (v409 : FVec F S1024x256 .f32) :
    Keeps defs₀ 𝒱 c I (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part5
  repeat' first | extract_lets | with_reducible refine keeps_bind ?_ ?_ | with_reducible exact keeps_load H.l3 | intro _ | exact keeps_pure _

theorem keeps_k0_part6 (H : Held 𝒱 c I arg2 arg3 arg4 arg5 arg6 arg7 arg8 arg9 arg10 arg11 arg12 arg13 arg14 arg15 arg16 arg17 arg18 arg19 arg20 arg21 arg22) (v61 : FVec F S128x256 .f32) (k0_t1 : Fin (k0_t1_loop i).trips) (v372 : BitVec 32) (v419 : FVec F S1024x256 .f32) (v420 : FVec F S1024x256 .f32) (v451 : FVec F S1024x256 .f32) (v456 : FVec F S1024x256 .f32) :
    Keeps defs₀ 𝒱 c I (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v61 k0_t1 v372 v419 v420 v451 v456) := by
  delta k0_part6
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part7 (H : Held 𝒱 c I arg2 arg3 arg4 arg5 arg6 arg7 arg8 arg9 arg10 arg11 arg12 arg13 arg14 arg15 arg16 arg17 arg18 arg19 arg20 arg21 arg22) (k0_t1 : Fin (k0_t1_loop i).trips) (v372 : BitVec 32) (v475 : IVec S1024x256 32) (v494 : IVec S256x256 16) :
    Keeps defs₀ 𝒱 c I (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v372 v475 v494) := by
  delta k0_part7
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part8 (H : Held 𝒱 c I arg2 arg3 arg4 arg5 arg6 arg7 arg8 arg9 arg10 arg11 arg12 arg13 arg14 arg15 arg16 arg17 arg18 arg19 arg20 arg21 arg22) (k0_t1 : Fin (k0_t1_loop i).trips) (v372 : BitVec 32) (v475 : IVec S1024x256 32) (v524 : IVec S256x256 32) (v532 : IVec S256x256 16) :
    Keeps defs₀ 𝒱 c I (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t1 v372 v475 v524 v532) := by
  delta k0_part8
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part9 (H : Held 𝒱 c I arg2 arg3 arg4 arg5 arg6 arg7 arg8 arg9 arg10 arg11 arg12 arg13 arg14 arg15 arg16 arg17 arg18 arg19 arg20 arg21 arg22) (v2 : IVec S1x128 1) (v83 : BitVec 32) (c1_i32_28 : BitVec 32) (k0_t2 : Fin (k0_t2_loop i).trips) :
    Keeps defs₀ 𝒱 c I (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v83 c1_i32_28 k0_t2) := by
  delta k0_part9
  repeat' first | extract_lets | with_reducible refine keeps_bind ?_ ?_ | with_reducible exact keeps_load H.l3 | with_reducible exact keeps_load H.l14 | intro _ | exact keeps_pure _

theorem keeps_k0_part10 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S1024x128 .bf16) (v386 : FVec F S1024x256 .f32) (v387 : FVec F S1024x256 .f32) (v397 : FVec F S1024x256 .f32) (v398 : FVec F S1024x256 .f32) (v408 : FVec F S1024x256 .f32) (v409 : FVec F S1024x256 .f32) :
    Keeps defs₀ 𝒱 c I (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part10
  repeat' first | extract_lets | with_reducible refine keeps_bind ?_ ?_ | with_reducible exact keeps_load H.l3 | intro _ | exact keeps_pure _

theorem keeps_k0_part11 (H : Held 𝒱 c I arg2 arg3 arg4 arg5 arg6 arg7 arg8 arg9 arg10 arg11 arg12 arg13 arg14 arg15 arg16 arg17 arg18 arg19 arg20 arg21 arg22) (v61 : FVec F S128x256 .f32) (k0_t2 : Fin (k0_t2_loop i).trips) (v372 : BitVec 32) (v419 : FVec F S1024x256 .f32) (v420 : FVec F S1024x256 .f32) (v451 : FVec F S1024x256 .f32) (v456 : FVec F S1024x256 .f32) :
    Keeps defs₀ 𝒱 c I (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v61 k0_t2 v372 v419 v420 v451 v456) := by
  delta k0_part11
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part12 (H : Held 𝒱 c I arg2 arg3 arg4 arg5 arg6 arg7 arg8 arg9 arg10 arg11 arg12 arg13 arg14 arg15 arg16 arg17 arg18 arg19 arg20 arg21 arg22) (k0_t2 : Fin (k0_t2_loop i).trips) (v372 : BitVec 32) (v475 : IVec S1024x256 32) (v494 : IVec S256x256 16) :
    Keeps defs₀ 𝒱 c I (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v372 v475 v494) := by
  delta k0_part12
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part13 (H : Held 𝒱 c I arg2 arg3 arg4 arg5 arg6 arg7 arg8 arg9 arg10 arg11 arg12 arg13 arg14 arg15 arg16 arg17 arg18 arg19 arg20 arg21 arg22) (k0_t2 : Fin (k0_t2_loop i).trips) (v372 : BitVec 32) (v475 : IVec S1024x256 32) (v524 : IVec S256x256 32) (v532 : IVec S256x256 16) :
    Keeps defs₀ 𝒱 c I (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t2 v372 v475 v524 v532) := by
  delta k0_part13
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part14 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h2 : k0_cond2 i = 1#1) :
    Keeps defs₀ 𝒱 c I (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h2) := by
  delta k0_part14
  repeat' first | extract_lets | with_reducible refine keeps_bind ?_ ?_ | with_reducible exact keeps_load H.l3 | with_reducible exact keeps_load H.l14 | intro _ | exact keeps_pure _

theorem keeps_k0_part15 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S256x128 .bf16) (v386 : FVec F S256x256 .f32) (v387 : FVec F S256x256 .f32) (v397 : FVec F S256x256 .f32) (v398 : FVec F S256x256 .f32) (v408 : FVec F S256x256 .f32) (v409 : FVec F S256x256 .f32) :
    Keeps defs₀ 𝒱 c I (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part15
  repeat' first | extract_lets | with_reducible refine keeps_bind ?_ ?_ | with_reducible exact keeps_load H.l3 | intro _ | exact keeps_pure _

theorem keeps_k0_part16 (H : Held 𝒱 c I arg2 arg3 arg4 arg5 arg6 arg7 arg8 arg9 arg10 arg11 arg12 arg13 arg14 arg15 arg16 arg17 arg18 arg19 arg20 arg21 arg22) (v58 : IVec S256x256 1) (v61 : FVec F S128x256 .f32) (k0_h2 : k0_cond2 i = 1#1) (v372 : BitVec 32) (v419 : FVec F S256x256 .f32) (v420 : FVec F S256x256 .f32) (v457 : FVec F S256x256 .f32) :
    Keeps defs₀ 𝒱 c I (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v58 v61 k0_h2 v372 v419 v420 v457) := by
  delta k0_part16
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part17 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h3 : k0_cond3 i = 1#1) :
    Keeps defs₀ 𝒱 c I (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h3) := by
  delta k0_part17
  repeat' first | extract_lets | with_reducible refine keeps_bind ?_ ?_ | with_reducible exact keeps_load H.l3 | with_reducible exact keeps_load H.l14 | intro _ | exact keeps_pure _

theorem keeps_k0_part18 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S512x128 .bf16) (v386 : FVec F S512x256 .f32) (v387 : FVec F S512x256 .f32) (v397 : FVec F S512x256 .f32) (v398 : FVec F S512x256 .f32) (v408 : FVec F S512x256 .f32) (v409 : FVec F S512x256 .f32) :
    Keeps defs₀ 𝒱 c I (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part18
  repeat' first | extract_lets | with_reducible refine keeps_bind ?_ ?_ | with_reducible exact keeps_load H.l3 | intro _ | exact keeps_pure _

theorem keeps_k0_part19 (H : Held 𝒱 c I arg2 arg3 arg4 arg5 arg6 arg7 arg8 arg9 arg10 arg11 arg12 arg13 arg14 arg15 arg16 arg17 arg18 arg19 arg20 arg21 arg22) (v61 : FVec F S128x256 .f32) (k0_h3 : k0_cond3 i = 1#1) (v372 : BitVec 32) (v419 : FVec F S512x256 .f32) (v420 : FVec F S512x256 .f32) (v457 : FVec F S512x256 .f32) :
    Keeps defs₀ 𝒱 c I (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v61 k0_h3 v372 v419 v420 v457) := by
  delta k0_part19
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part20 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h4 : k0_cond4 i = 1#1) :
    Keeps defs₀ 𝒱 c I (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h4) := by
  delta k0_part20
  repeat' first | extract_lets | with_reducible refine keeps_bind ?_ ?_ | with_reducible exact keeps_load H.l3 | with_reducible exact keeps_load H.l14 | intro _ | exact keeps_pure _

theorem keeps_k0_part21 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S768x128 .bf16) (v386 : FVec F S768x256 .f32) (v387 : FVec F S768x256 .f32) (v397 : FVec F S768x256 .f32) (v398 : FVec F S768x256 .f32) (v408 : FVec F S768x256 .f32) (v409 : FVec F S768x256 .f32) :
    Keeps defs₀ 𝒱 c I (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part21
  repeat' first | extract_lets | with_reducible refine keeps_bind ?_ ?_ | with_reducible exact keeps_load H.l3 | intro _ | exact keeps_pure _

theorem keeps_k0_part22 (H : Held 𝒱 c I arg2 arg3 arg4 arg5 arg6 arg7 arg8 arg9 arg10 arg11 arg12 arg13 arg14 arg15 arg16 arg17 arg18 arg19 arg20 arg21 arg22) (v61 : FVec F S128x256 .f32) (k0_h4 : k0_cond4 i = 1#1) (v372 : BitVec 32) (v419 : FVec F S768x256 .f32) (v420 : FVec F S768x256 .f32) (v457 : FVec F S768x256 .f32) :
    Keeps defs₀ 𝒱 c I (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v61 k0_h4 v372 v419 v420 v457) := by
  delta k0_part22
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part23 (H : Held 𝒱 c I arg2 arg3 arg4 arg5 arg6 arg7 arg8 arg9 arg10 arg11 arg12 arg13 arg14 arg15 arg16 arg17 arg18 arg19 arg20 arg21 arg22) (v58 : IVec S256x256 1) (k0_h4 : k0_cond4 i = 1#1) (v372 : BitVec 32) (v475 : IVec S768x256 32) (v499 : IVec S1x256x256 16) :
    Keeps defs₀ 𝒱 c I (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v58 k0_h4 v372 v475 v499) := by
  delta k0_part23
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part24 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h5 : k0_cond5 i = 1#1) :
    Keeps defs₀ 𝒱 c I (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h5) := by
  delta k0_part24
  repeat' first | extract_lets | with_reducible refine keeps_bind ?_ ?_ | with_reducible exact keeps_load H.l3 | with_reducible exact keeps_load H.l14 | intro _ | exact keeps_pure _

theorem keeps_k0_part25 (H : Held 𝒱 c I arg2 arg3 arg4 arg5 arg6 arg7 arg8 arg9 arg10 arg11 arg12 arg13 arg14 arg15 arg16 arg17 arg18 arg19 arg20 arg21 arg22) (v2 : IVec S1x128 1) (v61 : FVec F S128x256 .f32) (v376 : Vec F S1024x128 .bf16) (v386 : FVec F S1024x256 .f32) (v387 : FVec F S1024x256 .f32) (v397 : FVec F S1024x256 .f32) (v398 : FVec F S1024x256 .f32) (v408 : FVec F S1024x256 .f32) (v409 : FVec F S1024x256 .f32) :
    Keeps defs₀ 𝒱 c I (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v61 v376 v386 v387 v397 v398 v408 v409) := by
  delta k0_part25
  repeat' first | extract_lets | with_reducible refine keeps_bind ?_ ?_ | with_reducible exact keeps_load H.l3 | intro _ | exact keeps_pure _

theorem keeps_k0_part26 (H : Held 𝒱 c I arg2 arg3 arg4 arg5 arg6 arg7 arg8 arg9 arg10 arg11 arg12 arg13 arg14 arg15 arg16 arg17 arg18 arg19 arg20 arg21 arg22) (v61 : FVec F S128x256 .f32) (k0_h5 : k0_cond5 i = 1#1) (v372 : BitVec 32) (v419 : FVec F S1024x256 .f32) (v420 : FVec F S1024x256 .f32) (v457 : FVec F S1024x256 .f32) :
    Keeps defs₀ 𝒱 c I (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v61 k0_h5 v372 v419 v420 v457) := by
  delta k0_part26
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | intro _ | exact keeps_pure _

theorem keeps_k0_part27 (H : Held 𝒱 c I arg2 arg3 arg4 arg5 arg6 arg7 arg8 arg9 arg10 arg11 arg12 arg13 arg14 arg15 arg16 arg17 arg18 arg19 arg20 arg21 arg22) (k0_h5 : k0_cond5 i = 1#1) (v372 : BitVec 32) (v475 : IVec S1024x256 32) (v499 : IVec S1x256x256 16) :
    Keeps defs₀ 𝒱 c I (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h5 v372 v475 v499) := by
  delta k0_part27
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part28 (H : Held 𝒱 c I arg2 arg3 arg4 arg5 arg6 arg7 arg8 arg9 arg10 arg11 arg12 arg13 arg14 arg15 arg16 arg17 arg18 arg19 arg20 arg21 arg22) (v58 : IVec S256x256 1) (k0_h5 : k0_cond5 i = 1#1) (v372 : BitVec 32) (v475 : IVec S1024x256 32) (v524 : IVec S256x256 32) (v532 : IVec S256x256 16) (v535 : Vec F S1x256x256 .i16) :
    Keeps defs₀ 𝒱 c I (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v58 k0_h5 v372 v475 v524 v532 v535) := by
  delta k0_part28
  repeat' first | extract_lets | with_reducible refine keeps_bind ?_ ?_ | with_reducible exact keeps_load H.l15 | with_reducible exact keeps_load H.l16 | with_reducible exact keeps_load H.l17 | with_reducible exact keeps_store H.g15 | with_reducible exact keeps_store H.g16 | with_reducible exact keeps_store H.g17 | intro _ | exact keeps_pure _

theorem keeps_k0_part29 (H : Held 𝒱 c I arg2 arg3 arg4 arg5 arg6 arg7 arg8 arg9 arg10 arg11 arg12 arg13 arg14 arg15 arg16 arg17 arg18 arg19 arg20 arg21 arg22) (c0_i32_203 : BitVec 32) (c1_i32_204 : BitVec 32) (k0_t3 : Fin k0_t3_loop.trips) (arg24 : IVec S1x256 32) :
    Keeps defs₀ 𝒱 c I (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_203 c1_i32_204 k0_t3 arg24) := by
  delta k0_part29
  repeat' first | extract_lets | with_reducible refine keeps_bind ?_ ?_ | with_reducible exact keeps_load H.l16 | intro _ | exact keeps_pure _

theorem keeps_k0_part30 (H : Held 𝒱 c I arg2 arg3 arg4 arg5 arg6 arg7 arg8 arg9 arg10 arg11 arg12 arg13 arg14 arg15 arg16 arg17 arg18 arg19 arg20 arg21 arg22) (v808 : IVec S1x256 16) (v838 : IVec S256x256 16) :
    Keeps defs₀ 𝒱 c I (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808 v838) := by
  delta k0_part30
  repeat' first | extract_lets | with_reducible refine keeps_bind ?_ ?_ | with_reducible exact keeps_load H.l16 | intro _ | exact keeps_pure _

theorem keeps_k0_part31 (H : Held 𝒱 c I arg2 arg3 arg4 arg5 arg6 arg7 arg8 arg9 arg10 arg11 arg12 arg13 arg14 arg15 arg16 arg17 arg18 arg19 arg20 arg21 arg22) (v808 : IVec S1x256 16) :
    Keeps defs₀ 𝒱 c I (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808) := by
  delta k0_part31
  repeat' first | extract_lets | with_reducible refine keeps_bind ?_ ?_ | with_reducible exact keeps_load H.l16 | intro _ | exact keeps_pure _

theorem keeps_k0_part32 (H : Held 𝒱 c I arg2 arg3 arg4 arg5 arg6 arg7 arg8 arg9 arg10 arg11 arg12 arg13 arg14 arg15 arg16 arg17 arg18 arg19 arg20 arg21 arg22) (v808 : IVec S1x256 16) (v816 : IVec S16x256 16) (v817 : IVec S16x256 16) (v818 : IVec S16x256 16) (v819 : IVec S16x256 16) (v820 : IVec S16x256 16) (v821 : IVec S16x256 16) (v822 : IVec S16x256 16) (v823 : IVec S16x256 16) (v824 : IVec S16x256 16) (v825 : IVec S16x256 16) (v826 : IVec S16x256 16) (v827 : IVec S16x256 16) (v828 : IVec S16x256 16) (v829 : IVec S16x256 16) (v830 : IVec S16x256 16) (v831 : IVec S16x256 16) (v947 : Vec F S1x256x256 .i16) :
    Keeps defs₀ 𝒱 c I (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808 v816 v817 v818 v819 v820 v821 v822 v823 v824 v825 v826 v827 v828 v829 v830 v831 v947) := by
  delta k0_part32
  repeat' first | extract_lets | with_reducible refine keeps_bind ?_ ?_ | with_reducible exact keeps_load H.l16 | intro _ | exact keeps_pure _

theorem keeps_k0_part33 (H : Held 𝒱 c I arg2 arg3 arg4 arg5 arg6 arg7 arg8 arg9 arg10 arg11 arg12 arg13 arg14 arg15 arg16 arg17 arg18 arg19 arg20 arg21 arg22) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) (v848 : IVec S16x256 16) (v849 : IVec S16x256 16) (v850 : IVec S16x256 16) (v851 : IVec S16x256 16) (v852 : IVec S16x256 16) (v853 : IVec S16x256 16) (v854 : IVec S16x256 16) (v862 : IVec S16x256 16) (v863 : IVec S16x256 16) (v864 : IVec S16x256 16) (v865 : IVec S16x256 16) (v866 : IVec S16x256 16) (v867 : IVec S16x256 16) (v868 : IVec S16x256 16) (v869 : IVec S16x256 16) (v870 : IVec S16x256 16) (v871 : IVec S16x256 16) (v872 : IVec S16x256 16) (v873 : IVec S16x256 16) (v874 : IVec S16x256 16) (v875 : IVec S16x256 16) (v876 : IVec S16x256 16) (v877 : IVec S16x256 16) (v885 : IVec S16x256 16) (v886 : IVec S16x256 16) (v887 : IVec S16x256 16) (v888 : IVec S16x256 16) (v889 : IVec S16x256 16) (v890 : IVec S16x256 16) (v891 : IVec S16x256 16) (v892 : IVec S16x256 16) (v893 : IVec S16x256 16) (v894 : IVec S16x256 16) (v895 : IVec S16x256 16) (v896 : IVec S16x256 16) (v897 : IVec S16x256 16) (v898 : IVec S16x256 16) (v899 : IVec S16x256 16) (v900 : IVec S16x256 16) (v908 : IVec S16x256 16) (v909 : IVec S16x256 16) (v910 : IVec S16x256 16) (v911 : IVec S16x256 16) (v912 : IVec S16x256 16) (v913 : IVec S16x256 16) (v914 : IVec S16x256 16) (v915 : IVec S16x256 16) (v916 : IVec S16x256 16) (v917 : IVec S16x256 16) (v918 : IVec S16x256 16) (v919 : IVec S16x256 16) (v920 : IVec S16x256 16) (v921 : IVec S16x256 16) (v922 : IVec S16x256 16) (v923 : IVec S16x256 16) (v931 : IVec S16x256 16) (v932 : IVec S16x256 16) (v933 : IVec S16x256 16) (v934 : IVec S16x256 16) (v935 : IVec S16x256 16) (v936 : IVec S16x256 16) (v937 : IVec S16x256 16) (v938 : IVec S16x256 16) (v939 : IVec S16x256 16) (v940 : IVec S16x256 16) (v941 : IVec S16x256 16) (v942 : IVec S16x256 16) (v943 : IVec S16x256 16) (v944 : IVec S16x256 16) (v945 : IVec S16x256 16) (v946 : IVec S16x256 16) (v954 : IVec S16x256 16) (v955 : IVec S16x256 16) (v956 : IVec S16x256 16) (v957 : IVec S16x256 16) (v958 : IVec S16x256 16) (v959 : IVec S16x256 16) (v960 : IVec S16x256 16) (v961 : IVec S16x256 16) (v962 : IVec S16x256 16) (v963 : IVec S16x256 16) (v964 : IVec S16x256 16) (v965 : IVec S16x256 16) (v966 : IVec S16x256 16) (v967 : IVec S16x256 16) (v968 : IVec S16x256 16) (v969 : IVec S16x256 16) (v977 : IVec S16x256 16) (v978 : IVec S16x256 16) (v979 : IVec S16x256 16) (v980 : IVec S16x256 16) (v981 : IVec S16x256 16) (v982 : IVec S16x256 16) (v983 : IVec S16x256 16) (v984 : IVec S16x256 16) (v985 : IVec S16x256 16) (v986 : IVec S16x256 16) (v987 : IVec S16x256 16) (v988 : IVec S16x256 16) (v989 : IVec S16x256 16) (v990 : IVec S16x256 16) (v991 : IVec S16x256 16) (v992 : IVec S16x256 16) (v993 : IVec S16x256 16) (v994 : IVec S16x256 16) (v995 : IVec S16x256 16) (v996 : IVec S16x256 16) (v997 : IVec S16x256 16) (v998 : IVec S16x256 16) (v999 : IVec S16x256 16) (v1000 : IVec S16x256 16) :
    Keeps defs₀ 𝒱 c I (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v839 v840 v841 v842 v843 v844 v845 v846 v847 v848 v849 v850 v851 v852 v853 v854 v862 v863 v864 v865 v866 v867 v868 v869 v870 v871 v872 v873 v874 v875 v876 v877 v885 v886 v887 v888 v889 v890 v891 v892 v893 v894 v895 v896 v897 v898 v899 v900 v908 v909 v910 v911 v912 v913 v914 v915 v916 v917 v918 v919 v920 v921 v922 v923 v931 v932 v933 v934 v935 v936 v937 v938 v939 v940 v941 v942 v943 v944 v945 v946 v954 v955 v956 v957 v958 v959 v960 v961 v962 v963 v964 v965 v966 v967 v968 v969 v977 v978 v979 v980 v981 v982 v983 v984 v985 v986 v987 v988 v989 v990 v991 v992 v993 v994 v995 v996 v997 v998 v999 v1000) := by
  delta k0_part33
  repeat' first | extract_lets | with_reducible refine keeps_bind ?_ ?_ | intro _ | exact keeps_pure _

theorem keeps_k0_part34 (H : Held 𝒱 c I arg2 arg3 arg4 arg5 arg6 arg7 arg8 arg9 arg10 arg11 arg12 arg13 arg14 arg15 arg16 arg17 arg18 arg19 arg20 arg21 arg22) (v1001 : IVec S16x256 16) (v1002 : IVec S16x256 16) (v1003 : IVec S16x256 16) (v1004 : IVec S16x256 16) (v1005 : IVec S16x256 16) (v1006 : IVec S16x256 16) (v1007 : IVec S16x256 16) (v1008 : IVec S16x256 16) (v1009 : IVec S16x256 16) (v1010 : IVec S16x256 16) (v1011 : IVec S16x256 16) (v1012 : IVec S16x256 16) (v1013 : IVec S16x256 16) (v1014 : IVec S16x256 16) (v1015 : IVec S16x256 16) (v1016 : IVec S16x256 16) (v1017 : IVec S16x256 16) (v1018 : IVec S16x256 16) (v1019 : IVec S16x256 16) (v1020 : IVec S16x256 16) (v1021 : IVec S16x256 16) (v1022 : IVec S16x256 16) (v1023 : IVec S16x256 16) (v1024 : IVec S16x256 16) (v1025 : IVec S16x256 16) (v1026 : IVec S16x256 16) (v1027 : IVec S16x256 16) (v1028 : IVec S16x256 16) (v1029 : IVec S16x256 16) (v1030 : IVec S16x256 16) (v1031 : IVec S16x256 16) (v1032 : IVec S16x256 16) (v1033 : IVec S16x256 16) (v1034 : IVec S16x256 16) (v1035 : IVec S16x256 16) (v1036 : IVec S16x256 16) (v1037 : IVec S16x256 16) (v1038 : IVec S16x256 16) (v1039 : IVec S16x256 16) (v1040 : IVec S16x256 16) (v1041 : IVec S16x256 16) (v1042 : IVec S16x256 16) (v1043 : IVec S16x256 16) (v1044 : IVec S16x256 16) (v1045 : IVec S16x256 16) (v1046 : IVec S16x256 16) (v1047 : IVec S16x256 16) (v1048 : IVec S16x256 16) (v1049 : IVec S16x256 16) (v1050 : IVec S16x256 16) (v1051 : IVec S16x256 16) (v1052 : IVec S16x256 16) (v1053 : IVec S16x256 16) (v1054 : IVec S16x256 16) (v1055 : IVec S16x256 16) (v1056 : IVec S16x256 16) (v1057 : IVec S16x256 16) (v1058 : IVec S16x256 16) (v1059 : IVec S16x256 16) (v1060 : IVec S16x256 16) :
    Keeps defs₀ 𝒱 c I (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1001 v1002 v1003 v1004 v1005 v1006 v1007 v1008 v1009 v1010 v1011 v1012 v1013 v1014 v1015 v1016 v1017 v1018 v1019 v1020 v1021 v1022 v1023 v1024 v1025 v1026 v1027 v1028 v1029 v1030 v1031 v1032 v1033 v1034 v1035 v1036 v1037 v1038 v1039 v1040 v1041 v1042 v1043 v1044 v1045 v1046 v1047 v1048 v1049 v1050 v1051 v1052 v1053 v1054 v1055 v1056 v1057 v1058 v1059 v1060) := by
  delta k0_part34
  repeat' first | extract_lets | with_reducible refine keeps_bind ?_ ?_ | intro _ | exact keeps_pure _

theorem keeps_k0_part35 (H : Held 𝒱 c I arg2 arg3 arg4 arg5 arg6 arg7 arg8 arg9 arg10 arg11 arg12 arg13 arg14 arg15 arg16 arg17 arg18 arg19 arg20 arg21 arg22) (c0_i32_325 : BitVec 32) (c1_i32_327 : BitVec 32) (k0_t4 : Fin k0_t4_loop.trips) (arg24 : IVec S1x256 32) :
    Keeps defs₀ 𝒱 c I (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_325 c1_i32_327 k0_t4 arg24) := by
  delta k0_part35
  repeat' first | extract_lets | with_reducible refine keeps_bind ?_ ?_ | with_reducible exact keeps_load H.l17 | intro _ | exact keeps_pure _

theorem keeps_k0_part36 (H : Held 𝒱 c I arg2 arg3 arg4 arg5 arg6 arg7 arg8 arg9 arg10 arg11 arg12 arg13 arg14 arg15 arg16 arg17 arg18 arg19 arg20 arg21 arg22) (v808 : IVec S1x256 16) (v838 : IVec S256x256 16) :
    Keeps defs₀ 𝒱 c I (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808 v838) := by
  delta k0_part36
  repeat' first | extract_lets | with_reducible refine keeps_bind ?_ ?_ | with_reducible exact keeps_load H.l17 | intro _ | exact keeps_pure _

theorem keeps_k0_part37 (H : Held 𝒱 c I arg2 arg3 arg4 arg5 arg6 arg7 arg8 arg9 arg10 arg11 arg12 arg13 arg14 arg15 arg16 arg17 arg18 arg19 arg20 arg21 arg22) (v808 : IVec S1x256 16) :
    Keeps defs₀ 𝒱 c I (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808) := by
  delta k0_part37
  repeat' first | extract_lets | with_reducible refine keeps_bind ?_ ?_ | with_reducible exact keeps_load H.l17 | intro _ | exact keeps_pure _

theorem keeps_k0_part38 (H : Held 𝒱 c I arg2 arg3 arg4 arg5 arg6 arg7 arg8 arg9 arg10 arg11 arg12 arg13 arg14 arg15 arg16 arg17 arg18 arg19 arg20 arg21 arg22) (v808 : IVec S1x256 16) (v816 : IVec S16x256 16) (v817 : IVec S16x256 16) (v818 : IVec S16x256 16) (v819 : IVec S16x256 16) (v820 : IVec S16x256 16) (v821 : IVec S16x256 16) (v822 : IVec S16x256 16) (v823 : IVec S16x256 16) (v824 : IVec S16x256 16) (v825 : IVec S16x256 16) (v826 : IVec S16x256 16) (v827 : IVec S16x256 16) (v828 : IVec S16x256 16) (v829 : IVec S16x256 16) (v830 : IVec S16x256 16) (v831 : IVec S16x256 16) (v947 : Vec F S1x256x256 .i16) :
    Keeps defs₀ 𝒱 c I (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v808 v816 v817 v818 v819 v820 v821 v822 v823 v824 v825 v826 v827 v828 v829 v830 v831 v947) := by
  delta k0_part38
  repeat' first | extract_lets | with_reducible refine keeps_bind ?_ ?_ | with_reducible exact keeps_load H.l17 | intro _ | exact keeps_pure _

theorem keeps_k0_part39 (H : Held 𝒱 c I arg2 arg3 arg4 arg5 arg6 arg7 arg8 arg9 arg10 arg11 arg12 arg13 arg14 arg15 arg16 arg17 arg18 arg19 arg20 arg21 arg22) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) (v848 : IVec S16x256 16) (v849 : IVec S16x256 16) (v850 : IVec S16x256 16) (v851 : IVec S16x256 16) (v852 : IVec S16x256 16) (v853 : IVec S16x256 16) (v854 : IVec S16x256 16) (v862 : IVec S16x256 16) (v863 : IVec S16x256 16) (v864 : IVec S16x256 16) (v865 : IVec S16x256 16) (v866 : IVec S16x256 16) (v867 : IVec S16x256 16) (v868 : IVec S16x256 16) (v869 : IVec S16x256 16) (v870 : IVec S16x256 16) (v871 : IVec S16x256 16) (v872 : IVec S16x256 16) (v873 : IVec S16x256 16) (v874 : IVec S16x256 16) (v875 : IVec S16x256 16) (v876 : IVec S16x256 16) (v877 : IVec S16x256 16) (v885 : IVec S16x256 16) (v886 : IVec S16x256 16) (v887 : IVec S16x256 16) (v888 : IVec S16x256 16) (v889 : IVec S16x256 16) (v890 : IVec S16x256 16) (v891 : IVec S16x256 16) (v892 : IVec S16x256 16) (v893 : IVec S16x256 16) (v894 : IVec S16x256 16) (v895 : IVec S16x256 16) (v896 : IVec S16x256 16) (v897 : IVec S16x256 16) (v898 : IVec S16x256 16) (v899 : IVec S16x256 16) (v900 : IVec S16x256 16) (v908 : IVec S16x256 16) (v909 : IVec S16x256 16) (v910 : IVec S16x256 16) (v911 : IVec S16x256 16) (v912 : IVec S16x256 16) (v913 : IVec S16x256 16) (v914 : IVec S16x256 16) (v915 : IVec S16x256 16) (v916 : IVec S16x256 16) (v917 : IVec S16x256 16) (v918 : IVec S16x256 16) (v919 : IVec S16x256 16) (v920 : IVec S16x256 16) (v921 : IVec S16x256 16) (v922 : IVec S16x256 16) (v923 : IVec S16x256 16) (v931 : IVec S16x256 16) (v932 : IVec S16x256 16) (v933 : IVec S16x256 16) (v934 : IVec S16x256 16) (v935 : IVec S16x256 16) (v936 : IVec S16x256 16) (v937 : IVec S16x256 16) (v938 : IVec S16x256 16) (v939 : IVec S16x256 16) (v940 : IVec S16x256 16) (v941 : IVec S16x256 16) (v942 : IVec S16x256 16) (v943 : IVec S16x256 16) (v944 : IVec S16x256 16) (v945 : IVec S16x256 16) (v946 : IVec S16x256 16) (v954 : IVec S16x256 16) (v955 : IVec S16x256 16) (v956 : IVec S16x256 16) (v957 : IVec S16x256 16) (v958 : IVec S16x256 16) (v959 : IVec S16x256 16) (v960 : IVec S16x256 16) (v961 : IVec S16x256 16) (v962 : IVec S16x256 16) (v963 : IVec S16x256 16) (v964 : IVec S16x256 16) (v965 : IVec S16x256 16) (v966 : IVec S16x256 16) (v967 : IVec S16x256 16) (v968 : IVec S16x256 16) (v969 : IVec S16x256 16) (v977 : IVec S16x256 16) (v978 : IVec S16x256 16) (v979 : IVec S16x256 16) (v980 : IVec S16x256 16) (v981 : IVec S16x256 16) (v982 : IVec S16x256 16) (v983 : IVec S16x256 16) (v984 : IVec S16x256 16) (v985 : IVec S16x256 16) (v986 : IVec S16x256 16) (v987 : IVec S16x256 16) (v988 : IVec S16x256 16) (v989 : IVec S16x256 16) (v990 : IVec S16x256 16) (v991 : IVec S16x256 16) (v992 : IVec S16x256 16) (v993 : IVec S16x256 16) (v994 : IVec S16x256 16) (v995 : IVec S16x256 16) (v996 : IVec S16x256 16) (v997 : IVec S16x256 16) (v998 : IVec S16x256 16) (v999 : IVec S16x256 16) (v1000 : IVec S16x256 16) :
    Keeps defs₀ 𝒱 c I (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v839 v840 v841 v842 v843 v844 v845 v846 v847 v848 v849 v850 v851 v852 v853 v854 v862 v863 v864 v865 v866 v867 v868 v869 v870 v871 v872 v873 v874 v875 v876 v877 v885 v886 v887 v888 v889 v890 v891 v892 v893 v894 v895 v896 v897 v898 v899 v900 v908 v909 v910 v911 v912 v913 v914 v915 v916 v917 v918 v919 v920 v921 v922 v923 v931 v932 v933 v934 v935 v936 v937 v938 v939 v940 v941 v942 v943 v944 v945 v946 v954 v955 v956 v957 v958 v959 v960 v961 v962 v963 v964 v965 v966 v967 v968 v969 v977 v978 v979 v980 v981 v982 v983 v984 v985 v986 v987 v988 v989 v990 v991 v992 v993 v994 v995 v996 v997 v998 v999 v1000) := by
  delta k0_part39
  repeat' first | extract_lets | with_reducible refine keeps_bind ?_ ?_ | intro _ | exact keeps_pure _

theorem keeps_k0_part40 (H : Held 𝒱 c I arg2 arg3 arg4 arg5 arg6 arg7 arg8 arg9 arg10 arg11 arg12 arg13 arg14 arg15 arg16 arg17 arg18 arg19 arg20 arg21 arg22) (v1001 : IVec S16x256 16) (v1002 : IVec S16x256 16) (v1003 : IVec S16x256 16) (v1004 : IVec S16x256 16) (v1005 : IVec S16x256 16) (v1006 : IVec S16x256 16) (v1007 : IVec S16x256 16) (v1008 : IVec S16x256 16) (v1009 : IVec S16x256 16) (v1010 : IVec S16x256 16) (v1011 : IVec S16x256 16) (v1012 : IVec S16x256 16) (v1013 : IVec S16x256 16) (v1014 : IVec S16x256 16) (v1015 : IVec S16x256 16) (v1016 : IVec S16x256 16) (v1017 : IVec S16x256 16) (v1018 : IVec S16x256 16) (v1019 : IVec S16x256 16) (v1020 : IVec S16x256 16) (v1021 : IVec S16x256 16) (v1022 : IVec S16x256 16) (v1023 : IVec S16x256 16) (v1024 : IVec S16x256 16) (v1025 : IVec S16x256 16) (v1026 : IVec S16x256 16) (v1027 : IVec S16x256 16) (v1028 : IVec S16x256 16) (v1029 : IVec S16x256 16) (v1030 : IVec S16x256 16) (v1031 : IVec S16x256 16) (v1032 : IVec S16x256 16) (v1033 : IVec S16x256 16) (v1034 : IVec S16x256 16) (v1035 : IVec S16x256 16) (v1036 : IVec S16x256 16) (v1037 : IVec S16x256 16) (v1038 : IVec S16x256 16) (v1039 : IVec S16x256 16) (v1040 : IVec S16x256 16) (v1041 : IVec S16x256 16) (v1042 : IVec S16x256 16) (v1043 : IVec S16x256 16) (v1044 : IVec S16x256 16) (v1045 : IVec S16x256 16) (v1046 : IVec S16x256 16) (v1047 : IVec S16x256 16) (v1048 : IVec S16x256 16) (v1049 : IVec S16x256 16) (v1050 : IVec S16x256 16) (v1051 : IVec S16x256 16) (v1052 : IVec S16x256 16) (v1053 : IVec S16x256 16) (v1054 : IVec S16x256 16) (v1055 : IVec S16x256 16) (v1056 : IVec S16x256 16) (v1057 : IVec S16x256 16) (v1058 : IVec S16x256 16) (v1059 : IVec S16x256 16) (v1060 : IVec S16x256 16) :
    Keeps defs₀ 𝒱 c I (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1001 v1002 v1003 v1004 v1005 v1006 v1007 v1008 v1009 v1010 v1011 v1012 v1013 v1014 v1015 v1016 v1017 v1018 v1019 v1020 v1021 v1022 v1023 v1024 v1025 v1026 v1027 v1028 v1029 v1030 v1031 v1032 v1033 v1034 v1035 v1036 v1037 v1038 v1039 v1040 v1041 v1042 v1043 v1044 v1045 v1046 v1047 v1048 v1049 v1050 v1051 v1052 v1053 v1054 v1055 v1056 v1057 v1058 v1059 v1060) := by
  delta k0_part40
  repeat' first | extract_lets | with_reducible refine keeps_bind ?_ ?_ | intro _ | exact keeps_pure _

theorem keeps_k0_part41 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : k0_cond10 i = 1#1) (k0_h11 : k0_cond11 i = 1#1) (k0_h12 : k0_cond12 i = 1#1) :
    Keeps defs₀ 𝒱 c I (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10 k0_h11 k0_h12) := by
  delta k0_part41
  repeat' first | extract_lets | with_reducible refine keeps_bind ?_ ?_ | with_reducible exact keeps_k0_part29 H .. | with_reducible exact keeps_k0_part30 H .. | with_reducible exact keeps_k0_part31 H .. | with_reducible exact keeps_k0_part32 H .. | with_reducible exact keeps_k0_part33 H .. | with_reducible exact keeps_k0_part34 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part42 (H : Held 𝒱 c I arg2 arg3 arg4 arg5 arg6 arg7 arg8 arg9 arg10 arg11 arg12 arg13 arg14 arg15 arg16 arg17 arg18 arg19 arg20 arg21 arg22) (v393 : IVec S1x256 16) (v423 : IVec S256x256 16) :
    Keeps defs₀ 𝒱 c I (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v423) := by
  delta k0_part42
  repeat' first | extract_lets | with_reducible refine keeps_bind ?_ ?_ | with_reducible exact keeps_load H.l16 | intro _ | exact keeps_pure _

theorem keeps_k0_part43 (H : Held 𝒱 c I arg2 arg3 arg4 arg5 arg6 arg7 arg8 arg9 arg10 arg11 arg12 arg13 arg14 arg15 arg16 arg17 arg18 arg19 arg20 arg21 arg22) (v393 : IVec S1x256 16) (v469 : IVec S256x256 16) :
    Keeps defs₀ 𝒱 c I (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v469) := by
  delta k0_part43
  repeat' first | extract_lets | with_reducible refine keeps_bind ?_ ?_ | with_reducible exact keeps_load H.l16 | intro _ | exact keeps_pure _

theorem keeps_k0_part44 (H : Held 𝒱 c I arg2 arg3 arg4 arg5 arg6 arg7 arg8 arg9 arg10 arg11 arg12 arg13 arg14 arg15 arg16 arg17 arg18 arg19 arg20 arg21 arg22) (v393 : IVec S1x256 16) (v401 : IVec S16x256 16) (v402 : IVec S16x256 16) (v403 : IVec S16x256 16) (v404 : IVec S16x256 16) (v405 : IVec S16x256 16) (v406 : IVec S16x256 16) (v407 : IVec S16x256 16) (v408 : IVec S16x256 16) (v409 : IVec S16x256 16) (v410 : IVec S16x256 16) (v411 : IVec S16x256 16) (v412 : IVec S16x256 16) (v413 : IVec S16x256 16) (v414 : IVec S16x256 16) :
    Keeps defs₀ 𝒱 c I (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v401 v402 v403 v404 v405 v406 v407 v408 v409 v410 v411 v412 v413 v414) := by
  delta k0_part44
  repeat' first | extract_lets | with_reducible refine keeps_bind ?_ ?_ | with_reducible exact keeps_load H.l16 | intro _ | exact keeps_pure _

theorem keeps_k0_part45 (H : Held 𝒱 c I arg2 arg3 arg4 arg5 arg6 arg7 arg8 arg9 arg10 arg11 arg12 arg13 arg14 arg15 arg16 arg17 arg18 arg19 arg20 arg21 arg22) (v415 : IVec S16x256 16) (v416 : IVec S16x256 16) (v424 : IVec S16x256 16) (v425 : IVec S16x256 16) (v426 : IVec S16x256 16) (v427 : IVec S16x256 16) (v428 : IVec S16x256 16) (v429 : IVec S16x256 16) (v430 : IVec S16x256 16) (v431 : IVec S16x256 16) (v432 : IVec S16x256 16) (v433 : IVec S16x256 16) (v434 : IVec S16x256 16) (v435 : IVec S16x256 16) (v436 : IVec S16x256 16) (v437 : IVec S16x256 16) (v438 : IVec S16x256 16) (v439 : IVec S16x256 16) (v447 : IVec S16x256 16) (v448 : IVec S16x256 16) (v449 : IVec S16x256 16) (v450 : IVec S16x256 16) (v451 : IVec S16x256 16) (v452 : IVec S16x256 16) (v453 : IVec S16x256 16) (v454 : IVec S16x256 16) (v455 : IVec S16x256 16) (v456 : IVec S16x256 16) (v457 : IVec S16x256 16) (v458 : IVec S16x256 16) (v459 : IVec S16x256 16) (v460 : IVec S16x256 16) (v461 : IVec S16x256 16) (v462 : IVec S16x256 16) (v470 : IVec S16x256 16) (v471 : IVec S16x256 16) (v472 : IVec S16x256 16) (v473 : IVec S16x256 16) (v474 : IVec S16x256 16) (v475 : IVec S16x256 16) (v476 : IVec S16x256 16) (v477 : IVec S16x256 16) (v478 : IVec S16x256 16) (v479 : IVec S16x256 16) (v480 : IVec S16x256 16) (v481 : IVec S16x256 16) (v482 : IVec S16x256 16) (v483 : IVec S16x256 16) (v484 : IVec S16x256 16) (v485 : IVec S16x256 16) (v493 : IVec S16x256 16) (v494 : IVec S16x256 16) (v495 : IVec S16x256 16) (v496 : IVec S16x256 16) (v497 : IVec S16x256 16) (v498 : IVec S16x256 16) (v499 : IVec S16x256 16) (v500 : IVec S16x256 16) (v501 : IVec S16x256 16) (v502 : IVec S16x256 16) (v503 : IVec S16x256 16) (v504 : IVec S16x256 16) (v505 : IVec S16x256 16) (v506 : IVec S16x256 16) (v507 : IVec S16x256 16) (v508 : IVec S16x256 16) (v516 : IVec S16x256 16) (v517 : IVec S16x256 16) (v518 : IVec S16x256 16) (v519 : IVec S16x256 16) (v520 : IVec S16x256 16) (v521 : IVec S16x256 16) (v522 : IVec S16x256 16) (v523 : IVec S16x256 16) (v524 : IVec S16x256 16) (v525 : IVec S16x256 16) (v526 : IVec S16x256 16) (v527 : IVec S16x256 16) (v528 : IVec S16x256 16) (v529 : IVec S16x256 16) (v530 : IVec S16x256 16) (v531 : IVec S16x256 16) (v539 : IVec S16x256 16) (v540 : IVec S16x256 16) (v541 : IVec S16x256 16) (v542 : IVec S16x256 16) (v543 : IVec S16x256 16) (v544 : IVec S16x256 16) (v545 : IVec S16x256 16) (v546 : IVec S16x256 16) (v547 : IVec S16x256 16) (v548 : IVec S16x256 16) (v549 : IVec S16x256 16) (v550 : IVec S16x256 16) (v551 : IVec S16x256 16) (v552 : IVec S16x256 16) (v553 : IVec S16x256 16) (v554 : IVec S16x256 16) (v562 : IVec S16x256 16) (v563 : IVec S16x256 16) (v564 : IVec S16x256 16) (v565 : IVec S16x256 16) (v566 : IVec S16x256 16) (v567 : IVec S16x256 16) (v568 : IVec S16x256 16) (v569 : IVec S16x256 16) (v570 : IVec S16x256 16) (v571 : IVec S16x256 16) (v572 : IVec S16x256 16) (v573 : IVec S16x256 16) (v574 : IVec S16x256 16) (v575 : IVec S16x256 16) (v576 : IVec S16x256 16) (v577 : IVec S16x256 16) (v578 : IVec S16x256 16) (v579 : IVec S16x256 16) (v580 : IVec S16x256 16) (v581 : IVec S16x256 16) (v582 : IVec S16x256 16) (v583 : IVec S16x256 16) :
    Keeps defs₀ 𝒱 c I (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v415 v416 v424 v425 v426 v427 v428 v429 v430 v431 v432 v433 v434 v435 v436 v437 v438 v439 v447 v448 v449 v450 v451 v452 v453 v454 v455 v456 v457 v458 v459 v460 v461 v462 v470 v471 v472 v473 v474 v475 v476 v477 v478 v479 v480 v481 v482 v483 v484 v485 v493 v494 v495 v496 v497 v498 v499 v500 v501 v502 v503 v504 v505 v506 v507 v508 v516 v517 v518 v519 v520 v521 v522 v523 v524 v525 v526 v527 v528 v529 v530 v531 v539 v540 v541 v542 v543 v544 v545 v546 v547 v548 v549 v550 v551 v552 v553 v554 v562 v563 v564 v565 v566 v567 v568 v569 v570 v571 v572 v573 v574 v575 v576 v577 v578 v579 v580 v581 v582 v583) := by
  delta k0_part45
  repeat' first | extract_lets | with_reducible refine keeps_bind ?_ ?_ | intro _ | exact keeps_pure _

theorem keeps_k0_part46 (H : Held 𝒱 c I arg2 arg3 arg4 arg5 arg6 arg7 arg8 arg9 arg10 arg11 arg12 arg13 arg14 arg15 arg16 arg17 arg18 arg19 arg20 arg21 arg22) (v584 : IVec S16x256 16) (v585 : IVec S16x256 16) (v586 : IVec S16x256 16) (v587 : IVec S16x256 16) (v588 : IVec S16x256 16) (v589 : IVec S16x256 16) (v590 : IVec S16x256 16) (v591 : IVec S16x256 16) (v592 : IVec S16x256 16) (v593 : IVec S16x256 16) (v594 : IVec S16x256 16) (v595 : IVec S16x256 16) (v596 : IVec S16x256 16) (v597 : IVec S16x256 16) (v598 : IVec S16x256 16) (v599 : IVec S16x256 16) (v600 : IVec S16x256 16) (v601 : IVec S16x256 16) (v602 : IVec S16x256 16) (v603 : IVec S16x256 16) (v604 : IVec S16x256 16) (v605 : IVec S16x256 16) (v606 : IVec S16x256 16) (v607 : IVec S16x256 16) (v608 : IVec S16x256 16) (v609 : IVec S16x256 16) (v610 : IVec S16x256 16) (v611 : IVec S16x256 16) (v612 : IVec S16x256 16) (v613 : IVec S16x256 16) (v614 : IVec S16x256 16) (v615 : IVec S16x256 16) (v616 : IVec S16x256 16) (v617 : IVec S16x256 16) (v618 : IVec S16x256 16) (v619 : IVec S16x256 16) (v620 : IVec S16x256 16) (v621 : IVec S16x256 16) (v622 : IVec S16x256 16) (v623 : IVec S16x256 16) (v624 : IVec S16x256 16) (v625 : IVec S16x256 16) (v626 : IVec S16x256 16) (v627 : IVec S16x256 16) (v628 : IVec S16x256 16) (v629 : IVec S16x256 16) (v630 : IVec S16x256 16) (v631 : IVec S16x256 16) (v632 : IVec S16x256 16) (v633 : IVec S16x256 16) (v634 : IVec S16x256 16) (v635 : IVec S16x256 16) (v636 : IVec S16x256 16) (v637 : IVec S16x256 16) (v638 : IVec S16x256 16) (v639 : IVec S16x256 16) (v640 : IVec S16x256 16) (v641 : IVec S16x256 16) (v642 : IVec S16x256 16) (v643 : IVec S16x256 16) (v644 : IVec S16x256 16) :
    Keeps defs₀ 𝒱 c I (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v584 v585 v586 v587 v588 v589 v590 v591 v592 v593 v594 v595 v596 v597 v598 v599 v600 v601 v602 v603 v604 v605 v606 v607 v608 v609 v610 v611 v612 v613 v614 v615 v616 v617 v618 v619 v620 v621 v622 v623 v624 v625 v626 v627 v628 v629 v630 v631 v632 v633 v634 v635 v636 v637 v638 v639 v640 v641 v642 v643 v644) := by
  delta k0_part46
  repeat' first | extract_lets | with_reducible refine keeps_bind ?_ ?_ | intro _ | exact keeps_pure _

theorem keeps_k0_part47 (H : Held 𝒱 c I arg2 arg3 arg4 arg5 arg6 arg7 arg8 arg9 arg10 arg11 arg12 arg13 arg14 arg15 arg16 arg17 arg18 arg19 arg20 arg21 arg22) (v393 : IVec S1x256 16) (v704 : IVec S16x256 16) :
    Keeps defs₀ 𝒱 c I (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v704) := by
  delta k0_part47
  repeat' first | extract_lets | with_reducible refine keeps_bind ?_ ?_ | with_reducible exact keeps_load H.l16 | with_reducible exact keeps_load H.l17 | with_reducible exact keeps_store H.g17 | intro _ | exact keeps_pure _

theorem keeps_k0_part48 (H : Held 𝒱 c I arg2 arg3 arg4 arg5 arg6 arg7 arg8 arg9 arg10 arg11 arg12 arg13 arg14 arg15 arg16 arg17 arg18 arg19 arg20 arg21 arg22) (v393 : IVec S1x256 16) (v733 : IVec S256x256 1) (v735 : IVec S256x256 16) :
    Keeps defs₀ 𝒱 c I (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v733 v735) := by
  delta k0_part48
  repeat' first | extract_lets | with_reducible refine keeps_bind ?_ ?_ | with_reducible exact keeps_load H.l16 | with_reducible exact keeps_load H.l17 | with_reducible exact keeps_store H.g17 | intro _ | exact keeps_pure _

theorem keeps_k0_part49 (H : Held 𝒱 c I arg2 arg3 arg4 arg5 arg6 arg7 arg8 arg9 arg10 arg11 arg12 arg13 arg14 arg15 arg16 arg17 arg18 arg19 arg20 arg21 arg22) (v393 : IVec S1x256 16) (v764 : IVec S256x256 16) (v765 : IVec S256x256 16) :
    Keeps defs₀ 𝒱 c I (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v764 v765) := by
  delta k0_part49
  repeat' first | extract_lets | with_reducible refine keeps_bind ?_ ?_ | with_reducible exact keeps_load H.l16 | with_reducible exact keeps_load H.l17 | with_reducible exact keeps_store H.g17 | intro _ | exact keeps_pure _

theorem keeps_k0_part50 (H : Held 𝒱 c I arg2 arg3 arg4 arg5 arg6 arg7 arg8 arg9 arg10 arg11 arg12 arg13 arg14 arg15 arg16 arg17 arg18 arg19 arg20 arg21 arg22) (c0_i32_203 : BitVec 32) (c1_i32_204 : BitVec 32) (k0_t5 : Fin k0_t5_loop.trips) (arg24 : IVec S1x256 32) :
    Keeps defs₀ 𝒱 c I (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_203 c1_i32_204 k0_t5 arg24) := by
  delta k0_part50
  repeat' first | extract_lets | with_reducible refine keeps_bind ?_ ?_ | with_reducible exact keeps_load H.l16 | intro _ | exact keeps_pure _

theorem keeps_k0_part51 (H : Held 𝒱 c I arg2 arg3 arg4 arg5 arg6 arg7 arg8 arg9 arg10 arg11 arg12 arg13 arg14 arg15 arg16 arg17 arg18 arg19 arg20 arg21 arg22) (v758 : IVec S1x256 16) (v788 : IVec S256x256 16) :
    Keeps defs₀ 𝒱 c I (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758 v788) := by
  delta k0_part51
  repeat' first | extract_lets | with_reducible refine keeps_bind ?_ ?_ | with_reducible exact keeps_load H.l16 | intro _ | exact keeps_pure _

theorem keeps_k0_part52 (H : Held 𝒱 c I arg2 arg3 arg4 arg5 arg6 arg7 arg8 arg9 arg10 arg11 arg12 arg13 arg14 arg15 arg16 arg17 arg18 arg19 arg20 arg21 arg22) (v758 : IVec S1x256 16) :
    Keeps defs₀ 𝒱 c I (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758) := by
  delta k0_part52
  repeat' first | extract_lets | with_reducible refine keeps_bind ?_ ?_ | with_reducible exact keeps_load H.l16 | intro _ | exact keeps_pure _

theorem keeps_k0_part53 (H : Held 𝒱 c I arg2 arg3 arg4 arg5 arg6 arg7 arg8 arg9 arg10 arg11 arg12 arg13 arg14 arg15 arg16 arg17 arg18 arg19 arg20 arg21 arg22) (v758 : IVec S1x256 16) (v766 : IVec S16x256 16) (v767 : IVec S16x256 16) (v768 : IVec S16x256 16) (v769 : IVec S16x256 16) (v770 : IVec S16x256 16) (v771 : IVec S16x256 16) (v772 : IVec S16x256 16) (v773 : IVec S16x256 16) (v774 : IVec S16x256 16) (v775 : IVec S16x256 16) (v776 : IVec S16x256 16) (v777 : IVec S16x256 16) (v778 : IVec S16x256 16) (v779 : IVec S16x256 16) (v780 : IVec S16x256 16) (v781 : IVec S16x256 16) (v789 : IVec S16x256 16) (v790 : IVec S16x256 16) (v791 : IVec S16x256 16) (v792 : IVec S16x256 16) (v793 : IVec S16x256 16) (v794 : IVec S16x256 16) (v795 : IVec S16x256 16) (v796 : IVec S16x256 16) (v797 : IVec S16x256 16) (v798 : IVec S16x256 16) (v799 : IVec S16x256 16) (v800 : IVec S16x256 16) (v801 : IVec S16x256 16) (v802 : IVec S16x256 16) (v803 : IVec S16x256 16) (v804 : IVec S16x256 16) (v812 : IVec S16x256 16) (v813 : IVec S16x256 16) (v814 : IVec S16x256 16) (v815 : IVec S16x256 16) (v816 : IVec S16x256 16) (v817 : IVec S16x256 16) (v818 : IVec S16x256 16) (v819 : IVec S16x256 16) (v820 : IVec S16x256 16) (v821 : IVec S16x256 16) (v822 : IVec S16x256 16) (v823 : IVec S16x256 16) (v824 : IVec S16x256 16) (v825 : IVec S16x256 16) (v826 : IVec S16x256 16) (v827 : IVec S16x256 16) (v835 : IVec S16x256 16) (v836 : IVec S16x256 16) (v837 : IVec S16x256 16) (v838 : IVec S16x256 16) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) (v848 : IVec S16x256 16) (v849 : IVec S16x256 16) (v850 : IVec S16x256 16) (v858 : IVec S16x256 16) (v859 : IVec S16x256 16) (v860 : IVec S16x256 16) (v861 : IVec S16x256 16) (v862 : IVec S16x256 16) (v863 : IVec S16x256 16) (v864 : IVec S16x256 16) (v865 : IVec S16x256 16) (v897 : Vec F S1x256x256 .i16) :
    Keeps defs₀ 𝒱 c I (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758 v766 v767 v768 v769 v770 v771 v772 v773 v774 v775 v776 v777 v778 v779 v780 v781 v789 v790 v791 v792 v793 v794 v795 v796 v797 v798 v799 v800 v801 v802 v803 v804 v812 v813 v814 v815 v816 v817 v818 v819 v820 v821 v822 v823 v824 v825 v826 v827 v835 v836 v837 v838 v839 v840 v841 v842 v843 v844 v845 v846 v847 v848 v849 v850 v858 v859 v860 v861 v862 v863 v864 v865 v897) := by
  delta k0_part53
  repeat' first | extract_lets | with_reducible refine keeps_bind ?_ ?_ | intro _ | exact keeps_pure _

theorem keeps_k0_part54 (H : Held 𝒱 c I arg2 arg3 arg4 arg5 arg6 arg7 arg8 arg9 arg10 arg11 arg12 arg13 arg14 arg15 arg16 arg17 arg18 arg19 arg20 arg21 arg22) (v866 : IVec S16x256 16) (v867 : IVec S16x256 16) (v868 : IVec S16x256 16) (v869 : IVec S16x256 16) (v870 : IVec S16x256 16) (v871 : IVec S16x256 16) (v872 : IVec S16x256 16) (v873 : IVec S16x256 16) (v881 : IVec S16x256 16) (v882 : IVec S16x256 16) (v883 : IVec S16x256 16) (v884 : IVec S16x256 16) (v885 : IVec S16x256 16) (v886 : IVec S16x256 16) (v887 : IVec S16x256 16) (v888 : IVec S16x256 16) (v889 : IVec S16x256 16) (v890 : IVec S16x256 16) (v891 : IVec S16x256 16) (v892 : IVec S16x256 16) (v893 : IVec S16x256 16) (v894 : IVec S16x256 16) (v895 : IVec S16x256 16) (v896 : IVec S16x256 16) (v904 : IVec S16x256 16) (v905 : IVec S16x256 16) (v906 : IVec S16x256 16) (v907 : IVec S16x256 16) (v908 : IVec S16x256 16) (v909 : IVec S16x256 16) (v910 : IVec S16x256 16) (v911 : IVec S16x256 16) (v912 : IVec S16x256 16) (v913 : IVec S16x256 16) (v914 : IVec S16x256 16) (v915 : IVec S16x256 16) (v916 : IVec S16x256 16) (v917 : IVec S16x256 16) (v918 : IVec S16x256 16) (v919 : IVec S16x256 16) (v920 : IVec S16x256 16) (v921 : IVec S16x256 16) (v922 : IVec S16x256 16) (v923 : IVec S16x256 16) (v924 : IVec S16x256 16) (v925 : IVec S16x256 16) (v926 : IVec S16x256 16) (v927 : IVec S16x256 16) (v928 : IVec S16x256 16) (v929 : IVec S16x256 16) (v930 : IVec S16x256 16) (v931 : IVec S16x256 16) (v932 : IVec S16x256 16) (v933 : IVec S16x256 16) (v934 : IVec S16x256 16) (v935 : IVec S16x256 16) (v936 : IVec S16x256 16) (v937 : IVec S16x256 16) (v938 : IVec S16x256 16) (v939 : IVec S16x256 16) (v940 : IVec S16x256 16) (v941 : IVec S16x256 16) (v942 : IVec S16x256 16) (v943 : IVec S16x256 16) (v944 : IVec S16x256 16) (v945 : IVec S16x256 16) (v946 : IVec S16x256 16) (v947 : IVec S16x256 16) (v948 : IVec S16x256 16) (v949 : IVec S16x256 16) (v950 : IVec S16x256 16) (v951 : IVec S16x256 16) (v952 : IVec S16x256 16) (v953 : IVec S16x256 16) (v954 : IVec S16x256 16) (v955 : IVec S16x256 16) :
    Keeps defs₀ 𝒱 c I (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v866 v867 v868 v869 v870 v871 v872 v873 v881 v882 v883 v884 v885 v886 v887 v888 v889 v890 v891 v892 v893 v894 v895 v896 v904 v905 v906 v907 v908 v909 v910 v911 v912 v913 v914 v915 v916 v917 v918 v919 v920 v921 v922 v923 v924 v925 v926 v927 v928 v929 v930 v931 v932 v933 v934 v935 v936 v937 v938 v939 v940 v941 v942 v943 v944 v945 v946 v947 v948 v949 v950 v951 v952 v953 v954 v955) := by
  delta k0_part54
  repeat' first | extract_lets | with_reducible refine keeps_bind ?_ ?_ | intro _ | exact keeps_pure _

theorem keeps_k0_part55 (H : Held 𝒱 c I arg2 arg3 arg4 arg5 arg6 arg7 arg8 arg9 arg10 arg11 arg12 arg13 arg14 arg15 arg16 arg17 arg18 arg19 arg20 arg21 arg22) (c0_i32_310 : BitVec 32) (c1_i32_312 : BitVec 32) (k0_t6 : Fin k0_t6_loop.trips) (arg24 : IVec S1x256 32) :
    Keeps defs₀ 𝒱 c I (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_310 c1_i32_312 k0_t6 arg24) := by
  delta k0_part55
  repeat' first | extract_lets | with_reducible refine keeps_bind ?_ ?_ | with_reducible exact keeps_load H.l17 | intro _ | exact keeps_pure _

theorem keeps_k0_part56 (H : Held 𝒱 c I arg2 arg3 arg4 arg5 arg6 arg7 arg8 arg9 arg10 arg11 arg12 arg13 arg14 arg15 arg16 arg17 arg18 arg19 arg20 arg21 arg22) (v758 : IVec S1x256 16) (v788 : IVec S256x256 16) :
    Keeps defs₀ 𝒱 c I (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758 v788) := by
  delta k0_part56
  repeat' first | extract_lets | with_reducible refine keeps_bind ?_ ?_ | with_reducible exact keeps_load H.l17 | intro _ | exact keeps_pure _

theorem keeps_k0_part57 (H : Held 𝒱 c I arg2 arg3 arg4 arg5 arg6 arg7 arg8 arg9 arg10 arg11 arg12 arg13 arg14 arg15 arg16 arg17 arg18 arg19 arg20 arg21 arg22) (v758 : IVec S1x256 16) :
    Keeps defs₀ 𝒱 c I (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758) := by
  delta k0_part57
  repeat' first | extract_lets | with_reducible refine keeps_bind ?_ ?_ | with_reducible exact keeps_load H.l17 | intro _ | exact keeps_pure _

theorem keeps_k0_part58 (H : Held 𝒱 c I arg2 arg3 arg4 arg5 arg6 arg7 arg8 arg9 arg10 arg11 arg12 arg13 arg14 arg15 arg16 arg17 arg18 arg19 arg20 arg21 arg22) (v758 : IVec S1x256 16) (v766 : IVec S16x256 16) (v767 : IVec S16x256 16) (v768 : IVec S16x256 16) (v769 : IVec S16x256 16) (v770 : IVec S16x256 16) (v771 : IVec S16x256 16) (v772 : IVec S16x256 16) (v773 : IVec S16x256 16) (v774 : IVec S16x256 16) (v775 : IVec S16x256 16) (v776 : IVec S16x256 16) (v777 : IVec S16x256 16) (v778 : IVec S16x256 16) (v779 : IVec S16x256 16) (v780 : IVec S16x256 16) (v781 : IVec S16x256 16) (v789 : IVec S16x256 16) (v790 : IVec S16x256 16) (v791 : IVec S16x256 16) (v792 : IVec S16x256 16) (v793 : IVec S16x256 16) (v794 : IVec S16x256 16) (v795 : IVec S16x256 16) (v796 : IVec S16x256 16) (v797 : IVec S16x256 16) (v798 : IVec S16x256 16) (v799 : IVec S16x256 16) (v800 : IVec S16x256 16) (v801 : IVec S16x256 16) (v802 : IVec S16x256 16) (v803 : IVec S16x256 16) (v804 : IVec S16x256 16) (v812 : IVec S16x256 16) (v813 : IVec S16x256 16) (v814 : IVec S16x256 16) (v815 : IVec S16x256 16) (v816 : IVec S16x256 16) (v817 : IVec S16x256 16) (v818 : IVec S16x256 16) (v819 : IVec S16x256 16) (v820 : IVec S16x256 16) (v821 : IVec S16x256 16) (v822 : IVec S16x256 16) (v823 : IVec S16x256 16) (v824 : IVec S16x256 16) (v825 : IVec S16x256 16) (v826 : IVec S16x256 16) (v827 : IVec S16x256 16) (v835 : IVec S16x256 16) (v836 : IVec S16x256 16) (v837 : IVec S16x256 16) (v838 : IVec S16x256 16) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) (v848 : IVec S16x256 16) (v849 : IVec S16x256 16) (v850 : IVec S16x256 16) (v858 : IVec S16x256 16) (v859 : IVec S16x256 16) (v860 : IVec S16x256 16) (v861 : IVec S16x256 16) (v862 : IVec S16x256 16) (v863 : IVec S16x256 16) (v864 : IVec S16x256 16) (v865 : IVec S16x256 16) (v897 : Vec F S1x256x256 .i16) :
    Keeps defs₀ 𝒱 c I (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v758 v766 v767 v768 v769 v770 v771 v772 v773 v774 v775 v776 v777 v778 v779 v780 v781 v789 v790 v791 v792 v793 v794 v795 v796 v797 v798 v799 v800 v801 v802 v803 v804 v812 v813 v814 v815 v816 v817 v818 v819 v820 v821 v822 v823 v824 v825 v826 v827 v835 v836 v837 v838 v839 v840 v841 v842 v843 v844 v845 v846 v847 v848 v849 v850 v858 v859 v860 v861 v862 v863 v864 v865 v897) := by
  delta k0_part58
  repeat' first | extract_lets | with_reducible refine keeps_bind ?_ ?_ | intro _ | exact keeps_pure _

theorem keeps_k0_part59 (H : Held 𝒱 c I arg2 arg3 arg4 arg5 arg6 arg7 arg8 arg9 arg10 arg11 arg12 arg13 arg14 arg15 arg16 arg17 arg18 arg19 arg20 arg21 arg22) (v866 : IVec S16x256 16) (v867 : IVec S16x256 16) (v868 : IVec S16x256 16) (v869 : IVec S16x256 16) (v870 : IVec S16x256 16) (v871 : IVec S16x256 16) (v872 : IVec S16x256 16) (v873 : IVec S16x256 16) (v881 : IVec S16x256 16) (v882 : IVec S16x256 16) (v883 : IVec S16x256 16) (v884 : IVec S16x256 16) (v885 : IVec S16x256 16) (v886 : IVec S16x256 16) (v887 : IVec S16x256 16) (v888 : IVec S16x256 16) (v889 : IVec S16x256 16) (v890 : IVec S16x256 16) (v891 : IVec S16x256 16) (v892 : IVec S16x256 16) (v893 : IVec S16x256 16) (v894 : IVec S16x256 16) (v895 : IVec S16x256 16) (v896 : IVec S16x256 16) (v904 : IVec S16x256 16) (v905 : IVec S16x256 16) (v906 : IVec S16x256 16) (v907 : IVec S16x256 16) (v908 : IVec S16x256 16) (v909 : IVec S16x256 16) (v910 : IVec S16x256 16) (v911 : IVec S16x256 16) (v912 : IVec S16x256 16) (v913 : IVec S16x256 16) (v914 : IVec S16x256 16) (v915 : IVec S16x256 16) (v916 : IVec S16x256 16) (v917 : IVec S16x256 16) (v918 : IVec S16x256 16) (v919 : IVec S16x256 16) (v920 : IVec S16x256 16) (v921 : IVec S16x256 16) (v922 : IVec S16x256 16) (v923 : IVec S16x256 16) (v924 : IVec S16x256 16) (v925 : IVec S16x256 16) (v926 : IVec S16x256 16) (v927 : IVec S16x256 16) (v928 : IVec S16x256 16) (v929 : IVec S16x256 16) (v930 : IVec S16x256 16) (v931 : IVec S16x256 16) (v932 : IVec S16x256 16) (v933 : IVec S16x256 16) (v934 : IVec S16x256 16) (v935 : IVec S16x256 16) (v936 : IVec S16x256 16) (v937 : IVec S16x256 16) (v938 : IVec S16x256 16) (v939 : IVec S16x256 16) (v940 : IVec S16x256 16) (v941 : IVec S16x256 16) (v942 : IVec S16x256 16) (v943 : IVec S16x256 16) (v944 : IVec S16x256 16) (v945 : IVec S16x256 16) (v946 : IVec S16x256 16) (v947 : IVec S16x256 16) (v948 : IVec S16x256 16) (v949 : IVec S16x256 16) (v950 : IVec S16x256 16) (v951 : IVec S16x256 16) (v952 : IVec S16x256 16) (v953 : IVec S16x256 16) (v954 : IVec S16x256 16) (v955 : IVec S16x256 16) :
    Keeps defs₀ 𝒱 c I (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v866 v867 v868 v869 v870 v871 v872 v873 v881 v882 v883 v884 v885 v886 v887 v888 v889 v890 v891 v892 v893 v894 v895 v896 v904 v905 v906 v907 v908 v909 v910 v911 v912 v913 v914 v915 v916 v917 v918 v919 v920 v921 v922 v923 v924 v925 v926 v927 v928 v929 v930 v931 v932 v933 v934 v935 v936 v937 v938 v939 v940 v941 v942 v943 v944 v945 v946 v947 v948 v949 v950 v951 v952 v953 v954 v955) := by
  delta k0_part59
  repeat' first | extract_lets | with_reducible refine keeps_bind ?_ ?_ | intro _ | exact keeps_pure _

theorem keeps_k0_part60 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : k0_cond10 i = 1#1) (k0_h11 : k0_cond11 i = 1#1) (k0_h12 : ¬(k0_cond12 i = 1#1)) :
    Keeps defs₀ 𝒱 c I (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10 k0_h11 k0_h12) := by
  delta k0_part60
  repeat' first | extract_lets | with_reducible refine keeps_bind ?_ ?_ | with_reducible exact keeps_k0_part50 H .. | with_reducible exact keeps_k0_part51 H .. | with_reducible exact keeps_k0_part52 H .. | with_reducible exact keeps_k0_part53 H .. | with_reducible exact keeps_k0_part54 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part61 (H : Held 𝒱 c I arg2 arg3 arg4 arg5 arg6 arg7 arg8 arg9 arg10 arg11 arg12 arg13 arg14 arg15 arg16 arg17 arg18 arg19 arg20 arg21 arg22) (v393 : IVec S1x256 16) (v423 : IVec S256x256 16) :
    Keeps defs₀ 𝒱 c I (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v423) := by
  delta k0_part61
  repeat' first | extract_lets | with_reducible refine keeps_bind ?_ ?_ | with_reducible exact keeps_load H.l16 | intro _ | exact keeps_pure _

theorem keeps_k0_part62 (H : Held 𝒱 c I arg2 arg3 arg4 arg5 arg6 arg7 arg8 arg9 arg10 arg11 arg12 arg13 arg14 arg15 arg16 arg17 arg18 arg19 arg20 arg21 arg22) (v393 : IVec S1x256 16) (v469 : IVec S256x256 16) :
    Keeps defs₀ 𝒱 c I (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v469) := by
  delta k0_part62
  repeat' first | extract_lets | with_reducible refine keeps_bind ?_ ?_ | with_reducible exact keeps_load H.l16 | intro _ | exact keeps_pure _

theorem keeps_k0_part63 (H : Held 𝒱 c I arg2 arg3 arg4 arg5 arg6 arg7 arg8 arg9 arg10 arg11 arg12 arg13 arg14 arg15 arg16 arg17 arg18 arg19 arg20 arg21 arg22) (v393 : IVec S1x256 16) (v401 : IVec S16x256 16) (v402 : IVec S16x256 16) (v403 : IVec S16x256 16) (v404 : IVec S16x256 16) (v405 : IVec S16x256 16) (v406 : IVec S16x256 16) (v407 : IVec S16x256 16) (v408 : IVec S16x256 16) (v409 : IVec S16x256 16) (v410 : IVec S16x256 16) (v411 : IVec S16x256 16) (v412 : IVec S16x256 16) (v413 : IVec S16x256 16) (v414 : IVec S16x256 16) (v415 : IVec S16x256 16) (v416 : IVec S16x256 16) (v424 : IVec S16x256 16) (v425 : IVec S16x256 16) (v426 : IVec S16x256 16) (v427 : IVec S16x256 16) (v428 : IVec S16x256 16) (v429 : IVec S16x256 16) (v430 : IVec S16x256 16) (v431 : IVec S16x256 16) (v432 : IVec S16x256 16) (v433 : IVec S16x256 16) (v434 : IVec S16x256 16) (v435 : IVec S16x256 16) (v436 : IVec S16x256 16) (v437 : IVec S16x256 16) (v438 : IVec S16x256 16) (v439 : IVec S16x256 16) (v447 : IVec S16x256 16) (v448 : IVec S16x256 16) (v449 : IVec S16x256 16) (v450 : IVec S16x256 16) (v451 : IVec S16x256 16) (v452 : IVec S16x256 16) (v453 : IVec S16x256 16) (v454 : IVec S16x256 16) (v455 : IVec S16x256 16) (v456 : IVec S16x256 16) (v457 : IVec S16x256 16) (v458 : IVec S16x256 16) (v459 : IVec S16x256 16) (v460 : IVec S16x256 16) (v461 : IVec S16x256 16) (v462 : IVec S16x256 16) (v470 : IVec S16x256 16) (v471 : IVec S16x256 16) (v472 : IVec S16x256 16) (v473 : IVec S16x256 16) (v474 : IVec S16x256 16) (v475 : IVec S16x256 16) (v476 : IVec S16x256 16) (v477 : IVec S16x256 16) (v478 : IVec S16x256 16) (v479 : IVec S16x256 16) (v480 : IVec S16x256 16) (v481 : IVec S16x256 16) (v482 : IVec S16x256 16) (v483 : IVec S16x256 16) (v484 : IVec S16x256 16) (v485 : IVec S16x256 16) (v493 : IVec S16x256 16) (v494 : IVec S16x256 16) (v495 : IVec S16x256 16) (v496 : IVec S16x256 16) (v497 : IVec S16x256 16) (v498 : IVec S16x256 16) :
    Keeps defs₀ 𝒱 c I (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v401 v402 v403 v404 v405 v406 v407 v408 v409 v410 v411 v412 v413 v414 v415 v416 v424 v425 v426 v427 v428 v429 v430 v431 v432 v433 v434 v435 v436 v437 v438 v439 v447 v448 v449 v450 v451 v452 v453 v454 v455 v456 v457 v458 v459 v460 v461 v462 v470 v471 v472 v473 v474 v475 v476 v477 v478 v479 v480 v481 v482 v483 v484 v485 v493 v494 v495 v496 v497 v498) := by
  delta k0_part63
  repeat' first | extract_lets | with_reducible refine keeps_bind ?_ ?_ | with_reducible exact keeps_load H.l16 | intro _ | exact keeps_pure _

theorem keeps_k0_part64 (H : Held 𝒱 c I arg2 arg3 arg4 arg5 arg6 arg7 arg8 arg9 arg10 arg11 arg12 arg13 arg14 arg15 arg16 arg17 arg18 arg19 arg20 arg21 arg22) (v499 : IVec S16x256 16) (v500 : IVec S16x256 16) (v501 : IVec S16x256 16) (v502 : IVec S16x256 16) (v503 : IVec S16x256 16) (v504 : IVec S16x256 16) (v505 : IVec S16x256 16) (v506 : IVec S16x256 16) (v507 : IVec S16x256 16) (v508 : IVec S16x256 16) (v516 : IVec S16x256 16) (v517 : IVec S16x256 16) (v518 : IVec S16x256 16) (v519 : IVec S16x256 16) (v520 : IVec S16x256 16) (v521 : IVec S16x256 16) (v522 : IVec S16x256 16) (v523 : IVec S16x256 16) (v524 : IVec S16x256 16) (v525 : IVec S16x256 16) (v526 : IVec S16x256 16) (v527 : IVec S16x256 16) (v528 : IVec S16x256 16) (v529 : IVec S16x256 16) (v530 : IVec S16x256 16) (v531 : IVec S16x256 16) (v539 : IVec S16x256 16) (v540 : IVec S16x256 16) (v541 : IVec S16x256 16) (v542 : IVec S16x256 16) (v543 : IVec S16x256 16) (v544 : IVec S16x256 16) (v545 : IVec S16x256 16) (v546 : IVec S16x256 16) (v547 : IVec S16x256 16) (v548 : IVec S16x256 16) (v549 : IVec S16x256 16) (v550 : IVec S16x256 16) (v551 : IVec S16x256 16) (v552 : IVec S16x256 16) (v553 : IVec S16x256 16) (v554 : IVec S16x256 16) (v555 : IVec S16x256 16) (v556 : IVec S16x256 16) (v557 : IVec S16x256 16) (v558 : IVec S16x256 16) (v559 : IVec S16x256 16) (v560 : IVec S16x256 16) (v561 : IVec S16x256 16) (v562 : IVec S16x256 16) (v563 : IVec S16x256 16) (v564 : IVec S16x256 16) (v565 : IVec S16x256 16) (v566 : IVec S16x256 16) (v567 : IVec S16x256 16) (v568 : IVec S16x256 16) (v569 : IVec S16x256 16) (v570 : IVec S16x256 16) (v571 : IVec S16x256 16) (v572 : IVec S16x256 16) (v573 : IVec S16x256 16) (v574 : IVec S16x256 16) (v575 : IVec S16x256 16) (v576 : IVec S16x256 16) (v577 : IVec S16x256 16) (v578 : IVec S16x256 16) (v579 : IVec S16x256 16) (v580 : IVec S16x256 16) (v581 : IVec S16x256 16) (v582 : IVec S16x256 16) (v583 : IVec S16x256 16) (v584 : IVec S16x256 16) (v585 : IVec S16x256 16) (v586 : IVec S16x256 16) (v587 : IVec S16x256 16) (v588 : IVec S16x256 16) (v589 : IVec S16x256 16) :
    Keeps defs₀ 𝒱 c I (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v499 v500 v501 v502 v503 v504 v505 v506 v507 v508 v516 v517 v518 v519 v520 v521 v522 v523 v524 v525 v526 v527 v528 v529 v530 v531 v539 v540 v541 v542 v543 v544 v545 v546 v547 v548 v549 v550 v551 v552 v553 v554 v555 v556 v557 v558 v559 v560 v561 v562 v563 v564 v565 v566 v567 v568 v569 v570 v571 v572 v573 v574 v575 v576 v577 v578 v579 v580 v581 v582 v583 v584 v585 v586 v587 v588 v589) := by
  delta k0_part64
  repeat' first | extract_lets | with_reducible refine keeps_bind ?_ ?_ | intro _ | exact keeps_pure _

theorem keeps_k0_part65 (H : Held 𝒱 c I arg2 arg3 arg4 arg5 arg6 arg7 arg8 arg9 arg10 arg11 arg12 arg13 arg14 arg15 arg16 arg17 arg18 arg19 arg20 arg21 arg22) (v393 : IVec S1x256 16) (v633 : IVec S16x256 16) (v634 : IVec S16x256 16) (v635 : IVec S16x256 16) (v636 : IVec S16x256 16) (v637 : IVec S16x256 16) (v638 : IVec S16x256 16) (v639 : IVec S16x256 16) (v640 : IVec S16x256 16) (v641 : IVec S16x256 16) (v642 : IVec S16x256 16) (v643 : IVec S16x256 16) (v644 : IVec S16x256 16) (v645 : IVec S16x256 16) (v646 : IVec S16x256 16) (v647 : IVec S16x256 16) (v648 : IVec S16x256 16) (v649 : IVec S16x256 16) :
    Keeps defs₀ 𝒱 c I (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v633 v634 v635 v636 v637 v638 v639 v640 v641 v642 v643 v644 v645 v646 v647 v648 v649) := by
  delta k0_part65
  repeat' first | extract_lets | with_reducible refine keeps_bind ?_ ?_ | with_reducible exact keeps_load H.l16 | with_reducible exact keeps_load H.l17 | with_reducible exact keeps_store H.g17 | intro _ | exact keeps_pure _

theorem keeps_k0_part66 (H : Held 𝒱 c I arg2 arg3 arg4 arg5 arg6 arg7 arg8 arg9 arg10 arg11 arg12 arg13 arg14 arg15 arg16 arg17 arg18 arg19 arg20 arg21 arg22) (v393 : IVec S1x256 16) (v687 : IVec S256x256 16) :
    Keeps defs₀ 𝒱 c I (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v687) := by
  delta k0_part66
  repeat' first | extract_lets | with_reducible refine keeps_bind ?_ ?_ | with_reducible exact keeps_load H.l16 | with_reducible exact keeps_load H.l17 | with_reducible exact keeps_store H.g17 | intro _ | exact keeps_pure _

theorem keeps_k0_part67 (H : Held 𝒱 c I arg2 arg3 arg4 arg5 arg6 arg7 arg8 arg9 arg10 arg11 arg12 arg13 arg14 arg15 arg16 arg17 arg18 arg19 arg20 arg21 arg22) (v393 : IVec S1x256 16) (v716 : IVec S256x256 1) (v718 : IVec S256x256 16) :
    Keeps defs₀ 𝒱 c I (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v393 v716 v718) := by
  delta k0_part67
  repeat' first | extract_lets | with_reducible refine keeps_bind ?_ ?_ | with_reducible exact keeps_load H.l16 | with_reducible exact keeps_load H.l17 | with_reducible exact keeps_store H.g17 | intro _ | exact keeps_pure _

theorem keeps_k0_part68 (H : Held 𝒱 c I arg2 arg3 arg4 arg5 arg6 arg7 arg8 arg9 arg10 arg11 arg12 arg13 arg14 arg15 arg16 arg17 arg18 arg19 arg20 arg21 arg22) (c0_i32_201 : BitVec 32) (c1_i32_202 : BitVec 32) (k0_t7 : Fin k0_t7_loop.trips) (arg24 : IVec S1x256 32) :
    Keeps defs₀ 𝒱 c I (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_201 c1_i32_202 k0_t7 arg24) := by
  delta k0_part68
  repeat' first | extract_lets | with_reducible refine keeps_bind ?_ ?_ | with_reducible exact keeps_load H.l16 | intro _ | exact keeps_pure _

theorem keeps_k0_part69 (H : Held 𝒱 c I arg2 arg3 arg4 arg5 arg6 arg7 arg8 arg9 arg10 arg11 arg12 arg13 arg14 arg15 arg16 arg17 arg18 arg19 arg20 arg21 arg22) (v705 : IVec S1x256 16) (v735 : IVec S256x256 16) :
    Keeps defs₀ 𝒱 c I (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v705 v735) := by
  delta k0_part69
  repeat' first | extract_lets | with_reducible refine keeps_bind ?_ ?_ | with_reducible exact keeps_load H.l16 | intro _ | exact keeps_pure _

theorem keeps_k0_part70 (H : Held 𝒱 c I arg2 arg3 arg4 arg5 arg6 arg7 arg8 arg9 arg10 arg11 arg12 arg13 arg14 arg15 arg16 arg17 arg18 arg19 arg20 arg21 arg22) (v705 : IVec S1x256 16) (v713 : IVec S16x256 16) (v714 : IVec S16x256 16) (v715 : IVec S16x256 16) (v716 : IVec S16x256 16) (v717 : IVec S16x256 16) (v718 : IVec S16x256 16) (v719 : IVec S16x256 16) (v720 : IVec S16x256 16) :
    Keeps defs₀ 𝒱 c I (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v705 v713 v714 v715 v716 v717 v718 v719 v720) := by
  delta k0_part70
  repeat' first | extract_lets | with_reducible refine keeps_bind ?_ ?_ | with_reducible exact keeps_load H.l16 | intro _ | exact keeps_pure _

theorem keeps_k0_part71 (H : Held 𝒱 c I arg2 arg3 arg4 arg5 arg6 arg7 arg8 arg9 arg10 arg11 arg12 arg13 arg14 arg15 arg16 arg17 arg18 arg19 arg20 arg21 arg22) (v721 : IVec S16x256 16) (v722 : IVec S16x256 16) (v723 : IVec S16x256 16) (v724 : IVec S16x256 16) (v725 : IVec S16x256 16) (v726 : IVec S16x256 16) (v727 : IVec S16x256 16) (v728 : IVec S16x256 16) (v736 : IVec S16x256 16) (v737 : IVec S16x256 16) (v738 : IVec S16x256 16) (v739 : IVec S16x256 16) (v740 : IVec S16x256 16) (v741 : IVec S16x256 16) (v742 : IVec S16x256 16) (v743 : IVec S16x256 16) (v744 : IVec S16x256 16) (v745 : IVec S16x256 16) (v746 : IVec S16x256 16) (v747 : IVec S16x256 16) (v748 : IVec S16x256 16) (v749 : IVec S16x256 16) (v750 : IVec S16x256 16) (v751 : IVec S16x256 16) (v759 : IVec S16x256 16) (v760 : IVec S16x256 16) (v761 : IVec S16x256 16) (v762 : IVec S16x256 16) (v763 : IVec S16x256 16) (v764 : IVec S16x256 16) (v765 : IVec S16x256 16) (v766 : IVec S16x256 16) (v767 : IVec S16x256 16) (v768 : IVec S16x256 16) (v769 : IVec S16x256 16) (v770 : IVec S16x256 16) (v771 : IVec S16x256 16) (v772 : IVec S16x256 16) (v773 : IVec S16x256 16) (v774 : IVec S16x256 16) (v782 : IVec S16x256 16) (v783 : IVec S16x256 16) (v784 : IVec S16x256 16) (v785 : IVec S16x256 16) (v786 : IVec S16x256 16) (v787 : IVec S16x256 16) (v788 : IVec S16x256 16) (v789 : IVec S16x256 16) (v790 : IVec S16x256 16) (v791 : IVec S16x256 16) (v792 : IVec S16x256 16) (v793 : IVec S16x256 16) (v794 : IVec S16x256 16) (v795 : IVec S16x256 16) (v796 : IVec S16x256 16) (v797 : IVec S16x256 16) (v805 : IVec S16x256 16) (v806 : IVec S16x256 16) (v807 : IVec S16x256 16) (v808 : IVec S16x256 16) (v809 : IVec S16x256 16) (v810 : IVec S16x256 16) (v811 : IVec S16x256 16) (v812 : IVec S16x256 16) (v813 : IVec S16x256 16) (v814 : IVec S16x256 16) (v815 : IVec S16x256 16) (v816 : IVec S16x256 16) (v817 : IVec S16x256 16) (v818 : IVec S16x256 16) (v819 : IVec S16x256 16) (v820 : IVec S16x256 16) (v828 : IVec S16x256 16) (v829 : IVec S16x256 16) (v830 : IVec S16x256 16) (v831 : IVec S16x256 16) (v832 : IVec S16x256 16) (v833 : IVec S16x256 16) (v834 : IVec S16x256 16) (v835 : IVec S16x256 16) (v836 : IVec S16x256 16) (v837 : IVec S16x256 16) (v838 : IVec S16x256 16) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) :
    Keeps defs₀ 𝒱 c I (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v721 v722 v723 v724 v725 v726 v727 v728 v736 v737 v738 v739 v740 v741 v742 v743 v744 v745 v746 v747 v748 v749 v750 v751 v759 v760 v761 v762 v763 v764 v765 v766 v767 v768 v769 v770 v771 v772 v773 v774 v782 v783 v784 v785 v786 v787 v788 v789 v790 v791 v792 v793 v794 v795 v796 v797 v805 v806 v807 v808 v809 v810 v811 v812 v813 v814 v815 v816 v817 v818 v819 v820 v828 v829 v830 v831 v832 v833 v834 v835 v836 v837 v838 v839 v840 v841 v842 v843 v844 v845 v846 v847) := by
  delta k0_part71
  repeat' first | extract_lets | with_reducible refine keeps_bind ?_ ?_ | intro _ | exact keeps_pure _

theorem keeps_k0_part72 (H : Held 𝒱 c I arg2 arg3 arg4 arg5 arg6 arg7 arg8 arg9 arg10 arg11 arg12 arg13 arg14 arg15 arg16 arg17 arg18 arg19 arg20 arg21 arg22) (c0_i32_293 : BitVec 32) (c1_i32_295 : BitVec 32) (k0_t8 : Fin k0_t8_loop.trips) (arg24 : IVec S1x256 32) :
    Keeps defs₀ 𝒱 c I (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_293 c1_i32_295 k0_t8 arg24) := by
  delta k0_part72
  repeat' first | extract_lets | with_reducible refine keeps_bind ?_ ?_ | with_reducible exact keeps_load H.l17 | intro _ | exact keeps_pure _

theorem keeps_k0_part73 (H : Held 𝒱 c I arg2 arg3 arg4 arg5 arg6 arg7 arg8 arg9 arg10 arg11 arg12 arg13 arg14 arg15 arg16 arg17 arg18 arg19 arg20 arg21 arg22) (v705 : IVec S1x256 16) (v735 : IVec S256x256 16) :
    Keeps defs₀ 𝒱 c I (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v705 v735) := by
  delta k0_part73
  repeat' first | extract_lets | with_reducible refine keeps_bind ?_ ?_ | with_reducible exact keeps_load H.l17 | intro _ | exact keeps_pure _

theorem keeps_k0_part74 (H : Held 𝒱 c I arg2 arg3 arg4 arg5 arg6 arg7 arg8 arg9 arg10 arg11 arg12 arg13 arg14 arg15 arg16 arg17 arg18 arg19 arg20 arg21 arg22) (v705 : IVec S1x256 16) (v713 : IVec S16x256 16) (v714 : IVec S16x256 16) (v715 : IVec S16x256 16) (v716 : IVec S16x256 16) (v717 : IVec S16x256 16) (v718 : IVec S16x256 16) (v719 : IVec S16x256 16) (v720 : IVec S16x256 16) :
    Keeps defs₀ 𝒱 c I (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v705 v713 v714 v715 v716 v717 v718 v719 v720) := by
  delta k0_part74
  repeat' first | extract_lets | with_reducible refine keeps_bind ?_ ?_ | with_reducible exact keeps_load H.l17 | intro _ | exact keeps_pure _

theorem keeps_k0_part75 (H : Held 𝒱 c I arg2 arg3 arg4 arg5 arg6 arg7 arg8 arg9 arg10 arg11 arg12 arg13 arg14 arg15 arg16 arg17 arg18 arg19 arg20 arg21 arg22) (v721 : IVec S16x256 16) (v722 : IVec S16x256 16) (v723 : IVec S16x256 16) (v724 : IVec S16x256 16) (v725 : IVec S16x256 16) (v726 : IVec S16x256 16) (v727 : IVec S16x256 16) (v728 : IVec S16x256 16) (v736 : IVec S16x256 16) (v737 : IVec S16x256 16) (v738 : IVec S16x256 16) (v739 : IVec S16x256 16) (v740 : IVec S16x256 16) (v741 : IVec S16x256 16) (v742 : IVec S16x256 16) (v743 : IVec S16x256 16) (v744 : IVec S16x256 16) (v745 : IVec S16x256 16) (v746 : IVec S16x256 16) (v747 : IVec S16x256 16) (v748 : IVec S16x256 16) (v749 : IVec S16x256 16) (v750 : IVec S16x256 16) (v751 : IVec S16x256 16) (v759 : IVec S16x256 16) (v760 : IVec S16x256 16) (v761 : IVec S16x256 16) (v762 : IVec S16x256 16) (v763 : IVec S16x256 16) (v764 : IVec S16x256 16) (v765 : IVec S16x256 16) (v766 : IVec S16x256 16) (v767 : IVec S16x256 16) (v768 : IVec S16x256 16) (v769 : IVec S16x256 16) (v770 : IVec S16x256 16) (v771 : IVec S16x256 16) (v772 : IVec S16x256 16) (v773 : IVec S16x256 16) (v774 : IVec S16x256 16) (v782 : IVec S16x256 16) (v783 : IVec S16x256 16) (v784 : IVec S16x256 16) (v785 : IVec S16x256 16) (v786 : IVec S16x256 16) (v787 : IVec S16x256 16) (v788 : IVec S16x256 16) (v789 : IVec S16x256 16) (v790 : IVec S16x256 16) (v791 : IVec S16x256 16) (v792 : IVec S16x256 16) (v793 : IVec S16x256 16) (v794 : IVec S16x256 16) (v795 : IVec S16x256 16) (v796 : IVec S16x256 16) (v797 : IVec S16x256 16) (v805 : IVec S16x256 16) (v806 : IVec S16x256 16) (v807 : IVec S16x256 16) (v808 : IVec S16x256 16) (v809 : IVec S16x256 16) (v810 : IVec S16x256 16) (v811 : IVec S16x256 16) (v812 : IVec S16x256 16) (v813 : IVec S16x256 16) (v814 : IVec S16x256 16) (v815 : IVec S16x256 16) (v816 : IVec S16x256 16) (v817 : IVec S16x256 16) (v818 : IVec S16x256 16) (v819 : IVec S16x256 16) (v820 : IVec S16x256 16) (v828 : IVec S16x256 16) (v829 : IVec S16x256 16) (v830 : IVec S16x256 16) (v831 : IVec S16x256 16) (v832 : IVec S16x256 16) (v833 : IVec S16x256 16) (v834 : IVec S16x256 16) (v835 : IVec S16x256 16) (v836 : IVec S16x256 16) (v837 : IVec S16x256 16) (v838 : IVec S16x256 16) (v839 : IVec S16x256 16) (v840 : IVec S16x256 16) (v841 : IVec S16x256 16) (v842 : IVec S16x256 16) (v843 : IVec S16x256 16) (v844 : IVec S16x256 16) (v845 : IVec S16x256 16) (v846 : IVec S16x256 16) (v847 : IVec S16x256 16) :
    Keeps defs₀ 𝒱 c I (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v721 v722 v723 v724 v725 v726 v727 v728 v736 v737 v738 v739 v740 v741 v742 v743 v744 v745 v746 v747 v748 v749 v750 v751 v759 v760 v761 v762 v763 v764 v765 v766 v767 v768 v769 v770 v771 v772 v773 v774 v782 v783 v784 v785 v786 v787 v788 v789 v790 v791 v792 v793 v794 v795 v796 v797 v805 v806 v807 v808 v809 v810 v811 v812 v813 v814 v815 v816 v817 v818 v819 v820 v828 v829 v830 v831 v832 v833 v834 v835 v836 v837 v838 v839 v840 v841 v842 v843 v844 v845 v846 v847) := by
  delta k0_part75
  repeat' first | extract_lets | with_reducible refine keeps_bind ?_ ?_ | intro _ | exact keeps_pure _

theorem keeps_k0_part76 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : k0_cond10 i = 1#1) (k0_h11 : ¬(k0_cond11 i = 1#1)) :
    Keeps defs₀ 𝒱 c I (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10 k0_h11) := by
  delta k0_part76
  repeat' first | extract_lets | with_reducible refine keeps_bind ?_ ?_ | with_reducible exact keeps_k0_part68 H .. | with_reducible exact keeps_k0_part69 H .. | with_reducible exact keeps_k0_part70 H .. | with_reducible exact keeps_k0_part71 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part77 (H : Held 𝒱 c I arg2 arg3 arg4 arg5 arg6 arg7 arg8 arg9 arg10 arg11 arg12 arg13 arg14 arg15 arg16 arg17 arg18 arg19 arg20 arg21 arg22) (v390 : IVec S1x256 16) (v420 : IVec S256x256 16) :
    Keeps defs₀ 𝒱 c I (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v390 v420) := by
  delta k0_part77
  repeat' first | extract_lets | with_reducible refine keeps_bind ?_ ?_ | with_reducible exact keeps_load H.l16 | intro _ | exact keeps_pure _

theorem keeps_k0_part78 (H : Held 𝒱 c I arg2 arg3 arg4 arg5 arg6 arg7 arg8 arg9 arg10 arg11 arg12 arg13 arg14 arg15 arg16 arg17 arg18 arg19 arg20 arg21 arg22) (v390 : IVec S1x256 16) (v398 : IVec S16x256 16) (v399 : IVec S16x256 16) (v400 : IVec S16x256 16) (v401 : IVec S16x256 16) (v402 : IVec S16x256 16) (v403 : IVec S16x256 16) (v466 : IVec S256x256 16) :
    Keeps defs₀ 𝒱 c I (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v390 v398 v399 v400 v401 v402 v403 v466) := by
  delta k0_part78
  repeat' first | extract_lets | with_reducible refine keeps_bind ?_ ?_ | with_reducible exact keeps_load H.l16 | intro _ | exact keeps_pure _

theorem keeps_k0_part79 (H : Held 𝒱 c I arg2 arg3 arg4 arg5 arg6 arg7 arg8 arg9 arg10 arg11 arg12 arg13 arg14 arg15 arg16 arg17 arg18 arg19 arg20 arg21 arg22) (v404 : IVec S16x256 16) (v405 : IVec S16x256 16) (v406 : IVec S16x256 16) (v407 : IVec S16x256 16) (v408 : IVec S16x256 16) (v409 : IVec S16x256 16) (v410 : IVec S16x256 16) (v411 : IVec S16x256 16) (v412 : IVec S16x256 16) (v413 : IVec S16x256 16) (v421 : IVec S16x256 16) (v422 : IVec S16x256 16) (v423 : IVec S16x256 16) (v424 : IVec S16x256 16) (v425 : IVec S16x256 16) (v426 : IVec S16x256 16) (v427 : IVec S16x256 16) (v428 : IVec S16x256 16) (v429 : IVec S16x256 16) (v430 : IVec S16x256 16) (v431 : IVec S16x256 16) (v432 : IVec S16x256 16) (v433 : IVec S16x256 16) (v434 : IVec S16x256 16) (v435 : IVec S16x256 16) (v436 : IVec S16x256 16) (v444 : IVec S16x256 16) (v445 : IVec S16x256 16) (v446 : IVec S16x256 16) (v447 : IVec S16x256 16) (v448 : IVec S16x256 16) (v449 : IVec S16x256 16) (v450 : IVec S16x256 16) (v451 : IVec S16x256 16) (v452 : IVec S16x256 16) (v453 : IVec S16x256 16) (v454 : IVec S16x256 16) (v455 : IVec S16x256 16) (v456 : IVec S16x256 16) (v457 : IVec S16x256 16) (v458 : IVec S16x256 16) (v459 : IVec S16x256 16) (v467 : IVec S16x256 16) (v468 : IVec S16x256 16) (v469 : IVec S16x256 16) (v470 : IVec S16x256 16) (v471 : IVec S16x256 16) (v472 : IVec S16x256 16) (v473 : IVec S16x256 16) (v474 : IVec S16x256 16) (v475 : IVec S16x256 16) (v476 : IVec S16x256 16) (v477 : IVec S16x256 16) (v478 : IVec S16x256 16) (v479 : IVec S16x256 16) (v480 : IVec S16x256 16) (v481 : IVec S16x256 16) (v482 : IVec S16x256 16) (v490 : IVec S16x256 16) (v491 : IVec S16x256 16) (v492 : IVec S16x256 16) (v493 : IVec S16x256 16) (v494 : IVec S16x256 16) (v495 : IVec S16x256 16) (v496 : IVec S16x256 16) (v497 : IVec S16x256 16) (v498 : IVec S16x256 16) (v499 : IVec S16x256 16) (v500 : IVec S16x256 16) (v501 : IVec S16x256 16) (v502 : IVec S16x256 16) (v503 : IVec S16x256 16) (v504 : IVec S16x256 16) (v505 : IVec S16x256 16) (v513 : IVec S16x256 16) (v514 : IVec S16x256 16) (v515 : IVec S16x256 16) (v516 : IVec S16x256 16) (v517 : IVec S16x256 16) (v518 : IVec S16x256 16) (v519 : IVec S16x256 16) (v520 : IVec S16x256 16) (v521 : IVec S16x256 16) (v522 : IVec S16x256 16) (v523 : IVec S16x256 16) (v524 : IVec S16x256 16) (v525 : IVec S16x256 16) (v526 : IVec S16x256 16) (v527 : IVec S16x256 16) (v528 : IVec S16x256 16) (v529 : IVec S16x256 16) (v530 : IVec S16x256 16) (v531 : IVec S16x256 16) :
    Keeps defs₀ 𝒱 c I (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v404 v405 v406 v407 v408 v409 v410 v411 v412 v413 v421 v422 v423 v424 v425 v426 v427 v428 v429 v430 v431 v432 v433 v434 v435 v436 v444 v445 v446 v447 v448 v449 v450 v451 v452 v453 v454 v455 v456 v457 v458 v459 v467 v468 v469 v470 v471 v472 v473 v474 v475 v476 v477 v478 v479 v480 v481 v482 v490 v491 v492 v493 v494 v495 v496 v497 v498 v499 v500 v501 v502 v503 v504 v505 v513 v514 v515 v516 v517 v518 v519 v520 v521 v522 v523 v524 v525 v526 v527 v528 v529 v530 v531) := by
  delta k0_part79
  repeat' first | extract_lets | with_reducible refine keeps_bind ?_ ?_ | intro _ | exact keeps_pure _

theorem keeps_k0_part80 (H : Held 𝒱 c I arg2 arg3 arg4 arg5 arg6 arg7 arg8 arg9 arg10 arg11 arg12 arg13 arg14 arg15 arg16 arg17 arg18 arg19 arg20 arg21 arg22) (v390 : IVec S1x256 16) (v559 : IVec S16x256 16) (v560 : IVec S16x256 16) (v561 : IVec S16x256 16) (v562 : IVec S16x256 16) (v563 : IVec S16x256 16) (v564 : IVec S16x256 16) (v565 : IVec S16x256 16) (v566 : IVec S16x256 16) (v567 : IVec S16x256 16) (v568 : IVec S16x256 16) (v569 : IVec S16x256 16) (v570 : IVec S16x256 16) (v571 : IVec S16x256 16) (v572 : IVec S16x256 16) (v573 : IVec S16x256 16) (v574 : IVec S16x256 16) (v575 : IVec S16x256 16) (v576 : IVec S16x256 16) (v577 : IVec S16x256 16) (v578 : IVec S16x256 16) (v579 : IVec S16x256 16) (v580 : IVec S16x256 16) (v581 : IVec S16x256 16) (v582 : IVec S16x256 16) (v583 : IVec S16x256 16) (v584 : IVec S16x256 16) (v585 : IVec S16x256 16) (v586 : IVec S16x256 16) (v587 : IVec S16x256 16) (v588 : IVec S16x256 16) (v589 : IVec S16x256 16) (v590 : IVec S16x256 16) (v591 : IVec S16x256 16) :
    Keeps defs₀ 𝒱 c I (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v390 v559 v560 v561 v562 v563 v564 v565 v566 v567 v568 v569 v570 v571 v572 v573 v574 v575 v576 v577 v578 v579 v580 v581 v582 v583 v584 v585 v586 v587 v588 v589 v590 v591) := by
  delta k0_part80
  repeat' first | extract_lets | with_reducible refine keeps_bind ?_ ?_ | with_reducible exact keeps_load H.l16 | with_reducible exact keeps_load H.l17 | with_reducible exact keeps_store H.g17 | intro _ | exact keeps_pure _

theorem keeps_k0_part81 (H : Held 𝒱 c I arg2 arg3 arg4 arg5 arg6 arg7 arg8 arg9 arg10 arg11 arg12 arg13 arg14 arg15 arg16 arg17 arg18 arg19 arg20 arg21 arg22) (v390 : IVec S1x256 16) :
    Keeps defs₀ 𝒱 c I (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v390) := by
  delta k0_part81
  repeat' first | extract_lets | with_reducible refine keeps_bind ?_ ?_ | with_reducible exact keeps_load H.l16 | with_reducible exact keeps_load H.l17 | with_reducible exact keeps_store H.g17 | intro _ | exact keeps_pure _

theorem keeps_k0_part82 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : k0_cond10 i = 1#1) (k0_h11 : ¬(k0_cond11 i = 1#1)) (v389 : IVec S1x256 32) (v390 : IVec S1x256 16) (v626 : FVec F S1x256 .f32) (v667 : IVec S256x256 16) :
    Keeps defs₀ 𝒱 c I (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10 k0_h11 v389 v390 v626 v667) := by
  delta k0_part82
  repeat' first | extract_lets | with_reducible refine keeps_bind ?_ ?_ | with_reducible exact keeps_k0_part72 H .. | with_reducible exact keeps_k0_part73 H .. | with_reducible exact keeps_k0_part74 H .. | with_reducible exact keeps_k0_part75 H .. | with_reducible exact keeps_load H.l16 | with_reducible exact keeps_load H.l17 | with_reducible exact keeps_store H.g17 | with_reducible refine keeps_for _ _ _ ?_ | (with_reducible refine keeps_each ?_; intro _; (repeat (with_reducible refine keeps_each ?_; intro _)); intro _; dsimp only) | intro _ | exact keeps_pure _

theorem keeps_k0_part83 (H : Held 𝒱 c I arg2 arg3 arg4 arg5 arg6 arg7 arg8 arg9 arg10 arg11 arg12 arg13 arg14 arg15 arg16 arg17 arg18 arg19 arg20 arg21 arg22) (c0_i32_199 : BitVec 32) (c1_i32_200 : BitVec 32) (k0_t9 : Fin k0_t9_loop.trips) (arg24 : IVec S1x256 32) :
    Keeps defs₀ 𝒱 c I (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_199 c1_i32_200 k0_t9 arg24) := by
  delta k0_part83
  repeat' first | extract_lets | with_reducible refine keeps_bind ?_ ?_ | with_reducible exact keeps_load H.l16 | intro _ | exact keeps_pure _

theorem keeps_k0_part84 (H : Held 𝒱 c I arg2 arg3 arg4 arg5 arg6 arg7 arg8 arg9 arg10 arg11 arg12 arg13 arg14 arg15 arg16 arg17 arg18 arg19 arg20 arg21 arg22) (v652 : IVec S1x256 16) (v682 : IVec S256x256 16) :
    Keeps defs₀ 𝒱 c I (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v652 v682) := by
  delta k0_part84
  repeat' first | extract_lets | with_reducible refine keeps_bind ?_ ?_ | with_reducible exact keeps_load H.l16 | intro _ | exact keeps_pure _

theorem keeps_k0_part85 (H : Held 𝒱 c I arg2 arg3 arg4 arg5 arg6 arg7 arg8 arg9 arg10 arg11 arg12 arg13 arg14 arg15 arg16 arg17 arg18 arg19 arg20 arg21 arg22) (v652 : IVec S1x256 16) (v660 : IVec S16x256 16) (v661 : IVec S16x256 16) (v662 : IVec S16x256 16) (v663 : IVec S16x256 16) (v664 : IVec S16x256 16) (v665 : IVec S16x256 16) (v666 : IVec S16x256 16) (v667 : IVec S16x256 16) (v668 : IVec S16x256 16) (v669 : IVec S16x256 16) (v670 : IVec S16x256 16) (v671 : IVec S16x256 16) (v672 : IVec S16x256 16) (v673 : IVec S16x256 16) (v674 : IVec S16x256 16) (v675 : IVec S16x256 16) (v683 : IVec S16x256 16) (v684 : IVec S16x256 16) (v685 : IVec S16x256 16) (v686 : IVec S16x256 16) (v687 : IVec S16x256 16) (v688 : IVec S16x256 16) (v689 : IVec S16x256 16) (v690 : IVec S16x256 16) (v691 : IVec S16x256 16) (v692 : IVec S16x256 16) (v693 : IVec S16x256 16) (v694 : IVec S16x256 16) (v695 : IVec S16x256 16) (v696 : IVec S16x256 16) (v697 : IVec S16x256 16) (v698 : IVec S16x256 16) (v706 : IVec S16x256 16) (v707 : IVec S16x256 16) (v708 : IVec S16x256 16) (v709 : IVec S16x256 16) (v710 : IVec S16x256 16) (v711 : IVec S16x256 16) (v712 : IVec S16x256 16) (v713 : IVec S16x256 16) (v714 : IVec S16x256 16) (v715 : IVec S16x256 16) (v716 : IVec S16x256 16) (v717 : IVec S16x256 16) (v718 : IVec S16x256 16) (v719 : IVec S16x256 16) (v720 : IVec S16x256 16) (v721 : IVec S16x256 16) (v729 : IVec S16x256 16) (v730 : IVec S16x256 16) (v731 : IVec S16x256 16) (v732 : IVec S16x256 16) (v733 : IVec S16x256 16) (v734 : IVec S16x256 16) (v735 : IVec S16x256 16) (v736 : IVec S16x256 16) (v737 : IVec S16x256 16) (v738 : IVec S16x256 16) (v739 : IVec S16x256 16) (v740 : IVec S16x256 16) (v741 : IVec S16x256 16) (v742 : IVec S16x256 16) (v743 : IVec S16x256 16) (v744 : IVec S16x256 16) :
    Keeps defs₀ 𝒱 c I (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v652 v660 v661 v662 v663 v664 v665 v666 v667 v668 v669 v670 v671 v672 v673 v674 v675 v683 v684 v685 v686 v687 v688 v689 v690 v691 v692 v693 v694 v695 v696 v697 v698 v706 v707 v708 v709 v710 v711 v712 v713 v714 v715 v716 v717 v718 v719 v720 v721 v729 v730 v731 v732 v733 v734 v735 v736 v737 v738 v739 v740 v741 v742 v743 v744) := by
  delta k0_part85
  repeat' first | extract_lets | with_reducible refine keeps_bind ?_ ?_ | with_reducible exact keeps_load H.l16 | intro _ | exact keeps_pure _

theorem keeps_k0_part86 (H : Held 𝒱 c I arg2 arg3 arg4 arg5 arg6 arg7 arg8 arg9 arg10 arg11 arg12 arg13 arg14 arg15 arg16 arg17 arg18 arg19 arg20 arg21 arg22) (c0_i32_199 : BitVec 32) (c1_i32_200 : BitVec 32) (k0_t9 : Fin k0_t9_loop.trips) (arg24 : IVec S1x256 32) :
    Keeps defs₀ 𝒱 c I (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_199 c1_i32_200 k0_t9 arg24) := by
  delta k0_part86
  repeat' first | extract_lets | with_reducible refine keeps_bind ?_ ?_ | with_reducible exact keeps_k0_part83 H .. | with_reducible exact keeps_k0_part84 H .. | with_reducible exact keeps_k0_part85 H .. | (with_reducible refine keeps_each ?_; intro _; (repeat (with_reducible refine keeps_each ?_; intro _)); intro _; dsimp only) | intro _ | exact keeps_pure _

theorem keeps_k0_part87 (H : Held 𝒱 c I arg2 arg3 arg4 arg5 arg6 arg7 arg8 arg9 arg10 arg11 arg12 arg13 arg14 arg15 arg16 arg17 arg18 arg19 arg20 arg21 arg22) (c0_i32_276 : BitVec 32) (c1_i32_278 : BitVec 32) (k0_t10 : Fin k0_t10_loop.trips) (arg24 : IVec S1x256 32) :
    Keeps defs₀ 𝒱 c I (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_276 c1_i32_278 k0_t10 arg24) := by
  delta k0_part87
  repeat' first | extract_lets | with_reducible refine keeps_bind ?_ ?_ | with_reducible exact keeps_load H.l17 | intro _ | exact keeps_pure _

theorem keeps_k0_part88 (H : Held 𝒱 c I arg2 arg3 arg4 arg5 arg6 arg7 arg8 arg9 arg10 arg11 arg12 arg13 arg14 arg15 arg16 arg17 arg18 arg19 arg20 arg21 arg22) (v652 : IVec S1x256 16) (v682 : IVec S256x256 16) :
    Keeps defs₀ 𝒱 c I (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v652 v682) := by
  delta k0_part88
  repeat' first | extract_lets | with_reducible refine keeps_bind ?_ ?_ | with_reducible exact keeps_load H.l17 | intro _ | exact keeps_pure _

theorem keeps_k0_part89 (H : Held 𝒱 c I arg2 arg3 arg4 arg5 arg6 arg7 arg8 arg9 arg10 arg11 arg12 arg13 arg14 arg15 arg16 arg17 arg18 arg19 arg20 arg21 arg22) (v652 : IVec S1x256 16) (v660 : IVec S16x256 16) (v661 : IVec S16x256 16) (v662 : IVec S16x256 16) (v663 : IVec S16x256 16) (v664 : IVec S16x256 16) (v665 : IVec S16x256 16) (v666 : IVec S16x256 16) (v667 : IVec S16x256 16) (v668 : IVec S16x256 16) (v669 : IVec S16x256 16) (v670 : IVec S16x256 16) (v671 : IVec S16x256 16) (v672 : IVec S16x256 16) (v673 : IVec S16x256 16) (v674 : IVec S16x256 16) (v675 : IVec S16x256 16) (v683 : IVec S16x256 16) (v684 : IVec S16x256 16) (v685 : IVec S16x256 16) (v686 : IVec S16x256 16) (v687 : IVec S16x256 16) (v688 : IVec S16x256 16) (v689 : IVec S16x256 16) (v690 : IVec S16x256 16) (v691 : IVec S16x256 16) (v692 : IVec S16x256 16) (v693 : IVec S16x256 16) (v694 : IVec S16x256 16) (v695 : IVec S16x256 16) (v696 : IVec S16x256 16) (v697 : IVec S16x256 16) (v698 : IVec S16x256 16) (v706 : IVec S16x256 16) (v707 : IVec S16x256 16) (v708 : IVec S16x256 16) (v709 : IVec S16x256 16) (v710 : IVec S16x256 16) (v711 : IVec S16x256 16) (v712 : IVec S16x256 16) (v713 : IVec S16x256 16) (v714 : IVec S16x256 16) (v715 : IVec S16x256 16) (v716 : IVec S16x256 16) (v717 : IVec S16x256 16) (v718 : IVec S16x256 16) (v719 : IVec S16x256 16) (v720 : IVec S16x256 16) (v721 : IVec S16x256 16) (v729 : IVec S16x256 16) (v730 : IVec S16x256 16) (v731 : IVec S16x256 16) (v732 : IVec S16x256 16) (v733 : IVec S16x256 16) (v734 : IVec S16x256 16) (v735 : IVec S16x256 16) (v736 : IVec S16x256 16) (v737 : IVec S16x256 16) (v738 : IVec S16x256 16) (v739 : IVec S16x256 16) (v740 : IVec S16x256 16) (v741 : IVec S16x256 16) (v742 : IVec S16x256 16) (v743 : IVec S16x256 16) (v744 : IVec S16x256 16) :
    Keeps defs₀ 𝒱 c I (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v652 v660 v661 v662 v663 v664 v665 v666 v667 v668 v669 v670 v671 v672 v673 v674 v675 v683 v684 v685 v686 v687 v688 v689 v690 v691 v692 v693 v694 v695 v696 v697 v698 v706 v707 v708 v709 v710 v711 v712 v713 v714 v715 v716 v717 v718 v719 v720 v721 v729 v730 v731 v732 v733 v734 v735 v736 v737 v738 v739 v740 v741 v742 v743 v744) := by
  delta k0_part89
  repeat' first | extract_lets | with_reducible refine keeps_bind ?_ ?_ | with_reducible exact keeps_load H.l17 | intro _ | exact keeps_pure _

theorem keeps_k0_part90 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : ¬(k0_cond10 i = 1#1)) :
    Keeps defs₀ 𝒱 c I (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10) := by
  delta k0_part90
  repeat' first | extract_lets | with_reducible refine keeps_bind ?_ ?_ | with_reducible exact keeps_k0_part86 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part91 (H : Held 𝒱 c I arg2 arg3 arg4 arg5 arg6 arg7 arg8 arg9 arg10 arg11 arg12 arg13 arg14 arg15 arg16 arg17 arg18 arg19 arg20 arg21 arg22) (v387 : IVec S1x256 16) (v417 : IVec S256x256 16) :
    Keeps defs₀ 𝒱 c I (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v387 v417) := by
  delta k0_part91
  repeat' first | extract_lets | with_reducible refine keeps_bind ?_ ?_ | with_reducible exact keeps_load H.l16 | intro _ | exact keeps_pure _

theorem keeps_k0_part92 (H : Held 𝒱 c I arg2 arg3 arg4 arg5 arg6 arg7 arg8 arg9 arg10 arg11 arg12 arg13 arg14 arg15 arg16 arg17 arg18 arg19 arg20 arg21 arg22) (v387 : IVec S1x256 16) (v395 : IVec S16x256 16) (v396 : IVec S16x256 16) (v397 : IVec S16x256 16) (v398 : IVec S16x256 16) (v399 : IVec S16x256 16) (v400 : IVec S16x256 16) (v401 : IVec S16x256 16) (v402 : IVec S16x256 16) (v403 : IVec S16x256 16) (v404 : IVec S16x256 16) (v405 : IVec S16x256 16) (v406 : IVec S16x256 16) (v407 : IVec S16x256 16) (v408 : IVec S16x256 16) (v409 : IVec S16x256 16) (v410 : IVec S16x256 16) (v418 : IVec S16x256 16) (v419 : IVec S16x256 16) (v420 : IVec S16x256 16) (v421 : IVec S16x256 16) (v422 : IVec S16x256 16) (v423 : IVec S16x256 16) (v424 : IVec S16x256 16) (v425 : IVec S16x256 16) (v426 : IVec S16x256 16) (v427 : IVec S16x256 16) (v428 : IVec S16x256 16) (v429 : IVec S16x256 16) (v430 : IVec S16x256 16) (v431 : IVec S16x256 16) (v432 : IVec S16x256 16) (v433 : IVec S16x256 16) (v441 : IVec S16x256 16) (v442 : IVec S16x256 16) (v443 : IVec S16x256 16) (v444 : IVec S16x256 16) (v445 : IVec S16x256 16) (v446 : IVec S16x256 16) (v447 : IVec S16x256 16) (v448 : IVec S16x256 16) (v449 : IVec S16x256 16) (v450 : IVec S16x256 16) (v451 : IVec S16x256 16) (v452 : IVec S16x256 16) (v453 : IVec S16x256 16) (v454 : IVec S16x256 16) (v455 : IVec S16x256 16) (v456 : IVec S16x256 16) (v463 : IVec S256x256 16) (v464 : IVec S16x256 16) (v465 : IVec S16x256 16) (v466 : IVec S16x256 16) (v467 : IVec S16x256 16) (v468 : IVec S16x256 16) (v469 : IVec S16x256 16) (v470 : IVec S16x256 16) (v471 : IVec S16x256 16) (v472 : IVec S16x256 16) (v473 : IVec S16x256 16) (v474 : IVec S16x256 16) (v475 : IVec S16x256 16) (v476 : IVec S16x256 16) (v477 : IVec S16x256 16) :
    Keeps defs₀ 𝒱 c I (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v387 v395 v396 v397 v398 v399 v400 v401 v402 v403 v404 v405 v406 v407 v408 v409 v410 v418 v419 v420 v421 v422 v423 v424 v425 v426 v427 v428 v429 v430 v431 v432 v433 v441 v442 v443 v444 v445 v446 v447 v448 v449 v450 v451 v452 v453 v454 v455 v456 v463 v464 v465 v466 v467 v468 v469 v470 v471 v472 v473 v474 v475 v476 v477) := by
  delta k0_part92
  repeat' first | extract_lets | with_reducible refine keeps_bind ?_ ?_ | with_reducible exact keeps_load H.l16 | intro _ | exact keeps_pure _

theorem keeps_k0_part93 (H : Held 𝒱 c I arg2 arg3 arg4 arg5 arg6 arg7 arg8 arg9 arg10 arg11 arg12 arg13 arg14 arg15 arg16 arg17 arg18 arg19 arg20 arg21 arg22) (v387 : IVec S1x256 16) (v478 : IVec S16x256 16) (v479 : IVec S16x256 16) (v487 : IVec S16x256 16) (v488 : IVec S16x256 16) (v489 : IVec S16x256 16) (v490 : IVec S16x256 16) (v491 : IVec S16x256 16) (v492 : IVec S16x256 16) (v493 : IVec S16x256 16) (v494 : IVec S16x256 16) (v495 : IVec S16x256 16) (v496 : IVec S16x256 16) (v497 : IVec S16x256 16) (v498 : IVec S16x256 16) (v499 : IVec S16x256 16) (v500 : IVec S16x256 16) (v501 : IVec S16x256 16) (v502 : IVec S16x256 16) (v503 : IVec S16x256 16) (v504 : IVec S16x256 16) (v505 : IVec S16x256 16) (v506 : IVec S16x256 16) (v507 : IVec S16x256 16) (v508 : IVec S16x256 16) (v509 : IVec S16x256 16) (v510 : IVec S16x256 16) (v511 : IVec S16x256 16) (v512 : IVec S16x256 16) (v513 : IVec S16x256 16) (v514 : IVec S16x256 16) (v515 : IVec S16x256 16) (v516 : IVec S16x256 16) (v517 : IVec S16x256 16) (v518 : IVec S16x256 16) (v519 : IVec S16x256 16) (v520 : IVec S16x256 16) (v521 : IVec S16x256 16) (v522 : IVec S16x256 16) (v523 : IVec S16x256 16) (v524 : IVec S16x256 16) (v525 : IVec S16x256 16) (v526 : IVec S16x256 16) (v527 : IVec S16x256 16) (v528 : IVec S16x256 16) (v529 : IVec S16x256 16) (v530 : IVec S16x256 16) (v531 : IVec S16x256 16) (v532 : IVec S16x256 16) (v533 : IVec S16x256 16) :
    Keeps defs₀ 𝒱 c I (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v387 v478 v479 v487 v488 v489 v490 v491 v492 v493 v494 v495 v496 v497 v498 v499 v500 v501 v502 v503 v504 v505 v506 v507 v508 v509 v510 v511 v512 v513 v514 v515 v516 v517 v518 v519 v520 v521 v522 v523 v524 v525 v526 v527 v528 v529 v530 v531 v532 v533) := by
  delta k0_part93
  repeat' first | extract_lets | with_reducible refine keeps_bind ?_ ?_ | with_reducible exact keeps_load H.l16 | intro _ | exact keeps_pure _

theorem keeps_k0_part94 (H : Held 𝒱 c I arg2 arg3 arg4 arg5 arg6 arg7 arg8 arg9 arg10 arg11 arg12 arg13 arg14 arg15 arg16 arg17 arg18 arg19 arg20 arg21 arg22) (v387 : IVec S1x256 16) (v588 : IVec S256x256 1) :
    Keeps defs₀ 𝒱 c I (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v387 v588) := by
  delta k0_part94
  repeat' first | extract_lets | with_reducible refine keeps_bind ?_ ?_ | with_reducible exact keeps_load H.l16 | with_reducible exact keeps_load H.l17 | with_reducible exact keeps_store H.g17 | intro _ | exact keeps_pure _

end Cert.Dsa.Keep

end
-- ==== Proof.Body2.lean ====
/- Every part of the body keeps the assertion: its loads and stores go to the buffers held, whatever the values are. -/
module

public import proofs.«01_k».proof.Proof.Body1

@[expose] public section

set_option maxRecDepth 16384
set_option maxHeartbeats 4000000

noncomputable section

namespace Cert.Dsa.Keep

open Idealize.ShloMosaic Idealize.ShloMosaic.TcCoe Idealize.SL Idealize.SL.RA Idealize.SL.BI Idealize.SL.Sem
open Cert.Keep Cert.Dsa.Facts₀ Cert.Dsa.Facts

variable {F : FTy → Type} [BitOps F] [Facts]
variable {𝒱 : Variants} {c : Dev nD} {I : sProp (MT nD τ sig Unit (Elt F) ℕ (UR sig nD τ) ℕ)}
variable {i : grid0.Coords}
variable {arg2 : Memref sig .tc .vmem S1x256x512 .bf16}
variable {harg2 : arg2.IsWhole}
variable {arg3 : Memref sig .tc .vmem S1x256x512 .bf16}
variable {harg3 : arg3.IsWhole}
variable {arg4 : Memref sig .tc .vmem S1x256x128 .f32}
variable {harg4 : arg4.IsWhole}
variable {arg5 : Memref sig .tc .vmem S1x2048x128 .bf16}
variable {harg5 : arg5.IsWhole}
variable {arg6 : Memref sig .tc .vmem S1x2048x128 .bf16}
variable {harg6 : arg6.IsWhole}
variable {arg7 : Memref sig .tc .vmem S1x2048x128 .bf16}
variable {harg7 : arg7.IsWhole}
variable {arg8 : Memref sig .tc .vmem S8x2x256x256 .f32}
variable {harg8 : arg8.IsWhole}
variable {arg9 : Memref sig .tc .smem S8 .f32}
variable {harg9 : arg9.IsWhole}
variable {arg10 : Memref sig .tc .vmem S1x256x512 .f32}
variable {harg10 : arg10.IsWhole}
variable {arg11 : Memref sig .tc .vmem S2048x128 .bf16}
variable {harg11 : arg11.IsWhole}
variable {arg12 : Memref sig .tc .vmem S8x128x256 .bf16}
variable {harg12 : arg12.IsWhole}
variable {arg13 : Memref sig .tc .vmem S8x128x256 .bf16}
variable {harg13 : arg13.IsWhole}
variable {arg14 : Memref sig .tc .vmem S2048x128 .bf16}
variable {harg14 : arg14.IsWhole}
variable {arg15 : Memref sig .tc .vmem S8x256x256 .i32}
variable {harg15 : arg15.IsWhole}
variable {arg16 : Memref sig .tc .vmem S8x256x256 .i16}
variable {harg16 : arg16.IsWhole}
variable {arg17 : Memref sig .tc .vmem S8x256x256 .i16}
variable {harg17 : arg17.IsWhole}
variable {arg18 : Memref sig .tc .vmem S8x256x256 .f32}
variable {harg18 : arg18.IsWhole}
variable {arg19 : Memref sig .tc .vmem S8x8x256x256 .f32}
variable {harg19 : arg19.IsWhole}
variable {arg20 : Memref sig .tc .vmem S8x1x256 .f32}
variable {harg20 : arg20.IsWhole}
variable {arg21 : Memref sig .tc .vmem S8x1x256 .f32}
variable {harg21 : arg21.IsWhole}
variable {arg22 : Memref sig .tc .vmem S4x128x256 .f32}
variable {harg22 : arg22.IsWhole}

theorem keeps_k0_part95 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : k0_cond9 i = 1#1) (k0_h10 : ¬(k0_cond10 i = 1#1)) :
    Keeps defs₀ 𝒱 c I (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9 k0_h10) := by
  delta k0_part95
  repeat' first | extract_lets | with_reducible refine keeps_bind ?_ ?_ | with_reducible exact keeps_k0_part87 H .. | with_reducible exact keeps_k0_part88 H .. | with_reducible exact keeps_k0_part89 H .. | with_reducible exact keeps_k0_part90 H .. | with_reducible exact keeps_k0_part91 H .. | with_reducible exact keeps_k0_part92 H .. | with_reducible exact keeps_k0_part93 H .. | with_reducible exact keeps_k0_part94 H .. | with_reducible exact keeps_load H.l16 | with_reducible exact keeps_load H.l17 | with_reducible exact keeps_store H.g17 | with_reducible refine keeps_for _ _ _ ?_ | (with_reducible refine keeps_each ?_; intro _; (repeat (with_reducible refine keeps_each ?_; intro _)); intro _; dsimp only) | intro _ | exact keeps_pure _

theorem keeps_k0_part96 (H : Held 𝒱 c I arg2 arg3 arg4 arg5 arg6 arg7 arg8 arg9 arg10 arg11 arg12 arg13 arg14 arg15 arg16 arg17 arg18 arg19 arg20 arg21 arg22) (c0_i32_197 : BitVec 32) (c1_i32_198 : BitVec 32) (k0_t11 : Fin k0_t11_loop.trips) (arg24 : IVec S1x256 32) :
    Keeps defs₀ 𝒱 c I (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_197 c1_i32_198 k0_t11 arg24) := by
  delta k0_part96
  repeat' first | extract_lets | with_reducible refine keeps_bind ?_ ?_ | with_reducible exact keeps_load H.l16 | intro _ | exact keeps_pure _

theorem keeps_k0_part97 (H : Held 𝒱 c I arg2 arg3 arg4 arg5 arg6 arg7 arg8 arg9 arg10 arg11 arg12 arg13 arg14 arg15 arg16 arg17 arg18 arg19 arg20 arg21 arg22) (v599 : IVec S1x256 16) (v629 : IVec S256x256 16) :
    Keeps defs₀ 𝒱 c I (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v599 v629) := by
  delta k0_part97
  repeat' first | extract_lets | with_reducible refine keeps_bind ?_ ?_ | with_reducible exact keeps_load H.l16 | intro _ | exact keeps_pure _

theorem keeps_k0_part98 (H : Held 𝒱 c I arg2 arg3 arg4 arg5 arg6 arg7 arg8 arg9 arg10 arg11 arg12 arg13 arg14 arg15 arg16 arg17 arg18 arg19 arg20 arg21 arg22) (v607 : IVec S16x256 16) (v608 : IVec S16x256 16) (v609 : IVec S16x256 16) (v610 : IVec S16x256 16) (v611 : IVec S16x256 16) (v612 : IVec S16x256 16) (v613 : IVec S16x256 16) (v614 : IVec S16x256 16) (v615 : IVec S16x256 16) (v616 : IVec S16x256 16) (v617 : IVec S16x256 16) (v618 : IVec S16x256 16) (v619 : IVec S16x256 16) (v620 : IVec S16x256 16) (v621 : IVec S16x256 16) (v622 : IVec S16x256 16) (v630 : IVec S16x256 16) (v631 : IVec S16x256 16) (v632 : IVec S16x256 16) (v633 : IVec S16x256 16) (v634 : IVec S16x256 16) (v635 : IVec S16x256 16) (v636 : IVec S16x256 16) (v637 : IVec S16x256 16) (v638 : IVec S16x256 16) (v639 : IVec S16x256 16) (v640 : IVec S16x256 16) (v641 : IVec S16x256 16) (v642 : IVec S16x256 16) (v643 : IVec S16x256 16) (v644 : IVec S16x256 16) (v645 : IVec S16x256 16) (v653 : IVec S16x256 16) (v654 : IVec S16x256 16) (v655 : IVec S16x256 16) (v656 : IVec S16x256 16) (v657 : IVec S16x256 16) (v658 : IVec S16x256 16) (v659 : IVec S16x256 16) (v660 : IVec S16x256 16) (v661 : IVec S16x256 16) (v662 : IVec S16x256 16) (v663 : IVec S16x256 16) (v664 : IVec S16x256 16) (v665 : IVec S16x256 16) (v666 : IVec S16x256 16) (v667 : IVec S16x256 16) (v668 : IVec S16x256 16) (v676 : IVec S16x256 16) (v677 : IVec S16x256 16) (v678 : IVec S16x256 16) (v679 : IVec S16x256 16) (v680 : IVec S16x256 16) (v681 : IVec S16x256 16) (v682 : IVec S16x256 16) (v683 : IVec S16x256 16) (v684 : IVec S16x256 16) (v685 : IVec S16x256 16) (v686 : IVec S16x256 16) (v687 : IVec S16x256 16) (v688 : IVec S16x256 16) (v689 : IVec S16x256 16) (v690 : IVec S16x256 16) (v691 : IVec S16x256 16) :
    Keeps defs₀ 𝒱 c I (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v607 v608 v609 v610 v611 v612 v613 v614 v615 v616 v617 v618 v619 v620 v621 v622 v630 v631 v632 v633 v634 v635 v636 v637 v638 v639 v640 v641 v642 v643 v644 v645 v653 v654 v655 v656 v657 v658 v659 v660 v661 v662 v663 v664 v665 v666 v667 v668 v676 v677 v678 v679 v680 v681 v682 v683 v684 v685 v686 v687 v688 v689 v690 v691) := by
  delta k0_part98
  repeat' first | extract_lets | with_reducible refine keeps_bind ?_ ?_ | intro _ | exact keeps_pure _

theorem keeps_k0_part99 (H : Held 𝒱 c I arg2 arg3 arg4 arg5 arg6 arg7 arg8 arg9 arg10 arg11 arg12 arg13 arg14 arg15 arg16 arg17 arg18 arg19 arg20 arg21 arg22) (c0_i32_259 : BitVec 32) (c1_i32_261 : BitVec 32) (k0_t12 : Fin k0_t12_loop.trips) (arg24 : IVec S1x256 32) :
    Keeps defs₀ 𝒱 c I (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_259 c1_i32_261 k0_t12 arg24) := by
  delta k0_part99
  repeat' first | extract_lets | with_reducible refine keeps_bind ?_ ?_ | with_reducible exact keeps_load H.l17 | intro _ | exact keeps_pure _

theorem keeps_k0_part100 (H : Held 𝒱 c I arg2 arg3 arg4 arg5 arg6 arg7 arg8 arg9 arg10 arg11 arg12 arg13 arg14 arg15 arg16 arg17 arg18 arg19 arg20 arg21 arg22) (v599 : IVec S1x256 16) (v629 : IVec S256x256 16) :
    Keeps defs₀ 𝒱 c I (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v599 v629) := by
  delta k0_part100
  repeat' first | extract_lets | with_reducible refine keeps_bind ?_ ?_ | with_reducible exact keeps_load H.l17 | intro _ | exact keeps_pure _

theorem keeps_k0_part101 (H : Held 𝒱 c I arg2 arg3 arg4 arg5 arg6 arg7 arg8 arg9 arg10 arg11 arg12 arg13 arg14 arg15 arg16 arg17 arg18 arg19 arg20 arg21 arg22) (v607 : IVec S16x256 16) (v608 : IVec S16x256 16) (v609 : IVec S16x256 16) (v610 : IVec S16x256 16) (v611 : IVec S16x256 16) (v612 : IVec S16x256 16) (v613 : IVec S16x256 16) (v614 : IVec S16x256 16) (v615 : IVec S16x256 16) (v616 : IVec S16x256 16) (v617 : IVec S16x256 16) (v618 : IVec S16x256 16) (v619 : IVec S16x256 16) (v620 : IVec S16x256 16) (v621 : IVec S16x256 16) (v622 : IVec S16x256 16) (v630 : IVec S16x256 16) (v631 : IVec S16x256 16) (v632 : IVec S16x256 16) (v633 : IVec S16x256 16) (v634 : IVec S16x256 16) (v635 : IVec S16x256 16) (v636 : IVec S16x256 16) (v637 : IVec S16x256 16) (v638 : IVec S16x256 16) (v639 : IVec S16x256 16) (v640 : IVec S16x256 16) (v641 : IVec S16x256 16) (v642 : IVec S16x256 16) (v643 : IVec S16x256 16) (v644 : IVec S16x256 16) (v645 : IVec S16x256 16) (v653 : IVec S16x256 16) (v654 : IVec S16x256 16) (v655 : IVec S16x256 16) (v656 : IVec S16x256 16) (v657 : IVec S16x256 16) (v658 : IVec S16x256 16) (v659 : IVec S16x256 16) (v660 : IVec S16x256 16) (v661 : IVec S16x256 16) (v662 : IVec S16x256 16) (v663 : IVec S16x256 16) (v664 : IVec S16x256 16) (v665 : IVec S16x256 16) (v666 : IVec S16x256 16) (v667 : IVec S16x256 16) (v668 : IVec S16x256 16) (v676 : IVec S16x256 16) (v677 : IVec S16x256 16) (v678 : IVec S16x256 16) (v679 : IVec S16x256 16) (v680 : IVec S16x256 16) (v681 : IVec S16x256 16) (v682 : IVec S16x256 16) (v683 : IVec S16x256 16) (v684 : IVec S16x256 16) (v685 : IVec S16x256 16) (v686 : IVec S16x256 16) (v687 : IVec S16x256 16) (v688 : IVec S16x256 16) (v689 : IVec S16x256 16) (v690 : IVec S16x256 16) (v691 : IVec S16x256 16) :
    Keeps defs₀ 𝒱 c I (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v607 v608 v609 v610 v611 v612 v613 v614 v615 v616 v617 v618 v619 v620 v621 v622 v630 v631 v632 v633 v634 v635 v636 v637 v638 v639 v640 v641 v642 v643 v644 v645 v653 v654 v655 v656 v657 v658 v659 v660 v661 v662 v663 v664 v665 v666 v667 v668 v676 v677 v678 v679 v680 v681 v682 v683 v684 v685 v686 v687 v688 v689 v690 v691) := by
  delta k0_part101
  repeat' first | extract_lets | with_reducible refine keeps_bind ?_ ?_ | intro _ | exact keeps_pure _

theorem keeps_k0_part102 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : k0_cond8 i = 1#1) (k0_h9 : ¬(k0_cond9 i = 1#1)) :
    Keeps defs₀ 𝒱 c I (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8 k0_h9) := by
  delta k0_part102
  repeat' first | extract_lets | with_reducible refine keeps_bind ?_ ?_ | with_reducible exact keeps_k0_part96 H .. | with_reducible exact keeps_k0_part97 H .. | with_reducible exact keeps_k0_part98 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part103 (H : Held 𝒱 c I arg2 arg3 arg4 arg5 arg6 arg7 arg8 arg9 arg10 arg11 arg12 arg13 arg14 arg15 arg16 arg17 arg18 arg19 arg20 arg21 arg22) (v384 : IVec S1x256 16) (v414 : IVec S256x256 16) :
    Keeps defs₀ 𝒱 c I (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v384 v414) := by
  delta k0_part103
  repeat' first | extract_lets | with_reducible refine keeps_bind ?_ ?_ | with_reducible exact keeps_load H.l16 | intro _ | exact keeps_pure _

theorem keeps_k0_part104 (H : Held 𝒱 c I arg2 arg3 arg4 arg5 arg6 arg7 arg8 arg9 arg10 arg11 arg12 arg13 arg14 arg15 arg16 arg17 arg18 arg19 arg20 arg21 arg22) (v392 : IVec S16x256 16) (v393 : IVec S16x256 16) (v394 : IVec S16x256 16) (v395 : IVec S16x256 16) (v396 : IVec S16x256 16) (v397 : IVec S16x256 16) (v398 : IVec S16x256 16) (v399 : IVec S16x256 16) (v400 : IVec S16x256 16) (v401 : IVec S16x256 16) (v402 : IVec S16x256 16) (v403 : IVec S16x256 16) (v404 : IVec S16x256 16) (v405 : IVec S16x256 16) (v406 : IVec S16x256 16) (v407 : IVec S16x256 16) (v415 : IVec S16x256 16) (v416 : IVec S16x256 16) (v417 : IVec S16x256 16) (v418 : IVec S16x256 16) (v419 : IVec S16x256 16) (v420 : IVec S16x256 16) (v421 : IVec S16x256 16) (v422 : IVec S16x256 16) (v423 : IVec S16x256 16) (v424 : IVec S16x256 16) (v425 : IVec S16x256 16) (v426 : IVec S16x256 16) (v427 : IVec S16x256 16) (v428 : IVec S16x256 16) (v429 : IVec S16x256 16) (v430 : IVec S16x256 16) (v438 : IVec S16x256 16) (v439 : IVec S16x256 16) (v440 : IVec S16x256 16) (v441 : IVec S16x256 16) (v442 : IVec S16x256 16) (v443 : IVec S16x256 16) (v444 : IVec S16x256 16) (v445 : IVec S16x256 16) (v446 : IVec S16x256 16) (v447 : IVec S16x256 16) (v448 : IVec S16x256 16) (v449 : IVec S16x256 16) (v450 : IVec S16x256 16) (v451 : IVec S16x256 16) (v452 : IVec S16x256 16) (v453 : IVec S16x256 16) (v460 : IVec S256x256 16) (v461 : IVec S16x256 16) (v462 : IVec S16x256 16) (v463 : IVec S16x256 16) (v464 : IVec S16x256 16) (v465 : IVec S16x256 16) (v466 : IVec S16x256 16) (v467 : IVec S16x256 16) (v468 : IVec S16x256 16) (v469 : IVec S16x256 16) (v470 : IVec S16x256 16) (v471 : IVec S16x256 16) (v472 : IVec S16x256 16) (v473 : IVec S16x256 16) (v474 : IVec S16x256 16) (v475 : IVec S16x256 16) :
    Keeps defs₀ 𝒱 c I (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v392 v393 v394 v395 v396 v397 v398 v399 v400 v401 v402 v403 v404 v405 v406 v407 v415 v416 v417 v418 v419 v420 v421 v422 v423 v424 v425 v426 v427 v428 v429 v430 v438 v439 v440 v441 v442 v443 v444 v445 v446 v447 v448 v449 v450 v451 v452 v453 v460 v461 v462 v463 v464 v465 v466 v467 v468 v469 v470 v471 v472 v473 v474 v475) := by
  delta k0_part104
  repeat' first | extract_lets | with_reducible refine keeps_bind ?_ ?_ | intro _ | exact keeps_pure _

theorem keeps_k0_part105 (H : Held 𝒱 c I arg2 arg3 arg4 arg5 arg6 arg7 arg8 arg9 arg10 arg11 arg12 arg13 arg14 arg15 arg16 arg17 arg18 arg19 arg20 arg21 arg22) (v384 : IVec S1x256 16) (v531 : IVec S16x256 16) (v532 : IVec S16x256 16) (v533 : IVec S16x256 16) (v534 : IVec S16x256 16) (v535 : IVec S16x256 16) :
    Keeps defs₀ 𝒱 c I (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v384 v531 v532 v533 v534 v535) := by
  delta k0_part105
  repeat' first | extract_lets | with_reducible refine keeps_bind ?_ ?_ | with_reducible exact keeps_load H.l16 | with_reducible exact keeps_load H.l17 | with_reducible exact keeps_store H.g17 | intro _ | exact keeps_pure _

theorem keeps_k0_part106 (H : Held 𝒱 c I arg2 arg3 arg4 arg5 arg6 arg7 arg8 arg9 arg10 arg11 arg12 arg13 arg14 arg15 arg16 arg17 arg18 arg19 arg20 arg21 arg22) (c0_i32_195 : BitVec 32) (c1_i32_196 : BitVec 32) (k0_t13 : Fin k0_t13_loop.trips) (arg24 : IVec S1x256 32) :
    Keeps defs₀ 𝒱 c I (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_195 c1_i32_196 k0_t13 arg24) := by
  delta k0_part106
  repeat' first | extract_lets | with_reducible refine keeps_bind ?_ ?_ | with_reducible exact keeps_load H.l16 | intro _ | exact keeps_pure _

theorem keeps_k0_part107 (H : Held 𝒱 c I arg2 arg3 arg4 arg5 arg6 arg7 arg8 arg9 arg10 arg11 arg12 arg13 arg14 arg15 arg16 arg17 arg18 arg19 arg20 arg21 arg22) (v546 : IVec S1x256 16) (v554 : IVec S16x256 16) (v555 : IVec S16x256 16) (v556 : IVec S16x256 16) (v557 : IVec S16x256 16) (v558 : IVec S16x256 16) (v559 : IVec S16x256 16) (v560 : IVec S16x256 16) (v561 : IVec S16x256 16) (v562 : IVec S16x256 16) (v563 : IVec S16x256 16) (v564 : IVec S16x256 16) (v565 : IVec S16x256 16) (v566 : IVec S16x256 16) (v567 : IVec S16x256 16) (v568 : IVec S16x256 16) (v569 : IVec S16x256 16) (v576 : IVec S256x256 16) (v577 : IVec S16x256 16) (v578 : IVec S16x256 16) (v579 : IVec S16x256 16) (v580 : IVec S16x256 16) (v581 : IVec S16x256 16) (v582 : IVec S16x256 16) (v583 : IVec S16x256 16) (v584 : IVec S16x256 16) (v585 : IVec S16x256 16) (v586 : IVec S16x256 16) (v587 : IVec S16x256 16) (v588 : IVec S16x256 16) :
    Keeps defs₀ 𝒱 c I (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v546 v554 v555 v556 v557 v558 v559 v560 v561 v562 v563 v564 v565 v566 v567 v568 v569 v576 v577 v578 v579 v580 v581 v582 v583 v584 v585 v586 v587 v588) := by
  delta k0_part107
  repeat' first | extract_lets | with_reducible refine keeps_bind ?_ ?_ | with_reducible exact keeps_load H.l16 | intro _ | exact keeps_pure _

theorem keeps_k0_part108 (H : Held 𝒱 c I arg2 arg3 arg4 arg5 arg6 arg7 arg8 arg9 arg10 arg11 arg12 arg13 arg14 arg15 arg16 arg17 arg18 arg19 arg20 arg21 arg22) (c0_i32_242 : BitVec 32) (c1_i32_244 : BitVec 32) (k0_t14 : Fin k0_t14_loop.trips) (arg24 : IVec S1x256 32) :
    Keeps defs₀ 𝒱 c I (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_242 c1_i32_244 k0_t14 arg24) := by
  delta k0_part108
  repeat' first | extract_lets | with_reducible refine keeps_bind ?_ ?_ | with_reducible exact keeps_load H.l17 | intro _ | exact keeps_pure _

theorem keeps_k0_part109 (H : Held 𝒱 c I arg2 arg3 arg4 arg5 arg6 arg7 arg8 arg9 arg10 arg11 arg12 arg13 arg14 arg15 arg16 arg17 arg18 arg19 arg20 arg21 arg22) (v546 : IVec S1x256 16) (v554 : IVec S16x256 16) (v555 : IVec S16x256 16) (v556 : IVec S16x256 16) (v557 : IVec S16x256 16) (v558 : IVec S16x256 16) (v559 : IVec S16x256 16) (v560 : IVec S16x256 16) (v561 : IVec S16x256 16) (v562 : IVec S16x256 16) (v563 : IVec S16x256 16) (v564 : IVec S16x256 16) (v565 : IVec S16x256 16) (v566 : IVec S16x256 16) (v567 : IVec S16x256 16) (v568 : IVec S16x256 16) (v569 : IVec S16x256 16) (v576 : IVec S256x256 16) (v577 : IVec S16x256 16) (v578 : IVec S16x256 16) (v579 : IVec S16x256 16) (v580 : IVec S16x256 16) (v581 : IVec S16x256 16) (v582 : IVec S16x256 16) (v583 : IVec S16x256 16) (v584 : IVec S16x256 16) (v585 : IVec S16x256 16) (v586 : IVec S16x256 16) (v587 : IVec S16x256 16) (v588 : IVec S16x256 16) :
    Keeps defs₀ 𝒱 c I (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v546 v554 v555 v556 v557 v558 v559 v560 v561 v562 v563 v564 v565 v566 v567 v568 v569 v576 v577 v578 v579 v580 v581 v582 v583 v584 v585 v586 v587 v588) := by
  delta k0_part109
  repeat' first | extract_lets | with_reducible refine keeps_bind ?_ ?_ | with_reducible exact keeps_load H.l17 | intro _ | exact keeps_pure _

theorem keeps_k0_part110 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : k0_cond7 i = 1#1) (k0_h8 : ¬(k0_cond8 i = 1#1)) :
    Keeps defs₀ 𝒱 c I (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7 k0_h8) := by
  delta k0_part110
  repeat' first | extract_lets | with_reducible refine keeps_bind ?_ ?_ | with_reducible exact keeps_k0_part106 H .. | with_reducible exact keeps_k0_part107 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part111 (H : Held 𝒱 c I arg2 arg3 arg4 arg5 arg6 arg7 arg8 arg9 arg10 arg11 arg12 arg13 arg14 arg15 arg16 arg17 arg18 arg19 arg20 arg21 arg22) (v381 : IVec S1x256 16) (v389 : IVec S16x256 16) (v390 : IVec S16x256 16) (v391 : IVec S16x256 16) (v392 : IVec S16x256 16) (v393 : IVec S16x256 16) (v394 : IVec S16x256 16) (v395 : IVec S16x256 16) (v396 : IVec S16x256 16) (v397 : IVec S16x256 16) (v398 : IVec S16x256 16) (v399 : IVec S16x256 16) (v400 : IVec S16x256 16) (v401 : IVec S16x256 16) (v402 : IVec S16x256 16) (v403 : IVec S16x256 16) (v404 : IVec S16x256 16) (v411 : IVec S256x256 16) (v412 : IVec S16x256 16) (v413 : IVec S16x256 16) (v414 : IVec S16x256 16) (v415 : IVec S16x256 16) (v416 : IVec S16x256 16) (v417 : IVec S16x256 16) (v418 : IVec S16x256 16) (v419 : IVec S16x256 16) (v420 : IVec S16x256 16) (v421 : IVec S16x256 16) (v422 : IVec S16x256 16) :
    Keeps defs₀ 𝒱 c I (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v381 v389 v390 v391 v392 v393 v394 v395 v396 v397 v398 v399 v400 v401 v402 v403 v404 v411 v412 v413 v414 v415 v416 v417 v418 v419 v420 v421 v422) := by
  delta k0_part111
  repeat' first | extract_lets | with_reducible refine keeps_bind ?_ ?_ | with_reducible exact keeps_load H.l16 | intro _ | exact keeps_pure _

theorem keeps_k0_part112 (H : Held 𝒱 c I arg2 arg3 arg4 arg5 arg6 arg7 arg8 arg9 arg10 arg11 arg12 arg13 arg14 arg15 arg16 arg17 arg18 arg19 arg20 arg21 arg22) (v381 : IVec S1x256 16) (v457 : IVec S16x256 16) (v458 : IVec S16x256 16) (v459 : IVec S16x256 16) (v460 : IVec S16x256 16) (v461 : IVec S16x256 16) (v462 : IVec S16x256 16) (v463 : IVec S16x256 16) (v464 : IVec S16x256 16) (v465 : IVec S16x256 16) (v466 : IVec S16x256 16) (v467 : IVec S16x256 16) (v468 : IVec S16x256 16) (v469 : IVec S16x256 16) (v470 : IVec S16x256 16) (v471 : IVec S16x256 16) (v472 : IVec S16x256 16) (v473 : IVec S16x256 16) (v474 : IVec S16x256 16) (v475 : IVec S16x256 16) (v476 : IVec S16x256 16) (v477 : IVec S16x256 16) :
    Keeps defs₀ 𝒱 c I (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v381 v457 v458 v459 v460 v461 v462 v463 v464 v465 v466 v467 v468 v469 v470 v471 v472 v473 v474 v475 v476 v477) := by
  delta k0_part112
  repeat' first | extract_lets | with_reducible refine keeps_bind ?_ ?_ | with_reducible exact keeps_load H.l16 | with_reducible exact keeps_load H.l17 | with_reducible exact keeps_store H.g17 | intro _ | exact keeps_pure _

theorem keeps_k0_part113 (H : Held 𝒱 c I arg2 arg3 arg4 arg5 arg6 arg7 arg8 arg9 arg10 arg11 arg12 arg13 arg14 arg15 arg16 arg17 arg18 arg19 arg20 arg21 arg22) (c0_i32_193 : BitVec 32) (c1_i32_194 : BitVec 32) (k0_t15 : Fin k0_t15_loop.trips) (arg24 : IVec S1x256 32) :
    Keeps defs₀ 𝒱 c I (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_193 c1_i32_194 k0_t15 arg24) := by
  delta k0_part113
  repeat' first | extract_lets | with_reducible refine keeps_bind ?_ ?_ | with_reducible exact keeps_load H.l16 | intro _ | exact keeps_pure _

theorem keeps_k0_part114 (H : Held 𝒱 c I arg2 arg3 arg4 arg5 arg6 arg7 arg8 arg9 arg10 arg11 arg12 arg13 arg14 arg15 arg16 arg17 arg18 arg19 arg20 arg21 arg22) (c0_i32_225 : BitVec 32) (c1_i32_227 : BitVec 32) (k0_t16 : Fin k0_t16_loop.trips) (arg24 : IVec S1x256 32) :
    Keeps defs₀ 𝒱 c I (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_225 c1_i32_227 k0_t16 arg24) := by
  delta k0_part114
  repeat' first | extract_lets | with_reducible refine keeps_bind ?_ ?_ | with_reducible exact keeps_load H.l17 | intro _ | exact keeps_pure _

theorem keeps_k0_part115 (H : Held 𝒱 c I arg2 arg3 arg4 arg5 arg6 arg7 arg8 arg9 arg10 arg11 arg12 arg13 arg14 arg15 arg16 arg17 arg18 arg19 arg20 arg21 arg22) (k0_h6 : k0_cond6 i = 1#1) (k0_h7 : ¬(k0_cond7 i = 1#1)) :
    Keeps defs₀ 𝒱 c I (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6 k0_h7) := by
  delta k0_part115
  repeat' first | extract_lets | with_reducible refine keeps_bind ?_ ?_ | with_reducible exact keeps_k0_part113 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part116 (H : Held 𝒱 c I arg2 arg3 arg4 arg5 arg6 arg7 arg8 arg9 arg10 arg11 arg12 arg13 arg14 arg15 arg16 arg17 arg18 arg19 arg20 arg21 arg22) (v378 : IVec S1x256 16) (v386 : IVec S16x256 16) (v387 : IVec S16x256 16) (v388 : IVec S16x256 16) (v389 : IVec S16x256 16) (v390 : IVec S16x256 16) (v391 : IVec S16x256 16) (v392 : IVec S16x256 16) (v393 : IVec S16x256 16) (v394 : IVec S16x256 16) (v395 : IVec S16x256 16) (v396 : IVec S16x256 16) (v397 : IVec S16x256 16) (v398 : IVec S16x256 16) (v399 : IVec S16x256 16) (v400 : IVec S16x256 16) (v401 : IVec S16x256 16) (v408 : IVec S256x256 16) (v409 : IVec S16x256 16) (v410 : IVec S16x256 16) (v411 : IVec S16x256 16) (v412 : IVec S16x256 16) (v413 : IVec S16x256 16) (v414 : IVec S16x256 16) (v415 : IVec S16x256 16) (v416 : IVec S16x256 16) (v417 : IVec S16x256 16) (v418 : IVec S16x256 16) (v419 : IVec S16x256 16) :
    Keeps defs₀ 𝒱 c I (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v378 v386 v387 v388 v389 v390 v391 v392 v393 v394 v395 v396 v397 v398 v399 v400 v401 v408 v409 v410 v411 v412 v413 v414 v415 v416 v417 v418 v419) := by
  delta k0_part116
  repeat' first | extract_lets | with_reducible refine keeps_bind ?_ ?_ | with_reducible exact keeps_load H.l16 | with_reducible exact keeps_load H.l17 | intro _ | exact keeps_pure _

theorem keeps_k0_part117 (H : Held 𝒱 c I arg2 arg3 arg4 arg5 arg6 arg7 arg8 arg9 arg10 arg11 arg12 arg13 arg14 arg15 arg16 arg17 arg18 arg19 arg20 arg21 arg22) (c0_i32_191 : BitVec 32) (c1_i32_192 : BitVec 32) (k0_t17 : Fin k0_t17_loop.trips) (arg24 : IVec S1x256 32) :
    Keeps defs₀ 𝒱 c I (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_191 c1_i32_192 k0_t17 arg24) := by
  delta k0_part117
  repeat' first | extract_lets | with_reducible refine keeps_bind ?_ ?_ | with_reducible exact keeps_load H.l16 | intro _ | exact keeps_pure _

theorem keeps_k0_part118 (H : Held 𝒱 c I arg2 arg3 arg4 arg5 arg6 arg7 arg8 arg9 arg10 arg11 arg12 arg13 arg14 arg15 arg16 arg17 arg18 arg19 arg20 arg21 arg22) (v416 : FVec F S1x256 .f32) (c0_i32_208 : BitVec 32) (c1_i32_210 : BitVec 32) (k0_t18 : Fin k0_t18_loop.trips) (arg24 : IVec S1x256 32) :
    Keeps defs₀ 𝒱 c I (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v416 c0_i32_208 c1_i32_210 k0_t18 arg24) := by
  delta k0_part118
  repeat' first | extract_lets | with_reducible refine keeps_bind ?_ ?_ | with_reducible exact keeps_load H.l17 | intro _ | exact keeps_pure _

theorem keeps_k0_part119 (H : Held 𝒱 c I arg2 arg3 arg4 arg5 arg6 arg7 arg8 arg9 arg10 arg11 arg12 arg13 arg14 arg15 arg16 arg17 arg18 arg19 arg20 arg21 arg22) (k0_h6 : ¬(k0_cond6 i = 1#1)) :
    Keeps defs₀ 𝒱 c I (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h6) := by
  delta k0_part119
  repeat' first | extract_lets | with_reducible refine keeps_bind ?_ ?_ | with_reducible exact keeps_k0_part117 H .. | with_reducible exact keeps_load H.l16 | with_reducible refine keeps_for _ _ _ ?_ | (with_reducible refine keeps_each ?_; intro _; (repeat (with_reducible refine keeps_each ?_; intro _)); intro _; dsimp only) | intro _ | exact keeps_pure _

theorem keeps_k0_part120 (H : Held 𝒱 c I arg2 arg3 arg4 arg5 arg6 arg7 arg8 arg9 arg10 arg11 arg12 arg13 arg14 arg15 arg16 arg17 arg18 arg19 arg20 arg21 arg22) (v4 : BitVec 32) (v8 : IVec S256x256 32) (v141 : IVec S1x256 32) :
    Keeps defs₀ 𝒱 c I (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 v8 v141) := by
  delta k0_part120
  repeat' first | extract_lets | with_reducible refine keeps_bind ?_ ?_ | with_reducible exact keeps_load H.l15 | with_reducible refine keeps_for _ _ _ ?_ | intro _ | exact keeps_pure _

theorem keeps_k0_part121 (H : Held 𝒱 c I arg2 arg3 arg4 arg5 arg6 arg7 arg8 arg9 arg10 arg11 arg12 arg13 arg14 arg15 arg16 arg17 arg18 arg19 arg20 arg21 arg22) (v4 : BitVec 32) (v8 : IVec S256x256 32) (v141 : IVec S1x256 32) (v383 : FVec F S1x256 .f32) (v398 : IVec S1x256 32) (v400 : IVec S1x256 32) (v409 : FVec F S256 .f32) :
    Keeps defs₀ 𝒱 c I (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 v8 v141 v383 v398 v400 v409) := by
  delta k0_part121
  repeat' first | extract_lets | with_reducible refine keeps_bind ?_ ?_ | with_reducible exact keeps_load H.l15 | with_reducible refine keeps_for _ _ _ ?_ | intro _ | exact keeps_pure _

theorem keeps_k0_part122 (H : Held 𝒱 c I arg2 arg3 arg4 arg5 arg6 arg7 arg8 arg9 arg10 arg11 arg12 arg13 arg14 arg15 arg16 arg17 arg18 arg19 arg20 arg21 arg22) (v4 : BitVec 32) (v8 : IVec S256x256 32) (v141 : IVec S1x256 32) (v383 : FVec F S1x256 .f32) (v440 : IVec S1x256 32) (v442 : IVec S1x256 32) (v448 : BitVec 32) (v449 : FVec F S8x256 .f32) (c1_i32_228 : BitVec 32) :
    Keeps defs₀ 𝒱 c I (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 v8 v141 v383 v440 v442 v448 v449 c1_i32_228) := by
  delta k0_part122
  repeat' first | extract_lets | with_reducible refine keeps_bind ?_ ?_ | with_reducible exact keeps_load H.l15 | with_reducible refine keeps_for _ _ _ ?_ | intro _ | exact keeps_pure _

theorem keeps_k0_part123 (H : Held 𝒱 c I arg2 arg3 arg4 arg5 arg6 arg7 arg8 arg9 arg10 arg11 arg12 arg13 arg14 arg15 arg16 arg17 arg18 arg19 arg20 arg21 arg22) (v4 : BitVec 32) (v8 : IVec S256x256 32) (v141 : IVec S1x256 32) (v383 : FVec F S1x256 .f32) (v482 : IVec S1x256 32) (v484 : IVec S1x256 32) (v485 : FVec F S8x256 .f32) (c0_i32_243 : BitVec 32) (v490 : BitVec 32) :
    Keeps defs₀ 𝒱 c I (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v4 v8 v141 v383 v482 v484 v485 c0_i32_243 v490) := by
  delta k0_part123
  repeat' first | extract_lets | with_reducible refine keeps_bind ?_ ?_ | with_reducible exact keeps_load H.l15 | with_reducible refine keeps_for _ _ _ ?_ | intro _ | exact keeps_pure _

theorem keeps_k0_part124 (H : Held 𝒱 c I arg2 arg3 arg4 arg5 arg6 arg7 arg8 arg9 arg10 arg11 arg12 arg13 arg14 arg15 arg16 arg17 arg18 arg19 arg20 arg21 arg22) (v2 : IVec S1x128 1) (c0_i32_96 : BitVec 32) (c1_i32_99 : BitVec 32) (k0_t49 : Fin (k0_t49_loop i).trips) :
    Keeps defs₀ 𝒱 c I (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 c0_i32_96 c1_i32_99 k0_t49) := by
  delta k0_part124
  repeat' first | extract_lets | with_reducible refine keeps_bind ?_ ?_ | with_reducible exact keeps_load H.l2 | with_reducible exact keeps_load H.l11 | with_reducible exact keeps_load H.l18 | with_reducible exact keeps_load H.l19 | with_reducible exact keeps_load H.l20 | exact keeps_word H.l9 | with_reducible exact keeps_store H.g19 | intro _ | exact keeps_pure _

theorem keeps_k0_part125 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v386 : FVec F S1024x256 .f32) (v405 : FVec F S1x256 .f32) (v406 : Vec F S1x1x256 .f32) :
    Keeps defs₀ 𝒱 c I (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v386 v405 v406) := by
  delta k0_part125
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part126 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v386 : FVec F S1024x256 .f32) (v436 : FVec F S256x256 .f32) (v441 : FVec F S1x1x256x256 .f32) :
    Keeps defs₀ 𝒱 c I (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v386 v436 v441) := by
  delta k0_part126
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part127 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v376 : Vec F S1024x128 .bf16) (v385 : FVec F S256x128 .bf16) :
    Keeps defs₀ 𝒱 c I (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v376 v385) := by
  delta k0_part127
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part128 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v475 : FVec F S1024x256 .f32) (v503 : FVec F S256x256 .f32) :
    Keeps defs₀ 𝒱 c I (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v475 v503) := by
  delta k0_part128
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part129 (H : Held 𝒱 c I arg2 arg3 arg4 arg5 arg6 arg7 arg8 arg9 arg10 arg11 arg12 arg13 arg14 arg15 arg16 arg17 arg18 arg19 arg20 arg21 arg22) (v2 : IVec S1x128 1) (k0_t49 : Fin (k0_t49_loop i).trips) (v372 : BitVec 32) (v376 : Vec F S1024x128 .bf16) (v542 : FVec F S256x256 .f32) :
    Keeps defs₀ 𝒱 c I (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t49 v372 v376 v542) := by
  delta k0_part129
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part130 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v573 : FVec F S1024x256 .f32) (v574 : FVec F S256x256 .f32) (v577 : Vec F S1x256x256 .f32) :
    Keeps defs₀ 𝒱 c I (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v573 v574 v577) := by
  delta k0_part130
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part131 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v573 : FVec F S1024x256 .f32) (v611 : FVec F S1x256 .f32) :
    Keeps defs₀ 𝒱 c I (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v573 v611) := by
  delta k0_part131
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part132 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v376 : Vec F S1024x128 .bf16) (v572 : FVec F S256x128 .bf16) (v645 : FVec F S256x256 .f32) (c3_i32_372 : BitVec 32) :
    Keeps defs₀ 𝒱 c I (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v376 v572 v645 c3_i32_372) := by
  delta k0_part132
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part133 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v662 : FVec F S1024x256 .f32) (v678 : FVec F S1x256 .f32) :
    Keeps defs₀ 𝒱 c I (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v662 v678) := by
  delta k0_part133
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part134 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v662 : FVec F S1024x256 .f32) (v712 : FVec F S256x256 .f32) (v713 : BitVec 32) :
    Keeps defs₀ 𝒱 c I (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v662 v712 v713) := by
  delta k0_part134
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part135 (H : Held 𝒱 c I arg2 arg3 arg4 arg5 arg6 arg7 arg8 arg9 arg10 arg11 arg12 arg13 arg14 arg15 arg16 arg17 arg18 arg19 arg20 arg21 arg22) (v2 : IVec S1x128 1) (k0_t49 : Fin (k0_t49_loop i).trips) (v372 : BitVec 32) (v376 : Vec F S1024x128 .bf16) (v747 : FVec F S1x256 .f32) :
    Keeps defs₀ 𝒱 c I (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t49 v372 v376 v747) := by
  delta k0_part135
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part136 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v760 : FVec F S1024x256 .f32) (v782 : FVec F S1x1x256 .f32) :
    Keeps defs₀ 𝒱 c I (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v760 v782) := by
  delta k0_part136
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part137 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v376 : Vec F S1024x128 .bf16) (v759 : FVec F S256x128 .bf16) (v760 : FVec F S1024x256 .f32) (v810 : FVec F S256x256 .f32) :
    Keeps defs₀ 𝒱 c I (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v376 v759 v760 v810) := by
  delta k0_part137
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part138 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v849 : FVec F S1024x256 .f32) :
    Keeps defs₀ 𝒱 c I (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v849) := by
  delta k0_part138
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part139 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v849 : FVec F S1024x256 .f32) (v883 : FVec F S256 .f32) :
    Keeps defs₀ 𝒱 c I (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v849 v883) := by
  delta k0_part139
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part140 (H : Held 𝒱 c I arg2 arg3 arg4 arg5 arg6 arg7 arg8 arg9 arg10 arg11 arg12 arg13 arg14 arg15 arg16 arg17 arg18 arg19 arg20 arg21 arg22) (v2 : IVec S1x128 1) (k0_t49 : Fin (k0_t49_loop i).trips) (v372 : BitVec 32) (v376 : Vec F S1024x128 .bf16) (v916 : FVec F S256x256 .f32) (v917 : BitVec 32) :
    Keeps defs₀ 𝒱 c I (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t49 v372 v376 v916 v917) := by
  delta k0_part140
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part141 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v947 : FVec F S1024x256 .f32) (v953 : FVec F S256x256 .f32) :
    Keeps defs₀ 𝒱 c I (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v947 v953) := by
  delta k0_part141
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part142 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v947 : FVec F S1024x256 .f32) (v985 : FVec F S1x256 .f32) (v986 : Vec F S1x1x256 .f32) :
    Keeps defs₀ 𝒱 c I (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v947 v985 v986) := by
  delta k0_part142
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part143 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v376 : Vec F S1024x128 .bf16) (v946 : FVec F S256x128 .bf16) (v1019 : FVec F S256x256 .f32) (v1020 : BitVec 32) :
    Keeps defs₀ 𝒱 c I (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v376 v946 v1019 v1020) := by
  delta k0_part143
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part144 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v1036 : FVec F S1024x256 .f32) (v1052 : FVec F S1x256 .f32) (v1054 : FVec F S1x256 .f32) :
    Keeps defs₀ 𝒱 c I (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v1036 v1052 v1054) := by
  delta k0_part144
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part145 (H : Held 𝒱 c I arg2 arg3 arg4 arg5 arg6 arg7 arg8 arg9 arg10 arg11 arg12 arg13 arg14 arg15 arg16 arg17 arg18 arg19 arg20 arg21 arg22) (k0_t49 : Fin (k0_t49_loop i).trips) (v372 : BitVec 32) (v1036 : FVec F S1024x256 .f32) (v1086 : FVec F S256x256 .f32) :
    Keeps defs₀ 𝒱 c I (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t49 v372 v1036 v1086) := by
  delta k0_part145
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part146 (H : Held 𝒱 c I arg2 arg3 arg4 arg5 arg6 arg7 arg8 arg9 arg10 arg11 arg12 arg13 arg14 arg15 arg16 arg17 arg18 arg19 arg20 arg21 arg22) (v2 : IVec S1x128 1) (v209 : BitVec 32) (c1_i32_100 : BitVec 32) (k0_t50 : Fin (k0_t50_loop i).trips) :
    Keeps defs₀ 𝒱 c I (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v209 c1_i32_100 k0_t50) := by
  delta k0_part146
  repeat' first | extract_lets | with_reducible refine keeps_bind ?_ ?_ | with_reducible exact keeps_load H.l2 | with_reducible exact keeps_load H.l11 | with_reducible exact keeps_load H.l18 | with_reducible exact keeps_load H.l19 | with_reducible exact keeps_load H.l20 | exact keeps_word H.l9 | with_reducible exact keeps_store H.g19 | intro _ | exact keeps_pure _

theorem keeps_k0_part147 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v386 : FVec F S1024x256 .f32) (v405 : FVec F S1x256 .f32) (v406 : Vec F S1x1x256 .f32) :
    Keeps defs₀ 𝒱 c I (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v386 v405 v406) := by
  delta k0_part147
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part148 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v386 : FVec F S1024x256 .f32) (v436 : FVec F S256x256 .f32) (v441 : FVec F S1x1x256x256 .f32) :
    Keeps defs₀ 𝒱 c I (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v386 v436 v441) := by
  delta k0_part148
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part149 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v376 : Vec F S1024x128 .bf16) (v385 : FVec F S256x128 .bf16) :
    Keeps defs₀ 𝒱 c I (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v376 v385) := by
  delta k0_part149
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part150 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v475 : FVec F S1024x256 .f32) (v503 : FVec F S256x256 .f32) :
    Keeps defs₀ 𝒱 c I (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v475 v503) := by
  delta k0_part150
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part151 (H : Held 𝒱 c I arg2 arg3 arg4 arg5 arg6 arg7 arg8 arg9 arg10 arg11 arg12 arg13 arg14 arg15 arg16 arg17 arg18 arg19 arg20 arg21 arg22) (v2 : IVec S1x128 1) (k0_t50 : Fin (k0_t50_loop i).trips) (v372 : BitVec 32) (v376 : Vec F S1024x128 .bf16) (v542 : FVec F S256x256 .f32) :
    Keeps defs₀ 𝒱 c I (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t50 v372 v376 v542) := by
  delta k0_part151
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part152 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v573 : FVec F S1024x256 .f32) (v574 : FVec F S256x256 .f32) (v577 : Vec F S1x256x256 .f32) :
    Keeps defs₀ 𝒱 c I (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v573 v574 v577) := by
  delta k0_part152
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part153 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v573 : FVec F S1024x256 .f32) (v611 : FVec F S1x256 .f32) :
    Keeps defs₀ 𝒱 c I (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v573 v611) := by
  delta k0_part153
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part154 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v376 : Vec F S1024x128 .bf16) (v572 : FVec F S256x128 .bf16) (v645 : FVec F S256x256 .f32) (c3_i32_372 : BitVec 32) :
    Keeps defs₀ 𝒱 c I (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v376 v572 v645 c3_i32_372) := by
  delta k0_part154
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part155 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v662 : FVec F S1024x256 .f32) (v678 : FVec F S1x256 .f32) :
    Keeps defs₀ 𝒱 c I (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v662 v678) := by
  delta k0_part155
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part156 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v662 : FVec F S1024x256 .f32) (v712 : FVec F S256x256 .f32) (v713 : BitVec 32) :
    Keeps defs₀ 𝒱 c I (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v662 v712 v713) := by
  delta k0_part156
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part157 (H : Held 𝒱 c I arg2 arg3 arg4 arg5 arg6 arg7 arg8 arg9 arg10 arg11 arg12 arg13 arg14 arg15 arg16 arg17 arg18 arg19 arg20 arg21 arg22) (v2 : IVec S1x128 1) (k0_t50 : Fin (k0_t50_loop i).trips) (v372 : BitVec 32) (v376 : Vec F S1024x128 .bf16) (v747 : FVec F S1x256 .f32) :
    Keeps defs₀ 𝒱 c I (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t50 v372 v376 v747) := by
  delta k0_part157
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part158 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v760 : FVec F S1024x256 .f32) (v782 : FVec F S1x1x256 .f32) :
    Keeps defs₀ 𝒱 c I (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v760 v782) := by
  delta k0_part158
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part159 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v376 : Vec F S1024x128 .bf16) (v759 : FVec F S256x128 .bf16) (v760 : FVec F S1024x256 .f32) (v810 : FVec F S256x256 .f32) :
    Keeps defs₀ 𝒱 c I (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v376 v759 v760 v810) := by
  delta k0_part159
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part160 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v849 : FVec F S1024x256 .f32) :
    Keeps defs₀ 𝒱 c I (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v849) := by
  delta k0_part160
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part161 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v849 : FVec F S1024x256 .f32) (v883 : FVec F S256 .f32) :
    Keeps defs₀ 𝒱 c I (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v849 v883) := by
  delta k0_part161
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part162 (H : Held 𝒱 c I arg2 arg3 arg4 arg5 arg6 arg7 arg8 arg9 arg10 arg11 arg12 arg13 arg14 arg15 arg16 arg17 arg18 arg19 arg20 arg21 arg22) (v2 : IVec S1x128 1) (k0_t50 : Fin (k0_t50_loop i).trips) (v372 : BitVec 32) (v376 : Vec F S1024x128 .bf16) (v916 : FVec F S256x256 .f32) (v917 : BitVec 32) :
    Keeps defs₀ 𝒱 c I (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_t50 v372 v376 v916 v917) := by
  delta k0_part162
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part163 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v947 : FVec F S1024x256 .f32) (v953 : FVec F S256x256 .f32) :
    Keeps defs₀ 𝒱 c I (k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v947 v953) := by
  delta k0_part163
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part164 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v947 : FVec F S1024x256 .f32) (v985 : FVec F S1x256 .f32) (v986 : Vec F S1x1x256 .f32) :
    Keeps defs₀ 𝒱 c I (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v947 v985 v986) := by
  delta k0_part164
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part165 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v376 : Vec F S1024x128 .bf16) (v946 : FVec F S256x128 .bf16) (v1019 : FVec F S256x256 .f32) (v1020 : BitVec 32) :
    Keeps defs₀ 𝒱 c I (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v376 v946 v1019 v1020) := by
  delta k0_part165
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part166 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v1036 : FVec F S1024x256 .f32) (v1052 : FVec F S1x256 .f32) (v1054 : FVec F S1x256 .f32) :
    Keeps defs₀ 𝒱 c I (k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v1036 v1052 v1054) := by
  delta k0_part166
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part167 (H : Held 𝒱 c I arg2 arg3 arg4 arg5 arg6 arg7 arg8 arg9 arg10 arg11 arg12 arg13 arg14 arg15 arg16 arg17 arg18 arg19 arg20 arg21 arg22) (k0_t50 : Fin (k0_t50_loop i).trips) (v372 : BitVec 32) (v1036 : FVec F S1024x256 .f32) (v1086 : FVec F S256x256 .f32) :
    Keeps defs₀ 𝒱 c I (k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t50 v372 v1036 v1086) := by
  delta k0_part167
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part168 (H : Held 𝒱 c I arg2 arg3 arg4 arg5 arg6 arg7 arg8 arg9 arg10 arg11 arg12 arg13 arg14 arg15 arg16 arg17 arg18 arg19 arg20 arg21 arg22) (v2 : IVec S1x128 1) (v187 : BitVec 32) (k0_h15 : k0_cond15 i = 1#1) :
    Keeps defs₀ 𝒱 c I (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v187 k0_h15) := by
  delta k0_part168
  repeat' first | extract_lets | with_reducible refine keeps_bind ?_ ?_ | with_reducible exact keeps_load H.l2 | with_reducible exact keeps_load H.l11 | with_reducible exact keeps_load H.l18 | with_reducible exact keeps_load H.l19 | with_reducible exact keeps_load H.l20 | exact keeps_word H.l9 | with_reducible exact keeps_store H.g19 | intro _ | exact keeps_pure _

theorem keeps_k0_part169 (H : Held 𝒱 c I arg2 arg3 arg4 arg5 arg6 arg7 arg8 arg9 arg10 arg11 arg12 arg13 arg14 arg15 arg16 arg17 arg18 arg19 arg20 arg21 arg22) (v2 : IVec S1x128 1) (k0_h15 : k0_cond15 i = 1#1) (v372 : BitVec 32) (v376 : Vec F S256x128 .bf16) (v385 : FVec F S256x128 .bf16) (v407 : FVec F S1x1x256 .f32) :
    Keeps defs₀ 𝒱 c I (k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h15 v372 v376 v385 v407) := by
  delta k0_part169
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part170 (H : Held 𝒱 c I arg2 arg3 arg4 arg5 arg6 arg7 arg8 arg9 arg10 arg11 arg12 arg13 arg14 arg15 arg16 arg17 arg18 arg19 arg20 arg21 arg22) (k0_h15 : k0_cond15 i = 1#1) (v372 : BitVec 32) (v376 : Vec F S256x128 .bf16) (v438 : FVec F S256x128 .bf16) (v439 : FVec F S256x256 .f32) :
    Keeps defs₀ 𝒱 c I (k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h15 v372 v376 v438 v439) := by
  delta k0_part170
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part171 (H : Held 𝒱 c I arg2 arg3 arg4 arg5 arg6 arg7 arg8 arg9 arg10 arg11 arg12 arg13 arg14 arg15 arg16 arg17 arg18 arg19 arg20 arg21 arg22) (v2 : IVec S1x128 1) (k0_h15 : k0_cond15 i = 1#1) (v372 : BitVec 32) (v376 : Vec F S256x128 .bf16) (v473 : FVec F S1x256 .f32) (v475 : FVec F S1x256 .f32) :
    Keeps defs₀ 𝒱 c I (k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h15 v372 v376 v473 v475) := by
  delta k0_part171
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part172 (H : Held 𝒱 c I arg2 arg3 arg4 arg5 arg6 arg7 arg8 arg9 arg10 arg11 arg12 arg13 arg14 arg15 arg16 arg17 arg18 arg19 arg20 arg21 arg22) (v2 : IVec S1x128 1) (k0_h15 : k0_cond15 i = 1#1) (v372 : BitVec 32) (v376 : Vec F S256x128 .bf16) (v491 : FVec F S256x128 .bf16) (v510 : FVec F S1x256 .f32) :
    Keeps defs₀ 𝒱 c I (k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h15 v372 v376 v491 v510) := by
  delta k0_part172
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part173 (H : Held 𝒱 c I arg2 arg3 arg4 arg5 arg6 arg7 arg8 arg9 arg10 arg11 arg12 arg13 arg14 arg15 arg16 arg17 arg18 arg19 arg20 arg21 arg22) (k0_h15 : k0_cond15 i = 1#1) (v372 : BitVec 32) (v376 : Vec F S256x128 .bf16) (v541 : FVec F S256x128 .bf16) (v544 : FVec F S256x128 .bf16) :
    Keeps defs₀ 𝒱 c I (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h15 v372 v376 v541 v544) := by
  delta k0_part173
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part174 (H : Held 𝒱 c I arg2 arg3 arg4 arg5 arg6 arg7 arg8 arg9 arg10 arg11 arg12 arg13 arg14 arg15 arg16 arg17 arg18 arg19 arg20 arg21 arg22) (v2 : IVec S1x128 1) (v187 : BitVec 32) (k0_h16 : k0_cond16 i = 1#1) :
    Keeps defs₀ 𝒱 c I (k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v187 k0_h16) := by
  delta k0_part174
  repeat' first | extract_lets | with_reducible refine keeps_bind ?_ ?_ | with_reducible exact keeps_load H.l2 | with_reducible exact keeps_load H.l11 | with_reducible exact keeps_load H.l18 | with_reducible exact keeps_load H.l19 | with_reducible exact keeps_load H.l20 | exact keeps_word H.l9 | with_reducible exact keeps_store H.g19 | intro _ | exact keeps_pure _

theorem keeps_k0_part175 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v376 : Vec F S512x128 .bf16) (v385 : FVec F S256x128 .bf16) (v386 : FVec F S512x256 .f32) (v405 : FVec F S1x256 .f32) :
    Keeps defs₀ 𝒱 c I (k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v376 v385 v386 v405) := by
  delta k0_part175
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part176 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v431 : FVec F S512x256 .f32) (v437 : FVec F S256x256 .f32) :
    Keeps defs₀ 𝒱 c I (k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v431 v437) := by
  delta k0_part176
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part177 (H : Held 𝒱 c I arg2 arg3 arg4 arg5 arg6 arg7 arg8 arg9 arg10 arg11 arg12 arg13 arg14 arg15 arg16 arg17 arg18 arg19 arg20 arg21 arg22) (v2 : IVec S1x128 1) (k0_h16 : k0_cond16 i = 1#1) (v372 : BitVec 32) (v376 : Vec F S512x128 .bf16) (v475 : FVec F S1x1x256 .f32) :
    Keeps defs₀ 𝒱 c I (k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h16 v372 v376 v475) := by
  delta k0_part177
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part178 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v376 : Vec F S512x128 .bf16) (v484 : FVec F S256x128 .bf16) (v508 : FVec F S256x256 .f32) :
    Keeps defs₀ 𝒱 c I (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v376 v484 v508) := by
  delta k0_part178
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part179 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v530 : FVec F S512x256 .f32) (v543 : FVec F S1x256 .f32) (v544 : Elt F .f32) :
    Keeps defs₀ 𝒱 c I (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v530 v543 v544) := by
  delta k0_part179
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part180 (H : Held 𝒱 c I arg2 arg3 arg4 arg5 arg6 arg7 arg8 arg9 arg10 arg11 arg12 arg13 arg14 arg15 arg16 arg17 arg18 arg19 arg20 arg21 arg22) (v2 : IVec S1x128 1) (k0_h16 : k0_cond16 i = 1#1) (v372 : BitVec 32) (v376 : Vec F S512x128 .bf16) (v576 : FVec F S256x128 .bf16) (cst_328 : F .bf16) :
    Keeps defs₀ 𝒱 c I (k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h16 v372 v376 v576 cst_328) := by
  delta k0_part180
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part181 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v376 : Vec F S512x128 .bf16) (v583 : FVec F S256x128 .bf16) (v612 : FVec F S256x256 .f32) (v613 : BitVec 32) :
    Keeps defs₀ 𝒱 c I (k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v376 v583 v612 v613) := by
  delta k0_part181
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part182 (H : Held 𝒱 c I arg2 arg3 arg4 arg5 arg6 arg7 arg8 arg9 arg10 arg11 arg12 arg13 arg14 arg15 arg16 arg17 arg18 arg19 arg20 arg21 arg22) (v2 : IVec S1x128 1) (k0_h16 : k0_cond16 i = 1#1) (v372 : BitVec 32) (v629 : FVec F S512x256 .f32) (v645 : FVec F S1x256 .f32) (v647 : FVec F S1x256 .f32) :
    Keeps defs₀ 𝒱 c I (k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h16 v372 v629 v645 v647) := by
  delta k0_part182
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part183 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v376 : Vec F S512x128 .bf16) (v679 : FVec F S256x128 .bf16) :
    Keeps defs₀ 𝒱 c I (k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v376 v679) := by
  delta k0_part183
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part184 (H : Held 𝒱 c I arg2 arg3 arg4 arg5 arg6 arg7 arg8 arg9 arg10 arg11 arg12 arg13 arg14 arg15 arg16 arg17 arg18 arg19 arg20 arg21 arg22) (k0_h16 : k0_cond16 i = 1#1) (v372 : BitVec 32) (v376 : Vec F S512x128 .bf16) (v682 : FVec F S256x128 .bf16) (v711 : FVec F S256x256 .f32) :
    Keeps defs₀ 𝒱 c I (k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h16 v372 v376 v682 v711) := by
  delta k0_part184
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part185 (H : Held 𝒱 c I arg2 arg3 arg4 arg5 arg6 arg7 arg8 arg9 arg10 arg11 arg12 arg13 arg14 arg15 arg16 arg17 arg18 arg19 arg20 arg21 arg22) (v2 : IVec S1x128 1) (v187 : BitVec 32) (k0_h17 : k0_cond17 i = 1#1) :
    Keeps defs₀ 𝒱 c I (k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v187 k0_h17) := by
  delta k0_part185
  repeat' first | extract_lets | with_reducible refine keeps_bind ?_ ?_ | with_reducible exact keeps_load H.l2 | with_reducible exact keeps_load H.l11 | with_reducible exact keeps_load H.l18 | with_reducible exact keeps_load H.l19 | with_reducible exact keeps_load H.l20 | exact keeps_word H.l9 | with_reducible exact keeps_store H.g19 | intro _ | exact keeps_pure _

theorem keeps_k0_part186 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v386 : FVec F S768x256 .f32) (v405 : FVec F S1x256 .f32) :
    Keeps defs₀ 𝒱 c I (k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v386 v405) := by
  delta k0_part186
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part187 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v376 : Vec F S768x128 .bf16) (v385 : FVec F S256x128 .bf16) (v436 : FVec F S256x256 .f32) :
    Keeps defs₀ 𝒱 c I (k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v376 v385 v436) := by
  delta k0_part187
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part188 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v453 : FVec F S768x256 .f32) (v475 : FVec F S1x1x256 .f32) :
    Keeps defs₀ 𝒱 c I (k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v453 v475) := by
  delta k0_part188
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

end Cert.Dsa.Keep

end
-- ==== Proof.Body3.lean ====
/- Every part of the body keeps the assertion: its loads and stores go to the buffers held, whatever the values are. -/
module

public import proofs.«01_k».proof.Proof.Body2

@[expose] public section

set_option maxRecDepth 16384
set_option maxHeartbeats 4000000

noncomputable section

namespace Cert.Dsa.Keep

open Idealize.ShloMosaic Idealize.ShloMosaic.TcCoe Idealize.SL Idealize.SL.RA Idealize.SL.BI Idealize.SL.Sem
open Cert.Keep Cert.Dsa.Facts₀ Cert.Dsa.Facts

variable {F : FTy → Type} [BitOps F] [Facts]
variable {𝒱 : Variants} {c : Dev nD} {I : sProp (MT nD τ sig Unit (Elt F) ℕ (UR sig nD τ) ℕ)}
variable {i : grid0.Coords}
variable {arg2 : Memref sig .tc .vmem S1x256x512 .bf16}
variable {harg2 : arg2.IsWhole}
variable {arg3 : Memref sig .tc .vmem S1x256x512 .bf16}
variable {harg3 : arg3.IsWhole}
variable {arg4 : Memref sig .tc .vmem S1x256x128 .f32}
variable {harg4 : arg4.IsWhole}
variable {arg5 : Memref sig .tc .vmem S1x2048x128 .bf16}
variable {harg5 : arg5.IsWhole}
variable {arg6 : Memref sig .tc .vmem S1x2048x128 .bf16}
variable {harg6 : arg6.IsWhole}
variable {arg7 : Memref sig .tc .vmem S1x2048x128 .bf16}
variable {harg7 : arg7.IsWhole}
variable {arg8 : Memref sig .tc .vmem S8x2x256x256 .f32}
variable {harg8 : arg8.IsWhole}
variable {arg9 : Memref sig .tc .smem S8 .f32}
variable {harg9 : arg9.IsWhole}
variable {arg10 : Memref sig .tc .vmem S1x256x512 .f32}
variable {harg10 : arg10.IsWhole}
variable {arg11 : Memref sig .tc .vmem S2048x128 .bf16}
variable {harg11 : arg11.IsWhole}
variable {arg12 : Memref sig .tc .vmem S8x128x256 .bf16}
variable {harg12 : arg12.IsWhole}
variable {arg13 : Memref sig .tc .vmem S8x128x256 .bf16}
variable {harg13 : arg13.IsWhole}
variable {arg14 : Memref sig .tc .vmem S2048x128 .bf16}
variable {harg14 : arg14.IsWhole}
variable {arg15 : Memref sig .tc .vmem S8x256x256 .i32}
variable {harg15 : arg15.IsWhole}
variable {arg16 : Memref sig .tc .vmem S8x256x256 .i16}
variable {harg16 : arg16.IsWhole}
variable {arg17 : Memref sig .tc .vmem S8x256x256 .i16}
variable {harg17 : arg17.IsWhole}
variable {arg18 : Memref sig .tc .vmem S8x256x256 .f32}
variable {harg18 : arg18.IsWhole}
variable {arg19 : Memref sig .tc .vmem S8x8x256x256 .f32}
variable {harg19 : arg19.IsWhole}
variable {arg20 : Memref sig .tc .vmem S8x1x256 .f32}
variable {harg20 : arg20.IsWhole}
variable {arg21 : Memref sig .tc .vmem S8x1x256 .f32}
variable {harg21 : arg21.IsWhole}
variable {arg22 : Memref sig .tc .vmem S4x128x256 .f32}
variable {harg22 : arg22.IsWhole}

theorem keeps_k0_part189 (H : Held 𝒱 c I arg2 arg3 arg4 arg5 arg6 arg7 arg8 arg9 arg10 arg11 arg12 arg13 arg14 arg15 arg16 arg17 arg18 arg19 arg20 arg21 arg22) (v2 : IVec S1x128 1) (k0_h17 : k0_cond17 i = 1#1) (v372 : BitVec 32) (v376 : Vec F S768x128 .bf16) (v503 : FVec F S256x256 .f32) :
    Keeps defs₀ 𝒱 c I (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h17 v372 v376 v503) := by
  delta k0_part189
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part190 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v529 : FVec F S768x256 .f32) (v545 : FVec F S1x256 .f32) :
    Keeps defs₀ 𝒱 c I (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v529 v545) := by
  delta k0_part190
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part191 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v376 : Vec F S768x128 .bf16) (v528 : FVec F S256x128 .bf16) (v574 : FVec F S256x256 .f32) (v578 : FVec F S256x256 .f32) :
    Keeps defs₀ 𝒱 c I (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v376 v528 v574 v578) := by
  delta k0_part191
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part192 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v596 : FVec F S768x256 .f32) (v612 : FVec F S1x256 .f32) :
    Keeps defs₀ 𝒱 c I (k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v596 v612) := by
  delta k0_part192
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part193 (H : Held 𝒱 c I arg2 arg3 arg4 arg5 arg6 arg7 arg8 arg9 arg10 arg11 arg12 arg13 arg14 arg15 arg16 arg17 arg18 arg19 arg20 arg21 arg22) (v2 : IVec S1x128 1) (k0_h17 : k0_cond17 i = 1#1) (v372 : BitVec 32) (v376 : Vec F S768x128 .bf16) (v646 : FVec F S256x256 .f32) :
    Keeps defs₀ 𝒱 c I (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h17 v372 v376 v646) := by
  delta k0_part193
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part194 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v672 : FVec F S768x256 .f32) (v678 : FVec F S256x256 .f32) :
    Keeps defs₀ 𝒱 c I (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v672 v678) := by
  delta k0_part194
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part195 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v376 : Vec F S768x128 .bf16) (v671 : FVec F S256x128 .bf16) (v672 : FVec F S768x256 .f32) (v713 : FVec F S1x256 .f32) (v714 : Vec F S1x1x256 .f32) :
    Keeps defs₀ 𝒱 c I (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v376 v671 v672 v713 v714) := by
  delta k0_part195
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part196 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v739 : FVec F S768x256 .f32) (v745 : FVec F S256x256 .f32) (v748 : Vec F S1x1x256x256 .f32) :
    Keeps defs₀ 𝒱 c I (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v739 v745 v748) := by
  delta k0_part196
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part197 (H : Held 𝒱 c I arg2 arg3 arg4 arg5 arg6 arg7 arg8 arg9 arg10 arg11 arg12 arg13 arg14 arg15 arg16 arg17 arg18 arg19 arg20 arg21 arg22) (v2 : IVec S1x128 1) (k0_h17 : k0_cond17 i = 1#1) (v372 : BitVec 32) (v376 : Vec F S768x128 .bf16) (v739 : FVec F S768x256 .f32) (v780 : FVec F S1x256 .f32) :
    Keeps defs₀ 𝒱 c I (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h17 v372 v376 v739 v780) := by
  delta k0_part197
  repeat' first | extract_lets | with_reducible refine keeps_bind ?_ ?_ | with_reducible exact keeps_load H.l2 | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part198 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v815 : FVec F S768x256 .f32) (v816 : FVec F S256x256 .f32) :
    Keeps defs₀ 𝒱 c I (k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v815 v816) := by
  delta k0_part198
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part199 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v376 : Vec F S768x128 .bf16) (v814 : FVec F S256x128 .bf16) (v815 : FVec F S768x256 .f32) (v850 : FVec F S1x256 .f32) (v852 : FVec F S1x256 .f32) :
    Keeps defs₀ 𝒱 c I (k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v376 v814 v815 v850 v852) := by
  delta k0_part199
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part200 (H : Held 𝒱 c I arg2 arg3 arg4 arg5 arg6 arg7 arg8 arg9 arg10 arg11 arg12 arg13 arg14 arg15 arg16 arg17 arg18 arg19 arg20 arg21 arg22) (k0_h17 : k0_cond17 i = 1#1) (v372 : BitVec 32) (v882 : FVec F S768x256 .f32) (v883 : FVec F S256x256 .f32) :
    Keeps defs₀ 𝒱 c I (k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h17 v372 v882 v883) := by
  delta k0_part200
  repeat' first | extract_lets | with_reducible refine keeps_bind ?_ ?_ | with_reducible exact keeps_load H.l18 | with_reducible exact keeps_load H.l19 | with_reducible exact keeps_load H.l20 | exact keeps_word H.l9 | with_reducible exact keeps_store H.g19 | with_reducible exact keeps_store H.g20 | intro _ | exact keeps_pure _

theorem keeps_k0_part201 (H : Held 𝒱 c I arg2 arg3 arg4 arg5 arg6 arg7 arg8 arg9 arg10 arg11 arg12 arg13 arg14 arg15 arg16 arg17 arg18 arg19 arg20 arg21 arg22) (v2 : IVec S1x128 1) (v187 : BitVec 32) (k0_h17 : k0_cond17 i = 1#1) :
    Keeps defs₀ 𝒱 c I (k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v187 k0_h17) := by
  delta k0_part201
  repeat' first | extract_lets | with_reducible refine keeps_bind ?_ ?_ | with_reducible exact keeps_k0_part185 H .. | with_reducible exact keeps_k0_part186 H .. | with_reducible exact keeps_k0_part187 H .. | with_reducible exact keeps_k0_part188 H .. | with_reducible exact keeps_k0_part189 H .. | with_reducible exact keeps_k0_part190 H .. | with_reducible exact keeps_k0_part191 H .. | with_reducible exact keeps_k0_part192 H .. | with_reducible exact keeps_k0_part193 H .. | with_reducible exact keeps_k0_part194 H .. | with_reducible exact keeps_k0_part195 H .. | with_reducible exact keeps_k0_part196 H .. | with_reducible exact keeps_k0_part197 H .. | with_reducible exact keeps_k0_part198 H .. | with_reducible exact keeps_k0_part199 H .. | with_reducible exact keeps_k0_part200 H .. | with_reducible exact keeps_load H.l18 | with_reducible exact keeps_load H.l19 | with_reducible exact keeps_load H.l20 | exact keeps_word H.l9 | with_reducible exact keeps_store H.g19 | with_reducible exact keeps_store H.g20 | (with_reducible refine keeps_each ?_; intro _; (repeat (with_reducible refine keeps_each ?_; intro _)); intro _; dsimp only) | intro _ | exact keeps_pure _

theorem keeps_k0_part202 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h18 : k0_cond18 i = 1#1) :
    Keeps defs₀ 𝒱 c I (k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h18) := by
  delta k0_part202
  repeat' first | extract_lets | with_reducible refine keeps_bind ?_ ?_ | with_reducible exact keeps_load H.l2 | with_reducible exact keeps_load H.l8 | with_reducible exact keeps_load H.l11 | with_reducible exact keeps_load H.l18 | with_reducible exact keeps_load H.l19 | with_reducible exact keeps_load H.l20 | with_reducible exact keeps_store H.g19 | intro _ | exact keeps_pure _

theorem keeps_k0_part203 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v376 : Vec F S512x128 .bf16) (v385 : FVec F S256x128 .bf16) (v386 : FVec F S512x256 .f32) (v405 : FVec F S1x256 .f32) :
    Keeps defs₀ 𝒱 c I (k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v376 v385 v386 v405) := by
  delta k0_part203
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part204 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v431 : FVec F S512x256 .f32) (v437 : FVec F S256x256 .f32) :
    Keeps defs₀ 𝒱 c I (k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v431 v437) := by
  delta k0_part204
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part205 (H : Held 𝒱 c I arg2 arg3 arg4 arg5 arg6 arg7 arg8 arg9 arg10 arg11 arg12 arg13 arg14 arg15 arg16 arg17 arg18 arg19 arg20 arg21 arg22) (v2 : IVec S1x128 1) (k0_h18 : k0_cond18 i = 1#1) (v372 : BitVec 32) (v376 : Vec F S512x128 .bf16) (v469 : FVec F S1x256 .f32) :
    Keeps defs₀ 𝒱 c I (k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h18 v372 v376 v469) := by
  delta k0_part205
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part206 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v376 : Vec F S512x128 .bf16) (v484 : FVec F S256x128 .bf16) (v485 : FVec F S512x256 .f32) (v501 : FVec F S1x256 .f32) :
    Keeps defs₀ 𝒱 c I (k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v376 v484 v485 v501) := by
  delta k0_part206
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part207 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v530 : FVec F S512x256 .f32) (v531 : FVec F S256x256 .f32) :
    Keeps defs₀ 𝒱 c I (k0_part207 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v530 v531) := by
  delta k0_part207
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part208 (H : Held 𝒱 c I arg2 arg3 arg4 arg5 arg6 arg7 arg8 arg9 arg10 arg11 arg12 arg13 arg14 arg15 arg16 arg17 arg18 arg19 arg20 arg21 arg22) (v2 : IVec S1x128 1) (k0_h18 : k0_cond18 i = 1#1) (v372 : BitVec 32) (v376 : Vec F S512x128 .bf16) (v561 : FVec F S256x256 .f32) :
    Keeps defs₀ 𝒱 c I (k0_part208 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h18 v372 v376 v561) := by
  delta k0_part208
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part209 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v376 : Vec F S512x128 .bf16) (v583 : FVec F S256x128 .bf16) (v584 : FVec F S512x256 .f32) (v593 : FVec F S256x256 .f32) :
    Keeps defs₀ 𝒱 c I (k0_part209 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v376 v583 v584 v593) := by
  delta k0_part209
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part210 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v629 : FVec F S512x256 .f32) (v630 : FVec F S256x256 .f32) :
    Keeps defs₀ 𝒱 c I (k0_part210 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v629 v630) := by
  delta k0_part210
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part211 (H : Held 𝒱 c I arg2 arg3 arg4 arg5 arg6 arg7 arg8 arg9 arg10 arg11 arg12 arg13 arg14 arg15 arg16 arg17 arg18 arg19 arg20 arg21 arg22) (v2 : IVec S1x128 1) (k0_h18 : k0_cond18 i = 1#1) (v372 : BitVec 32) (v376 : Vec F S512x128 .bf16) (v660 : FVec F S256x256 .f32) (v661 : BitVec 32) :
    Keeps defs₀ 𝒱 c I (k0_part211 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 k0_h18 v372 v376 v660 v661) := by
  delta k0_part211
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part212 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v683 : FVec F S512x256 .f32) (v692 : FVec F S256x256 .f32) :
    Keeps defs₀ 𝒱 c I (k0_part212 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v683 v692) := by
  delta k0_part212
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part213 (H : Held 𝒱 c I arg2 arg3 arg4 arg5 arg6 arg7 arg8 arg9 arg10 arg11 arg12 arg13 arg14 arg15 arg16 arg17 arg18 arg19 arg20 arg21 arg22) (k0_h18 : k0_cond18 i = 1#1) (v372 : BitVec 32) (v376 : Vec F S512x128 .bf16) (v682 : FVec F S256x128 .bf16) (v724 : FVec F S1x256 .f32) :
    Keeps defs₀ 𝒱 c I (k0_part213 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h18 v372 v376 v682 v724) := by
  delta k0_part213
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part214 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h19 : k0_cond19 i = 1#1) :
    Keeps defs₀ 𝒱 c I (k0_part214 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h19) := by
  delta k0_part214
  repeat' first | extract_lets | with_reducible refine keeps_bind ?_ ?_ | with_reducible exact keeps_load H.l2 | with_reducible exact keeps_load H.l8 | with_reducible exact keeps_load H.l11 | with_reducible exact keeps_load H.l18 | with_reducible exact keeps_load H.l19 | with_reducible exact keeps_load H.l20 | with_reducible exact keeps_store H.g19 | intro _ | exact keeps_pure _

theorem keeps_k0_part215 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h19 : k0_cond19 i = 1#1) (v375 : Vec F S256x128 .bf16) (v384 : FVec F S256x128 .bf16) (v403 : FVec F S1x256 .f32) :
    Keeps defs₀ 𝒱 c I (k0_part215 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h19 v375 v384 v403) := by
  delta k0_part215
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part216 (H : Held 𝒱 c I arg2 arg3 arg4 arg5 arg6 arg7 arg8 arg9 arg10 arg11 arg12 arg13 arg14 arg15 arg16 arg17 arg18 arg19 arg20 arg21 arg22) (v3 : BitVec 32) (k0_h19 : k0_cond19 i = 1#1) (v375 : Vec F S256x128 .bf16) (v437 : FVec F S256x128 .bf16) (v438 : FVec F S256x256 .f32) :
    Keeps defs₀ 𝒱 c I (k0_part216 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h19 v375 v437 v438) := by
  delta k0_part216
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part217 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h19 : k0_cond19 i = 1#1) (v375 : Vec F S256x128 .bf16) (v468 : FVec F S256x256 .f32) (v469 : BitVec 32) :
    Keeps defs₀ 𝒱 c I (k0_part217 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h19 v375 v468 v469) := by
  delta k0_part217
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part218 (H : Held 𝒱 c I arg2 arg3 arg4 arg5 arg6 arg7 arg8 arg9 arg10 arg11 arg12 arg13 arg14 arg15 arg16 arg17 arg18 arg19 arg20 arg21 arg22) (v3 : BitVec 32) (k0_h19 : k0_cond19 i = 1#1) (v375 : Vec F S256x128 .bf16) (v490 : FVec F S256x128 .bf16) (v499 : FVec F S256x256 .f32) :
    Keeps defs₀ 𝒱 c I (k0_part218 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h19 v375 v490 v499) := by
  delta k0_part218
  repeat' first | extract_lets | with_reducible refine keeps_bind ?_ ?_ | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part219 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (k0_h19 : k0_cond19 i = 1#1) (v375 : Vec F S256x128 .bf16) (v531 : FVec F S1x256 .f32) (v532 : Vec F S1x1x256 .f32) :
    Keeps defs₀ 𝒱 c I (k0_part219 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 k0_h19 v375 v531 v532) := by
  delta k0_part219
  repeat' first | extract_lets | with_reducible refine keeps_bind ?_ ?_ | with_reducible exact keeps_load H.l2 | with_reducible exact keeps_load H.l8 | with_reducible exact keeps_load H.l18 | with_reducible exact keeps_load H.l19 | with_reducible exact keeps_load H.l20 | with_reducible exact keeps_store H.g19 | with_reducible exact keeps_store H.g20 | intro _ | exact keeps_pure _

theorem keeps_k0_part220 (H : Held 𝒱 c I arg2 arg3 arg4 arg5 arg6 arg7 arg8 arg9 arg10 arg11 arg12 arg13 arg14 arg15 arg16 arg17 arg18 arg19 arg20 arg21 arg22) (c0_i32_136 : BitVec 32) (c1_i32_139 : BitVec 32) (k0_t51 : Fin (k0_t51_loop i).trips) :
    Keeps defs₀ 𝒱 c I (k0_part220 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0_i32_136 c1_i32_139 k0_t51) := by
  delta k0_part220
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part221 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v405 : FVec F S256x256 .f32) :
    Keeps defs₀ 𝒱 c I (k0_part221 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v405) := by
  delta k0_part221
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part222 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v437 : FVec F S1x256 .f32) :
    Keeps defs₀ 𝒱 c I (k0_part222 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v437) := by
  delta k0_part222
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part223 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v468 : FVec F S256x256 .f32) (v473 : FVec F S1x256 .f32) :
    Keeps defs₀ 𝒱 c I (k0_part223 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v468 v473) := by
  delta k0_part223
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part224 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v503 : FVec F S1x256 .f32) :
    Keeps defs₀ 𝒱 c I (k0_part224 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v503) := by
  delta k0_part224
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part225 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) :
    Keeps defs₀ 𝒱 c I (k0_part225 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372) := by
  delta k0_part225
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part226 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v573 : FVec F S256x256 .f32) (v574 : Vec F S1x1x256 .f32) :
    Keeps defs₀ 𝒱 c I (k0_part226 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v573 v574) := by
  delta k0_part226
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part227 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v608 : FVec F S1x256 .f32) (c1_i32_361 : BitVec 32) :
    Keeps defs₀ 𝒱 c I (k0_part227 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v608 c1_i32_361) := by
  delta k0_part227
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part228 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v636 : FVec F S256x256 .f32) (v641 : FVec F S1x256 .f32) (v642 : Vec F S1x1x256 .f32) :
    Keeps defs₀ 𝒱 c I (k0_part228 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v636 v641 v642) := by
  delta k0_part228
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part229 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v677 : FVec F S256x256 .f32) :
    Keeps defs₀ 𝒱 c I (k0_part229 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v677) := by
  delta k0_part229
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part230 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v393 : FVec F S256x256 .bf16) (v414 : FVec F S256x256 .bf16) (v435 : FVec F S256x256 .bf16) (v456 : FVec F S256x256 .bf16) (v477 : FVec F S256x256 .bf16) :
    Keeps defs₀ 𝒱 c I (k0_part230 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v393 v414 v435 v456 v477) := by
  delta k0_part230
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part231 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v498 : FVec F S256x256 .bf16) (v519 : FVec F S256x256 .bf16) (v540 : FVec F S256x256 .bf16) (v561 : FVec F S256x256 .bf16) (v603 : FVec F S256x256 .bf16) (v742 : FVec F S128x256 .f32) :
    Keeps defs₀ 𝒱 c I (k0_part231 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v498 v519 v540 v561 v603 v742) := by
  delta k0_part231
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part232 (H : Held 𝒱 c I arg2 arg3 arg4 arg5 arg6 arg7 arg8 arg9 arg10 arg11 arg12 arg13 arg14 arg15 arg16 arg17 arg18 arg19 arg20 arg21 arg22) (k0_t51 : Fin (k0_t51_loop i).trips) (v372 : BitVec 32) (v582 : FVec F S256x256 .bf16) (v624 : FVec F S256x256 .bf16) (v645 : FVec F S256x256 .bf16) (v666 : FVec F S256x256 .bf16) (v687 : FVec F S256x256 .bf16) (v777 : FVec F S128x256 .f32) (v778 : BitVec 32) :
    Keeps defs₀ 𝒱 c I (k0_part232 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t51 v372 v582 v624 v645 v666 v687 v777 v778) := by
  delta k0_part232
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part233 (H : Held 𝒱 c I arg2 arg3 arg4 arg5 arg6 arg7 arg8 arg9 arg10 arg11 arg12 arg13 arg14 arg15 arg16 arg17 arg18 arg19 arg20 arg21 arg22) (v278 : BitVec 32) (c1_i32_140 : BitVec 32) (k0_t52 : Fin (k0_t52_loop i).trips) :
    Keeps defs₀ 𝒱 c I (k0_part233 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v278 c1_i32_140 k0_t52) := by
  delta k0_part233
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part234 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v405 : FVec F S256x256 .f32) :
    Keeps defs₀ 𝒱 c I (k0_part234 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v405) := by
  delta k0_part234
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part235 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v437 : FVec F S1x256 .f32) :
    Keeps defs₀ 𝒱 c I (k0_part235 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v437) := by
  delta k0_part235
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part236 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v468 : FVec F S256x256 .f32) (v473 : FVec F S1x256 .f32) :
    Keeps defs₀ 𝒱 c I (k0_part236 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v468 v473) := by
  delta k0_part236
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part237 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v503 : FVec F S1x256 .f32) :
    Keeps defs₀ 𝒱 c I (k0_part237 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v503) := by
  delta k0_part237
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part238 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) :
    Keeps defs₀ 𝒱 c I (k0_part238 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372) := by
  delta k0_part238
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part239 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v573 : FVec F S256x256 .f32) (v574 : Vec F S1x1x256 .f32) :
    Keeps defs₀ 𝒱 c I (k0_part239 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v573 v574) := by
  delta k0_part239
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part240 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v608 : FVec F S1x256 .f32) (c1_i32_361 : BitVec 32) :
    Keeps defs₀ 𝒱 c I (k0_part240 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v608 c1_i32_361) := by
  delta k0_part240
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part241 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v636 : FVec F S256x256 .f32) (v641 : FVec F S1x256 .f32) (v642 : Vec F S1x1x256 .f32) :
    Keeps defs₀ 𝒱 c I (k0_part241 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v636 v641 v642) := by
  delta k0_part241
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part242 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v677 : FVec F S256x256 .f32) :
    Keeps defs₀ 𝒱 c I (k0_part242 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v677) := by
  delta k0_part242
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part243 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v393 : FVec F S256x256 .bf16) (v414 : FVec F S256x256 .bf16) (v435 : FVec F S256x256 .bf16) (v456 : FVec F S256x256 .bf16) (v477 : FVec F S256x256 .bf16) :
    Keeps defs₀ 𝒱 c I (k0_part243 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v393 v414 v435 v456 v477) := by
  delta k0_part243
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part244 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v498 : FVec F S256x256 .bf16) (v519 : FVec F S256x256 .bf16) (v540 : FVec F S256x256 .bf16) (v561 : FVec F S256x256 .bf16) (v603 : FVec F S256x256 .bf16) (v742 : FVec F S128x256 .f32) :
    Keeps defs₀ 𝒱 c I (k0_part244 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v498 v519 v540 v561 v603 v742) := by
  delta k0_part244
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part245 (H : Held 𝒱 c I arg2 arg3 arg4 arg5 arg6 arg7 arg8 arg9 arg10 arg11 arg12 arg13 arg14 arg15 arg16 arg17 arg18 arg19 arg20 arg21 arg22) (k0_t52 : Fin (k0_t52_loop i).trips) (v372 : BitVec 32) (v582 : FVec F S256x256 .bf16) (v624 : FVec F S256x256 .bf16) (v645 : FVec F S256x256 .bf16) (v666 : FVec F S256x256 .bf16) (v687 : FVec F S256x256 .bf16) (v777 : FVec F S128x256 .f32) (v778 : BitVec 32) :
    Keeps defs₀ 𝒱 c I (k0_part245 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_t52 v372 v582 v624 v645 v666 v687 v777 v778) := by
  delta k0_part245
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part246 (H : Held 𝒱 c I arg2 arg3 arg4 arg5 arg6 arg7 arg8 arg9 arg10 arg11 arg12 arg13 arg14 arg15 arg16 arg17 arg18 arg19 arg20 arg21 arg22) (v187 : BitVec 32) (k0_h20 : k0_cond20 i = 1#1) :
    Keeps defs₀ 𝒱 c I (k0_part246 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v187 k0_h20) := by
  delta k0_part246
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part247 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v405 : FVec F S256x256 .f32) :
    Keeps defs₀ 𝒱 c I (k0_part247 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v405) := by
  delta k0_part247
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part248 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v437 : FVec F S1x256 .f32) (v438 : Elt F .f32) :
    Keeps defs₀ 𝒱 c I (k0_part248 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v437 v438) := by
  delta k0_part248
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part249 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v468 : FVec F S256x256 .f32) (v473 : FVec F S1x256 .f32) :
    Keeps defs₀ 𝒱 c I (k0_part249 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v468 v473) := by
  delta k0_part249
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part250 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v503 : FVec F S1x256 .f32) (v506 : Vec F S1x1x256x256 .f32) :
    Keeps defs₀ 𝒱 c I (k0_part250 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v503 v506) := by
  delta k0_part250
  repeat' first | extract_lets | with_reducible refine keeps_bind ?_ ?_ | with_reducible exact keeps_load H.l19 | with_reducible exact keeps_load H.l20 | with_reducible exact keeps_load H.l21 | exact keeps_word H.l9 | with_reducible exact keeps_store H.g21 | intro _ | exact keeps_pure _

theorem keeps_k0_part251 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v393 : FVec F S256x256 .bf16) (v414 : FVec F S256x256 .bf16) (v435 : FVec F S256x256 .bf16) (v456 : FVec F S256x256 .bf16) (v541 : BitVec 32) :
    Keeps defs₀ 𝒱 c I (k0_part251 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v393 v414 v435 v456 v541) := by
  delta k0_part251
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part252 (H : Held 𝒱 c I arg2 arg3 arg4 arg5 arg6 arg7 arg8 arg9 arg10 arg11 arg12 arg13 arg14 arg15 arg16 arg17 arg18 arg19 arg20 arg21 arg22) (k0_h20 : k0_cond20 i = 1#1) (v372 : BitVec 32) (v477 : FVec F S256x256 .bf16) (v498 : FVec F S256x256 .bf16) (v519 : FVec F S256x256 .bf16) (v540 : FVec F S256x256 .bf16) (v571 : FVec F S128x256 .f32) :
    Keeps defs₀ 𝒱 c I (k0_part252 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h20 v372 v477 v498 v519 v540 v571) := by
  delta k0_part252
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part253 (H : Held 𝒱 c I arg2 arg3 arg4 arg5 arg6 arg7 arg8 arg9 arg10 arg11 arg12 arg13 arg14 arg15 arg16 arg17 arg18 arg19 arg20 arg21 arg22) (v3 : BitVec 32) (k0_h21 : k0_cond21 i = 1#1) :
    Keeps defs₀ 𝒱 c I (k0_part253 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h21) := by
  delta k0_part253
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part254 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v399 : FVec F S256x256 .f32) (v404 : FVec F S1x256 .f32) :
    Keeps defs₀ 𝒱 c I (k0_part254 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v399 v404) := by
  delta k0_part254
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part255 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v435 : FVec F S256x256 .f32) :
    Keeps defs₀ 𝒱 c I (k0_part255 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v435) := by
  delta k0_part255
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part256 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v464 : FVec F S1x256 .f32) (v468 : FVec F S256x256 .f32) :
    Keeps defs₀ 𝒱 c I (k0_part256 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v464 v468) := by
  delta k0_part256
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part257 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v500 : FVec F S1x256 .f32) (v501 : BitVec 32) :
    Keeps defs₀ 𝒱 c I (k0_part257 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v500 v501) := by
  delta k0_part257
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part258 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) :
    Keeps defs₀ 𝒱 c I (k0_part258 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372) := by
  delta k0_part258
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part259 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v561 : FVec F S256x256 .f32) (v566 : FVec F S1x256 .f32) :
    Keeps defs₀ 𝒱 c I (k0_part259 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v561 v566) := by
  delta k0_part259
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part260 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v597 : FVec F S256x256 .f32) (v599 : FVec F S1x256 .f32) :
    Keeps defs₀ 𝒱 c I (k0_part260 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v597 v599) := by
  delta k0_part260
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part261 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v390 : FVec F S256x256 .bf16) (v633 : FVec F S256x256 .f32) :
    Keeps defs₀ 𝒱 c I (k0_part261 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v390 v633) := by
  delta k0_part261
  repeat' first | extract_lets | with_reducible refine keeps_bind ?_ ?_ | with_reducible exact keeps_load H.l12 | with_reducible exact keeps_load H.l19 | with_reducible exact keeps_load H.l20 | with_reducible exact keeps_load H.l21 | with_reducible exact keeps_store H.g21 | intro _ | exact keeps_pure _

theorem keeps_k0_part262 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v408 : FVec F S256x256 .bf16) (v426 : FVec F S256x256 .bf16) (v444 : FVec F S256x256 .bf16) (v462 : FVec F S256x256 .bf16) (v498 : FVec F S256x256 .bf16) (v665 : FVec F S128x256 .f32) (c0_i32_420 : BitVec 32) :
    Keeps defs₀ 𝒱 c I (k0_part262 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v408 v426 v444 v462 v498 v665 c0_i32_420) := by
  delta k0_part262
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part263 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v480 : FVec F S256x256 .bf16) (v516 : FVec F S256x256 .bf16) (v534 : FVec F S256x256 .bf16) (v570 : FVec F S256x256 .bf16) (v694 : FVec F S128x256 .f32) (v699 : FVec F S128x256 .f32) :
    Keeps defs₀ 𝒱 c I (k0_part263 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v480 v516 v534 v570 v694 v699) := by
  delta k0_part263
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part264 (H : Held 𝒱 c I arg2 arg3 arg4 arg5 arg6 arg7 arg8 arg9 arg10 arg11 arg12 arg13 arg14 arg15 arg16 arg17 arg18 arg19 arg20 arg21 arg22) (k0_h21 : k0_cond21 i = 1#1) (v372 : BitVec 32) (v552 : FVec F S256x256 .bf16) (v588 : FVec F S256x256 .bf16) (v606 : FVec F S256x256 .bf16) (v624 : FVec F S256x256 .bf16) (v642 : FVec F S256x256 .bf16) (v729 : FVec F S128x256 .f32) (v733 : FVec F S128x256 .bf16) :
    Keeps defs₀ 𝒱 c I (k0_part264 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h21 v372 v552 v588 v606 v624 v642 v729 v733) := by
  delta k0_part264
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part265 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) :
    Keeps defs₀ 𝒱 c I (k0_part265 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22) := by
  delta k0_part265
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part266 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) (v398 : FVec F S256x256 .f32) (v403 : FVec F S1x256 .f32) :
    Keeps defs₀ 𝒱 c I (k0_part266 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22 v398 v403) := by
  delta k0_part266
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part267 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) (v434 : FVec F S256x256 .f32) (v436 : FVec F S1x256 .f32) :
    Keeps defs₀ 𝒱 c I (k0_part267 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22 v434 v436) := by
  delta k0_part267
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part268 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) (v469 : FVec F S256x256 .f32) :
    Keeps defs₀ 𝒱 c I (k0_part268 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22 v469) := by
  delta k0_part268
  repeat' first | extract_lets | with_reducible refine keeps_bind ?_ ?_ | with_reducible exact keeps_load H.l19 | with_reducible exact keeps_load H.l20 | with_reducible exact keeps_load H.l21 | with_reducible exact keeps_store H.g21 | intro _ | exact keeps_pure _

theorem keeps_k0_part269 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) (v389 : FVec F S256x256 .bf16) (v407 : FVec F S256x256 .bf16) (v499 : FVec F S1x256 .f32) :
    Keeps defs₀ 𝒱 c I (k0_part269 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22 v389 v407 v499) := by
  delta k0_part269
  repeat' first | extract_lets | with_reducible refine keeps_bind ?_ ?_ | with_reducible exact keeps_load H.l12 | with_reducible exact keeps_load H.l13 | with_reducible exact keeps_load H.l19 | with_reducible exact keeps_load H.l21 | with_reducible exact keeps_load H.l22 | with_reducible exact keeps_store H.g21 | with_reducible exact keeps_store H.g22 | intro _ | exact keeps_pure _

theorem keeps_k0_part270 (H : Held 𝒱 c I arg2 arg3 arg4 arg5 arg6 arg7 arg8 arg9 arg10 arg11 arg12 arg13 arg14 arg15 arg16 arg17 arg18 arg19 arg20 arg21 arg22) (v3 : BitVec 32) (k0_h22 : k0_cond22 i = 1#1) (v425 : FVec F S256x256 .bf16) (v443 : FVec F S256x256 .bf16) (v461 : FVec F S256x256 .bf16) (v479 : FVec F S256x256 .bf16) :
    Keeps defs₀ 𝒱 c I (k0_part270 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 k0_h22 v425 v443 v461 v479) := by
  delta k0_part270
  repeat' first | extract_lets | with_reducible refine keeps_bind ?_ ?_ | with_reducible exact keeps_load H.l12 | with_reducible exact keeps_load H.l13 | with_reducible exact keeps_load H.l22 | with_reducible exact keeps_store H.g22 | intro _ | exact keeps_pure _

theorem keeps_k0_part271 (H : Held 𝒱 c I arg2 arg3 arg4 arg5 arg6 arg7 arg8 arg9 arg10 arg11 arg12 arg13 arg14 arg15 arg16 arg17 arg18 arg19 arg20 arg21 arg22) :
    Keeps defs₀ 𝒱 c I (k0_part271 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  delta k0_part271
  repeat' first | extract_lets | with_reducible refine keeps_bind ?_ ?_ | with_reducible exact keeps_k0_part1 H .. | with_reducible exact keeps_k0_part2 H .. | with_reducible exact keeps_k0_part3 H .. | with_reducible exact keeps_load H.l12 | with_reducible exact keeps_load H.l13 | with_reducible exact keeps_store H.g12 | with_reducible exact keeps_store H.g13 | with_reducible refine keeps_dite ?_ ?_ | (with_reducible refine keeps_each ?_; intro _; (repeat (with_reducible refine keeps_each ?_; intro _)); intro _; dsimp only) | intro _ | exact keeps_pure _

theorem keeps_k0_part272 (H : Held 𝒱 c I arg2 arg3 arg4 arg5 arg6 arg7 arg8 arg9 arg10 arg11 arg12 arg13 arg14 arg15 arg16 arg17 arg18 arg19 arg20 arg21 arg22) (v3 : BitVec 32) (v9 : IVec S256x256 32) (v33 : IVec S256x256 32) (c64_i32_9 : BitVec 32) (v35 : IVec S256x256 32) (v38 : IVec S256x256 32) (v41 : IVec S256x256 32) :
    Keeps defs₀ 𝒱 c I (k0_part272 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v9 v33 c64_i32_9 v35 v38 v41) := by
  delta k0_part272
  repeat' first | extract_lets | with_reducible refine keeps_bind ?_ ?_ | with_reducible exact keeps_load H.l4 | intro _ | exact keeps_pure _

theorem keeps_k0_part273 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (v58 : IVec S256x256 1) (v61 : FVec F S128x256 .f32) (c0_i32_24 : BitVec 32) (c0_i32_25 : BitVec 32) (v83 : BitVec 32) (c1_i32_27 : BitVec 32) :
    Keeps defs₀ 𝒱 c I (k0_part273 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 v58 v61 c0_i32_24 c0_i32_25 v83 c1_i32_27) := by
  delta k0_part273
  repeat' first | extract_lets | with_reducible refine keeps_bind ?_ ?_ | with_reducible exact keeps_k0_part4 H .. | with_reducible exact keeps_k0_part5 H .. | with_reducible exact keeps_k0_part6 H .. | with_reducible exact keeps_k0_part7 H .. | with_reducible exact keeps_k0_part8 H .. | with_reducible exact keeps_k0_part9 H .. | with_reducible exact keeps_k0_part10 H .. | with_reducible exact keeps_k0_part11 H .. | with_reducible exact keeps_k0_part12 H .. | with_reducible exact keeps_k0_part13 H .. | with_reducible exact keeps_k0_part14 H .. | with_reducible exact keeps_k0_part15 H .. | with_reducible exact keeps_k0_part16 H .. | with_reducible exact keeps_k0_part17 H .. | with_reducible exact keeps_k0_part18 H .. | with_reducible exact keeps_k0_part19 H .. | with_reducible exact keeps_load H.l15 | with_reducible exact keeps_load H.l16 | with_reducible exact keeps_load H.l17 | with_reducible exact keeps_store H.g15 | with_reducible exact keeps_store H.g16 | with_reducible exact keeps_store H.g17 | with_reducible refine keeps_for _ _ _ ?_ | with_reducible refine keeps_dite ?_ ?_ | (with_reducible refine keeps_each ?_; intro _; (repeat (with_reducible refine keeps_each ?_; intro _)); intro _; dsimp only) | intro _ | exact keeps_pure _

theorem keeps_k0_part274 (H : Held 𝒱 c I arg2 arg3 arg4 arg5 arg6 arg7 arg8 arg9 arg10 arg11 arg12 arg13 arg14 arg15 arg16 arg17 arg18 arg19 arg20 arg21 arg22) (arg1 : BitVec 32) (v2 : IVec S1x128 1) (v3 : BitVec 32) (v4 : BitVec 32) (v58 : IVec S256x256 1) (v61 : FVec F S128x256 .f32) (v113 : BitVec 32) (v114 : BitVec 32) (v115 : BitVec 1) (v118 : BitVec 1) :
    Keeps defs₀ 𝒱 c I (k0_part274 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg1 v2 v3 v4 v58 v61 v113 v114 v115 v118) := by
  delta k0_part274
  repeat' first | extract_lets | with_reducible refine keeps_bind ?_ ?_ | with_reducible exact keeps_k0_part20 H .. | with_reducible exact keeps_k0_part21 H .. | with_reducible exact keeps_k0_part22 H .. | with_reducible exact keeps_k0_part23 H .. | with_reducible exact keeps_k0_part24 H .. | with_reducible exact keeps_k0_part25 H .. | with_reducible exact keeps_k0_part26 H .. | with_reducible exact keeps_k0_part27 H .. | with_reducible exact keeps_k0_part28 H .. | with_reducible exact keeps_k0_part35 H .. | with_reducible exact keeps_k0_part36 H .. | with_reducible exact keeps_k0_part37 H .. | with_reducible exact keeps_k0_part38 H .. | with_reducible exact keeps_k0_part39 H .. | with_reducible exact keeps_k0_part40 H .. | with_reducible exact keeps_k0_part41 H .. | with_reducible exact keeps_k0_part42 H .. | with_reducible exact keeps_k0_part43 H .. | with_reducible exact keeps_k0_part44 H .. | with_reducible exact keeps_k0_part45 H .. | with_reducible exact keeps_k0_part46 H .. | with_reducible exact keeps_k0_part47 H .. | with_reducible exact keeps_k0_part48 H .. | with_reducible exact keeps_k0_part49 H .. | with_reducible exact keeps_k0_part55 H .. | with_reducible exact keeps_k0_part56 H .. | with_reducible exact keeps_k0_part57 H .. | with_reducible exact keeps_k0_part58 H .. | with_reducible exact keeps_k0_part59 H .. | with_reducible exact keeps_k0_part60 H .. | with_reducible exact keeps_k0_part61 H .. | with_reducible exact keeps_k0_part62 H .. | with_reducible exact keeps_k0_part63 H .. | with_reducible exact keeps_k0_part64 H .. | with_reducible exact keeps_k0_part65 H .. | with_reducible exact keeps_k0_part66 H .. | with_reducible exact keeps_k0_part67 H .. | with_reducible exact keeps_k0_part76 H .. | with_reducible exact keeps_k0_part77 H .. | with_reducible exact keeps_k0_part78 H .. | with_reducible exact keeps_k0_part79 H .. | with_reducible exact keeps_k0_part80 H .. | with_reducible exact keeps_k0_part81 H .. | with_reducible exact keeps_k0_part82 H .. | with_reducible exact keeps_k0_part95 H .. | with_reducible exact keeps_k0_part99 H .. | with_reducible exact keeps_k0_part100 H .. | with_reducible exact keeps_k0_part101 H .. | with_reducible exact keeps_k0_part102 H .. | with_reducible exact keeps_k0_part103 H .. | with_reducible exact keeps_k0_part104 H .. | with_reducible exact keeps_k0_part105 H .. | with_reducible exact keeps_k0_part108 H .. | with_reducible exact keeps_k0_part109 H .. | with_reducible exact keeps_k0_part110 H .. | with_reducible exact keeps_k0_part111 H .. | with_reducible exact keeps_k0_part112 H .. | with_reducible exact keeps_k0_part114 H .. | with_reducible exact keeps_k0_part115 H .. | with_reducible exact keeps_k0_part116 H .. | with_reducible exact keeps_k0_part118 H .. | with_reducible exact keeps_k0_part119 H .. | with_reducible exact keeps_load H.l15 | with_reducible exact keeps_load H.l16 | with_reducible exact keeps_load H.l17 | with_reducible exact keeps_store H.g16 | with_reducible exact keeps_store H.g17 | with_reducible refine keeps_for _ _ _ ?_ | with_reducible refine keeps_dite ?_ ?_ | (with_reducible refine keeps_each ?_; intro _; (repeat (with_reducible refine keeps_each ?_; intro _)); intro _; dsimp only) | intro _ | exact keeps_pure _

theorem keeps_k0_part275 (H : Held 𝒱 c I arg2 arg3 arg4 arg5 arg6 arg7 arg8 arg9 arg10 arg11 arg12 arg13 arg14 arg15 arg16 arg17 arg18 arg19 arg20 arg21 arg22) (v3 : BitVec 32) (v4 : BitVec 32) (v8 : IVec S256x256 32) (v141 : IVec S1x256 32) (v153 : IVec S1x256 1) (v155 : IVec S1x256 1) :
    Keeps defs₀ 𝒱 c I (k0_part275 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v4 v8 v141 v153 v155) := by
  delta k0_part275
  repeat' first | extract_lets | with_reducible refine keeps_bind ?_ ?_ | with_reducible exact keeps_k0_part120 H .. | with_reducible exact keeps_k0_part121 H .. | with_reducible exact keeps_k0_part122 H .. | with_reducible exact keeps_k0_part123 H .. | with_reducible exact keeps_load H.l15 | with_reducible exact keeps_load H.l18 | with_reducible exact keeps_load H.l20 | with_reducible exact keeps_load H.l21 | with_reducible exact keeps_load H.l22 | with_reducible exact keeps_store H.g18 | with_reducible exact keeps_store H.g20 | with_reducible exact keeps_store H.g21 | with_reducible exact keeps_store H.g22 | with_reducible refine keeps_for _ _ _ ?_ | with_reducible refine keeps_ite ?_ ?_ | (with_reducible refine keeps_each ?_; intro _; (repeat (with_reducible refine keeps_each ?_; intro _)); intro _; dsimp only) | intro _ | exact keeps_pure _

theorem keeps_k0_part276 (H : Held 𝒱 c I arg2 arg3 arg4 arg5 arg6 arg7 arg8 arg9 arg10 arg11 arg12 arg13 arg14 arg15 arg16 arg17 arg18 arg19 arg20 arg21 arg22) (v2 : IVec S1x128 1) (v187 : BitVec 32) :
    Keeps defs₀ 𝒱 c I (k0_part276 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v187) := by
  delta k0_part276
  repeat' first | extract_lets | with_reducible refine keeps_bind ?_ ?_ | with_reducible exact keeps_k0_part124 H .. | with_reducible exact keeps_k0_part125 H .. | with_reducible exact keeps_k0_part126 H .. | with_reducible exact keeps_k0_part127 H .. | with_reducible exact keeps_k0_part128 H .. | with_reducible exact keeps_k0_part129 H .. | with_reducible exact keeps_k0_part130 H .. | with_reducible exact keeps_k0_part131 H .. | with_reducible exact keeps_k0_part132 H .. | with_reducible exact keeps_k0_part133 H .. | with_reducible exact keeps_k0_part134 H .. | with_reducible exact keeps_k0_part135 H .. | with_reducible exact keeps_k0_part136 H .. | with_reducible exact keeps_k0_part137 H .. | with_reducible exact keeps_k0_part138 H .. | with_reducible exact keeps_k0_part139 H .. | with_reducible exact keeps_k0_part140 H .. | with_reducible exact keeps_k0_part141 H .. | with_reducible exact keeps_k0_part142 H .. | with_reducible exact keeps_k0_part143 H .. | with_reducible exact keeps_k0_part144 H .. | with_reducible exact keeps_k0_part145 H .. | with_reducible exact keeps_k0_part146 H .. | with_reducible exact keeps_k0_part147 H .. | with_reducible exact keeps_k0_part148 H .. | with_reducible exact keeps_k0_part149 H .. | with_reducible exact keeps_k0_part150 H .. | with_reducible exact keeps_k0_part151 H .. | with_reducible exact keeps_k0_part152 H .. | with_reducible exact keeps_k0_part153 H .. | with_reducible exact keeps_k0_part154 H .. | with_reducible exact keeps_k0_part155 H .. | with_reducible exact keeps_k0_part156 H .. | with_reducible exact keeps_k0_part157 H .. | with_reducible exact keeps_k0_part158 H .. | with_reducible exact keeps_k0_part159 H .. | with_reducible exact keeps_k0_part160 H .. | with_reducible exact keeps_k0_part161 H .. | with_reducible exact keeps_k0_part162 H .. | with_reducible exact keeps_k0_part163 H .. | with_reducible exact keeps_k0_part164 H .. | with_reducible exact keeps_k0_part165 H .. | with_reducible exact keeps_k0_part166 H .. | with_reducible exact keeps_k0_part167 H .. | with_reducible exact keeps_k0_part168 H .. | with_reducible exact keeps_k0_part169 H .. | with_reducible exact keeps_k0_part170 H .. | with_reducible exact keeps_k0_part171 H .. | with_reducible exact keeps_k0_part172 H .. | with_reducible exact keeps_k0_part173 H .. | with_reducible exact keeps_load H.l20 | exact keeps_word H.l9 | with_reducible exact keeps_store H.g20 | with_reducible refine keeps_for _ _ _ ?_ | with_reducible refine keeps_dite ?_ ?_ | (with_reducible refine keeps_each ?_; intro _; (repeat (with_reducible refine keeps_each ?_; intro _)); intro _; dsimp only) | intro _ | exact keeps_pure _

theorem keeps_k0_part277 (H : Held 𝒱 c I arg2 arg3 arg4 arg5 arg6 arg7 arg8 arg9 arg10 arg11 arg12 arg13 arg14 arg15 arg16 arg17 arg18 arg19 arg20 arg21 arg22) (v2 : IVec S1x128 1) (v3 : BitVec 32) (v187 : BitVec 32) (c4_i32_109 : BitVec 32) (c0_i32_110 : BitVec 32) :
    Keeps defs₀ 𝒱 c I (k0_part277 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v2 v3 v187 c4_i32_109 c0_i32_110) := by
  delta k0_part277
  repeat' first | extract_lets | with_reducible refine keeps_bind ?_ ?_ | with_reducible exact keeps_k0_part174 H .. | with_reducible exact keeps_k0_part175 H .. | with_reducible exact keeps_k0_part176 H .. | with_reducible exact keeps_k0_part177 H .. | with_reducible exact keeps_k0_part178 H .. | with_reducible exact keeps_k0_part179 H .. | with_reducible exact keeps_k0_part180 H .. | with_reducible exact keeps_k0_part181 H .. | with_reducible exact keeps_k0_part182 H .. | with_reducible exact keeps_k0_part183 H .. | with_reducible exact keeps_k0_part184 H .. | with_reducible exact keeps_k0_part201 H .. | with_reducible exact keeps_k0_part202 H .. | with_reducible exact keeps_k0_part203 H .. | with_reducible exact keeps_k0_part204 H .. | with_reducible exact keeps_k0_part205 H .. | with_reducible exact keeps_k0_part206 H .. | with_reducible exact keeps_k0_part207 H .. | with_reducible exact keeps_k0_part208 H .. | with_reducible exact keeps_k0_part209 H .. | with_reducible exact keeps_k0_part210 H .. | with_reducible exact keeps_k0_part211 H .. | with_reducible exact keeps_k0_part212 H .. | with_reducible exact keeps_k0_part213 H .. | with_reducible exact keeps_k0_part214 H .. | with_reducible exact keeps_k0_part215 H .. | with_reducible exact keeps_k0_part216 H .. | with_reducible exact keeps_k0_part217 H .. | with_reducible exact keeps_k0_part218 H .. | with_reducible exact keeps_k0_part219 H .. | with_reducible exact keeps_load H.l8 | with_reducible exact keeps_load H.l18 | with_reducible exact keeps_load H.l19 | with_reducible exact keeps_load H.l20 | exact keeps_word H.l9 | with_reducible exact keeps_store H.g19 | with_reducible exact keeps_store H.g20 | with_reducible refine keeps_dite ?_ ?_ | (with_reducible refine keeps_each ?_; intro _; (repeat (with_reducible refine keeps_each ?_; intro _)); intro _; dsimp only) | intro _ | exact keeps_pure _

theorem keeps_k0_part278 (H : Held 𝒱 c I arg2 arg3 arg4 arg5 arg6 arg7 arg8 arg9 arg10 arg11 arg12 arg13 arg14 arg15 arg16 arg17 arg18 arg19 arg20 arg21 arg22) (v3 : BitVec 32) (v187 : BitVec 32) (c2_i32_129 : BitVec 32) (v257 : BitVec 32) (v259 : BitVec 32) (c0_i32_131 : BitVec 32) :
    Keeps defs₀ 𝒱 c I (k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v187 c2_i32_129 v257 v259 c0_i32_131) := by
  delta k0_part278
  repeat' first | extract_lets | with_reducible refine keeps_bind ?_ ?_ | with_reducible exact keeps_k0_part220 H .. | with_reducible exact keeps_k0_part221 H .. | with_reducible exact keeps_k0_part222 H .. | with_reducible exact keeps_k0_part223 H .. | with_reducible exact keeps_k0_part224 H .. | with_reducible exact keeps_k0_part225 H .. | with_reducible exact keeps_k0_part226 H .. | with_reducible exact keeps_k0_part227 H .. | with_reducible exact keeps_k0_part228 H .. | with_reducible exact keeps_k0_part229 H .. | with_reducible exact keeps_k0_part230 H .. | with_reducible exact keeps_k0_part231 H .. | with_reducible exact keeps_k0_part232 H .. | with_reducible exact keeps_k0_part233 H .. | with_reducible exact keeps_k0_part234 H .. | with_reducible exact keeps_k0_part235 H .. | with_reducible exact keeps_k0_part236 H .. | with_reducible exact keeps_k0_part237 H .. | with_reducible exact keeps_k0_part238 H .. | with_reducible exact keeps_k0_part239 H .. | with_reducible exact keeps_k0_part240 H .. | with_reducible exact keeps_k0_part241 H .. | with_reducible exact keeps_k0_part242 H .. | with_reducible exact keeps_k0_part243 H .. | with_reducible exact keeps_k0_part244 H .. | with_reducible exact keeps_k0_part245 H .. | with_reducible exact keeps_k0_part246 H .. | with_reducible exact keeps_k0_part247 H .. | with_reducible exact keeps_k0_part248 H .. | with_reducible exact keeps_k0_part249 H .. | with_reducible exact keeps_k0_part250 H .. | with_reducible exact keeps_k0_part251 H .. | with_reducible exact keeps_k0_part252 H .. | with_reducible exact keeps_k0_part253 H .. | with_reducible exact keeps_k0_part254 H .. | with_reducible exact keeps_k0_part255 H .. | with_reducible exact keeps_k0_part256 H .. | with_reducible exact keeps_k0_part257 H .. | with_reducible exact keeps_k0_part258 H .. | with_reducible exact keeps_k0_part259 H .. | with_reducible exact keeps_k0_part260 H .. | with_reducible exact keeps_k0_part261 H .. | with_reducible exact keeps_k0_part262 H .. | with_reducible exact keeps_k0_part263 H .. | with_reducible exact keeps_k0_part264 H .. | with_reducible exact keeps_load H.l13 | with_reducible exact keeps_load H.l22 | with_reducible exact keeps_store H.g22 | with_reducible refine keeps_for _ _ _ ?_ | with_reducible refine keeps_dite ?_ ?_ | (with_reducible refine keeps_each ?_; intro _; (repeat (with_reducible refine keeps_each ?_; intro _)); intro _; dsimp only) | intro _ | exact keeps_pure _

theorem keeps_k0_part279 (H : Held 𝒱 c I arg2 arg3 arg4 arg5 arg6 arg7 arg8 arg9 arg10 arg11 arg12 arg13 arg14 arg15 arg16 arg17 arg18 arg19 arg20 arg21 arg22) (v3 : BitVec 32) (v184 : IVec S128x1 1) (v297 : BitVec 1) :
    Keeps defs₀ 𝒱 c I (k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v3 v184 v297) := by
  delta k0_part279
  repeat' first | extract_lets | with_reducible refine keeps_bind ?_ ?_ | with_reducible exact keeps_k0_part265 H .. | with_reducible exact keeps_k0_part266 H .. | with_reducible exact keeps_k0_part267 H .. | with_reducible exact keeps_k0_part268 H .. | with_reducible exact keeps_k0_part269 H .. | with_reducible exact keeps_k0_part270 H .. | with_reducible exact keeps_load H.l10 | with_reducible exact keeps_load H.l12 | with_reducible exact keeps_load H.l13 | with_reducible exact keeps_load H.l21 | with_reducible exact keeps_load H.l22 | with_reducible exact keeps_store H.g10 | with_reducible exact keeps_store H.g22 | with_reducible refine keeps_dite ?_ ?_ | (with_reducible refine keeps_each ?_; intro _; (repeat (with_reducible refine keeps_each ?_; intro _)); intro _; dsimp only) | intro _ | exact keeps_pure _

theorem keeps_k0_part280 (H : Held 𝒱 c I arg2 arg3 arg4 arg5 arg6 arg7 arg8 arg9 arg10 arg11 arg12 arg13 arg14 arg15 arg16 arg17 arg18 arg19 arg20 arg21 arg22) (v184 : IVec S128x1 1) (v332 : FVec F S256x128 .f32) :
    Keeps defs₀ 𝒱 c I (k0_part280 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v184 v332) := by
  delta k0_part280
  repeat' first | extract_lets | with_reducible refine keeps_bind ?_ ?_ | with_reducible exact keeps_load H.l10 | with_reducible exact keeps_load H.l21 | with_reducible exact keeps_load H.l22 | with_reducible exact keeps_store H.g10 | intro _ | exact keeps_pure _

theorem keeps_cc0_dsa_t2048 (H : Held 𝒱 c I arg2 arg3 arg4 arg5 arg6 arg7 arg8 arg9 arg10 arg11 arg12 arg13 arg14 arg15 arg16 arg17 arg18 arg19 arg20 arg21 arg22) :
    Keeps defs₀ 𝒱 c I (cc0_dsa_t2048 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  delta cc0_dsa_t2048
  repeat' first | extract_lets | with_reducible refine keeps_bind ?_ ?_ | with_reducible exact keeps_k0_part271 H .. | with_reducible exact keeps_k0_part272 H .. | with_reducible exact keeps_k0_part273 H .. | with_reducible exact keeps_k0_part274 H .. | with_reducible exact keeps_k0_part275 H .. | with_reducible exact keeps_k0_part276 H .. | with_reducible exact keeps_k0_part277 H .. | with_reducible exact keeps_k0_part278 H .. | with_reducible exact keeps_k0_part279 H .. | with_reducible exact keeps_k0_part280 H .. | with_reducible exact keeps_load H.l10 | with_reducible exact keeps_store H.g10 | (with_reducible refine keeps_each ?_; intro _; (repeat (with_reducible refine keeps_each ?_; intro _)); intro _; dsimp only) | intro _ | exact keeps_pure _

end Cert.Dsa.Keep

end
-- ==== Proof.Hold.lean ====
/- What an assertion made of a `∗`-chain lends and gives away: each conjunct that owns a memref, wherever it stands. -/
module

public import proofs.«01_k».proof.Proof.Keeps

@[expose] public section

noncomputable section

namespace Cert.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {c : Thread nD τ} {sp : Space} {s : Shape} {e : EltTy} {m : Memref sig c.2.kind sp s e} {A B : sProp (MT nD τ sig Ix Val Name U Lvl)}

theorem Lends.left (h : Lends c A m) : Lends c (iprop(A ∗ B) : sProp (MT nD τ sig Ix Val Name U Lvl)) m := by
  unfold Lends at h ⊢
  iintro ⟨HA, HB⟩
  ihave H := h $$ HA
  icases H with ⟨%f, H, HK⟩
  iexists f
  isplitl [H]
  · iexact H
  · iintro H
    isplitl [HK H]
    · iapply HK; iexact H
    · iexact HB

theorem Lends.right (h : Lends c B m) : Lends c (iprop(A ∗ B) : sProp (MT nD τ sig Ix Val Name U Lvl)) m := by
  unfold Lends at h ⊢
  iintro ⟨HA, HB⟩
  ihave H := h $$ HB
  icases H with ⟨%f, H, HK⟩
  iexists f
  isplitl [H]
  · iexact H
  · iintro H
    isplitl [HA]
    · iexact HA
    · iapply HK; iexact H

theorem Gives.left (h : Gives c A m) : Gives c (iprop(A ∗ B) : sProp (MT nD τ sig Ix Val Name U Lvl)) m := by
  unfold Gives at h ⊢
  iintro ⟨HA, HB⟩
  ihave H := h $$ HA
  icases H with ⟨H, HK⟩
  isplitl [H]
  · iexact H
  · iintro H
    isplitl [HK H]
    · iapply HK; iexact H
    · iexact HB

theorem Gives.right (h : Gives c B m) : Gives c (iprop(A ∗ B) : sProp (MT nD τ sig Ix Val Name U Lvl)) m := by
  unfold Gives at h ⊢
  iintro ⟨HA, HB⟩
  ihave H := h $$ HB
  icases H with ⟨H, HK⟩
  isplitl [H]
  · iexact H
  · iintro H
    isplitl [HA]
    · iexact HA
    · iapply HK; iexact H

/-- A memref owned at contents `X` is lent: it comes back at the same buffer contents. -/
theorem lends_owns (X : s.Idx → Val e) : Lends c (owns c m fullShare X : sProp 𝕄) m := by
  unfold Lends owns
  iintro ⟨%f, %hf, H⟩
  iexists f
  isplitl [H]
  · iexact H
  · iintro H
    iexists f
    isplitr
    · ipureintro; exact hf
    · iexact H

/-- A memref owned at some contents is given away. -/
theorem gives_owns : Gives c (iprop(∃ X, owns c m fullShare X) : sProp 𝕄) m := by
  unfold Gives some_owned owns
  iintro ⟨%X, %f, %hf, H⟩
  isplitl [H]
  · iexists f; iexact H
  · iintro ⟨%g, H⟩
    iexists (m.view.read Val g)
    iexists g
    isplitr
    · ipureintro; rfl
    · iexact H

/-- A whole buffer owned at some contents is given away. -/
theorem gives_whole (b : Ref sig c.2.kind) :
    Gives c (iprop(∃ f : Buf Val (c.loc b), (c.loc b) ↦{fullShare} f) : sProp 𝕄) (Memref.whole b) := by
  unfold Gives some_owned
  simp only [Memref.view_whole, View.set_whole]
  iintro ⟨%f, H⟩
  isplitl [H]
  · iexists f; iexact H
  · iintro ⟨%g, H⟩
    iexists g
    iexact H

end Cert.Keep

end
-- ==== Proof.DsaFrame.lean ====
/- The sparse layer's attention call runs at every grid point: its body keeps the windows it reads and owns its
   output's buffer and its scratches at some contents, so every branch of its switch, every conditional and every
   loop terminates without a fault and the arguments end as they were. -/
module

public import proofs.«01_k».proof.Proof.Body3
public import proofs.«01_k».proof.Proof.Hold
public import proofs.«01_k».proof.Proof.Gen.Dsa.Frame

@[expose] public section

set_option maxRecDepth 16384

noncomputable section

namespace Cert.Dsa.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Keep Cert.Dsa.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The run's data: every input window keeps its block; of the output, which the run forgets, nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The windows the run forgets: the output. -/
def fgt : Fin 9 → Bool := fun w => w == 8

/-- What the body holds at point `t`, beside `R`. -/
def hold (c : Dev nD) (t : Fin cfg0.N) (R : sProp 𝕄) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ (∃ X, owns (c : Thread nD τ) (st0_8 t) fullShare X)
    ∗ Pipeline.scopedRest (Ix := Unit) (Name := ℕ) (U := UR sig nD τ) (Lvl := ℕ) (Val := Elt F) spec0 c ∗ R)

theorem held (𝒱 : Variants) (c : Dev nD) (t : Fin cfg0.N) (R : sProp 𝕄) :
    Held (F := F) 𝒱 c (hold m c t R) (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) where
  l2 := by unfold hold; exact .left (lends_owns _)
  l3 := by unfold hold; exact .right (.left (lends_owns _))
  l4 := by unfold hold; exact .right (.right (.left (lends_owns _)))
  l5 := by unfold hold; exact .right (.right (.right (.left (lends_owns _))))
  l6 := by unfold hold; exact .right (.right (.right (.right (.left (lends_owns _)))))
  l7 := by unfold hold; exact .right (.right (.right (.right (.right (.left (lends_owns _))))))
  l8 := by unfold hold; exact .right (.right (.right (.right (.right (.right (.left (lends_owns _)))))))
  l9 := by unfold hold; exact .right (.right (.right (.right (.right (.right (.right (.left (lends_owns _))))))))
  g10 := by unfold hold; exact .right (.right (.right (.right (.right (.right (.right (.right (.left gives_owns))))))))
  g11 := by unfold hold; rw [scopedRest0_eq]; exact .right (.right (.right (.right (.right (.right (.right (.right (.right (.left (.left (gives_whole _)))))))))))
  g12 := by unfold hold; rw [scopedRest0_eq]; exact .right (.right (.right (.right (.right (.right (.right (.right (.right (.left (.right (.left (gives_whole _))))))))))))
  g13 := by unfold hold; rw [scopedRest0_eq]; exact .right (.right (.right (.right (.right (.right (.right (.right (.right (.left (.right (.right (.left (gives_whole _)))))))))))))
  g14 := by unfold hold; rw [scopedRest0_eq]; exact .right (.right (.right (.right (.right (.right (.right (.right (.right (.left (.right (.right (.right (.left (gives_whole _))))))))))))))
  g15 := by unfold hold; rw [scopedRest0_eq]; exact .right (.right (.right (.right (.right (.right (.right (.right (.right (.left (.right (.right (.right (.right (.left (gives_whole _)))))))))))))))
  g16 := by unfold hold; rw [scopedRest0_eq]; exact .right (.right (.right (.right (.right (.right (.right (.right (.right (.left (.right (.right (.right (.right (.right (.left (gives_whole _))))))))))))))))
  g17 := by unfold hold; rw [scopedRest0_eq]; exact .right (.right (.right (.right (.right (.right (.right (.right (.right (.left (.right (.right (.right (.right (.right (.right (.left (gives_whole _)))))))))))))))))
  g18 := by unfold hold; rw [scopedRest0_eq]; exact .right (.right (.right (.right (.right (.right (.right (.right (.right (.left (.right (.right (.right (.right (.right (.right (.right (.left (gives_whole _))))))))))))))))))
  g19 := by unfold hold; rw [scopedRest0_eq]; exact .right (.right (.right (.right (.right (.right (.right (.right (.right (.left (.right (.right (.right (.right (.right (.right (.right (.right (.left (gives_whole _)))))))))))))))))))
  g20 := by unfold hold; rw [scopedRest0_eq]; exact .right (.right (.right (.right (.right (.right (.right (.right (.right (.left (.right (.right (.right (.right (.right (.right (.right (.right (.right (.left (gives_whole _))))))))))))))))))))
  g21 := by unfold hold; rw [scopedRest0_eq]; exact .right (.right (.right (.right (.right (.right (.right (.right (.right (.left (.right (.right (.right (.right (.right (.right (.right (.right (.right (.right (.left (gives_whole _)))))))))))))))))))))
  g22 := by unfold hold; rw [scopedRest0_eq]; exact .right (.right (.right (.right (.right (.right (.right (.right (.right (.left (.right (.right (.right (.right (.right (.right (.right (.right (.right (.right (.right (gives_whole _)))))))))))))))))))))

/-- The body at any point: every part of it keeps what is held. -/
theorem keeps_body (𝒱 : Variants) (c : Dev nD) (t : Fin cfg0.N) (R : sProp 𝕄) :
    Keeps (defs₀ (F := F)) 𝒱 (c : Thread nD τ) (hold m c t R) (bodyAt0 t) := by
  unfold bodyAt0
  exact keeps_cc0_dsa_t2048 (held m 𝒱 c t R) ..

theorem row (t : Fin cfg0.N) : defs₀ (F := F) .tc cfg0.body (cfg0.bodyArgs t (cfg0.slots t)) = bodyAt0 t := by
  unfold defs₀; rw [Defs.onTc_tc]

/-- What the body is called with, and what it returns, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

theorem sound (c : Dev nD) (t : Fin cfg0.N) :
    pre m c t ⊢ wp frame (wpE (defs₀ (F := F)) Variants.none c none) Set.univ (bodyAt0 t) (fun _ => post m c t) := by
  have hk := keeps_body m Variants.none c t iprop((∃ r, prngReg c r) ∗ (dats m 0 c).owesAt () t.castSucc)
  unfold Keeps at hk
  have hin : pre m c t ⊢ hold m c t iprop((∃ r, prngReg c r) ∗ (dats m 0 c).owesAt () t.castSucc) := by
    unfold pre hold
    simp only [before_0, before_1, before_2, before_3, before_4, before_5, before_6, before_7]
    rw [show (dats m 0 c).Φ t.castSucc = Pipeline.ΦA spec0 c from rfl]
    unfold Pipeline.ΦA
    iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HP]; · iexact HP
    iexact Ho
  have hout : hold m c t iprop((∃ r, prngReg c r) ∗ (dats m 0 c).owesAt () t.castSucc) ⊢ post m c t := by
    unfold post hold
    rw [show (dats m 0 c).Φ t.succ = Pipeline.ΦA spec0 c from rfl,
      show (dats m 0 c).owesAt () t.succ = (dats m 0 c).owesAt () t.castSucc from rfl,
      after_0, after_1, after_2, after_3, after_4, after_5, after_6, after_7]
    unfold Pipeline.ΦA
    iintro ⟨H0, H1, H2, H3, H4, H5, H6, H7, H8, HS, HP, Ho⟩
    isplitl [HS HP]
    · isplitl [HS]; · iexact HS
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact hin.trans (hk.trans (wp_mono _ _ _ fun _ => hout))

theorem body_obligation (c : Dev nD) : BodyObligation (dats (F := F) m 0 c) (defs₀ (F := F)) Variants.none () Set.univ fgt := fun t => by
  rw [bigSep_W0, bigSep_W0, row]
  exact sound m c t

set_option backward.isDefEq.respectTransparency.types false in
set_option maxHeartbeats 800000 in
/-- The launch: every fair execution terminates with the input arrays as the region found them and every semaphore at zero. -/
theorem run : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the call: it terminates, its arguments end unchanged, and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 7 rfl).trans (V_main_arg7 m c)⟩, h.2⟩) (run m ρ)

end Cert.Dsa.Keep

end
-- ==== Proof.MergeValue.lean ====
module

public import proofs.«01_k».proof.Proof.Gen.MergeIdeal.Value
public import proofs.«01_k».proof.Proof.Gen.MergeReferenceIdeal.Run
public import proofs.«01_k».proof.Proof.Gen.MergeReferenceIdeal.Read
public import Idealize.ShloMosaic.Lib.Pipeline.ValueKit
public import Idealize.ShloMosaic.Lib.Claim

/-! The merge call computes, block of rows by block of rows, what its reference computes on the whole array. -/

@[expose] public section

set_option maxRecDepth 16384

noncomputable section

open Idealize.ShloMosaic Idealize.ShloMosaic.TcCoe Idealize.SL.Sem
open Idealize.ShloMosaic.Pipeline (Dat)
open Cert.MergeReferenceIdeal.Read

namespace Cert.MergeIdeal.Value

open Cert.MergeIdeal Cert.MergeIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem lt_N (t : Fin cfg0.N) : t.val < 64 := t.isLt

/-- The row of the whole array that row `r` of block `t` is. -/
def row (t : Fin cfg0.N) (r : Fin 1024) : Fin 65536 :=
  ⟨1024 * t.val + r.val, by have := lt_N t; have := r.isLt; omega⟩

/-- Column `j` of the slice of a packed array that starts at column `a`. -/
def col {n N : ℕ} (a : ℕ) (h : a + n ≤ N) (j : Fin n) : Fin N := ⟨a + j.val, by have := j.isLt; omega⟩

/-! ## What the windows show -/

theorem read0 (c : Dev nD) (t : Fin cfg0.N) (r : Fin 1024) (k : Fin 1024) :
    iblk m c 0 t (ix2 r k) = m ((c : Thread nD τ).loc main_arg0) (ix2 (row t r) k) := by
  unfold row
  blk_ext [iblk, V, idx t]

theorem read1 (c : Dev nD) (t : Fin cfg0.N) (r : Fin 1024) (k : Fin 512) :
    iblk m c 1 t (ix2 r k) = m ((c : Thread nD τ).loc main_arg1) (ix2 (row t r) k) := by
  unfold row
  blk_ext [iblk, V, idx t]

theorem read2 (c : Dev nD) (t : Fin cfg0.N) (r : Fin 1024) (k : Fin 512) :
    iblk m c 2 t (ix2 r k) = m ((c : Thread nD τ).loc main_arg2) (ix2 (row t r) k) := by
  unfold row
  blk_ext [iblk, V, idx t]

theorem read3 (c : Dev nD) (t : Fin cfg0.N) (y) : iblk m c 3 t y = V m c main_v46 y := by
  blk_ext [iblk, idx t]

theorem read4 (c : Dev nD) (t : Fin cfg0.N) (y) : iblk m c 4 t y = V m c main_v47 y := by
  blk_ext [iblk, idx t]

theorem read5 (c : Dev nD) (t : Fin cfg0.N) (y) : iblk m c 5 t y = V m c main_v48 y := by
  blk_ext [iblk, idx t]

theorem read6 (c : Dev nD) (t : Fin cfg0.N) (y) : iblk m c 6 t y = V m c main_v49 y := by
  blk_ext [iblk, idx t]

theorem read7 (c : Dev nD) (t : Fin cfg0.N) (y) : iblk m c 7 t y = V m c main_v50 y := by
  blk_ext [iblk, idx t]

theorem read8 (c : Dev nD) (t : Fin cfg0.N) (y) : iblk m c 8 t y = V m c main_v51 y := by
  blk_ext [iblk, idx t]

theorem read9 (c : Dev nD) (t : Fin cfg0.N) (y) : iblk m c 9 t y = V m c main_v52 y := by
  blk_ext [iblk, idx t]

theorem emb10 (f : S65536x1024.Idx → EReal) (t : Fin cfg0.N) (y : S1024x1024.Idx) :
    f (((cfg0.win 10).blk t).view.emb y) = f (ix2 (row t (y 0)) (y 1)) := by
  unfold row
  blk_ext [idx t]

/-! ## What the host line leaves in the packed operands -/

theorem entry5 (c : Dev nD) : V m c main_v48
    = (truncf .bf16 (m ((c : Thread nD τ).loc main_arg5) : FVec Ideal S512x1024 .f32) bitsLt_bf16_f32 : FVec Ideal S512x1024 .bf16) := by
  simp only [V, hostOps0, hostOps0_1, hostOps0_2, hostOps0_3, hostOps0_4, List.flatten_cons, List.flatten_nil,
    List.append_nil, List.cons_append, List.nil_append]
  after_results

theorem entry6 (c : Dev nD) : V m c main_v49
    = (truncf .bf16 (m ((c : Thread nD τ).loc main_arg6) : FVec Ideal S512x1024 .f32) bitsLt_bf16_f32 : FVec Ideal S512x1024 .bf16) := by
  simp only [V, hostOps0, hostOps0_1, hostOps0_2, hostOps0_3, hostOps0_4, List.flatten_cons, List.flatten_nil,
    List.append_nil, List.cons_append, List.nil_append]
  after_results

theorem entry7 (c : Dev nD) : V m c main_v50
    = (truncf .bf16 (m ((c : Thread nD τ).loc main_arg7) : FVec Ideal S1024x1024 .f32) bitsLt_bf16_f32 : FVec Ideal S1024x1024 .bf16) := by
  simp only [V, hostOps0, hostOps0_1, hostOps0_2, hostOps0_3, hostOps0_4, List.flatten_cons, List.flatten_nil,
    List.append_nil, List.cons_append, List.nil_append]
  after_results

theorem entry8 (c : Dev nD) : V m c main_v51
    = (shapeCast S1x1024 (m ((c : Thread nD τ).loc main_arg8) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry9 (c : Dev nD) : V m c main_v52
    = (shapeCast S1x1024 (m ((c : Thread nD τ).loc main_arg9) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

/-- The gate weights side by side: the four column ranges of the input weights the call reads. -/
def gatesW (w : FVec Ideal S1024x5832 .f32) : FVec Ideal S1024x3072 .bf16 :=
  shapeCast S1024x3072 (truncf .bf16 (concatenate S1x1024x3072 2
    [⟨S1x1024x512, (extractStridedSlice S1x1024x512 ![0, 0, 1536] (broadcastInDim S1x1024x5832 ![1, 2] bcast_S1024x5832_S1x1024x5832_1_2 w) slices_S1x1024x5832_S1x1024x512_0_0_1536 : FVec Ideal S1x1024x512 .f32)⟩,
     ⟨S1x1024x512, (extractStridedSlice S1x1024x512 ![0, 0, 2688] (broadcastInDim S1x1024x5832 ![1, 2] bcast_S1024x5832_S1x1024x5832_1_2 w) slices_S1x1024x5832_S1x1024x512_0_0_2688 : FVec Ideal S1x1024x512 .f32)⟩,
     ⟨S1x1024x1024, (extractStridedSlice S1x1024x1024 ![0, 0, 3784] (broadcastInDim S1x1024x5832 ![1, 2] bcast_S1024x5832_S1x1024x5832_1_2 w) slices_S1x1024x5832_S1x1024x1024_0_0_3784 : FVec Ideal S1x1024x1024 .f32)⟩,
     ⟨S1x1024x1024, (extractStridedSlice S1x1024x1024 ![0, 0, 4808] (broadcastInDim S1x1024x5832 ![1, 2] bcast_S1024x5832_S1x1024x5832_1_2 w) slices_S1x1024x5832_S1x1024x1024_0_0_4808 : FVec Ideal S1x1024x1024 .f32)⟩]
    concatenates_S1x1024x512_S1x1024x512_S1x1024x1024_S1x1024x1024_S1x1024x3072_d2) bitsLt_bf16_f32) shapeCasts_S1x1024x3072_S1024x3072

/-- The gate biases side by side. -/
def gatesB (b : FVec Ideal S5832 .f32) : FVec Ideal S1x3072 .f32 :=
  shapeCast S1x3072 (broadcastInDim S1x1x3072 ![0, 2] bcast_S1x3072_S1x1x3072_0_2 (concatenate S1x3072 1
    [⟨S1x512, (extractStridedSlice S1x512 ![0, 1536] (broadcastInDim S1x5832 ![1] bcast_S5832_S1x5832_1 b) slices_S1x5832_S1x512_0_1536 : FVec Ideal S1x512 .f32)⟩,
     ⟨S1x512, (extractStridedSlice S1x512 ![0, 2688] (broadcastInDim S1x5832 ![1] bcast_S5832_S1x5832_1 b) slices_S1x5832_S1x512_0_2688 : FVec Ideal S1x512 .f32)⟩,
     ⟨S1x1024, (extractStridedSlice S1x1024 ![0, 3784] (broadcastInDim S1x5832 ![1] bcast_S5832_S1x5832_1 b) slices_S1x5832_S1x1024_0_3784 : FVec Ideal S1x1024 .f32)⟩,
     ⟨S1x1024, (extractStridedSlice S1x1024 ![0, 4808] (broadcastInDim S1x5832 ![1] bcast_S5832_S1x5832_1 b) slices_S1x5832_S1x1024_0_4808 : FVec Ideal S1x1024 .f32)⟩]
    concatenates_S1x512_S1x512_S1x1024_S1x1024_S1x3072_d1)) shapeCasts_S1x1x3072_S1x3072

theorem entry3 (c : Dev nD) : V m c main_v46 = gatesW (m ((c : Thread nD τ).loc main_arg3)) := by
  simp only [V, hostOps0, hostOps0_1, hostOps0_2, hostOps0_3, hostOps0_4, List.flatten_cons, List.flatten_nil,
    List.append_nil, List.cons_append, List.nil_append]
  after_results
  rfl

theorem entry4 (c : Dev nD) : V m c main_v47 = gatesB (m ((c : Thread nD τ).loc main_arg4)) := by
  simp only [V, hostOps0, hostOps0_1, hostOps0_2, hostOps0_3, hostOps0_4, List.flatten_cons, List.flatten_nil,
    List.append_nil, List.cons_append, List.nil_append]
  after_results
  rfl

theorem at_col {n N : ℕ} (w : Fin n → Fin N → EReal) (k : Fin n) {a b : ℕ} (ha : a < N) (hb : b < N) (h : a = b) :
    w k ⟨a, ha⟩ = w k ⟨b, hb⟩ := by subst h; rfl

theorem gatesW_0 (w : FVec Ideal S1024x5832 .f32) (k : Fin 1024) (j : Fin 512) :
    gatesW w (r0_1.emb (ix2 k j)) = w (ix2 k (col 1536 (by norm_num) j)) := by
  have hj := j.isLt
  have e0 : (r0_1.emb (ix2 k j)) 0 = k := Fin.ext (by show 0 + 1 * k.val = k.val; omega)
  have e1 : ((r0_1.emb (ix2 k j)) 1).val = 0 + j.val := by show 0 + 1 * j.val = 0 + j.val; omega
  unfold col
  pointwise [gatesW]
  rw [e0]
  (repeat' split) <;> first | (exfalso; omega) | exact at_col (fun a b => w (ix2 a b)) k _ _ (by omega)

theorem gatesB_0 (b : FVec Ideal S5832 .f32) (j : Fin 512) :
    gatesB b (r0_2.emb (ix2 0 j)) = b (ix1 (col 1536 (by norm_num) j)) := by
  have hj := j.isLt
  have e1 : ((r0_2.emb (ix2 0 j)) 1).val = 0 + j.val := by show 0 + 1 * j.val = 0 + j.val; omega
  unfold col
  pointwise [gatesB]
  (repeat' split) <;> first | (exfalso; omega) | exact at_col (fun (_ : Fin 5832) b' => b (ix1 b')) ⟨0, by norm_num⟩ _ _ (by omega)

theorem gatesW_1 (w : FVec Ideal S1024x5832 .f32) (k : Fin 1024) (j : Fin 512) :
    gatesW w (r0_7.emb (ix2 k j)) = w (ix2 k (col 2688 (by norm_num) j)) := by
  have hj := j.isLt
  have e0 : (r0_7.emb (ix2 k j)) 0 = k := Fin.ext (by show 0 + 1 * k.val = k.val; omega)
  have e1 : ((r0_7.emb (ix2 k j)) 1).val = 512 + j.val := by show 512 + 1 * j.val = 512 + j.val; omega
  unfold col
  pointwise [gatesW]
  rw [e0]
  (repeat' split) <;> first | (exfalso; omega) | exact at_col (fun a b => w (ix2 a b)) k _ _ (by omega)

theorem gatesB_1 (b : FVec Ideal S5832 .f32) (j : Fin 512) :
    gatesB b (r0_8.emb (ix2 0 j)) = b (ix1 (col 2688 (by norm_num) j)) := by
  have hj := j.isLt
  have e1 : ((r0_8.emb (ix2 0 j)) 1).val = 512 + j.val := by show 512 + 1 * j.val = 512 + j.val; omega
  unfold col
  pointwise [gatesB]
  (repeat' split) <;> first | (exfalso; omega) | exact at_col (fun (_ : Fin 5832) b' => b (ix1 b')) ⟨0, by norm_num⟩ _ _ (by omega)

theorem gatesW_2 (w : FVec Ideal S1024x5832 .f32) (k : Fin 1024) (j : Fin 1024) :
    gatesW w (r0_4.emb (ix2 k j)) = w (ix2 k (col 3784 (by norm_num) j)) := by
  have hj := j.isLt
  have e0 : (r0_4.emb (ix2 k j)) 0 = k := Fin.ext (by show 0 + 1 * k.val = k.val; omega)
  have e1 : ((r0_4.emb (ix2 k j)) 1).val = 1024 + j.val := by show 1024 + 1 * j.val = 1024 + j.val; omega
  unfold col
  pointwise [gatesW]
  rw [e0]
  (repeat' split) <;> first | (exfalso; omega) | exact at_col (fun a b => w (ix2 a b)) k _ _ (by omega)

theorem gatesB_2 (b : FVec Ideal S5832 .f32) (j : Fin 1024) :
    gatesB b (r0_5.emb (ix2 0 j)) = b (ix1 (col 3784 (by norm_num) j)) := by
  have hj := j.isLt
  have e1 : ((r0_5.emb (ix2 0 j)) 1).val = 1024 + j.val := by show 1024 + 1 * j.val = 1024 + j.val; omega
  unfold col
  pointwise [gatesB]
  (repeat' split) <;> first | (exfalso; omega) | exact at_col (fun (_ : Fin 5832) b' => b (ix1 b')) ⟨0, by norm_num⟩ _ _ (by omega)

theorem gatesW_3 (w : FVec Ideal S1024x5832 .f32) (k : Fin 1024) (j : Fin 1024) :
    gatesW w (r0_9.emb (ix2 k j)) = w (ix2 k (col 4808 (by norm_num) j)) := by
  have hj := j.isLt
  have e0 : (r0_9.emb (ix2 k j)) 0 = k := Fin.ext (by show 0 + 1 * k.val = k.val; omega)
  have e1 : ((r0_9.emb (ix2 k j)) 1).val = 2048 + j.val := by show 2048 + 1 * j.val = 2048 + j.val; omega
  unfold col
  pointwise [gatesW]
  rw [e0]
  (repeat' split) <;> first | (exfalso; omega) | exact at_col (fun a b => w (ix2 a b)) k _ _ (by omega)

theorem gatesB_3 (b : FVec Ideal S5832 .f32) (j : Fin 1024) :
    gatesB b (r0_10.emb (ix2 0 j)) = b (ix1 (col 4808 (by norm_num) j)) := by
  have hj := j.isLt
  have e1 : ((r0_10.emb (ix2 0 j)) 1).val = 2048 + j.val := by show 2048 + 1 * j.val = 2048 + j.val; omega
  unfold col
  pointwise [gatesB]
  (repeat' split) <;> first | (exfalso; omega) | exact at_col (fun (_ : Fin 5832) b' => b (ix1 b')) ⟨0, by norm_num⟩ _ _ (by omega)

/-! ## The payloads, row by row -/

section payloads

variable (R : Fin 1024 → Fin 65536)

theorem pay3_eq (v0 : Vec Ideal S1024x1024 .f32) (v2 : Vec Ideal S1024x512 .bf16) (v5 : Vec Ideal S1x512 .f32)
    (v9 : Vec Ideal S1024x512 .f32) (x0 x1 x3 x4) (h0 : ∀ r k, v0 (ix2 r k) = x0 (ix2 (R r) k))
    (h9 : ∀ r k, v9 (ix2 r k) = x1 (ix2 (R r) k)) (h2 : ∀ k j, v2 (ix2 k j) = x3 (ix2 k (col 1536 (by norm_num) j)))
    (h5 : ∀ j, v5 (ix2 0 j) = x4 (ix1 (col 1536 (by norm_num) j))) (r : Fin 1024) (j : Fin 512) :
    k0_pay3 v0 v2 v5 v9 (ix2 r j) = val_main_v18 x0 x1 x3 x4 (ix2 (R r) j) := by
  unfold col at h2 h5
  pointwise [k0_pay3, k0_pay2, val_main_v18, val_main_v17, val_main_v7, val_main_v3, val_main_v0, val_main_v1, val_main_v2, val_main_call0_v0, val_main_call0_v1, val_main_call0_v2, val_main_call0_v3, val_main_call0_v4, val_main_call0_v5, val_main_call0_cst, val_main_call0_cst_0]
  simp only [h0, h2, h5, h9, zero_sub]

theorem pay4_eq (v0 : Vec Ideal S1024x1024 .f32) (v20 : Vec Ideal S1024x1024 .bf16) (v23 : Vec Ideal S1x1024 .f32)
    (x0 x3 x4) (h0 : ∀ r k, v0 (ix2 r k) = x0 (ix2 (R r) k))
    (h2 : ∀ k j, v20 (ix2 k j) = x3 (ix2 k (col 3784 (by norm_num) j)))
    (h5 : ∀ j, v23 (ix2 0 j) = x4 (ix1 (col 3784 (by norm_num) j))) (r j : Fin 1024) :
    k0_pay4 v0 v20 v23 (ix2 r j) = val_main_v26 x0 x3 x4 (ix2 (R r) j) := by
  unfold col at h2 h5
  pointwise [k0_pay4, k0_pay2, val_main_v26, val_main_v25, val_main_v24, val_main_v23, val_main_v22, val_main_v21, val_main_v15, val_main_cst, val_main_cst_0, val_main_v3, val_main_v0, val_main_v1, val_main_v2]
  simp only [h0, h2, h5, zero_sub]

theorem row_of (v : FVec Ideal S1024 .f32) (j : Fin 1024) :
    (shapeCast S1x1024 v shapeCasts_S1024_S1x1024 : FVec Ideal S1x1024 .f32) (ix2 0 j) = v (ix1 j) := by
  pointwise []

theorem pay5_eq (v : Vec Ideal S512x1024 .bf16) (k : Fin 512) (j : Fin 1024) : k0_pay5 v (ix2 k j) = v (ix2 k j) := by
  pointwise [k0_pay5]

theorem pay6_eq (v1 : FVec Ideal S1024x1024 .bf16) (v19 : FVec Ideal S1024x512 .bf16) (v33 : FVec Ideal S1024x1024 .f32)
    (v35 : FVec Ideal S512x1024 .bf16) (v38 : Vec Ideal S1024x512 .bf16) (v41 : Vec Ideal S1x512 .f32) (v45 : Vec Ideal S1024x512 .f32)
    (v56 : Vec Ideal S1024x1024 .bf16) (v59 : Vec Ideal S1x1024 .f32) (v70 : Vec Ideal S512x1024 .bf16)
    (x0 x1 x2 x3 x4 x5 x6) (h0 : ∀ r k, v1 (ix2 r k) = x0 (ix2 (R r) k))
    (h19 : ∀ r k, v19 (ix2 r k) = val_main_v18 x0 x1 x3 x4 (ix2 (R r) k))
    (h33 : ∀ r k, v33 (ix2 r k) = val_main_v26 x0 x3 x4 (ix2 (R r) k))
    (h35 : ∀ k j, v35 (ix2 k j) = x5 (ix2 k j)) (h70 : ∀ k j, v70 (ix2 k j) = x6 (ix2 k j))
    (h38 : ∀ k j, v38 (ix2 k j) = x3 (ix2 k (col 2688 (by norm_num) j)))
    (h41 : ∀ j, v41 (ix2 0 j) = x4 (ix1 (col 2688 (by norm_num) j)))
    (h45 : ∀ r k, v45 (ix2 r k) = x2 (ix2 (R r) k))
    (h56 : ∀ k j, v56 (ix2 k j) = x3 (ix2 k (col 4808 (by norm_num) j)))
    (h59 : ∀ j, v59 (ix2 0 j) = x4 (ix1 (col 4808 (by norm_num) j))) (r j : Fin 1024) :
    k0_pay6 v1 v19 v33 v35 (constant S1024x1024 .f32 0x00000000#32) v38 v41 v45 v56 v59 v70 (ix2 r j)
      = val_main_v37 x0 x1 x2 x3 x4 x5 x6 (ix2 (R r) j) := by
  unfold col at h38 h41 h56 h59
  pointwise [k0_pay6, val_main_v37, val_main_v28, val_main_v27, val_main_v36, val_main_v35, val_main_v34, val_main_v33, val_main_v32, val_main_v31, val_main_v30, val_main_v29, val_main_v16, val_main_v20, val_main_v19, val_main_v11, val_main_cst_1, val_main_cst_2, val_main_v3, val_main_v0, val_main_v1, val_main_v2, val_main_call1_v0, val_main_call1_v1, val_main_call1_v2, val_main_call1_v3, val_main_call1_v4, val_main_call1_v5, val_main_call1_cst, val_main_call1_cst_0]
  simp only [h0, h19, h33, h35, h70, h38, h41, h45, h56, h59, zero_sub]

theorem pay1_eq (v0 v74 : FVec Ideal S1024x1024 .f32) (v78 : Vec Ideal S1024x1024 .bf16) (v82 v84 : Vec Ideal S1x1024 .f32)
    (x0 x1 x2 x3 x4 x5 x6 x7 x8 x9) (h0 : ∀ r k, v0 (ix2 r k) = x0 (ix2 (R r) k))
    (h74 : ∀ r k, v74 (ix2 r k) = val_main_v37 x0 x1 x2 x3 x4 x5 x6 (ix2 (R r) k))
    (h78 : ∀ k j, v78 (ix2 k j) = x7 (ix2 k j)) (h82 : ∀ j, v82 (ix2 0 j) = x8 (ix1 j)) (h84 : ∀ j, v84 (ix2 0 j) = x9 (ix1 j))
    (r j : Fin 1024) :
    k0_pay1 v0 v74 v78 v82 v84 (ix2 r j) = val_main_v65 x0 x1 x2 x3 x4 x5 x6 x7 x8 x9 (ix2 (R r) j) := by
  pointwise [k0_pay1, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_cst_3, val_main_cst_4, val_main_cst_5, val_main_cst_6, val_main_cst_7, val_main_cst_8]
  simp only [h0, h74, h78, h82, h84]

end payloads

/-! ## The call's result -/

/-- The reference's result on the arrays the call was given. -/
abbrev REF (c : Dev nD) : S65536x1024.Idx → EReal :=
  val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

set_option maxHeartbeats 1000000 in
theorem point (c : Dev nD) (t : Fin cfg0.N) (y : S1024x1024.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = REF m c (((cfg0.win 10).blk t).view.emb y) := by
  rw [emb10 (REF m c) t y]
  unfold out0_10
  frame_out
  have hy : y = ix2 (y 0) (y 1) := by funext a; fin_cases a <;> rfl
  generalize (y 0 : Fin 1024) = r at hy
  generalize (y 1 : Fin 1024) = j at hy
  subst hy
  refine pay1_eq (row t) _ _ _ _ _ _ _ _ _ _ _ _ _ _ _ (read0 m c t) (fun r k => pay6_eq (row t) _ _ _ _ _ _ _ _ _ _ _ _ _ _ _ _ _ (read0 m c t)
    (fun r k => pay3_eq (row t) _ _ _ _ _ _ _ _ (read0 m c t) (read1 m c t) ?_ ?_ r k)
    (fun r k => pay4_eq (row t) _ _ _ _ _ _ (read0 m c t) ?_ ?_ r k) ?_ ?_ ?_ ?_ (read2 m c t) ?_ ?_ r k) ?_ ?_ ?_ r j
  · intro k j; exact (read3 m c t _).trans (by rw [entry3]; exact gatesW_0 _ k j)
  · intro j; exact (read4 m c t _).trans (by rw [entry4]; exact gatesB_0 _ j)
  · intro k j; exact (read3 m c t _).trans (by rw [entry3]; exact gatesW_2 _ k j)
  · intro j; exact (read4 m c t _).trans (by rw [entry4]; exact gatesB_2 _ j)
  · intro k j; exact (pay5_eq _ k j).trans ((read5 m c t _).trans (by rw [entry5]; rfl))
  · intro k j; exact (read6 m c t _).trans (by rw [entry6]; rfl)
  · intro k j; exact (read3 m c t _).trans (by rw [entry3]; exact gatesW_1 _ k j)
  · intro j; exact (read4 m c t _).trans (by rw [entry4]; exact gatesB_1 _ j)
  · intro k j; exact (read3 m c t _).trans (by rw [entry3]; exact gatesW_3 _ k j)
  · intro j; exact (read4 m c t _).trans (by rw [entry4]; exact gatesB_3 _ j)
  · intro k j; exact (read7 m c t _).trans (by rw [entry7]; rfl)
  · intro j; exact (read8 m c t _).trans (by rw [entry8]; exact row_of _ j)
  · intro j; exact (read9 m c t _).trans (by rw [entry9]; exact row_of _ j)

theorem final (c : Dev nD) : (dats m 0 c).arrAt 10 (cfgs 0).N = REF m c := by
  refine (dats m 0 c).arrAt_eq_of_covers 10 _ (by decide +kernel) fun t _ y => ?_
  blk_simp
  rw [after0_10]
  exact point m c t y

end Cert.MergeIdeal.Value

end
-- ==== Proof.MergeClaim.lean ====
module

public import proofs.«01_k».proof.Defs
public import proofs.«01_k».proof.Proof.Gen.Merge.Frame
public import proofs.«01_k».proof.Proof.MergeValue
public import Idealize.ShloMosaic.Lib.Quiescent

/-! The four programs of the merge call: each keeps its arguments, and the idealized kernel and the idealized
    reference end with the same array. -/

@[expose] public section

noncomputable section

namespace Cert.MergeClaim

open Idealize.ShloMosaic Idealize.SL.Sem

theorem kernel : quiescent_Merge (hMerge := Cert.Merge.Gen.facts) := fun m ρ _ => Cert.Merge.Gen.frame m ρ

theorem ideal : quiescent_MergeIdeal (hMergeIdeal := Cert.MergeIdeal.Gen.facts) :=
  fun m ρ _ => Cert.MergeIdeal.Gen.frame m ρ

theorem reference : quiescent_MergeReferenceIdeal (hMergeReferenceIdeal := Cert.MergeReferenceIdeal.Gen.facts) :=
  fun m ρ _ => (θ_run _ _ _).mono (fun r h => ⟨fun c => (h c).2, sem_eq_zero_of_no_sems rfl r.2⟩)
    (Cert.MergeReferenceIdeal.Value.run m ρ)

/-- What the kernel's last array is, and what the reference's last array is: one function of the arguments. -/
theorem same : algebraic_MergeIdeal_MergeReferenceIdeal (hMergeIdeal := Cert.MergeIdeal.Gen.facts)
    (hMergeReferenceIdeal := Cert.MergeReferenceIdeal.Gen.facts) := by
  intro m g m' g' _ hagree
  refine ⟨fun c => Cert.MergeIdeal.Value.REF m c, ?_, ?_⟩
  · exact (θ_run _ _ _).mono (fun r h c => ⟨(h c).1.trans (Cert.MergeIdeal.Value.final m c), (h c).2⟩)
      (Cert.MergeIdeal.Value.run_blocks m g)
  · refine (θ_run _ _ _).mono (fun r h c => ⟨(h c).1.trans ?_, (h c).2⟩) (Cert.MergeReferenceIdeal.Value.run m' g')
    obtain ⟨h0, h1, h2, h3, h4, h5, h6, h7, h8, h9⟩ := hagree c
    rw [Cert.MergeReferenceIdeal.Read.val_main_v65_eq, h0, h1, h2, h3, h4, h5, h6, h7, h8, h9]

end Cert.MergeClaim

end
-- ==== Proof.ProjFrame.lean ====
module

public import proofs.«01_k».proof.Defs
public import proofs.«01_k».proof.Proof.Gen.Proj.Frame
public import proofs.«01_k».proof.Proof.Gen.ProjIdeal.Frame
public import proofs.«01_k».proof.Proof.Gen.ProjReferenceIdeal.Run
public import Idealize.ShloMosaic.Lib.Quiescent

/-! The three programs of the projection call keep their arguments. -/

@[expose] public section

noncomputable section

namespace Cert.ProjFrame

open Idealize.ShloMosaic Idealize.SL.Sem

theorem kernel : quiescent_Proj (hProj := Cert.Proj.Gen.facts) := fun m ρ _ => Cert.Proj.Gen.frame m ρ

theorem ideal : quiescent_ProjIdeal (hProjIdeal := Cert.ProjIdeal.Gen.facts) :=
  fun m ρ _ => Cert.ProjIdeal.Gen.frame m ρ

theorem reference : quiescent_ProjReferenceIdeal (hProjReferenceIdeal := Cert.ProjReferenceIdeal.Gen.facts) :=
  fun m ρ _ => (θ_run _ _ _).mono (fun r h => ⟨fun c => (h c).2.2.2.2.2.2.2.2.2.2.2.2.2, sem_eq_zero_of_no_sems rfl r.2⟩)
    (Cert.ProjReferenceIdeal.Value.run m ρ)

end Cert.ProjFrame

end
-- ==== Proof.ProjPack.lean ====
module

public import proofs.«01_k».proof.Proof.Gen.ProjIdeal.Value
public import proofs.«01_k».proof.Proof.Gen.ProjReferenceIdeal.Run
public import proofs.«01_k».proof.Proof.Gen.ProjReferenceIdeal.Read
public import Idealize.ShloMosaic.Lib.Pipeline.ValueKit
public import Idealize.ShloMosaic.Lib.Claim

/-! The projection call: what its windows show, and what its host line packs beside one another. -/

@[expose] public section

set_option maxRecDepth 16384

noncomputable section

open Idealize.ShloMosaic Idealize.ShloMosaic.TcCoe Idealize.SL.Sem
open Idealize.ShloMosaic.Pipeline (Dat)
open Cert.ProjReferenceIdeal.Read

namespace Cert.ProjIdeal.Value

open Cert.ProjIdeal Cert.ProjIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

theorem lt_N (t : Fin cfg0.N) : t.val < 64 := t.isLt

/-- The row of the whole array that row `r` of block `t` is. -/
def row (t : Fin cfg0.N) (r : Fin 1024) : Fin 65536 :=
  ⟨1024 * t.val + r.val, by have := lt_N t; have := r.isLt; omega⟩

/-- Column `j` of the slice of a packed array that starts at column `a`. -/
def col {n N : ℕ} (a : ℕ) (h : a + n ≤ N) (j : Fin n) : Fin N := ⟨a + j.val, by have := j.isLt; omega⟩

/-- Column `j` of a slice of 64 columns laid down twice. -/
def twice {N : ℕ} (a : ℕ) (h : a + 64 ≤ N) (j : Fin 128) : Fin N := ⟨a + j.val % 64, by have := j.isLt; omega⟩

theorem at_col {n N : ℕ} (w : Fin n → Fin N → EReal) (k : Fin n) {a b : ℕ} (ha : a < N) (hb : b < N) (h : a = b) :
    w k ⟨a, ha⟩ = w k ⟨b, hb⟩ := by subst h; rfl

/-! ## What the windows show -/

theorem read0 (c : Dev nD) (t : Fin cfg0.N) (r : Fin 1024) (k : Fin 1024) :
    iblk m c 0 t (ix2 r k) = V m c main_v46 (ix2 (row t r) k) := by
  unfold row
  blk_ext [iblk, idx t]

theorem read1 (c : Dev nD) (t : Fin cfg0.N) (y) : iblk m c 1 t y = V m c main_v49 y := by
  blk_ext [iblk, idx t]

theorem read2 (c : Dev nD) (t : Fin cfg0.N) (y) : iblk m c 2 t y = V m c main_v50 y := by
  blk_ext [iblk, idx t]

theorem read3 (c : Dev nD) (t : Fin cfg0.N) (y) : iblk m c 3 t y = V m c main_v47 y := by
  blk_ext [iblk, idx t]

theorem read4 (c : Dev nD) (t : Fin cfg0.N) (y) : iblk m c 4 t y = V m c main_v48 y := by
  blk_ext [iblk, idx t]

theorem emb5 (f : S65536x512.Idx → EReal) (t : Fin cfg0.N) (y : S1024x512.Idx) :
    f (((cfg0.win 5).blk t).view.emb y) = f (ix2 (row t (y 0)) (y 1)) := by
  unfold row
  blk_ext [idx t]

theorem emb6 (f : S65536x512.Idx → EReal) (t : Fin cfg0.N) (y : S1024x512.Idx) :
    f (((cfg0.win 6).blk t).view.emb y) = f (ix2 (row t (y 0)) (y 1)) := by
  unfold row
  blk_ext [idx t]

theorem emb7 (f : S65536x512.Idx → EReal) (t : Fin cfg0.N) (y : S1024x512.Idx) :
    f (((cfg0.win 7).blk t).view.emb y) = f (ix2 (row t (y 0)) (y 1)) := by
  unfold row
  blk_ext [idx t]

theorem emb8 (f : S65536x128.Idx → EReal) (t : Fin cfg0.N) (y : S1024x128.Idx) :
    f (((cfg0.win 8).blk t).view.emb y) = f (ix2 (row t (y 0)) (y 1)) := by
  unfold row
  blk_ext [idx t]

theorem emb9 (f : S65536x128.Idx → EReal) (t : Fin cfg0.N) (y : S1024x128.Idx) :
    f (((cfg0.win 9).blk t).view.emb y) = f (ix2 (row t (y 0)) (y 1)) := by
  unfold row
  blk_ext [idx t]

theorem emb10 (f : S65536x128.Idx → EReal) (t : Fin cfg0.N) (y : S1024x128.Idx) :
    f (((cfg0.win 10).blk t).view.emb y) = f (ix2 (row t (y 0)) (y 1)) := by
  unfold row
  blk_ext [idx t]

theorem emb11 (f : S65536x128.Idx → EReal) (t : Fin cfg0.N) (y : S1024x128.Idx) :
    f (((cfg0.win 11).blk t).view.emb y) = f (ix2 (row t (y 0)) (y 1)) := by
  unfold row
  blk_ext [idx t]

theorem emb12 (f : S65536x512.Idx → EReal) (t : Fin cfg0.N) (y : S1024x512.Idx) :
    f (((cfg0.win 12).blk t).view.emb y) = f (ix2 (row t (y 0)) (y 1)) := by
  unfold row
  blk_ext [idx t]

theorem emb13 (f : S65536x512.Idx → EReal) (t : Fin cfg0.N) (y : S1024x512.Idx) :
    f (((cfg0.win 13).blk t).view.emb y) = f (ix2 (row t (y 0)) (y 1)) := by
  unfold row
  blk_ext [idx t]

theorem emb14 (f : S65536x64.Idx → EReal) (t : Fin cfg0.N) (y : S1024x64.Idx) :
    f (((cfg0.win 14).blk t).view.emb y) = f (ix2 (row t (y 0)) (y 1)) := by
  unfold row
  blk_ext [idx t]

theorem emb15 (f : S65536x64.Idx → EReal) (t : Fin cfg0.N) (y : S1024x64.Idx) :
    f (((cfg0.win 15).blk t).view.emb y) = f (ix2 (row t (y 0)) (y 1)) := by
  unfold row
  blk_ext [idx t]

theorem emb16 (f : S65536x64.Idx → EReal) (t : Fin cfg0.N) (y : S1024x64.Idx) :
    f (((cfg0.win 16).blk t).view.emb y) = f (ix2 (row t (y 0)) (y 1)) := by
  unfold row
  blk_ext [idx t]

theorem emb17 (f : S65536x1024.Idx → EReal) (t : Fin cfg0.N) (y : S1024x1024.Idx) :
    f (((cfg0.win 17).blk t).view.emb y) = f (ix2 (row t (y 0)) (y 1)) := by
  unfold row
  blk_ext [idx t]

/-! ## What the host line leaves in the operands -/

theorem entry0 (c : Dev nD) : V m c main_v46
    = (shapeCast S65536x1024 (m ((c : Thread nD τ).loc main_arg0) : FVec Ideal S32x2048x1024 .f32) shapeCasts_S32x2048x1024_S65536x1024 : FVec Ideal S65536x1024 .f32) := by
  simp only [V, hostOps0, hostOps0_1, hostOps0_2, hostOps0_3, hostOps0_4, List.flatten_cons, List.flatten_nil,
    List.append_nil, List.cons_append, List.nil_append]
  after_results
  rfl

theorem entry1 (c : Dev nD) : V m c main_v49
    = (shapeCast S1x1024 (m ((c : Thread nD τ).loc main_arg1) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry2 (c : Dev nD) : V m c main_v50
    = (shapeCast S1x1024 (m ((c : Thread nD τ).loc main_arg2) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

/-- The attention weights side by side, the queries' columns scaled, the shared heads' columns laid down twice. -/
def catW (w : FVec Ideal S1024x5832 .f32) : FVec Ideal S1x1024x3072 .f32 :=
  concatenate S1x1024x3072 2
    [⟨S1x1024x512, (mulf (extractStridedSlice S1x1024x512 ![0, 0, 0] (broadcastInDim S1x1024x5832 ![1, 2] bcast_S1024x5832_S1x1024x5832_1_2 w) slices_S1x1024x5832_S1x1024x512_0_0_0 : FVec Ideal S1x1024x512 .f32) (broadcastInDim S1x1024x512 ![] bcast_S_S1x1024x512 (constant S_ .f32 0x3E38AA3B#32)) : FVec Ideal S1x1024x512 .f32)⟩,
     ⟨S1x1024x512, (extractStridedSlice S1x1024x512 ![0, 0, 512] (broadcastInDim S1x1024x5832 ![1, 2] bcast_S1024x5832_S1x1024x5832_1_2 w) slices_S1x1024x5832_S1x1024x512_0_0_512 : FVec Ideal S1x1024x512 .f32)⟩,
     ⟨S1x1024x512, (extractStridedSlice S1x1024x512 ![0, 0, 1024] (broadcastInDim S1x1024x5832 ![1, 2] bcast_S1024x5832_S1x1024x5832_1_2 w) slices_S1x1024x5832_S1x1024x512_0_0_1024 : FVec Ideal S1x1024x512 .f32)⟩,
     ⟨S1x1024x512, (mulf (extractStridedSlice S1x1024x512 ![0, 0, 2048] (broadcastInDim S1x1024x5832 ![1, 2] bcast_S1024x5832_S1x1024x5832_1_2 w) slices_S1x1024x5832_S1x1024x512_0_0_2048 : FVec Ideal S1x1024x512 .f32) (broadcastInDim S1x1024x512 ![] bcast_S_S1x1024x512 (constant S_ .f32 0x3E38AA3B#32)) : FVec Ideal S1x1024x512 .f32)⟩,
     ⟨S1x1024x512, (extractStridedSlice S1x1024x512 ![0, 0, 3200] (broadcastInDim S1x1024x5832 ![1, 2] bcast_S1024x5832_S1x1024x5832_1_2 w) slices_S1x1024x5832_S1x1024x512_0_0_3200 : FVec Ideal S1x1024x512 .f32)⟩,
     ⟨S1x1024x64, (extractStridedSlice S1x1024x64 ![0, 0, 2560] (broadcastInDim S1x1024x5832 ![1, 2] bcast_S1024x5832_S1x1024x5832_1_2 w) slices_S1x1024x5832_S1x1024x64_0_0_2560 : FVec Ideal S1x1024x64 .f32)⟩,
     ⟨S1x1024x64, (extractStridedSlice S1x1024x64 ![0, 0, 2560] (broadcastInDim S1x1024x5832 ![1, 2] bcast_S1024x5832_S1x1024x5832_1_2 w) slices_S1x1024x5832_S1x1024x64_0_0_2560 : FVec Ideal S1x1024x64 .f32)⟩,
     ⟨S1x1024x64, (extractStridedSlice S1x1024x64 ![0, 0, 2624] (broadcastInDim S1x1024x5832 ![1, 2] bcast_S1024x5832_S1x1024x5832_1_2 w) slices_S1x1024x5832_S1x1024x64_0_0_2624 : FVec Ideal S1x1024x64 .f32)⟩,
     ⟨S1x1024x64, (extractStridedSlice S1x1024x64 ![0, 0, 2624] (broadcastInDim S1x1024x5832 ![1, 2] bcast_S1024x5832_S1x1024x5832_1_2 w) slices_S1x1024x5832_S1x1024x64_0_0_2624 : FVec Ideal S1x1024x64 .f32)⟩,
     ⟨S1x1024x64, (extractStridedSlice S1x1024x64 ![0, 0, 3712] (broadcastInDim S1x1024x5832 ![1, 2] bcast_S1024x5832_S1x1024x5832_1_2 w) slices_S1x1024x5832_S1x1024x64_0_0_3712 : FVec Ideal S1x1024x64 .f32)⟩,
     ⟨S1x1024x64, (extractStridedSlice S1x1024x64 ![0, 0, 3712] (broadcastInDim S1x1024x5832 ![1, 2] bcast_S1024x5832_S1x1024x5832_1_2 w) slices_S1x1024x5832_S1x1024x64_0_0_3712 : FVec Ideal S1x1024x64 .f32)⟩,
     ⟨S1x1024x128, (pad S1x1024x128 ![0, 0, 0] ![0, 0, 120] ![0, 0, 0] (extractStridedSlice S1x1024x8 ![0, 0, 3776] (broadcastInDim S1x1024x5832 ![1, 2] bcast_S1024x5832_S1x1024x5832_1_2 w) slices_S1x1024x5832_S1x1024x8_0_0_3776 : FVec Ideal S1x1024x8 .f32) (sitofp .f32 (constantI S_ 32 0#32) : FVec Ideal S_ .f32) pads_S1x1024x8_S1x1024x128_000_000_01200 h_S_ : FVec Ideal S1x1024x128 .f32)⟩]
    concatenates_S1x1024x512_S1x1024x512_S1x1024x512_S1x1024x512_S1x1024x512_S1x1024x64_S1x1024x64_S1x1024x64_S1x1024x64_S1x1024x64_S1x1024x64_S1x1024x128_S1x1024x3072_d2

/-- The same as the window holds it: one matrix, rounded. -/
def attW (w : FVec Ideal S1024x5832 .f32) : FVec Ideal S1024x3072 .bf16 :=
  shapeCast S1024x3072 (truncf .bf16 (catW w) bitsLt_bf16_f32) shapeCasts_S1x1024x3072_S1024x3072

/-- The attention biases side by side, likewise. -/
def catB (b : FVec Ideal S5832 .f32) : FVec Ideal S1x3072 .f32 :=
  concatenate S1x3072 1
    [⟨S1x512, (mulf (extractStridedSlice S1x512 ![0, 0] (broadcastInDim S1x5832 ![1] bcast_S5832_S1x5832_1 b) slices_S1x5832_S1x512_0_0 : FVec Ideal S1x512 .f32) (broadcastInDim S1x512 ![] bcast_S_S1x512 (constant S_ .f32 0x3E38AA3B#32)) : FVec Ideal S1x512 .f32)⟩,
     ⟨S1x512, (extractStridedSlice S1x512 ![0, 512] (broadcastInDim S1x5832 ![1] bcast_S5832_S1x5832_1 b) slices_S1x5832_S1x512_0_512 : FVec Ideal S1x512 .f32)⟩,
     ⟨S1x512, (extractStridedSlice S1x512 ![0, 1024] (broadcastInDim S1x5832 ![1] bcast_S5832_S1x5832_1 b) slices_S1x5832_S1x512_0_1024 : FVec Ideal S1x512 .f32)⟩,
     ⟨S1x512, (mulf (extractStridedSlice S1x512 ![0, 2048] (broadcastInDim S1x5832 ![1] bcast_S5832_S1x5832_1 b) slices_S1x5832_S1x512_0_2048 : FVec Ideal S1x512 .f32) (broadcastInDim S1x512 ![] bcast_S_S1x512 (constant S_ .f32 0x3E38AA3B#32)) : FVec Ideal S1x512 .f32)⟩,
     ⟨S1x512, (extractStridedSlice S1x512 ![0, 3200] (broadcastInDim S1x5832 ![1] bcast_S5832_S1x5832_1 b) slices_S1x5832_S1x512_0_3200 : FVec Ideal S1x512 .f32)⟩,
     ⟨S1x64, (extractStridedSlice S1x64 ![0, 2560] (broadcastInDim S1x5832 ![1] bcast_S5832_S1x5832_1 b) slices_S1x5832_S1x64_0_2560 : FVec Ideal S1x64 .f32)⟩,
     ⟨S1x64, (extractStridedSlice S1x64 ![0, 2560] (broadcastInDim S1x5832 ![1] bcast_S5832_S1x5832_1 b) slices_S1x5832_S1x64_0_2560 : FVec Ideal S1x64 .f32)⟩,
     ⟨S1x64, (extractStridedSlice S1x64 ![0, 2624] (broadcastInDim S1x5832 ![1] bcast_S5832_S1x5832_1 b) slices_S1x5832_S1x64_0_2624 : FVec Ideal S1x64 .f32)⟩,
     ⟨S1x64, (extractStridedSlice S1x64 ![0, 2624] (broadcastInDim S1x5832 ![1] bcast_S5832_S1x5832_1 b) slices_S1x5832_S1x64_0_2624 : FVec Ideal S1x64 .f32)⟩,
     ⟨S1x64, (extractStridedSlice S1x64 ![0, 3712] (broadcastInDim S1x5832 ![1] bcast_S5832_S1x5832_1 b) slices_S1x5832_S1x64_0_3712 : FVec Ideal S1x64 .f32)⟩,
     ⟨S1x64, (extractStridedSlice S1x64 ![0, 3712] (broadcastInDim S1x5832 ![1] bcast_S5832_S1x5832_1 b) slices_S1x5832_S1x64_0_3712 : FVec Ideal S1x64 .f32)⟩,
     ⟨S1x128, (pad S1x128 ![0, 0] ![0, 120] ![0, 0] (extractStridedSlice S1x8 ![0, 3776] (broadcastInDim S1x5832 ![1] bcast_S5832_S1x5832_1 b) slices_S1x5832_S1x8_0_3776 : FVec Ideal S1x8 .f32) (sitofp .f32 (constantI S_ 32 0#32) : FVec Ideal S_ .f32) pads_S1x8_S1x128_000_01200 h_S_ : FVec Ideal S1x128 .f32)⟩]
    concatenates_S1x512_S1x512_S1x512_S1x512_S1x512_S1x64_S1x64_S1x64_S1x64_S1x64_S1x64_S1x128_S1x3072_d1

/-- The same as the window holds it. -/
def attB (b : FVec Ideal S5832 .f32) : FVec Ideal S1x3072 .f32 :=
  shapeCast S1x3072 (broadcastInDim S1x1x3072 ![0, 2] bcast_S1x3072_S1x1x3072_0_2 (catB b)) shapeCasts_S1x1x3072_S1x3072

theorem entry3 (c : Dev nD) : V m c main_v47 = attW (m ((c : Thread nD τ).loc main_arg3)) := by
  simp only [V, hostOps0, hostOps0_1, hostOps0_2, hostOps0_3, hostOps0_4, List.flatten_cons, List.flatten_nil,
    List.append_nil, List.cons_append, List.nil_append]
  after_results
  rfl

theorem entry4 (c : Dev nD) : V m c main_v48 = attB (m ((c : Thread nD τ).loc main_arg4)) := by
  simp only [V, hostOps0, hostOps0_1, hostOps0_2, hostOps0_3, hostOps0_4, List.flatten_cons, List.flatten_nil,
    List.append_nil, List.cons_append, List.nil_append]
  after_results
  rfl

end Cert.ProjIdeal.Value

end
-- ==== Proof.ProjCols.lean ====
module

public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.ProjPack
public import Idealize.ShloMosaic.Lib.Pipeline.ValueKit
public import Idealize.ShloMosaic.Lib.Claim

/-! The projection call: which columns of the weights and biases the packed arrays hold, and how. -/

@[expose] public section

set_option maxRecDepth 16384

noncomputable section

open Idealize.ShloMosaic Idealize.ShloMosaic.TcCoe Idealize.SL.Sem
open Idealize.ShloMosaic.Pipeline (Dat)
open Cert.ProjReferenceIdeal.Read

namespace Cert.ProjIdeal.Value

open Cert.ProjIdeal Cert.ProjIdeal.Gen

/-- The factor folded into the two query heads' weights and biases. -/
abbrev qscale : EReal := Ideal.ofBits FTy.f32 0x3E38AA3B#32

/-- What the padded columns hold: the zero of the padding. -/
abbrev padding : EReal := FloatOps.sitofp (F := Ideal) FTy.f32 0#32

/-- A matrix laid side by side with others under a leading axis of one, read in its own columns. -/
theorem piece3 {n : ℕ} (xs : List ((s : Shape) × (s.Idx → EReal))) (h : Shape.Concatenates (xs.map (·.1)) S1x1024x3072 2)
    (i : ℕ) (hi : i < xs.length) (x : (⟨3, ![1, 1024, n]⟩ : Shape).Idx → EReal) (hx : xs[i] = ⟨⟨3, ![1, 1024, n]⟩, x⟩) (pre : ℕ)
    (hpre : (((xs.take i).map (·.1)).map fun s => if h : s.rank = 3 then s.size ((2 : Fin 3).cast h.symm) else 0).sum = pre)
    (k : Fin 1024) (j : Fin n) (c : Fin 3072) (hc : pre + j.val = c.val) :
    concatenate S1x1024x3072 2 xs h (ix3 0 k c) = x (ix3 0 k j) :=
  concatenate_apply_piece (t := S1x1024x3072) 2 xs h _ i hi _ x hx rfl pre hpre (ix3 0 k j)
    (fun b hb => by fin_cases b <;> first | rfl | exact absurd rfl hb) hc

/-- The same for a row. -/
theorem piece2 {n : ℕ} (xs : List ((s : Shape) × (s.Idx → EReal))) (h : Shape.Concatenates (xs.map (·.1)) S1x3072 1)
    (i : ℕ) (hi : i < xs.length) (x : (⟨2, ![1, n]⟩ : Shape).Idx → EReal) (hx : xs[i] = ⟨⟨2, ![1, n]⟩, x⟩) (pre : ℕ)
    (hpre : (((xs.take i).map (·.1)).map fun s => if h : s.rank = 2 then s.size ((1 : Fin 2).cast h.symm) else 0).sum = pre)
    (j : Fin n) (c : Fin 3072) (hc : pre + j.val = c.val) :
    concatenate S1x3072 1 xs h (ix2 0 c) = x (ix2 0 j) :=
  concatenate_apply_piece (t := S1x3072) 1 xs h _ i hi _ x hx rfl pre hpre (ix2 0 j)
    (fun b hb => by fin_cases b <;> first | rfl | exact absurd rfl hb) hc

theorem attW_at (w : FVec Ideal S1024x5832 .f32) (k : Fin 1024) (c : Fin 3072) : attW w (ix2 k c) = catW w (ix3 0 k c) := by
  pointwise [attW]

theorem attB_at (b : FVec Ideal S5832 .f32) (c : Fin 3072) : attB b (ix2 0 c) = catB b (ix2 0 c) := by
  pointwise [attB]

theorem emb_qaW (k : Fin 1024) (j : Fin 512) : r0_2.emb (ix2 k j) = ix2 k (col 0 (by norm_num) j) := by
  funext a
  fin_cases a
  · exact Fin.ext (by show 0 + 1 * k.val = k.val; omega)
  · exact Fin.ext (by show 0 + 1 * j.val = 0 + j.val; omega)

theorem attW_qa (w : FVec Ideal S1024x5832 .f32) (k : Fin 1024) (j : Fin 512) :
    attW w (r0_2.emb (ix2 k j)) = w (ix2 k (col 0 (by norm_num) j)) * qscale := by
  rw [emb_qaW, attW_at]
  refine (piece3 _ _ 0 (by simp) _ rfl 0 rfl k j _ rfl).trans ?_
  unfold col
  pointwise []

theorem emb_qaB (j : Fin 512) : r0_3.emb (ix2 0 j) = ix2 0 (col 0 (by norm_num) j) := by
  funext a
  fin_cases a
  · exact Fin.ext (by rfl)
  · exact Fin.ext (by show 0 + 1 * j.val = 0 + j.val; omega)

theorem attB_qa (w : FVec Ideal S5832 .f32) (j : Fin 512) :
    attB w (r0_3.emb (ix2 0 j)) = w (ix1 (col 0 (by norm_num) j)) * qscale := by
  rw [emb_qaB, attB_at]
  refine (piece2 _ _ 0 (by simp) _ rfl 0 rfl j _ rfl).trans ?_
  unfold col
  pointwise []

theorem emb_kaW (k : Fin 1024) (j : Fin 512) : r0_5.emb (ix2 k j) = ix2 k (col 512 (by norm_num) j) := by
  funext a
  fin_cases a
  · exact Fin.ext (by show 0 + 1 * k.val = k.val; omega)
  · exact Fin.ext (by show 512 + 1 * j.val = 512 + j.val; omega)

theorem attW_ka (w : FVec Ideal S1024x5832 .f32) (k : Fin 1024) (j : Fin 512) :
    attW w (r0_5.emb (ix2 k j)) = w (ix2 k (col 512 (by norm_num) j)) := by
  rw [emb_kaW, attW_at]
  refine (piece3 _ _ 1 (by simp) _ rfl 512 rfl k j _ rfl).trans ?_
  unfold col
  pointwise []

theorem emb_kaB (j : Fin 512) : r0_6.emb (ix2 0 j) = ix2 0 (col 512 (by norm_num) j) := by
  funext a
  fin_cases a
  · exact Fin.ext (by rfl)
  · exact Fin.ext (by show 512 + 1 * j.val = 512 + j.val; omega)

theorem attB_ka (w : FVec Ideal S5832 .f32) (j : Fin 512) :
    attB w (r0_6.emb (ix2 0 j)) = w (ix1 (col 512 (by norm_num) j)) := by
  rw [emb_kaB, attB_at]
  refine (piece2 _ _ 1 (by simp) _ rfl 512 rfl j _ rfl).trans ?_
  unfold col
  pointwise []

theorem emb_vaW (k : Fin 1024) (j : Fin 512) : r0_7.emb (ix2 k j) = ix2 k (col 1024 (by norm_num) j) := by
  funext a
  fin_cases a
  · exact Fin.ext (by show 0 + 1 * k.val = k.val; omega)
  · exact Fin.ext (by show 1024 + 1 * j.val = 1024 + j.val; omega)

theorem attW_va (w : FVec Ideal S1024x5832 .f32) (k : Fin 1024) (j : Fin 512) :
    attW w (r0_7.emb (ix2 k j)) = w (ix2 k (col 1024 (by norm_num) j)) := by
  rw [emb_vaW, attW_at]
  refine (piece3 _ _ 2 (by simp) _ rfl 1024 rfl k j _ rfl).trans ?_
  unfold col
  pointwise []

theorem emb_vaB (j : Fin 512) : r0_8.emb (ix2 0 j) = ix2 0 (col 1024 (by norm_num) j) := by
  funext a
  fin_cases a
  · exact Fin.ext (by rfl)
  · exact Fin.ext (by show 1024 + 1 * j.val = 1024 + j.val; omega)

theorem attB_va (w : FVec Ideal S5832 .f32) (j : Fin 512) :
    attB w (r0_8.emb (ix2 0 j)) = w (ix1 (col 1024 (by norm_num) j)) := by
  rw [emb_vaB, attB_at]
  refine (piece2 _ _ 2 (by simp) _ rfl 1024 rfl j _ rfl).trans ?_
  unfold col
  pointwise []

theorem emb_qbW (k : Fin 1024) (j : Fin 512) : r0_9.emb (ix2 k j) = ix2 k (col 1536 (by norm_num) j) := by
  funext a
  fin_cases a
  · exact Fin.ext (by show 0 + 1 * k.val = k.val; omega)
  · exact Fin.ext (by show 1536 + 1 * j.val = 1536 + j.val; omega)

theorem attW_qb (w : FVec Ideal S1024x5832 .f32) (k : Fin 1024) (j : Fin 512) :
    attW w (r0_9.emb (ix2 k j)) = w (ix2 k (col 2048 (by norm_num) j)) * qscale := by
  rw [emb_qbW, attW_at]
  refine (piece3 _ _ 3 (by simp) _ rfl 1536 rfl k j _ rfl).trans ?_
  unfold col
  pointwise []

theorem emb_qbB (j : Fin 512) : r0_10.emb (ix2 0 j) = ix2 0 (col 1536 (by norm_num) j) := by
  funext a
  fin_cases a
  · exact Fin.ext (by rfl)
  · exact Fin.ext (by show 1536 + 1 * j.val = 1536 + j.val; omega)

theorem attB_qb (w : FVec Ideal S5832 .f32) (j : Fin 512) :
    attB w (r0_10.emb (ix2 0 j)) = w (ix1 (col 2048 (by norm_num) j)) * qscale := by
  rw [emb_qbB, attB_at]
  refine (piece2 _ _ 3 (by simp) _ rfl 1536 rfl j _ rfl).trans ?_
  unfold col
  pointwise []

theorem emb_qiW (k : Fin 1024) (j : Fin 512) : r0_11.emb (ix2 k j) = ix2 k (col 2048 (by norm_num) j) := by
  funext a
  fin_cases a
  · exact Fin.ext (by show 0 + 1 * k.val = k.val; omega)
  · exact Fin.ext (by show 2048 + 1 * j.val = 2048 + j.val; omega)

theorem attW_qi (w : FVec Ideal S1024x5832 .f32) (k : Fin 1024) (j : Fin 512) :
    attW w (r0_11.emb (ix2 k j)) = w (ix2 k (col 3200 (by norm_num) j)) := by
  rw [emb_qiW, attW_at]
  refine (piece3 _ _ 4 (by simp) _ rfl 2048 rfl k j _ rfl).trans ?_
  unfold col
  pointwise []

theorem emb_qiB (j : Fin 512) : r0_12.emb (ix2 0 j) = ix2 0 (col 2048 (by norm_num) j) := by
  funext a
  fin_cases a
  · exact Fin.ext (by rfl)
  · exact Fin.ext (by show 2048 + 1 * j.val = 2048 + j.val; omega)

theorem attB_qi (w : FVec Ideal S5832 .f32) (j : Fin 512) :
    attB w (r0_12.emb (ix2 0 j)) = w (ix1 (col 3200 (by norm_num) j)) := by
  rw [emb_qiB, attB_at]
  refine (piece2 _ _ 4 (by simp) _ rfl 2048 rfl j _ rfl).trans ?_
  unfold col
  pointwise []

theorem emb_kbW (k : Fin 1024) (j : Fin 128) : r0_13.emb (ix2 k j) = ix2 k (col 2560 (by norm_num) j) := by
  funext a
  fin_cases a
  · exact Fin.ext (by show 0 + 1 * k.val = k.val; omega)
  · exact Fin.ext (by show 2560 + 1 * j.val = 2560 + j.val; omega)

theorem attW_kb (w : FVec Ideal S1024x5832 .f32) (k : Fin 1024) (j : Fin 128) :
    attW w (r0_13.emb (ix2 k j)) = w (ix2 k (twice 2560 (by norm_num) j)) := by
  rw [emb_kbW, attW_at]
  have hj := j.isLt
  by_cases h : j.val < 64
  · refine (piece3 _ _ 5 (by simp) _ rfl 2560 rfl k (⟨j.val, h⟩ : Fin 64) _ rfl).trans ?_
    unfold twice
    pointwise []
    exact at_col (n := 1024) (fun a b => w (ix2 a b)) k _ _ (by omega)
  · refine (piece3 _ _ 6 (by simp) _ rfl 2624 rfl k (⟨j.val - 64, by omega⟩ : Fin 64) _
      (by show 2624 + (j.val - 64) = 2560 + j.val; omega)).trans ?_
    unfold twice
    pointwise []
    exact at_col (n := 1024) (fun a b => w (ix2 a b)) k _ _ (by omega)

theorem emb_kbB (j : Fin 128) : r0_14.emb (ix2 0 j) = ix2 0 (col 2560 (by norm_num) j) := by
  funext a
  fin_cases a
  · exact Fin.ext (by rfl)
  · exact Fin.ext (by show 2560 + 1 * j.val = 2560 + j.val; omega)

theorem attB_kb (w : FVec Ideal S5832 .f32) (j : Fin 128) :
    attB w (r0_14.emb (ix2 0 j)) = w (ix1 (twice 2560 (by norm_num) j)) := by
  rw [emb_kbB, attB_at]
  have hj := j.isLt
  by_cases h : j.val < 64
  · refine (piece2 _ _ 5 (by simp) _ rfl 2560 rfl (⟨j.val, h⟩ : Fin 64) _ rfl).trans ?_
    unfold twice
    pointwise []
    exact at_col (n := 1) (fun a b => w (ix1 b)) 0 _ _ (by omega)
  · refine (piece2 _ _ 6 (by simp) _ rfl 2624 rfl (⟨j.val - 64, by omega⟩ : Fin 64) _
      (by show 2624 + (j.val - 64) = 2560 + j.val; omega)).trans ?_
    unfold twice
    pointwise []
    exact at_col (n := 1) (fun a b => w (ix1 b)) 0 _ _ (by omega)

theorem emb_vbW (k : Fin 1024) (j : Fin 128) : r0_17.emb (ix2 k j) = ix2 k (col 2688 (by norm_num) j) := by
  funext a
  fin_cases a
  · exact Fin.ext (by show 0 + 1 * k.val = k.val; omega)
  · exact Fin.ext (by show 2688 + 1 * j.val = 2688 + j.val; omega)

theorem attW_vb (w : FVec Ideal S1024x5832 .f32) (k : Fin 1024) (j : Fin 128) :
    attW w (r0_17.emb (ix2 k j)) = w (ix2 k (twice 2624 (by norm_num) j)) := by
  rw [emb_vbW, attW_at]
  have hj := j.isLt
  by_cases h : j.val < 64
  · refine (piece3 _ _ 7 (by simp) _ rfl 2688 rfl k (⟨j.val, h⟩ : Fin 64) _ rfl).trans ?_
    unfold twice
    pointwise []
    exact at_col (n := 1024) (fun a b => w (ix2 a b)) k _ _ (by omega)
  · refine (piece3 _ _ 8 (by simp) _ rfl 2752 rfl k (⟨j.val - 64, by omega⟩ : Fin 64) _
      (by show 2752 + (j.val - 64) = 2688 + j.val; omega)).trans ?_
    unfold twice
    pointwise []
    exact at_col (n := 1024) (fun a b => w (ix2 a b)) k _ _ (by omega)

theorem emb_vbB (j : Fin 128) : r0_18.emb (ix2 0 j) = ix2 0 (col 2688 (by norm_num) j) := by
  funext a
  fin_cases a
  · exact Fin.ext (by rfl)
  · exact Fin.ext (by show 2688 + 1 * j.val = 2688 + j.val; omega)

theorem attB_vb (w : FVec Ideal S5832 .f32) (j : Fin 128) :
    attB w (r0_18.emb (ix2 0 j)) = w (ix1 (twice 2624 (by norm_num) j)) := by
  rw [emb_vbB, attB_at]
  have hj := j.isLt
  by_cases h : j.val < 64
  · refine (piece2 _ _ 7 (by simp) _ rfl 2688 rfl (⟨j.val, h⟩ : Fin 64) _ rfl).trans ?_
    unfold twice
    pointwise []
    exact at_col (n := 1) (fun a b => w (ix1 b)) 0 _ _ (by omega)
  · refine (piece2 _ _ 8 (by simp) _ rfl 2752 rfl (⟨j.val - 64, by omega⟩ : Fin 64) _
      (by show 2752 + (j.val - 64) = 2688 + j.val; omega)).trans ?_
    unfold twice
    pointwise []
    exact at_col (n := 1) (fun a b => w (ix1 b)) 0 _ _ (by omega)

theorem emb_kiW (k : Fin 1024) (j : Fin 128) : r0_19.emb (ix2 k j) = ix2 k (col 2816 (by norm_num) j) := by
  funext a
  fin_cases a
  · exact Fin.ext (by show 0 + 1 * k.val = k.val; omega)
  · exact Fin.ext (by show 2816 + 1 * j.val = 2816 + j.val; omega)

theorem attW_ki (w : FVec Ideal S1024x5832 .f32) (k : Fin 1024) (j : Fin 128) :
    attW w (r0_19.emb (ix2 k j)) = w (ix2 k (twice 3712 (by norm_num) j)) := by
  rw [emb_kiW, attW_at]
  have hj := j.isLt
  by_cases h : j.val < 64
  · refine (piece3 _ _ 9 (by simp) _ rfl 2816 rfl k (⟨j.val, h⟩ : Fin 64) _ rfl).trans ?_
    unfold twice
    pointwise []
    exact at_col (n := 1024) (fun a b => w (ix2 a b)) k _ _ (by omega)
  · refine (piece3 _ _ 10 (by simp) _ rfl 2880 rfl k (⟨j.val - 64, by omega⟩ : Fin 64) _
      (by show 2880 + (j.val - 64) = 2816 + j.val; omega)).trans ?_
    unfold twice
    pointwise []
    exact at_col (n := 1024) (fun a b => w (ix2 a b)) k _ _ (by omega)

theorem emb_kiB (j : Fin 128) : r0_20.emb (ix2 0 j) = ix2 0 (col 2816 (by norm_num) j) := by
  funext a
  fin_cases a
  · exact Fin.ext (by rfl)
  · exact Fin.ext (by show 2816 + 1 * j.val = 2816 + j.val; omega)

theorem attB_ki (w : FVec Ideal S5832 .f32) (j : Fin 128) :
    attB w (r0_20.emb (ix2 0 j)) = w (ix1 (twice 3712 (by norm_num) j)) := by
  rw [emb_kiB, attB_at]
  have hj := j.isLt
  by_cases h : j.val < 64
  · refine (piece2 _ _ 9 (by simp) _ rfl 2816 rfl (⟨j.val, h⟩ : Fin 64) _ rfl).trans ?_
    unfold twice
    pointwise []
    exact at_col (n := 1) (fun a b => w (ix1 b)) 0 _ _ (by omega)
  · refine (piece2 _ _ 10 (by simp) _ rfl 2880 rfl (⟨j.val - 64, by omega⟩ : Fin 64) _
      (by show 2880 + (j.val - 64) = 2816 + j.val; omega)).trans ?_
    unfold twice
    pointwise []
    exact at_col (n := 1) (fun a b => w (ix1 b)) 0 _ _ (by omega)

theorem emb_wiW (k : Fin 1024) (j : Fin 128) : r0_21.emb (ix2 k j) = ix2 k (col 2944 (by norm_num) j) := by
  funext a
  fin_cases a
  · exact Fin.ext (by show 0 + 1 * k.val = k.val; omega)
  · exact Fin.ext (by show 2944 + 1 * j.val = 2944 + j.val; omega)

theorem attW_wi (w : FVec Ideal S1024x5832 .f32) (k : Fin 1024) (j : Fin 128) :
    attW w (r0_21.emb (ix2 k j)) = if h : j.val < 8 then w (ix2 k (⟨3776 + j.val, by omega⟩ : Fin 5832)) else padding := by
  rw [emb_wiW, attW_at]
  refine (piece3 _ _ 11 (by simp) _ rfl 2944 rfl k j _ rfl).trans ?_
  skip
  pointwise []

theorem emb_wiB (j : Fin 128) : r0_22.emb (ix2 0 j) = ix2 0 (col 2944 (by norm_num) j) := by
  funext a
  fin_cases a
  · exact Fin.ext (by rfl)
  · exact Fin.ext (by show 2944 + 1 * j.val = 2944 + j.val; omega)

theorem attB_wi (w : FVec Ideal S5832 .f32) (j : Fin 128) :
    attB w (r0_22.emb (ix2 0 j)) = if h : j.val < 8 then w (ix1 (⟨3776 + j.val, by omega⟩ : Fin 5832)) else padding := by
  rw [emb_wiB, attB_at]
  refine (piece2 _ _ 11 (by simp) _ rfl 2944 rfl j _ rfl).trans ?_
  skip
  pointwise []

end Cert.ProjIdeal.Value

end
-- ==== Proof.ProjPays.lean ====
module

public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.ProjCols
public import Idealize.ShloMosaic.Lib.Pipeline.ValueKit
public import Idealize.ShloMosaic.Lib.Claim

/-! The projection call: each stored block is the reference's rows, given what the blocks read. -/

@[expose] public section

set_option maxRecDepth 16384

noncomputable section

open Idealize.ShloMosaic Idealize.ShloMosaic.TcCoe Idealize.SL.Sem
open Idealize.ShloMosaic.Pipeline (Dat)
open Cert.ProjReferenceIdeal.Read

namespace Cert.ProjIdeal.Value

open Cert.ProjIdeal Cert.ProjIdeal.Gen

/-- The factor's word is this fraction. -/
theorem qscale_eq : qscale = (((12102203 : ℝ) / 67108864 : ℝ) : EReal) := by
  simp [qscale, Ideal.ofBits, Ideal.ieee, -EReal.coe_mul]
  norm_num

theorem qscale_nonneg : 0 ≤ qscale := by
  rw [qscale_eq]
  exact EReal.coe_nonneg.mpr (by norm_num)

theorem qscale_ne_top : qscale ≠ ⊤ := by
  rw [qscale_eq]
  exact EReal.coe_ne_top _

theorem padding_eq : padding = 0 := by
  show ((((0#32 : BitVec 32).toInt : ℤ) : ℝ) : EReal) = 0
  simp

/-- A finite non-negative factor comes out of a sum, whatever the terms. -/
theorem sum_scale {n : ℕ} (s : EReal) (h0 : 0 ≤ s) (ht : s ≠ ⊤) (f : Fin n → EReal) : ∑ k, f k * s = (∑ k, f k) * s := by
  induction n with
  | zero => simp
  | succ n ih => rw [Fin.sum_univ_succ, Fin.sum_univ_succ, ih, EReal.right_distrib_of_nonneg_of_ne_top h0 ht]

/-- A projection with a finite non-negative factor folded into its weights and bias is the projection times it. -/
theorem fold_scale {n : ℕ} (s : EReal) (h0 : 0 ≤ s) (ht : s ≠ ⊤) (h w : Fin n → EReal) (b : EReal) :
    ∑ k, h k * (w k * s) + b * s = (∑ k, h k * w k + b) * s := by
  rw [EReal.right_distrib_of_nonneg_of_ne_top h0 ht, ← sum_scale s h0 ht]
  exact congrArg (· + b * s) (Finset.sum_congr rfl fun k _ => (mul_assoc _ _ _).symm)

section payloads
variable (R : Fin 1024 → Fin 65536)

theorem pay5_eq (v0 : Vec Ideal S1024x1024 .f32) (v2 v4 : Vec Ideal S1x1024 .f32) (x0 x1 x2)
    (h0 : ∀ r k, v0 (ix2 r k) = val_main_v0 (F := Ideal) x0 (ix2 (R r) k)) (h1 : ∀ k, v2 (ix2 0 k) = x1 (ix1 k))
    (h2 : ∀ k, v4 (ix2 0 k) = x2 (ix1 k)) (r j : Fin 1024) :
    k0_pay5 v0 v2 v4 (ix2 r j) = val_main_v24 (F := Ideal) x0 x1 x2 (ix2 (R r) j) := by
  pointwise [k0_pay5, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3]
  simp only [h0, h1, h2]

theorem pay6_eq (v0 : Vec Ideal S1024x1024 .f32) (v2 v4 : Vec Ideal S1x1024 .f32) (x0 x1 x2)
    (h0 : ∀ r k, v0 (ix2 r k) = val_main_v0 (F := Ideal) x0 (ix2 (R r) k)) (h1 : ∀ k, v2 (ix2 0 k) = x1 (ix1 k))
    (h2 : ∀ k, v4 (ix2 0 k) = x2 (ix1 k)) (r j : Fin 1024) :
    k0_pay6 v0 v2 v4 (ix2 r j) = val_main_v24 (F := Ideal) x0 x1 x2 (ix2 (R r) j) := by
  pointwise [k0_pay6]
  exact pay5_eq R v0 v2 v4 x0 x1 x2 h0 h1 h2 r j

theorem out5_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 0 (by norm_num) j)) * qscale)
    (hb : ∀ j : Fin 512, vb (ix2 0 j) = x4 (ix1 (col 0 (by norm_num) j)) * qscale)
    (r : Fin 1024) (j : Fin 512) :
    k0_pay10 v27 vw vb (ix2 r j) = val_main_v44 (F := Ideal) x0 x1 x2 x3 x4 (ix2 (R r) j) := by
  unfold col at hw hb
  pointwise [k0_pay10, val_main_v44, val_main_v43, val_main_v42, val_main_v29, val_main_cst_4, val_main_v28, val_main_v27, val_main_v26, val_main_v25]
  simp only [hv, hw, hb, zero_add]
  exact fold_scale qscale qscale_nonneg qscale_ne_top _ (fun k => x3 (ix2 k ⟨j.val, by omega⟩)) _

theorem out6_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 2048 (by norm_num) j)) * qscale)
    (hb : ∀ j : Fin 512, vb (ix2 0 j) = x4 (ix1 (col 2048 (by norm_num) j)) * qscale)
    (r : Fin 1024) (j : Fin 512) :
    k0_pay10 v27 vw vb (ix2 r j) = val_main_v47 (F := Ideal) x0 x1 x2 x3 x4 (ix2 (R r) j) := by
  unfold col at hw hb
  pointwise [k0_pay10, val_main_v47, val_main_v46, val_main_v45, val_main_v33, val_main_cst_5, val_main_v28, val_main_v27, val_main_v26, val_main_v25]
  simp only [hv, hw, hb]
  exact fold_scale qscale qscale_nonneg qscale_ne_top _ (fun k => x3 (ix2 k ⟨2048 + j.val, by omega⟩)) _

theorem out7_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 3200 (by norm_num) j)))
    (hb : ∀ j : Fin 512, vb (ix2 0 j) = x4 (ix1 (col 3200 (by norm_num) j)))
    (r : Fin 1024) (j : Fin 512) :
    k0_pay13 (k0_pay11 v27 vw) (k0_pay12 vb) (ix2 r j) = val_main_v48 (F := Ideal) x0 x1 x2 x3 x4 (ix2 (R r) j) := by
  unfold col at hw hb
  pointwise [k0_pay13, k0_pay11, k0_pay12, val_main_v48, val_main_v37, val_main_v28, val_main_v27, val_main_v26, val_main_v25]
  simp only [hv, hw, hb]

theorem out8_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2560 (by norm_num) j)))
    (hb : ∀ j : Fin 128, vb (ix2 0 j) = x4 (ix1 (twice 2560 (by norm_num) j)))
    (r : Fin 1024) (j : Fin 128) :
    k0_pay15 v27 vw vb (ix2 r j) = val_main_v50 (F := Ideal) x0 x1 x2 x3 x4 (ix2 (R r) j) := by
  unfold twice at hw hb
  have hj := j.isLt
  pointwise [k0_pay15, k0_pay14, val_main_v50, val_main_v49, val_main_v34, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out9_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2624 (by norm_num) j)))
    (hb : ∀ j : Fin 128, vb (ix2 0 j) = x4 (ix1 (twice 2624 (by norm_num) j)))
    (r : Fin 1024) (j : Fin 128) :
    k0_pay18 v27 vw vb (ix2 r j) = val_main_v52 (F := Ideal) x0 x1 x2 x3 x4 (ix2 (R r) j) := by
  unfold twice at hw hb
  have hj := j.isLt
  pointwise [k0_pay18, k0_pay17, val_main_v52, val_main_v51, val_main_v35, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out10_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 3712 (by norm_num) j)))
    (hb : ∀ j : Fin 128, vb (ix2 0 j) = x4 (ix1 (twice 3712 (by norm_num) j)))
    (r : Fin 1024) (j : Fin 128) :
    k0_pay2 (k0_pay20 v27 vw) (k0_pay21 vb) (ix2 r j) = val_main_v54 (F := Ideal) x0 x1 x2 x3 x4 (ix2 (R r) j) := by
  unfold twice at hw hb
  have hj := j.isLt
  pointwise [k0_pay2, k0_pay1, k0_pay20, k0_pay21, val_main_v54, val_main_v53, val_main_v38, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out11_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = if h : j.val < 8 then x3 (ix2 k (⟨3776 + j.val, by omega⟩ : Fin 5832)) else padding)
    (hb : ∀ j : Fin 128, vb (ix2 0 j) = if h : j.val < 8 then x4 (ix1 (⟨3776 + j.val, by omega⟩ : Fin 5832)) else padding)
    (r : Fin 1024) (j : Fin 128) :
    k0_pay4 v27 vw vb (ix2 r j) = val_main_v55 (F := Ideal) x0 x1 x2 x3 x4 (ix2 (R r) j) := by
  pointwise [k0_pay4, val_main_v55, val_main_v39, val_main_call0_v0, val_main_c, val_main_v28, val_main_v27, val_main_v26, val_main_v25]
  simp only [hv, hw, hb]
  by_cases h : j.val < 8
  · simp only [h, dif_pos]
  · simp only [h, dif_neg, not_false_eq_true]
    show (∑ k, _ * padding) + padding = padding
    simp only [padding_eq, mul_zero, Finset.sum_const_zero, add_zero]

theorem out12_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 512 (by norm_num) j)))
    (hb : ∀ j : Fin 512, vb (ix2 0 j) = x4 (ix1 (col 512 (by norm_num) j)))
    (r : Fin 1024) (j : Fin 512) :
    k0_pay8 v27 vw vb (ix2 r j) = val_main_v30 (F := Ideal) x0 x1 x2 x3 x4 (ix2 (R r) j) := by
  unfold col at hw hb
  pointwise [k0_pay8, val_main_v30, val_main_v28, val_main_v27, val_main_v26, val_main_v25]
  simp only [hv, hw, hb]

theorem out13_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 1024 (by norm_num) j)))
    (hb : ∀ j : Fin 512, vb (ix2 0 j) = x4 (ix1 (col 1024 (by norm_num) j)))
    (r : Fin 1024) (j : Fin 512) :
    k0_pay9 v27 vw vb (ix2 r j) = val_main_v31 (F := Ideal) x0 x1 x2 x3 x4 (ix2 (R r) j) := by
  unfold col at hw hb
  pointwise [k0_pay9, val_main_v31, val_main_v28, val_main_v27, val_main_v26, val_main_v25]
  simp only [hv, hw, hb]

theorem out14_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2560 (by norm_num) j)))
    (hb : ∀ j : Fin 128, vb (ix2 0 j) = x4 (ix1 (twice 2560 (by norm_num) j)))
    (r : Fin 1024) (j : Fin 64) :
    k0_pay16 v27 vw vb (ix2 r j) = val_main_v34 (F := Ideal) x0 x1 x2 x3 x4 (ix2 (R r) j) := by
  unfold twice at hw hb
  have hj := j.isLt
  pointwise [k0_pay16, k0_pay14, val_main_v34, val_main_v28, val_main_v27, val_main_v26, val_main_v25]
  have e : j.val % 64 = j.val := by omega
  simp only [hv, hw, hb, e]

theorem out15_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2624 (by norm_num) j)))
    (hb : ∀ j : Fin 128, vb (ix2 0 j) = x4 (ix1 (twice 2624 (by norm_num) j)))
    (r : Fin 1024) (j : Fin 64) :
    k0_pay19 v27 vw vb (ix2 r j) = val_main_v35 (F := Ideal) x0 x1 x2 x3 x4 (ix2 (R r) j) := by
  unfold twice at hw hb
  have hj := j.isLt
  pointwise [k0_pay19, k0_pay17, val_main_v35, val_main_v28, val_main_v27, val_main_v26, val_main_v25]
  have e : j.val % 64 = j.val := by omega
  simp only [hv, hw, hb, e]

theorem out16_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 3712 (by norm_num) j)))
    (hb : ∀ j : Fin 128, vb (ix2 0 j) = x4 (ix1 (twice 3712 (by norm_num) j)))
    (r : Fin 1024) (j : Fin 64) :
    k0_pay3 (k0_pay20 v27 vw) (k0_pay21 vb) (ix2 r j) = val_main_v38 (F := Ideal) x0 x1 x2 x3 x4 (ix2 (R r) j) := by
  unfold twice at hw hb
  have hj := j.isLt
  pointwise [k0_pay3, k0_pay1, k0_pay20, k0_pay21, val_main_v38, val_main_v28, val_main_v27, val_main_v26, val_main_v25]
  have e : j.val % 64 = j.val := by omega
  simp only [hv, hw, hb, e]

end payloads

end Cert.ProjIdeal.Value

end
-- ==== Proof.ProjValue.lean ====
module

public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.ProjPays
public import Idealize.ShloMosaic.Lib.Pipeline.ValueKit
public import Idealize.ShloMosaic.Lib.Claim

/-! The projection call: the thirteen results, whole. -/

@[expose] public section

set_option maxRecDepth 16384

noncomputable section

open Idealize.ShloMosaic Idealize.ShloMosaic.TcCoe Idealize.SL.Sem
open Idealize.ShloMosaic.Pipeline (Dat)
open Cert.ProjReferenceIdeal.Read

namespace Cert.ProjIdeal.Value

open Cert.ProjIdeal Cert.ProjIdeal.Gen

variable (m : (ℓ : Loc nD τ sig) → Buf (Elt Ideal) ℓ)

/-- The call's own rows of its input. -/
theorem in0 (c : Dev nD) (t : Fin cfg0.N) (r k : Fin 1024) :
    View.ld (iblk m c 0 t) r0_0 (ix2 r k) = val_main_v0 (F := Ideal) (m ((c : Thread nD τ).loc main_arg0)) (ix2 (row t r) k) := by
  have e : r0_0.emb (ix2 r k) = ix2 r k := by
    funext a
    fin_cases a
    · exact Fin.ext (by show 0 + 1 * r.val = r.val; omega)
    · exact Fin.ext (by show 0 + 1 * k.val = k.val; omega)
  show iblk m c 0 t (r0_0.emb (ix2 r k)) = _
  rw [e, read0, entry0]
  rfl

theorem row_of (v : FVec Ideal S1024 .f32) (j : Fin 1024) :
    (shapeCast S1x1024 v shapeCasts_S1024_S1x1024 : FVec Ideal S1x1024 .f32) (ix2 0 j) = v (ix1 j) := by
  pointwise []

theorem emb_row (k : Fin 1024) : r0_1.emb (ix2 0 k) = ix2 0 k := by
  funext a
  fin_cases a
  · exact Fin.ext (by rfl)
  · exact Fin.ext (by show 0 + 1 * k.val = k.val; omega)

theorem in1 (c : Dev nD) (t : Fin cfg0.N) (k : Fin 1024) :
    View.ld (iblk m c 1 t) r0_1 (ix2 0 k) = (m ((c : Thread nD τ).loc main_arg1) : FVec Ideal S1024 .f32) (ix1 k) := by
  show iblk m c 1 t (r0_1.emb (ix2 0 k)) = _
  rw [emb_row, read1, entry1, row_of]

theorem in2 (c : Dev nD) (t : Fin cfg0.N) (k : Fin 1024) :
    View.ld (iblk m c 2 t) r0_1 (ix2 0 k) = (m ((c : Thread nD τ).loc main_arg2) : FVec Ideal S1024 .f32) (ix1 k) := by
  show iblk m c 2 t (r0_1.emb (ix2 0 k)) = _
  rw [emb_row, read2, entry2, row_of]

/-- The normalised rows every projection multiplies. -/
theorem inH (c : Dev nD) (t : Fin cfg0.N) (r k : Fin 1024) :
    k0_pay6 (View.ld (iblk m c 0 t) r0_0) (View.ld (iblk m c 1 t) r0_1) (View.ld (iblk m c 2 t) r0_1) (ix2 r k)
      = val_main_v24 (F := Ideal) (m ((c : Thread nD τ).loc main_arg0)) (m ((c : Thread nD τ).loc main_arg1)) (m ((c : Thread nD τ).loc main_arg2)) (ix2 (row t r) k) :=
  pay6_eq (row t) _ _ _ _ _ _ (in0 m c t) (in1 m c t) (in2 m c t) r k

/-! The same of the blocks read whole. -/

theorem all0 (c : Dev nD) (t : Fin cfg0.N) (r k : Fin 1024) :
    iblk m c 0 t (ix2 r k) = val_main_v0 (F := Ideal) (m ((c : Thread nD τ).loc main_arg0)) (ix2 (row t r) k) := by
  rw [read0, entry0]
  rfl

theorem all1 (c : Dev nD) (t : Fin cfg0.N) (k : Fin 1024) :
    iblk m c 1 t (ix2 0 k) = (m ((c : Thread nD τ).loc main_arg1) : FVec Ideal S1024 .f32) (ix1 k) := by
  rw [read1, entry1, row_of]

theorem all2 (c : Dev nD) (t : Fin cfg0.N) (k : Fin 1024) :
    iblk m c 2 t (ix2 0 k) = (m ((c : Thread nD τ).loc main_arg2) : FVec Ideal S1024 .f32) (ix1 k) := by
  rw [read2, entry2, row_of]

theorem allH (c : Dev nD) (t : Fin cfg0.N) (r k : Fin 1024) :
    k0_pay6 (iblk m c 0 t) (iblk m c 1 t) (iblk m c 2 t) (ix2 r k) = val_main_v24 (F := Ideal) (m ((c : Thread nD τ).loc main_arg0)) (m ((c : Thread nD τ).loc main_arg1)) (m ((c : Thread nD τ).loc main_arg2)) (ix2 (row t r) k) :=
  pay6_eq (row t) _ _ _ _ _ _ (all0 m c t) (all1 m c t) (all2 m c t) r k

theorem inW_qa (c : Dev nD) (t : Fin cfg0.N) (k : Fin 1024) (j : Fin 512) :
    View.ld (iblk m c 3 t) r0_2 (ix2 k j) = attW (m ((c : Thread nD τ).loc main_arg3)) (r0_2.emb (ix2 k j)) := by
  show iblk m c 3 t (r0_2.emb (ix2 k j)) = _
  rw [read3, entry3]

theorem inB_qa (c : Dev nD) (t : Fin cfg0.N) (j : Fin 512) :
    View.ld (iblk m c 4 t) r0_3 (ix2 0 j) = attB (m ((c : Thread nD τ).loc main_arg4)) (r0_3.emb (ix2 0 j)) := by
  show iblk m c 4 t (r0_3.emb (ix2 0 j)) = _
  rw [read4, entry4]

theorem inW_ka (c : Dev nD) (t : Fin cfg0.N) (k : Fin 1024) (j : Fin 512) :
    View.ld (iblk m c 3 t) r0_5 (ix2 k j) = attW (m ((c : Thread nD τ).loc main_arg3)) (r0_5.emb (ix2 k j)) := by
  show iblk m c 3 t (r0_5.emb (ix2 k j)) = _
  rw [read3, entry3]

theorem inB_ka (c : Dev nD) (t : Fin cfg0.N) (j : Fin 512) :
    View.ld (iblk m c 4 t) r0_6 (ix2 0 j) = attB (m ((c : Thread nD τ).loc main_arg4)) (r0_6.emb (ix2 0 j)) := by
  show iblk m c 4 t (r0_6.emb (ix2 0 j)) = _
  rw [read4, entry4]

theorem inW_va (c : Dev nD) (t : Fin cfg0.N) (k : Fin 1024) (j : Fin 512) :
    View.ld (iblk m c 3 t) r0_7 (ix2 k j) = attW (m ((c : Thread nD τ).loc main_arg3)) (r0_7.emb (ix2 k j)) := by
  show iblk m c 3 t (r0_7.emb (ix2 k j)) = _
  rw [read3, entry3]

theorem inB_va (c : Dev nD) (t : Fin cfg0.N) (j : Fin 512) :
    View.ld (iblk m c 4 t) r0_8 (ix2 0 j) = attB (m ((c : Thread nD τ).loc main_arg4)) (r0_8.emb (ix2 0 j)) := by
  show iblk m c 4 t (r0_8.emb (ix2 0 j)) = _
  rw [read4, entry4]

theorem inW_qb (c : Dev nD) (t : Fin cfg0.N) (k : Fin 1024) (j : Fin 512) :
    View.ld (iblk m c 3 t) r0_9 (ix2 k j) = attW (m ((c : Thread nD τ).loc main_arg3)) (r0_9.emb (ix2 k j)) := by
  show iblk m c 3 t (r0_9.emb (ix2 k j)) = _
  rw [read3, entry3]

theorem inB_qb (c : Dev nD) (t : Fin cfg0.N) (j : Fin 512) :
    View.ld (iblk m c 4 t) r0_10 (ix2 0 j) = attB (m ((c : Thread nD τ).loc main_arg4)) (r0_10.emb (ix2 0 j)) := by
  show iblk m c 4 t (r0_10.emb (ix2 0 j)) = _
  rw [read4, entry4]

theorem inW_qi (c : Dev nD) (t : Fin cfg0.N) (k : Fin 1024) (j : Fin 512) :
    View.ld (iblk m c 3 t) r0_11 (ix2 k j) = attW (m ((c : Thread nD τ).loc main_arg3)) (r0_11.emb (ix2 k j)) := by
  show iblk m c 3 t (r0_11.emb (ix2 k j)) = _
  rw [read3, entry3]

theorem inB_qi (c : Dev nD) (t : Fin cfg0.N) (j : Fin 512) :
    View.ld (iblk m c 4 t) r0_12 (ix2 0 j) = attB (m ((c : Thread nD τ).loc main_arg4)) (r0_12.emb (ix2 0 j)) := by
  show iblk m c 4 t (r0_12.emb (ix2 0 j)) = _
  rw [read4, entry4]

theorem inW_kb (c : Dev nD) (t : Fin cfg0.N) (k : Fin 1024) (j : Fin 128) :
    View.ld (iblk m c 3 t) r0_13 (ix2 k j) = attW (m ((c : Thread nD τ).loc main_arg3)) (r0_13.emb (ix2 k j)) := by
  show iblk m c 3 t (r0_13.emb (ix2 k j)) = _
  rw [read3, entry3]

theorem inB_kb (c : Dev nD) (t : Fin cfg0.N) (j : Fin 128) :
    View.ld (iblk m c 4 t) r0_14 (ix2 0 j) = attB (m ((c : Thread nD τ).loc main_arg4)) (r0_14.emb (ix2 0 j)) := by
  show iblk m c 4 t (r0_14.emb (ix2 0 j)) = _
  rw [read4, entry4]

theorem inW_vb (c : Dev nD) (t : Fin cfg0.N) (k : Fin 1024) (j : Fin 128) :
    View.ld (iblk m c 3 t) r0_17 (ix2 k j) = attW (m ((c : Thread nD τ).loc main_arg3)) (r0_17.emb (ix2 k j)) := by
  show iblk m c 3 t (r0_17.emb (ix2 k j)) = _
  rw [read3, entry3]

theorem inB_vb (c : Dev nD) (t : Fin cfg0.N) (j : Fin 128) :
    View.ld (iblk m c 4 t) r0_18 (ix2 0 j) = attB (m ((c : Thread nD τ).loc main_arg4)) (r0_18.emb (ix2 0 j)) := by
  show iblk m c 4 t (r0_18.emb (ix2 0 j)) = _
  rw [read4, entry4]

theorem inW_ki (c : Dev nD) (t : Fin cfg0.N) (k : Fin 1024) (j : Fin 128) :
    View.ld (iblk m c 3 t) r0_19 (ix2 k j) = attW (m ((c : Thread nD τ).loc main_arg3)) (r0_19.emb (ix2 k j)) := by
  show iblk m c 3 t (r0_19.emb (ix2 k j)) = _
  rw [read3, entry3]

theorem inB_ki (c : Dev nD) (t : Fin cfg0.N) (j : Fin 128) :
    View.ld (iblk m c 4 t) r0_20 (ix2 0 j) = attB (m ((c : Thread nD τ).loc main_arg4)) (r0_20.emb (ix2 0 j)) := by
  show iblk m c 4 t (r0_20.emb (ix2 0 j)) = _
  rw [read4, entry4]

theorem inW_wi (c : Dev nD) (t : Fin cfg0.N) (k : Fin 1024) (j : Fin 128) :
    View.ld (iblk m c 3 t) r0_21 (ix2 k j) = attW (m ((c : Thread nD τ).loc main_arg3)) (r0_21.emb (ix2 k j)) := by
  show iblk m c 3 t (r0_21.emb (ix2 k j)) = _
  rw [read3, entry3]

theorem inB_wi (c : Dev nD) (t : Fin cfg0.N) (j : Fin 128) :
    View.ld (iblk m c 4 t) r0_22 (ix2 0 j) = attB (m ((c : Thread nD τ).loc main_arg4)) (r0_22.emb (ix2 0 j)) := by
  show iblk m c 4 t (r0_22.emb (ix2 0 j)) = _
  rw [read4, entry4]

/-- The reference's rows for this result. -/
abbrev REF5 (c : Dev nD) : S65536x512.Idx → EReal := val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point5 (c : Dev nD) (t : Fin cfg0.N) (y : S1024x512.Idx) :
    out0_5 (iblk m c 0 t) (iblk m c 1 t) (iblk m c 2 t) (iblk m c 3 t) (iblk m c 4 t) y = REF5 m c (((cfg0.win 5).blk t).view.emb y) := by
  rw [emb5 (REF5 m c) t y]
  unfold out0_5
  frame_out
  have hy : y = ix2 (y 0) (y 1) := by funext a; fin_cases a <;> rfl
  generalize (y 0 : Fin 1024) = r at hy
  generalize (y 1 : Fin 512) = j at hy
  subst hy
  show k0_pay10 (k0_pay6 _ _ _) _ _ _ = _
  exact out5_eq (row t) _ _ _ _ _ _ _ _ (allH m c t)
    (fun k j => (inW_qa m c t k j).trans (attW_qa _ k j)) (fun j => (inB_qa m c t j).trans (attB_qa _ j)) r j

theorem final5 (c : Dev nD) : (dats m 0 c).arrAt 5 (cfgs 0).N = REF5 m c := by
  refine (dats m 0 c).arrAt_eq_of_covers 5 _ (by decide +kernel) fun t _ y => ?_
  blk_simp
  rw [after0_5]
  exact point5 m c t y

/-- The reference's rows for this result. -/
abbrev REF6 (c : Dev nD) : S65536x512.Idx → EReal := val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point6 (c : Dev nD) (t : Fin cfg0.N) (y : S1024x512.Idx) :
    out0_6 (iblk m c 0 t) (iblk m c 1 t) (iblk m c 2 t) (iblk m c 3 t) (iblk m c 4 t) y = REF6 m c (((cfg0.win 6).blk t).view.emb y) := by
  rw [emb6 (REF6 m c) t y]
  unfold out0_6
  frame_out
  have hy : y = ix2 (y 0) (y 1) := by funext a; fin_cases a <;> rfl
  generalize (y 0 : Fin 1024) = r at hy
  generalize (y 1 : Fin 512) = j at hy
  subst hy
  exact out6_eq (row t) _ _ _ _ _ _ _ _ (inH m c t)
    (fun k j => (inW_qb m c t k j).trans (attW_qb _ k j)) (fun j => (inB_qb m c t j).trans (attB_qb _ j)) r j

theorem final6 (c : Dev nD) : (dats m 0 c).arrAt 6 (cfgs 0).N = REF6 m c := by
  refine (dats m 0 c).arrAt_eq_of_covers 6 _ (by decide +kernel) fun t _ y => ?_
  blk_simp
  rw [after0_6]
  exact point6 m c t y

/-- The reference's rows for this result. -/
abbrev REF7 (c : Dev nD) : S65536x512.Idx → EReal := val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point7 (c : Dev nD) (t : Fin cfg0.N) (y : S1024x512.Idx) :
    out0_7 (iblk m c 0 t) (iblk m c 1 t) (iblk m c 2 t) (iblk m c 3 t) (iblk m c 4 t) y = REF7 m c (((cfg0.win 7).blk t).view.emb y) := by
  rw [emb7 (REF7 m c) t y]
  unfold out0_7
  frame_out
  have hy : y = ix2 (y 0) (y 1) := by funext a; fin_cases a <;> rfl
  generalize (y 0 : Fin 1024) = r at hy
  generalize (y 1 : Fin 512) = j at hy
  subst hy
  exact out7_eq (row t) _ _ _ _ _ _ _ _ (inH m c t)
    (fun k j => (inW_qi m c t k j).trans (attW_qi _ k j)) (fun j => (inB_qi m c t j).trans (attB_qi _ j)) r j

theorem final7 (c : Dev nD) : (dats m 0 c).arrAt 7 (cfgs 0).N = REF7 m c := by
  refine (dats m 0 c).arrAt_eq_of_covers 7 _ (by decide +kernel) fun t _ y => ?_
  blk_simp
  rw [after0_7]
  exact point7 m c t y

/-- The reference's rows for this result. -/
abbrev REF8 (c : Dev nD) : S65536x128.Idx → EReal := val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point8 (c : Dev nD) (t : Fin cfg0.N) (y : S1024x128.Idx) :
    out0_8 (iblk m c 0 t) (iblk m c 1 t) (iblk m c 2 t) (iblk m c 3 t) (iblk m c 4 t) y = REF8 m c (((cfg0.win 8).blk t).view.emb y) := by
  rw [emb8 (REF8 m c) t y]
  unfold out0_8
  frame_out
  have hy : y = ix2 (y 0) (y 1) := by funext a; fin_cases a <;> rfl
  generalize (y 0 : Fin 1024) = r at hy
  generalize (y 1 : Fin 128) = j at hy
  subst hy
  exact out8_eq (row t) _ _ _ _ _ _ _ _ (inH m c t)
    (fun k j => (inW_kb m c t k j).trans (attW_kb _ k j)) (fun j => (inB_kb m c t j).trans (attB_kb _ j)) r j

theorem final8 (c : Dev nD) : (dats m 0 c).arrAt 8 (cfgs 0).N = REF8 m c := by
  refine (dats m 0 c).arrAt_eq_of_covers 8 _ (by decide +kernel) fun t _ y => ?_
  blk_simp
  rw [after0_8]
  exact point8 m c t y

/-- The reference's rows for this result. -/
abbrev REF9 (c : Dev nD) : S65536x128.Idx → EReal := val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point9 (c : Dev nD) (t : Fin cfg0.N) (y : S1024x128.Idx) :
    out0_9 (iblk m c 0 t) (iblk m c 1 t) (iblk m c 2 t) (iblk m c 3 t) (iblk m c 4 t) y = REF9 m c (((cfg0.win 9).blk t).view.emb y) := by
  rw [emb9 (REF9 m c) t y]
  unfold out0_9
  frame_out
  have hy : y = ix2 (y 0) (y 1) := by funext a; fin_cases a <;> rfl
  generalize (y 0 : Fin 1024) = r at hy
  generalize (y 1 : Fin 128) = j at hy
  subst hy
  exact out9_eq (row t) _ _ _ _ _ _ _ _ (inH m c t)
    (fun k j => (inW_vb m c t k j).trans (attW_vb _ k j)) (fun j => (inB_vb m c t j).trans (attB_vb _ j)) r j

theorem final9 (c : Dev nD) : (dats m 0 c).arrAt 9 (cfgs 0).N = REF9 m c := by
  refine (dats m 0 c).arrAt_eq_of_covers 9 _ (by decide +kernel) fun t _ y => ?_
  blk_simp
  rw [after0_9]
  exact point9 m c t y

/-- The reference's rows for this result. -/
abbrev REF10 (c : Dev nD) : S65536x128.Idx → EReal := val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point10 (c : Dev nD) (t : Fin cfg0.N) (y : S1024x128.Idx) :
    out0_10 (iblk m c 0 t) (iblk m c 1 t) (iblk m c 2 t) (iblk m c 3 t) (iblk m c 4 t) y = REF10 m c (((cfg0.win 10).blk t).view.emb y) := by
  rw [emb10 (REF10 m c) t y]
  unfold out0_10
  frame_out
  have hy : y = ix2 (y 0) (y 1) := by funext a; fin_cases a <;> rfl
  generalize (y 0 : Fin 1024) = r at hy
  generalize (y 1 : Fin 128) = j at hy
  subst hy
  exact out10_eq (row t) _ _ _ _ _ _ _ _ (inH m c t)
    (fun k j => (inW_ki m c t k j).trans (attW_ki _ k j)) (fun j => (inB_ki m c t j).trans (attB_ki _ j)) r j

theorem final10 (c : Dev nD) : (dats m 0 c).arrAt 10 (cfgs 0).N = REF10 m c := by
  refine (dats m 0 c).arrAt_eq_of_covers 10 _ (by decide +kernel) fun t _ y => ?_
  blk_simp
  rw [after0_10]
  exact point10 m c t y

/-- The reference's rows for this result. -/
abbrev REF11 (c : Dev nD) : S65536x128.Idx → EReal := val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point11 (c : Dev nD) (t : Fin cfg0.N) (y : S1024x128.Idx) :
    out0_11 (iblk m c 0 t) (iblk m c 1 t) (iblk m c 2 t) (iblk m c 3 t) (iblk m c 4 t) y = REF11 m c (((cfg0.win 11).blk t).view.emb y) := by
  rw [emb11 (REF11 m c) t y]
  unfold out0_11
  frame_out
  have hy : y = ix2 (y 0) (y 1) := by funext a; fin_cases a <;> rfl
  generalize (y 0 : Fin 1024) = r at hy
  generalize (y 1 : Fin 128) = j at hy
  subst hy
  exact out11_eq (row t) _ _ _ _ _ _ _ _ (inH m c t)
    (fun k j => (inW_wi m c t k j).trans (attW_wi _ k j)) (fun j => (inB_wi m c t j).trans (attB_wi _ j)) r j

theorem final11 (c : Dev nD) : (dats m 0 c).arrAt 11 (cfgs 0).N = REF11 m c := by
  refine (dats m 0 c).arrAt_eq_of_covers 11 _ (by decide +kernel) fun t _ y => ?_
  blk_simp
  rw [after0_11]
  exact point11 m c t y

/-- The reference's rows for this result. -/
abbrev REF12 (c : Dev nD) : S65536x512.Idx → EReal := val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point12 (c : Dev nD) (t : Fin cfg0.N) (y : S1024x512.Idx) :
    out0_12 (iblk m c 0 t) (iblk m c 1 t) (iblk m c 2 t) (iblk m c 3 t) (iblk m c 4 t) y = REF12 m c (((cfg0.win 12).blk t).view.emb y) := by
  rw [emb12 (REF12 m c) t y]
  unfold out0_12
  frame_out
  have hy : y = ix2 (y 0) (y 1) := by funext a; fin_cases a <;> rfl
  generalize (y 0 : Fin 1024) = r at hy
  generalize (y 1 : Fin 512) = j at hy
  subst hy
  exact out12_eq (row t) _ _ _ _ _ _ _ _ (inH m c t)
    (fun k j => (inW_ka m c t k j).trans (attW_ka _ k j)) (fun j => (inB_ka m c t j).trans (attB_ka _ j)) r j

theorem final12 (c : Dev nD) : (dats m 0 c).arrAt 12 (cfgs 0).N = REF12 m c := by
  refine (dats m 0 c).arrAt_eq_of_covers 12 _ (by decide +kernel) fun t _ y => ?_
  blk_simp
  rw [after0_12]
  exact point12 m c t y

/-- The reference's rows for this result. -/
abbrev REF13 (c : Dev nD) : S65536x512.Idx → EReal := val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point13 (c : Dev nD) (t : Fin cfg0.N) (y : S1024x512.Idx) :
    out0_13 (iblk m c 0 t) (iblk m c 1 t) (iblk m c 2 t) (iblk m c 3 t) (iblk m c 4 t) y = REF13 m c (((cfg0.win 13).blk t).view.emb y) := by
  rw [emb13 (REF13 m c) t y]
  unfold out0_13
  frame_out
  have hy : y = ix2 (y 0) (y 1) := by funext a; fin_cases a <;> rfl
  generalize (y 0 : Fin 1024) = r at hy
  generalize (y 1 : Fin 512) = j at hy
  subst hy
  exact out13_eq (row t) _ _ _ _ _ _ _ _ (inH m c t)
    (fun k j => (inW_va m c t k j).trans (attW_va _ k j)) (fun j => (inB_va m c t j).trans (attB_va _ j)) r j

theorem final13 (c : Dev nD) : (dats m 0 c).arrAt 13 (cfgs 0).N = REF13 m c := by
  refine (dats m 0 c).arrAt_eq_of_covers 13 _ (by decide +kernel) fun t _ y => ?_
  blk_simp
  rw [after0_13]
  exact point13 m c t y

/-- The reference's rows for this result. -/
abbrev REF14 (c : Dev nD) : S65536x64.Idx → EReal := val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point14 (c : Dev nD) (t : Fin cfg0.N) (y : S1024x64.Idx) :
    out0_14 (iblk m c 0 t) (iblk m c 1 t) (iblk m c 2 t) (iblk m c 3 t) (iblk m c 4 t) y = REF14 m c (((cfg0.win 14).blk t).view.emb y) := by
  rw [emb14 (REF14 m c) t y]
  unfold out0_14
  frame_out
  have hy : y = ix2 (y 0) (y 1) := by funext a; fin_cases a <;> rfl
  generalize (y 0 : Fin 1024) = r at hy
  generalize (y 1 : Fin 64) = j at hy
  subst hy
  exact out14_eq (row t) _ _ _ _ _ _ _ _ (inH m c t)
    (fun k j => (inW_kb m c t k j).trans (attW_kb _ k j)) (fun j => (inB_kb m c t j).trans (attB_kb _ j)) r j

theorem final14 (c : Dev nD) : (dats m 0 c).arrAt 14 (cfgs 0).N = REF14 m c := by
  refine (dats m 0 c).arrAt_eq_of_covers 14 _ (by decide +kernel) fun t _ y => ?_
  blk_simp
  rw [after0_14]
  exact point14 m c t y

/-- The reference's rows for this result. -/
abbrev REF15 (c : Dev nD) : S65536x64.Idx → EReal := val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point15 (c : Dev nD) (t : Fin cfg0.N) (y : S1024x64.Idx) :
    out0_15 (iblk m c 0 t) (iblk m c 1 t) (iblk m c 2 t) (iblk m c 3 t) (iblk m c 4 t) y = REF15 m c (((cfg0.win 15).blk t).view.emb y) := by
  rw [emb15 (REF15 m c) t y]
  unfold out0_15
  frame_out
  have hy : y = ix2 (y 0) (y 1) := by funext a; fin_cases a <;> rfl
  generalize (y 0 : Fin 1024) = r at hy
  generalize (y 1 : Fin 64) = j at hy
  subst hy
  exact out15_eq (row t) _ _ _ _ _ _ _ _ (inH m c t)
    (fun k j => (inW_vb m c t k j).trans (attW_vb _ k j)) (fun j => (inB_vb m c t j).trans (attB_vb _ j)) r j

theorem final15 (c : Dev nD) : (dats m 0 c).arrAt 15 (cfgs 0).N = REF15 m c := by
  refine (dats m 0 c).arrAt_eq_of_covers 15 _ (by decide +kernel) fun t _ y => ?_
  blk_simp
  rw [after0_15]
  exact point15 m c t y

/-- The reference's rows for this result. -/
abbrev REF16 (c : Dev nD) : S65536x64.Idx → EReal := val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point16 (c : Dev nD) (t : Fin cfg0.N) (y : S1024x64.Idx) :
    out0_16 (iblk m c 0 t) (iblk m c 1 t) (iblk m c 2 t) (iblk m c 3 t) (iblk m c 4 t) y = REF16 m c (((cfg0.win 16).blk t).view.emb y) := by
  rw [emb16 (REF16 m c) t y]
  unfold out0_16
  frame_out
  have hy : y = ix2 (y 0) (y 1) := by funext a; fin_cases a <;> rfl
  generalize (y 0 : Fin 1024) = r at hy
  generalize (y 1 : Fin 64) = j at hy
  subst hy
  exact out16_eq (row t) _ _ _ _ _ _ _ _ (inH m c t)
    (fun k j => (inW_ki m c t k j).trans (attW_ki _ k j)) (fun j => (inB_ki m c t j).trans (attB_ki _ j)) r j

theorem final16 (c : Dev nD) : (dats m 0 c).arrAt 16 (cfgs 0).N = REF16 m c := by
  refine (dats m 0 c).arrAt_eq_of_covers 16 _ (by decide +kernel) fun t _ y => ?_
  blk_simp
  rw [after0_16]
  exact point16 m c t y

/-- The reference's rows for this result. -/
abbrev REF17 (c : Dev nD) : S65536x1024.Idx → EReal := val_main_v24 (F := Ideal) (m ((c : Thread nD τ).loc main_arg0)) (m ((c : Thread nD τ).loc main_arg1)) (m ((c : Thread nD τ).loc main_arg2))

set_option maxHeartbeats 1000000 in
theorem point17 (c : Dev nD) (t : Fin cfg0.N) (y : S1024x1024.Idx) :
    out0_17 (iblk m c 0 t) (iblk m c 1 t) (iblk m c 2 t) (iblk m c 3 t) (iblk m c 4 t) y = REF17 m c (((cfg0.win 17).blk t).view.emb y) := by
  rw [emb17 (REF17 m c) t y]
  unfold out0_17
  frame_out
  have hy : y = ix2 (y 0) (y 1) := by funext a; fin_cases a <;> rfl
  generalize (y 0 : Fin 1024) = r at hy
  generalize (y 1 : Fin 1024) = j at hy
  subst hy
  exact pay5_eq (row t) _ _ _ _ _ _ (all0 m c t) (all1 m c t) (all2 m c t) r j

theorem final17 (c : Dev nD) : (dats m 0 c).arrAt 17 (cfgs 0).N = REF17 m c := by
  refine (dats m 0 c).arrAt_eq_of_covers 17 _ (by decide +kernel) fun t _ y => ?_
  blk_simp
  rw [after0_17]
  exact point17 m c t y

end Cert.ProjIdeal.Value

end
-- ==== Proof.ProjClaim.lean ====
module

public import proofs.«01_k».proof.Defs
public import proofs.«01_k».proof.Proof.ProjValue
public import Idealize.ShloMosaic.Lib.Claim

/-! The projection call: the idealized kernel and the idealized reference end with the same thirteen arrays. -/

@[expose] public section

noncomputable section

namespace Cert.ProjClaim

open Idealize.ShloMosaic Idealize.SL.Sem

set_option maxHeartbeats 4000000 in
theorem same : algebraic_ProjIdeal_ProjReferenceIdeal (hProjIdeal := Cert.ProjIdeal.Gen.facts)
    (hProjReferenceIdeal := Cert.ProjReferenceIdeal.Gen.facts) := by
  intro m g m' g' _ hagree
  refine ⟨fun c => Cert.ProjIdeal.Value.REF5 m c, fun c => Cert.ProjIdeal.Value.REF6 m c, fun c => Cert.ProjIdeal.Value.REF7 m c, fun c => Cert.ProjIdeal.Value.REF8 m c, fun c => Cert.ProjIdeal.Value.REF9 m c, fun c => Cert.ProjIdeal.Value.REF10 m c, fun c => Cert.ProjIdeal.Value.REF11 m c, fun c => Cert.ProjIdeal.Value.REF12 m c, fun c => Cert.ProjIdeal.Value.REF13 m c, fun c => Cert.ProjIdeal.Value.REF14 m c, fun c => Cert.ProjIdeal.Value.REF15 m c, fun c => Cert.ProjIdeal.Value.REF16 m c, fun c => Cert.ProjIdeal.Value.REF17 m c, ?_, ?_⟩
  · refine (θ_run _ _ _).mono (fun r h c => ?_) (Cert.ProjIdeal.Value.run_blocks m g)
    obtain ⟨e5, e6, e7, e8, e9, e10, e11, e12, e13, e14, e15, e16, e17, args⟩ := h c
    exact ⟨e5.trans (Cert.ProjIdeal.Value.final5 m c), e6.trans (Cert.ProjIdeal.Value.final6 m c), e7.trans (Cert.ProjIdeal.Value.final7 m c), e8.trans (Cert.ProjIdeal.Value.final8 m c), e9.trans (Cert.ProjIdeal.Value.final9 m c), e10.trans (Cert.ProjIdeal.Value.final10 m c), e11.trans (Cert.ProjIdeal.Value.final11 m c), e12.trans (Cert.ProjIdeal.Value.final12 m c), e13.trans (Cert.ProjIdeal.Value.final13 m c), e14.trans (Cert.ProjIdeal.Value.final14 m c), e15.trans (Cert.ProjIdeal.Value.final15 m c), e16.trans (Cert.ProjIdeal.Value.final16 m c), e17.trans (Cert.ProjIdeal.Value.final17 m c), args⟩
  · refine (θ_run _ _ _).mono (fun r h c => ?_) (Cert.ProjReferenceIdeal.Value.run m' g')
    obtain ⟨h0, h1, h2, h3, h4⟩ := hagree c
    obtain ⟨e5, e6, e7, e8, e9, e10, e11, e12, e13, e14, e15, e16, e17, args⟩ := h c
    refine ⟨e5.trans ?_, e6.trans ?_, e7.trans ?_, e8.trans ?_, e9.trans ?_, e10.trans ?_, e11.trans ?_, e12.trans ?_, e13.trans ?_, e14.trans ?_, e15.trans ?_, e16.trans ?_, e17.trans ?_, args⟩
    · rw [Cert.ProjReferenceIdeal.Read.val_main_v44_eq, h0, h1, h2, h3, h4]
    · rw [Cert.ProjReferenceIdeal.Read.val_main_v47_eq, h0, h1, h2, h3, h4]
    · rw [Cert.ProjReferenceIdeal.Read.val_main_v48_eq, h0, h1, h2, h3, h4]
    · rw [Cert.ProjReferenceIdeal.Read.val_main_v50_eq, h0, h1, h2, h3, h4]
    · rw [Cert.ProjReferenceIdeal.Read.val_main_v52_eq, h0, h1, h2, h3, h4]
    · rw [Cert.ProjReferenceIdeal.Read.val_main_v54_eq, h0, h1, h2, h3, h4]
    · rw [Cert.ProjReferenceIdeal.Read.val_main_v55_eq, h0, h1, h2, h3, h4]
    · rw [Cert.ProjReferenceIdeal.Read.val_main_v30_eq, h0, h1, h2, h3, h4]
    · rw [Cert.ProjReferenceIdeal.Read.val_main_v31_eq, h0, h1, h2, h3, h4]
    · rw [Cert.ProjReferenceIdeal.Read.val_main_v34_eq, h0, h1, h2, h3, h4]
    · rw [Cert.ProjReferenceIdeal.Read.val_main_v35_eq, h0, h1, h2, h3, h4]
    · rw [Cert.ProjReferenceIdeal.Read.val_main_v38_eq, h0, h1, h2, h3, h4]
    · rw [Cert.ProjReferenceIdeal.Read.val_main_v24_eq, h0, h1, h2]

end Cert.ProjClaim

end
-- ==== Proof.LaterPays.lean ====
module

public import proofs.«01_k».proof.Proof.Gen.LaterIdeal.Value
public import proofs.«01_k».proof.Proof.Gen.LaterReferenceIdeal.Run
public import proofs.«01_k».proof.Proof.Gen.LaterReferenceIdeal.Read
public import proofs.«01_k».proof.Proof.ProjPays
public import Idealize.ShloMosaic.Lib.Pipeline.ValueKit
public import Idealize.ShloMosaic.Lib.Claim

/-! A later layer's projection call: each stored block is the reference's rows, given what the blocks read. -/

@[expose] public section

set_option maxRecDepth 16384

noncomputable section

open Idealize.ShloMosaic Idealize.ShloMosaic.TcCoe Idealize.SL.Sem
open Idealize.ShloMosaic.Pipeline (Dat)
open Cert.LaterReferenceIdeal.Read
open Cert.ProjIdeal.Value (col twice attW attB qscale qscale_nonneg qscale_ne_top padding padding_eq fold_scale)

namespace Cert.LaterIdeal.Value

open Cert.LaterIdeal Cert.LaterIdeal.Gen

section payloads
variable (R : Fin 1024 → Fin 65536)

theorem out3_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 0 (by norm_num) j)) * qscale)
    (hb : ∀ j : Fin 512, vb (ix2 0 j) = x2 (ix1 (col 0 (by norm_num) j)) * qscale) (r : Fin 1024) (j : Fin 512) :
    k0_pay9 v vw vb (ix2 r j) = val_main_v19 (F := Ideal) x0 x1 x2 (ix2 (R r) j) := by
  unfold col at hw hb
  pointwise [k0_pay9, k0_pay8, val_main_v19, val_main_v18, val_main_v17, val_main_v4, val_main_cst, val_main_v3, val_main_v2, val_main_v1, val_main_v0]
  simp only [hv, hw, hb, zero_add]
  exact fold_scale qscale qscale_nonneg qscale_ne_top _ (fun k => x1 (ix2 k ⟨j.val, by omega⟩)) _

theorem out4_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 2048 (by norm_num) j)) * qscale)
    (hb : ∀ j : Fin 512, vb (ix2 0 j) = x2 (ix1 (col 2048 (by norm_num) j)) * qscale) (r : Fin 1024) (j : Fin 512) :
    k0_pay13 (k0_pay12 v vw) vb (ix2 r j) = val_main_v22 (F := Ideal) x0 x1 x2 (ix2 (R r) j) := by
  unfold col at hw hb
  pointwise [k0_pay13, k0_pay12, k0_pay8, val_main_v22, val_main_v21, val_main_v20, val_main_v8, val_main_cst_0, val_main_v3, val_main_v2, val_main_v1, val_main_v0]
  simp only [hv, hw, hb]
  exact fold_scale qscale qscale_nonneg qscale_ne_top _ (fun k => x1 (ix2 k ⟨2048 + j.val, by omega⟩)) _

theorem out5_eq (v : FVec Ideal S1024x1024 .bf16) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 3200 (by norm_num) j)))
    (hb : ∀ j : Fin 512, vb (ix2 0 j) = x2 (ix1 (col 3200 (by norm_num) j))) (r : Fin 1024) (j : Fin 512) :
    k0_pay14 v vw vb (ix2 r j) = val_main_v23 (F := Ideal) x0 x1 x2 (ix2 (R r) j) := by
  unfold col at hw hb
  pointwise [k0_pay14, val_main_v23, val_main_v12, val_main_v3, val_main_v2, val_main_v1, val_main_v0]
  simp only [hv, hw, hb]

theorem out6_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2560 (by norm_num) j)))
    (hb : ∀ j : Fin 128, vb (ix2 0 j) = x2 (ix1 (twice 2560 (by norm_num) j))) (r : Fin 1024) (j : Fin 128) :
    k0_pay16 v vw vb (ix2 r j) = val_main_v25 (F := Ideal) x0 x1 x2 (ix2 (R r) j) := by
  unfold twice at hw hb
  have hj := j.isLt
  pointwise [k0_pay16, k0_pay15, val_main_v25, val_main_v24, val_main_v9, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out7_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2624 (by norm_num) j)))
    (hb : ∀ j : Fin 128, vb (ix2 0 j) = x2 (ix1 (twice 2624 (by norm_num) j))) (r : Fin 1024) (j : Fin 128) :
    k0_pay2 (k0_pay18 v vw) (k0_pay19 vb) (ix2 r j) = val_main_v27 (F := Ideal) x0 x1 x2 (ix2 (R r) j) := by
  unfold twice at hw hb
  have hj := j.isLt
  pointwise [k0_pay2, k0_pay1, k0_pay18, k0_pay19, val_main_v27, val_main_v26, val_main_v10, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out8_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 3712 (by norm_num) j)))
    (hb : ∀ j : Fin 128, vb (ix2 0 j) = x2 (ix1 (twice 3712 (by norm_num) j))) (r : Fin 1024) (j : Fin 128) :
    k0_pay5 v vw vb (ix2 r j) = val_main_v29 (F := Ideal) x0 x1 x2 (ix2 (R r) j) := by
  unfold twice at hw hb
  have hj := j.isLt
  pointwise [k0_pay5, k0_pay4, val_main_v29, val_main_v28, val_main_v13, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out9_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = if h : j.val < 8 then x1 (ix2 k (⟨3776 + j.val, by omega⟩ : Fin 5832)) else padding)
    (hb : ∀ j : Fin 128, vb (ix2 0 j) = if h : j.val < 8 then x2 (ix1 (⟨3776 + j.val, by omega⟩ : Fin 5832)) else padding) (r : Fin 1024) (j : Fin 128) :
    k0_pay7 v vw vb (ix2 r j) = val_main_v30 (F := Ideal) x0 x1 x2 (ix2 (R r) j) := by
  pointwise [k0_pay7, val_main_v30, val_main_v14, val_main_call0_v0, val_main_c, val_main_v3, val_main_v2, val_main_v1, val_main_v0]
  simp only [hv, hw, hb]
  by_cases h : j.val < 8
  · simp only [h, dif_pos]
  · simp only [h, dif_neg, not_false_eq_true]
    show (∑ k, _ * padding) + padding = padding
    simp only [padding_eq, mul_zero, Finset.sum_const_zero, add_zero]

theorem out10_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 512 (by norm_num) j)))
    (hb : ∀ j : Fin 512, vb (ix2 0 j) = x2 (ix1 (col 512 (by norm_num) j))) (r : Fin 1024) (j : Fin 512) :
    k0_pay10 v vw vb (ix2 r j) = val_main_v5 (F := Ideal) x0 x1 x2 (ix2 (R r) j) := by
  unfold col at hw hb
  pointwise [k0_pay10, k0_pay8, val_main_v5, val_main_v3, val_main_v2, val_main_v1, val_main_v0]
  simp only [hv, hw, hb]

theorem out11_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 1024 (by norm_num) j)))
    (hb : ∀ j : Fin 512, vb (ix2 0 j) = x2 (ix1 (col 1024 (by norm_num) j))) (r : Fin 1024) (j : Fin 512) :
    k0_pay11 v vw vb (ix2 r j) = val_main_v6 (F := Ideal) x0 x1 x2 (ix2 (R r) j) := by
  unfold col at hw hb
  pointwise [k0_pay11, k0_pay8, val_main_v6, val_main_v3, val_main_v2, val_main_v1, val_main_v0]
  simp only [hv, hw, hb]

theorem out12_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2560 (by norm_num) j)))
    (hb : ∀ j : Fin 128, vb (ix2 0 j) = x2 (ix1 (twice 2560 (by norm_num) j))) (r : Fin 1024) (j : Fin 64) :
    k0_pay17 v vw vb (ix2 r j) = val_main_v9 (F := Ideal) x0 x1 x2 (ix2 (R r) j) := by
  unfold twice at hw hb
  have hj := j.isLt
  pointwise [k0_pay17, k0_pay15, val_main_v9, val_main_v3, val_main_v2, val_main_v1, val_main_v0]
  have e : j.val % 64 = j.val := by omega
  simp only [hv, hw, hb, e]

theorem out13_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2624 (by norm_num) j)))
    (hb : ∀ j : Fin 128, vb (ix2 0 j) = x2 (ix1 (twice 2624 (by norm_num) j))) (r : Fin 1024) (j : Fin 64) :
    k0_pay3 (k0_pay18 v vw) (k0_pay19 vb) (ix2 r j) = val_main_v10 (F := Ideal) x0 x1 x2 (ix2 (R r) j) := by
  unfold twice at hw hb
  have hj := j.isLt
  pointwise [k0_pay3, k0_pay1, k0_pay18, k0_pay19, val_main_v10, val_main_v3, val_main_v2, val_main_v1, val_main_v0]
  have e : j.val % 64 = j.val := by omega
  simp only [hv, hw, hb, e]

theorem out14_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 3712 (by norm_num) j)))
    (hb : ∀ j : Fin 128, vb (ix2 0 j) = x2 (ix1 (twice 3712 (by norm_num) j))) (r : Fin 1024) (j : Fin 64) :
    k0_pay6 v vw vb (ix2 r j) = val_main_v13 (F := Ideal) x0 x1 x2 (ix2 (R r) j) := by
  unfold twice at hw hb
  have hj := j.isLt
  pointwise [k0_pay6, k0_pay4, val_main_v13, val_main_v3, val_main_v2, val_main_v1, val_main_v0]
  have e : j.val % 64 = j.val := by omega
  simp only [hv, hw, hb, e]

end payloads

end Cert.LaterIdeal.Value

end
-- ==== Proof.LaterValue.lean ====
module

public import proofs.«01_k».proof.Proof.Gen.LaterIdeal.Value
public import proofs.«01_k».proof.Proof.Gen.LaterReferenceIdeal.Run
public import proofs.«01_k».proof.Proof.Gen.LaterReferenceIdeal.Read
public import proofs.«01_k».proof.Proof.LaterPays
public import Idealize.ShloMosaic.Lib.Pipeline.ValueKit
public import Idealize.ShloMosaic.Lib.Claim

/-! A later layer's projection call: the twelve results, whole. -/

@[expose] public section

set_option maxRecDepth 16384

noncomputable section

open Idealize.ShloMosaic Idealize.ShloMosaic.TcCoe Idealize.SL.Sem
open Idealize.ShloMosaic.Pipeline (Dat)
open Cert.LaterReferenceIdeal.Read
open Cert.ProjIdeal.Value (col twice attW attB qscale qscale_nonneg qscale_ne_top padding padding_eq fold_scale)

namespace Cert.LaterIdeal.Value

open Cert.LaterIdeal Cert.LaterIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

theorem lt_N (t : Fin cfg0.N) : t.val < 64 := t.isLt

/-- The row of the whole array that row `r` of block `t` is. -/
def row (t : Fin cfg0.N) (r : Fin 1024) : Fin 65536 :=
  ⟨1024 * t.val + r.val, by have := lt_N t; have := r.isLt; omega⟩

theorem all0 (c : Dev nD) (t : Fin cfg0.N) (r : Fin 1024) (k : Fin 1024) :
    iblk m c 0 t (ix2 r k) = (m ((c : Thread nD τ).loc main_arg0) : FVec Ideal S65536x1024 .f32) (ix2 (row t r) k) := by
  unfold row
  blk_ext [iblk, V, idx t]

theorem allH (c : Dev nD) (t : Fin cfg0.N) (r k : Fin 1024) :
    k0_pay8 (View.ld (iblk m c 0 t) r0_0) (ix2 r k) = (m ((c : Thread nD τ).loc main_arg0) : FVec Ideal S65536x1024 .f32) (ix2 (row t r) k) := by
  pointwise [k0_pay8]
  exact all0 m c t r k

theorem read1 (c : Dev nD) (t : Fin cfg0.N) (y) : iblk m c 1 t y = V m c main_v46 y := by
  blk_ext [iblk, idx t]

theorem read2 (c : Dev nD) (t : Fin cfg0.N) (y) : iblk m c 2 t y = V m c main_v47 y := by
  blk_ext [iblk, idx t]

/-- The weights are packed as the first layer's are. -/
theorem entry1 (c : Dev nD) : V m c main_v46 = attW (m ((c : Thread nD τ).loc main_arg1)) := by
  simp only [V, hostOps0, hostOps0_1, hostOps0_2, hostOps0_3, hostOps0_4, List.flatten_cons, List.flatten_nil,
    List.append_nil, List.cons_append, List.nil_append]
  after_results
  rfl

theorem entry2 (c : Dev nD) : V m c main_v47 = attB (m ((c : Thread nD τ).loc main_arg2)) := by
  simp only [V, hostOps0, hostOps0_1, hostOps0_2, hostOps0_3, hostOps0_4, List.flatten_cons, List.flatten_nil,
    List.append_nil, List.cons_append, List.nil_append]
  after_results
  rfl

theorem inW_qa (c : Dev nD) (t : Fin cfg0.N) (k : Fin 1024) (j : Fin 512) :
    View.ld (iblk m c 1 t) r0_1 (ix2 k j) = attW (m ((c : Thread nD τ).loc main_arg1)) (Cert.ProjIdeal.Gen.r0_2.emb (ix2 k j)) := by
  show iblk m c 1 t (r0_1.emb (ix2 k j)) = _
  rw [read1, entry1]

theorem inB_qa (c : Dev nD) (t : Fin cfg0.N) (j : Fin 512) :
    View.ld (iblk m c 2 t) r0_2 (ix2 0 j) = attB (m ((c : Thread nD τ).loc main_arg2)) (Cert.ProjIdeal.Gen.r0_3.emb (ix2 0 j)) := by
  show iblk m c 2 t (r0_2.emb (ix2 0 j)) = _
  rw [read2, entry2]

theorem inW_ka (c : Dev nD) (t : Fin cfg0.N) (k : Fin 1024) (j : Fin 512) :
    View.ld (iblk m c 1 t) r0_4 (ix2 k j) = attW (m ((c : Thread nD τ).loc main_arg1)) (Cert.ProjIdeal.Gen.r0_5.emb (ix2 k j)) := by
  show iblk m c 1 t (r0_4.emb (ix2 k j)) = _
  rw [read1, entry1]

theorem inB_ka (c : Dev nD) (t : Fin cfg0.N) (j : Fin 512) :
    View.ld (iblk m c 2 t) r0_5 (ix2 0 j) = attB (m ((c : Thread nD τ).loc main_arg2)) (Cert.ProjIdeal.Gen.r0_6.emb (ix2 0 j)) := by
  show iblk m c 2 t (r0_5.emb (ix2 0 j)) = _
  rw [read2, entry2]

theorem inW_va (c : Dev nD) (t : Fin cfg0.N) (k : Fin 1024) (j : Fin 512) :
    View.ld (iblk m c 1 t) r0_6 (ix2 k j) = attW (m ((c : Thread nD τ).loc main_arg1)) (Cert.ProjIdeal.Gen.r0_7.emb (ix2 k j)) := by
  show iblk m c 1 t (r0_6.emb (ix2 k j)) = _
  rw [read1, entry1]

theorem inB_va (c : Dev nD) (t : Fin cfg0.N) (j : Fin 512) :
    View.ld (iblk m c 2 t) r0_7 (ix2 0 j) = attB (m ((c : Thread nD τ).loc main_arg2)) (Cert.ProjIdeal.Gen.r0_8.emb (ix2 0 j)) := by
  show iblk m c 2 t (r0_7.emb (ix2 0 j)) = _
  rw [read2, entry2]

theorem inW_qb (c : Dev nD) (t : Fin cfg0.N) (k : Fin 1024) (j : Fin 512) :
    View.ld (iblk m c 1 t) r0_8 (ix2 k j) = attW (m ((c : Thread nD τ).loc main_arg1)) (Cert.ProjIdeal.Gen.r0_9.emb (ix2 k j)) := by
  show iblk m c 1 t (r0_8.emb (ix2 k j)) = _
  rw [read1, entry1]

theorem inB_qb (c : Dev nD) (t : Fin cfg0.N) (j : Fin 512) :
    View.ld (iblk m c 2 t) r0_9 (ix2 0 j) = attB (m ((c : Thread nD τ).loc main_arg2)) (Cert.ProjIdeal.Gen.r0_10.emb (ix2 0 j)) := by
  show iblk m c 2 t (r0_9.emb (ix2 0 j)) = _
  rw [read2, entry2]

theorem inW_qi (c : Dev nD) (t : Fin cfg0.N) (k : Fin 1024) (j : Fin 512) :
    View.ld (iblk m c 1 t) r0_10 (ix2 k j) = attW (m ((c : Thread nD τ).loc main_arg1)) (Cert.ProjIdeal.Gen.r0_11.emb (ix2 k j)) := by
  show iblk m c 1 t (r0_10.emb (ix2 k j)) = _
  rw [read1, entry1]

theorem inB_qi (c : Dev nD) (t : Fin cfg0.N) (j : Fin 512) :
    View.ld (iblk m c 2 t) r0_11 (ix2 0 j) = attB (m ((c : Thread nD τ).loc main_arg2)) (Cert.ProjIdeal.Gen.r0_12.emb (ix2 0 j)) := by
  show iblk m c 2 t (r0_11.emb (ix2 0 j)) = _
  rw [read2, entry2]

theorem inW_kb (c : Dev nD) (t : Fin cfg0.N) (k : Fin 1024) (j : Fin 128) :
    View.ld (iblk m c 1 t) r0_12 (ix2 k j) = attW (m ((c : Thread nD τ).loc main_arg1)) (Cert.ProjIdeal.Gen.r0_13.emb (ix2 k j)) := by
  show iblk m c 1 t (r0_12.emb (ix2 k j)) = _
  rw [read1, entry1]

theorem inB_kb (c : Dev nD) (t : Fin cfg0.N) (j : Fin 128) :
    View.ld (iblk m c 2 t) r0_13 (ix2 0 j) = attB (m ((c : Thread nD τ).loc main_arg2)) (Cert.ProjIdeal.Gen.r0_14.emb (ix2 0 j)) := by
  show iblk m c 2 t (r0_13.emb (ix2 0 j)) = _
  rw [read2, entry2]

theorem inW_vb (c : Dev nD) (t : Fin cfg0.N) (k : Fin 1024) (j : Fin 128) :
    View.ld (iblk m c 1 t) r0_16 (ix2 k j) = attW (m ((c : Thread nD τ).loc main_arg1)) (Cert.ProjIdeal.Gen.r0_17.emb (ix2 k j)) := by
  show iblk m c 1 t (r0_16.emb (ix2 k j)) = _
  rw [read1, entry1]

theorem inB_vb (c : Dev nD) (t : Fin cfg0.N) (j : Fin 128) :
    View.ld (iblk m c 2 t) r0_17 (ix2 0 j) = attB (m ((c : Thread nD τ).loc main_arg2)) (Cert.ProjIdeal.Gen.r0_18.emb (ix2 0 j)) := by
  show iblk m c 2 t (r0_17.emb (ix2 0 j)) = _
  rw [read2, entry2]

theorem inW_ki (c : Dev nD) (t : Fin cfg0.N) (k : Fin 1024) (j : Fin 128) :
    View.ld (iblk m c 1 t) r0_18 (ix2 k j) = attW (m ((c : Thread nD τ).loc main_arg1)) (Cert.ProjIdeal.Gen.r0_19.emb (ix2 k j)) := by
  show iblk m c 1 t (r0_18.emb (ix2 k j)) = _
  rw [read1, entry1]

theorem inB_ki (c : Dev nD) (t : Fin cfg0.N) (j : Fin 128) :
    View.ld (iblk m c 2 t) r0_19 (ix2 0 j) = attB (m ((c : Thread nD τ).loc main_arg2)) (Cert.ProjIdeal.Gen.r0_20.emb (ix2 0 j)) := by
  show iblk m c 2 t (r0_19.emb (ix2 0 j)) = _
  rw [read2, entry2]

theorem inW_wi (c : Dev nD) (t : Fin cfg0.N) (k : Fin 1024) (j : Fin 128) :
    View.ld (iblk m c 1 t) r0_20 (ix2 k j) = attW (m ((c : Thread nD τ).loc main_arg1)) (Cert.ProjIdeal.Gen.r0_21.emb (ix2 k j)) := by
  show iblk m c 1 t (r0_20.emb (ix2 k j)) = _
  rw [read1, entry1]

theorem inB_wi (c : Dev nD) (t : Fin cfg0.N) (j : Fin 128) :
    View.ld (iblk m c 2 t) r0_21 (ix2 0 j) = attB (m ((c : Thread nD τ).loc main_arg2)) (Cert.ProjIdeal.Gen.r0_22.emb (ix2 0 j)) := by
  show iblk m c 2 t (r0_21.emb (ix2 0 j)) = _
  rw [read2, entry2]

/-- The reference's rows for this result. -/
abbrev REF3 (c : Dev nD) : S65536x512.Idx → EReal := val_main_v19 (F := Ideal) (m ((c : Thread nD τ).loc main_arg0)) (m ((c : Thread nD τ).loc main_arg1)) (m ((c : Thread nD τ).loc main_arg2))

theorem emb3 (f : S65536x512.Idx → EReal) (t : Fin cfg0.N) (y : S1024x512.Idx) :
    f (((cfg0.win 3).blk t).view.emb y) = f (ix2 (row t (y 0)) (y 1)) := by
  unfold row
  blk_ext [idx t]

set_option maxHeartbeats 1000000 in
theorem point3 (c : Dev nD) (t : Fin cfg0.N) (y : S1024x512.Idx) :
    out0_3 (iblk m c 0 t) (iblk m c 1 t) (iblk m c 2 t) y = REF3 m c (((cfg0.win 3).blk t).view.emb y) := by
  rw [emb3 (REF3 m c) t y]
  unfold out0_3
  frame_out
  have hy : y = ix2 (y 0) (y 1) := by funext a; fin_cases a <;> rfl
  generalize (y 0 : Fin 1024) = r at hy
  generalize (y 1 : Fin 512) = j at hy
  subst hy
  exact out3_eq (row t) _ _ _ _ _ _ (all0 m c t)
    (fun k j => (inW_qa m c t k j).trans (Cert.ProjIdeal.Value.attW_qa _ k j))
    (fun j => (inB_qa m c t j).trans (Cert.ProjIdeal.Value.attB_qa _ j)) r j

theorem final3 (c : Dev nD) : (dats m 0 c).arrAt 3 (cfgs 0).N = REF3 m c := by
  refine (dats m 0 c).arrAt_eq_of_covers 3 _ (by decide +kernel) fun t _ y => ?_
  blk_simp
  rw [after0_3]
  exact point3 m c t y

/-- The reference's rows for this result. -/
abbrev REF4 (c : Dev nD) : S65536x512.Idx → EReal := val_main_v22 (F := Ideal) (m ((c : Thread nD τ).loc main_arg0)) (m ((c : Thread nD τ).loc main_arg1)) (m ((c : Thread nD τ).loc main_arg2))

theorem emb4 (f : S65536x512.Idx → EReal) (t : Fin cfg0.N) (y : S1024x512.Idx) :
    f (((cfg0.win 4).blk t).view.emb y) = f (ix2 (row t (y 0)) (y 1)) := by
  unfold row
  blk_ext [idx t]

set_option maxHeartbeats 1000000 in
theorem point4 (c : Dev nD) (t : Fin cfg0.N) (y : S1024x512.Idx) :
    out0_4 (iblk m c 0 t) (iblk m c 1 t) (iblk m c 2 t) y = REF4 m c (((cfg0.win 4).blk t).view.emb y) := by
  rw [emb4 (REF4 m c) t y]
  unfold out0_4
  frame_out
  have hy : y = ix2 (y 0) (y 1) := by funext a; fin_cases a <;> rfl
  generalize (y 0 : Fin 1024) = r at hy
  generalize (y 1 : Fin 512) = j at hy
  subst hy
  exact out4_eq (row t) _ _ _ _ _ _ (all0 m c t)
    (fun k j => (inW_qb m c t k j).trans (Cert.ProjIdeal.Value.attW_qb _ k j))
    (fun j => (inB_qb m c t j).trans (Cert.ProjIdeal.Value.attB_qb _ j)) r j

theorem final4 (c : Dev nD) : (dats m 0 c).arrAt 4 (cfgs 0).N = REF4 m c := by
  refine (dats m 0 c).arrAt_eq_of_covers 4 _ (by decide +kernel) fun t _ y => ?_
  blk_simp
  rw [after0_4]
  exact point4 m c t y

/-- The reference's rows for this result. -/
abbrev REF5 (c : Dev nD) : S65536x512.Idx → EReal := val_main_v23 (F := Ideal) (m ((c : Thread nD τ).loc main_arg0)) (m ((c : Thread nD τ).loc main_arg1)) (m ((c : Thread nD τ).loc main_arg2))

theorem emb5 (f : S65536x512.Idx → EReal) (t : Fin cfg0.N) (y : S1024x512.Idx) :
    f (((cfg0.win 5).blk t).view.emb y) = f (ix2 (row t (y 0)) (y 1)) := by
  unfold row
  blk_ext [idx t]

set_option maxHeartbeats 1000000 in
theorem point5 (c : Dev nD) (t : Fin cfg0.N) (y : S1024x512.Idx) :
    out0_5 (iblk m c 0 t) (iblk m c 1 t) (iblk m c 2 t) y = REF5 m c (((cfg0.win 5).blk t).view.emb y) := by
  rw [emb5 (REF5 m c) t y]
  unfold out0_5
  frame_out
  have hy : y = ix2 (y 0) (y 1) := by funext a; fin_cases a <;> rfl
  generalize (y 0 : Fin 1024) = r at hy
  generalize (y 1 : Fin 512) = j at hy
  subst hy
  exact out5_eq (row t) _ _ _ _ _ _ (allH m c t)
    (fun k j => (inW_qi m c t k j).trans (Cert.ProjIdeal.Value.attW_qi _ k j))
    (fun j => (inB_qi m c t j).trans (Cert.ProjIdeal.Value.attB_qi _ j)) r j

theorem final5 (c : Dev nD) : (dats m 0 c).arrAt 5 (cfgs 0).N = REF5 m c := by
  refine (dats m 0 c).arrAt_eq_of_covers 5 _ (by decide +kernel) fun t _ y => ?_
  blk_simp
  rw [after0_5]
  exact point5 m c t y

/-- The reference's rows for this result. -/
abbrev REF6 (c : Dev nD) : S65536x128.Idx → EReal := val_main_v25 (F := Ideal) (m ((c : Thread nD τ).loc main_arg0)) (m ((c : Thread nD τ).loc main_arg1)) (m ((c : Thread nD τ).loc main_arg2))

theorem emb6 (f : S65536x128.Idx → EReal) (t : Fin cfg0.N) (y : S1024x128.Idx) :
    f (((cfg0.win 6).blk t).view.emb y) = f (ix2 (row t (y 0)) (y 1)) := by
  unfold row
  blk_ext [idx t]

set_option maxHeartbeats 1000000 in
theorem point6 (c : Dev nD) (t : Fin cfg0.N) (y : S1024x128.Idx) :
    out0_6 (iblk m c 0 t) (iblk m c 1 t) (iblk m c 2 t) y = REF6 m c (((cfg0.win 6).blk t).view.emb y) := by
  rw [emb6 (REF6 m c) t y]
  unfold out0_6
  frame_out
  have hy : y = ix2 (y 0) (y 1) := by funext a; fin_cases a <;> rfl
  generalize (y 0 : Fin 1024) = r at hy
  generalize (y 1 : Fin 128) = j at hy
  subst hy
  exact out6_eq (row t) _ _ _ _ _ _ (allH m c t)
    (fun k j => (inW_kb m c t k j).trans (Cert.ProjIdeal.Value.attW_kb _ k j))
    (fun j => (inB_kb m c t j).trans (Cert.ProjIdeal.Value.attB_kb _ j)) r j

theorem final6 (c : Dev nD) : (dats m 0 c).arrAt 6 (cfgs 0).N = REF6 m c := by
  refine (dats m 0 c).arrAt_eq_of_covers 6 _ (by decide +kernel) fun t _ y => ?_
  blk_simp
  rw [after0_6]
  exact point6 m c t y

/-- The reference's rows for this result. -/
abbrev REF7 (c : Dev nD) : S65536x128.Idx → EReal := val_main_v27 (F := Ideal) (m ((c : Thread nD τ).loc main_arg0)) (m ((c : Thread nD τ).loc main_arg1)) (m ((c : Thread nD τ).loc main_arg2))

theorem emb7 (f : S65536x128.Idx → EReal) (t : Fin cfg0.N) (y : S1024x128.Idx) :
    f (((cfg0.win 7).blk t).view.emb y) = f (ix2 (row t (y 0)) (y 1)) := by
  unfold row
  blk_ext [idx t]

set_option maxHeartbeats 1000000 in
theorem point7 (c : Dev nD) (t : Fin cfg0.N) (y : S1024x128.Idx) :
    out0_7 (iblk m c 0 t) (iblk m c 1 t) (iblk m c 2 t) y = REF7 m c (((cfg0.win 7).blk t).view.emb y) := by
  rw [emb7 (REF7 m c) t y]
  unfold out0_7
  frame_out
  have hy : y = ix2 (y 0) (y 1) := by funext a; fin_cases a <;> rfl
  generalize (y 0 : Fin 1024) = r at hy
  generalize (y 1 : Fin 128) = j at hy
  subst hy
  exact out7_eq (row t) _ _ _ _ _ _ (allH m c t)
    (fun k j => (inW_vb m c t k j).trans (Cert.ProjIdeal.Value.attW_vb _ k j))
    (fun j => (inB_vb m c t j).trans (Cert.ProjIdeal.Value.attB_vb _ j)) r j

theorem final7 (c : Dev nD) : (dats m 0 c).arrAt 7 (cfgs 0).N = REF7 m c := by
  refine (dats m 0 c).arrAt_eq_of_covers 7 _ (by decide +kernel) fun t _ y => ?_
  blk_simp
  rw [after0_7]
  exact point7 m c t y

/-- The reference's rows for this result. -/
abbrev REF8 (c : Dev nD) : S65536x128.Idx → EReal := val_main_v29 (F := Ideal) (m ((c : Thread nD τ).loc main_arg0)) (m ((c : Thread nD τ).loc main_arg1)) (m ((c : Thread nD τ).loc main_arg2))

theorem emb8 (f : S65536x128.Idx → EReal) (t : Fin cfg0.N) (y : S1024x128.Idx) :
    f (((cfg0.win 8).blk t).view.emb y) = f (ix2 (row t (y 0)) (y 1)) := by
  unfold row
  blk_ext [idx t]

set_option maxHeartbeats 1000000 in
theorem point8 (c : Dev nD) (t : Fin cfg0.N) (y : S1024x128.Idx) :
    out0_8 (iblk m c 0 t) (iblk m c 1 t) (iblk m c 2 t) y = REF8 m c (((cfg0.win 8).blk t).view.emb y) := by
  rw [emb8 (REF8 m c) t y]
  unfold out0_8
  frame_out
  have hy : y = ix2 (y 0) (y 1) := by funext a; fin_cases a <;> rfl
  generalize (y 0 : Fin 1024) = r at hy
  generalize (y 1 : Fin 128) = j at hy
  subst hy
  exact out8_eq (row t) _ _ _ _ _ _ (allH m c t)
    (fun k j => (inW_ki m c t k j).trans (Cert.ProjIdeal.Value.attW_ki _ k j))
    (fun j => (inB_ki m c t j).trans (Cert.ProjIdeal.Value.attB_ki _ j)) r j

theorem final8 (c : Dev nD) : (dats m 0 c).arrAt 8 (cfgs 0).N = REF8 m c := by
  refine (dats m 0 c).arrAt_eq_of_covers 8 _ (by decide +kernel) fun t _ y => ?_
  blk_simp
  rw [after0_8]
  exact point8 m c t y

/-- The reference's rows for this result. -/
abbrev REF9 (c : Dev nD) : S65536x128.Idx → EReal := val_main_v30 (F := Ideal) (m ((c : Thread nD τ).loc main_arg0)) (m ((c : Thread nD τ).loc main_arg1)) (m ((c : Thread nD τ).loc main_arg2))

theorem emb9 (f : S65536x128.Idx → EReal) (t : Fin cfg0.N) (y : S1024x128.Idx) :
    f (((cfg0.win 9).blk t).view.emb y) = f (ix2 (row t (y 0)) (y 1)) := by
  unfold row
  blk_ext [idx t]

set_option maxHeartbeats 1000000 in
theorem point9 (c : Dev nD) (t : Fin cfg0.N) (y : S1024x128.Idx) :
    out0_9 (iblk m c 0 t) (iblk m c 1 t) (iblk m c 2 t) y = REF9 m c (((cfg0.win 9).blk t).view.emb y) := by
  rw [emb9 (REF9 m c) t y]
  unfold out0_9
  frame_out
  have hy : y = ix2 (y 0) (y 1) := by funext a; fin_cases a <;> rfl
  generalize (y 0 : Fin 1024) = r at hy
  generalize (y 1 : Fin 128) = j at hy
  subst hy
  exact out9_eq (row t) _ _ _ _ _ _ (allH m c t)
    (fun k j => (inW_wi m c t k j).trans (Cert.ProjIdeal.Value.attW_wi _ k j))
    (fun j => (inB_wi m c t j).trans (Cert.ProjIdeal.Value.attB_wi _ j)) r j

theorem final9 (c : Dev nD) : (dats m 0 c).arrAt 9 (cfgs 0).N = REF9 m c := by
  refine (dats m 0 c).arrAt_eq_of_covers 9 _ (by decide +kernel) fun t _ y => ?_
  blk_simp
  rw [after0_9]
  exact point9 m c t y

/-- The reference's rows for this result. -/
abbrev REF10 (c : Dev nD) : S65536x512.Idx → EReal := val_main_v5 (F := Ideal) (m ((c : Thread nD τ).loc main_arg0)) (m ((c : Thread nD τ).loc main_arg1)) (m ((c : Thread nD τ).loc main_arg2))

theorem emb10 (f : S65536x512.Idx → EReal) (t : Fin cfg0.N) (y : S1024x512.Idx) :
    f (((cfg0.win 10).blk t).view.emb y) = f (ix2 (row t (y 0)) (y 1)) := by
  unfold row
  blk_ext [idx t]

set_option maxHeartbeats 1000000 in
theorem point10 (c : Dev nD) (t : Fin cfg0.N) (y : S1024x512.Idx) :
    out0_10 (iblk m c 0 t) (iblk m c 1 t) (iblk m c 2 t) y = REF10 m c (((cfg0.win 10).blk t).view.emb y) := by
  rw [emb10 (REF10 m c) t y]
  unfold out0_10
  frame_out
  have hy : y = ix2 (y 0) (y 1) := by funext a; fin_cases a <;> rfl
  generalize (y 0 : Fin 1024) = r at hy
  generalize (y 1 : Fin 512) = j at hy
  subst hy
  exact out10_eq (row t) _ _ _ _ _ _ (all0 m c t)
    (fun k j => (inW_ka m c t k j).trans (Cert.ProjIdeal.Value.attW_ka _ k j))
    (fun j => (inB_ka m c t j).trans (Cert.ProjIdeal.Value.attB_ka _ j)) r j

theorem final10 (c : Dev nD) : (dats m 0 c).arrAt 10 (cfgs 0).N = REF10 m c := by
  refine (dats m 0 c).arrAt_eq_of_covers 10 _ (by decide +kernel) fun t _ y => ?_
  blk_simp
  rw [after0_10]
  exact point10 m c t y

/-- The reference's rows for this result. -/
abbrev REF11 (c : Dev nD) : S65536x512.Idx → EReal := val_main_v6 (F := Ideal) (m ((c : Thread nD τ).loc main_arg0)) (m ((c : Thread nD τ).loc main_arg1)) (m ((c : Thread nD τ).loc main_arg2))

theorem emb11 (f : S65536x512.Idx → EReal) (t : Fin cfg0.N) (y : S1024x512.Idx) :
    f (((cfg0.win 11).blk t).view.emb y) = f (ix2 (row t (y 0)) (y 1)) := by
  unfold row
  blk_ext [idx t]

set_option maxHeartbeats 1000000 in
theorem point11 (c : Dev nD) (t : Fin cfg0.N) (y : S1024x512.Idx) :
    out0_11 (iblk m c 0 t) (iblk m c 1 t) (iblk m c 2 t) y = REF11 m c (((cfg0.win 11).blk t).view.emb y) := by
  rw [emb11 (REF11 m c) t y]
  unfold out0_11
  frame_out
  have hy : y = ix2 (y 0) (y 1) := by funext a; fin_cases a <;> rfl
  generalize (y 0 : Fin 1024) = r at hy
  generalize (y 1 : Fin 512) = j at hy
  subst hy
  exact out11_eq (row t) _ _ _ _ _ _ (all0 m c t)
    (fun k j => (inW_va m c t k j).trans (Cert.ProjIdeal.Value.attW_va _ k j))
    (fun j => (inB_va m c t j).trans (Cert.ProjIdeal.Value.attB_va _ j)) r j

theorem final11 (c : Dev nD) : (dats m 0 c).arrAt 11 (cfgs 0).N = REF11 m c := by
  refine (dats m 0 c).arrAt_eq_of_covers 11 _ (by decide +kernel) fun t _ y => ?_
  blk_simp
  rw [after0_11]
  exact point11 m c t y

/-- The reference's rows for this result. -/
abbrev REF12 (c : Dev nD) : S65536x64.Idx → EReal := val_main_v9 (F := Ideal) (m ((c : Thread nD τ).loc main_arg0)) (m ((c : Thread nD τ).loc main_arg1)) (m ((c : Thread nD τ).loc main_arg2))

theorem emb12 (f : S65536x64.Idx → EReal) (t : Fin cfg0.N) (y : S1024x64.Idx) :
    f (((cfg0.win 12).blk t).view.emb y) = f (ix2 (row t (y 0)) (y 1)) := by
  unfold row
  blk_ext [idx t]

set_option maxHeartbeats 1000000 in
theorem point12 (c : Dev nD) (t : Fin cfg0.N) (y : S1024x64.Idx) :
    out0_12 (iblk m c 0 t) (iblk m c 1 t) (iblk m c 2 t) y = REF12 m c (((cfg0.win 12).blk t).view.emb y) := by
  rw [emb12 (REF12 m c) t y]
  unfold out0_12
  frame_out
  have hy : y = ix2 (y 0) (y 1) := by funext a; fin_cases a <;> rfl
  generalize (y 0 : Fin 1024) = r at hy
  generalize (y 1 : Fin 64) = j at hy
  subst hy
  exact out12_eq (row t) _ _ _ _ _ _ (allH m c t)
    (fun k j => (inW_kb m c t k j).trans (Cert.ProjIdeal.Value.attW_kb _ k j))
    (fun j => (inB_kb m c t j).trans (Cert.ProjIdeal.Value.attB_kb _ j)) r j

theorem final12 (c : Dev nD) : (dats m 0 c).arrAt 12 (cfgs 0).N = REF12 m c := by
  refine (dats m 0 c).arrAt_eq_of_covers 12 _ (by decide +kernel) fun t _ y => ?_
  blk_simp
  rw [after0_12]
  exact point12 m c t y

/-- The reference's rows for this result. -/
abbrev REF13 (c : Dev nD) : S65536x64.Idx → EReal := val_main_v10 (F := Ideal) (m ((c : Thread nD τ).loc main_arg0)) (m ((c : Thread nD τ).loc main_arg1)) (m ((c : Thread nD τ).loc main_arg2))

theorem emb13 (f : S65536x64.Idx → EReal) (t : Fin cfg0.N) (y : S1024x64.Idx) :
    f (((cfg0.win 13).blk t).view.emb y) = f (ix2 (row t (y 0)) (y 1)) := by
  unfold row
  blk_ext [idx t]

set_option maxHeartbeats 1000000 in
theorem point13 (c : Dev nD) (t : Fin cfg0.N) (y : S1024x64.Idx) :
    out0_13 (iblk m c 0 t) (iblk m c 1 t) (iblk m c 2 t) y = REF13 m c (((cfg0.win 13).blk t).view.emb y) := by
  rw [emb13 (REF13 m c) t y]
  unfold out0_13
  frame_out
  have hy : y = ix2 (y 0) (y 1) := by funext a; fin_cases a <;> rfl
  generalize (y 0 : Fin 1024) = r at hy
  generalize (y 1 : Fin 64) = j at hy
  subst hy
  exact out13_eq (row t) _ _ _ _ _ _ (allH m c t)
    (fun k j => (inW_vb m c t k j).trans (Cert.ProjIdeal.Value.attW_vb _ k j))
    (fun j => (inB_vb m c t j).trans (Cert.ProjIdeal.Value.attB_vb _ j)) r j

theorem final13 (c : Dev nD) : (dats m 0 c).arrAt 13 (cfgs 0).N = REF13 m c := by
  refine (dats m 0 c).arrAt_eq_of_covers 13 _ (by decide +kernel) fun t _ y => ?_
  blk_simp
  rw [after0_13]
  exact point13 m c t y

/-- The reference's rows for this result. -/
abbrev REF14 (c : Dev nD) : S65536x64.Idx → EReal := val_main_v13 (F := Ideal) (m ((c : Thread nD τ).loc main_arg0)) (m ((c : Thread nD τ).loc main_arg1)) (m ((c : Thread nD τ).loc main_arg2))

theorem emb14 (f : S65536x64.Idx → EReal) (t : Fin cfg0.N) (y : S1024x64.Idx) :
    f (((cfg0.win 14).blk t).view.emb y) = f (ix2 (row t (y 0)) (y 1)) := by
  unfold row
  blk_ext [idx t]

set_option maxHeartbeats 1000000 in
theorem point14 (c : Dev nD) (t : Fin cfg0.N) (y : S1024x64.Idx) :
    out0_14 (iblk m c 0 t) (iblk m c 1 t) (iblk m c 2 t) y = REF14 m c (((cfg0.win 14).blk t).view.emb y) := by
  rw [emb14 (REF14 m c) t y]
  unfold out0_14
  frame_out
  have hy : y = ix2 (y 0) (y 1) := by funext a; fin_cases a <;> rfl
  generalize (y 0 : Fin 1024) = r at hy
  generalize (y 1 : Fin 64) = j at hy
  subst hy
  exact out14_eq (row t) _ _ _ _ _ _ (allH m c t)
    (fun k j => (inW_ki m c t k j).trans (Cert.ProjIdeal.Value.attW_ki _ k j))
    (fun j => (inB_ki m c t j).trans (Cert.ProjIdeal.Value.attB_ki _ j)) r j

theorem final14 (c : Dev nD) : (dats m 0 c).arrAt 14 (cfgs 0).N = REF14 m c := by
  refine (dats m 0 c).arrAt_eq_of_covers 14 _ (by decide +kernel) fun t _ y => ?_
  blk_simp
  rw [after0_14]
  exact point14 m c t y

end Cert.LaterIdeal.Value

end
-- ==== Proof.LaterClaim.lean ====
module

public import proofs.«01_k».proof.Defs
public import proofs.«01_k».proof.Proof.Gen.Later.Frame
public import proofs.«01_k».proof.Proof.LaterValue
public import Idealize.ShloMosaic.Lib.Quiescent

/-! The programs of a later layer's projection call: each keeps its arguments, and the idealized kernel and the
    idealized reference end with the same twelve arrays. -/

@[expose] public section

noncomputable section

namespace Cert.LaterClaim

open Idealize.ShloMosaic Idealize.SL.Sem

theorem kernel : quiescent_Later (hLater := Cert.Later.Gen.facts) := fun m ρ _ => Cert.Later.Gen.frame m ρ

theorem ideal : quiescent_LaterIdeal (hLaterIdeal := Cert.LaterIdeal.Gen.facts) :=
  fun m ρ _ => Cert.LaterIdeal.Gen.frame m ρ

theorem reference : quiescent_LaterReferenceIdeal (hLaterReferenceIdeal := Cert.LaterReferenceIdeal.Gen.facts) :=
  fun m ρ _ => (θ_run _ _ _).mono (fun r h => ⟨fun c => (h c).2.2.2.2.2.2.2.2.2.2.2.2, sem_eq_zero_of_no_sems rfl r.2⟩)
    (Cert.LaterReferenceIdeal.Value.run m ρ)

set_option maxHeartbeats 4000000 in
theorem same : algebraic_LaterIdeal_LaterReferenceIdeal (hLaterIdeal := Cert.LaterIdeal.Gen.facts)
    (hLaterReferenceIdeal := Cert.LaterReferenceIdeal.Gen.facts) := by
  intro m g m' g' _ hagree
  refine ⟨fun c => Cert.LaterIdeal.Value.REF3 m c, fun c => Cert.LaterIdeal.Value.REF4 m c, fun c => Cert.LaterIdeal.Value.REF5 m c, fun c => Cert.LaterIdeal.Value.REF6 m c, fun c => Cert.LaterIdeal.Value.REF7 m c, fun c => Cert.LaterIdeal.Value.REF8 m c, fun c => Cert.LaterIdeal.Value.REF9 m c, fun c => Cert.LaterIdeal.Value.REF10 m c, fun c => Cert.LaterIdeal.Value.REF11 m c, fun c => Cert.LaterIdeal.Value.REF12 m c, fun c => Cert.LaterIdeal.Value.REF13 m c, fun c => Cert.LaterIdeal.Value.REF14 m c, ?_, ?_⟩
  · refine (θ_run _ _ _).mono (fun r h c => ?_) (Cert.LaterIdeal.Value.run_blocks m g)
    obtain ⟨e3, e4, e5, e6, e7, e8, e9, e10, e11, e12, e13, e14, args⟩ := h c
    exact ⟨e3.trans (Cert.LaterIdeal.Value.final3 m c), e4.trans (Cert.LaterIdeal.Value.final4 m c), e5.trans (Cert.LaterIdeal.Value.final5 m c), e6.trans (Cert.LaterIdeal.Value.final6 m c), e7.trans (Cert.LaterIdeal.Value.final7 m c), e8.trans (Cert.LaterIdeal.Value.final8 m c), e9.trans (Cert.LaterIdeal.Value.final9 m c), e10.trans (Cert.LaterIdeal.Value.final10 m c), e11.trans (Cert.LaterIdeal.Value.final11 m c), e12.trans (Cert.LaterIdeal.Value.final12 m c), e13.trans (Cert.LaterIdeal.Value.final13 m c), e14.trans (Cert.LaterIdeal.Value.final14 m c), args⟩
  · refine (θ_run _ _ _).mono (fun r h c => ?_) (Cert.LaterReferenceIdeal.Value.run m' g')
    obtain ⟨h0, h1, h2⟩ := hagree c
    obtain ⟨e3, e4, e5, e6, e7, e8, e9, e10, e11, e12, e13, e14, args⟩ := h c
    refine ⟨e3.trans ?_, e4.trans ?_, e5.trans ?_, e6.trans ?_, e7.trans ?_, e8.trans ?_, e9.trans ?_, e10.trans ?_, e11.trans ?_, e12.trans ?_, e13.trans ?_, e14.trans ?_, args⟩
    · rw [Cert.LaterReferenceIdeal.Read.val_main_v19_eq, h0, h1, h2]
    · rw [Cert.LaterReferenceIdeal.Read.val_main_v22_eq, h0, h1, h2]
    · rw [Cert.LaterReferenceIdeal.Read.val_main_v23_eq, h0, h1, h2]
    · rw [Cert.LaterReferenceIdeal.Read.val_main_v25_eq, h0, h1, h2]
    · rw [Cert.LaterReferenceIdeal.Read.val_main_v27_eq, h0, h1, h2]
    · rw [Cert.LaterReferenceIdeal.Read.val_main_v29_eq, h0, h1, h2]
    · rw [Cert.LaterReferenceIdeal.Read.val_main_v30_eq, h0, h1, h2]
    · rw [Cert.LaterReferenceIdeal.Read.val_main_v5_eq, h0, h1, h2]
    · rw [Cert.LaterReferenceIdeal.Read.val_main_v6_eq, h0, h1, h2]
    · rw [Cert.LaterReferenceIdeal.Read.val_main_v9_eq, h0, h1, h2]
    · rw [Cert.LaterReferenceIdeal.Read.val_main_v10_eq, h0, h1, h2]
    · rw [Cert.LaterReferenceIdeal.Read.val_main_v13_eq, h0, h1, h2]

end Cert.LaterClaim

end
-- ==== Proof.MergeSampleValue.lean ====
module

public import proofs.«01_k».proof.Proof.Gen.MergeSampleIdeal.Value
public import proofs.«01_k».proof.Proof.Gen.MergeSampleReferenceIdeal.Run
public import proofs.«01_k».proof.Proof.Gen.MergeSampleReferenceIdeal.Read
public import proofs.«01_k».proof.Proof.MergeValue
public import Idealize.ShloMosaic.Lib.Pipeline.ValueKit
public import Idealize.ShloMosaic.Lib.Claim

/-! The merge call of the sample batch's padded rows computes, block of rows by block of rows, what its reference computes on the whole array. -/

@[expose] public section

set_option maxRecDepth 16384

noncomputable section

open Idealize.ShloMosaic Idealize.ShloMosaic.TcCoe Idealize.SL.Sem
open Idealize.ShloMosaic.Pipeline (Dat)
open Cert.MergeSampleReferenceIdeal.Read
open Cert.MergeIdeal.Value (col gatesW gatesB gatesW_0 gatesW_1 gatesW_2 gatesW_3 gatesB_0 gatesB_1 gatesB_2 gatesB_3 row_of)

namespace Cert.MergeSampleIdeal.Value

open Cert.MergeSampleIdeal Cert.MergeSampleIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

theorem lt_N (t : Fin cfg0.N) : t.val < 2 := t.isLt

/-- The row of the whole array that row `r` of block `t` is. -/
def row (t : Fin cfg0.N) (r : Fin 1024) : Fin 2048 :=
  ⟨1024 * t.val + r.val, by have := lt_N t; have := r.isLt; omega⟩

/-! ## What the windows show -/

theorem read0 (c : Dev nD) (t : Fin cfg0.N) (r : Fin 1024) (k : Fin 1024) :
    iblk m c 0 t (ix2 r k) = m ((c : Thread nD τ).loc main_arg0) (ix2 (row t r) k) := by
  unfold row
  blk_ext [iblk, V, idx t]

theorem read1 (c : Dev nD) (t : Fin cfg0.N) (r : Fin 1024) (k : Fin 512) :
    iblk m c 1 t (ix2 r k) = m ((c : Thread nD τ).loc main_arg1) (ix2 (row t r) k) := by
  unfold row
  blk_ext [iblk, V, idx t]

theorem read2 (c : Dev nD) (t : Fin cfg0.N) (r : Fin 1024) (k : Fin 512) :
    iblk m c 2 t (ix2 r k) = m ((c : Thread nD τ).loc main_arg2) (ix2 (row t r) k) := by
  unfold row
  blk_ext [iblk, V, idx t]

theorem read3 (c : Dev nD) (t : Fin cfg0.N) (y) : iblk m c 3 t y = V m c main_v46 y := by
  blk_ext [iblk, idx t]

theorem read4 (c : Dev nD) (t : Fin cfg0.N) (y) : iblk m c 4 t y = V m c main_v47 y := by
  blk_ext [iblk, idx t]

theorem read5 (c : Dev nD) (t : Fin cfg0.N) (y) : iblk m c 5 t y = V m c main_v48 y := by
  blk_ext [iblk, idx t]

theorem read6 (c : Dev nD) (t : Fin cfg0.N) (y) : iblk m c 6 t y = V m c main_v49 y := by
  blk_ext [iblk, idx t]

theorem read7 (c : Dev nD) (t : Fin cfg0.N) (y) : iblk m c 7 t y = V m c main_v50 y := by
  blk_ext [iblk, idx t]

theorem read8 (c : Dev nD) (t : Fin cfg0.N) (y) : iblk m c 8 t y = V m c main_v51 y := by
  blk_ext [iblk, idx t]

theorem read9 (c : Dev nD) (t : Fin cfg0.N) (y) : iblk m c 9 t y = V m c main_v52 y := by
  blk_ext [iblk, idx t]

theorem emb10 (f : S2048x1024.Idx → EReal) (t : Fin cfg0.N) (y : S1024x1024.Idx) :
    f (((cfg0.win 10).blk t).view.emb y) = f (ix2 (row t (y 0)) (y 1)) := by
  unfold row
  blk_ext [idx t]

/-! ## What the host line leaves in the packed operands -/

theorem entry5 (c : Dev nD) : V m c main_v48
    = (truncf .bf16 (m ((c : Thread nD τ).loc main_arg5) : FVec Ideal S512x1024 .f32) bitsLt_bf16_f32 : FVec Ideal S512x1024 .bf16) := by
  simp only [V, hostOps0, hostOps0_1, hostOps0_2, hostOps0_3, hostOps0_4, List.flatten_cons, List.flatten_nil,
    List.append_nil, List.cons_append, List.nil_append]
  after_results

theorem entry6 (c : Dev nD) : V m c main_v49
    = (truncf .bf16 (m ((c : Thread nD τ).loc main_arg6) : FVec Ideal S512x1024 .f32) bitsLt_bf16_f32 : FVec Ideal S512x1024 .bf16) := by
  simp only [V, hostOps0, hostOps0_1, hostOps0_2, hostOps0_3, hostOps0_4, List.flatten_cons, List.flatten_nil,
    List.append_nil, List.cons_append, List.nil_append]
  after_results

theorem entry7 (c : Dev nD) : V m c main_v50
    = (truncf .bf16 (m ((c : Thread nD τ).loc main_arg7) : FVec Ideal S1024x1024 .f32) bitsLt_bf16_f32 : FVec Ideal S1024x1024 .bf16) := by
  simp only [V, hostOps0, hostOps0_1, hostOps0_2, hostOps0_3, hostOps0_4, List.flatten_cons, List.flatten_nil,
    List.append_nil, List.cons_append, List.nil_append]
  after_results

theorem entry8 (c : Dev nD) : V m c main_v51
    = (shapeCast S1x1024 (m ((c : Thread nD τ).loc main_arg8) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry9 (c : Dev nD) : V m c main_v52
    = (shapeCast S1x1024 (m ((c : Thread nD τ).loc main_arg9) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry3 (c : Dev nD) : V m c main_v46 = gatesW (m ((c : Thread nD τ).loc main_arg3)) := by
  simp only [V, hostOps0, hostOps0_1, hostOps0_2, hostOps0_3, hostOps0_4, List.flatten_cons, List.flatten_nil,
    List.append_nil, List.cons_append, List.nil_append]
  after_results
  rfl

theorem entry4 (c : Dev nD) : V m c main_v47 = gatesB (m ((c : Thread nD τ).loc main_arg4)) := by
  simp only [V, hostOps0, hostOps0_1, hostOps0_2, hostOps0_3, hostOps0_4, List.flatten_cons, List.flatten_nil,
    List.append_nil, List.cons_append, List.nil_append]
  after_results
  rfl

/-! ## The payloads, row by row -/

section payloads

variable (R : Fin 1024 → Fin 2048)

theorem pay3_eq (v0 : Vec Ideal S1024x1024 .f32) (v2 : Vec Ideal S1024x512 .bf16) (v5 : Vec Ideal S1x512 .f32)
    (v9 : Vec Ideal S1024x512 .f32) (x0 x1 x3 x4) (h0 : ∀ r k, v0 (ix2 r k) = x0 (ix2 (R r) k))
    (h9 : ∀ r k, v9 (ix2 r k) = x1 (ix2 (R r) k)) (h2 : ∀ k j, v2 (ix2 k j) = x3 (ix2 k (col 1536 (by norm_num) j)))
    (h5 : ∀ j, v5 (ix2 0 j) = x4 (ix1 (col 1536 (by norm_num) j))) (r : Fin 1024) (j : Fin 512) :
    k0_pay3 v0 v2 v5 v9 (ix2 r j) = val_main_v18 x0 x1 x3 x4 (ix2 (R r) j) := by
  unfold col at h2 h5
  pointwise [k0_pay3, k0_pay2, val_main_v18, val_main_v17, val_main_v7, val_main_v3, val_main_v0, val_main_v1, val_main_v2, val_main_call0_v0, val_main_call0_v1, val_main_call0_v2, val_main_call0_v3, val_main_call0_v4, val_main_call0_v5, val_main_call0_cst, val_main_call0_cst_0]
  simp only [h0, h2, h5, h9, zero_sub]

theorem pay4_eq (v0 : Vec Ideal S1024x1024 .f32) (v20 : Vec Ideal S1024x1024 .bf16) (v23 : Vec Ideal S1x1024 .f32)
    (x0 x3 x4) (h0 : ∀ r k, v0 (ix2 r k) = x0 (ix2 (R r) k))
    (h2 : ∀ k j, v20 (ix2 k j) = x3 (ix2 k (col 3784 (by norm_num) j)))
    (h5 : ∀ j, v23 (ix2 0 j) = x4 (ix1 (col 3784 (by norm_num) j))) (r j : Fin 1024) :
    k0_pay4 v0 v20 v23 (ix2 r j) = val_main_v26 x0 x3 x4 (ix2 (R r) j) := by
  unfold col at h2 h5
  pointwise [k0_pay4, k0_pay2, val_main_v26, val_main_v25, val_main_v24, val_main_v23, val_main_v22, val_main_v21, val_main_v15, val_main_cst, val_main_cst_0, val_main_v3, val_main_v0, val_main_v1, val_main_v2]
  simp only [h0, h2, h5, zero_sub]

theorem pay5_eq (v : Vec Ideal S512x1024 .bf16) (k : Fin 512) (j : Fin 1024) : k0_pay5 v (ix2 k j) = v (ix2 k j) := by
  pointwise [k0_pay5]

theorem pay6_eq (v1 : FVec Ideal S1024x1024 .bf16) (v19 : FVec Ideal S1024x512 .bf16) (v33 : FVec Ideal S1024x1024 .f32)
    (v35 : FVec Ideal S512x1024 .bf16) (v38 : Vec Ideal S1024x512 .bf16) (v41 : Vec Ideal S1x512 .f32) (v45 : Vec Ideal S1024x512 .f32)
    (v56 : Vec Ideal S1024x1024 .bf16) (v59 : Vec Ideal S1x1024 .f32) (v70 : Vec Ideal S512x1024 .bf16)
    (x0 x1 x2 x3 x4 x5 x6) (h0 : ∀ r k, v1 (ix2 r k) = x0 (ix2 (R r) k))
    (h19 : ∀ r k, v19 (ix2 r k) = val_main_v18 x0 x1 x3 x4 (ix2 (R r) k))
    (h33 : ∀ r k, v33 (ix2 r k) = val_main_v26 x0 x3 x4 (ix2 (R r) k))
    (h35 : ∀ k j, v35 (ix2 k j) = x5 (ix2 k j)) (h70 : ∀ k j, v70 (ix2 k j) = x6 (ix2 k j))
    (h38 : ∀ k j, v38 (ix2 k j) = x3 (ix2 k (col 2688 (by norm_num) j)))
    (h41 : ∀ j, v41 (ix2 0 j) = x4 (ix1 (col 2688 (by norm_num) j)))
    (h45 : ∀ r k, v45 (ix2 r k) = x2 (ix2 (R r) k))
    (h56 : ∀ k j, v56 (ix2 k j) = x3 (ix2 k (col 4808 (by norm_num) j)))
    (h59 : ∀ j, v59 (ix2 0 j) = x4 (ix1 (col 4808 (by norm_num) j))) (r j : Fin 1024) :
    k0_pay6 v1 v19 v33 v35 (constant S1024x1024 .f32 0x00000000#32) v38 v41 v45 v56 v59 v70 (ix2 r j)
      = val_main_v37 x0 x1 x2 x3 x4 x5 x6 (ix2 (R r) j) := by
  unfold col at h38 h41 h56 h59
  pointwise [k0_pay6, val_main_v37, val_main_v28, val_main_v27, val_main_v36, val_main_v35, val_main_v34, val_main_v33, val_main_v32, val_main_v31, val_main_v30, val_main_v29, val_main_v16, val_main_v20, val_main_v19, val_main_v11, val_main_cst_1, val_main_cst_2, val_main_v3, val_main_v0, val_main_v1, val_main_v2, val_main_call1_v0, val_main_call1_v1, val_main_call1_v2, val_main_call1_v3, val_main_call1_v4, val_main_call1_v5, val_main_call1_cst, val_main_call1_cst_0]
  simp only [h0, h19, h33, h35, h70, h38, h41, h45, h56, h59, zero_sub]

theorem pay1_eq (v0 v74 : FVec Ideal S1024x1024 .f32) (v78 : Vec Ideal S1024x1024 .bf16) (v82 v84 : Vec Ideal S1x1024 .f32)
    (x0 x1 x2 x3 x4 x5 x6 x7 x8 x9) (h0 : ∀ r k, v0 (ix2 r k) = x0 (ix2 (R r) k))
    (h74 : ∀ r k, v74 (ix2 r k) = val_main_v37 x0 x1 x2 x3 x4 x5 x6 (ix2 (R r) k))
    (h78 : ∀ k j, v78 (ix2 k j) = x7 (ix2 k j)) (h82 : ∀ j, v82 (ix2 0 j) = x8 (ix1 j)) (h84 : ∀ j, v84 (ix2 0 j) = x9 (ix1 j))
    (r j : Fin 1024) :
    k0_pay1 v0 v74 v78 v82 v84 (ix2 r j) = val_main_v65 x0 x1 x2 x3 x4 x5 x6 x7 x8 x9 (ix2 (R r) j) := by
  pointwise [k0_pay1, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_cst_3, val_main_cst_4, val_main_cst_5, val_main_cst_6, val_main_cst_7, val_main_cst_8]
  simp only [h0, h74, h78, h82, h84]

end payloads

/-! ## The call's result -/

/-- The reference's result on the arrays the call was given. -/
abbrev REF (c : Dev nD) : S2048x1024.Idx → EReal :=
  val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

set_option maxHeartbeats 1000000 in
theorem point (c : Dev nD) (t : Fin cfg0.N) (y : S1024x1024.Idx) :
    out0_10 (iblk m c 0 t) (iblk m c 1 t) (iblk m c 2 t) (iblk m c 3 t) (iblk m c 4 t) (iblk m c 5 t) (iblk m c 6 t) (iblk m c 7 t) (iblk m c 8 t) (iblk m c 9 t) y
      = REF m c (((cfg0.win 10).blk t).view.emb y) := by
  rw [emb10 (REF m c) t y]
  unfold out0_10
  frame_out
  have hy : y = ix2 (y 0) (y 1) := by funext a; fin_cases a <;> rfl
  generalize (y 0 : Fin 1024) = r at hy
  generalize (y 1 : Fin 1024) = j at hy
  subst hy
  refine pay1_eq (row t) _ _ _ _ _ _ _ _ _ _ _ _ _ _ _ (read0 m c t) (fun r k => pay6_eq (row t) _ _ _ _ _ _ _ _ _ _ _ _ _ _ _ _ _ (read0 m c t)
    (fun r k => pay3_eq (row t) _ _ _ _ _ _ _ _ (read0 m c t) (read1 m c t) ?_ ?_ r k)
    (fun r k => pay4_eq (row t) _ _ _ _ _ _ (read0 m c t) ?_ ?_ r k) ?_ ?_ ?_ ?_ (read2 m c t) ?_ ?_ r k) ?_ ?_ ?_ r j
  · intro k j; exact (read3 m c t _).trans (by rw [entry3]; exact gatesW_0 _ k j)
  · intro j; exact (read4 m c t _).trans (by rw [entry4]; exact gatesB_0 _ j)
  · intro k j; exact (read3 m c t _).trans (by rw [entry3]; exact gatesW_2 _ k j)
  · intro j; exact (read4 m c t _).trans (by rw [entry4]; exact gatesB_2 _ j)
  · intro k j; exact (pay5_eq _ k j).trans ((read5 m c t _).trans (by rw [entry5]; rfl))
  · intro k j; exact (read6 m c t _).trans (by rw [entry6]; rfl)
  · intro k j; exact (read3 m c t _).trans (by rw [entry3]; exact gatesW_1 _ k j)
  · intro j; exact (read4 m c t _).trans (by rw [entry4]; exact gatesB_1 _ j)
  · intro k j; exact (read3 m c t _).trans (by rw [entry3]; exact gatesW_3 _ k j)
  · intro j; exact (read4 m c t _).trans (by rw [entry4]; exact gatesB_3 _ j)
  · intro k j; exact (read7 m c t _).trans (by rw [entry7]; rfl)
  · intro j; exact (read8 m c t _).trans (by rw [entry8]; exact row_of _ j)
  · intro j; exact (read9 m c t _).trans (by rw [entry9]; exact row_of _ j)

theorem final (c : Dev nD) : (dats m 0 c).arrAt 10 (cfgs 0).N = REF m c := by
  refine (dats m 0 c).arrAt_eq_of_covers 10 _ (by decide +kernel) fun t _ y => ?_
  blk_simp
  rw [after0_10]
  exact point m c t y

end Cert.MergeSampleIdeal.Value

end
-- ==== Proof.MergeSampleClaim.lean ====
module

public import proofs.«01_k».proof.Defs
public import proofs.«01_k».proof.Proof.Gen.MergeSample.Frame
public import proofs.«01_k».proof.Proof.MergeSampleValue
public import Idealize.ShloMosaic.Lib.Quiescent

/-! The four programs of the merge call: each keeps its arguments, and the idealized kernel and the idealized
    reference end with the same array. -/

@[expose] public section

noncomputable section

namespace Cert.MergeSampleClaim

open Idealize.ShloMosaic Idealize.SL.Sem

theorem kernel : quiescent_MergeSample (hMergeSample := Cert.MergeSample.Gen.facts) := fun m ρ _ => Cert.MergeSample.Gen.frame m ρ

theorem ideal : quiescent_MergeSampleIdeal (hMergeSampleIdeal := Cert.MergeSampleIdeal.Gen.facts) :=
  fun m ρ _ => Cert.MergeSampleIdeal.Gen.frame m ρ

theorem reference : quiescent_MergeSampleReferenceIdeal (hMergeSampleReferenceIdeal := Cert.MergeSampleReferenceIdeal.Gen.facts) :=
  fun m ρ _ => (θ_run _ _ _).mono (fun r h => ⟨fun c => (h c).2, sem_eq_zero_of_no_sems rfl r.2⟩)
    (Cert.MergeSampleReferenceIdeal.Value.run m ρ)

/-- What the kernel's last array is, and what the reference's last array is: one function of the arguments. -/
theorem same : algebraic_MergeSampleIdeal_MergeSampleReferenceIdeal (hMergeSampleIdeal := Cert.MergeSampleIdeal.Gen.facts)
    (hMergeSampleReferenceIdeal := Cert.MergeSampleReferenceIdeal.Gen.facts) := by
  intro m g m' g' _ hagree
  refine ⟨fun c => Cert.MergeSampleIdeal.Value.REF m c, ?_, ?_⟩
  · exact (θ_run _ _ _).mono (fun r h c => ⟨(h c).1.trans (Cert.MergeSampleIdeal.Value.final m c), (h c).2⟩)
      (Cert.MergeSampleIdeal.Value.run_blocks m g)
  · refine (θ_run _ _ _).mono (fun r h c => ⟨(h c).1.trans ?_, (h c).2⟩) (Cert.MergeSampleReferenceIdeal.Value.run m' g')
    obtain ⟨h0, h1, h2, h3, h4, h5, h6, h7, h8, h9⟩ := hagree c
    rw [Cert.MergeSampleReferenceIdeal.Read.val_main_v65_eq, h0, h1, h2, h3, h4, h5, h6, h7, h8, h9]

end Cert.MergeSampleClaim

end
-- ==== Proof.ProjSampleFrame.lean ====
module

public import proofs.«01_k».proof.Defs
public import proofs.«01_k».proof.Proof.Gen.ProjSample.Frame
public import proofs.«01_k».proof.Proof.Gen.ProjSampleIdeal.Frame
public import proofs.«01_k».proof.Proof.Gen.ProjSampleReferenceIdeal.Run
public import Idealize.ShloMosaic.Lib.Quiescent

/-! The three programs of the projection call keep their arguments. -/

@[expose] public section

noncomputable section

namespace Cert.ProjSampleFrame

open Idealize.ShloMosaic Idealize.SL.Sem

theorem kernel : quiescent_ProjSample (hProjSample := Cert.ProjSample.Gen.facts) := fun m ρ _ => Cert.ProjSample.Gen.frame m ρ

theorem ideal : quiescent_ProjSampleIdeal (hProjSampleIdeal := Cert.ProjSampleIdeal.Gen.facts) :=
  fun m ρ _ => Cert.ProjSampleIdeal.Gen.frame m ρ

theorem reference : quiescent_ProjSampleReferenceIdeal (hProjSampleReferenceIdeal := Cert.ProjSampleReferenceIdeal.Gen.facts) :=
  fun m ρ _ => (θ_run _ _ _).mono (fun r h => ⟨fun c => (h c).2.2.2.2.2.2.2.2.2.2.2.2.2, sem_eq_zero_of_no_sems rfl r.2⟩)
    (Cert.ProjSampleReferenceIdeal.Value.run m ρ)

end Cert.ProjSampleFrame

end
-- ==== Proof.ProjSamplePays.lean ====
module

public import proofs.«01_k».proof.Proof.Gen.ProjSampleIdeal.Value
public import proofs.«01_k».proof.Proof.Gen.ProjSampleReferenceIdeal.Run
public import proofs.«01_k».proof.Proof.Gen.ProjSampleReferenceIdeal.Read
public import proofs.«01_k».proof.Proof.ProjValue
public import Idealize.ShloMosaic.Lib.Pipeline.ValueKit
public import Idealize.ShloMosaic.Lib.Claim

/-! The sample batch's projection call of the first layer: each stored block is the reference's rows, given what the blocks read. -/

@[expose] public section

set_option maxRecDepth 16384

noncomputable section

open Idealize.ShloMosaic Idealize.ShloMosaic.TcCoe Idealize.SL.Sem
open Idealize.ShloMosaic.Pipeline (Dat)
open Cert.ProjSampleReferenceIdeal.Read
open Cert.ProjIdeal.Value (col twice attW attB qscale qscale_nonneg qscale_ne_top padding padding_eq fold_scale row_of)

namespace Cert.ProjSampleIdeal.Value

open Cert.ProjSampleIdeal Cert.ProjSampleIdeal.Gen

section payloads
variable (R : Fin 1024 → Fin 2048)

theorem pay5_eq (v0 : Vec Ideal S1024x1024 .f32) (v2 v4 : Vec Ideal S1x1024 .f32) (x0 x1 x2)
    (h0 : ∀ r k, v0 (ix2 r k) = val_main_v0 (F := Ideal) x0 (ix2 (R r) k)) (h1 : ∀ k, v2 (ix2 0 k) = x1 (ix1 k))
    (h2 : ∀ k, v4 (ix2 0 k) = x2 (ix1 k)) (r j : Fin 1024) :
    k0_pay5 v0 v2 v4 (ix2 r j) = val_main_v24 (F := Ideal) x0 x1 x2 (ix2 (R r) j) := by
  pointwise [k0_pay5, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3]
  simp only [h0, h1, h2]

theorem pay6_eq (v0 : Vec Ideal S1024x1024 .f32) (v2 v4 : Vec Ideal S1x1024 .f32) (x0 x1 x2)
    (h0 : ∀ r k, v0 (ix2 r k) = val_main_v0 (F := Ideal) x0 (ix2 (R r) k)) (h1 : ∀ k, v2 (ix2 0 k) = x1 (ix1 k))
    (h2 : ∀ k, v4 (ix2 0 k) = x2 (ix1 k)) (r j : Fin 1024) :
    k0_pay6 v0 v2 v4 (ix2 r j) = val_main_v24 (F := Ideal) x0 x1 x2 (ix2 (R r) j) := by
  pointwise [k0_pay6]
  exact pay5_eq R v0 v2 v4 x0 x1 x2 h0 h1 h2 r j

theorem out5_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 0 (by norm_num) j)) * qscale)
    (hb : ∀ j : Fin 512, vb (ix2 0 j) = x4 (ix1 (col 0 (by norm_num) j)) * qscale)
    (r : Fin 1024) (j : Fin 512) :
    k0_pay10 v27 vw vb (ix2 r j) = val_main_v44 (F := Ideal) x0 x1 x2 x3 x4 (ix2 (R r) j) := by
  unfold col at hw hb
  pointwise [k0_pay10, val_main_v44, val_main_v43, val_main_v42, val_main_v29, val_main_cst_4, val_main_v28, val_main_v27, val_main_v26, val_main_v25]
  simp only [hv, hw, hb, zero_add]
  exact fold_scale qscale qscale_nonneg qscale_ne_top _ (fun k => x3 (ix2 k ⟨j.val, by omega⟩)) _

theorem out6_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 2048 (by norm_num) j)) * qscale)
    (hb : ∀ j : Fin 512, vb (ix2 0 j) = x4 (ix1 (col 2048 (by norm_num) j)) * qscale)
    (r : Fin 1024) (j : Fin 512) :
    k0_pay10 v27 vw vb (ix2 r j) = val_main_v47 (F := Ideal) x0 x1 x2 x3 x4 (ix2 (R r) j) := by
  unfold col at hw hb
  pointwise [k0_pay10, val_main_v47, val_main_v46, val_main_v45, val_main_v33, val_main_cst_5, val_main_v28, val_main_v27, val_main_v26, val_main_v25]
  simp only [hv, hw, hb]
  exact fold_scale qscale qscale_nonneg qscale_ne_top _ (fun k => x3 (ix2 k ⟨2048 + j.val, by omega⟩)) _

theorem out7_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 3200 (by norm_num) j)))
    (hb : ∀ j : Fin 512, vb (ix2 0 j) = x4 (ix1 (col 3200 (by norm_num) j)))
    (r : Fin 1024) (j : Fin 512) :
    k0_pay13 (k0_pay11 v27 vw) (k0_pay12 vb) (ix2 r j) = val_main_v48 (F := Ideal) x0 x1 x2 x3 x4 (ix2 (R r) j) := by
  unfold col at hw hb
  pointwise [k0_pay13, k0_pay11, k0_pay12, val_main_v48, val_main_v37, val_main_v28, val_main_v27, val_main_v26, val_main_v25]
  simp only [hv, hw, hb]

theorem out8_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2560 (by norm_num) j)))
    (hb : ∀ j : Fin 128, vb (ix2 0 j) = x4 (ix1 (twice 2560 (by norm_num) j)))
    (r : Fin 1024) (j : Fin 128) :
    k0_pay15 v27 vw vb (ix2 r j) = val_main_v50 (F := Ideal) x0 x1 x2 x3 x4 (ix2 (R r) j) := by
  unfold twice at hw hb
  have hj := j.isLt
  pointwise [k0_pay15, k0_pay14, val_main_v50, val_main_v49, val_main_v34, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out9_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2624 (by norm_num) j)))
    (hb : ∀ j : Fin 128, vb (ix2 0 j) = x4 (ix1 (twice 2624 (by norm_num) j)))
    (r : Fin 1024) (j : Fin 128) :
    k0_pay18 v27 vw vb (ix2 r j) = val_main_v52 (F := Ideal) x0 x1 x2 x3 x4 (ix2 (R r) j) := by
  unfold twice at hw hb
  have hj := j.isLt
  pointwise [k0_pay18, k0_pay17, val_main_v52, val_main_v51, val_main_v35, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out10_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 3712 (by norm_num) j)))
    (hb : ∀ j : Fin 128, vb (ix2 0 j) = x4 (ix1 (twice 3712 (by norm_num) j)))
    (r : Fin 1024) (j : Fin 128) :
    k0_pay2 (k0_pay20 v27 vw) (k0_pay21 vb) (ix2 r j) = val_main_v54 (F := Ideal) x0 x1 x2 x3 x4 (ix2 (R r) j) := by
  unfold twice at hw hb
  have hj := j.isLt
  pointwise [k0_pay2, k0_pay1, k0_pay20, k0_pay21, val_main_v54, val_main_v53, val_main_v38, val_main_v28, val_main_v27, val_main_v26, val_main_v25]
  simp only [hv, hw, hb]
  by_cases h : j.val < 64
  · have e : j.val % 64 = j.val := by omega
    simp only [e, h, dif_pos]
  · have e : j.val % 64 = j.val - 64 := by omega
    simp only [e, h, dif_neg, not_false_eq_true]

theorem out11_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = if h : j.val < 8 then x3 (ix2 k (⟨3776 + j.val, by omega⟩ : Fin 5832)) else padding)
    (hb : ∀ j : Fin 128, vb (ix2 0 j) = if h : j.val < 8 then x4 (ix1 (⟨3776 + j.val, by omega⟩ : Fin 5832)) else padding)
    (r : Fin 1024) (j : Fin 128) :
    k0_pay4 v27 vw vb (ix2 r j) = val_main_v55 (F := Ideal) x0 x1 x2 x3 x4 (ix2 (R r) j) := by
  pointwise [k0_pay4, val_main_v55, val_main_v39, val_main_call0_v0, val_main_c, val_main_v28, val_main_v27, val_main_v26, val_main_v25]
  simp only [hv, hw, hb]
  by_cases h : j.val < 8
  · simp only [h, dif_pos]
  · simp only [h, dif_neg, not_false_eq_true]
    show (∑ k, _ * padding) + padding = padding
    simp only [padding_eq, mul_zero, Finset.sum_const_zero, add_zero]

theorem out12_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 512 (by norm_num) j)))
    (hb : ∀ j : Fin 512, vb (ix2 0 j) = x4 (ix1 (col 512 (by norm_num) j)))
    (r : Fin 1024) (j : Fin 512) :
    k0_pay8 v27 vw vb (ix2 r j) = val_main_v30 (F := Ideal) x0 x1 x2 x3 x4 (ix2 (R r) j) := by
  unfold col at hw hb
  pointwise [k0_pay8, val_main_v30, val_main_v28, val_main_v27, val_main_v26, val_main_v25]
  simp only [hv, hw, hb]

theorem out13_eq (v27 : FVec Ideal S1024x1024 .bf16) (vw : Vec Ideal S1024x512 .bf16) (vb : Vec Ideal S1x512 .f32)
    (x0 x1 x2 x3 x4) (hv : ∀ r k, v27 (ix2 r k) = val_main_v24 (F := Ideal) x0 x1 x2 (ix2 (R r) k))
    (hw : ∀ (k : Fin 1024) (j : Fin 512), vw (ix2 k j) = x3 (ix2 k (col 1024 (by norm_num) j)))
    (hb : ∀ j : Fin 512, vb (ix2 0 j) = x4 (ix1 (col 1024 (by norm_num) j)))
    (r : Fin 1024) (j : Fin 512) :
    k0_pay9 v27 vw vb (ix2 r j) = val_main_v31 (F := Ideal) x0 x1 x2 x3 x4 (ix2 (R r) j) := by
  unfold col at hw hb
  pointwise [k0_pay9, val_main_v31, val_main_v28, val_main_v27, val_main_v26, val_main_v25]
  simp only [hv, hw, hb]

theorem out14_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2560 (by norm_num) j)))
    (hb : ∀ j : Fin 128, vb (ix2 0 j) = x4 (ix1 (twice 2560 (by norm_num) j)))
    (r : Fin 1024) (j : Fin 64) :
    k0_pay16 v27 vw vb (ix2 r j) = val_main_v34 (F := Ideal) x0 x1 x2 x3 x4 (ix2 (R r) j) := by
  unfold twice at hw hb
  have hj := j.isLt
  pointwise [k0_pay16, k0_pay14, val_main_v34, val_main_v28, val_main_v27, val_main_v26, val_main_v25]
  have e : j.val % 64 = j.val := by omega
  simp only [hv, hw, hb, e]

theorem out15_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 2624 (by norm_num) j)))
    (hb : ∀ j : Fin 128, vb (ix2 0 j) = x4 (ix1 (twice 2624 (by norm_num) j)))
    (r : Fin 1024) (j : Fin 64) :
    k0_pay19 v27 vw vb (ix2 r j) = val_main_v35 (F := Ideal) x0 x1 x2 x3 x4 (ix2 (R r) j) := by
  unfold twice at hw hb
  have hj := j.isLt
  pointwise [k0_pay19, k0_pay17, val_main_v35, val_main_v28, val_main_v27, val_main_v26, val_main_v25]
  have e : j.val % 64 = j.val := by omega
  simp only [hv, hw, hb, e]

theorem out16_eq (v27 : FVec Ideal S1024x1024 .bf16) (vw : Vec Ideal S1024x128 .bf16) (vb : Vec Ideal S1x128 .f32)
    (x0 x1 x2 x3 x4) (hv : ∀ r k, v27 (ix2 r k) = val_main_v24 (F := Ideal) x0 x1 x2 (ix2 (R r) k))
    (hw : ∀ (k : Fin 1024) (j : Fin 128), vw (ix2 k j) = x3 (ix2 k (twice 3712 (by norm_num) j)))
    (hb : ∀ j : Fin 128, vb (ix2 0 j) = x4 (ix1 (twice 3712 (by norm_num) j)))
    (r : Fin 1024) (j : Fin 64) :
    k0_pay3 (k0_pay20 v27 vw) (k0_pay21 vb) (ix2 r j) = val_main_v38 (F := Ideal) x0 x1 x2 x3 x4 (ix2 (R r) j) := by
  unfold twice at hw hb
  have hj := j.isLt
  pointwise [k0_pay3, k0_pay1, k0_pay20, k0_pay21, val_main_v38, val_main_v28, val_main_v27, val_main_v26, val_main_v25]
  have e : j.val % 64 = j.val := by omega
  simp only [hv, hw, hb, e]

end payloads

end Cert.ProjSampleIdeal.Value

end
-- ==== Proof.ProjSampleValue.lean ====
module

public import proofs.«01_k».proof.Proof.Gen.ProjSampleIdeal.Value
public import proofs.«01_k».proof.Proof.Gen.ProjSampleReferenceIdeal.Run
public import proofs.«01_k».proof.Proof.Gen.ProjSampleReferenceIdeal.Read
public import proofs.«01_k».proof.Proof.ProjSamplePays
public import Idealize.ShloMosaic.Lib.Pipeline.ValueKit
public import Idealize.ShloMosaic.Lib.Claim

/-! The sample batch's projection call of the first layer: the thirteen results, whole. -/

@[expose] public section

set_option maxRecDepth 16384

noncomputable section

open Idealize.ShloMosaic Idealize.ShloMosaic.TcCoe Idealize.SL.Sem
open Idealize.ShloMosaic.Pipeline (Dat)
open Cert.ProjSampleReferenceIdeal.Read
open Cert.ProjIdeal.Value (col twice attW attB qscale qscale_nonneg qscale_ne_top padding padding_eq fold_scale row_of)

namespace Cert.ProjSampleIdeal.Value

open Cert.ProjSampleIdeal Cert.ProjSampleIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

theorem lt_N (t : Fin cfg0.N) : t.val < 2 := t.isLt

/-- The row of the whole array that row `r` of block `t` is. -/
def row (t : Fin cfg0.N) (r : Fin 1024) : Fin 2048 :=
  ⟨1024 * t.val + r.val, by have := lt_N t; have := r.isLt; omega⟩

/-! ## What the windows show -/

theorem read0 (c : Dev nD) (t : Fin cfg0.N) (r : Fin 1024) (k : Fin 1024) :
    iblk m c 0 t (ix2 r k) = V m c main_v46 (ix2 (row t r) k) := by
  unfold row
  blk_ext [iblk, idx t]

theorem read1 (c : Dev nD) (t : Fin cfg0.N) (y) : iblk m c 1 t y = V m c main_v49 y := by
  blk_ext [iblk, idx t]

theorem read2 (c : Dev nD) (t : Fin cfg0.N) (y) : iblk m c 2 t y = V m c main_v50 y := by
  blk_ext [iblk, idx t]

theorem read3 (c : Dev nD) (t : Fin cfg0.N) (y) : iblk m c 3 t y = V m c main_v47 y := by
  blk_ext [iblk, idx t]

theorem read4 (c : Dev nD) (t : Fin cfg0.N) (y) : iblk m c 4 t y = V m c main_v48 y := by
  blk_ext [iblk, idx t]

theorem emb5 (f : S2048x512.Idx → EReal) (t : Fin cfg0.N) (y : S1024x512.Idx) :
    f (((cfg0.win 5).blk t).view.emb y) = f (ix2 (row t (y 0)) (y 1)) := by
  unfold row
  blk_ext [idx t]

theorem emb6 (f : S2048x512.Idx → EReal) (t : Fin cfg0.N) (y : S1024x512.Idx) :
    f (((cfg0.win 6).blk t).view.emb y) = f (ix2 (row t (y 0)) (y 1)) := by
  unfold row
  blk_ext [idx t]

theorem emb7 (f : S2048x512.Idx → EReal) (t : Fin cfg0.N) (y : S1024x512.Idx) :
    f (((cfg0.win 7).blk t).view.emb y) = f (ix2 (row t (y 0)) (y 1)) := by
  unfold row
  blk_ext [idx t]

theorem emb8 (f : S2048x128.Idx → EReal) (t : Fin cfg0.N) (y : S1024x128.Idx) :
    f (((cfg0.win 8).blk t).view.emb y) = f (ix2 (row t (y 0)) (y 1)) := by
  unfold row
  blk_ext [idx t]

theorem emb9 (f : S2048x128.Idx → EReal) (t : Fin cfg0.N) (y : S1024x128.Idx) :
    f (((cfg0.win 9).blk t).view.emb y) = f (ix2 (row t (y 0)) (y 1)) := by
  unfold row
  blk_ext [idx t]

theorem emb10 (f : S2048x128.Idx → EReal) (t : Fin cfg0.N) (y : S1024x128.Idx) :
    f (((cfg0.win 10).blk t).view.emb y) = f (ix2 (row t (y 0)) (y 1)) := by
  unfold row
  blk_ext [idx t]

theorem emb11 (f : S2048x128.Idx → EReal) (t : Fin cfg0.N) (y : S1024x128.Idx) :
    f (((cfg0.win 11).blk t).view.emb y) = f (ix2 (row t (y 0)) (y 1)) := by
  unfold row
  blk_ext [idx t]

theorem emb12 (f : S2048x512.Idx → EReal) (t : Fin cfg0.N) (y : S1024x512.Idx) :
    f (((cfg0.win 12).blk t).view.emb y) = f (ix2 (row t (y 0)) (y 1)) := by
  unfold row
  blk_ext [idx t]

theorem emb13 (f : S2048x512.Idx → EReal) (t : Fin cfg0.N) (y : S1024x512.Idx) :
    f (((cfg0.win 13).blk t).view.emb y) = f (ix2 (row t (y 0)) (y 1)) := by
  unfold row
  blk_ext [idx t]

theorem emb14 (f : S2048x64.Idx → EReal) (t : Fin cfg0.N) (y : S1024x64.Idx) :
    f (((cfg0.win 14).blk t).view.emb y) = f (ix2 (row t (y 0)) (y 1)) := by
  unfold row
  blk_ext [idx t]

theorem emb15 (f : S2048x64.Idx → EReal) (t : Fin cfg0.N) (y : S1024x64.Idx) :
    f (((cfg0.win 15).blk t).view.emb y) = f (ix2 (row t (y 0)) (y 1)) := by
  unfold row
  blk_ext [idx t]

theorem emb16 (f : S2048x64.Idx → EReal) (t : Fin cfg0.N) (y : S1024x64.Idx) :
    f (((cfg0.win 16).blk t).view.emb y) = f (ix2 (row t (y 0)) (y 1)) := by
  unfold row
  blk_ext [idx t]

theorem emb17 (f : S2048x1024.Idx → EReal) (t : Fin cfg0.N) (y : S1024x1024.Idx) :
    f (((cfg0.win 17).blk t).view.emb y) = f (ix2 (row t (y 0)) (y 1)) := by
  unfold row
  blk_ext [idx t]

/-! ## What the host line leaves in the operands -/

theorem entry0 (c : Dev nD) : V m c main_v46
    = (shapeCast S2048x1024 (m ((c : Thread nD τ).loc main_arg0) : FVec Ideal S8x256x1024 .f32) shapeCasts_S8x256x1024_S2048x1024 : FVec Ideal S2048x1024 .f32) := by
  simp only [V, hostOps0, hostOps0_1, hostOps0_2, hostOps0_3, hostOps0_4, List.flatten_cons, List.flatten_nil,
    List.append_nil, List.cons_append, List.nil_append]
  after_results
  rfl

theorem entry1 (c : Dev nD) : V m c main_v49
    = (shapeCast S1x1024 (m ((c : Thread nD τ).loc main_arg1) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry2 (c : Dev nD) : V m c main_v50
    = (shapeCast S1x1024 (m ((c : Thread nD τ).loc main_arg2) : FVec Ideal S1024 .f32) shapeCasts_S1024_S1x1024 : FVec Ideal S1x1024 .f32) := by
  simp only [V, hostOps0, hostOps0_1, hostOps0_2, hostOps0_3, hostOps0_4, List.flatten_cons, List.flatten_nil,
    List.append_nil, List.cons_append, List.nil_append]
  after_results
  rfl

theorem entry3 (c : Dev nD) : V m c main_v47 = attW (m ((c : Thread nD τ).loc main_arg3)) := by
  simp only [V, hostOps0, hostOps0_1, hostOps0_2, hostOps0_3, hostOps0_4, List.flatten_cons, List.flatten_nil,
    List.append_nil, List.cons_append, List.nil_append]
  after_results
  rfl

theorem entry4 (c : Dev nD) : V m c main_v48 = attB (m ((c : Thread nD τ).loc main_arg4)) := by
  simp only [V, hostOps0, hostOps0_1, hostOps0_2, hostOps0_3, hostOps0_4, List.flatten_cons, List.flatten_nil,
    List.append_nil, List.cons_append, List.nil_append]
  after_results
  rfl

/-- The call's own rows of its input. -/
theorem in0 (c : Dev nD) (t : Fin cfg0.N) (r k : Fin 1024) :
    View.ld (iblk m c 0 t) r0_0 (ix2 r k) = val_main_v0 (F := Ideal) (m ((c : Thread nD τ).loc main_arg0)) (ix2 (row t r) k) := by
  have e : r0_0.emb (ix2 r k) = ix2 r k := by
    funext a
    fin_cases a
    · exact Fin.ext (by show 0 + 1 * r.val = r.val; omega)
    · exact Fin.ext (by show 0 + 1 * k.val = k.val; omega)
  show iblk m c 0 t (r0_0.emb (ix2 r k)) = _
  rw [e, read0, entry0]
  rfl

theorem emb_row (k : Fin 1024) : r0_1.emb (ix2 0 k) = ix2 0 k := by
  funext a
  fin_cases a
  · exact Fin.ext (by rfl)
  · exact Fin.ext (by show 0 + 1 * k.val = k.val; omega)

theorem in1 (c : Dev nD) (t : Fin cfg0.N) (k : Fin 1024) :
    View.ld (iblk m c 1 t) r0_1 (ix2 0 k) = (m ((c : Thread nD τ).loc main_arg1) : FVec Ideal S1024 .f32) (ix1 k) := by
  show iblk m c 1 t (r0_1.emb (ix2 0 k)) = _
  rw [emb_row, read1, entry1, row_of]

theorem in2 (c : Dev nD) (t : Fin cfg0.N) (k : Fin 1024) :
    View.ld (iblk m c 2 t) r0_1 (ix2 0 k) = (m ((c : Thread nD τ).loc main_arg2) : FVec Ideal S1024 .f32) (ix1 k) := by
  show iblk m c 2 t (r0_1.emb (ix2 0 k)) = _
  rw [emb_row, read2, entry2, row_of]

/-- The normalised rows every projection multiplies. -/
theorem inH (c : Dev nD) (t : Fin cfg0.N) (r k : Fin 1024) :
    k0_pay6 (View.ld (iblk m c 0 t) r0_0) (View.ld (iblk m c 1 t) r0_1) (View.ld (iblk m c 2 t) r0_1) (ix2 r k)
      = val_main_v24 (F := Ideal) (m ((c : Thread nD τ).loc main_arg0)) (m ((c : Thread nD τ).loc main_arg1)) (m ((c : Thread nD τ).loc main_arg2)) (ix2 (row t r) k) :=
  pay6_eq (row t) _ _ _ _ _ _ (in0 m c t) (in1 m c t) (in2 m c t) r k

/-! The same of the blocks read whole. -/

theorem all0 (c : Dev nD) (t : Fin cfg0.N) (r k : Fin 1024) :
    iblk m c 0 t (ix2 r k) = val_main_v0 (F := Ideal) (m ((c : Thread nD τ).loc main_arg0)) (ix2 (row t r) k) := by
  rw [read0, entry0]
  rfl

theorem all1 (c : Dev nD) (t : Fin cfg0.N) (k : Fin 1024) :
    iblk m c 1 t (ix2 0 k) = (m ((c : Thread nD τ).loc main_arg1) : FVec Ideal S1024 .f32) (ix1 k) := by
  rw [read1, entry1, row_of]

theorem all2 (c : Dev nD) (t : Fin cfg0.N) (k : Fin 1024) :
    iblk m c 2 t (ix2 0 k) = (m ((c : Thread nD τ).loc main_arg2) : FVec Ideal S1024 .f32) (ix1 k) := by
  rw [read2, entry2, row_of]

theorem allH (c : Dev nD) (t : Fin cfg0.N) (r k : Fin 1024) :
    k0_pay6 (iblk m c 0 t) (iblk m c 1 t) (iblk m c 2 t) (ix2 r k) = val_main_v24 (F := Ideal) (m ((c : Thread nD τ).loc main_arg0)) (m ((c : Thread nD τ).loc main_arg1)) (m ((c : Thread nD τ).loc main_arg2)) (ix2 (row t r) k) :=
  pay6_eq (row t) _ _ _ _ _ _ (all0 m c t) (all1 m c t) (all2 m c t) r k

theorem inW_qa (c : Dev nD) (t : Fin cfg0.N) (k : Fin 1024) (j : Fin 512) :
    View.ld (iblk m c 3 t) r0_2 (ix2 k j) = attW (m ((c : Thread nD τ).loc main_arg3)) (r0_2.emb (ix2 k j)) := by
  show iblk m c 3 t (r0_2.emb (ix2 k j)) = _
  rw [read3, entry3]

theorem inB_qa (c : Dev nD) (t : Fin cfg0.N) (j : Fin 512) :
    View.ld (iblk m c 4 t) r0_3 (ix2 0 j) = attB (m ((c : Thread nD τ).loc main_arg4)) (r0_3.emb (ix2 0 j)) := by
  show iblk m c 4 t (r0_3.emb (ix2 0 j)) = _
  rw [read4, entry4]

theorem inW_ka (c : Dev nD) (t : Fin cfg0.N) (k : Fin 1024) (j : Fin 512) :
    View.ld (iblk m c 3 t) r0_5 (ix2 k j) = attW (m ((c : Thread nD τ).loc main_arg3)) (r0_5.emb (ix2 k j)) := by
  show iblk m c 3 t (r0_5.emb (ix2 k j)) = _
  rw [read3, entry3]

theorem inB_ka (c : Dev nD) (t : Fin cfg0.N) (j : Fin 512) :
    View.ld (iblk m c 4 t) r0_6 (ix2 0 j) = attB (m ((c : Thread nD τ).loc main_arg4)) (r0_6.emb (ix2 0 j)) := by
  show iblk m c 4 t (r0_6.emb (ix2 0 j)) = _
  rw [read4, entry4]

theorem inW_va (c : Dev nD) (t : Fin cfg0.N) (k : Fin 1024) (j : Fin 512) :
    View.ld (iblk m c 3 t) r0_7 (ix2 k j) = attW (m ((c : Thread nD τ).loc main_arg3)) (r0_7.emb (ix2 k j)) := by
  show iblk m c 3 t (r0_7.emb (ix2 k j)) = _
  rw [read3, entry3]

theorem inB_va (c : Dev nD) (t : Fin cfg0.N) (j : Fin 512) :
    View.ld (iblk m c 4 t) r0_8 (ix2 0 j) = attB (m ((c : Thread nD τ).loc main_arg4)) (r0_8.emb (ix2 0 j)) := by
  show iblk m c 4 t (r0_8.emb (ix2 0 j)) = _
  rw [read4, entry4]

theorem inW_qb (c : Dev nD) (t : Fin cfg0.N) (k : Fin 1024) (j : Fin 512) :
    View.ld (iblk m c 3 t) r0_9 (ix2 k j) = attW (m ((c : Thread nD τ).loc main_arg3)) (r0_9.emb (ix2 k j)) := by
  show iblk m c 3 t (r0_9.emb (ix2 k j)) = _
  rw [read3, entry3]

theorem inB_qb (c : Dev nD) (t : Fin cfg0.N) (j : Fin 512) :
    View.ld (iblk m c 4 t) r0_10 (ix2 0 j) = attB (m ((c : Thread nD τ).loc main_arg4)) (r0_10.emb (ix2 0 j)) := by
  show iblk m c 4 t (r0_10.emb (ix2 0 j)) = _
  rw [read4, entry4]

theorem inW_qi (c : Dev nD) (t : Fin cfg0.N) (k : Fin 1024) (j : Fin 512) :
    View.ld (iblk m c 3 t) r0_11 (ix2 k j) = attW (m ((c : Thread nD τ).loc main_arg3)) (r0_11.emb (ix2 k j)) := by
  show iblk m c 3 t (r0_11.emb (ix2 k j)) = _
  rw [read3, entry3]

theorem inB_qi (c : Dev nD) (t : Fin cfg0.N) (j : Fin 512) :
    View.ld (iblk m c 4 t) r0_12 (ix2 0 j) = attB (m ((c : Thread nD τ).loc main_arg4)) (r0_12.emb (ix2 0 j)) := by
  show iblk m c 4 t (r0_12.emb (ix2 0 j)) = _
  rw [read4, entry4]

theorem inW_kb (c : Dev nD) (t : Fin cfg0.N) (k : Fin 1024) (j : Fin 128) :
    View.ld (iblk m c 3 t) r0_13 (ix2 k j) = attW (m ((c : Thread nD τ).loc main_arg3)) (r0_13.emb (ix2 k j)) := by
  show iblk m c 3 t (r0_13.emb (ix2 k j)) = _
  rw [read3, entry3]

theorem inB_kb (c : Dev nD) (t : Fin cfg0.N) (j : Fin 128) :
    View.ld (iblk m c 4 t) r0_14 (ix2 0 j) = attB (m ((c : Thread nD τ).loc main_arg4)) (r0_14.emb (ix2 0 j)) := by
  show iblk m c 4 t (r0_14.emb (ix2 0 j)) = _
  rw [read4, entry4]

theorem inW_vb (c : Dev nD) (t : Fin cfg0.N) (k : Fin 1024) (j : Fin 128) :
    View.ld (iblk m c 3 t) r0_17 (ix2 k j) = attW (m ((c : Thread nD τ).loc main_arg3)) (r0_17.emb (ix2 k j)) := by
  show iblk m c 3 t (r0_17.emb (ix2 k j)) = _
  rw [read3, entry3]

theorem inB_vb (c : Dev nD) (t : Fin cfg0.N) (j : Fin 128) :
    View.ld (iblk m c 4 t) r0_18 (ix2 0 j) = attB (m ((c : Thread nD τ).loc main_arg4)) (r0_18.emb (ix2 0 j)) := by
  show iblk m c 4 t (r0_18.emb (ix2 0 j)) = _
  rw [read4, entry4]

theorem inW_ki (c : Dev nD) (t : Fin cfg0.N) (k : Fin 1024) (j : Fin 128) :
    View.ld (iblk m c 3 t) r0_19 (ix2 k j) = attW (m ((c : Thread nD τ).loc main_arg3)) (r0_19.emb (ix2 k j)) := by
  show iblk m c 3 t (r0_19.emb (ix2 k j)) = _
  rw [read3, entry3]

theorem inB_ki (c : Dev nD) (t : Fin cfg0.N) (j : Fin 128) :
    View.ld (iblk m c 4 t) r0_20 (ix2 0 j) = attB (m ((c : Thread nD τ).loc main_arg4)) (r0_20.emb (ix2 0 j)) := by
  show iblk m c 4 t (r0_20.emb (ix2 0 j)) = _
  rw [read4, entry4]

theorem inW_wi (c : Dev nD) (t : Fin cfg0.N) (k : Fin 1024) (j : Fin 128) :
    View.ld (iblk m c 3 t) r0_21 (ix2 k j) = attW (m ((c : Thread nD τ).loc main_arg3)) (r0_21.emb (ix2 k j)) := by
  show iblk m c 3 t (r0_21.emb (ix2 k j)) = _
  rw [read3, entry3]

theorem inB_wi (c : Dev nD) (t : Fin cfg0.N) (j : Fin 128) :
    View.ld (iblk m c 4 t) r0_22 (ix2 0 j) = attB (m ((c : Thread nD τ).loc main_arg4)) (r0_22.emb (ix2 0 j)) := by
  show iblk m c 4 t (r0_22.emb (ix2 0 j)) = _
  rw [read4, entry4]

/-- The reference's rows for this result. -/
abbrev REF5 (c : Dev nD) : S2048x512.Idx → EReal := val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point5 (c : Dev nD) (t : Fin cfg0.N) (y : S1024x512.Idx) :
    out0_5 (iblk m c 0 t) (iblk m c 1 t) (iblk m c 2 t) (iblk m c 3 t) (iblk m c 4 t) y = REF5 m c (((cfg0.win 5).blk t).view.emb y) := by
  rw [emb5 (REF5 m c) t y]
  unfold out0_5
  frame_out
  have hy : y = ix2 (y 0) (y 1) := by funext a; fin_cases a <;> rfl
  generalize (y 0 : Fin 1024) = r at hy
  generalize (y 1 : Fin 512) = j at hy
  subst hy
  show k0_pay10 (k0_pay6 _ _ _) _ _ _ = _
  exact out5_eq (row t) _ _ _ _ _ _ _ _ (allH m c t)
    (fun k j => (inW_qa m c t k j).trans (Cert.ProjIdeal.Value.attW_qa _ k j)) (fun j => (inB_qa m c t j).trans (Cert.ProjIdeal.Value.attB_qa _ j)) r j

theorem final5 (c : Dev nD) : (dats m 0 c).arrAt 5 (cfgs 0).N = REF5 m c := by
  refine (dats m 0 c).arrAt_eq_of_covers 5 _ (by decide +kernel) fun t _ y => ?_
  blk_simp
  rw [after0_5]
  exact point5 m c t y

/-- The reference's rows for this result. -/
abbrev REF6 (c : Dev nD) : S2048x512.Idx → EReal := val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point6 (c : Dev nD) (t : Fin cfg0.N) (y : S1024x512.Idx) :
    out0_6 (iblk m c 0 t) (iblk m c 1 t) (iblk m c 2 t) (iblk m c 3 t) (iblk m c 4 t) y = REF6 m c (((cfg0.win 6).blk t).view.emb y) := by
  rw [emb6 (REF6 m c) t y]
  unfold out0_6
  frame_out
  have hy : y = ix2 (y 0) (y 1) := by funext a; fin_cases a <;> rfl
  generalize (y 0 : Fin 1024) = r at hy
  generalize (y 1 : Fin 512) = j at hy
  subst hy
  exact out6_eq (row t) _ _ _ _ _ _ _ _ (inH m c t)
    (fun k j => (inW_qb m c t k j).trans (Cert.ProjIdeal.Value.attW_qb _ k j)) (fun j => (inB_qb m c t j).trans (Cert.ProjIdeal.Value.attB_qb _ j)) r j

theorem final6 (c : Dev nD) : (dats m 0 c).arrAt 6 (cfgs 0).N = REF6 m c := by
  refine (dats m 0 c).arrAt_eq_of_covers 6 _ (by decide +kernel) fun t _ y => ?_
  blk_simp
  rw [after0_6]
  exact point6 m c t y

/-- The reference's rows for this result. -/
abbrev REF7 (c : Dev nD) : S2048x512.Idx → EReal := val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point7 (c : Dev nD) (t : Fin cfg0.N) (y : S1024x512.Idx) :
    out0_7 (iblk m c 0 t) (iblk m c 1 t) (iblk m c 2 t) (iblk m c 3 t) (iblk m c 4 t) y = REF7 m c (((cfg0.win 7).blk t).view.emb y) := by
  rw [emb7 (REF7 m c) t y]
  unfold out0_7
  frame_out
  have hy : y = ix2 (y 0) (y 1) := by funext a; fin_cases a <;> rfl
  generalize (y 0 : Fin 1024) = r at hy
  generalize (y 1 : Fin 512) = j at hy
  subst hy
  exact out7_eq (row t) _ _ _ _ _ _ _ _ (inH m c t)
    (fun k j => (inW_qi m c t k j).trans (Cert.ProjIdeal.Value.attW_qi _ k j)) (fun j => (inB_qi m c t j).trans (Cert.ProjIdeal.Value.attB_qi _ j)) r j

theorem final7 (c : Dev nD) : (dats m 0 c).arrAt 7 (cfgs 0).N = REF7 m c := by
  refine (dats m 0 c).arrAt_eq_of_covers 7 _ (by decide +kernel) fun t _ y => ?_
  blk_simp
  rw [after0_7]
  exact point7 m c t y

/-- The reference's rows for this result. -/
abbrev REF8 (c : Dev nD) : S2048x128.Idx → EReal := val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point8 (c : Dev nD) (t : Fin cfg0.N) (y : S1024x128.Idx) :
    out0_8 (iblk m c 0 t) (iblk m c 1 t) (iblk m c 2 t) (iblk m c 3 t) (iblk m c 4 t) y = REF8 m c (((cfg0.win 8).blk t).view.emb y) := by
  rw [emb8 (REF8 m c) t y]
  unfold out0_8
  frame_out
  have hy : y = ix2 (y 0) (y 1) := by funext a; fin_cases a <;> rfl
  generalize (y 0 : Fin 1024) = r at hy
  generalize (y 1 : Fin 128) = j at hy
  subst hy
  exact out8_eq (row t) _ _ _ _ _ _ _ _ (inH m c t)
    (fun k j => (inW_kb m c t k j).trans (Cert.ProjIdeal.Value.attW_kb _ k j)) (fun j => (inB_kb m c t j).trans (Cert.ProjIdeal.Value.attB_kb _ j)) r j

theorem final8 (c : Dev nD) : (dats m 0 c).arrAt 8 (cfgs 0).N = REF8 m c := by
  refine (dats m 0 c).arrAt_eq_of_covers 8 _ (by decide +kernel) fun t _ y => ?_
  blk_simp
  rw [after0_8]
  exact point8 m c t y

/-- The reference's rows for this result. -/
abbrev REF9 (c : Dev nD) : S2048x128.Idx → EReal := val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point9 (c : Dev nD) (t : Fin cfg0.N) (y : S1024x128.Idx) :
    out0_9 (iblk m c 0 t) (iblk m c 1 t) (iblk m c 2 t) (iblk m c 3 t) (iblk m c 4 t) y = REF9 m c (((cfg0.win 9).blk t).view.emb y) := by
  rw [emb9 (REF9 m c) t y]
  unfold out0_9
  frame_out
  have hy : y = ix2 (y 0) (y 1) := by funext a; fin_cases a <;> rfl
  generalize (y 0 : Fin 1024) = r at hy
  generalize (y 1 : Fin 128) = j at hy
  subst hy
  exact out9_eq (row t) _ _ _ _ _ _ _ _ (inH m c t)
    (fun k j => (inW_vb m c t k j).trans (Cert.ProjIdeal.Value.attW_vb _ k j)) (fun j => (inB_vb m c t j).trans (Cert.ProjIdeal.Value.attB_vb _ j)) r j

theorem final9 (c : Dev nD) : (dats m 0 c).arrAt 9 (cfgs 0).N = REF9 m c := by
  refine (dats m 0 c).arrAt_eq_of_covers 9 _ (by decide +kernel) fun t _ y => ?_
  blk_simp
  rw [after0_9]
  exact point9 m c t y

/-- The reference's rows for this result. -/
abbrev REF10 (c : Dev nD) : S2048x128.Idx → EReal := val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point10 (c : Dev nD) (t : Fin cfg0.N) (y : S1024x128.Idx) :
    out0_10 (iblk m c 0 t) (iblk m c 1 t) (iblk m c 2 t) (iblk m c 3 t) (iblk m c 4 t) y = REF10 m c (((cfg0.win 10).blk t).view.emb y) := by
  rw [emb10 (REF10 m c) t y]
  unfold out0_10
  frame_out
  have hy : y = ix2 (y 0) (y 1) := by funext a; fin_cases a <;> rfl
  generalize (y 0 : Fin 1024) = r at hy
  generalize (y 1 : Fin 128) = j at hy
  subst hy
  exact out10_eq (row t) _ _ _ _ _ _ _ _ (inH m c t)
    (fun k j => (inW_ki m c t k j).trans (Cert.ProjIdeal.Value.attW_ki _ k j)) (fun j => (inB_ki m c t j).trans (Cert.ProjIdeal.Value.attB_ki _ j)) r j

theorem final10 (c : Dev nD) : (dats m 0 c).arrAt 10 (cfgs 0).N = REF10 m c := by
  refine (dats m 0 c).arrAt_eq_of_covers 10 _ (by decide +kernel) fun t _ y => ?_
  blk_simp
  rw [after0_10]
  exact point10 m c t y

/-- The reference's rows for this result. -/
abbrev REF11 (c : Dev nD) : S2048x128.Idx → EReal := val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point11 (c : Dev nD) (t : Fin cfg0.N) (y : S1024x128.Idx) :
    out0_11 (iblk m c 0 t) (iblk m c 1 t) (iblk m c 2 t) (iblk m c 3 t) (iblk m c 4 t) y = REF11 m c (((cfg0.win 11).blk t).view.emb y) := by
  rw [emb11 (REF11 m c) t y]
  unfold out0_11
  frame_out
  have hy : y = ix2 (y 0) (y 1) := by funext a; fin_cases a <;> rfl
  generalize (y 0 : Fin 1024) = r at hy
  generalize (y 1 : Fin 128) = j at hy
  subst hy
  exact out11_eq (row t) _ _ _ _ _ _ _ _ (inH m c t)
    (fun k j => (inW_wi m c t k j).trans (Cert.ProjIdeal.Value.attW_wi _ k j)) (fun j => (inB_wi m c t j).trans (Cert.ProjIdeal.Value.attB_wi _ j)) r j

theorem final11 (c : Dev nD) : (dats m 0 c).arrAt 11 (cfgs 0).N = REF11 m c := by
  refine (dats m 0 c).arrAt_eq_of_covers 11 _ (by decide +kernel) fun t _ y => ?_
  blk_simp
  rw [after0_11]
  exact point11 m c t y

/-- The reference's rows for this result. -/
abbrev REF12 (c : Dev nD) : S2048x512.Idx → EReal := val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point12 (c : Dev nD) (t : Fin cfg0.N) (y : S1024x512.Idx) :
    out0_12 (iblk m c 0 t) (iblk m c 1 t) (iblk m c 2 t) (iblk m c 3 t) (iblk m c 4 t) y = REF12 m c (((cfg0.win 12).blk t).view.emb y) := by
  rw [emb12 (REF12 m c) t y]
  unfold out0_12
  frame_out
  have hy : y = ix2 (y 0) (y 1) := by funext a; fin_cases a <;> rfl
  generalize (y 0 : Fin 1024) = r at hy
  generalize (y 1 : Fin 512) = j at hy
  subst hy
  exact out12_eq (row t) _ _ _ _ _ _ _ _ (inH m c t)
    (fun k j => (inW_ka m c t k j).trans (Cert.ProjIdeal.Value.attW_ka _ k j)) (fun j => (inB_ka m c t j).trans (Cert.ProjIdeal.Value.attB_ka _ j)) r j

theorem final12 (c : Dev nD) : (dats m 0 c).arrAt 12 (cfgs 0).N = REF12 m c := by
  refine (dats m 0 c).arrAt_eq_of_covers 12 _ (by decide +kernel) fun t _ y => ?_
  blk_simp
  rw [after0_12]
  exact point12 m c t y

/-- The reference's rows for this result. -/
abbrev REF13 (c : Dev nD) : S2048x512.Idx → EReal := val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point13 (c : Dev nD) (t : Fin cfg0.N) (y : S1024x512.Idx) :
    out0_13 (iblk m c 0 t) (iblk m c 1 t) (iblk m c 2 t) (iblk m c 3 t) (iblk m c 4 t) y = REF13 m c (((cfg0.win 13).blk t).view.emb y) := by
  rw [emb13 (REF13 m c) t y]
  unfold out0_13
  frame_out
  have hy : y = ix2 (y 0) (y 1) := by funext a; fin_cases a <;> rfl
  generalize (y 0 : Fin 1024) = r at hy
  generalize (y 1 : Fin 512) = j at hy
  subst hy
  exact out13_eq (row t) _ _ _ _ _ _ _ _ (inH m c t)
    (fun k j => (inW_va m c t k j).trans (Cert.ProjIdeal.Value.attW_va _ k j)) (fun j => (inB_va m c t j).trans (Cert.ProjIdeal.Value.attB_va _ j)) r j

theorem final13 (c : Dev nD) : (dats m 0 c).arrAt 13 (cfgs 0).N = REF13 m c := by
  refine (dats m 0 c).arrAt_eq_of_covers 13 _ (by decide +kernel) fun t _ y => ?_
  blk_simp
  rw [after0_13]
  exact point13 m c t y

/-- The reference's rows for this result. -/
abbrev REF14 (c : Dev nD) : S2048x64.Idx → EReal := val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point14 (c : Dev nD) (t : Fin cfg0.N) (y : S1024x64.Idx) :
    out0_14 (iblk m c 0 t) (iblk m c 1 t) (iblk m c 2 t) (iblk m c 3 t) (iblk m c 4 t) y = REF14 m c (((cfg0.win 14).blk t).view.emb y) := by
  rw [emb14 (REF14 m c) t y]
  unfold out0_14
  frame_out
  have hy : y = ix2 (y 0) (y 1) := by funext a; fin_cases a <;> rfl
  generalize (y 0 : Fin 1024) = r at hy
  generalize (y 1 : Fin 64) = j at hy
  subst hy
  exact out14_eq (row t) _ _ _ _ _ _ _ _ (inH m c t)
    (fun k j => (inW_kb m c t k j).trans (Cert.ProjIdeal.Value.attW_kb _ k j)) (fun j => (inB_kb m c t j).trans (Cert.ProjIdeal.Value.attB_kb _ j)) r j

theorem final14 (c : Dev nD) : (dats m 0 c).arrAt 14 (cfgs 0).N = REF14 m c := by
  refine (dats m 0 c).arrAt_eq_of_covers 14 _ (by decide +kernel) fun t _ y => ?_
  blk_simp
  rw [after0_14]
  exact point14 m c t y

/-- The reference's rows for this result. -/
abbrev REF15 (c : Dev nD) : S2048x64.Idx → EReal := val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point15 (c : Dev nD) (t : Fin cfg0.N) (y : S1024x64.Idx) :
    out0_15 (iblk m c 0 t) (iblk m c 1 t) (iblk m c 2 t) (iblk m c 3 t) (iblk m c 4 t) y = REF15 m c (((cfg0.win 15).blk t).view.emb y) := by
  rw [emb15 (REF15 m c) t y]
  unfold out0_15
  frame_out
  have hy : y = ix2 (y 0) (y 1) := by funext a; fin_cases a <;> rfl
  generalize (y 0 : Fin 1024) = r at hy
  generalize (y 1 : Fin 64) = j at hy
  subst hy
  exact out15_eq (row t) _ _ _ _ _ _ _ _ (inH m c t)
    (fun k j => (inW_vb m c t k j).trans (Cert.ProjIdeal.Value.attW_vb _ k j)) (fun j => (inB_vb m c t j).trans (Cert.ProjIdeal.Value.attB_vb _ j)) r j

theorem final15 (c : Dev nD) : (dats m 0 c).arrAt 15 (cfgs 0).N = REF15 m c := by
  refine (dats m 0 c).arrAt_eq_of_covers 15 _ (by decide +kernel) fun t _ y => ?_
  blk_simp
  rw [after0_15]
  exact point15 m c t y

/-- The reference's rows for this result. -/
abbrev REF16 (c : Dev nD) : S2048x64.Idx → EReal := val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxHeartbeats 1000000 in
theorem point16 (c : Dev nD) (t : Fin cfg0.N) (y : S1024x64.Idx) :
    out0_16 (iblk m c 0 t) (iblk m c 1 t) (iblk m c 2 t) (iblk m c 3 t) (iblk m c 4 t) y = REF16 m c (((cfg0.win 16).blk t).view.emb y) := by
  rw [emb16 (REF16 m c) t y]
  unfold out0_16
  frame_out
  have hy : y = ix2 (y 0) (y 1) := by funext a; fin_cases a <;> rfl
  generalize (y 0 : Fin 1024) = r at hy
  generalize (y 1 : Fin 64) = j at hy
  subst hy
  exact out16_eq (row t) _ _ _ _ _ _ _ _ (inH m c t)
    (fun k j => (inW_ki m c t k j).trans (Cert.ProjIdeal.Value.attW_ki _ k j)) (fun j => (inB_ki m c t j).trans (Cert.ProjIdeal.Value.attB_ki _ j)) r j

theorem final16 (c : Dev nD) : (dats m 0 c).arrAt 16 (cfgs 0).N = REF16 m c := by
  refine (dats m 0 c).arrAt_eq_of_covers 16 _ (by decide +kernel) fun t _ y => ?_
  blk_simp
  rw [after0_16]
  exact point16 m c t y

/-- The reference's rows for this result. -/
abbrev REF17 (c : Dev nD) : S2048x1024.Idx → EReal := val_main_v24 (F := Ideal) (m ((c : Thread nD τ).loc main_arg0)) (m ((c : Thread nD τ).loc main_arg1)) (m ((c : Thread nD τ).loc main_arg2))

set_option maxHeartbeats 1000000 in
theorem point17 (c : Dev nD) (t : Fin cfg0.N) (y : S1024x1024.Idx) :
    out0_17 (iblk m c 0 t) (iblk m c 1 t) (iblk m c 2 t) (iblk m c 3 t) (iblk m c 4 t) y = REF17 m c (((cfg0.win 17).blk t).view.emb y) := by
  rw [emb17 (REF17 m c) t y]
  unfold out0_17
  frame_out
  have hy : y = ix2 (y 0) (y 1) := by funext a; fin_cases a <;> rfl
  generalize (y 0 : Fin 1024) = r at hy
  generalize (y 1 : Fin 1024) = j at hy
  subst hy
  exact pay5_eq (row t) _ _ _ _ _ _ (all0 m c t) (all1 m c t) (all2 m c t) r j

theorem final17 (c : Dev nD) : (dats m 0 c).arrAt 17 (cfgs 0).N = REF17 m c := by
  refine (dats m 0 c).arrAt_eq_of_covers 17 _ (by decide +kernel) fun t _ y => ?_
  blk_simp
  rw [after0_17]
  exact point17 m c t y

end Cert.ProjSampleIdeal.Value

end
-- ==== Proof.ProjSampleClaim.lean ====
module

public import proofs.«01_k».proof.Defs
public import proofs.«01_k».proof.Proof.ProjSampleValue
public import Idealize.ShloMosaic.Lib.Claim

/-! The projection call: the idealized kernel and the idealized reference end with the same thirteen arrays. -/

@[expose] public section

noncomputable section

namespace Cert.ProjSampleClaim

open Idealize.ShloMosaic Idealize.SL.Sem

set_option maxHeartbeats 4000000 in
theorem same : algebraic_ProjSampleIdeal_ProjSampleReferenceIdeal (hProjSampleIdeal := Cert.ProjSampleIdeal.Gen.facts)
    (hProjSampleReferenceIdeal := Cert.ProjSampleReferenceIdeal.Gen.facts) := by
  intro m g m' g' _ hagree
  refine ⟨fun c => Cert.ProjSampleIdeal.Value.REF5 m c, fun c => Cert.ProjSampleIdeal.Value.REF6 m c, fun c => Cert.ProjSampleIdeal.Value.REF7 m c, fun c => Cert.ProjSampleIdeal.Value.REF8 m c, fun c => Cert.ProjSampleIdeal.Value.REF9 m c, fun c => Cert.ProjSampleIdeal.Value.REF10 m c, fun c => Cert.ProjSampleIdeal.Value.REF11 m c, fun c => Cert.ProjSampleIdeal.Value.REF12 m c, fun c => Cert.ProjSampleIdeal.Value.REF13 m c, fun c => Cert.ProjSampleIdeal.Value.REF14 m c, fun c => Cert.ProjSampleIdeal.Value.REF15 m c, fun c => Cert.ProjSampleIdeal.Value.REF16 m c, fun c => Cert.ProjSampleIdeal.Value.REF17 m c, ?_, ?_⟩
  · refine (θ_run _ _ _).mono (fun r h c => ?_) (Cert.ProjSampleIdeal.Value.run_blocks m g)
    obtain ⟨e5, e6, e7, e8, e9, e10, e11, e12, e13, e14, e15, e16, e17, args⟩ := h c
    exact ⟨e5.trans (Cert.ProjSampleIdeal.Value.final5 m c), e6.trans (Cert.ProjSampleIdeal.Value.final6 m c), e7.trans (Cert.ProjSampleIdeal.Value.final7 m c), e8.trans (Cert.ProjSampleIdeal.Value.final8 m c), e9.trans (Cert.ProjSampleIdeal.Value.final9 m c), e10.trans (Cert.ProjSampleIdeal.Value.final10 m c), e11.trans (Cert.ProjSampleIdeal.Value.final11 m c), e12.trans (Cert.ProjSampleIdeal.Value.final12 m c), e13.trans (Cert.ProjSampleIdeal.Value.final13 m c), e14.trans (Cert.ProjSampleIdeal.Value.final14 m c), e15.trans (Cert.ProjSampleIdeal.Value.final15 m c), e16.trans (Cert.ProjSampleIdeal.Value.final16 m c), e17.trans (Cert.ProjSampleIdeal.Value.final17 m c), args⟩
  · refine (θ_run _ _ _).mono (fun r h c => ?_) (Cert.ProjSampleReferenceIdeal.Value.run m' g')
    obtain ⟨h0, h1, h2, h3, h4⟩ := hagree c
    obtain ⟨e5, e6, e7, e8, e9, e10, e11, e12, e13, e14, e15, e16, e17, args⟩ := h c
    refine ⟨e5.trans ?_, e6.trans ?_, e7.trans ?_, e8.trans ?_, e9.trans ?_, e10.trans ?_, e11.trans ?_, e12.trans ?_, e13.trans ?_, e14.trans ?_, e15.trans ?_, e16.trans ?_, e17.trans ?_, args⟩
    · rw [Cert.ProjSampleReferenceIdeal.Read.val_main_v44_eq, h0, h1, h2, h3, h4]
    · rw [Cert.ProjSampleReferenceIdeal.Read.val_main_v47_eq, h0, h1, h2, h3, h4]
    · rw [Cert.ProjSampleReferenceIdeal.Read.val_main_v48_eq, h0, h1, h2, h3, h4]
    · rw [Cert.ProjSampleReferenceIdeal.Read.val_main_v50_eq, h0, h1, h2, h3, h4]
    · rw [Cert.ProjSampleReferenceIdeal.Read.val_main_v52_eq, h0, h1, h2, h3, h4]
    · rw [Cert.ProjSampleReferenceIdeal.Read.val_main_v54_eq, h0, h1, h2, h3, h4]
    · rw [Cert.ProjSampleReferenceIdeal.Read.val_main_v55_eq, h0, h1, h2, h3, h4]
    · rw [Cert.ProjSampleReferenceIdeal.Read.val_main_v30_eq, h0, h1, h2, h3, h4]
    · rw [Cert.ProjSampleReferenceIdeal.Read.val_main_v31_eq, h0, h1, h2, h3, h4]
    · rw [Cert.ProjSampleReferenceIdeal.Read.val_main_v34_eq, h0, h1, h2, h3, h4]
    · rw [Cert.ProjSampleReferenceIdeal.Read.val_main_v35_eq, h0, h1, h2, h3, h4]
    · rw [Cert.ProjSampleReferenceIdeal.Read.val_main_v38_eq, h0, h1, h2, h3, h4]
    · rw [Cert.ProjSampleReferenceIdeal.Read.val_main_v24_eq, h0, h1, h2]

end Cert.ProjSampleClaim

end
-- ==== Proof.LaterSamplePays.lean ====
module

public import proofs.«01_k».proof.Proof.Gen.LaterSampleIdeal.Value
public import proofs.«01_k».proof.Proof.Gen.LaterSampleReferenceIdeal.Run
public import proofs.«01_k».proof.Proof.Gen.LaterSampleReferenceIdeal.Read
public import proofs.«01_k».proof.Proof.ProjPays
public import Idealize.ShloMosaic.Lib.Pipeline.ValueKit
public import Idealize.ShloMosaic.Lib.Claim

/-! The sample batch's projection call of a later layer: each stored block is the reference's rows, given what the blocks read. -/

@[expose] public section

set_option maxRecDepth 16384

noncomputable section

open Idealize.ShloMosaic Idealize.ShloMosaic.TcCoe Idealize.SL.Sem
open Idealize.ShloMosaic.Pipeline (Dat)
open Cert.LaterSampleReferenceIdeal.Read
open Cert.ProjIdeal.Value (col twice attW attB qscale qscale_nonneg qscale_ne_top padding padding_eq fold_scale)

namespace Cert.LaterSampleIdeal.Value

open Cert.LaterSampleIdeal Cert.LaterSampleIdeal.Gen

section payloads
variable (R : Fin 1024 → Fin 2048)

theorem out3_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 0 (by norm_num) j)) * qscale)
    (hb : ∀ j : Fin 512, vb (ix2 0 j) = x2 (ix1 (col 0 (by norm_num) j)) * qscale) (r : Fin 1024) (j : Fin 512) :
    k0_pay9 v vw vb (ix2 r j) = val_main_v19 (F := Ideal) x0 x1 x2 (ix2 (R r) j) := by
  unfold col at hw hb
  pointwise [k0_pay9, k0_pay8, val_main_v19, val_main_v18, val_main_v17, val_main_v4, val_main_cst, val_main_v3, val_main_v2, val_main_v1, val_main_v0]
  simp only [hv, hw, hb, zero_add]
  exact fold_scale qscale qscale_nonneg qscale_ne_top _ (fun k => x1 (ix2 k ⟨j.val, by omega⟩)) _

theorem out4_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 2048 (by norm_num) j)) * qscale)
    (hb : ∀ j : Fin 512, vb (ix2 0 j) = x2 (ix1 (col 2048 (by norm_num) j)) * qscale) (r : Fin 1024) (j : Fin 512) :
    k0_pay13 (k0_pay12 v vw) vb (ix2 r j) = val_main_v22 (F := Ideal) x0 x1 x2 (ix2 (R r) j) := by
  unfold col at hw hb
  pointwise [k0_pay13, k0_pay12, k0_pay8, val_main_v22, val_main_v21, val_main_v20, val_main_v8, val_main_cst_0, val_main_v3, val_main_v2, val_main_v1, val_main_v0]
  simp only [hv, hw, hb]
  exact fold_scale qscale qscale_nonneg qscale_ne_top _ (fun k => x1 (ix2 k ⟨2048 + j.val, by omega⟩)) _

theorem out5_eq (v : FVec Ideal S1024x1024 .bf16) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 3200 (by norm_num) j)))
    (hb : ∀ j : Fin 512, vb (ix2 0 j) = x2 (ix1 (col 3200 (by norm_num) j))) (r : Fin 1024) (j : Fin 512) :
    k0_pay14 v vw vb (ix2 r j) = val_main_v23 (F := Ideal) x0 x1 x2 (ix2 (R r) j) := by
  unfold col at hw hb
  pointwise [k0_pay14, val_main_v23, val_main_v12, val_main_v3, val_main_v2, val_main_v1, val_main_v0]
  simp only [hv, hw, hb]

theorem out6_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2560 (by norm_num) j)))
    (hb : ∀ j : Fin 128, vb (ix2 0 j) = x2 (ix1 (twice 2560 (by norm_num) j))) (r : Fin 1024) (j : Fin 128) :
    k0_pay16 v vw vb (ix2 r j) = val_main_v25 (F := Ideal) x0 x1 x2 (ix2 (R r) j) := by
  unfold twice at hw hb
  have hj := j.isLt
  pointwise [k0_pay16, k0_pay15, val_main_v25, val_main_v24, val_main_v9, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out7_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2624 (by norm_num) j)))
    (hb : ∀ j : Fin 128, vb (ix2 0 j) = x2 (ix1 (twice 2624 (by norm_num) j))) (r : Fin 1024) (j : Fin 128) :
    k0_pay2 (k0_pay18 v vw) (k0_pay19 vb) (ix2 r j) = val_main_v27 (F := Ideal) x0 x1 x2 (ix2 (R r) j) := by
  unfold twice at hw hb
  have hj := j.isLt
  pointwise [k0_pay2, k0_pay1, k0_pay18, k0_pay19, val_main_v27, val_main_v26, val_main_v10, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out8_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 3712 (by norm_num) j)))
    (hb : ∀ j : Fin 128, vb (ix2 0 j) = x2 (ix1 (twice 3712 (by norm_num) j))) (r : Fin 1024) (j : Fin 128) :
    k0_pay5 v vw vb (ix2 r j) = val_main_v29 (F := Ideal) x0 x1 x2 (ix2 (R r) j) := by
  unfold twice at hw hb
  have hj := j.isLt
  pointwise [k0_pay5, k0_pay4, val_main_v29, val_main_v28, val_main_v13, val_main_v3, val_main_v2, val_main_v1, val_main_v0]
  simp only [hv, hw, hb]
  by_cases h : j.val < 64
  · have e : j.val % 64 = j.val := by omega
    simp only [e, h, dif_pos]
  · have e : j.val % 64 = j.val - 64 := by omega
    simp only [e, h, dif_neg, not_false_eq_true]

theorem out9_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = if h : j.val < 8 then x1 (ix2 k (⟨3776 + j.val, by omega⟩ : Fin 5832)) else padding)
    (hb : ∀ j : Fin 128, vb (ix2 0 j) = if h : j.val < 8 then x2 (ix1 (⟨3776 + j.val, by omega⟩ : Fin 5832)) else padding) (r : Fin 1024) (j : Fin 128) :
    k0_pay7 v vw vb (ix2 r j) = val_main_v30 (F := Ideal) x0 x1 x2 (ix2 (R r) j) := by
  pointwise [k0_pay7, val_main_v30, val_main_v14, val_main_call0_v0, val_main_c, val_main_v3, val_main_v2, val_main_v1, val_main_v0]
  simp only [hv, hw, hb]
  by_cases h : j.val < 8
  · simp only [h, dif_pos]
  · simp only [h, dif_neg, not_false_eq_true]
    show (∑ k, _ * padding) + padding = padding
    simp only [padding_eq, mul_zero, Finset.sum_const_zero, add_zero]

theorem out10_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 512 (by norm_num) j)))
    (hb : ∀ j : Fin 512, vb (ix2 0 j) = x2 (ix1 (col 512 (by norm_num) j))) (r : Fin 1024) (j : Fin 512) :
    k0_pay10 v vw vb (ix2 r j) = val_main_v5 (F := Ideal) x0 x1 x2 (ix2 (R r) j) := by
  unfold col at hw hb
  pointwise [k0_pay10, k0_pay8, val_main_v5, val_main_v3, val_main_v2, val_main_v1, val_main_v0]
  simp only [hv, hw, hb]

theorem out11_eq (v : Vec Ideal S1024x1024 .f32) (vw : Vec Ideal S1024x512 .bf16) (vb : Vec Ideal S1x512 .f32) (x0 x1 x2)
    (hv : ∀ r k, v (ix2 r k) = x0 (ix2 (R r) k))
    (hw : ∀ (k : Fin 1024) (j : Fin 512), vw (ix2 k j) = x1 (ix2 k (col 1024 (by norm_num) j)))
    (hb : ∀ j : Fin 512, vb (ix2 0 j) = x2 (ix1 (col 1024 (by norm_num) j))) (r : Fin 1024) (j : Fin 512) :
    k0_pay11 v vw vb (ix2 r j) = val_main_v6 (F := Ideal) x0 x1 x2 (ix2 (R r) j) := by
  unfold col at hw hb
  pointwise [k0_pay11, k0_pay8, val_main_v6, val_main_v3, val_main_v2, val_main_v1, val_main_v0]
  simp only [hv, hw, hb]

theorem out12_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2560 (by norm_num) j)))
    (hb : ∀ j : Fin 128, vb (ix2 0 j) = x2 (ix1 (twice 2560 (by norm_num) j))) (r : Fin 1024) (j : Fin 64) :
    k0_pay17 v vw vb (ix2 r j) = val_main_v9 (F := Ideal) x0 x1 x2 (ix2 (R r) j) := by
  unfold twice at hw hb
  have hj := j.isLt
  pointwise [k0_pay17, k0_pay15, val_main_v9, val_main_v3, val_main_v2, val_main_v1, val_main_v0]
  have e : j.val % 64 = j.val := by omega
  simp only [hv, hw, hb, e]

theorem out13_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 2624 (by norm_num) j)))
    (hb : ∀ j : Fin 128, vb (ix2 0 j) = x2 (ix1 (twice 2624 (by norm_num) j))) (r : Fin 1024) (j : Fin 64) :
    k0_pay3 (k0_pay18 v vw) (k0_pay19 vb) (ix2 r j) = val_main_v10 (F := Ideal) x0 x1 x2 (ix2 (R r) j) := by
  unfold twice at hw hb
  have hj := j.isLt
  pointwise [k0_pay3, k0_pay1, k0_pay18, k0_pay19, val_main_v10, val_main_v3, val_main_v2, val_main_v1, val_main_v0]
  have e : j.val % 64 = j.val := by omega
  simp only [hv, hw, hb, e]

theorem out14_eq (v : FVec Ideal S1024x1024 .bf16) (vw : Vec Ideal S1024x128 .bf16) (vb : Vec Ideal S1x128 .f32) (x0 x1 x2)
    (hv : ∀ r k, v (ix2 r k) = x0 (ix2 (R r) k))
    (hw : ∀ (k : Fin 1024) (j : Fin 128), vw (ix2 k j) = x1 (ix2 k (twice 3712 (by norm_num) j)))
    (hb : ∀ j : Fin 128, vb (ix2 0 j) = x2 (ix1 (twice 3712 (by norm_num) j))) (r : Fin 1024) (j : Fin 64) :
    k0_pay6 v vw vb (ix2 r j) = val_main_v13 (F := Ideal) x0 x1 x2 (ix2 (R r) j) := by
  unfold twice at hw hb
  have hj := j.isLt
  pointwise [k0_pay6, k0_pay4, val_main_v13, val_main_v3, val_main_v2, val_main_v1, val_main_v0]
  have e : j.val % 64 = j.val := by omega
  simp only [hv, hw, hb, e]

end payloads

end Cert.LaterSampleIdeal.Value

end
-- ==== Proof.LaterSampleValue.lean ====
module

public import proofs.«01_k».proof.Proof.Gen.LaterSampleIdeal.Value
public import proofs.«01_k».proof.Proof.Gen.LaterSampleReferenceIdeal.Run
public import proofs.«01_k».proof.Proof.Gen.LaterSampleReferenceIdeal.Read
public import proofs.«01_k».proof.Proof.LaterSamplePays
public import Idealize.ShloMosaic.Lib.Pipeline.ValueKit
public import Idealize.ShloMosaic.Lib.Claim

/-! The sample batch's projection call of a later layer: the twelve results, whole. -/

@[expose] public section

set_option maxRecDepth 16384

noncomputable section

open Idealize.ShloMosaic Idealize.ShloMosaic.TcCoe Idealize.SL.Sem
open Idealize.ShloMosaic.Pipeline (Dat)
open Cert.LaterSampleReferenceIdeal.Read
open Cert.ProjIdeal.Value (col twice attW attB qscale qscale_nonneg qscale_ne_top padding padding_eq fold_scale)

namespace Cert.LaterSampleIdeal.Value

open Cert.LaterSampleIdeal Cert.LaterSampleIdeal.Gen

variable (m : (ℓ : Loc nD τ sig) → Buf (Elt Ideal) ℓ)

/-- Which block each window shows at grid point `t`: the row windows the `t`-th, the others the only one. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

theorem lt_N (t : Fin cfg0.N) : t.val < 2 := t.isLt

/-- The row of the whole array that row `r` of block `t` is. -/
def row (t : Fin cfg0.N) (r : Fin 1024) : Fin 2048 :=
  ⟨1024 * t.val + r.val, by have := lt_N t; have := r.isLt; omega⟩

theorem all0 (c : Dev nD) (t : Fin cfg0.N) (r : Fin 1024) (k : Fin 1024) :
    iblk m c 0 t (ix2 r k) = (m ((c : Thread nD τ).loc main_arg0) : FVec Ideal S2048x1024 .f32) (ix2 (row t r) k) := by
  unfold row
  blk_ext [iblk, V, idx t]

theorem allH (c : Dev nD) (t : Fin cfg0.N) (r k : Fin 1024) :
    k0_pay8 (View.ld (iblk m c 0 t) r0_0) (ix2 r k) = (m ((c : Thread nD τ).loc main_arg0) : FVec Ideal S2048x1024 .f32) (ix2 (row t r) k) := by
  pointwise [k0_pay8]
  exact all0 m c t r k

theorem read1 (c : Dev nD) (t : Fin cfg0.N) (y) : iblk m c 1 t y = V m c main_v46 y := by
  blk_ext [iblk, idx t]

theorem read2 (c : Dev nD) (t : Fin cfg0.N) (y) : iblk m c 2 t y = V m c main_v47 y := by
  blk_ext [iblk, idx t]

/-- The weights are packed as the first layer's are. -/
theorem entry1 (c : Dev nD) : V m c main_v46 = attW (m ((c : Thread nD τ).loc main_arg1)) := by
  simp only [V, hostOps0, hostOps0_1, hostOps0_2, hostOps0_3, hostOps0_4, List.flatten_cons, List.flatten_nil,
    List.append_nil, List.cons_append, List.nil_append]
  after_results
  rfl

theorem entry2 (c : Dev nD) : V m c main_v47 = attB (m ((c : Thread nD τ).loc main_arg2)) := by
  simp only [V, hostOps0, hostOps0_1, hostOps0_2, hostOps0_3, hostOps0_4, List.flatten_cons, List.flatten_nil,
    List.append_nil, List.cons_append, List.nil_append]
  after_results
  rfl

theorem inW_qa (c : Dev nD) (t : Fin cfg0.N) (k : Fin 1024) (j : Fin 512) :
    View.ld (iblk m c 1 t) r0_1 (ix2 k j) = attW (m ((c : Thread nD τ).loc main_arg1)) (Cert.ProjIdeal.Gen.r0_2.emb (ix2 k j)) := by
  show iblk m c 1 t (r0_1.emb (ix2 k j)) = _
  rw [read1, entry1]

theorem inB_qa (c : Dev nD) (t : Fin cfg0.N) (j : Fin 512) :
    View.ld (iblk m c 2 t) r0_2 (ix2 0 j) = attB (m ((c : Thread nD τ).loc main_arg2)) (Cert.ProjIdeal.Gen.r0_3.emb (ix2 0 j)) := by
  show iblk m c 2 t (r0_2.emb (ix2 0 j)) = _
  rw [read2, entry2]

theorem inW_ka (c : Dev nD) (t : Fin cfg0.N) (k : Fin 1024) (j : Fin 512) :
    View.ld (iblk m c 1 t) r0_4 (ix2 k j) = attW (m ((c : Thread nD τ).loc main_arg1)) (Cert.ProjIdeal.Gen.r0_5.emb (ix2 k j)) := by
  show iblk m c 1 t (r0_4.emb (ix2 k j)) = _
  rw [read1, entry1]

theorem inB_ka (c : Dev nD) (t : Fin cfg0.N) (j : Fin 512) :
    View.ld (iblk m c 2 t) r0_5 (ix2 0 j) = attB (m ((c : Thread nD τ).loc main_arg2)) (Cert.ProjIdeal.Gen.r0_6.emb (ix2 0 j)) := by
  show iblk m c 2 t (r0_5.emb (ix2 0 j)) = _
  rw [read2, entry2]

theorem inW_va (c : Dev nD) (t : Fin cfg0.N) (k : Fin 1024) (j : Fin 512) :
    View.ld (iblk m c 1 t) r0_6 (ix2 k j) = attW (m ((c : Thread nD τ).loc main_arg1)) (Cert.ProjIdeal.Gen.r0_7.emb (ix2 k j)) := by
  show iblk m c 1 t (r0_6.emb (ix2 k j)) = _
  rw [read1, entry1]

theorem inB_va (c : Dev nD) (t : Fin cfg0.N) (j : Fin 512) :
    View.ld (iblk m c 2 t) r0_7 (ix2 0 j) = attB (m ((c : Thread nD τ).loc main_arg2)) (Cert.ProjIdeal.Gen.r0_8.emb (ix2 0 j)) := by
  show iblk m c 2 t (r0_7.emb (ix2 0 j)) = _
  rw [read2, entry2]

theorem inW_qb (c : Dev nD) (t : Fin cfg0.N) (k : Fin 1024) (j : Fin 512) :
    View.ld (iblk m c 1 t) r0_8 (ix2 k j) = attW (m ((c : Thread nD τ).loc main_arg1)) (Cert.ProjIdeal.Gen.r0_9.emb (ix2 k j)) := by
  show iblk m c 1 t (r0_8.emb (ix2 k j)) = _
  rw [read1, entry1]

theorem inB_qb (c : Dev nD) (t : Fin cfg0.N) (j : Fin 512) :
    View.ld (iblk m c 2 t) r0_9 (ix2 0 j) = attB (m ((c : Thread nD τ).loc main_arg2)) (Cert.ProjIdeal.Gen.r0_10.emb (ix2 0 j)) := by
  show iblk m c 2 t (r0_9.emb (ix2 0 j)) = _
  rw [read2, entry2]

theorem inW_qi (c : Dev nD) (t : Fin cfg0.N) (k : Fin 1024) (j : Fin 512) :
    View.ld (iblk m c 1 t) r0_10 (ix2 k j) = attW (m ((c : Thread nD τ).loc main_arg1)) (Cert.ProjIdeal.Gen.r0_11.emb (ix2 k j)) := by
  show iblk m c 1 t (r0_10.emb (ix2 k j)) = _
  rw [read1, entry1]

theorem inB_qi (c : Dev nD) (t : Fin cfg0.N) (j : Fin 512) :
    View.ld (iblk m c 2 t) r0_11 (ix2 0 j) = attB (m ((c : Thread nD τ).loc main_arg2)) (Cert.ProjIdeal.Gen.r0_12.emb (ix2 0 j)) := by
  show iblk m c 2 t (r0_11.emb (ix2 0 j)) = _
  rw [read2, entry2]

theorem inW_kb (c : Dev nD) (t : Fin cfg0.N) (k : Fin 1024) (j : Fin 128) :
    View.ld (iblk m c 1 t) r0_12 (ix2 k j) = attW (m ((c : Thread nD τ).loc main_arg1)) (Cert.ProjIdeal.Gen.r0_13.emb (ix2 k j)) := by
  show iblk m c 1 t (r0_12.emb (ix2 k j)) = _
  rw [read1, entry1]

theorem inB_kb (c : Dev nD) (t : Fin cfg0.N) (j : Fin 128) :
    View.ld (iblk m c 2 t) r0_13 (ix2 0 j) = attB (m ((c : Thread nD τ).loc main_arg2)) (Cert.ProjIdeal.Gen.r0_14.emb (ix2 0 j)) := by
  show iblk m c 2 t (r0_13.emb (ix2 0 j)) = _
  rw [read2, entry2]

theorem inW_vb (c : Dev nD) (t : Fin cfg0.N) (k : Fin 1024) (j : Fin 128) :
    View.ld (iblk m c 1 t) r0_16 (ix2 k j) = attW (m ((c : Thread nD τ).loc main_arg1)) (Cert.ProjIdeal.Gen.r0_17.emb (ix2 k j)) := by
  show iblk m c 1 t (r0_16.emb (ix2 k j)) = _
  rw [read1, entry1]

theorem inB_vb (c : Dev nD) (t : Fin cfg0.N) (j : Fin 128) :
    View.ld (iblk m c 2 t) r0_17 (ix2 0 j) = attB (m ((c : Thread nD τ).loc main_arg2)) (Cert.ProjIdeal.Gen.r0_18.emb (ix2 0 j)) := by
  show iblk m c 2 t (r0_17.emb (ix2 0 j)) = _
  rw [read2, entry2]

theorem inW_ki (c : Dev nD) (t : Fin cfg0.N) (k : Fin 1024) (j : Fin 128) :
    View.ld (iblk m c 1 t) r0_18 (ix2 k j) = attW (m ((c : Thread nD τ).loc main_arg1)) (Cert.ProjIdeal.Gen.r0_19.emb (ix2 k j)) := by
  show iblk m c 1 t (r0_18.emb (ix2 k j)) = _
  rw [read1, entry1]

theorem inB_ki (c : Dev nD) (t : Fin cfg0.N) (j : Fin 128) :
    View.ld (iblk m c 2 t) r0_19 (ix2 0 j) = attB (m ((c : Thread nD τ).loc main_arg2)) (Cert.ProjIdeal.Gen.r0_20.emb (ix2 0 j)) := by
  show iblk m c 2 t (r0_19.emb (ix2 0 j)) = _
  rw [read2, entry2]

theorem inW_wi (c : Dev nD) (t : Fin cfg0.N) (k : Fin 1024) (j : Fin 128) :
    View.ld (iblk m c 1 t) r0_20 (ix2 k j) = attW (m ((c : Thread nD τ).loc main_arg1)) (Cert.ProjIdeal.Gen.r0_21.emb (ix2 k j)) := by
  show iblk m c 1 t (r0_20.emb (ix2 k j)) = _
  rw [read1, entry1]

theorem inB_wi (c : Dev nD) (t : Fin cfg0.N) (j : Fin 128) :
    View.ld (iblk m c 2 t) r0_21 (ix2 0 j) = attB (m ((c : Thread nD τ).loc main_arg2)) (Cert.ProjIdeal.Gen.r0_22.emb (ix2 0 j)) := by
  show iblk m c 2 t (r0_21.emb (ix2 0 j)) = _
  rw [read2, entry2]

/-- The reference's rows for this result. -/
abbrev REF3 (c : Dev nD) : S2048x512.Idx → EReal := val_main_v19 (F := Ideal) (m ((c : Thread nD τ).loc main_arg0)) (m ((c : Thread nD τ).loc main_arg1)) (m ((c : Thread nD τ).loc main_arg2))

theorem emb3 (f : S2048x512.Idx → EReal) (t : Fin cfg0.N) (y : S1024x512.Idx) :
    f (((cfg0.win 3).blk t).view.emb y) = f (ix2 (row t (y 0)) (y 1)) := by
  unfold row
  blk_ext [idx t]

set_option maxHeartbeats 1000000 in
theorem point3 (c : Dev nD) (t : Fin cfg0.N) (y : S1024x512.Idx) :
    out0_3 (iblk m c 0 t) (iblk m c 1 t) (iblk m c 2 t) y = REF3 m c (((cfg0.win 3).blk t).view.emb y) := by
  rw [emb3 (REF3 m c) t y]
  unfold out0_3
  frame_out
  have hy : y = ix2 (y 0) (y 1) := by funext a; fin_cases a <;> rfl
  generalize (y 0 : Fin 1024) = r at hy
  generalize (y 1 : Fin 512) = j at hy
  subst hy
  exact out3_eq (row t) _ _ _ _ _ _ (all0 m c t)
    (fun k j => (inW_qa m c t k j).trans (Cert.ProjIdeal.Value.attW_qa _ k j))
    (fun j => (inB_qa m c t j).trans (Cert.ProjIdeal.Value.attB_qa _ j)) r j

theorem final3 (c : Dev nD) : (dats m 0 c).arrAt 3 (cfgs 0).N = REF3 m c := by
  refine (dats m 0 c).arrAt_eq_of_covers 3 _ (by decide +kernel) fun t _ y => ?_
  blk_simp
  rw [after0_3]
  exact point3 m c t y

/-- The reference's rows for this result. -/
abbrev REF4 (c : Dev nD) : S2048x512.Idx → EReal := val_main_v22 (F := Ideal) (m ((c : Thread nD τ).loc main_arg0)) (m ((c : Thread nD τ).loc main_arg1)) (m ((c : Thread nD τ).loc main_arg2))

theorem emb4 (f : S2048x512.Idx → EReal) (t : Fin cfg0.N) (y : S1024x512.Idx) :
    f (((cfg0.win 4).blk t).view.emb y) = f (ix2 (row t (y 0)) (y 1)) := by
  unfold row
  blk_ext [idx t]

set_option maxHeartbeats 1000000 in
theorem point4 (c : Dev nD) (t : Fin cfg0.N) (y : S1024x512.Idx) :
    out0_4 (iblk m c 0 t) (iblk m c 1 t) (iblk m c 2 t) y = REF4 m c (((cfg0.win 4).blk t).view.emb y) := by
  rw [emb4 (REF4 m c) t y]
  unfold out0_4
  frame_out
  have hy : y = ix2 (y 0) (y 1) := by funext a; fin_cases a <;> rfl
  generalize (y 0 : Fin 1024) = r at hy
  generalize (y 1 : Fin 512) = j at hy
  subst hy
  exact out4_eq (row t) _ _ _ _ _ _ (all0 m c t)
    (fun k j => (inW_qb m c t k j).trans (Cert.ProjIdeal.Value.attW_qb _ k j))
    (fun j => (inB_qb m c t j).trans (Cert.ProjIdeal.Value.attB_qb _ j)) r j

theorem final4 (c : Dev nD) : (dats m 0 c).arrAt 4 (cfgs 0).N = REF4 m c := by
  refine (dats m 0 c).arrAt_eq_of_covers 4 _ (by decide +kernel) fun t _ y => ?_
  blk_simp
  rw [after0_4]
  exact point4 m c t y

/-- The reference's rows for this result. -/
abbrev REF5 (c : Dev nD) : S2048x512.Idx → EReal := val_main_v23 (F := Ideal) (m ((c : Thread nD τ).loc main_arg0)) (m ((c : Thread nD τ).loc main_arg1)) (m ((c : Thread nD τ).loc main_arg2))

theorem emb5 (f : S2048x512.Idx → EReal) (t : Fin cfg0.N) (y : S1024x512.Idx) :
    f (((cfg0.win 5).blk t).view.emb y) = f (ix2 (row t (y 0)) (y 1)) := by
  unfold row
  blk_ext [idx t]

set_option maxHeartbeats 1000000 in
theorem point5 (c : Dev nD) (t : Fin cfg0.N) (y : S1024x512.Idx) :
    out0_5 (iblk m c 0 t) (iblk m c 1 t) (iblk m c 2 t) y = REF5 m c (((cfg0.win 5).blk t).view.emb y) := by
  rw [emb5 (REF5 m c) t y]
  unfold out0_5
  frame_out
  have hy : y = ix2 (y 0) (y 1) := by funext a; fin_cases a <;> rfl
  generalize (y 0 : Fin 1024) = r at hy
  generalize (y 1 : Fin 512) = j at hy
  subst hy
  exact out5_eq (row t) _ _ _ _ _ _ (allH m c t)
    (fun k j => (inW_qi m c t k j).trans (Cert.ProjIdeal.Value.attW_qi _ k j))
    (fun j => (inB_qi m c t j).trans (Cert.ProjIdeal.Value.attB_qi _ j)) r j

theorem final5 (c : Dev nD) : (dats m 0 c).arrAt 5 (cfgs 0).N = REF5 m c := by
  refine (dats m 0 c).arrAt_eq_of_covers 5 _ (by decide +kernel) fun t _ y => ?_
  blk_simp
  rw [after0_5]
  exact point5 m c t y

/-- The reference's rows for this result. -/
abbrev REF6 (c : Dev nD) : S2048x128.Idx → EReal := val_main_v25 (F := Ideal) (m ((c : Thread nD τ).loc main_arg0)) (m ((c : Thread nD τ).loc main_arg1)) (m ((c : Thread nD τ).loc main_arg2))

theorem emb6 (f : S2048x128.Idx → EReal) (t : Fin cfg0.N) (y : S1024x128.Idx) :
    f (((cfg0.win 6).blk t).view.emb y) = f (ix2 (row t (y 0)) (y 1)) := by
  unfold row
  blk_ext [idx t]

set_option maxHeartbeats 1000000 in
theorem point6 (c : Dev nD) (t : Fin cfg0.N) (y : S1024x128.Idx) :
    out0_6 (iblk m c 0 t) (iblk m c 1 t) (iblk m c 2 t) y = REF6 m c (((cfg0.win 6).blk t).view.emb y) := by
  rw [emb6 (REF6 m c) t y]
  unfold out0_6
  frame_out
  have hy : y = ix2 (y 0) (y 1) := by funext a; fin_cases a <;> rfl
  generalize (y 0 : Fin 1024) = r at hy
  generalize (y 1 : Fin 128) = j at hy
  subst hy
  exact out6_eq (row t) _ _ _ _ _ _ (allH m c t)
    (fun k j => (inW_kb m c t k j).trans (Cert.ProjIdeal.Value.attW_kb _ k j))
    (fun j => (inB_kb m c t j).trans (Cert.ProjIdeal.Value.attB_kb _ j)) r j

theorem final6 (c : Dev nD) : (dats m 0 c).arrAt 6 (cfgs 0).N = REF6 m c := by
  refine (dats m 0 c).arrAt_eq_of_covers 6 _ (by decide +kernel) fun t _ y => ?_
  blk_simp
  rw [after0_6]
  exact point6 m c t y

/-- The reference's rows for this result. -/
abbrev REF7 (c : Dev nD) : S2048x128.Idx → EReal := val_main_v27 (F := Ideal) (m ((c : Thread nD τ).loc main_arg0)) (m ((c : Thread nD τ).loc main_arg1)) (m ((c : Thread nD τ).loc main_arg2))

theorem emb7 (f : S2048x128.Idx → EReal) (t : Fin cfg0.N) (y : S1024x128.Idx) :
    f (((cfg0.win 7).blk t).view.emb y) = f (ix2 (row t (y 0)) (y 1)) := by
  unfold row
  blk_ext [idx t]

set_option maxHeartbeats 1000000 in
theorem point7 (c : Dev nD) (t : Fin cfg0.N) (y : S1024x128.Idx) :
    out0_7 (iblk m c 0 t) (iblk m c 1 t) (iblk m c 2 t) y = REF7 m c (((cfg0.win 7).blk t).view.emb y) := by
  rw [emb7 (REF7 m c) t y]
  unfold out0_7
  frame_out
  have hy : y = ix2 (y 0) (y 1) := by funext a; fin_cases a <;> rfl
  generalize (y 0 : Fin 1024) = r at hy
  generalize (y 1 : Fin 128) = j at hy
  subst hy
  exact out7_eq (row t) _ _ _ _ _ _ (allH m c t)
    (fun k j => (inW_vb m c t k j).trans (Cert.ProjIdeal.Value.attW_vb _ k j))
    (fun j => (inB_vb m c t j).trans (Cert.ProjIdeal.Value.attB_vb _ j)) r j

theorem final7 (c : Dev nD) : (dats m 0 c).arrAt 7 (cfgs 0).N = REF7 m c := by
  refine (dats m 0 c).arrAt_eq_of_covers 7 _ (by decide +kernel) fun t _ y => ?_
  blk_simp
  rw [after0_7]
  exact point7 m c t y

/-- The reference's rows for this result. -/
abbrev REF8 (c : Dev nD) : S2048x128.Idx → EReal := val_main_v29 (F := Ideal) (m ((c : Thread nD τ).loc main_arg0)) (m ((c : Thread nD τ).loc main_arg1)) (m ((c : Thread nD τ).loc main_arg2))

theorem emb8 (f : S2048x128.Idx → EReal) (t : Fin cfg0.N) (y : S1024x128.Idx) :
    f (((cfg0.win 8).blk t).view.emb y) = f (ix2 (row t (y 0)) (y 1)) := by
  unfold row
  blk_ext [idx t]

set_option maxHeartbeats 1000000 in
theorem point8 (c : Dev nD) (t : Fin cfg0.N) (y : S1024x128.Idx) :
    out0_8 (iblk m c 0 t) (iblk m c 1 t) (iblk m c 2 t) y = REF8 m c (((cfg0.win 8).blk t).view.emb y) := by
  rw [emb8 (REF8 m c) t y]
  unfold out0_8
  frame_out
  have hy : y = ix2 (y 0) (y 1) := by funext a; fin_cases a <;> rfl
  generalize (y 0 : Fin 1024) = r at hy
  generalize (y 1 : Fin 128) = j at hy
  subst hy
  exact out8_eq (row t) _ _ _ _ _ _ (allH m c t)
    (fun k j => (inW_ki m c t k j).trans (Cert.ProjIdeal.Value.attW_ki _ k j))
    (fun j => (inB_ki m c t j).trans (Cert.ProjIdeal.Value.attB_ki _ j)) r j

theorem final8 (c : Dev nD) : (dats m 0 c).arrAt 8 (cfgs 0).N = REF8 m c := by
  refine (dats m 0 c).arrAt_eq_of_covers 8 _ (by decide +kernel) fun t _ y => ?_
  blk_simp
  rw [after0_8]
  exact point8 m c t y

/-- The reference's rows for this result. -/
abbrev REF9 (c : Dev nD) : S2048x128.Idx → EReal := val_main_v30 (F := Ideal) (m ((c : Thread nD τ).loc main_arg0)) (m ((c : Thread nD τ).loc main_arg1)) (m ((c : Thread nD τ).loc main_arg2))

theorem emb9 (f : S2048x128.Idx → EReal) (t : Fin cfg0.N) (y : S1024x128.Idx) :
    f (((cfg0.win 9).blk t).view.emb y) = f (ix2 (row t (y 0)) (y 1)) := by
  unfold row
  blk_ext [idx t]

set_option maxHeartbeats 1000000 in
theorem point9 (c : Dev nD) (t : Fin cfg0.N) (y : S1024x128.Idx) :
    out0_9 (iblk m c 0 t) (iblk m c 1 t) (iblk m c 2 t) y = REF9 m c (((cfg0.win 9).blk t).view.emb y) := by
  rw [emb9 (REF9 m c) t y]
  unfold out0_9
  frame_out
  have hy : y = ix2 (y 0) (y 1) := by funext a; fin_cases a <;> rfl
  generalize (y 0 : Fin 1024) = r at hy
  generalize (y 1 : Fin 128) = j at hy
  subst hy
  exact out9_eq (row t) _ _ _ _ _ _ (allH m c t)
    (fun k j => (inW_wi m c t k j).trans (Cert.ProjIdeal.Value.attW_wi _ k j))
    (fun j => (inB_wi m c t j).trans (Cert.ProjIdeal.Value.attB_wi _ j)) r j

theorem final9 (c : Dev nD) : (dats m 0 c).arrAt 9 (cfgs 0).N = REF9 m c := by
  refine (dats m 0 c).arrAt_eq_of_covers 9 _ (by decide +kernel) fun t _ y => ?_
  blk_simp
  rw [after0_9]
  exact point9 m c t y

/-- The reference's rows for this result. -/
abbrev REF10 (c : Dev nD) : S2048x512.Idx → EReal := val_main_v5 (F := Ideal) (m ((c : Thread nD τ).loc main_arg0)) (m ((c : Thread nD τ).loc main_arg1)) (m ((c : Thread nD τ).loc main_arg2))

theorem emb10 (f : S2048x512.Idx → EReal) (t : Fin cfg0.N) (y : S1024x512.Idx) :
    f (((cfg0.win 10).blk t).view.emb y) = f (ix2 (row t (y 0)) (y 1)) := by
  unfold row
  blk_ext [idx t]

set_option maxHeartbeats 1000000 in
theorem point10 (c : Dev nD) (t : Fin cfg0.N) (y : S1024x512.Idx) :
    out0_10 (iblk m c 0 t) (iblk m c 1 t) (iblk m c 2 t) y = REF10 m c (((cfg0.win 10).blk t).view.emb y) := by
  rw [emb10 (REF10 m c) t y]
  unfold out0_10
  frame_out
  have hy : y = ix2 (y 0) (y 1) := by funext a; fin_cases a <;> rfl
  generalize (y 0 : Fin 1024) = r at hy
  generalize (y 1 : Fin 512) = j at hy
  subst hy
  exact out10_eq (row t) _ _ _ _ _ _ (all0 m c t)
    (fun k j => (inW_ka m c t k j).trans (Cert.ProjIdeal.Value.attW_ka _ k j))
    (fun j => (inB_ka m c t j).trans (Cert.ProjIdeal.Value.attB_ka _ j)) r j

theorem final10 (c : Dev nD) : (dats m 0 c).arrAt 10 (cfgs 0).N = REF10 m c := by
  refine (dats m 0 c).arrAt_eq_of_covers 10 _ (by decide +kernel) fun t _ y => ?_
  blk_simp
  rw [after0_10]
  exact point10 m c t y

/-- The reference's rows for this result. -/
abbrev REF11 (c : Dev nD) : S2048x512.Idx → EReal := val_main_v6 (F := Ideal) (m ((c : Thread nD τ).loc main_arg0)) (m ((c : Thread nD τ).loc main_arg1)) (m ((c : Thread nD τ).loc main_arg2))

theorem emb11 (f : S2048x512.Idx → EReal) (t : Fin cfg0.N) (y : S1024x512.Idx) :
    f (((cfg0.win 11).blk t).view.emb y) = f (ix2 (row t (y 0)) (y 1)) := by
  unfold row
  blk_ext [idx t]

set_option maxHeartbeats 1000000 in
theorem point11 (c : Dev nD) (t : Fin cfg0.N) (y : S1024x512.Idx) :
    out0_11 (iblk m c 0 t) (iblk m c 1 t) (iblk m c 2 t) y = REF11 m c (((cfg0.win 11).blk t).view.emb y) := by
  rw [emb11 (REF11 m c) t y]
  unfold out0_11
  frame_out
  have hy : y = ix2 (y 0) (y 1) := by funext a; fin_cases a <;> rfl
  generalize (y 0 : Fin 1024) = r at hy
  generalize (y 1 : Fin 512) = j at hy
  subst hy
  exact out11_eq (row t) _ _ _ _ _ _ (all0 m c t)
    (fun k j => (inW_va m c t k j).trans (Cert.ProjIdeal.Value.attW_va _ k j))
    (fun j => (inB_va m c t j).trans (Cert.ProjIdeal.Value.attB_va _ j)) r j

theorem final11 (c : Dev nD) : (dats m 0 c).arrAt 11 (cfgs 0).N = REF11 m c := by
  refine (dats m 0 c).arrAt_eq_of_covers 11 _ (by decide +kernel) fun t _ y => ?_
  blk_simp
  rw [after0_11]
  exact point11 m c t y

/-- The reference's rows for this result. -/
abbrev REF12 (c : Dev nD) : S2048x64.Idx → EReal := val_main_v9 (F := Ideal) (m ((c : Thread nD τ).loc main_arg0)) (m ((c : Thread nD τ).loc main_arg1)) (m ((c : Thread nD τ).loc main_arg2))

theorem emb12 (f : S2048x64.Idx → EReal) (t : Fin cfg0.N) (y : S1024x64.Idx) :
    f (((cfg0.win 12).blk t).view.emb y) = f (ix2 (row t (y 0)) (y 1)) := by
  unfold row
  blk_ext [idx t]

set_option maxHeartbeats 1000000 in
theorem point12 (c : Dev nD) (t : Fin cfg0.N) (y : S1024x64.Idx) :
    out0_12 (iblk m c 0 t) (iblk m c 1 t) (iblk m c 2 t) y = REF12 m c (((cfg0.win 12).blk t).view.emb y) := by
  rw [emb12 (REF12 m c) t y]
  unfold out0_12
  frame_out
  have hy : y = ix2 (y 0) (y 1) := by funext a; fin_cases a <;> rfl
  generalize (y 0 : Fin 1024) = r at hy
  generalize (y 1 : Fin 64) = j at hy
  subst hy
  exact out12_eq (row t) _ _ _ _ _ _ (allH m c t)
    (fun k j => (inW_kb m c t k j).trans (Cert.ProjIdeal.Value.attW_kb _ k j))
    (fun j => (inB_kb m c t j).trans (Cert.ProjIdeal.Value.attB_kb _ j)) r j

theorem final12 (c : Dev nD) : (dats m 0 c).arrAt 12 (cfgs 0).N = REF12 m c := by
  refine (dats m 0 c).arrAt_eq_of_covers 12 _ (by decide +kernel) fun t _ y => ?_
  blk_simp
  rw [after0_12]
  exact point12 m c t y

/-- The reference's rows for this result. -/
abbrev REF13 (c : Dev nD) : S2048x64.Idx → EReal := val_main_v10 (F := Ideal) (m ((c : Thread nD τ).loc main_arg0)) (m ((c : Thread nD τ).loc main_arg1)) (m ((c : Thread nD τ).loc main_arg2))

theorem emb13 (f : S2048x64.Idx → EReal) (t : Fin cfg0.N) (y : S1024x64.Idx) :
    f (((cfg0.win 13).blk t).view.emb y) = f (ix2 (row t (y 0)) (y 1)) := by
  unfold row
  blk_ext [idx t]

set_option maxHeartbeats 1000000 in
theorem point13 (c : Dev nD) (t : Fin cfg0.N) (y : S1024x64.Idx) :
    out0_13 (iblk m c 0 t) (iblk m c 1 t) (iblk m c 2 t) y = REF13 m c (((cfg0.win 13).blk t).view.emb y) := by
  rw [emb13 (REF13 m c) t y]
  unfold out0_13
  frame_out
  have hy : y = ix2 (y 0) (y 1) := by funext a; fin_cases a <;> rfl
  generalize (y 0 : Fin 1024) = r at hy
  generalize (y 1 : Fin 64) = j at hy
  subst hy
  exact out13_eq (row t) _ _ _ _ _ _ (allH m c t)
    (fun k j => (inW_vb m c t k j).trans (Cert.ProjIdeal.Value.attW_vb _ k j))
    (fun j => (inB_vb m c t j).trans (Cert.ProjIdeal.Value.attB_vb _ j)) r j

theorem final13 (c : Dev nD) : (dats m 0 c).arrAt 13 (cfgs 0).N = REF13 m c := by
  refine (dats m 0 c).arrAt_eq_of_covers 13 _ (by decide +kernel) fun t _ y => ?_
  blk_simp
  rw [after0_13]
  exact point13 m c t y

/-- The reference's rows for this result. -/
abbrev REF14 (c : Dev nD) : S2048x64.Idx → EReal := val_main_v13 (F := Ideal) (m ((c : Thread nD τ).loc main_arg0)) (m ((c : Thread nD τ).loc main_arg1)) (m ((c : Thread nD τ).loc main_arg2))

theorem emb14 (f : S2048x64.Idx → EReal) (t : Fin cfg0.N) (y : S1024x64.Idx) :
    f (((cfg0.win 14).blk t).view.emb y) = f (ix2 (row t (y 0)) (y 1)) := by
  unfold row
  blk_ext [idx t]

set_option maxHeartbeats 1000000 in
theorem point14 (c : Dev nD) (t : Fin cfg0.N) (y : S1024x64.Idx) :
    out0_14 (iblk m c 0 t) (iblk m c 1 t) (iblk m c 2 t) y = REF14 m c (((cfg0.win 14).blk t).view.emb y) := by
  rw [emb14 (REF14 m c) t y]
  unfold out0_14
  frame_out
  have hy : y = ix2 (y 0) (y 1) := by funext a; fin_cases a <;> rfl
  generalize (y 0 : Fin 1024) = r at hy
  generalize (y 1 : Fin 64) = j at hy
  subst hy
  exact out14_eq (row t) _ _ _ _ _ _ (allH m c t)
    (fun k j => (inW_ki m c t k j).trans (Cert.ProjIdeal.Value.attW_ki _ k j))
    (fun j => (inB_ki m c t j).trans (Cert.ProjIdeal.Value.attB_ki _ j)) r j

theorem final14 (c : Dev nD) : (dats m 0 c).arrAt 14 (cfgs 0).N = REF14 m c := by
  refine (dats m 0 c).arrAt_eq_of_covers 14 _ (by decide +kernel) fun t _ y => ?_
  blk_simp
  rw [after0_14]
  exact point14 m c t y

end Cert.LaterSampleIdeal.Value

end
-- ==== Proof.LaterSampleClaim.lean ====
module

public import proofs.«01_k».proof.Defs
public import proofs.«01_k».proof.Proof.Gen.LaterSample.Frame
public import proofs.«01_k».proof.Proof.LaterSampleValue
public import Idealize.ShloMosaic.Lib.Quiescent

/-! The programs of a later layer's projection call: each keeps its arguments, and the idealized kernel and the
    idealized reference end with the same twelve arrays. -/

@[expose] public section

noncomputable section

namespace Cert.LaterSampleClaim

open Idealize.ShloMosaic Idealize.SL.Sem

theorem kernel : quiescent_LaterSample (hLaterSample := Cert.LaterSample.Gen.facts) := fun m ρ _ => Cert.LaterSample.Gen.frame m ρ

theorem ideal : quiescent_LaterSampleIdeal (hLaterSampleIdeal := Cert.LaterSampleIdeal.Gen.facts) :=
  fun m ρ _ => Cert.LaterSampleIdeal.Gen.frame m ρ

theorem reference : quiescent_LaterSampleReferenceIdeal (hLaterSampleReferenceIdeal := Cert.LaterSampleReferenceIdeal.Gen.facts) :=
  fun m ρ _ => (θ_run _ _ _).mono (fun r h => ⟨fun c => (h c).2.2.2.2.2.2.2.2.2.2.2.2, sem_eq_zero_of_no_sems rfl r.2⟩)
    (Cert.LaterSampleReferenceIdeal.Value.run m ρ)

set_option maxHeartbeats 4000000 in
theorem same : algebraic_LaterSampleIdeal_LaterSampleReferenceIdeal (hLaterSampleIdeal := Cert.LaterSampleIdeal.Gen.facts)
    (hLaterSampleReferenceIdeal := Cert.LaterSampleReferenceIdeal.Gen.facts) := by
  intro m g m' g' _ hagree
  refine ⟨fun c => Cert.LaterSampleIdeal.Value.REF3 m c, fun c => Cert.LaterSampleIdeal.Value.REF4 m c, fun c => Cert.LaterSampleIdeal.Value.REF5 m c, fun c => Cert.LaterSampleIdeal.Value.REF6 m c, fun c => Cert.LaterSampleIdeal.Value.REF7 m c, fun c => Cert.LaterSampleIdeal.Value.REF8 m c, fun c => Cert.LaterSampleIdeal.Value.REF9 m c, fun c => Cert.LaterSampleIdeal.Value.REF10 m c, fun c => Cert.LaterSampleIdeal.Value.REF11 m c, fun c => Cert.LaterSampleIdeal.Value.REF12 m c, fun c => Cert.LaterSampleIdeal.Value.REF13 m c, fun c => Cert.LaterSampleIdeal.Value.REF14 m c, ?_, ?_⟩
  · refine (θ_run _ _ _).mono (fun r h c => ?_) (Cert.LaterSampleIdeal.Value.run_blocks m g)
    obtain ⟨e3, e4, e5, e6, e7, e8, e9, e10, e11, e12, e13, e14, args⟩ := h c
    exact ⟨e3.trans (Cert.LaterSampleIdeal.Value.final3 m c), e4.trans (Cert.LaterSampleIdeal.Value.final4 m c), e5.trans (Cert.LaterSampleIdeal.Value.final5 m c), e6.trans (Cert.LaterSampleIdeal.Value.final6 m c), e7.trans (Cert.LaterSampleIdeal.Value.final7 m c), e8.trans (Cert.LaterSampleIdeal.Value.final8 m c), e9.trans (Cert.LaterSampleIdeal.Value.final9 m c), e10.trans (Cert.LaterSampleIdeal.Value.final10 m c), e11.trans (Cert.LaterSampleIdeal.Value.final11 m c), e12.trans (Cert.LaterSampleIdeal.Value.final12 m c), e13.trans (Cert.LaterSampleIdeal.Value.final13 m c), e14.trans (Cert.LaterSampleIdeal.Value.final14 m c), args⟩
  · refine (θ_run _ _ _).mono (fun r h c => ?_) (Cert.LaterSampleReferenceIdeal.Value.run m' g')
    obtain ⟨h0, h1, h2⟩ := hagree c
    obtain ⟨e3, e4, e5, e6, e7, e8, e9, e10, e11, e12, e13, e14, args⟩ := h c
    refine ⟨e3.trans ?_, e4.trans ?_, e5.trans ?_, e6.trans ?_, e7.trans ?_, e8.trans ?_, e9.trans ?_, e10.trans ?_, e11.trans ?_, e12.trans ?_, e13.trans ?_, e14.trans ?_, args⟩
    · rw [Cert.LaterSampleReferenceIdeal.Read.val_main_v19_eq, h0, h1, h2]
    · rw [Cert.LaterSampleReferenceIdeal.Read.val_main_v22_eq, h0, h1, h2]
    · rw [Cert.LaterSampleReferenceIdeal.Read.val_main_v23_eq, h0, h1, h2]
    · rw [Cert.LaterSampleReferenceIdeal.Read.val_main_v25_eq, h0, h1, h2]
    · rw [Cert.LaterSampleReferenceIdeal.Read.val_main_v27_eq, h0, h1, h2]
    · rw [Cert.LaterSampleReferenceIdeal.Read.val_main_v29_eq, h0, h1, h2]
    · rw [Cert.LaterSampleReferenceIdeal.Read.val_main_v30_eq, h0, h1, h2]
    · rw [Cert.LaterSampleReferenceIdeal.Read.val_main_v5_eq, h0, h1, h2]
    · rw [Cert.LaterSampleReferenceIdeal.Read.val_main_v6_eq, h0, h1, h2]
    · rw [Cert.LaterSampleReferenceIdeal.Read.val_main_v9_eq, h0, h1, h2]
    · rw [Cert.LaterSampleReferenceIdeal.Read.val_main_v10_eq, h0, h1, h2]
    · rw [Cert.LaterSampleReferenceIdeal.Read.val_main_v13_eq, h0, h1, h2]

end Cert.LaterSampleClaim

end
-- ==== Proof.lean ====
module

public import proofs.«01_k».proof.Defs
public import proofs.«01_k».proof.Proof.Gen.Dsa
public import proofs.«01_k».proof.Proof.DsaFrame
public import proofs.«01_k».proof.Proof.MergeClaim
public import proofs.«01_k».proof.Proof.ProjFrame
public import proofs.«01_k».proof.Proof.ProjClaim
public import proofs.«01_k».proof.Proof.LaterClaim
public import proofs.«01_k».proof.Proof.MergeSampleClaim
public import proofs.«01_k».proof.Proof.ProjSampleFrame
public import proofs.«01_k».proof.Proof.ProjSampleClaim
public import proofs.«01_k».proof.Proof.LaterSampleClaim

@[expose] public section

noncomputable section

namespace Cert.Proof

open Idealize.ShloMosaic Idealize.SL.Sem

theorem claim : Cert.Claim :=
  ⟨Cert.Dsa.Gen.facts, Cert.Merge.Gen.facts, Cert.MergeIdeal.Gen.facts, Cert.MergeReferenceIdeal.Gen.facts,
    Cert.Proj.Gen.facts, Cert.ProjIdeal.Gen.facts, Cert.ProjReferenceIdeal.Gen.facts,
    Cert.Later.Gen.facts, Cert.LaterIdeal.Gen.facts, Cert.LaterReferenceIdeal.Gen.facts,
    Cert.MergeSample.Gen.facts, Cert.MergeSampleIdeal.Gen.facts, Cert.MergeSampleReferenceIdeal.Gen.facts,
    Cert.ProjSample.Gen.facts, Cert.ProjSampleIdeal.Gen.facts, Cert.ProjSampleReferenceIdeal.Gen.facts,
    Cert.LaterSample.Gen.facts, Cert.LaterSampleIdeal.Gen.facts, Cert.LaterSampleReferenceIdeal.Gen.facts,
    fun m ρ _ => Cert.Dsa.Keep.frame m ρ, MergeClaim.kernel, MergeClaim.ideal, MergeClaim.reference,
    ProjFrame.kernel, ProjFrame.ideal, ProjFrame.reference,
    LaterClaim.kernel, LaterClaim.ideal, LaterClaim.reference,
    MergeSampleClaim.kernel, MergeSampleClaim.ideal, MergeSampleClaim.reference,
    ProjSampleFrame.kernel, ProjSampleFrame.ideal, ProjSampleFrame.reference,
    LaterSampleClaim.kernel, LaterSampleClaim.ideal, LaterSampleClaim.reference, trivial, MergeClaim.same, trivial, ProjClaim.same, trivial,
    LaterClaim.same, trivial, MergeSampleClaim.same, trivial, ProjSampleClaim.same, trivial,
    LaterSampleClaim.same⟩

end Cert.Proof

end
